-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Decoder [hPre_tokens_in_vocabulary : Cert.Pre_tokens_in_vocabulary.Facts] (m : (ℓ : Loc Cert.Decoder.nD Cert.Decoder.τ Cert.Decoder.sig) → Buf (Elt Bits) ℓ) : Prop :=
  ∀ c : Dev Cert.Decoder.nD,
    (Cert.Pre_tokens_in_vocabulary.fn (F := Bits) (m ((c.tc : Thread Cert.Decoder.nD Cert.Decoder.τ).loc Cert.Decoder.main_arg0)) (m ((c.tc : Thread Cert.Decoder.nD Cert.Decoder.τ).loc Cert.Decoder.main_arg1)) (m ((c.tc : Thread Cert.Decoder.nD Cert.Decoder.τ).loc Cert.Decoder.main_arg2)) (m ((c.tc : Thread Cert.Decoder.nD Cert.Decoder.τ).loc Cert.Decoder.main_arg3)) (m ((c.tc : Thread Cert.Decoder.nD Cert.Decoder.τ).loc Cert.Decoder.main_arg4)) (m ((c.tc : Thread Cert.Decoder.nD Cert.Decoder.τ).loc Cert.Decoder.main_arg5)) (m ((c.tc : Thread Cert.Decoder.nD Cert.Decoder.τ).loc Cert.Decoder.main_arg6)) (m ((c.tc : Thread Cert.Decoder.nD Cert.Decoder.τ).loc Cert.Decoder.main_arg7)) (m ((c.tc : Thread Cert.Decoder.nD Cert.Decoder.τ).loc Cert.Decoder.main_arg8)) (m ((c.tc : Thread Cert.Decoder.nD Cert.Decoder.τ).loc Cert.Decoder.main_arg9)) (m ((c.tc : Thread Cert.Decoder.nD Cert.Decoder.τ).loc Cert.Decoder.main_arg10)) (m ((c.tc : Thread Cert.Decoder.nD Cert.Decoder.τ).loc Cert.Decoder.main_arg11))) = (fun _ => 1#1)

def Pre_DecoderIdeal [hPre_tokens_in_vocabulary : Cert.Pre_tokens_in_vocabulary.Facts] (m : (ℓ : Loc Cert.DecoderIdeal.nD Cert.DecoderIdeal.τ Cert.DecoderIdeal.sig) → Buf (Elt Ideal) ℓ) : Prop :=
  ∀ c : Dev Cert.DecoderIdeal.nD,
    (Cert.Pre_tokens_in_vocabulary.fn (F := Ideal) (m ((c.tc : Thread Cert.DecoderIdeal.nD Cert.DecoderIdeal.τ).loc Cert.DecoderIdeal.main_arg0)) (m ((c.tc : Thread Cert.DecoderIdeal.nD Cert.DecoderIdeal.τ).loc Cert.DecoderIdeal.main_arg1)) (m ((c.tc : Thread Cert.DecoderIdeal.nD Cert.DecoderIdeal.τ).loc Cert.DecoderIdeal.main_arg2)) (m ((c.tc : Thread Cert.DecoderIdeal.nD Cert.DecoderIdeal.τ).loc Cert.DecoderIdeal.main_arg3)) (m ((c.tc : Thread Cert.DecoderIdeal.nD Cert.DecoderIdeal.τ).loc Cert.DecoderIdeal.main_arg4)) (m ((c.tc : Thread Cert.DecoderIdeal.nD Cert.DecoderIdeal.τ).loc Cert.DecoderIdeal.main_arg5)) (m ((c.tc : Thread Cert.DecoderIdeal.nD Cert.DecoderIdeal.τ).loc Cert.DecoderIdeal.main_arg6)) (m ((c.tc : Thread Cert.DecoderIdeal.nD Cert.DecoderIdeal.τ).loc Cert.DecoderIdeal.main_arg7)) (m ((c.tc : Thread Cert.DecoderIdeal.nD Cert.DecoderIdeal.τ).loc Cert.DecoderIdeal.main_arg8)) (m ((c.tc : Thread Cert.DecoderIdeal.nD Cert.DecoderIdeal.τ).loc Cert.DecoderIdeal.main_arg9)) (m ((c.tc : Thread Cert.DecoderIdeal.nD Cert.DecoderIdeal.τ).loc Cert.DecoderIdeal.main_arg10)) (m ((c.tc : Thread Cert.DecoderIdeal.nD Cert.DecoderIdeal.τ).loc Cert.DecoderIdeal.main_arg11))) = (fun _ => 1#1)

def Pre_DecoderIdeal_decodes [hPre_decodes : Cert.Pre_decodes.Facts] (m : (ℓ : Loc Cert.DecoderIdeal.nD Cert.DecoderIdeal.τ Cert.DecoderIdeal.sig) → Buf (Elt Ideal) ℓ) : Prop :=
  ∀ c : Dev Cert.DecoderIdeal.nD,
    (Cert.Pre_decodes.fn (F := Ideal) (m ((c.tc : Thread Cert.DecoderIdeal.nD Cert.DecoderIdeal.τ).loc Cert.DecoderIdeal.main_arg0)) (m ((c.tc : Thread Cert.DecoderIdeal.nD Cert.DecoderIdeal.τ).loc Cert.DecoderIdeal.main_arg1)) (m ((c.tc : Thread Cert.DecoderIdeal.nD Cert.DecoderIdeal.τ).loc Cert.DecoderIdeal.main_arg2)) (m ((c.tc : Thread Cert.DecoderIdeal.nD Cert.DecoderIdeal.τ).loc Cert.DecoderIdeal.main_arg3)) (m ((c.tc : Thread Cert.DecoderIdeal.nD Cert.DecoderIdeal.τ).loc Cert.DecoderIdeal.main_arg4)) (m ((c.tc : Thread Cert.DecoderIdeal.nD Cert.DecoderIdeal.τ).loc Cert.DecoderIdeal.main_arg5)) (m ((c.tc : Thread Cert.DecoderIdeal.nD Cert.DecoderIdeal.τ).loc Cert.DecoderIdeal.main_arg6)) (m ((c.tc : Thread Cert.DecoderIdeal.nD Cert.DecoderIdeal.τ).loc Cert.DecoderIdeal.main_arg7)) (m ((c.tc : Thread Cert.DecoderIdeal.nD Cert.DecoderIdeal.τ).loc Cert.DecoderIdeal.main_arg8)) (m ((c.tc : Thread Cert.DecoderIdeal.nD Cert.DecoderIdeal.τ).loc Cert.DecoderIdeal.main_arg9)) (m ((c.tc : Thread Cert.DecoderIdeal.nD Cert.DecoderIdeal.τ).loc Cert.DecoderIdeal.main_arg10)) (m ((c.tc : Thread Cert.DecoderIdeal.nD Cert.DecoderIdeal.τ).loc Cert.DecoderIdeal.main_arg11))) = (fun _ => 1#1)

def Pre_DecoderReferenceIdeal (m : (ℓ : Loc Cert.DecoderReferenceIdeal.nD Cert.DecoderReferenceIdeal.τ Cert.DecoderReferenceIdeal.sig) → Buf (Elt Ideal) ℓ) : Prop :=
  True

def Pre_DecoderReferenceIdeal_decodes [hPre_decodes : Cert.Pre_decodes.Facts] (m : (ℓ : Loc Cert.DecoderReferenceIdeal.nD Cert.DecoderReferenceIdeal.τ Cert.DecoderReferenceIdeal.sig) → Buf (Elt Ideal) ℓ) : Prop :=
  ∀ c : Dev Cert.DecoderReferenceIdeal.nD,
    (Cert.Pre_decodes.fn (F := Ideal) (m ((c.tc : Thread Cert.DecoderReferenceIdeal.nD Cert.DecoderReferenceIdeal.τ).loc Cert.DecoderReferenceIdeal.main_arg0)) (m ((c.tc : Thread Cert.DecoderReferenceIdeal.nD Cert.DecoderReferenceIdeal.τ).loc Cert.DecoderReferenceIdeal.main_arg1)) (m ((c.tc : Thread Cert.DecoderReferenceIdeal.nD Cert.DecoderReferenceIdeal.τ).loc Cert.DecoderReferenceIdeal.main_arg2)) (m ((c.tc : Thread Cert.DecoderReferenceIdeal.nD Cert.DecoderReferenceIdeal.τ).loc Cert.DecoderReferenceIdeal.main_arg3)) (m ((c.tc : Thread Cert.DecoderReferenceIdeal.nD Cert.DecoderReferenceIdeal.τ).loc Cert.DecoderReferenceIdeal.main_arg4)) (m ((c.tc : Thread Cert.DecoderReferenceIdeal.nD Cert.DecoderReferenceIdeal.τ).loc Cert.DecoderReferenceIdeal.main_arg5)) (m ((c.tc : Thread Cert.DecoderReferenceIdeal.nD Cert.DecoderReferenceIdeal.τ).loc Cert.DecoderReferenceIdeal.main_arg6)) (m ((c.tc : Thread Cert.DecoderReferenceIdeal.nD Cert.DecoderReferenceIdeal.τ).loc Cert.DecoderReferenceIdeal.main_arg7)) (m ((c.tc : Thread Cert.DecoderReferenceIdeal.nD Cert.DecoderReferenceIdeal.τ).loc Cert.DecoderReferenceIdeal.main_arg8)) (m ((c.tc : Thread Cert.DecoderReferenceIdeal.nD Cert.DecoderReferenceIdeal.τ).loc Cert.DecoderReferenceIdeal.main_arg9)) (m ((c.tc : Thread Cert.DecoderReferenceIdeal.nD Cert.DecoderReferenceIdeal.τ).loc Cert.DecoderReferenceIdeal.main_arg10)) (m ((c.tc : Thread Cert.DecoderReferenceIdeal.nD Cert.DecoderReferenceIdeal.τ).loc Cert.DecoderReferenceIdeal.main_arg11))) = (fun _ => 1#1)

def Pre_Encoder [hPre_source_in_vocabulary : Cert.Pre_source_in_vocabulary.Facts] (m : (ℓ : Loc Cert.Encoder.nD Cert.Encoder.τ Cert.Encoder.sig) → Buf (Elt Bits) ℓ) : Prop :=
  ∀ c : Dev Cert.Encoder.nD,
    (Cert.Pre_source_in_vocabulary.fn (F := Bits) (m ((c.tc : Thread Cert.Encoder.nD Cert.Encoder.τ).loc Cert.Encoder.main_arg0)) (m ((c.tc : Thread Cert.Encoder.nD Cert.Encoder.τ).loc Cert.Encoder.main_arg1)) (m ((c.tc : Thread Cert.Encoder.nD Cert.Encoder.τ).loc Cert.Encoder.main_arg2)) (m ((c.tc : Thread Cert.Encoder.nD Cert.Encoder.τ).loc Cert.Encoder.main_arg3)) (m ((c.tc : Thread Cert.Encoder.nD Cert.Encoder.τ).loc Cert.Encoder.main_arg4)) (m ((c.tc : Thread Cert.Encoder.nD Cert.Encoder.τ).loc Cert.Encoder.main_arg5)) (m ((c.tc : Thread Cert.Encoder.nD Cert.Encoder.τ).loc Cert.Encoder.main_arg6)) (m ((c.tc : Thread Cert.Encoder.nD Cert.Encoder.τ).loc Cert.Encoder.main_arg7))) = (fun _ => 1#1)

def Pre_EncoderIdeal [hPre_source_in_vocabulary : Cert.Pre_source_in_vocabulary.Facts] (m : (ℓ : Loc Cert.EncoderIdeal.nD Cert.EncoderIdeal.τ Cert.EncoderIdeal.sig) → Buf (Elt Ideal) ℓ) : Prop :=
  ∀ c : Dev Cert.EncoderIdeal.nD,
    (Cert.Pre_source_in_vocabulary.fn (F := Ideal) (m ((c.tc : Thread Cert.EncoderIdeal.nD Cert.EncoderIdeal.τ).loc Cert.EncoderIdeal.main_arg0)) (m ((c.tc : Thread Cert.EncoderIdeal.nD Cert.EncoderIdeal.τ).loc Cert.EncoderIdeal.main_arg1)) (m ((c.tc : Thread Cert.EncoderIdeal.nD Cert.EncoderIdeal.τ).loc Cert.EncoderIdeal.main_arg2)) (m ((c.tc : Thread Cert.EncoderIdeal.nD Cert.EncoderIdeal.τ).loc Cert.EncoderIdeal.main_arg3)) (m ((c.tc : Thread Cert.EncoderIdeal.nD Cert.EncoderIdeal.τ).loc Cert.EncoderIdeal.main_arg4)) (m ((c.tc : Thread Cert.EncoderIdeal.nD Cert.EncoderIdeal.τ).loc Cert.EncoderIdeal.main_arg5)) (m ((c.tc : Thread Cert.EncoderIdeal.nD Cert.EncoderIdeal.τ).loc Cert.EncoderIdeal.main_arg6)) (m ((c.tc : Thread Cert.EncoderIdeal.nD Cert.EncoderIdeal.τ).loc Cert.EncoderIdeal.main_arg7))) = (fun _ => 1#1)

def Pre_EncoderReferenceIdeal (m : (ℓ : Loc Cert.EncoderReferenceIdeal.nD Cert.EncoderReferenceIdeal.τ Cert.EncoderReferenceIdeal.sig) → Buf (Elt Ideal) ℓ) : Prop :=
  True

def Pre_EncoderReferenceIdeal_source_in_vocabulary [hPre_source_in_vocabulary : Cert.Pre_source_in_vocabulary.Facts] (m : (ℓ : Loc Cert.EncoderReferenceIdeal.nD Cert.EncoderReferenceIdeal.τ Cert.EncoderReferenceIdeal.sig) → Buf (Elt Ideal) ℓ) : Prop :=
  ∀ c : Dev Cert.EncoderReferenceIdeal.nD,
    (Cert.Pre_source_in_vocabulary.fn (F := Ideal) (m ((c.tc : Thread Cert.EncoderReferenceIdeal.nD Cert.EncoderReferenceIdeal.τ).loc Cert.EncoderReferenceIdeal.main_arg0)) (m ((c.tc : Thread Cert.EncoderReferenceIdeal.nD Cert.EncoderReferenceIdeal.τ).loc Cert.EncoderReferenceIdeal.main_arg1)) (m ((c.tc : Thread Cert.EncoderReferenceIdeal.nD Cert.EncoderReferenceIdeal.τ).loc Cert.EncoderReferenceIdeal.main_arg2)) (m ((c.tc : Thread Cert.EncoderReferenceIdeal.nD Cert.EncoderReferenceIdeal.τ).loc Cert.EncoderReferenceIdeal.main_arg3)) (m ((c.tc : Thread Cert.EncoderReferenceIdeal.nD Cert.EncoderReferenceIdeal.τ).loc Cert.EncoderReferenceIdeal.main_arg4)) (m ((c.tc : Thread Cert.EncoderReferenceIdeal.nD Cert.EncoderReferenceIdeal.τ).loc Cert.EncoderReferenceIdeal.main_arg5)) (m ((c.tc : Thread Cert.EncoderReferenceIdeal.nD Cert.EncoderReferenceIdeal.τ).loc Cert.EncoderReferenceIdeal.main_arg6)) (m ((c.tc : Thread Cert.EncoderReferenceIdeal.nD Cert.EncoderReferenceIdeal.τ).loc Cert.EncoderReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Decoder [hDecoder : Cert.Decoder.Facts] [hPre_tokens_in_vocabulary : Cert.Pre_tokens_in_vocabulary.Facts] : Prop :=
  ∀ (m : (ℓ : Loc Cert.Decoder.nD Cert.Decoder.τ Cert.Decoder.sig) → Buf (Elt Bits) ℓ) (g : Dev Cert.Decoder.nD → PrngReg), Pre_Decoder m →
    θ_run (Cert.Decoder.defs (F := Bits)) (onTc (τ := Cert.Decoder.τ) (Cert.Decoder.main (F := Bits))) ⟨m, fun _ => 0, g⟩ (fun r => (∀ c : Dev Cert.Decoder.nD,
      r.2.mem ((c.tc : Thread Cert.Decoder.nD Cert.Decoder.τ).loc Cert.Decoder.main_arg0) = m ((c.tc : Thread Cert.Decoder.nD Cert.Decoder.τ).loc Cert.Decoder.main_arg0)
      ∧ r.2.mem ((c.tc : Thread Cert.Decoder.nD Cert.Decoder.τ).loc Cert.Decoder.main_arg1) = m ((c.tc : Thread Cert.Decoder.nD Cert.Decoder.τ).loc Cert.Decoder.main_arg1)
      ∧ r.2.mem ((c.tc : Thread Cert.Decoder.nD Cert.Decoder.τ).loc Cert.Decoder.main_arg2) = m ((c.tc : Thread Cert.Decoder.nD Cert.Decoder.τ).loc Cert.Decoder.main_arg2)
      ∧ r.2.mem ((c.tc : Thread Cert.Decoder.nD Cert.Decoder.τ).loc Cert.Decoder.main_arg3) = m ((c.tc : Thread Cert.Decoder.nD Cert.Decoder.τ).loc Cert.Decoder.main_arg3)
      ∧ r.2.mem ((c.tc : Thread Cert.Decoder.nD Cert.Decoder.τ).loc Cert.Decoder.main_arg4) = m ((c.tc : Thread Cert.Decoder.nD Cert.Decoder.τ).loc Cert.Decoder.main_arg4)
      ∧ r.2.mem ((c.tc : Thread Cert.Decoder.nD Cert.Decoder.τ).loc Cert.Decoder.main_arg5) = m ((c.tc : Thread Cert.Decoder.nD Cert.Decoder.τ).loc Cert.Decoder.main_arg5)
      ∧ r.2.mem ((c.tc : Thread Cert.Decoder.nD Cert.Decoder.τ).loc Cert.Decoder.main_arg6) = m ((c.tc : Thread Cert.Decoder.nD Cert.Decoder.τ).loc Cert.Decoder.main_arg6)
      ∧ r.2.mem ((c.tc : Thread Cert.Decoder.nD Cert.Decoder.τ).loc Cert.Decoder.main_arg7) = m ((c.tc : Thread Cert.Decoder.nD Cert.Decoder.τ).loc Cert.Decoder.main_arg7)
      ∧ r.2.mem ((c.tc : Thread Cert.Decoder.nD Cert.Decoder.τ).loc Cert.Decoder.main_arg8) = m ((c.tc : Thread Cert.Decoder.nD Cert.Decoder.τ).loc Cert.Decoder.main_arg8)
      ∧ r.2.mem ((c.tc : Thread Cert.Decoder.nD Cert.Decoder.τ).loc Cert.Decoder.main_arg9) = m ((c.tc : Thread Cert.Decoder.nD Cert.Decoder.τ).loc Cert.Decoder.main_arg9)
      ∧ r.2.mem ((c.tc : Thread Cert.Decoder.nD Cert.Decoder.τ).loc Cert.Decoder.main_arg10) = m ((c.tc : Thread Cert.Decoder.nD Cert.Decoder.τ).loc Cert.Decoder.main_arg10)
      ∧ r.2.mem ((c.tc : Thread Cert.Decoder.nD Cert.Decoder.τ).loc Cert.Decoder.main_arg11) = m ((c.tc : Thread Cert.Decoder.nD Cert.Decoder.τ).loc Cert.Decoder.main_arg11))
      ∧ r.2.sem = fun _ => 0)

def quiescent_DecoderIdeal [hDecoderIdeal : Cert.DecoderIdeal.Facts] [hPre_tokens_in_vocabulary : Cert.Pre_tokens_in_vocabulary.Facts] : Prop :=
  ∀ (m : (ℓ : Loc Cert.DecoderIdeal.nD Cert.DecoderIdeal.τ Cert.DecoderIdeal.sig) → Buf (Elt Ideal) ℓ) (g : Dev Cert.DecoderIdeal.nD → PrngReg), Pre_DecoderIdeal m →
    θ_run (Cert.DecoderIdeal.defs (F := Ideal)) (onTc (τ := Cert.DecoderIdeal.τ) (Cert.DecoderIdeal.main (F := Ideal))) ⟨m, fun _ => 0, g⟩ (fun r => (∀ c : Dev Cert.DecoderIdeal.nD,
      r.2.mem ((c.tc : Thread Cert.DecoderIdeal.nD Cert.DecoderIdeal.τ).loc Cert.DecoderIdeal.main_arg0) = m ((c.tc : Thread Cert.DecoderIdeal.nD Cert.DecoderIdeal.τ).loc Cert.DecoderIdeal.main_arg0)
      ∧ r.2.mem ((c.tc : Thread Cert.DecoderIdeal.nD Cert.DecoderIdeal.τ).loc Cert.DecoderIdeal.main_arg1) = m ((c.tc : Thread Cert.DecoderIdeal.nD Cert.DecoderIdeal.τ).loc Cert.DecoderIdeal.main_arg1)
      ∧ r.2.mem ((c.tc : Thread Cert.DecoderIdeal.nD Cert.DecoderIdeal.τ).loc Cert.DecoderIdeal.main_arg2) = m ((c.tc : Thread Cert.DecoderIdeal.nD Cert.DecoderIdeal.τ).loc Cert.DecoderIdeal.main_arg2)
      ∧ r.2.mem ((c.tc : Thread Cert.DecoderIdeal.nD Cert.DecoderIdeal.τ).loc Cert.DecoderIdeal.main_arg3) = m ((c.tc : Thread Cert.DecoderIdeal.nD Cert.DecoderIdeal.τ).loc Cert.DecoderIdeal.main_arg3)
      ∧ r.2.mem ((c.tc : Thread Cert.DecoderIdeal.nD Cert.DecoderIdeal.τ).loc Cert.DecoderIdeal.main_arg4) = m ((c.tc : Thread Cert.DecoderIdeal.nD Cert.DecoderIdeal.τ).loc Cert.DecoderIdeal.main_arg4)
      ∧ r.2.mem ((c.tc : Thread Cert.DecoderIdeal.nD Cert.DecoderIdeal.τ).loc Cert.DecoderIdeal.main_arg5) = m ((c.tc : Thread Cert.DecoderIdeal.nD Cert.DecoderIdeal.τ).loc Cert.DecoderIdeal.main_arg5)
      ∧ r.2.mem ((c.tc : Thread Cert.DecoderIdeal.nD Cert.DecoderIdeal.τ).loc Cert.DecoderIdeal.main_arg6) = m ((c.tc : Thread Cert.DecoderIdeal.nD Cert.DecoderIdeal.τ).loc Cert.DecoderIdeal.main_arg6)
      ∧ r.2.mem ((c.tc : Thread Cert.DecoderIdeal.nD Cert.DecoderIdeal.τ).loc Cert.DecoderIdeal.main_arg7) = m ((c.tc : Thread Cert.DecoderIdeal.nD Cert.DecoderIdeal.τ).loc Cert.DecoderIdeal.main_arg7)
      ∧ r.2.mem ((c.tc : Thread Cert.DecoderIdeal.nD Cert.DecoderIdeal.τ).loc Cert.DecoderIdeal.main_arg8) = m ((c.tc : Thread Cert.DecoderIdeal.nD Cert.DecoderIdeal.τ).loc Cert.DecoderIdeal.main_arg8)
      ∧ r.2.mem ((c.tc : Thread Cert.DecoderIdeal.nD Cert.DecoderIdeal.τ).loc Cert.DecoderIdeal.main_arg9) = m ((c.tc : Thread Cert.DecoderIdeal.nD Cert.DecoderIdeal.τ).loc Cert.DecoderIdeal.main_arg9)
      ∧ r.2.mem ((c.tc : Thread Cert.DecoderIdeal.nD Cert.DecoderIdeal.τ).loc Cert.DecoderIdeal.main_arg10) = m ((c.tc : Thread Cert.DecoderIdeal.nD Cert.DecoderIdeal.τ).loc Cert.DecoderIdeal.main_arg10)
      ∧ r.2.mem ((c.tc : Thread Cert.DecoderIdeal.nD Cert.DecoderIdeal.τ).loc Cert.DecoderIdeal.main_arg11) = m ((c.tc : Thread Cert.DecoderIdeal.nD Cert.DecoderIdeal.τ).loc Cert.DecoderIdeal.main_arg11))
      ∧ r.2.sem = fun _ => 0)

def quiescent_DecoderIdeal_pre_decodes [hDecoderIdeal : Cert.DecoderIdeal.Facts] [hPre_decodes : Cert.Pre_decodes.Facts] : Prop :=
  ∀ (m : (ℓ : Loc Cert.DecoderIdeal.nD Cert.DecoderIdeal.τ Cert.DecoderIdeal.sig) → Buf (Elt Ideal) ℓ) (g : Dev Cert.DecoderIdeal.nD → PrngReg), Pre_DecoderIdeal_decodes m →
    θ_run (Cert.DecoderIdeal.defs (F := Ideal)) (onTc (τ := Cert.DecoderIdeal.τ) (Cert.DecoderIdeal.main (F := Ideal))) ⟨m, fun _ => 0, g⟩ (fun r => (∀ c : Dev Cert.DecoderIdeal.nD,
      r.2.mem ((c.tc : Thread Cert.DecoderIdeal.nD Cert.DecoderIdeal.τ).loc Cert.DecoderIdeal.main_arg0) = m ((c.tc : Thread Cert.DecoderIdeal.nD Cert.DecoderIdeal.τ).loc Cert.DecoderIdeal.main_arg0)
      ∧ r.2.mem ((c.tc : Thread Cert.DecoderIdeal.nD Cert.DecoderIdeal.τ).loc Cert.DecoderIdeal.main_arg1) = m ((c.tc : Thread Cert.DecoderIdeal.nD Cert.DecoderIdeal.τ).loc Cert.DecoderIdeal.main_arg1)
      ∧ r.2.mem ((c.tc : Thread Cert.DecoderIdeal.nD Cert.DecoderIdeal.τ).loc Cert.DecoderIdeal.main_arg2) = m ((c.tc : Thread Cert.DecoderIdeal.nD Cert.DecoderIdeal.τ).loc Cert.DecoderIdeal.main_arg2)
      ∧ r.2.mem ((c.tc : Thread Cert.DecoderIdeal.nD Cert.DecoderIdeal.τ).loc Cert.DecoderIdeal.main_arg3) = m ((c.tc : Thread Cert.DecoderIdeal.nD Cert.DecoderIdeal.τ).loc Cert.DecoderIdeal.main_arg3)
      ∧ r.2.mem ((c.tc : Thread Cert.DecoderIdeal.nD Cert.DecoderIdeal.τ).loc Cert.DecoderIdeal.main_arg4) = m ((c.tc : Thread Cert.DecoderIdeal.nD Cert.DecoderIdeal.τ).loc Cert.DecoderIdeal.main_arg4)
      ∧ r.2.mem ((c.tc : Thread Cert.DecoderIdeal.nD Cert.DecoderIdeal.τ).loc Cert.DecoderIdeal.main_arg5) = m ((c.tc : Thread Cert.DecoderIdeal.nD Cert.DecoderIdeal.τ).loc Cert.DecoderIdeal.main_arg5)
      ∧ r.2.mem ((c.tc : Thread Cert.DecoderIdeal.nD Cert.DecoderIdeal.τ).loc Cert.DecoderIdeal.main_arg6) = m ((c.tc : Thread Cert.DecoderIdeal.nD Cert.DecoderIdeal.τ).loc Cert.DecoderIdeal.main_arg6)
      ∧ r.2.mem ((c.tc : Thread Cert.DecoderIdeal.nD Cert.DecoderIdeal.τ).loc Cert.DecoderIdeal.main_arg7) = m ((c.tc : Thread Cert.DecoderIdeal.nD Cert.DecoderIdeal.τ).loc Cert.DecoderIdeal.main_arg7)
      ∧ r.2.mem ((c.tc : Thread Cert.DecoderIdeal.nD Cert.DecoderIdeal.τ).loc Cert.DecoderIdeal.main_arg8) = m ((c.tc : Thread Cert.DecoderIdeal.nD Cert.DecoderIdeal.τ).loc Cert.DecoderIdeal.main_arg8)
      ∧ r.2.mem ((c.tc : Thread Cert.DecoderIdeal.nD Cert.DecoderIdeal.τ).loc Cert.DecoderIdeal.main_arg9) = m ((c.tc : Thread Cert.DecoderIdeal.nD Cert.DecoderIdeal.τ).loc Cert.DecoderIdeal.main_arg9)
      ∧ r.2.mem ((c.tc : Thread Cert.DecoderIdeal.nD Cert.DecoderIdeal.τ).loc Cert.DecoderIdeal.main_arg10) = m ((c.tc : Thread Cert.DecoderIdeal.nD Cert.DecoderIdeal.τ).loc Cert.DecoderIdeal.main_arg10)
      ∧ r.2.mem ((c.tc : Thread Cert.DecoderIdeal.nD Cert.DecoderIdeal.τ).loc Cert.DecoderIdeal.main_arg11) = m ((c.tc : Thread Cert.DecoderIdeal.nD Cert.DecoderIdeal.τ).loc Cert.DecoderIdeal.main_arg11))
      ∧ r.2.sem = fun _ => 0)

def quiescent_DecoderReferenceIdeal [hDecoderReferenceIdeal : Cert.DecoderReferenceIdeal.Facts] : Prop :=
  ∀ (m : (ℓ : Loc Cert.DecoderReferenceIdeal.nD Cert.DecoderReferenceIdeal.τ Cert.DecoderReferenceIdeal.sig) → Buf (Elt Ideal) ℓ) (g : Dev Cert.DecoderReferenceIdeal.nD → PrngReg), Pre_DecoderReferenceIdeal m →
    θ_run (Cert.DecoderReferenceIdeal.defs (F := Ideal)) (onTc (τ := Cert.DecoderReferenceIdeal.τ) (Cert.DecoderReferenceIdeal.main (F := Ideal))) ⟨m, fun _ => 0, g⟩ (fun r => (∀ c : Dev Cert.DecoderReferenceIdeal.nD,
      r.2.mem ((c.tc : Thread Cert.DecoderReferenceIdeal.nD Cert.DecoderReferenceIdeal.τ).loc Cert.DecoderReferenceIdeal.main_arg0) = m ((c.tc : Thread Cert.DecoderReferenceIdeal.nD Cert.DecoderReferenceIdeal.τ).loc Cert.DecoderReferenceIdeal.main_arg0)
      ∧ r.2.mem ((c.tc : Thread Cert.DecoderReferenceIdeal.nD Cert.DecoderReferenceIdeal.τ).loc Cert.DecoderReferenceIdeal.main_arg1) = m ((c.tc : Thread Cert.DecoderReferenceIdeal.nD Cert.DecoderReferenceIdeal.τ).loc Cert.DecoderReferenceIdeal.main_arg1)
      ∧ r.2.mem ((c.tc : Thread Cert.DecoderReferenceIdeal.nD Cert.DecoderReferenceIdeal.τ).loc Cert.DecoderReferenceIdeal.main_arg2) = m ((c.tc : Thread Cert.DecoderReferenceIdeal.nD Cert.DecoderReferenceIdeal.τ).loc Cert.DecoderReferenceIdeal.main_arg2)
      ∧ r.2.mem ((c.tc : Thread Cert.DecoderReferenceIdeal.nD Cert.DecoderReferenceIdeal.τ).loc Cert.DecoderReferenceIdeal.main_arg3) = m ((c.tc : Thread Cert.DecoderReferenceIdeal.nD Cert.DecoderReferenceIdeal.τ).loc Cert.DecoderReferenceIdeal.main_arg3)
      ∧ r.2.mem ((c.tc : Thread Cert.DecoderReferenceIdeal.nD Cert.DecoderReferenceIdeal.τ).loc Cert.DecoderReferenceIdeal.main_arg4) = m ((c.tc : Thread Cert.DecoderReferenceIdeal.nD Cert.DecoderReferenceIdeal.τ).loc Cert.DecoderReferenceIdeal.main_arg4)
      ∧ r.2.mem ((c.tc : Thread Cert.DecoderReferenceIdeal.nD Cert.DecoderReferenceIdeal.τ).loc Cert.DecoderReferenceIdeal.main_arg5) = m ((c.tc : Thread Cert.DecoderReferenceIdeal.nD Cert.DecoderReferenceIdeal.τ).loc Cert.DecoderReferenceIdeal.main_arg5)
      ∧ r.2.mem ((c.tc : Thread Cert.DecoderReferenceIdeal.nD Cert.DecoderReferenceIdeal.τ).loc Cert.DecoderReferenceIdeal.main_arg6) = m ((c.tc : Thread Cert.DecoderReferenceIdeal.nD Cert.DecoderReferenceIdeal.τ).loc Cert.DecoderReferenceIdeal.main_arg6)
      ∧ r.2.mem ((c.tc : Thread Cert.DecoderReferenceIdeal.nD Cert.DecoderReferenceIdeal.τ).loc Cert.DecoderReferenceIdeal.main_arg7) = m ((c.tc : Thread Cert.DecoderReferenceIdeal.nD Cert.DecoderReferenceIdeal.τ).loc Cert.DecoderReferenceIdeal.main_arg7)
      ∧ r.2.mem ((c.tc : Thread Cert.DecoderReferenceIdeal.nD Cert.DecoderReferenceIdeal.τ).loc Cert.DecoderReferenceIdeal.main_arg8) = m ((c.tc : Thread Cert.DecoderReferenceIdeal.nD Cert.DecoderReferenceIdeal.τ).loc Cert.DecoderReferenceIdeal.main_arg8)
      ∧ r.2.mem ((c.tc : Thread Cert.DecoderReferenceIdeal.nD Cert.DecoderReferenceIdeal.τ).loc Cert.DecoderReferenceIdeal.main_arg9) = m ((c.tc : Thread Cert.DecoderReferenceIdeal.nD Cert.DecoderReferenceIdeal.τ).loc Cert.DecoderReferenceIdeal.main_arg9)
      ∧ r.2.mem ((c.tc : Thread Cert.DecoderReferenceIdeal.nD Cert.DecoderReferenceIdeal.τ).loc Cert.DecoderReferenceIdeal.main_arg10) = m ((c.tc : Thread Cert.DecoderReferenceIdeal.nD Cert.DecoderReferenceIdeal.τ).loc Cert.DecoderReferenceIdeal.main_arg10)
      ∧ r.2.mem ((c.tc : Thread Cert.DecoderReferenceIdeal.nD Cert.DecoderReferenceIdeal.τ).loc Cert.DecoderReferenceIdeal.main_arg11) = m ((c.tc : Thread Cert.DecoderReferenceIdeal.nD Cert.DecoderReferenceIdeal.τ).loc Cert.DecoderReferenceIdeal.main_arg11))
      ∧ r.2.sem = fun _ => 0)

def quiescent_DecoderReferenceIdeal_pre_decodes [hDecoderReferenceIdeal : Cert.DecoderReferenceIdeal.Facts] [hPre_decodes : Cert.Pre_decodes.Facts] : Prop :=
  ∀ (m : (ℓ : Loc Cert.DecoderReferenceIdeal.nD Cert.DecoderReferenceIdeal.τ Cert.DecoderReferenceIdeal.sig) → Buf (Elt Ideal) ℓ) (g : Dev Cert.DecoderReferenceIdeal.nD → PrngReg), Pre_DecoderReferenceIdeal_decodes m →
    θ_run (Cert.DecoderReferenceIdeal.defs (F := Ideal)) (onTc (τ := Cert.DecoderReferenceIdeal.τ) (Cert.DecoderReferenceIdeal.main (F := Ideal))) ⟨m, fun _ => 0, g⟩ (fun r => (∀ c : Dev Cert.DecoderReferenceIdeal.nD,
      r.2.mem ((c.tc : Thread Cert.DecoderReferenceIdeal.nD Cert.DecoderReferenceIdeal.τ).loc Cert.DecoderReferenceIdeal.main_arg0) = m ((c.tc : Thread Cert.DecoderReferenceIdeal.nD Cert.DecoderReferenceIdeal.τ).loc Cert.DecoderReferenceIdeal.main_arg0)
      ∧ r.2.mem ((c.tc : Thread Cert.DecoderReferenceIdeal.nD Cert.DecoderReferenceIdeal.τ).loc Cert.DecoderReferenceIdeal.main_arg1) = m ((c.tc : Thread Cert.DecoderReferenceIdeal.nD Cert.DecoderReferenceIdeal.τ).loc Cert.DecoderReferenceIdeal.main_arg1)
      ∧ r.2.mem ((c.tc : Thread Cert.DecoderReferenceIdeal.nD Cert.DecoderReferenceIdeal.τ).loc Cert.DecoderReferenceIdeal.main_arg2) = m ((c.tc : Thread Cert.DecoderReferenceIdeal.nD Cert.DecoderReferenceIdeal.τ).loc Cert.DecoderReferenceIdeal.main_arg2)
      ∧ r.2.mem ((c.tc : Thread Cert.DecoderReferenceIdeal.nD Cert.DecoderReferenceIdeal.τ).loc Cert.DecoderReferenceIdeal.main_arg3) = m ((c.tc : Thread Cert.DecoderReferenceIdeal.nD Cert.DecoderReferenceIdeal.τ).loc Cert.DecoderReferenceIdeal.main_arg3)
      ∧ r.2.mem ((c.tc : Thread Cert.DecoderReferenceIdeal.nD Cert.DecoderReferenceIdeal.τ).loc Cert.DecoderReferenceIdeal.main_arg4) = m ((c.tc : Thread Cert.DecoderReferenceIdeal.nD Cert.DecoderReferenceIdeal.τ).loc Cert.DecoderReferenceIdeal.main_arg4)
      ∧ r.2.mem ((c.tc : Thread Cert.DecoderReferenceIdeal.nD Cert.DecoderReferenceIdeal.τ).loc Cert.DecoderReferenceIdeal.main_arg5) = m ((c.tc : Thread Cert.DecoderReferenceIdeal.nD Cert.DecoderReferenceIdeal.τ).loc Cert.DecoderReferenceIdeal.main_arg5)
      ∧ r.2.mem ((c.tc : Thread Cert.DecoderReferenceIdeal.nD Cert.DecoderReferenceIdeal.τ).loc Cert.DecoderReferenceIdeal.main_arg6) = m ((c.tc : Thread Cert.DecoderReferenceIdeal.nD Cert.DecoderReferenceIdeal.τ).loc Cert.DecoderReferenceIdeal.main_arg6)
      ∧ r.2.mem ((c.tc : Thread Cert.DecoderReferenceIdeal.nD Cert.DecoderReferenceIdeal.τ).loc Cert.DecoderReferenceIdeal.main_arg7) = m ((c.tc : Thread Cert.DecoderReferenceIdeal.nD Cert.DecoderReferenceIdeal.τ).loc Cert.DecoderReferenceIdeal.main_arg7)
      ∧ r.2.mem ((c.tc : Thread Cert.DecoderReferenceIdeal.nD Cert.DecoderReferenceIdeal.τ).loc Cert.DecoderReferenceIdeal.main_arg8) = m ((c.tc : Thread Cert.DecoderReferenceIdeal.nD Cert.DecoderReferenceIdeal.τ).loc Cert.DecoderReferenceIdeal.main_arg8)
      ∧ r.2.mem ((c.tc : Thread Cert.DecoderReferenceIdeal.nD Cert.DecoderReferenceIdeal.τ).loc Cert.DecoderReferenceIdeal.main_arg9) = m ((c.tc : Thread Cert.DecoderReferenceIdeal.nD Cert.DecoderReferenceIdeal.τ).loc Cert.DecoderReferenceIdeal.main_arg9)
      ∧ r.2.mem ((c.tc : Thread Cert.DecoderReferenceIdeal.nD Cert.DecoderReferenceIdeal.τ).loc Cert.DecoderReferenceIdeal.main_arg10) = m ((c.tc : Thread Cert.DecoderReferenceIdeal.nD Cert.DecoderReferenceIdeal.τ).loc Cert.DecoderReferenceIdeal.main_arg10)
      ∧ r.2.mem ((c.tc : Thread Cert.DecoderReferenceIdeal.nD Cert.DecoderReferenceIdeal.τ).loc Cert.DecoderReferenceIdeal.main_arg11) = m ((c.tc : Thread Cert.DecoderReferenceIdeal.nD Cert.DecoderReferenceIdeal.τ).loc Cert.DecoderReferenceIdeal.main_arg11))
      ∧ r.2.sem = fun _ => 0)

def quiescent_Encoder [hEncoder : Cert.Encoder.Facts] [hPre_source_in_vocabulary : Cert.Pre_source_in_vocabulary.Facts] : Prop :=
  ∀ (m : (ℓ : Loc Cert.Encoder.nD Cert.Encoder.τ Cert.Encoder.sig) → Buf (Elt Bits) ℓ) (g : Dev Cert.Encoder.nD → PrngReg), Pre_Encoder m →
    θ_run (Cert.Encoder.defs (F := Bits)) (onTc (τ := Cert.Encoder.τ) (Cert.Encoder.main (F := Bits))) ⟨m, fun _ => 0, g⟩ (fun r => (∀ c : Dev Cert.Encoder.nD,
      r.2.mem ((c.tc : Thread Cert.Encoder.nD Cert.Encoder.τ).loc Cert.Encoder.main_arg0) = m ((c.tc : Thread Cert.Encoder.nD Cert.Encoder.τ).loc Cert.Encoder.main_arg0)
      ∧ r.2.mem ((c.tc : Thread Cert.Encoder.nD Cert.Encoder.τ).loc Cert.Encoder.main_arg1) = m ((c.tc : Thread Cert.Encoder.nD Cert.Encoder.τ).loc Cert.Encoder.main_arg1)
      ∧ r.2.mem ((c.tc : Thread Cert.Encoder.nD Cert.Encoder.τ).loc Cert.Encoder.main_arg2) = m ((c.tc : Thread Cert.Encoder.nD Cert.Encoder.τ).loc Cert.Encoder.main_arg2)
      ∧ r.2.mem ((c.tc : Thread Cert.Encoder.nD Cert.Encoder.τ).loc Cert.Encoder.main_arg3) = m ((c.tc : Thread Cert.Encoder.nD Cert.Encoder.τ).loc Cert.Encoder.main_arg3)
      ∧ r.2.mem ((c.tc : Thread Cert.Encoder.nD Cert.Encoder.τ).loc Cert.Encoder.main_arg4) = m ((c.tc : Thread Cert.Encoder.nD Cert.Encoder.τ).loc Cert.Encoder.main_arg4)
      ∧ r.2.mem ((c.tc : Thread Cert.Encoder.nD Cert.Encoder.τ).loc Cert.Encoder.main_arg5) = m ((c.tc : Thread Cert.Encoder.nD Cert.Encoder.τ).loc Cert.Encoder.main_arg5)
      ∧ r.2.mem ((c.tc : Thread Cert.Encoder.nD Cert.Encoder.τ).loc Cert.Encoder.main_arg6) = m ((c.tc : Thread Cert.Encoder.nD Cert.Encoder.τ).loc Cert.Encoder.main_arg6)
      ∧ r.2.mem ((c.tc : Thread Cert.Encoder.nD Cert.Encoder.τ).loc Cert.Encoder.main_arg7) = m ((c.tc : Thread Cert.Encoder.nD Cert.Encoder.τ).loc Cert.Encoder.main_arg7))
      ∧ r.2.sem = fun _ => 0)

def quiescent_EncoderIdeal [hEncoderIdeal : Cert.EncoderIdeal.Facts] [hPre_source_in_vocabulary : Cert.Pre_source_in_vocabulary.Facts] : Prop :=
  ∀ (m : (ℓ : Loc Cert.EncoderIdeal.nD Cert.EncoderIdeal.τ Cert.EncoderIdeal.sig) → Buf (Elt Ideal) ℓ) (g : Dev Cert.EncoderIdeal.nD → PrngReg), Pre_EncoderIdeal m →
    θ_run (Cert.EncoderIdeal.defs (F := Ideal)) (onTc (τ := Cert.EncoderIdeal.τ) (Cert.EncoderIdeal.main (F := Ideal))) ⟨m, fun _ => 0, g⟩ (fun r => (∀ c : Dev Cert.EncoderIdeal.nD,
      r.2.mem ((c.tc : Thread Cert.EncoderIdeal.nD Cert.EncoderIdeal.τ).loc Cert.EncoderIdeal.main_arg0) = m ((c.tc : Thread Cert.EncoderIdeal.nD Cert.EncoderIdeal.τ).loc Cert.EncoderIdeal.main_arg0)
      ∧ r.2.mem ((c.tc : Thread Cert.EncoderIdeal.nD Cert.EncoderIdeal.τ).loc Cert.EncoderIdeal.main_arg1) = m ((c.tc : Thread Cert.EncoderIdeal.nD Cert.EncoderIdeal.τ).loc Cert.EncoderIdeal.main_arg1)
      ∧ r.2.mem ((c.tc : Thread Cert.EncoderIdeal.nD Cert.EncoderIdeal.τ).loc Cert.EncoderIdeal.main_arg2) = m ((c.tc : Thread Cert.EncoderIdeal.nD Cert.EncoderIdeal.τ).loc Cert.EncoderIdeal.main_arg2)
      ∧ r.2.mem ((c.tc : Thread Cert.EncoderIdeal.nD Cert.EncoderIdeal.τ).loc Cert.EncoderIdeal.main_arg3) = m ((c.tc : Thread Cert.EncoderIdeal.nD Cert.EncoderIdeal.τ).loc Cert.EncoderIdeal.main_arg3)
      ∧ r.2.mem ((c.tc : Thread Cert.EncoderIdeal.nD Cert.EncoderIdeal.τ).loc Cert.EncoderIdeal.main_arg4) = m ((c.tc : Thread Cert.EncoderIdeal.nD Cert.EncoderIdeal.τ).loc Cert.EncoderIdeal.main_arg4)
      ∧ r.2.mem ((c.tc : Thread Cert.EncoderIdeal.nD Cert.EncoderIdeal.τ).loc Cert.EncoderIdeal.main_arg5) = m ((c.tc : Thread Cert.EncoderIdeal.nD Cert.EncoderIdeal.τ).loc Cert.EncoderIdeal.main_arg5)
      ∧ r.2.mem ((c.tc : Thread Cert.EncoderIdeal.nD Cert.EncoderIdeal.τ).loc Cert.EncoderIdeal.main_arg6) = m ((c.tc : Thread Cert.EncoderIdeal.nD Cert.EncoderIdeal.τ).loc Cert.EncoderIdeal.main_arg6)
      ∧ r.2.mem ((c.tc : Thread Cert.EncoderIdeal.nD Cert.EncoderIdeal.τ).loc Cert.EncoderIdeal.main_arg7) = m ((c.tc : Thread Cert.EncoderIdeal.nD Cert.EncoderIdeal.τ).loc Cert.EncoderIdeal.main_arg7))
      ∧ r.2.sem = fun _ => 0)

def quiescent_EncoderReferenceIdeal [hEncoderReferenceIdeal : Cert.EncoderReferenceIdeal.Facts] : Prop :=
  ∀ (m : (ℓ : Loc Cert.EncoderReferenceIdeal.nD Cert.EncoderReferenceIdeal.τ Cert.EncoderReferenceIdeal.sig) → Buf (Elt Ideal) ℓ) (g : Dev Cert.EncoderReferenceIdeal.nD → PrngReg), Pre_EncoderReferenceIdeal m →
    θ_run (Cert.EncoderReferenceIdeal.defs (F := Ideal)) (onTc (τ := Cert.EncoderReferenceIdeal.τ) (Cert.EncoderReferenceIdeal.main (F := Ideal))) ⟨m, fun _ => 0, g⟩ (fun r => (∀ c : Dev Cert.EncoderReferenceIdeal.nD,
      r.2.mem ((c.tc : Thread Cert.EncoderReferenceIdeal.nD Cert.EncoderReferenceIdeal.τ).loc Cert.EncoderReferenceIdeal.main_arg0) = m ((c.tc : Thread Cert.EncoderReferenceIdeal.nD Cert.EncoderReferenceIdeal.τ).loc Cert.EncoderReferenceIdeal.main_arg0)
      ∧ r.2.mem ((c.tc : Thread Cert.EncoderReferenceIdeal.nD Cert.EncoderReferenceIdeal.τ).loc Cert.EncoderReferenceIdeal.main_arg1) = m ((c.tc : Thread Cert.EncoderReferenceIdeal.nD Cert.EncoderReferenceIdeal.τ).loc Cert.EncoderReferenceIdeal.main_arg1)
      ∧ r.2.mem ((c.tc : Thread Cert.EncoderReferenceIdeal.nD Cert.EncoderReferenceIdeal.τ).loc Cert.EncoderReferenceIdeal.main_arg2) = m ((c.tc : Thread Cert.EncoderReferenceIdeal.nD Cert.EncoderReferenceIdeal.τ).loc Cert.EncoderReferenceIdeal.main_arg2)
      ∧ r.2.mem ((c.tc : Thread Cert.EncoderReferenceIdeal.nD Cert.EncoderReferenceIdeal.τ).loc Cert.EncoderReferenceIdeal.main_arg3) = m ((c.tc : Thread Cert.EncoderReferenceIdeal.nD Cert.EncoderReferenceIdeal.τ).loc Cert.EncoderReferenceIdeal.main_arg3)
      ∧ r.2.mem ((c.tc : Thread Cert.EncoderReferenceIdeal.nD Cert.EncoderReferenceIdeal.τ).loc Cert.EncoderReferenceIdeal.main_arg4) = m ((c.tc : Thread Cert.EncoderReferenceIdeal.nD Cert.EncoderReferenceIdeal.τ).loc Cert.EncoderReferenceIdeal.main_arg4)
      ∧ r.2.mem ((c.tc : Thread Cert.EncoderReferenceIdeal.nD Cert.EncoderReferenceIdeal.τ).loc Cert.EncoderReferenceIdeal.main_arg5) = m ((c.tc : Thread Cert.EncoderReferenceIdeal.nD Cert.EncoderReferenceIdeal.τ).loc Cert.EncoderReferenceIdeal.main_arg5)
      ∧ r.2.mem ((c.tc : Thread Cert.EncoderReferenceIdeal.nD Cert.EncoderReferenceIdeal.τ).loc Cert.EncoderReferenceIdeal.main_arg6) = m ((c.tc : Thread Cert.EncoderReferenceIdeal.nD Cert.EncoderReferenceIdeal.τ).loc Cert.EncoderReferenceIdeal.main_arg6)
      ∧ r.2.mem ((c.tc : Thread Cert.EncoderReferenceIdeal.nD Cert.EncoderReferenceIdeal.τ).loc Cert.EncoderReferenceIdeal.main_arg7) = m ((c.tc : Thread Cert.EncoderReferenceIdeal.nD Cert.EncoderReferenceIdeal.τ).loc Cert.EncoderReferenceIdeal.main_arg7))
      ∧ r.2.sem = fun _ => 0)

def quiescent_EncoderReferenceIdeal_pre_source_in_vocabulary [hEncoderReferenceIdeal : Cert.EncoderReferenceIdeal.Facts] [hPre_source_in_vocabulary : Cert.Pre_source_in_vocabulary.Facts] : Prop :=
  ∀ (m : (ℓ : Loc Cert.EncoderReferenceIdeal.nD Cert.EncoderReferenceIdeal.τ Cert.EncoderReferenceIdeal.sig) → Buf (Elt Ideal) ℓ) (g : Dev Cert.EncoderReferenceIdeal.nD → PrngReg), Pre_EncoderReferenceIdeal_source_in_vocabulary m →
    θ_run (Cert.EncoderReferenceIdeal.defs (F := Ideal)) (onTc (τ := Cert.EncoderReferenceIdeal.τ) (Cert.EncoderReferenceIdeal.main (F := Ideal))) ⟨m, fun _ => 0, g⟩ (fun r => (∀ c : Dev Cert.EncoderReferenceIdeal.nD,
      r.2.mem ((c.tc : Thread Cert.EncoderReferenceIdeal.nD Cert.EncoderReferenceIdeal.τ).loc Cert.EncoderReferenceIdeal.main_arg0) = m ((c.tc : Thread Cert.EncoderReferenceIdeal.nD Cert.EncoderReferenceIdeal.τ).loc Cert.EncoderReferenceIdeal.main_arg0)
      ∧ r.2.mem ((c.tc : Thread Cert.EncoderReferenceIdeal.nD Cert.EncoderReferenceIdeal.τ).loc Cert.EncoderReferenceIdeal.main_arg1) = m ((c.tc : Thread Cert.EncoderReferenceIdeal.nD Cert.EncoderReferenceIdeal.τ).loc Cert.EncoderReferenceIdeal.main_arg1)
      ∧ r.2.mem ((c.tc : Thread Cert.EncoderReferenceIdeal.nD Cert.EncoderReferenceIdeal.τ).loc Cert.EncoderReferenceIdeal.main_arg2) = m ((c.tc : Thread Cert.EncoderReferenceIdeal.nD Cert.EncoderReferenceIdeal.τ).loc Cert.EncoderReferenceIdeal.main_arg2)
      ∧ r.2.mem ((c.tc : Thread Cert.EncoderReferenceIdeal.nD Cert.EncoderReferenceIdeal.τ).loc Cert.EncoderReferenceIdeal.main_arg3) = m ((c.tc : Thread Cert.EncoderReferenceIdeal.nD Cert.EncoderReferenceIdeal.τ).loc Cert.EncoderReferenceIdeal.main_arg3)
      ∧ r.2.mem ((c.tc : Thread Cert.EncoderReferenceIdeal.nD Cert.EncoderReferenceIdeal.τ).loc Cert.EncoderReferenceIdeal.main_arg4) = m ((c.tc : Thread Cert.EncoderReferenceIdeal.nD Cert.EncoderReferenceIdeal.τ).loc Cert.EncoderReferenceIdeal.main_arg4)
      ∧ r.2.mem ((c.tc : Thread Cert.EncoderReferenceIdeal.nD Cert.EncoderReferenceIdeal.τ).loc Cert.EncoderReferenceIdeal.main_arg5) = m ((c.tc : Thread Cert.EncoderReferenceIdeal.nD Cert.EncoderReferenceIdeal.τ).loc Cert.EncoderReferenceIdeal.main_arg5)
      ∧ r.2.mem ((c.tc : Thread Cert.EncoderReferenceIdeal.nD Cert.EncoderReferenceIdeal.τ).loc Cert.EncoderReferenceIdeal.main_arg6) = m ((c.tc : Thread Cert.EncoderReferenceIdeal.nD Cert.EncoderReferenceIdeal.τ).loc Cert.EncoderReferenceIdeal.main_arg6)
      ∧ r.2.mem ((c.tc : Thread Cert.EncoderReferenceIdeal.nD Cert.EncoderReferenceIdeal.τ).loc Cert.EncoderReferenceIdeal.main_arg7) = m ((c.tc : Thread Cert.EncoderReferenceIdeal.nD Cert.EncoderReferenceIdeal.τ).loc Cert.EncoderReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Decoder_DecoderIdeal : Prop :=
  True

def algebraic_DecoderIdeal_DecoderReferenceIdeal_pre_decodes [hDecoderIdeal : Cert.DecoderIdeal.Facts] [hDecoderReferenceIdeal : Cert.DecoderReferenceIdeal.Facts] [hPre_decodes : Cert.Pre_decodes.Facts] : Prop :=
  ∀ (m : (ℓ : Loc Cert.DecoderIdeal.nD Cert.DecoderIdeal.τ Cert.DecoderIdeal.sig) → Buf (Elt Ideal) ℓ) (g : Dev Cert.DecoderIdeal.nD → PrngReg)
    (m' : (ℓ : Loc Cert.DecoderReferenceIdeal.nD Cert.DecoderReferenceIdeal.τ Cert.DecoderReferenceIdeal.sig) → Buf (Elt Ideal) ℓ) (g' : Dev Cert.DecoderReferenceIdeal.nD → PrngReg), Pre_DecoderIdeal_decodes m →
    (∀ c : Dev Cert.DecoderIdeal.nD,
      m' ((c.tc : Thread Cert.DecoderReferenceIdeal.nD Cert.DecoderReferenceIdeal.τ).loc Cert.DecoderReferenceIdeal.main_arg0) = m ((c.tc : Thread Cert.DecoderIdeal.nD Cert.DecoderIdeal.τ).loc Cert.DecoderIdeal.main_arg0)
      ∧ m' ((c.tc : Thread Cert.DecoderReferenceIdeal.nD Cert.DecoderReferenceIdeal.τ).loc Cert.DecoderReferenceIdeal.main_arg1) = m ((c.tc : Thread Cert.DecoderIdeal.nD Cert.DecoderIdeal.τ).loc Cert.DecoderIdeal.main_arg1)
      ∧ m' ((c.tc : Thread Cert.DecoderReferenceIdeal.nD Cert.DecoderReferenceIdeal.τ).loc Cert.DecoderReferenceIdeal.main_arg2) = m ((c.tc : Thread Cert.DecoderIdeal.nD Cert.DecoderIdeal.τ).loc Cert.DecoderIdeal.main_arg2)
      ∧ m' ((c.tc : Thread Cert.DecoderReferenceIdeal.nD Cert.DecoderReferenceIdeal.τ).loc Cert.DecoderReferenceIdeal.main_arg3) = m ((c.tc : Thread Cert.DecoderIdeal.nD Cert.DecoderIdeal.τ).loc Cert.DecoderIdeal.main_arg3)
      ∧ m' ((c.tc : Thread Cert.DecoderReferenceIdeal.nD Cert.DecoderReferenceIdeal.τ).loc Cert.DecoderReferenceIdeal.main_arg4) = m ((c.tc : Thread Cert.DecoderIdeal.nD Cert.DecoderIdeal.τ).loc Cert.DecoderIdeal.main_arg4)
      ∧ m' ((c.tc : Thread Cert.DecoderReferenceIdeal.nD Cert.DecoderReferenceIdeal.τ).loc Cert.DecoderReferenceIdeal.main_arg5) = m ((c.tc : Thread Cert.DecoderIdeal.nD Cert.DecoderIdeal.τ).loc Cert.DecoderIdeal.main_arg5)
      ∧ m' ((c.tc : Thread Cert.DecoderReferenceIdeal.nD Cert.DecoderReferenceIdeal.τ).loc Cert.DecoderReferenceIdeal.main_arg6) = m ((c.tc : Thread Cert.DecoderIdeal.nD Cert.DecoderIdeal.τ).loc Cert.DecoderIdeal.main_arg6)
      ∧ m' ((c.tc : Thread Cert.DecoderReferenceIdeal.nD Cert.DecoderReferenceIdeal.τ).loc Cert.DecoderReferenceIdeal.main_arg7) = m ((c.tc : Thread Cert.DecoderIdeal.nD Cert.DecoderIdeal.τ).loc Cert.DecoderIdeal.main_arg7)
      ∧ m' ((c.tc : Thread Cert.DecoderReferenceIdeal.nD Cert.DecoderReferenceIdeal.τ).loc Cert.DecoderReferenceIdeal.main_arg8) = m ((c.tc : Thread Cert.DecoderIdeal.nD Cert.DecoderIdeal.τ).loc Cert.DecoderIdeal.main_arg8)
      ∧ m' ((c.tc : Thread Cert.DecoderReferenceIdeal.nD Cert.DecoderReferenceIdeal.τ).loc Cert.DecoderReferenceIdeal.main_arg9) = m ((c.tc : Thread Cert.DecoderIdeal.nD Cert.DecoderIdeal.τ).loc Cert.DecoderIdeal.main_arg9)
      ∧ m' ((c.tc : Thread Cert.DecoderReferenceIdeal.nD Cert.DecoderReferenceIdeal.τ).loc Cert.DecoderReferenceIdeal.main_arg10) = m ((c.tc : Thread Cert.DecoderIdeal.nD Cert.DecoderIdeal.τ).loc Cert.DecoderIdeal.main_arg10)
      ∧ m' ((c.tc : Thread Cert.DecoderReferenceIdeal.nD Cert.DecoderReferenceIdeal.τ).loc Cert.DecoderReferenceIdeal.main_arg11) = m ((c.tc : Thread Cert.DecoderIdeal.nD Cert.DecoderIdeal.τ).loc Cert.DecoderIdeal.main_arg11)) →
    ∃ (v0 : (c : Dev Cert.DecoderIdeal.nD) → Buf (Elt Ideal) ((c.tc : Thread Cert.DecoderIdeal.nD Cert.DecoderIdeal.τ).loc Cert.DecoderIdeal.main_v36)),
      θ_run (Cert.DecoderIdeal.defs (F := Ideal)) (onTc (τ := Cert.DecoderIdeal.τ) (Cert.DecoderIdeal.main (F := Ideal))) ⟨m, fun _ => 0, g⟩ (fun r => ∀ c : Dev Cert.DecoderIdeal.nD,
          r.2.mem ((c.tc : Thread Cert.DecoderIdeal.nD Cert.DecoderIdeal.τ).loc Cert.DecoderIdeal.main_v36) = v0 c
          ∧ r.2.mem ((c.tc : Thread Cert.DecoderIdeal.nD Cert.DecoderIdeal.τ).loc Cert.DecoderIdeal.main_arg0) = m ((c.tc : Thread Cert.DecoderIdeal.nD Cert.DecoderIdeal.τ).loc Cert.DecoderIdeal.main_arg0)
          ∧ r.2.mem ((c.tc : Thread Cert.DecoderIdeal.nD Cert.DecoderIdeal.τ).loc Cert.DecoderIdeal.main_arg1) = m ((c.tc : Thread Cert.DecoderIdeal.nD Cert.DecoderIdeal.τ).loc Cert.DecoderIdeal.main_arg1)
          ∧ r.2.mem ((c.tc : Thread Cert.DecoderIdeal.nD Cert.DecoderIdeal.τ).loc Cert.DecoderIdeal.main_arg2) = m ((c.tc : Thread Cert.DecoderIdeal.nD Cert.DecoderIdeal.τ).loc Cert.DecoderIdeal.main_arg2)
          ∧ r.2.mem ((c.tc : Thread Cert.DecoderIdeal.nD Cert.DecoderIdeal.τ).loc Cert.DecoderIdeal.main_arg3) = m ((c.tc : Thread Cert.DecoderIdeal.nD Cert.DecoderIdeal.τ).loc Cert.DecoderIdeal.main_arg3)
          ∧ r.2.mem ((c.tc : Thread Cert.DecoderIdeal.nD Cert.DecoderIdeal.τ).loc Cert.DecoderIdeal.main_arg4) = m ((c.tc : Thread Cert.DecoderIdeal.nD Cert.DecoderIdeal.τ).loc Cert.DecoderIdeal.main_arg4)
          ∧ r.2.mem ((c.tc : Thread Cert.DecoderIdeal.nD Cert.DecoderIdeal.τ).loc Cert.DecoderIdeal.main_arg5) = m ((c.tc : Thread Cert.DecoderIdeal.nD Cert.DecoderIdeal.τ).loc Cert.DecoderIdeal.main_arg5)
          ∧ r.2.mem ((c.tc : Thread Cert.DecoderIdeal.nD Cert.DecoderIdeal.τ).loc Cert.DecoderIdeal.main_arg6) = m ((c.tc : Thread Cert.DecoderIdeal.nD Cert.DecoderIdeal.τ).loc Cert.DecoderIdeal.main_arg6)
          ∧ r.2.mem ((c.tc : Thread Cert.DecoderIdeal.nD Cert.DecoderIdeal.τ).loc Cert.DecoderIdeal.main_arg7) = m ((c.tc : Thread Cert.DecoderIdeal.nD Cert.DecoderIdeal.τ).loc Cert.DecoderIdeal.main_arg7)
          ∧ r.2.mem ((c.tc : Thread Cert.DecoderIdeal.nD Cert.DecoderIdeal.τ).loc Cert.DecoderIdeal.main_arg8) = m ((c.tc : Thread Cert.DecoderIdeal.nD Cert.DecoderIdeal.τ).loc Cert.DecoderIdeal.main_arg8)
          ∧ r.2.mem ((c.tc : Thread Cert.DecoderIdeal.nD Cert.DecoderIdeal.τ).loc Cert.DecoderIdeal.main_arg9) = m ((c.tc : Thread Cert.DecoderIdeal.nD Cert.DecoderIdeal.τ).loc Cert.DecoderIdeal.main_arg9)
          ∧ r.2.mem ((c.tc : Thread Cert.DecoderIdeal.nD Cert.DecoderIdeal.τ).loc Cert.DecoderIdeal.main_arg10) = m ((c.tc : Thread Cert.DecoderIdeal.nD Cert.DecoderIdeal.τ).loc Cert.DecoderIdeal.main_arg10)
          ∧ r.2.mem ((c.tc : Thread Cert.DecoderIdeal.nD Cert.DecoderIdeal.τ).loc Cert.DecoderIdeal.main_arg11) = m ((c.tc : Thread Cert.DecoderIdeal.nD Cert.DecoderIdeal.τ).loc Cert.DecoderIdeal.main_arg11))
      ∧ θ_run (Cert.DecoderReferenceIdeal.defs (F := Ideal)) (onTc (τ := Cert.DecoderReferenceIdeal.τ) (Cert.DecoderReferenceIdeal.main (F := Ideal))) ⟨m', fun _ => 0, g'⟩ (fun r => ∀ c : Dev Cert.DecoderReferenceIdeal.nD,
          r.2.mem ((c.tc : Thread Cert.DecoderReferenceIdeal.nD Cert.DecoderReferenceIdeal.τ).loc Cert.DecoderReferenceIdeal.main_v3_13) = v0 c
          ∧ r.2.mem ((c.tc : Thread Cert.DecoderReferenceIdeal.nD Cert.DecoderReferenceIdeal.τ).loc Cert.DecoderReferenceIdeal.main_arg0) = m' ((c.tc : Thread Cert.DecoderReferenceIdeal.nD Cert.DecoderReferenceIdeal.τ).loc Cert.DecoderReferenceIdeal.main_arg0)
          ∧ r.2.mem ((c.tc : Thread Cert.DecoderReferenceIdeal.nD Cert.DecoderReferenceIdeal.τ).loc Cert.DecoderReferenceIdeal.main_arg1) = m' ((c.tc : Thread Cert.DecoderReferenceIdeal.nD Cert.DecoderReferenceIdeal.τ).loc Cert.DecoderReferenceIdeal.main_arg1)
          ∧ r.2.mem ((c.tc : Thread Cert.DecoderReferenceIdeal.nD Cert.DecoderReferenceIdeal.τ).loc Cert.DecoderReferenceIdeal.main_arg2) = m' ((c.tc : Thread Cert.DecoderReferenceIdeal.nD Cert.DecoderReferenceIdeal.τ).loc Cert.DecoderReferenceIdeal.main_arg2)
          ∧ r.2.mem ((c.tc : Thread Cert.DecoderReferenceIdeal.nD Cert.DecoderReferenceIdeal.τ).loc Cert.DecoderReferenceIdeal.main_arg3) = m' ((c.tc : Thread Cert.DecoderReferenceIdeal.nD Cert.DecoderReferenceIdeal.τ).loc Cert.DecoderReferenceIdeal.main_arg3)
          ∧ r.2.mem ((c.tc : Thread Cert.DecoderReferenceIdeal.nD Cert.DecoderReferenceIdeal.τ).loc Cert.DecoderReferenceIdeal.main_arg4) = m' ((c.tc : Thread Cert.DecoderReferenceIdeal.nD Cert.DecoderReferenceIdeal.τ).loc Cert.DecoderReferenceIdeal.main_arg4)
          ∧ r.2.mem ((c.tc : Thread Cert.DecoderReferenceIdeal.nD Cert.DecoderReferenceIdeal.τ).loc Cert.DecoderReferenceIdeal.main_arg5) = m' ((c.tc : Thread Cert.DecoderReferenceIdeal.nD Cert.DecoderReferenceIdeal.τ).loc Cert.DecoderReferenceIdeal.main_arg5)
          ∧ r.2.mem ((c.tc : Thread Cert.DecoderReferenceIdeal.nD Cert.DecoderReferenceIdeal.τ).loc Cert.DecoderReferenceIdeal.main_arg6) = m' ((c.tc : Thread Cert.DecoderReferenceIdeal.nD Cert.DecoderReferenceIdeal.τ).loc Cert.DecoderReferenceIdeal.main_arg6)
          ∧ r.2.mem ((c.tc : Thread Cert.DecoderReferenceIdeal.nD Cert.DecoderReferenceIdeal.τ).loc Cert.DecoderReferenceIdeal.main_arg7) = m' ((c.tc : Thread Cert.DecoderReferenceIdeal.nD Cert.DecoderReferenceIdeal.τ).loc Cert.DecoderReferenceIdeal.main_arg7)
          ∧ r.2.mem ((c.tc : Thread Cert.DecoderReferenceIdeal.nD Cert.DecoderReferenceIdeal.τ).loc Cert.DecoderReferenceIdeal.main_arg8) = m' ((c.tc : Thread Cert.DecoderReferenceIdeal.nD Cert.DecoderReferenceIdeal.τ).loc Cert.DecoderReferenceIdeal.main_arg8)
          ∧ r.2.mem ((c.tc : Thread Cert.DecoderReferenceIdeal.nD Cert.DecoderReferenceIdeal.τ).loc Cert.DecoderReferenceIdeal.main_arg9) = m' ((c.tc : Thread Cert.DecoderReferenceIdeal.nD Cert.DecoderReferenceIdeal.τ).loc Cert.DecoderReferenceIdeal.main_arg9)
          ∧ r.2.mem ((c.tc : Thread Cert.DecoderReferenceIdeal.nD Cert.DecoderReferenceIdeal.τ).loc Cert.DecoderReferenceIdeal.main_arg10) = m' ((c.tc : Thread Cert.DecoderReferenceIdeal.nD Cert.DecoderReferenceIdeal.τ).loc Cert.DecoderReferenceIdeal.main_arg10)
          ∧ r.2.mem ((c.tc : Thread Cert.DecoderReferenceIdeal.nD Cert.DecoderReferenceIdeal.τ).loc Cert.DecoderReferenceIdeal.main_arg11) = m' ((c.tc : Thread Cert.DecoderReferenceIdeal.nD Cert.DecoderReferenceIdeal.τ).loc Cert.DecoderReferenceIdeal.main_arg11))

def preserves_Encoder_EncoderIdeal : Prop :=
  True

def algebraic_EncoderIdeal_EncoderReferenceIdeal [hEncoderIdeal : Cert.EncoderIdeal.Facts] [hEncoderReferenceIdeal : Cert.EncoderReferenceIdeal.Facts] [hPre_source_in_vocabulary : Cert.Pre_source_in_vocabulary.Facts] : Prop :=
  ∀ (m : (ℓ : Loc Cert.EncoderIdeal.nD Cert.EncoderIdeal.τ Cert.EncoderIdeal.sig) → Buf (Elt Ideal) ℓ) (g : Dev Cert.EncoderIdeal.nD → PrngReg)
    (m' : (ℓ : Loc Cert.EncoderReferenceIdeal.nD Cert.EncoderReferenceIdeal.τ Cert.EncoderReferenceIdeal.sig) → Buf (Elt Ideal) ℓ) (g' : Dev Cert.EncoderReferenceIdeal.nD → PrngReg), Pre_EncoderIdeal m →
    (∀ c : Dev Cert.EncoderIdeal.nD,
      m' ((c.tc : Thread Cert.EncoderReferenceIdeal.nD Cert.EncoderReferenceIdeal.τ).loc Cert.EncoderReferenceIdeal.main_arg0) = m ((c.tc : Thread Cert.EncoderIdeal.nD Cert.EncoderIdeal.τ).loc Cert.EncoderIdeal.main_arg0)
      ∧ m' ((c.tc : Thread Cert.EncoderReferenceIdeal.nD Cert.EncoderReferenceIdeal.τ).loc Cert.EncoderReferenceIdeal.main_arg1) = m ((c.tc : Thread Cert.EncoderIdeal.nD Cert.EncoderIdeal.τ).loc Cert.EncoderIdeal.main_arg1)
      ∧ m' ((c.tc : Thread Cert.EncoderReferenceIdeal.nD Cert.EncoderReferenceIdeal.τ).loc Cert.EncoderReferenceIdeal.main_arg2) = m ((c.tc : Thread Cert.EncoderIdeal.nD Cert.EncoderIdeal.τ).loc Cert.EncoderIdeal.main_arg2)
      ∧ m' ((c.tc : Thread Cert.EncoderReferenceIdeal.nD Cert.EncoderReferenceIdeal.τ).loc Cert.EncoderReferenceIdeal.main_arg3) = m ((c.tc : Thread Cert.EncoderIdeal.nD Cert.EncoderIdeal.τ).loc Cert.EncoderIdeal.main_arg3)
      ∧ m' ((c.tc : Thread Cert.EncoderReferenceIdeal.nD Cert.EncoderReferenceIdeal.τ).loc Cert.EncoderReferenceIdeal.main_arg4) = m ((c.tc : Thread Cert.EncoderIdeal.nD Cert.EncoderIdeal.τ).loc Cert.EncoderIdeal.main_arg4)
      ∧ m' ((c.tc : Thread Cert.EncoderReferenceIdeal.nD Cert.EncoderReferenceIdeal.τ).loc Cert.EncoderReferenceIdeal.main_arg5) = m ((c.tc : Thread Cert.EncoderIdeal.nD Cert.EncoderIdeal.τ).loc Cert.EncoderIdeal.main_arg5)
      ∧ m' ((c.tc : Thread Cert.EncoderReferenceIdeal.nD Cert.EncoderReferenceIdeal.τ).loc Cert.EncoderReferenceIdeal.main_arg6) = m ((c.tc : Thread Cert.EncoderIdeal.nD Cert.EncoderIdeal.τ).loc Cert.EncoderIdeal.main_arg6)
      ∧ m' ((c.tc : Thread Cert.EncoderReferenceIdeal.nD Cert.EncoderReferenceIdeal.τ).loc Cert.EncoderReferenceIdeal.main_arg7) = m ((c.tc : Thread Cert.EncoderIdeal.nD Cert.EncoderIdeal.τ).loc Cert.EncoderIdeal.main_arg7)) →
    ∃ (v0 : (c : Dev Cert.EncoderIdeal.nD) → Buf (Elt Ideal) ((c.tc : Thread Cert.EncoderIdeal.nD Cert.EncoderIdeal.τ).loc Cert.EncoderIdeal.main_v86_0)) (v1 : (c : Dev Cert.EncoderIdeal.nD) → Buf (Elt Ideal) ((c.tc : Thread Cert.EncoderIdeal.nD Cert.EncoderIdeal.τ).loc Cert.EncoderIdeal.main_v105)) (v2 : (c : Dev Cert.EncoderIdeal.nD) → Buf (Elt Ideal) ((c.tc : Thread Cert.EncoderIdeal.nD Cert.EncoderIdeal.τ).loc Cert.EncoderIdeal.main_v124)),
      θ_run (Cert.EncoderIdeal.defs (F := Ideal)) (onTc (τ := Cert.EncoderIdeal.τ) (Cert.EncoderIdeal.main (F := Ideal))) ⟨m, fun _ => 0, g⟩ (fun r => ∀ c : Dev Cert.EncoderIdeal.nD,
          r.2.mem ((c.tc : Thread Cert.EncoderIdeal.nD Cert.EncoderIdeal.τ).loc Cert.EncoderIdeal.main_v86_0) = v0 c
          ∧ r.2.mem ((c.tc : Thread Cert.EncoderIdeal.nD Cert.EncoderIdeal.τ).loc Cert.EncoderIdeal.main_v105) = v1 c
          ∧ r.2.mem ((c.tc : Thread Cert.EncoderIdeal.nD Cert.EncoderIdeal.τ).loc Cert.EncoderIdeal.main_v124) = v2 c
          ∧ r.2.mem ((c.tc : Thread Cert.EncoderIdeal.nD Cert.EncoderIdeal.τ).loc Cert.EncoderIdeal.main_arg0) = m ((c.tc : Thread Cert.EncoderIdeal.nD Cert.EncoderIdeal.τ).loc Cert.EncoderIdeal.main_arg0)
          ∧ r.2.mem ((c.tc : Thread Cert.EncoderIdeal.nD Cert.EncoderIdeal.τ).loc Cert.EncoderIdeal.main_arg1) = m ((c.tc : Thread Cert.EncoderIdeal.nD Cert.EncoderIdeal.τ).loc Cert.EncoderIdeal.main_arg1)
          ∧ r.2.mem ((c.tc : Thread Cert.EncoderIdeal.nD Cert.EncoderIdeal.τ).loc Cert.EncoderIdeal.main_arg2) = m ((c.tc : Thread Cert.EncoderIdeal.nD Cert.EncoderIdeal.τ).loc Cert.EncoderIdeal.main_arg2)
          ∧ r.2.mem ((c.tc : Thread Cert.EncoderIdeal.nD Cert.EncoderIdeal.τ).loc Cert.EncoderIdeal.main_arg3) = m ((c.tc : Thread Cert.EncoderIdeal.nD Cert.EncoderIdeal.τ).loc Cert.EncoderIdeal.main_arg3)
          ∧ r.2.mem ((c.tc : Thread Cert.EncoderIdeal.nD Cert.EncoderIdeal.τ).loc Cert.EncoderIdeal.main_arg4) = m ((c.tc : Thread Cert.EncoderIdeal.nD Cert.EncoderIdeal.τ).loc Cert.EncoderIdeal.main_arg4)
          ∧ r.2.mem ((c.tc : Thread Cert.EncoderIdeal.nD Cert.EncoderIdeal.τ).loc Cert.EncoderIdeal.main_arg5) = m ((c.tc : Thread Cert.EncoderIdeal.nD Cert.EncoderIdeal.τ).loc Cert.EncoderIdeal.main_arg5)
          ∧ r.2.mem ((c.tc : Thread Cert.EncoderIdeal.nD Cert.EncoderIdeal.τ).loc Cert.EncoderIdeal.main_arg6) = m ((c.tc : Thread Cert.EncoderIdeal.nD Cert.EncoderIdeal.τ).loc Cert.EncoderIdeal.main_arg6)
          ∧ r.2.mem ((c.tc : Thread Cert.EncoderIdeal.nD Cert.EncoderIdeal.τ).loc Cert.EncoderIdeal.main_arg7) = m ((c.tc : Thread Cert.EncoderIdeal.nD Cert.EncoderIdeal.τ).loc Cert.EncoderIdeal.main_arg7))
      ∧ θ_run (Cert.EncoderReferenceIdeal.defs (F := Ideal)) (onTc (τ := Cert.EncoderReferenceIdeal.τ) (Cert.EncoderReferenceIdeal.main (F := Ideal))) ⟨m', fun _ => 0, g'⟩ (fun r => ∀ c : Dev Cert.EncoderReferenceIdeal.nD,
          r.2.mem ((c.tc : Thread Cert.EncoderReferenceIdeal.nD Cert.EncoderReferenceIdeal.τ).loc Cert.EncoderReferenceIdeal.main_v97) = v0 c
          ∧ r.2.mem ((c.tc : Thread Cert.EncoderReferenceIdeal.nD Cert.EncoderReferenceIdeal.τ).loc Cert.EncoderReferenceIdeal.main_v77) = v1 c
          ∧ r.2.mem ((c.tc : Thread Cert.EncoderReferenceIdeal.nD Cert.EncoderReferenceIdeal.τ).loc Cert.EncoderReferenceIdeal.main_v96) = v2 c
          ∧ r.2.mem ((c.tc : Thread Cert.EncoderReferenceIdeal.nD Cert.EncoderReferenceIdeal.τ).loc Cert.EncoderReferenceIdeal.main_arg0) = m' ((c.tc : Thread Cert.EncoderReferenceIdeal.nD Cert.EncoderReferenceIdeal.τ).loc Cert.EncoderReferenceIdeal.main_arg0)
          ∧ r.2.mem ((c.tc : Thread Cert.EncoderReferenceIdeal.nD Cert.EncoderReferenceIdeal.τ).loc Cert.EncoderReferenceIdeal.main_arg1) = m' ((c.tc : Thread Cert.EncoderReferenceIdeal.nD Cert.EncoderReferenceIdeal.τ).loc Cert.EncoderReferenceIdeal.main_arg1)
          ∧ r.2.mem ((c.tc : Thread Cert.EncoderReferenceIdeal.nD Cert.EncoderReferenceIdeal.τ).loc Cert.EncoderReferenceIdeal.main_arg2) = m' ((c.tc : Thread Cert.EncoderReferenceIdeal.nD Cert.EncoderReferenceIdeal.τ).loc Cert.EncoderReferenceIdeal.main_arg2)
          ∧ r.2.mem ((c.tc : Thread Cert.EncoderReferenceIdeal.nD Cert.EncoderReferenceIdeal.τ).loc Cert.EncoderReferenceIdeal.main_arg3) = m' ((c.tc : Thread Cert.EncoderReferenceIdeal.nD Cert.EncoderReferenceIdeal.τ).loc Cert.EncoderReferenceIdeal.main_arg3)
          ∧ r.2.mem ((c.tc : Thread Cert.EncoderReferenceIdeal.nD Cert.EncoderReferenceIdeal.τ).loc Cert.EncoderReferenceIdeal.main_arg4) = m' ((c.tc : Thread Cert.EncoderReferenceIdeal.nD Cert.EncoderReferenceIdeal.τ).loc Cert.EncoderReferenceIdeal.main_arg4)
          ∧ r.2.mem ((c.tc : Thread Cert.EncoderReferenceIdeal.nD Cert.EncoderReferenceIdeal.τ).loc Cert.EncoderReferenceIdeal.main_arg5) = m' ((c.tc : Thread Cert.EncoderReferenceIdeal.nD Cert.EncoderReferenceIdeal.τ).loc Cert.EncoderReferenceIdeal.main_arg5)
          ∧ r.2.mem ((c.tc : Thread Cert.EncoderReferenceIdeal.nD Cert.EncoderReferenceIdeal.τ).loc Cert.EncoderReferenceIdeal.main_arg6) = m' ((c.tc : Thread Cert.EncoderReferenceIdeal.nD Cert.EncoderReferenceIdeal.τ).loc Cert.EncoderReferenceIdeal.main_arg6)
          ∧ r.2.mem ((c.tc : Thread Cert.EncoderReferenceIdeal.nD Cert.EncoderReferenceIdeal.τ).loc Cert.EncoderReferenceIdeal.main_arg7) = m' ((c.tc : Thread Cert.EncoderReferenceIdeal.nD Cert.EncoderReferenceIdeal.τ).loc Cert.EncoderReferenceIdeal.main_arg7))

def Claim : Prop :=
  ∃ (hKernel : Cert.Kernel.Facts) (hKernelIdeal : Cert.KernelIdeal.Facts) (hReferenceIdeal : Cert.ReferenceIdeal.Facts) (hDecoder : Cert.Decoder.Facts) (hDecoderIdeal : Cert.DecoderIdeal.Facts) (hDecoderReferenceIdeal : Cert.DecoderReferenceIdeal.Facts) (hEncoder : Cert.Encoder.Facts) (hEncoderIdeal : Cert.EncoderIdeal.Facts) (hEncoderReferenceIdeal : Cert.EncoderReferenceIdeal.Facts) (hPre_tokens_in_vocabulary : Cert.Pre_tokens_in_vocabulary.Facts) (hPre_decodes : Cert.Pre_decodes.Facts) (hPre_source_in_vocabulary : Cert.Pre_source_in_vocabulary.Facts),
    quiescent_Kernel (hKernel := hKernel)
    ∧ quiescent_KernelIdeal (hKernelIdeal := hKernelIdeal)
    ∧ quiescent_ReferenceIdeal (hReferenceIdeal := hReferenceIdeal)
    ∧ quiescent_Decoder (hDecoder := hDecoder) (hPre_tokens_in_vocabulary := hPre_tokens_in_vocabulary)
    ∧ quiescent_DecoderIdeal (hDecoderIdeal := hDecoderIdeal) (hPre_tokens_in_vocabulary := hPre_tokens_in_vocabulary)
    ∧ quiescent_DecoderIdeal_pre_decodes (hDecoderIdeal := hDecoderIdeal) (hPre_decodes := hPre_decodes)
    ∧ quiescent_DecoderReferenceIdeal (hDecoderReferenceIdeal := hDecoderReferenceIdeal)
    ∧ quiescent_DecoderReferenceIdeal_pre_decodes (hDecoderReferenceIdeal := hDecoderReferenceIdeal) (hPre_decodes := hPre_decodes)
    ∧ quiescent_Encoder (hEncoder := hEncoder) (hPre_source_in_vocabulary := hPre_source_in_vocabulary)
    ∧ quiescent_EncoderIdeal (hEncoderIdeal := hEncoderIdeal) (hPre_source_in_vocabulary := hPre_source_in_vocabulary)
    ∧ quiescent_EncoderReferenceIdeal (hEncoderReferenceIdeal := hEncoderReferenceIdeal)
    ∧ quiescent_EncoderReferenceIdeal_pre_source_in_vocabulary (hEncoderReferenceIdeal := hEncoderReferenceIdeal) (hPre_source_in_vocabulary := hPre_source_in_vocabulary)
    ∧ preserves_Kernel_KernelIdeal
    ∧ algebraic_KernelIdeal_ReferenceIdeal (hKernelIdeal := hKernelIdeal) (hReferenceIdeal := hReferenceIdeal)
    ∧ preserves_Decoder_DecoderIdeal
    ∧ algebraic_DecoderIdeal_DecoderReferenceIdeal_pre_decodes (hDecoderIdeal := hDecoderIdeal) (hDecoderReferenceIdeal := hDecoderReferenceIdeal) (hPre_decodes := hPre_decodes)
    ∧ preserves_Encoder_EncoderIdeal
    ∧ algebraic_EncoderIdeal_EncoderReferenceIdeal (hEncoderIdeal := hEncoderIdeal) (hEncoderReferenceIdeal := hEncoderReferenceIdeal) (hPre_source_in_vocabulary := hPre_source_in_vocabulary)
-- ==== Pre_decodes.lean ====
abbrev S32x64 : Shape := ⟨2, ![32, 64]⟩
abbrev S32000x512 : Shape := ⟨2, ![32000, 512]⟩
abbrev S128x32x512 : Shape := ⟨3, ![128, 32, 512]⟩
abbrev S3x32x512 : Shape := ⟨3, ![3, 32, 512]⟩
abbrev S2048x1024 : Shape := ⟨2, ![2048, 1024]⟩
abbrev S2048x512 : Shape := ⟨2, ![2048, 512]⟩
abbrev S2048 : Shape := ⟨1, ![2048]⟩
abbrev S2x2048x512 : Shape := ⟨3, ![2, 2048, 512]⟩
abbrev S2x2048 : Shape := ⟨2, ![2, 2048]⟩
abbrev S512x512 : Shape := ⟨2, ![512, 512]⟩
abbrev S_ : Shape := ⟨0, ![]⟩

class Facts : Prop where
  bcast_S_S32x64 : S_.BroadcastsInDim S32x64 (![] : Fin 0 → Fin S32x64.rank)
  reducesTo_S32x64_S_d0_1 : S32x64.ReducesTo [0, 1] S_
  h_S_ : 0 < S_.numel
  bcast_S_S128x32x512 : S_.BroadcastsInDim S128x32x512 (![] : Fin 0 → Fin S128x32x512.rank)
  reducesTo_S128x32x512_S_d0_1_2 : S128x32x512.ReducesTo [0, 1, 2] S_
  bcast_S_S3x32x512 : S_.BroadcastsInDim S3x32x512 (![] : Fin 0 → Fin S3x32x512.rank)
  reducesTo_S3x32x512_S_d0_1_2 : S3x32x512.ReducesTo [0, 1, 2] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_v5 : IVec S_ 1) (main_v14 : IVec S_ 1) (main_v15 : FVec F S512x512 .f32) (main_cst_5 : FVec F S_ .f32) : IVec S_ 1 :=
  let main_v16 : FVec F S512x512 .f32 := broadcastInDim S512x512 ![] bcast_S_S512x512 main_cst_5
  let main_v17 : IVec S512x512 1 := cmpf .olt main_v15 main_v16
  let main_c_6 : IVec S_ 1 := constantI S_ 1 1#1
  let main_v18 : IVec S_ 1 := (fun x v => Host.reduce IntOp.andi x v reducesTo_S512x512_S_d0_1 h_S_) main_v17 main_c_6
  let main_v19 : IVec S_ 1 := andi main_v14 main_v18
  let main_v20 : IVec S_ 1 := andi main_v5 main_v19
  main_v20

def fn {F : FTy → Type} [FloatOps F] (main_arg0 : IVec S32x64 32) (main_arg1 : FVec F S32000x512 .f32) (main_arg2 : FVec F S128x32x512 .f32) (main_arg3 : FVec F S3x32x512 .f32) (main_arg4 : FVec F S3x32x512 .f32) (main_arg5 : FVec F S2048x1024 .f32) (main_arg6 : FVec F S2048x512 .f32) (main_arg7 : FVec F S2048 .f32) (main_arg8 : FVec F S2x2048x512 .f32) (main_arg9 : FVec F S2x2048x512 .f32) (main_arg10 : FVec F S2x2048 .f32) (main_arg11 : FVec F S512x512 .f32) : IVec S_ 1 :=
  let main_c : IVec S_ 32 := constantI S_ 32 0#32
  let main_v0 : IVec S32x64 32 := broadcastInDim S32x64 ![] bcast_S_S32x64 main_c
  let main_v1 : IVec S32x64 1 := cmpi .sge main_arg0 main_v0
  let main_c_0 : IVec S_ 32 := constantI S_ 32 32000#32
  let main_v2 : IVec S32x64 32 := broadcastInDim S32x64 ![] bcast_S_S32x64 main_c_0
  let main_v3 : IVec S32x64 1 := cmpi .slt main_arg0 main_v2
  let main_v4 : IVec S32x64 1 := andi main_v1 main_v3
  let main_c_1 : IVec S_ 1 := constantI S_ 1 1#1
  let main_v5 : IVec S_ 1 := (fun x v => Host.reduce IntOp.andi x v reducesTo_S32x64_S_d0_1 h_S_) main_v4 main_c_1
  let main_v6 : FVec F S128x32x512 .f32 := Host.absf main_arg2
  let main_cst : FVec F S_ .f32 := constant S_ .f32 0x7F800000#32
  let main_v7 : FVec F S128x32x512 .f32 := broadcastInDim S128x32x512 ![] bcast_S_S128x32x512 main_cst
  let main_v8 : IVec S128x32x512 1 := cmpf .olt main_v6 main_v7
  let main_c_2 : IVec S_ 1 := constantI S_ 1 1#1
  let main_v9 : IVec S_ 1 := (fun x v => Host.reduce IntOp.andi x v reducesTo_S128x32x512_S_d0_1_2 h_S_) main_v8 main_c_2
  let main_v10 : FVec F S3x32x512 .f32 := Host.absf main_arg3
  let main_cst_3 : FVec F S_ .f32 := constant S_ .f32 0x7F800000#32
  let main_v11 : FVec F S3x32x512 .f32 := broadcastInDim S3x32x512 ![] bcast_S_S3x32x512 main_cst_3
  let main_v12 : IVec S3x32x512 1 := cmpf .olt main_v10 main_v11
  let main_c_4 : IVec S_ 1 := constantI S_ 1 1#1
  let main_v13 : IVec S_ 1 := (fun x v => Host.reduce IntOp.andi x v reducesTo_S3x32x512_S_d0_1_2 h_S_) main_v12 main_c_4
  let main_v14 : IVec S_ 1 := andi main_v9 main_v13
  let main_v15 : FVec F S512x512 .f32 := Host.absf main_arg11
  let main_cst_5 : FVec F S_ .f32 := constant S_ .f32 0x7F800000#32
  fn_part1 (F := F) main_v5 main_v14 main_v15 main_cst_5
-- ==== Pre_source_in_vocabulary.lean ====
abbrev S32x128 : Shape := ⟨2, ![32, 128]⟩
abbrev S32000x256 : Shape := ⟨2, ![32000, 256]⟩
abbrev S2x1024x256 : Shape := ⟨3, ![2, 1024, 256]⟩
abbrev S2x1024 : Shape := ⟨2, ![2, 1024]⟩
abbrev S2x2x1024x512 : Shape := ⟨4, ![2, 2, 1024, 512]⟩
abbrev S2x2x1024x256 : Shape := ⟨4, ![2, 2, 1024, 256]⟩
abbrev S2x2x1024 : Shape := ⟨3, ![2, 2, 1024]⟩
abbrev S_ : Shape := ⟨0, ![]⟩

class Facts : Prop where
  bcast_S_S32x128 : S_.BroadcastsInDim S32x128 (![] : Fin 0 → Fin S32x128.rank)

variable [Facts]

def fn {F : FTy → Type} [FloatOps F] (main_arg0 : IVec S32x128 32) (main_arg1 : FVec F S32000x256 .f32) (main_arg2 : FVec F S2x1024x256 .f32) (main_arg3 : FVec F S2x1024x256 .f32) (main_arg4 : FVec F S2x1024 .f32) (main_arg5 : FVec F S2x2x1024x512 .f32) (main_arg6 : FVec F S2x2x1024x256 .f32) (main_arg7 : FVec F S2x2x1024 .f32) : IVec S32x128 1 :=
  let main_c : IVec S_ 32 := constantI S_ 32 0#32
  let main_v0 : IVec S32x128 32 := broadcastInDim S32x128 ![] bcast_S_S32x128 main_c
  let main_v1 : IVec S32x128 1 := cmpi .sge main_arg0 main_v0
  let main_c_0 : IVec S_ 32 := constantI S_ 32 32000#32
  let main_v2 : IVec S32x128 32 := broadcastInDim S32x128 ![] bcast_S_S32x128 main_c_0
  let main_v3 : IVec S32x128 1 := cmpi .slt main_arg0 main_v2
  let main_v4 : IVec S32x128 1 := andi main_v1 main_v3
  main_v4
-- ==== Pre_tokens_in_vocabulary.lean ====
abbrev S32x64 : Shape := ⟨2, ![32, 64]⟩
abbrev S32000x512 : Shape := ⟨2, ![32000, 512]⟩
abbrev S128x32x512 : Shape := ⟨3, ![128, 32, 512]⟩
abbrev S3x32x512 : Shape := ⟨3, ![3, 32, 512]⟩
abbrev S2048x1024 : Shape := ⟨2, ![2048, 1024]⟩
abbrev S2048x512 : Shape := ⟨2, ![2048, 512]⟩
abbrev S2048 : Shape := ⟨1, ![2048]⟩
abbrev S2x2048x512 : Shape := ⟨3, ![2, 2048, 512]⟩
abbrev S2x2048 : Shape := ⟨2, ![2, 2048]⟩
abbrev S512x512 : Shape := ⟨2, ![512, 512]⟩
abbrev S_ : Shape := ⟨0, ![]⟩

class Facts : Prop where
  bcast_S_S32x64 : S_.BroadcastsInDim S32x64 (![] : Fin 0 → Fin S32x64.rank)

variable [Facts]

def fn {F : FTy → Type} [FloatOps F] (main_arg0 : IVec S32x64 32) (main_arg1 : FVec F S32000x512 .f32) (main_arg2 : FVec F S128x32x512 .f32) (main_arg3 : FVec F S3x32x512 .f32) (main_arg4 : FVec F S3x32x512 .f32) (main_arg5 : FVec F S2048x1024 .f32) (main_arg6 : FVec F S2048x512 .f32) (main_arg7 : FVec F S2048 .f32) (main_arg8 : FVec F S2x2048x512 .f32) (main_arg9 : FVec F S2x2048x512 .f32) (main_arg10 : FVec F S2x2048 .f32) (main_arg11 : FVec F S512x512 .f32) : IVec S32x64 1 :=
  let main_c : IVec S_ 32 := constantI S_ 32 0#32
  let main_v0 : IVec S32x64 32 := broadcastInDim S32x64 ![] bcast_S_S32x64 main_c
  let main_v1 : IVec S32x64 1 := cmpi .sge main_arg0 main_v0
  let main_c_0 : IVec S_ 32 := constantI S_ 32 32000#32
  let main_v2 : IVec S32x64 32 := broadcastInDim S32x64 ![] bcast_S_S32x64 main_c_0
  let main_v3 : IVec S32x64 1 := cmpi .slt main_arg0 main_v2
  let main_v4 : IVec S32x64 1 := andi main_v1 main_v3
  main_v4
-- ==== Kernel.lean ====
abbrev S63x32x512 : Shape := ⟨3, ![63, 32, 512]⟩
abbrev S32000x512 : Shape := ⟨2, ![32000, 512]⟩
abbrev S32000 : Shape := ⟨1, ![32000]⟩
abbrev S32x63x512 : Shape := ⟨3, ![32, 63, 512]⟩
abbrev S2016x512 : Shape := ⟨2, ![2016, 512]⟩
abbrev S1x32000 : Shape := ⟨2, ![1, 32000]⟩
abbrev S2016x32000 : Shape := ⟨2, ![2016, 32000]⟩
abbrev S1280x512 : Shape := ⟨2, ![1280, 512]⟩
abbrev S1x1280 : Shape := ⟨2, ![1, 1280]⟩
abbrev S2016x1280 : Shape := ⟨2, ![2016, 1280]⟩

abbrev nBuf : Space → Nat
  | .hbm => 8
  | .vmem => 7
  | .smem => 0
  | _ => 0

abbrev bufTy : (tb : Table) → Fin (tcTables nBuf tb) → BufTy
  | .hbm, ⟨0, _⟩ => ⟨S63x32x512, .f32⟩
  | .hbm, ⟨1, _⟩ => ⟨S32000x512, .f32⟩
  | .hbm, ⟨2, _⟩ => ⟨S32000, .f32⟩
  | .hbm, ⟨3, _⟩ => ⟨S32x63x512, .f32⟩
  | .hbm, ⟨4, _⟩ => ⟨S2016x512, .f32⟩
  | .hbm, ⟨5, _⟩ => ⟨S32000x512, .bf16⟩
  | .hbm, ⟨6, _⟩ => ⟨S1x32000, .f32⟩
  | .hbm, ⟨7, _⟩ => ⟨S2016x32000, .f32⟩
  | .local _ .vmem, ⟨0, _⟩ => ⟨S2016x512, .f32⟩
  | .local _ .vmem, ⟨1, _⟩ => ⟨S1280x512, .bf16⟩
  | .local _ .vmem, ⟨2, _⟩ => ⟨S1280x512, .bf16⟩
  | .local _ .vmem, ⟨3, _⟩ => ⟨S1x1280, .f32⟩
  | .local _ .vmem, ⟨4, _⟩ => ⟨S1x1280, .f32⟩
  | .local _ .vmem, ⟨5, _⟩ => ⟨S2016x1280, .f32⟩
  | .local _ .vmem, ⟨6, _⟩ => ⟨S2016x1280, .f32⟩
  | _, _ => ⟨S63x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2016x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1280x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2016x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S63x32x512 : Shape := ⟨3, ![63, 32, 512]⟩
abbrev S32000x512 : Shape := ⟨2, ![32000, 512]⟩
abbrev S32000 : Shape := ⟨1, ![32000]⟩
abbrev S512x32000 : Shape := ⟨2, ![512, 32000]⟩
abbrev S63x32x32000 : Shape := ⟨3, ![63, 32, 32000]⟩
abbrev S1x1x32000 : Shape := ⟨3, ![1, 1, 32000]⟩
abbrev S32x63x32000 : Shape := ⟨3, ![32, 63, 32000]⟩
abbrev S2016x32000 : Shape := ⟨2, ![2016, 32000]⟩

abbrev nBuf : Space → Nat
  | .hbm => 10
  | .vmem => 0
  | .smem => 0
  | _ => 0

abbrev bufTy : (tb : Table) → Fin (tcTables nBuf tb) → BufTy
  | .hbm, ⟨0, _⟩ => ⟨S63x32x512, .f32⟩
  | .hbm, ⟨1, _⟩ => ⟨S32000x512, .f32⟩
  | .hbm, ⟨2, _⟩ => ⟨S32000, .f32⟩
  | .hbm, ⟨3, _⟩ => ⟨S512x32000, .f32⟩
  | .hbm, ⟨4, _⟩ => ⟨S63x32x32000, .f32⟩
  | .hbm, ⟨5, _⟩ => ⟨S1x1x32000, .f32⟩
  | .hbm, ⟨6, _⟩ => ⟨S63x32x32000, .f32⟩
  | .hbm, ⟨7, _⟩ => ⟨S63x32x32000, .f32⟩
  | .hbm, ⟨8, _⟩ => ⟨S32x63x32000, .f32⟩
  | .hbm, ⟨9, _⟩ => ⟨S2016x32000, .f32⟩
  | _, _ => ⟨S63x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Decoder.lean ====
abbrev S32x64 : Shape := ⟨2, ![32, 64]⟩
abbrev S32000x512 : Shape := ⟨2, ![32000, 512]⟩
abbrev S128x32x512 : Shape := ⟨3, ![128, 32, 512]⟩
abbrev S3x32x512 : Shape := ⟨3, ![3, 32, 512]⟩
abbrev S2048x1024 : Shape := ⟨2, ![2048, 1024]⟩
abbrev S2048x512 : Shape := ⟨2, ![2048, 512]⟩
abbrev S2048 : Shape := ⟨1, ![2048]⟩
abbrev S2x2048x512 : Shape := ⟨3, ![2, 2048, 512]⟩
abbrev S2x2048 : Shape := ⟨2, ![2, 2048]⟩
abbrev S512x512 : Shape := ⟨2, ![512, 512]⟩
abbrev S32x63 : Shape := ⟨2, ![32, 63]⟩
abbrev S63x32 : Shape := ⟨2, ![63, 32]⟩
abbrev S2016 : Shape := ⟨1, ![2016]⟩
abbrev S4096x512 : Shape := ⟨2, ![4096, 512]⟩
abbrev S512x2048 : Shape := ⟨2, ![512, 2048]⟩
abbrev S1x2048 : Shape := ⟨2, ![1, 2048]⟩
abbrev S1x2048x512 : Shape := ⟨3, ![1, 2048, 512]⟩
abbrev S1x512x2048 : Shape := ⟨3, ![1, 512, 2048]⟩
abbrev S2x512x2048 : Shape := ⟨3, ![2, 512, 2048]⟩
abbrev S63x32x512 : Shape := ⟨3, ![63, 32, 512]⟩
abbrev S2016x512 : Shape := ⟨2, ![2016, 512]⟩
abbrev S2016x2048 : Shape := ⟨2, ![2016, 2048]⟩
abbrev S_ : Shape := ⟨0, ![]⟩
abbrev S1 : Shape := ⟨1, ![1]⟩
abbrev S1x512 : Shape := ⟨2, ![1, 512]⟩
abbrev S512 : Shape := ⟨1, ![512]⟩
abbrev S1x32x512 : Shape := ⟨3, ![1, 32, 512]⟩
abbrev S32x512 : Shape := ⟨2, ![32, 512]⟩
abbrev S1024x512 : Shape := ⟨2, ![1024, 512]⟩
abbrev S32x32x512 : Shape := ⟨3, ![32, 32, 512]⟩
abbrev S32x32 : Shape := ⟨2, ![32, 32]⟩
abbrev S128x32 : Shape := ⟨2, ![128, 32]⟩
abbrev S32 : Shape := ⟨1, ![32]⟩
abbrev S1x32 : Shape := ⟨2, ![1, 32]⟩
abbrev S32x32x1 : Shape := ⟨3, ![32, 32, 1]⟩
abbrev S32x2048 : Shape := ⟨2, ![32, 2048]⟩

abbrev nBuf : Space → Nat
  | .hbm => 49
  | .vmem => 15
  | .smem => 1
  | _ => 0

abbrev bufTy : (tb : Table) → Fin (tcTables nBuf tb) → BufTy
  | .hbm, ⟨0, _⟩ => ⟨S32x64, .i32⟩
  | .hbm, ⟨1, _⟩ => ⟨S32000x512, .f32⟩
  | .hbm, ⟨2, _⟩ => ⟨S128x32x512, .f32⟩
  | .hbm, ⟨3, _⟩ => ⟨S3x32x512, .f32⟩
  | .hbm, ⟨4, _⟩ => ⟨S3x32x512, .f32⟩
  | .hbm, ⟨5, _⟩ => ⟨S2048x1024, .f32⟩
  | .hbm, ⟨6, _⟩ => ⟨S2048x512, .f32⟩
  | .hbm, ⟨7, _⟩ => ⟨S2048, .f32⟩
  | .hbm, ⟨8, _⟩ => ⟨S2x2048x512, .f32⟩
  | .hbm, ⟨9, _⟩ => ⟨S2x2048x512, .f32⟩
  | .hbm, ⟨10, _⟩ => ⟨S2x2048, .f32⟩
  | .hbm, ⟨11, _⟩ => ⟨S512x512, .f32⟩
  | .hbm, ⟨12, _⟩ => ⟨S32x63, .i32⟩
  | .hbm, ⟨13, _⟩ => ⟨S63x32, .i32⟩
  | .hbm, ⟨14, _⟩ => ⟨S2016, .i32⟩
  | .hbm, ⟨15, _⟩ => ⟨S4096x512, .f32⟩
  | .hbm, ⟨16, _⟩ => ⟨S4096x512, .bf16⟩
  | .hbm, ⟨17, _⟩ => ⟨S512x512, .f32⟩
  | .hbm, ⟨18, _⟩ => ⟨S512x512, .bf16⟩
  | .hbm, ⟨19, _⟩ => ⟨S2048x512, .f32⟩
  | .hbm, ⟨20, _⟩ => ⟨S512x2048, .f32⟩
  | .hbm, ⟨21, _⟩ => ⟨S512x2048, .bf16⟩
  | .hbm, ⟨22, _⟩ => ⟨S2048x512, .f32⟩
  | .hbm, ⟨23, _⟩ => ⟨S512x2048, .f32⟩
  | .hbm, ⟨24, _⟩ => ⟨S512x2048, .bf16⟩
  | .hbm, ⟨25, _⟩ => ⟨S512x2048, .f32⟩
  | .hbm, ⟨26, _⟩ => ⟨S512x2048, .bf16⟩
  | .hbm, ⟨27, _⟩ => ⟨S1x2048, .f32⟩
  | .hbm, ⟨28, _⟩ => ⟨S1x2048x512, .f32⟩
  | .hbm, ⟨29, _⟩ => ⟨S2048x512, .f32⟩
  | .hbm, ⟨30, _⟩ => ⟨S512x2048, .f32⟩
  | .hbm, ⟨31, _⟩ => ⟨S1x2048x512, .f32⟩
  | .hbm, ⟨32, _⟩ => ⟨S2048x512, .f32⟩
  | .hbm, ⟨33, _⟩ => ⟨S512x2048, .f32⟩
  | .hbm, ⟨34, _⟩ => ⟨S1x512x2048, .f32⟩
  | .hbm, ⟨35, _⟩ => ⟨S1x512x2048, .f32⟩
  | .hbm, ⟨36, _⟩ => ⟨S2x512x2048, .f32⟩
  | .hbm, ⟨37, _⟩ => ⟨S2x512x2048, .bf16⟩
  | .hbm, ⟨38, _⟩ => ⟨S1x2048x512, .f32⟩
  | .hbm, ⟨39, _⟩ => ⟨S2048x512, .f32⟩
  | .hbm, ⟨40, _⟩ => ⟨S512x2048, .f32⟩
  | .hbm, ⟨41, _⟩ => ⟨S1x2048x512, .f32⟩
  | .hbm, ⟨42, _⟩ => ⟨S2048x512, .f32⟩
  | .hbm, ⟨43, _⟩ => ⟨S512x2048, .f32⟩
  | .hbm, ⟨44, _⟩ => ⟨S1x512x2048, .f32⟩
  | .hbm, ⟨45, _⟩ => ⟨S1x512x2048, .f32⟩
  | .hbm, ⟨46, _⟩ => ⟨S2x512x2048, .f32⟩
  | .hbm, ⟨47, _⟩ => ⟨S2x512x2048, .bf16⟩
  | .hbm, ⟨48, _⟩ => ⟨S63x32x512, .f32⟩
  | .local _ .vmem, ⟨0, _⟩ => ⟨S4096x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S1x2048, .f32⟩
  | .local _ .vmem, ⟨6, _⟩ => ⟨S2x512x2048, .bf16⟩
  | .local _ .vmem, ⟨7, _⟩ => ⟨S2x512x2048, .bf16⟩
  | .local _ .vmem, ⟨8, _⟩ => ⟨S2x2048, .f32⟩
  | .local _ .vmem, ⟨9, _⟩ => ⟨S3x32x512, .f32⟩
  | .local _ .vmem, ⟨10, _⟩ => ⟨S3x32x512, .f32⟩
  | .local _ .vmem, ⟨11, _⟩ => ⟨S63x32x512, .f32⟩
  | .local _ .vmem, ⟨12, _⟩ => ⟨S2016x512, .f32⟩
  | .local _ .vmem, ⟨13, _⟩ => ⟨S2016x2048, .f32⟩
  | .local _ .vmem, ⟨14, _⟩ => ⟨S4096x512, .bf16⟩
  | .local _ .smem, ⟨0, _⟩ => ⟨S2016, .i32⟩
  | _, _ => ⟨S32x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c2016_i32 : BitVec 32 := 2016#32
  let v0 : BitVec 32 := Scalar.addi c0_i32 c2016_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg18 : BitVec 32 := Scf.iv c0_i32 c1_i32 k0_t1
  let v37 : Index := Scalar.indexCast arg18
  ![v37.toNat]
def k0_off2 (k0_t1 : Fin k0_t1_loop.trips) : Fin 2 → Nat :=
  let c0_i32 : BitVec 32 := 0#32
  let c1_i32 : BitVec 32 := 1#32
  let arg18 : BitVec 32 := Scf.iv c0_i32 c1_i32 k0_t1
  let c0_i32_38 : BitVec 32 := 0#32
  ![arg18.toNat, 0]
def k0_off3 (v38 : BitVec 32) : Fin 2 → Nat :=
  let c0_i32_39 : BitVec 32 := 0#32
  ![v38.toNat, 0]

def k0_chk1 (v38 : BitVec 32) : Prop :=
  (∀ a, (k0_off3 v38) a + S1x512.size a ≤ S32000x512.size a)
theorem k0_off3_inb : ∀ (v38 : BitVec 32) (k0_hw1 : k0_chk1 v38), ∀ a, (k0_off3 v38) a + S1x512.size a ≤ S32000x512.size a := fun v38 k0_hw1 => k0_hw1

@[reducible] def k0_t2_loop : Scf.Loop 32 :=
  let c0_i32_1 : BitVec 32 := 0#32
  let c2016_i32_2 : BitVec 32 := 2016#32
  let v1 : BitVec 32 := Scalar.addi c0_i32_1 c2016_i32_2
  let c1_i32_3 : BitVec 32 := 1#32
  ⟨c0_i32_1, v1, c1_i32_3⟩
def k0_off4 (k0_t2 : Fin k0_t2_loop.trips) : Fin 2 → Nat :=
  let c0_i32_1 : BitVec 32 := 0#32
  let c1_i32_3 : BitVec 32 := 1#32
  let arg18 : BitVec 32 := Scf.iv c0_i32_1 c1_i32_3 k0_t2
  let c0_i32_39 : BitVec 32 := 0#32
  ![arg18.toNat, 0]
@[reducible] def k0_t3_loop : Scf.Loop 32 :=
  let c0_i32_35 : BitVec 32 := 0#32
  let c63_i32 : BitVec 32 := 63#32
  let v35 : BitVec 32 := Scalar.addi c0_i32_35 c63_i32
  let c1_i32_36 : BitVec 32 := 1#32
  ⟨c0_i32_35, v35, c1_i32_36⟩
def k0_off5 (k0_t3 : Fin k0_t3_loop.trips) : Fin 2 → Nat :=
  let c0_i32_35 : BitVec 32 := 0#32
  let c1_i32_36 : BitVec 32 := 1#32
  let arg18 : BitVec 32 := Scf.iv c0_i32_35 c1_i32_36 k0_t3
  let c32_i32 : BitVec 32 := 32#32
  let v118 : BitVec 32 := Scalar.muli arg18 c32_i32
  let v119 : Index := Scalar.indexCast v118
  let c0_62 : Index := 0#32
  ![v119.toNat, 0]
def k0_off6 (k0_t3 : Fin k0_t3_loop.trips) : Fin 3 → Nat :=
  let c0_i32_35 : BitVec 32 := 0#32
  let c1_i32_36 : BitVec 32 := 1#32
  let arg18 : BitVec 32 := Scf.iv c0_i32_35 c1_i32_36 k0_t3
  let v198 : Index := Scalar.indexCast arg18
  let c0_89 : Index := 0#32
  let c0_90 : Index := 0#32
  ![v198.toNat, 0, 0]
abbrev stage0_0 : Fin 1 → Memref sig .tc .smem S2016 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S63x32x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== DecoderReferenceIdeal.lean ====
abbrev S32x64 : Shape := ⟨2, ![32, 64]⟩
abbrev S32000x512 : Shape := ⟨2, ![32000, 512]⟩
abbrev S128x32x512 : Shape := ⟨3, ![128, 32, 512]⟩
abbrev S3x32x512 : Shape := ⟨3, ![3, 32, 512]⟩
abbrev S2048x1024 : Shape := ⟨2, ![2048, 1024]⟩
abbrev S2048x512 : Shape := ⟨2, ![2048, 512]⟩
abbrev S2048 : Shape := ⟨1, ![2048]⟩
abbrev S2x2048x512 : Shape := ⟨3, ![2, 2048, 512]⟩
abbrev S2x2048 : Shape := ⟨2, ![2, 2048]⟩
abbrev S512x512 : Shape := ⟨2, ![512, 512]⟩
abbrev S32x63 : Shape := ⟨2, ![32, 63]⟩
abbrev S63x32 : Shape := ⟨2, ![63, 32]⟩
abbrev S_ : Shape := ⟨0, ![]⟩
abbrev S63x32x512 : Shape := ⟨3, ![63, 32, 512]⟩
abbrev S1x32 : Shape := ⟨2, ![1, 32]⟩
abbrev S32 : Shape := ⟨1, ![32]⟩
abbrev S32x1 : Shape := ⟨2, ![32, 1]⟩
abbrev S32x512 : Shape := ⟨2, ![32, 512]⟩
abbrev S1x32x512 : Shape := ⟨3, ![1, 32, 512]⟩
abbrev S512x32 : Shape := ⟨2, ![512, 32]⟩
abbrev S32x128 : Shape := ⟨2, ![32, 128]⟩
abbrev S32x1024 : Shape := ⟨2, ![32, 1024]⟩
abbrev S1024x2048 : Shape := ⟨2, ![1024, 2048]⟩
abbrev S32x2048 : Shape := ⟨2, ![32, 2048]⟩
abbrev S512x2048 : Shape := ⟨2, ![512, 2048]⟩
abbrev S1x2048 : Shape := ⟨2, ![1, 2048]⟩
abbrev S1x2048x512 : Shape := ⟨3, ![1, 2048, 512]⟩

abbrev nBuf : Space → Nat
  | .hbm => 229
  | .vmem => 0
  | .smem => 0
  | _ => 0

abbrev hbmTy0_0 (i : Nat) : BufTy := match i % 128 with
  | 0 => ⟨S32x64, .i32⟩
  | 1 => ⟨S32000x512, .f32⟩
  | 2 => ⟨S128x32x512, .f32⟩
  | 3 => ⟨S3x32x512, .f32⟩
  | 4 => ⟨S3x32x512, .f32⟩
  | 5 => ⟨S2048x1024, .f32⟩
  | 6 => ⟨S2048x512, .f32⟩
  | 7 => ⟨S2048, .f32⟩
  | 8 => ⟨S2x2048x512, .f32⟩
  | 9 => ⟨S2x2048x512, .f32⟩
  | 10 => ⟨S2x2048, .f32⟩
  | 11 => ⟨S512x512, .f32⟩
  | 12 => ⟨S32x63, .i32⟩
  | 13 => ⟨S63x32, .i32⟩
  | 14 => ⟨S_, .f32⟩
  | 15 => ⟨S63x32x512, .f32⟩
  | 16 => ⟨S_, .i32⟩
  | 17 => ⟨S63x32, .i32⟩
  | 18 => ⟨S32000x512, .f32⟩
  | 19 => ⟨S512x512, .f32⟩
  | 20 => ⟨S128x32x512, .f32⟩
  | 21 => ⟨S2048x1024, .f32⟩
  | 22 => ⟨S2048x512, .f32⟩
  | 23 => ⟨S2048, .f32⟩
  | 24 => ⟨S2x2048x512, .f32⟩
  | 25 => ⟨S2x2048x512, .f32⟩
  | 26 => ⟨S2x2048, .f32⟩
  | 27 => ⟨S_, .i32⟩
  | 28 => ⟨S3x32x512, .f32⟩
  | 29 => ⟨S3x32x512, .f32⟩
  | 30 => ⟨S63x32x512, .f32⟩
  | 31 => ⟨S_, .i32⟩
  | 32 => ⟨S_, .i1⟩
  | 33 => ⟨S_, .i32⟩
  | 34 => ⟨S1x32, .i32⟩
  | 35 => ⟨S32, .i32⟩
  | 36 => ⟨S_, .i32⟩
  | 37 => ⟨S32, .i32⟩
  | 38 => ⟨S32, .i1⟩
  | 39 => ⟨S_, .i32⟩
  | 40 => ⟨S32, .i32⟩
  | 41 => ⟨S32, .i32⟩
  | 42 => ⟨S32, .i32⟩
  | 43 => ⟨S32x1, .i32⟩
  | 44 => ⟨S32x512, .f32⟩
  | 45 => ⟨S1x32x512, .f32⟩
  | 46 => ⟨S32x512, .f32⟩
  | 47 => ⟨S512x32, .f32⟩
  | 48 => ⟨S32x128, .f32⟩
  | 49 => ⟨S_, .f32⟩
  | 50 => ⟨S32, .f32⟩
  | 51 => ⟨S_, .f32⟩
  | 52 => ⟨S32, .f32⟩
  | 53 => ⟨S32, .f32⟩
  | 54 => ⟨S32x1, .f32⟩
  | 55 => ⟨S32x128, .f32⟩
  | 56 => ⟨S32x128, .f32⟩
  | 57 => ⟨S32x128, .f32⟩
  | 58 => ⟨S_, .f32⟩
  | 59 => ⟨S32, .f32⟩
  | 60 => ⟨S32x1, .f32⟩
  | 61 => ⟨S32x128, .f32⟩
  | 62 => ⟨S32x128, .f32⟩
  | 63 => ⟨S32x512, .f32⟩
  | 64 => ⟨S32x1024, .f32⟩
  | 65 => ⟨S1x32x512, .f32⟩
  | 66 => ⟨S32x512, .f32⟩
  | 67 => ⟨S1x32x512, .f32⟩
  | 68 => ⟨S32x512, .f32⟩
  | 69 => ⟨S1024x2048, .f32⟩
  | 70 => ⟨S32x2048, .f32⟩
  | 71 => ⟨S512x2048, .f32⟩
  | 72 => ⟨S32x2048, .f32⟩
  | 73 => ⟨S32x2048, .f32⟩
  | 74 => ⟨S1x2048, .f32⟩
  | 75 => ⟨S32x2048, .f32⟩
  | 76 => ⟨S32x2048, .f32⟩
  | 77 => ⟨S32x512, .f32⟩
  | 78 => ⟨S32x512, .f32⟩
  | 79 => ⟨S32x512, .f32⟩
  | 80 => ⟨S32x512, .f32⟩
  | 81 => ⟨S32x512, .f32⟩
  | 82 => ⟨S32x512, .f32⟩
  | 83 => ⟨S_, .f32⟩
  | 84 => ⟨S32x512, .f32⟩
  | 85 => ⟨S32x512, .f32⟩
  | 86 => ⟨S_, .f32⟩
  | 87 => ⟨S32x512, .f32⟩
  | 88 => ⟨S32x512, .f32⟩
  | 89 => ⟨S32x512, .f32⟩
  | 90 => ⟨S32x512, .f32⟩
  | 91 => ⟨S32x512, .f32⟩
  | 92 => ⟨S_, .f32⟩
  | 93 => ⟨S32x512, .f32⟩
  | 94 => ⟨S32x512, .f32⟩
  | 95 => ⟨S_, .f32⟩
  | 96 => ⟨S32x512, .f32⟩
  | 97 => ⟨S32x512, .f32⟩
  | 98 => ⟨S32x512, .f32⟩
  | 99 => ⟨S32x512, .f32⟩
  | 100 => ⟨S32x512, .f32⟩
  | 101 => ⟨S32x512, .f32⟩
  | 102 => ⟨S32x512, .f32⟩
  | 103 => ⟨S_, .f32⟩
  | 104 => ⟨S32x512, .f32⟩
  | 105 => ⟨S32x512, .f32⟩
  | 106 => ⟨S_, .f32⟩
  | 107 => ⟨S32x512, .f32⟩
  | 108 => ⟨S32x512, .f32⟩
  | 109 => ⟨S32x512, .f32⟩
  | 110 => ⟨S32x512, .f32⟩
  | 111 => ⟨S1x32x512, .f32⟩
  | 112 => ⟨S32x512, .f32⟩
  | 113 => ⟨S1x32x512, .f32⟩
  | 114 => ⟨S32x512, .f32⟩
  | 115 => ⟨S1x2048x512, .f32⟩
  | 116 => ⟨S2048x512, .f32⟩
  | 117 => ⟨S1x2048x512, .f32⟩
  | 118 => ⟨S2048x512, .f32⟩
  | 119 => ⟨S1x2048, .f32⟩
  | 120 => ⟨S2048, .f32⟩
  | 121 => ⟨S512x2048, .f32⟩
  | 122 => ⟨S32x2048, .f32⟩
  | 123 => ⟨S512x2048, .f32⟩
  | 124 => ⟨S32x2048, .f32⟩
  | 125 => ⟨S32x2048, .f32⟩
  | 126 => ⟨S1x2048, .f32⟩
  | 127 => ⟨S32x2048, .f32⟩
  | _ => ⟨S32x64, .i32⟩

abbrev hbmTy0_1 (i : Nat) : BufTy := match i % 128 with
  | 0 => ⟨S32x2048, .f32⟩
  | 1 => ⟨S32x512, .f32⟩
  | 2 => ⟨S32x512, .f32⟩
  | 3 => ⟨S32x512, .f32⟩
  | 4 => ⟨S32x512, .f32⟩
  | 5 => ⟨S32x512, .f32⟩
  | 6 => ⟨S32x512, .f32⟩
  | 7 => ⟨S_, .f32⟩
  | 8 => ⟨S32x512, .f32⟩
  | 9 => ⟨S32x512, .f32⟩
  | 10 => ⟨S_, .f32⟩
  | 11 => ⟨S32x512, .f32⟩
  | 12 => ⟨S32x512, .f32⟩
  | 13 => ⟨S32x512, .f32⟩
  | 14 => ⟨S32x512, .f32⟩
  | 15 => ⟨S32x512, .f32⟩
  | 16 => ⟨S_, .f32⟩
  | 17 => ⟨S32x512, .f32⟩
  | 18 => ⟨S32x512, .f32⟩
  | 19 => ⟨S_, .f32⟩
  | 20 => ⟨S32x512, .f32⟩
  | 21 => ⟨S32x512, .f32⟩
  | 22 => ⟨S32x512, .f32⟩
  | 23 => ⟨S32x512, .f32⟩
  | 24 => ⟨S32x512, .f32⟩
  | 25 => ⟨S32x512, .f32⟩
  | 26 => ⟨S32x512, .f32⟩
  | 27 => ⟨S_, .f32⟩
  | 28 => ⟨S32x512, .f32⟩
  | 29 => ⟨S32x512, .f32⟩
  | 30 => ⟨S_, .f32⟩
  | 31 => ⟨S32x512, .f32⟩
  | 32 => ⟨S32x512, .f32⟩
  | 33 => ⟨S32x512, .f32⟩
  | 34 => ⟨S32x512, .f32⟩
  | 35 => ⟨S1x32x512, .f32⟩
  | 36 => ⟨S32x512, .f32⟩
  | 37 => ⟨S1x32x512, .f32⟩
  | 38 => ⟨S32x512, .f32⟩
  | 39 => ⟨S1x2048x512, .f32⟩
  | 40 => ⟨S2048x512, .f32⟩
  | 41 => ⟨S1x2048x512, .f32⟩
  | 42 => ⟨S2048x512, .f32⟩
  | 43 => ⟨S1x2048, .f32⟩
  | 44 => ⟨S2048, .f32⟩
  | 45 => ⟨S512x2048, .f32⟩
  | 46 => ⟨S32x2048, .f32⟩
  | 47 => ⟨S512x2048, .f32⟩
  | 48 => ⟨S32x2048, .f32⟩
  | 49 => ⟨S32x2048, .f32⟩
  | 50 => ⟨S1x2048, .f32⟩
  | 51 => ⟨S32x2048, .f32⟩
  | 52 => ⟨S32x2048, .f32⟩
  | 53 => ⟨S32x512, .f32⟩
  | 54 => ⟨S32x512, .f32⟩
  | 55 => ⟨S32x512, .f32⟩
  | 56 => ⟨S32x512, .f32⟩
  | 57 => ⟨S32x512, .f32⟩
  | 58 => ⟨S32x512, .f32⟩
  | 59 => ⟨S_, .f32⟩
  | 60 => ⟨S32x512, .f32⟩
  | 61 => ⟨S32x512, .f32⟩
  | 62 => ⟨S_, .f32⟩
  | 63 => ⟨S32x512, .f32⟩
  | 64 => ⟨S32x512, .f32⟩
  | 65 => ⟨S32x512, .f32⟩
  | 66 => ⟨S32x512, .f32⟩
  | 67 => ⟨S32x512, .f32⟩
  | 68 => ⟨S_, .f32⟩
  | 69 => ⟨S32x512, .f32⟩
  | 70 => ⟨S32x512, .f32⟩
  | 71 => ⟨S_, .f32⟩
  | 72 => ⟨S32x512, .f32⟩
  | 73 => ⟨S32x512, .f32⟩
  | 74 => ⟨S32x512, .f32⟩
  | 75 => ⟨S32x512, .f32⟩
  | 76 => ⟨S32x512, .f32⟩
  | 77 => ⟨S32x512, .f32⟩
  | 78 => ⟨S32x512, .f32⟩
  | 79 => ⟨S_, .f32⟩
  | 80 => ⟨S32x512, .f32⟩
  | 81 => ⟨S32x512, .f32⟩
  | 82 => ⟨S_, .f32⟩
  | 83 => ⟨S32x512, .f32⟩
  | 84 => ⟨S32x512, .f32⟩
  | 85 => ⟨S32x512, .f32⟩
  | 86 => ⟨S32x512, .f32⟩
  | 87 => ⟨S1x32x512, .f32⟩
  | 88 => ⟨S1x32x512, .f32⟩
  | 89 => ⟨S1x32x512, .f32⟩
  | 90 => ⟨S3x32x512, .f32⟩
  | 91 => ⟨S1x32x512, .f32⟩
  | 92 => ⟨S1x32x512, .f32⟩
  | 93 => ⟨S1x32x512, .f32⟩
  | 94 => ⟨S3x32x512, .f32⟩
  | 95 => ⟨S1x32x512, .f32⟩
  | 96 => ⟨S_, .i32⟩
  | 97 => ⟨S_, .i32⟩
  | 98 => ⟨S63x32x512, .f32⟩
  | 99 => ⟨S_, .i32⟩
  | 100 => ⟨S_, .i32⟩
  | _ => ⟨S32x64, .i32⟩

abbrev hbmTy (i : Nat) : BufTy := match i / 128 with
  | 0 => hbmTy0_0 i
  | 1 => hbmTy0_1 i
  | _ => ⟨S32x64, .i32⟩

abbrev bufTy : (tb : Table) → Fin (tcTables nBuf tb) → BufTy
  | .hbm, ⟨i, _⟩ => hbmTy i
  | _, _ => ⟨S32x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_c : Ref sig .tc := ⟨.hbm, 16, rfl⟩
abbrev main_v3_0 : Ref sig .tc := ⟨.hbm, 17, rfl⟩
abbrev main_v3_1 : Ref sig .tc := ⟨.hbm, 18, rfl⟩
abbrev main_v3_2 : Ref sig .tc := ⟨.hbm, 19, rfl⟩
abbrev main_v3_3 : Ref sig .tc := ⟨.hbm, 20, rfl⟩
abbrev main_v3_4 : Ref sig .tc := ⟨.hbm, 21, rfl⟩
abbrev main_v3_5 : Ref sig .tc := ⟨.hbm, 22, rfl⟩
abbrev main_v3_6 : Ref sig .tc := ⟨.hbm, 23, rfl⟩
abbrev main_v3_7 : Ref sig .tc := ⟨.hbm, 24, rfl⟩
abbrev main_v3_8 : Ref sig .tc := ⟨.hbm, 25, rfl⟩
abbrev main_v3_9 : Ref sig .tc := ⟨.hbm, 26, rfl⟩
abbrev main_v3_10 : Ref sig .tc := ⟨.hbm, 27, rfl⟩
abbrev main_v3_11 : Ref sig .tc := ⟨.hbm, 28, rfl⟩
abbrev main_v3_12 : Ref sig .tc := ⟨.hbm, 29, rfl⟩
abbrev main_v3_13 : Ref sig .tc := ⟨.hbm, 30, rfl⟩
abbrev main_while0c_c_13 : Ref sig .tc := ⟨.hbm, 31, rfl⟩
abbrev main_while0c_v4 : Ref sig .tc := ⟨.hbm, 32, rfl⟩
abbrev main_while0b_call0_c : Ref sig .tc := ⟨.hbm, 33, rfl⟩
abbrev main_while0b_call0_v0 : Ref sig .tc := ⟨.hbm, 34, rfl⟩
abbrev main_while0b_v4 : Ref sig .tc := ⟨.hbm, 35, rfl⟩
abbrev main_while0b_c_13 : Ref sig .tc := ⟨.hbm, 36, rfl⟩
abbrev main_while0b_v5 : Ref sig .tc := ⟨.hbm, 37, rfl⟩
abbrev main_while0b_v6 : Ref sig .tc := ⟨.hbm, 38, rfl⟩
abbrev main_while0b_c_14 : Ref sig .tc := ⟨.hbm, 39, rfl⟩
abbrev main_while0b_v7 : Ref sig .tc := ⟨.hbm, 40, rfl⟩
abbrev main_while0b_v8 : Ref sig .tc := ⟨.hbm, 41, rfl⟩
abbrev main_while0b_v9 : Ref sig .tc := ⟨.hbm, 42, rfl⟩
abbrev main_while0b_v10 : Ref sig .tc := ⟨.hbm, 43, rfl⟩
abbrev main_while0b_v11 : Ref sig .tc := ⟨.hbm, 44, rfl⟩
abbrev main_while0b_v12 : Ref sig .tc := ⟨.hbm, 45, rfl⟩
abbrev main_while0b_v13 : Ref sig .tc := ⟨.hbm, 46, rfl⟩
abbrev main_while0b_v14 : Ref sig .tc := ⟨.hbm, 47, rfl⟩
abbrev main_while0b_v15 : Ref sig .tc := ⟨.hbm, 48, rfl⟩
abbrev main_while0b_cst_15 : Ref sig .tc := ⟨.hbm, 49, rfl⟩
abbrev main_while0b_v16 : Ref sig .tc := ⟨.hbm, 50, rfl⟩
abbrev main_while0b_cst_16 : Ref sig .tc := ⟨.hbm, 51, rfl⟩
abbrev main_while0b_v17 : Ref sig .tc := ⟨.hbm, 52, rfl⟩
abbrev main_while0b_v18 : Ref sig .tc := ⟨.hbm, 53, rfl⟩
abbrev main_while0b_v19 : Ref sig .tc := ⟨.hbm, 54, rfl⟩
abbrev main_while0b_v20 : Ref sig .tc := ⟨.hbm, 55, rfl⟩
abbrev main_while0b_v21 : Ref sig .tc := ⟨.hbm, 56, rfl⟩
abbrev main_while0b_v22 : Ref sig .tc := ⟨.hbm, 57, rfl⟩
abbrev main_while0b_cst_17 : Ref sig .tc := ⟨.hbm, 58, rfl⟩
abbrev main_while0b_v23 : Ref sig .tc := ⟨.hbm, 59, rfl⟩
abbrev main_while0b_v24 : Ref sig .tc := ⟨.hbm, 60, rfl⟩
abbrev main_while0b_v25 : Ref sig .tc := ⟨.hbm, 61, rfl⟩
abbrev main_while0b_v26 : Ref sig .tc := ⟨.hbm, 62, rfl⟩
abbrev main_while0b_v27 : Ref sig .tc := ⟨.hbm, 63, rfl⟩
abbrev main_while0b_v28 : Ref sig .tc := ⟨.hbm, 64, rfl⟩
abbrev main_while0b_v29 : Ref sig .tc := ⟨.hbm, 65, rfl⟩
abbrev main_while0b_v30 : Ref sig .tc := ⟨.hbm, 66, rfl⟩
abbrev main_while0b_v31 : Ref sig .tc := ⟨.hbm, 67, rfl⟩
abbrev main_while0b_v32 : Ref sig .tc := ⟨.hbm, 68, rfl⟩
abbrev main_while0b_v33 : Ref sig .tc := ⟨.hbm, 69, rfl⟩
abbrev main_while0b_v34 : Ref sig .tc := ⟨.hbm, 70, rfl⟩
abbrev main_while0b_v35 : Ref sig .tc := ⟨.hbm, 71, rfl⟩
abbrev main_while0b_v36 : Ref sig .tc := ⟨.hbm, 72, rfl⟩
abbrev main_while0b_v37 : Ref sig .tc := ⟨.hbm, 73, rfl⟩
abbrev main_while0b_v38 : Ref sig .tc := ⟨.hbm, 74, rfl⟩
abbrev main_while0b_v39 : Ref sig .tc := ⟨.hbm, 75, rfl⟩
abbrev main_while0b_v40 : Ref sig .tc := ⟨.hbm, 76, rfl⟩
abbrev main_while0b_v41 : Ref sig .tc := ⟨.hbm, 77, rfl⟩
abbrev main_while0b_v42 : Ref sig .tc := ⟨.hbm, 78, rfl⟩
abbrev main_while0b_v43 : Ref sig .tc := ⟨.hbm, 79, rfl⟩
abbrev main_while0b_v44 : Ref sig .tc := ⟨.hbm, 80, rfl⟩
abbrev main_while0b_v45 : Ref sig .tc := ⟨.hbm, 81, rfl⟩
abbrev main_while0b_v46 : Ref sig .tc := ⟨.hbm, 82, rfl⟩
abbrev main_while0b_cst_18 : Ref sig .tc := ⟨.hbm, 83, rfl⟩
abbrev main_while0b_v47 : Ref sig .tc := ⟨.hbm, 84, rfl⟩
abbrev main_while0b_v48 : Ref sig .tc := ⟨.hbm, 85, rfl⟩
abbrev main_while0b_cst_19 : Ref sig .tc := ⟨.hbm, 86, rfl⟩
abbrev main_while0b_v49 : Ref sig .tc := ⟨.hbm, 87, rfl⟩
abbrev main_while0b_v50 : Ref sig .tc := ⟨.hbm, 88, rfl⟩
abbrev main_while0b_v51 : Ref sig .tc := ⟨.hbm, 89, rfl⟩
abbrev main_while0b_v52 : Ref sig .tc := ⟨.hbm, 90, rfl⟩
abbrev main_while0b_v53 : Ref sig .tc := ⟨.hbm, 91, rfl⟩
abbrev main_while0b_cst_20 : Ref sig .tc := ⟨.hbm, 92, rfl⟩
abbrev main_while0b_v54 : Ref sig .tc := ⟨.hbm, 93, rfl⟩
abbrev main_while0b_v55 : Ref sig .tc := ⟨.hbm, 94, rfl⟩
abbrev main_while0b_cst_21 : Ref sig .tc := ⟨.hbm, 95, rfl⟩
abbrev main_while0b_v56 : Ref sig .tc := ⟨.hbm, 96, rfl⟩
abbrev main_while0b_v57 : Ref sig .tc := ⟨.hbm, 97, rfl⟩
abbrev main_while0b_v58 : Ref sig .tc := ⟨.hbm, 98, rfl⟩
abbrev main_while0b_v59 : Ref sig .tc := ⟨.hbm, 99, rfl⟩
abbrev main_while0b_v60 : Ref sig .tc := ⟨.hbm, 100, rfl⟩
abbrev main_while0b_v61 : Ref sig .tc := ⟨.hbm, 101, rfl⟩
abbrev main_while0b_v62 : Ref sig .tc := ⟨.hbm, 102, rfl⟩
abbrev main_while0b_cst_22 : Ref sig .tc := ⟨.hbm, 103, rfl⟩
abbrev main_while0b_v63 : Ref sig .tc := ⟨.hbm, 104, rfl⟩
abbrev main_while0b_v64 : Ref sig .tc := ⟨.hbm, 105, rfl⟩
abbrev main_while0b_cst_23 : Ref sig .tc := ⟨.hbm, 106, rfl⟩
abbrev main_while0b_v65 : Ref sig .tc := ⟨.hbm, 107, rfl⟩
abbrev main_while0b_v66 : Ref sig .tc := ⟨.hbm, 108, rfl⟩
abbrev main_while0b_v67 : Ref sig .tc := ⟨.hbm, 109, rfl⟩
abbrev main_while0b_v68 : Ref sig .tc := ⟨.hbm, 110, rfl⟩
abbrev main_while0b_v69 : Ref sig .tc := ⟨.hbm, 111, rfl⟩
abbrev main_while0b_v70 : Ref sig .tc := ⟨.hbm, 112, rfl⟩
abbrev main_while0b_v71 : Ref sig .tc := ⟨.hbm, 113, rfl⟩
abbrev main_while0b_v72 : Ref sig .tc := ⟨.hbm, 114, rfl⟩
abbrev main_while0b_v73 : Ref sig .tc := ⟨.hbm, 115, rfl⟩
abbrev main_while0b_v74 : Ref sig .tc := ⟨.hbm, 116, rfl⟩
abbrev main_while0b_v75 : Ref sig .tc := ⟨.hbm, 117, rfl⟩
abbrev main_while0b_v76 : Ref sig .tc := ⟨.hbm, 118, rfl⟩
abbrev main_while0b_v77 : Ref sig .tc := ⟨.hbm, 119, rfl⟩
abbrev main_while0b_v78 : Ref sig .tc := ⟨.hbm, 120, rfl⟩
abbrev main_while0b_v79 : Ref sig .tc := ⟨.hbm, 121, rfl⟩
abbrev main_while0b_v80 : Ref sig .tc := ⟨.hbm, 122, rfl⟩
abbrev main_while0b_v81 : Ref sig .tc := ⟨.hbm, 123, rfl⟩
abbrev main_while0b_v82 : Ref sig .tc := ⟨.hbm, 124, rfl⟩
abbrev main_while0b_v83 : Ref sig .tc := ⟨.hbm, 125, rfl⟩
abbrev main_while0b_v84 : Ref sig .tc := ⟨.hbm, 126, rfl⟩
abbrev main_while0b_v85 : Ref sig .tc := ⟨.hbm, 127, rfl⟩
abbrev main_while0b_v86 : Ref sig .tc := ⟨.hbm, 128, rfl⟩
abbrev main_while0b_v87 : Ref sig .tc := ⟨.hbm, 129, rfl⟩
abbrev main_while0b_v88 : Ref sig .tc := ⟨.hbm, 130, rfl⟩
abbrev main_while0b_v89 : Ref sig .tc := ⟨.hbm, 131, rfl⟩
abbrev main_while0b_v90 : Ref sig .tc := ⟨.hbm, 132, rfl⟩
abbrev main_while0b_v91 : Ref sig .tc := ⟨.hbm, 133, rfl⟩
abbrev main_while0b_v92 : Ref sig .tc := ⟨.hbm, 134, rfl⟩
abbrev main_while0b_cst_24 : Ref sig .tc := ⟨.hbm, 135, rfl⟩
abbrev main_while0b_v93 : Ref sig .tc := ⟨.hbm, 136, rfl⟩
abbrev main_while0b_v94 : Ref sig .tc := ⟨.hbm, 137, rfl⟩
abbrev main_while0b_cst_25 : Ref sig .tc := ⟨.hbm, 138, rfl⟩
abbrev main_while0b_v95 : Ref sig .tc := ⟨.hbm, 139, rfl⟩
abbrev main_while0b_v96 : Ref sig .tc := ⟨.hbm, 140, rfl⟩
abbrev main_while0b_v97 : Ref sig .tc := ⟨.hbm, 141, rfl⟩
abbrev main_while0b_v98 : Ref sig .tc := ⟨.hbm, 142, rfl⟩
abbrev main_while0b_v99 : Ref sig .tc := ⟨.hbm, 143, rfl⟩
abbrev main_while0b_cst_26 : Ref sig .tc := ⟨.hbm, 144, rfl⟩
abbrev main_while0b_v100 : Ref sig .tc := ⟨.hbm, 145, rfl⟩
abbrev main_while0b_v101 : Ref sig .tc := ⟨.hbm, 146, rfl⟩
abbrev main_while0b_cst_27 : Ref sig .tc := ⟨.hbm, 147, rfl⟩
abbrev main_while0b_v102 : Ref sig .tc := ⟨.hbm, 148, rfl⟩
abbrev main_while0b_v103 : Ref sig .tc := ⟨.hbm, 149, rfl⟩
abbrev main_while0b_v104 : Ref sig .tc := ⟨.hbm, 150, rfl⟩
abbrev main_while0b_v105 : Ref sig .tc := ⟨.hbm, 151, rfl⟩
abbrev main_while0b_v106 : Ref sig .tc := ⟨.hbm, 152, rfl⟩
abbrev main_while0b_v107 : Ref sig .tc := ⟨.hbm, 153, rfl⟩
abbrev main_while0b_v108 : Ref sig .tc := ⟨.hbm, 154, rfl⟩
abbrev main_while0b_cst_28 : Ref sig .tc := ⟨.hbm, 155, rfl⟩
abbrev main_while0b_v109 : Ref sig .tc := ⟨.hbm, 156, rfl⟩
abbrev main_while0b_v110 : Ref sig .tc := ⟨.hbm, 157, rfl⟩
abbrev main_while0b_cst_29 : Ref sig .tc := ⟨.hbm, 158, rfl⟩
abbrev main_while0b_v111 : Ref sig .tc := ⟨.hbm, 159, rfl⟩
abbrev main_while0b_v112 : Ref sig .tc := ⟨.hbm, 160, rfl⟩
abbrev main_while0b_v113 : Ref sig .tc := ⟨.hbm, 161, rfl⟩
abbrev main_while0b_v114 : Ref sig .tc := ⟨.hbm, 162, rfl⟩
abbrev main_while0b_v115 : Ref sig .tc := ⟨.hbm, 163, rfl⟩
abbrev main_while0b_v116 : Ref sig .tc := ⟨.hbm, 164, rfl⟩
abbrev main_while0b_v117 : Ref sig .tc := ⟨.hbm, 165, rfl⟩
abbrev main_while0b_v118 : Ref sig .tc := ⟨.hbm, 166, rfl⟩
abbrev main_while0b_v119 : Ref sig .tc := ⟨.hbm, 167, rfl⟩
abbrev main_while0b_v120 : Ref sig .tc := ⟨.hbm, 168, rfl⟩
abbrev main_while0b_v121 : Ref sig .tc := ⟨.hbm, 169, rfl⟩
abbrev main_while0b_v122 : Ref sig .tc := ⟨.hbm, 170, rfl⟩
abbrev main_while0b_v123 : Ref sig .tc := ⟨.hbm, 171, rfl⟩
abbrev main_while0b_v124 : Ref sig .tc := ⟨.hbm, 172, rfl⟩
abbrev main_while0b_v125 : Ref sig .tc := ⟨.hbm, 173, rfl⟩
abbrev main_while0b_v126 : Ref sig .tc := ⟨.hbm, 174, rfl⟩
abbrev main_while0b_v127 : Ref sig .tc := ⟨.hbm, 175, rfl⟩
abbrev main_while0b_v128 : Ref sig .tc := ⟨.hbm, 176, rfl⟩
abbrev main_while0b_v129 : Ref sig .tc := ⟨.hbm, 177, rfl⟩
abbrev main_while0b_v130 : Ref sig .tc := ⟨.hbm, 178, rfl⟩
abbrev main_while0b_v131 : Ref sig .tc := ⟨.hbm, 179, rfl⟩
abbrev main_while0b_v132 : Ref sig .tc := ⟨.hbm, 180, rfl⟩
abbrev main_while0b_v133 : Ref sig .tc := ⟨.hbm, 181, rfl⟩
abbrev main_while0b_v134 : Ref sig .tc := ⟨.hbm, 182, rfl⟩
abbrev main_while0b_v135 : Ref sig .tc := ⟨.hbm, 183, rfl⟩
abbrev main_while0b_v136 : Ref sig .tc := ⟨.hbm, 184, rfl⟩
abbrev main_while0b_v137 : Ref sig .tc := ⟨.hbm, 185, rfl⟩
abbrev main_while0b_v138 : Ref sig .tc := ⟨.hbm, 186, rfl⟩
abbrev main_while0b_cst_30 : Ref sig .tc := ⟨.hbm, 187, rfl⟩
abbrev main_while0b_v139 : Ref sig .tc := ⟨.hbm, 188, rfl⟩
abbrev main_while0b_v140 : Ref sig .tc := ⟨.hbm, 189, rfl⟩
abbrev main_while0b_cst_31 : Ref sig .tc := ⟨.hbm, 190, rfl⟩
abbrev main_while0b_v141 : Ref sig .tc := ⟨.hbm, 191, rfl⟩
abbrev main_while0b_v142 : Ref sig .tc := ⟨.hbm, 192, rfl⟩
abbrev main_while0b_v143 : Ref sig .tc := ⟨.hbm, 193, rfl⟩
abbrev main_while0b_v144 : Ref sig .tc := ⟨.hbm, 194, rfl⟩
abbrev main_while0b_v145 : Ref sig .tc := ⟨.hbm, 195, rfl⟩
abbrev main_while0b_cst_32 : Ref sig .tc := ⟨.hbm, 196, rfl⟩
abbrev main_while0b_v146 : Ref sig .tc := ⟨.hbm, 197, rfl⟩
abbrev main_while0b_v147 : Ref sig .tc := ⟨.hbm, 198, rfl⟩
abbrev main_while0b_cst_33 : Ref sig .tc := ⟨.hbm, 199, rfl⟩
abbrev main_while0b_v148 : Ref sig .tc := ⟨.hbm, 200, rfl⟩
abbrev main_while0b_v149 : Ref sig .tc := ⟨.hbm, 201, rfl⟩
abbrev main_while0b_v150 : Ref sig .tc := ⟨.hbm, 202, rfl⟩
abbrev main_while0b_v151 : Ref sig .tc := ⟨.hbm, 203, rfl⟩
abbrev main_while0b_v152 : Ref sig .tc := ⟨.hbm, 204, rfl⟩
abbrev main_while0b_v153 : Ref sig .tc := ⟨.hbm, 205, rfl⟩
abbrev main_while0b_v154 : Ref sig .tc := ⟨.hbm, 206, rfl⟩
abbrev main_while0b_cst_34 : Ref sig .tc := ⟨.hbm, 207, rfl⟩
abbrev main_while0b_v155 : Ref sig .tc := ⟨.hbm, 208, rfl⟩
abbrev main_while0b_v156 : Ref sig .tc := ⟨.hbm, 209, rfl⟩
abbrev main_while0b_cst_35 : Ref sig .tc := ⟨.hbm, 210, rfl⟩
abbrev main_while0b_v157 : Ref sig .tc := ⟨.hbm, 211, rfl⟩
abbrev main_while0b_v158 : Ref sig .tc := ⟨.hbm, 212, rfl⟩
abbrev main_while0b_v159 : Ref sig .tc := ⟨.hbm, 213, rfl⟩
abbrev main_while0b_v160 : Ref sig .tc := ⟨.hbm, 214, rfl⟩
abbrev main_while0b_v161 : Ref sig .tc := ⟨.hbm, 215, rfl⟩
abbrev main_while0b_v162 : Ref sig .tc := ⟨.hbm, 216, rfl⟩
abbrev main_while0b_v163 : Ref sig .tc := ⟨.hbm, 217, rfl⟩
abbrev main_while0b_v164 : Ref sig .tc := ⟨.hbm, 218, rfl⟩
abbrev main_while0b_v165 : Ref sig .tc := ⟨.hbm, 219, rfl⟩
abbrev main_while0b_v166 : Ref sig .tc := ⟨.hbm, 220, rfl⟩
abbrev main_while0b_v167 : Ref sig .tc := ⟨.hbm, 221, rfl⟩
abbrev main_while0b_v168 : Ref sig .tc := ⟨.hbm, 222, rfl⟩
abbrev main_while0b_call1_v0 : Ref sig .tc := ⟨.hbm, 223, rfl⟩
abbrev main_while0b_call1_c : Ref sig .tc := ⟨.hbm, 224, rfl⟩
abbrev main_while0b_call1_c_0 : Ref sig .tc := ⟨.hbm, 225, rfl⟩
abbrev main_while0b_v169 : Ref sig .tc := ⟨.hbm, 226, rfl⟩
abbrev main_while0b_c_36 : Ref sig .tc := ⟨.hbm, 227, rfl⟩
abbrev main_while0b_v170 : Ref sig .tc := ⟨.hbm, 228, rfl⟩

abbrev nD : Nat := 1
abbrev τ : Topo := Topo.v7x

variable {F : FTy → Type} [FloatOps F]

abbrev main_while0_count : Scf.Loop 32 := ⟨0#32, 63#32, 1#32⟩
-- ==== Encoder.lean ====
abbrev S32x128 : Shape := ⟨2, ![32, 128]⟩
abbrev S32000x256 : Shape := ⟨2, ![32000, 256]⟩
abbrev S2x1024x256 : Shape := ⟨3, ![2, 1024, 256]⟩
abbrev S2x1024 : Shape := ⟨2, ![2, 1024]⟩
abbrev S2x2x1024x512 : Shape := ⟨4, ![2, 2, 1024, 512]⟩
abbrev S2x2x1024x256 : Shape := ⟨4, ![2, 2, 1024, 256]⟩
abbrev S2x2x1024 : Shape := ⟨3, ![2, 2, 1024]⟩
abbrev S128x32 : Shape := ⟨2, ![128, 32]⟩
abbrev S4096 : Shape := ⟨1, ![4096]⟩
abbrev S1x1024x256 : Shape := ⟨3, ![1, 1024, 256]⟩
abbrev S1024x256 : Shape := ⟨2, ![1024, 256]⟩
abbrev S256x1024 : Shape := ⟨2, ![256, 1024]⟩
abbrev S256x2048 : Shape := ⟨2, ![256, 2048]⟩
abbrev S1x256x1024 : Shape := ⟨3, ![1, 256, 1024]⟩
abbrev S2x256x1024 : Shape := ⟨3, ![2, 256, 1024]⟩
abbrev S1x1024 : Shape := ⟨2, ![1, 1024]⟩
abbrev S1024 : Shape := ⟨1, ![1024]⟩
abbrev S2048 : Shape := ⟨1, ![2048]⟩
abbrev S1x2048 : Shape := ⟨2, ![1, 2048]⟩
abbrev S1x2x1024x512 : Shape := ⟨4, ![1, 2, 1024, 512]⟩
abbrev S2x1024x512 : Shape := ⟨3, ![2, 1024, 512]⟩
abbrev S1x2x1024x256 : Shape := ⟨4, ![1, 2, 1024, 256]⟩
abbrev S1x2x1024 : Shape := ⟨3, ![1, 2, 1024]⟩
abbrev S1x1024x512 : Shape := ⟨3, ![1, 1024, 512]⟩
abbrev S1024x512 : Shape := ⟨2, ![1024, 512]⟩
abbrev S512x1024 : Shape := ⟨2, ![512, 1024]⟩
abbrev S512x2048 : Shape := ⟨2, ![512, 2048]⟩
abbrev S4096x512 : Shape := ⟨2, ![4096, 512]⟩
abbrev S3x2x32x256 : Shape := ⟨4, ![3, 2, 32, 256]⟩
abbrev S4096x256 : Shape := ⟨2, ![4096, 256]⟩
abbrev S4096x2048 : Shape := ⟨2, ![4096, 2048]⟩
abbrev S_ : Shape := ⟨0, ![]⟩
abbrev S1 : Shape := ⟨1, ![1]⟩
abbrev S1x256 : Shape := ⟨2, ![1, 256]⟩
abbrev S256 : Shape := ⟨1, ![256]⟩
abbrev S32x256 : Shape := ⟨2, ![32, 256]⟩
abbrev S32x1024 : Shape := ⟨2, ![32, 1024]⟩
abbrev S1x2x32x256 : Shape := ⟨4, ![1, 2, 32, 256]⟩
abbrev S2x32x256 : Shape := ⟨3, ![2, 32, 256]⟩
abbrev S1x32x256 : Shape := ⟨3, ![1, 32, 256]⟩
abbrev S1x1x32x256 : Shape := ⟨4, ![1, 1, 32, 256]⟩
abbrev S32x512 : Shape := ⟨2, ![32, 512]⟩
abbrev S1x32x512 : Shape := ⟨3, ![1, 32, 512]⟩
abbrev S3x32x512 : Shape := ⟨3, ![3, 32, 512]⟩

abbrev nBuf : Space → Nat
  | .hbm => 135
  | .vmem => 16
  | .smem => 1
  | _ => 0

abbrev hbmTy0_0 (i : Nat) : BufTy := match i % 128 with
  | 0 => ⟨S32x128, .i32⟩
  | 1 => ⟨S32000x256, .f32⟩
  | 2 => ⟨S2x1024x256, .f32⟩
  | 3 => ⟨S2x1024x256, .f32⟩
  | 4 => ⟨S2x1024, .f32⟩
  | 5 => ⟨S2x2x1024x512, .f32⟩
  | 6 => ⟨S2x2x1024x256, .f32⟩
  | 7 => ⟨S2x2x1024, .f32⟩
  | 8 => ⟨S128x32, .i32⟩
  | 9 => ⟨S4096, .i32⟩
  | 10 => ⟨S1x1024x256, .f32⟩
  | 11 => ⟨S1024x256, .f32⟩
  | 12 => ⟨S256x1024, .f32⟩
  | 13 => ⟨S1x1024x256, .f32⟩
  | 14 => ⟨S1024x256, .f32⟩
  | 15 => ⟨S256x1024, .f32⟩
  | 16 => ⟨S256x2048, .f32⟩
  | 17 => ⟨S256x2048, .bf16⟩
  | 18 => ⟨S1x1024x256, .f32⟩
  | 19 => ⟨S1024x256, .f32⟩
  | 20 => ⟨S256x1024, .f32⟩
  | 21 => ⟨S1x1024x256, .f32⟩
  | 22 => ⟨S1024x256, .f32⟩
  | 23 => ⟨S256x1024, .f32⟩
  | 24 => ⟨S1x256x1024, .f32⟩
  | 25 => ⟨S1x256x1024, .f32⟩
  | 26 => ⟨S2x256x1024, .f32⟩
  | 27 => ⟨S2x256x1024, .bf16⟩
  | 28 => ⟨S1x1024, .f32⟩
  | 29 => ⟨S1024, .f32⟩
  | 30 => ⟨S1x1024, .f32⟩
  | 31 => ⟨S1024, .f32⟩
  | 32 => ⟨S2048, .f32⟩
  | 33 => ⟨S1x2048, .f32⟩
  | 34 => ⟨S1x2x1024x512, .f32⟩
  | 35 => ⟨S2x1024x512, .f32⟩
  | 36 => ⟨S1x2x1024x256, .f32⟩
  | 37 => ⟨S2x1024x256, .f32⟩
  | 38 => ⟨S1x2x1024, .f32⟩
  | 39 => ⟨S2x1024, .f32⟩
  | 40 => ⟨S1x1024x512, .f32⟩
  | 41 => ⟨S1024x512, .f32⟩
  | 42 => ⟨S512x1024, .f32⟩
  | 43 => ⟨S1x1024x512, .f32⟩
  | 44 => ⟨S1024x512, .f32⟩
  | 45 => ⟨S512x1024, .f32⟩
  | 46 => ⟨S512x2048, .f32⟩
  | 47 => ⟨S512x2048, .bf16⟩
  | 48 => ⟨S1x1024x256, .f32⟩
  | 49 => ⟨S1024x256, .f32⟩
  | 50 => ⟨S256x1024, .f32⟩
  | 51 => ⟨S1x1024x256, .f32⟩
  | 52 => ⟨S1024x256, .f32⟩
  | 53 => ⟨S256x1024, .f32⟩
  | 54 => ⟨S1x256x1024, .f32⟩
  | 55 => ⟨S1x256x1024, .f32⟩
  | 56 => ⟨S2x256x1024, .f32⟩
  | 57 => ⟨S2x256x1024, .bf16⟩
  | 58 => ⟨S1x1024, .f32⟩
  | 59 => ⟨S1024, .f32⟩
  | 60 => ⟨S1x1024, .f32⟩
  | 61 => ⟨S1024, .f32⟩
  | 62 => ⟨S2048, .f32⟩
  | 63 => ⟨S1x2048, .f32⟩
  | 64 => ⟨S1x2x1024x512, .f32⟩
  | 65 => ⟨S2x1024x512, .f32⟩
  | 66 => ⟨S1x2x1024x256, .f32⟩
  | 67 => ⟨S2x1024x256, .f32⟩
  | 68 => ⟨S1x2x1024, .f32⟩
  | 69 => ⟨S2x1024, .f32⟩
  | 70 => ⟨S1x1024x512, .f32⟩
  | 71 => ⟨S1024x512, .f32⟩
  | 72 => ⟨S512x1024, .f32⟩
  | 73 => ⟨S1x1024x512, .f32⟩
  | 74 => ⟨S1024x512, .f32⟩
  | 75 => ⟨S512x1024, .f32⟩
  | 76 => ⟨S512x2048, .f32⟩
  | 77 => ⟨S512x2048, .bf16⟩
  | 78 => ⟨S1x1024x256, .f32⟩
  | 79 => ⟨S1024x256, .f32⟩
  | 80 => ⟨S256x1024, .f32⟩
  | 81 => ⟨S1x1024x256, .f32⟩
  | 82 => ⟨S1024x256, .f32⟩
  | 83 => ⟨S256x1024, .f32⟩
  | 84 => ⟨S1x256x1024, .f32⟩
  | 85 => ⟨S1x256x1024, .f32⟩
  | 86 => ⟨S2x256x1024, .f32⟩
  | 87 => ⟨S2x256x1024, .bf16⟩
  | 88 => ⟨S1x1024, .f32⟩
  | 89 => ⟨S1024, .f32⟩
  | 90 => ⟨S1x1024, .f32⟩
  | 91 => ⟨S1024, .f32⟩
  | 92 => ⟨S2048, .f32⟩
  | 93 => ⟨S1x2048, .f32⟩
  | 94 => ⟨S4096x512, .f32⟩
  | 95 => ⟨S3x2x32x256, .f32⟩
  | 96 => ⟨S3x2x32x256, .f32⟩
  | 97 => ⟨S1x1x32x256, .f32⟩
  | 98 => ⟨S32x256, .f32⟩
  | 99 => ⟨S1x1x32x256, .f32⟩
  | 100 => ⟨S32x256, .f32⟩
  | 101 => ⟨S32x512, .f32⟩
  | 102 => ⟨S1x1x32x256, .f32⟩
  | 103 => ⟨S32x256, .f32⟩
  | 104 => ⟨S1x1x32x256, .f32⟩
  | 105 => ⟨S32x256, .f32⟩
  | 106 => ⟨S32x512, .f32⟩
  | 107 => ⟨S1x1x32x256, .f32⟩
  | 108 => ⟨S32x256, .f32⟩
  | 109 => ⟨S1x1x32x256, .f32⟩
  | 110 => ⟨S32x256, .f32⟩
  | 111 => ⟨S32x512, .f32⟩
  | 112 => ⟨S1x32x512, .f32⟩
  | 113 => ⟨S1x32x512, .f32⟩
  | 114 => ⟨S1x32x512, .f32⟩
  | 115 => ⟨S3x32x512, .f32⟩
  | 116 => ⟨S1x1x32x256, .f32⟩
  | 117 => ⟨S32x256, .f32⟩
  | 118 => ⟨S1x1x32x256, .f32⟩
  | 119 => ⟨S32x256, .f32⟩
  | 120 => ⟨S32x512, .f32⟩
  | 121 => ⟨S1x1x32x256, .f32⟩
  | 122 => ⟨S32x256, .f32⟩
  | 123 => ⟨S1x1x32x256, .f32⟩
  | 124 => ⟨S32x256, .f32⟩
  | 125 => ⟨S32x512, .f32⟩
  | 126 => ⟨S1x1x32x256, .f32⟩
  | 127 => ⟨S32x256, .f32⟩
  | _ => ⟨S32x128, .i32⟩

abbrev hbmTy0_1 (i : Nat) : BufTy := match i % 128 with
  | 0 => ⟨S1x1x32x256, .f32⟩
  | 1 => ⟨S32x256, .f32⟩
  | 2 => ⟨S32x512, .f32⟩
  | 3 => ⟨S1x32x512, .f32⟩
  | 4 => ⟨S1x32x512, .f32⟩
  | 5 => ⟨S1x32x512, .f32⟩
  | 6 => ⟨S3x32x512, .f32⟩
  | _ => ⟨S32x128, .i32⟩

abbrev hbmTy (i : Nat) : BufTy := match i / 128 with
  | 0 => hbmTy0_0 i
  | 1 => hbmTy0_1 i
  | _ => ⟨S32x128, .i32⟩

abbrev bufTy : (tb : Table) → Fin (tcTables nBuf tb) → BufTy
  | .hbm, ⟨i, _⟩ => hbmTy i
  | .local _ .vmem, ⟨0, _⟩ => ⟨S256x2048, .bf16⟩
  | .local _ .vmem, ⟨1, _⟩ => ⟨S2x256x1024, .bf16⟩
  | .local _ .vmem, ⟨2, _⟩ => ⟨S1x2048, .f32⟩
  | .local _ .vmem, ⟨3, _⟩ => ⟨S512x2048, .bf16⟩
  | .local _ .vmem, ⟨4, _⟩ => ⟨S2x256x1024, .bf16⟩
  | .local _ .vmem, ⟨5, _⟩ => ⟨S1x2048, .f32⟩
  | .local _ .vmem, ⟨6, _⟩ => ⟨S512x2048, .bf16⟩
  | .local _ .vmem, ⟨7, _⟩ => ⟨S2x256x1024, .bf16⟩
  | .local _ .vmem, ⟨8, _⟩ => ⟨S1x2048, .f32⟩
  | .local _ .vmem, ⟨9, _⟩ => ⟨S4096x512, .f32⟩
  | .local _ .vmem, ⟨10, _⟩ => ⟨S3x2x32x256, .f32⟩
  | .local _ .vmem, ⟨11, _⟩ => ⟨S3x2x32x256, .f32⟩
  | .local _ .vmem, ⟨12, _⟩ => ⟨S4096x256, .f32⟩
  | .local _ .vmem, ⟨13, _⟩ => ⟨S4096x512, .bf16⟩
  | .local _ .vmem, ⟨14, _⟩ => ⟨S4096x512, .bf16⟩
  | .local _ .vmem, ⟨15, _⟩ => ⟨S4096x2048, .bf16⟩
  | .local _ .smem, ⟨0, _⟩ => ⟨S4096, .i32⟩
  | _, _ => ⟨S32x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86_0 : Ref sig .tc := ⟨.hbm, 94, rfl⟩
abbrev main_v86_1 : Ref sig .tc := ⟨.hbm, 95, rfl⟩
abbrev main_v86_2 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c4096_i32 : BitVec 32 := 4096#32
  let v0 : BitVec 32 := Scalar.addi c0_i32 c4096_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg19 : BitVec 32 := Scf.iv c0_i32 c1_i32 k0_t1
  let v108 : Index := Scalar.indexCast arg19
  ![v108.toNat]
def k0_off2 (k0_t1 : Fin k0_t1_loop.trips) : Fin 2 → Nat :=
  let c0_i32 : BitVec 32 := 0#32
  let c1_i32 : BitVec 32 := 1#32
  let arg19 : BitVec 32 := Scf.iv c0_i32 c1_i32 k0_t1
  let c0_i32_126 : BitVec 32 := 0#32
  ![arg19.toNat, 0]
def k0_off3 (v109 : BitVec 32) : Fin 2 → Nat :=
  let c0_i32_127 : BitVec 32 := 0#32
  ![v109.toNat, 0]

def k0_chk1 (v109 : BitVec 32) : Prop :=
  (∀ a, (k0_off3 v109) a + S1x256.size a ≤ S32000x256.size a)
theorem k0_off3_inb : ∀ (v109 : BitVec 32) (k0_hw1 : k0_chk1 v109), ∀ a, (k0_off3 v109) a + S1x256.size a ≤ S32000x256.size a := fun v109 k0_hw1 => k0_hw1

@[reducible] def k0_t2_loop : Scf.Loop 32 :=
  let c0_i32_1 : BitVec 32 := 0#32
  let c4096_i32_2 : BitVec 32 := 4096#32
  let v1 : BitVec 32 := Scalar.addi c0_i32_1 c4096_i32_2
  let c1_i32_3 : BitVec 32 := 1#32
  ⟨c0_i32_1, v1, c1_i32_3⟩
def k0_off4 (k0_t2 : Fin k0_t2_loop.trips) : Fin 2 → Nat :=
  let c0_i32_1 : BitVec 32 := 0#32
  let c1_i32_3 : BitVec 32 := 1#32
  let arg19 : BitVec 32 := Scf.iv c0_i32_1 c1_i32_3 k0_t2
  let c0_i32_127 : BitVec 32 := 0#32
  ![arg19.toNat, 0]
@[reducible] def k0_t3_loop : Scf.Loop 32 :=
  let c0_i32_13 : BitVec 32 := 0#32
  let c128_i32 : BitVec 32 := 128#32
  let v16 : BitVec 32 := Scalar.addi c0_i32_13 c128_i32
  let c1_i32_14 : BitVec 32 := 1#32
  ⟨c0_i32_13, v16, c1_i32_14⟩
def k0_off5 (k0_t3 : Fin k0_t3_loop.trips) : Fin 2 → Nat :=
  let c0_i32_13 : BitVec 32 := 0#32
  let c1_i32_14 : BitVec 32 := 1#32
  let arg19 : BitVec 32 := Scf.iv c0_i32_13 c1_i32_14 k0_t3
  let c32_i32 : BitVec 32 := 32#32
  let v109 : BitVec 32 := Scalar.muli arg19 c32_i32
  let v110 : Index := Scalar.indexCast v109
  let c0_126 : Index := 0#32
  ![v110.toNat, 0]
def k0_off6 (k0_t3 : Fin k0_t3_loop.trips) : Fin 2 → Nat :=
  let c127_i32 : BitVec 32 := 127#32
  let c0_i32_13 : BitVec 32 := 0#32
  let c1_i32_14 : BitVec 32 := 1#32
  let arg19 : BitVec 32 := Scf.iv c0_i32_13 c1_i32_14 k0_t3
  let v108 : BitVec 32 := Scalar.subi c127_i32 arg19
  let c32_i32_131 : BitVec 32 := 32#32
  let v118 : BitVec 32 := Scalar.muli v108 c32_i32_131
  let v119 : Index := Scalar.indexCast v118
  let c1024 : Index := 1024#32
  ![v119.toNat, 1024]
def k0_off7 (k0_t3 : Fin k0_t3_loop.trips) : Fin 2 → Nat :=
  let c0_i32_13 : BitVec 32 := 0#32
  let c1_i32_14 : BitVec 32 := 1#32
  let arg19 : BitVec 32 := Scf.iv c0_i32_13 c1_i32_14 k0_t3
  let c32_i32_136 : BitVec 32 := 32#32
  let v154 : BitVec 32 := Scalar.muli arg19 c32_i32_136
  let v155 : Index := Scalar.indexCast v154
  let c0_137 : Index := 0#32
  ![v155.toNat, 0]
def k0_off8 (k0_t3 : Fin k0_t3_loop.trips) : Fin 2 → Nat :=
  let c127_i32 : BitVec 32 := 127#32
  let c0_i32_13 : BitVec 32 := 0#32
  let c1_i32_14 : BitVec 32 := 1#32
  let arg19 : BitVec 32 := Scf.iv c0_i32_13 c1_i32_14 k0_t3
  let v108 : BitVec 32 := Scalar.subi c127_i32 arg19
  let c32_i32_138 : BitVec 32 := 32#32
  let v160 : BitVec 32 := Scalar.muli v108 c32_i32_138
  let v161 : Index := Scalar.indexCast v160
  let c256 : Index := 256#32
  ![v161.toNat, 256]
@[reducible] def k0_t4_loop : Scf.Loop 32 :=
  let c0_i32_53 : BitVec 32 := 0#32
  let c128_i32_54 : BitVec 32 := 128#32
  let v51 : BitVec 32 := Scalar.addi c0_i32_53 c128_i32_54
  let c1_i32_55 : BitVec 32 := 1#32
  ⟨c0_i32_53, v51, c1_i32_55⟩
def k0_off9 (k0_t4 : Fin k0_t4_loop.trips) : Fin 2 → Nat :=
  let c0_i32_53 : BitVec 32 := 0#32
  let c1_i32_55 : BitVec 32 := 1#32
  let arg19 : BitVec 32 := Scf.iv c0_i32_53 c1_i32_55 k0_t4
  let c32_i32 : BitVec 32 := 32#32
  let v109 : BitVec 32 := Scalar.muli arg19 c32_i32
  let v110 : Index := Scalar.indexCast v109
  let c0_126 : Index := 0#32
  ![v110.toNat, 0]
def k0_off10 (k0_t4 : Fin k0_t4_loop.trips) : Fin 2 → Nat :=
  let c127_i32 : BitVec 32 := 127#32
  let c0_i32_53 : BitVec 32 := 0#32
  let c1_i32_55 : BitVec 32 := 1#32
  let arg19 : BitVec 32 := Scf.iv c0_i32_53 c1_i32_55 k0_t4
  let v108 : BitVec 32 := Scalar.subi c127_i32 arg19
  let c32_i32_131 : BitVec 32 := 32#32
  let v118 : BitVec 32 := Scalar.muli v108 c32_i32_131
  let v119 : Index := Scalar.indexCast v118
  let c1024 : Index := 1024#32
  ![v119.toNat, 1024]
def k0_off11 (k0_t4 : Fin k0_t4_loop.trips) : Fin 2 → Nat :=
  let c0_i32_53 : BitVec 32 := 0#32
  let c1_i32_55 : BitVec 32 := 1#32
  let arg19 : BitVec 32 := Scf.iv c0_i32_53 c1_i32_55 k0_t4
  let c32_i32_136 : BitVec 32 := 32#32
  let v154 : BitVec 32 := Scalar.muli arg19 c32_i32_136
  let v155 : Index := Scalar.indexCast v154
  let c0_137 : Index := 0#32
  ![v155.toNat, 0]
def k0_off12 (k0_t4 : Fin k0_t4_loop.trips) : Fin 2 → Nat :=
  let c127_i32 : BitVec 32 := 127#32
  let c0_i32_53 : BitVec 32 := 0#32
  let c1_i32_55 : BitVec 32 := 1#32
  let arg19 : BitVec 32 := Scf.iv c0_i32_53 c1_i32_55 k0_t4
  let v108 : BitVec 32 := Scalar.subi c127_i32 arg19
  let c32_i32_138 : BitVec 32 := 32#32
  let v160 : BitVec 32 := Scalar.muli v108 c32_i32_138
  let v161 : Index := Scalar.indexCast v160
  let c256 : Index := 256#32
  ![v161.toNat, 256]
@[reducible] def k0_t5_loop : Scf.Loop 32 :=
  let c0_i32_95 : BitVec 32 := 0#32
  let c128_i32_96 : BitVec 32 := 128#32
  let v86 : BitVec 32 := Scalar.addi c0_i32_95 c128_i32_96
  let c1_i32_97 : BitVec 32 := 1#32
  ⟨c0_i32_95, v86, c1_i32_97⟩
def k0_off13 (k0_t5 : Fin k0_t5_loop.trips) : Fin 2 → Nat :=
  let c0_i32_95 : BitVec 32 := 0#32
  let c1_i32_97 : BitVec 32 := 1#32
  let arg19 : BitVec 32 := Scf.iv c0_i32_95 c1_i32_97 k0_t5
  let c32_i32 : BitVec 32 := 32#32
  let v109 : BitVec 32 := Scalar.muli arg19 c32_i32
  let v110 : Index := Scalar.indexCast v109
  let c0_126 : Index := 0#32
  ![v110.toNat, 0]
def k0_off14 (k0_t5 : Fin k0_t5_loop.trips) : Fin 2 → Nat :=
  let c127_i32 : BitVec 32 := 127#32
  let c0_i32_95 : BitVec 32 := 0#32
  let c1_i32_97 : BitVec 32 := 1#32
  let arg19 : BitVec 32 := Scf.iv c0_i32_95 c1_i32_97 k0_t5
  let v108 : BitVec 32 := Scalar.subi c127_i32 arg19
  let c32_i32_131 : BitVec 32 := 32#32
  let v118 : BitVec 32 := Scalar.muli v108 c32_i32_131
  let v119 : Index := Scalar.indexCast v118
  let c1024 : Index := 1024#32
  ![v119.toNat, 1024]
def k0_off15 (k0_t5 : Fin k0_t5_loop.trips) : Fin 2 → Nat :=
  let c0_i32_95 : BitVec 32 := 0#32
  let c1_i32_97 : BitVec 32 := 1#32
  let arg19 : BitVec 32 := Scf.iv c0_i32_95 c1_i32_97 k0_t5
  let c32_i32_136 : BitVec 32 := 32#32
  let v153 : BitVec 32 := Scalar.muli arg19 c32_i32_136
  let v154 : Index := Scalar.indexCast v153
  let c0_137 : Index := 0#32
  ![v154.toNat, 0]
def k0_off16 (k0_t5 : Fin k0_t5_loop.trips) : Fin 2 → Nat :=
  let c127_i32 : BitVec 32 := 127#32
  let c0_i32_95 : BitVec 32 := 0#32
  let c1_i32_97 : BitVec 32 := 1#32
  let arg19 : BitVec 32 := Scf.iv c0_i32_95 c1_i32_97 k0_t5
  let v108 : BitVec 32 := Scalar.subi c127_i32 arg19
  let c32_i32_138 : BitVec 32 := 32#32
  let v156 : BitVec 32 := Scalar.muli v108 c32_i32_138
  let v157 : Index := Scalar.indexCast v156
  let c256 : Index := 256#32
  ![v157.toNat, 256]
abbrev stage0_0 : Fin 1 → Memref sig .tc .smem S4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x2x32x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x2x32x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== EncoderReferenceIdeal.lean ====
abbrev S32x128 : Shape := ⟨2, ![32, 128]⟩
abbrev S32000x256 : Shape := ⟨2, ![32000, 256]⟩
abbrev S2x1024x256 : Shape := ⟨3, ![2, 1024, 256]⟩
abbrev S2x1024 : Shape := ⟨2, ![2, 1024]⟩
abbrev S2x2x1024x512 : Shape := ⟨4, ![2, 2, 1024, 512]⟩
abbrev S2x2x1024x256 : Shape := ⟨4, ![2, 2, 1024, 256]⟩
abbrev S2x2x1024 : Shape := ⟨3, ![2, 2, 1024]⟩
abbrev S_ : Shape := ⟨0, ![]⟩
abbrev S32x128x1 : Shape := ⟨3, ![32, 128, 1]⟩
abbrev S32x128x256 : Shape := ⟨3, ![32, 128, 256]⟩
abbrev S128x32x256 : Shape := ⟨3, ![128, 32, 256]⟩
abbrev S2x32x256 : Shape := ⟨3, ![2, 32, 256]⟩
abbrev S128x1x32x256 : Shape := ⟨4, ![128, 1, 32, 256]⟩
abbrev S128x2x32x256 : Shape := ⟨4, ![128, 2, 32, 256]⟩
abbrev S1x2x32x256 : Shape := ⟨4, ![1, 2, 32, 256]⟩
abbrev S2x32x1024 : Shape := ⟨3, ![2, 32, 1024]⟩
abbrev S2x1x1024 : Shape := ⟨3, ![2, 1, 1024]⟩
abbrev S128x32x512 : Shape := ⟨3, ![128, 32, 512]⟩
abbrev S1x2x1024x512 : Shape := ⟨4, ![1, 2, 1024, 512]⟩
abbrev S2x1024x512 : Shape := ⟨3, ![2, 1024, 512]⟩
abbrev S1x2x1024x256 : Shape := ⟨4, ![1, 2, 1024, 256]⟩
abbrev S1x2x1024 : Shape := ⟨3, ![1, 2, 1024]⟩
abbrev S128x1x32x512 : Shape := ⟨4, ![128, 1, 32, 512]⟩
abbrev S128x2x32x512 : Shape := ⟨4, ![128, 2, 32, 512]⟩
abbrev S1x2x32x512 : Shape := ⟨4, ![1, 2, 32, 512]⟩
abbrev S2x32x512 : Shape := ⟨3, ![2, 32, 512]⟩
abbrev S1x32x256 : Shape := ⟨3, ![1, 32, 256]⟩
abbrev S32x256 : Shape := ⟨2, ![32, 256]⟩
abbrev S32x512 : Shape := ⟨2, ![32, 512]⟩
abbrev S1x32x512 : Shape := ⟨3, ![1, 32, 512]⟩
abbrev S3x32x512 : Shape := ⟨3, ![3, 32, 512]⟩
abbrev S4096x512 : Shape := ⟨2, ![4096, 512]⟩

abbrev nBuf : Space → Nat
  | .hbm => 300
  | .vmem => 0
  | .smem => 0
  | _ => 0

abbrev hbmTy0_0 (i : Nat) : BufTy := match i % 128 with
  | 0 => ⟨S32x128, .i32⟩
  | 1 => ⟨S32000x256, .f32⟩
  | 2 => ⟨S2x1024x256, .f32⟩
  | 3 => ⟨S2x1024x256, .f32⟩
  | 4 => ⟨S2x1024, .f32⟩
  | 5 => ⟨S2x2x1024x512, .f32⟩
  | 6 => ⟨S2x2x1024x256, .f32⟩
  | 7 => ⟨S2x2x1024, .f32⟩
  | 8 => ⟨S_, .i32⟩
  | 9 => ⟨S32x128, .i32⟩
  | 10 => ⟨S32x128, .i1⟩
  | 11 => ⟨S_, .i32⟩
  | 12 => ⟨S32x128, .i32⟩
  | 13 => ⟨S32x128, .i32⟩
  | 14 => ⟨S32x128, .i32⟩
  | 15 => ⟨S32x128x1, .i32⟩
  | 16 => ⟨S32x128x256, .f32⟩
  | 17 => ⟨S128x32x256, .f32⟩
  | 18 => ⟨S_, .f32⟩
  | 19 => ⟨S2x32x256, .f32⟩
  | 20 => ⟨S128x32x256, .f32⟩
  | 21 => ⟨S128x1x32x256, .f32⟩
  | 22 => ⟨S128x1x32x256, .f32⟩
  | 23 => ⟨S128x2x32x256, .f32⟩
  | 24 => ⟨S_, .f32⟩
  | 25 => ⟨S128x2x32x256, .f32⟩
  | 26 => ⟨S_, .i32⟩
  | 27 => ⟨S128x2x32x256, .f32⟩
  | 28 => ⟨S2x1024x256, .f32⟩
  | 29 => ⟨S2x1024x256, .f32⟩
  | 30 => ⟨S2x1024, .f32⟩
  | 31 => ⟨S_, .i32⟩
  | 32 => ⟨S2x32x256, .f32⟩
  | 33 => ⟨S2x32x256, .f32⟩
  | 34 => ⟨S128x2x32x256, .f32⟩
  | 35 => ⟨S_, .i32⟩
  | 36 => ⟨S_, .i1⟩
  | 37 => ⟨S_, .i32⟩
  | 38 => ⟨S_, .i32⟩
  | 39 => ⟨S_, .i32⟩
  | 40 => ⟨S1x2x32x256, .f32⟩
  | 41 => ⟨S2x32x256, .f32⟩
  | 42 => ⟨S2x32x1024, .f32⟩
  | 43 => ⟨S2x32x1024, .f32⟩
  | 44 => ⟨S2x32x1024, .f32⟩
  | 45 => ⟨S2x1x1024, .f32⟩
  | 46 => ⟨S2x32x1024, .f32⟩
  | 47 => ⟨S2x32x1024, .f32⟩
  | 48 => ⟨S2x32x256, .f32⟩
  | 49 => ⟨S2x32x256, .f32⟩
  | 50 => ⟨S2x32x256, .f32⟩
  | 51 => ⟨S2x32x256, .f32⟩
  | 52 => ⟨S2x32x256, .f32⟩
  | 53 => ⟨S2x32x256, .f32⟩
  | 54 => ⟨S_, .f32⟩
  | 55 => ⟨S2x32x256, .f32⟩
  | 56 => ⟨S2x32x256, .f32⟩
  | 57 => ⟨S_, .f32⟩
  | 58 => ⟨S2x32x256, .f32⟩
  | 59 => ⟨S2x32x256, .f32⟩
  | 60 => ⟨S2x32x256, .f32⟩
  | 61 => ⟨S2x32x256, .f32⟩
  | 62 => ⟨S2x32x256, .f32⟩
  | 63 => ⟨S_, .f32⟩
  | 64 => ⟨S2x32x256, .f32⟩
  | 65 => ⟨S2x32x256, .f32⟩
  | 66 => ⟨S_, .f32⟩
  | 67 => ⟨S2x32x256, .f32⟩
  | 68 => ⟨S2x32x256, .f32⟩
  | 69 => ⟨S2x32x256, .f32⟩
  | 70 => ⟨S2x32x256, .f32⟩
  | 71 => ⟨S2x32x256, .f32⟩
  | 72 => ⟨S2x32x256, .f32⟩
  | 73 => ⟨S2x32x256, .f32⟩
  | 74 => ⟨S_, .f32⟩
  | 75 => ⟨S2x32x256, .f32⟩
  | 76 => ⟨S2x32x256, .f32⟩
  | 77 => ⟨S_, .f32⟩
  | 78 => ⟨S2x32x256, .f32⟩
  | 79 => ⟨S2x32x256, .f32⟩
  | 80 => ⟨S2x32x256, .f32⟩
  | 81 => ⟨S2x32x256, .f32⟩
  | 82 => ⟨S1x2x32x256, .f32⟩
  | 83 => ⟨S_, .i32⟩
  | 84 => ⟨S_, .i32⟩
  | 85 => ⟨S_, .i32⟩
  | 86 => ⟨S128x2x32x256, .f32⟩
  | 87 => ⟨S_, .i32⟩
  | 88 => ⟨S_, .i32⟩
  | 89 => ⟨S128x1x32x256, .f32⟩
  | 90 => ⟨S128x32x256, .f32⟩
  | 91 => ⟨S128x1x32x256, .f32⟩
  | 92 => ⟨S128x1x32x256, .f32⟩
  | 93 => ⟨S128x32x256, .f32⟩
  | 94 => ⟨S128x32x512, .f32⟩
  | 95 => ⟨S1x2x1024x512, .f32⟩
  | 96 => ⟨S2x1024x512, .f32⟩
  | 97 => ⟨S1x2x1024x256, .f32⟩
  | 98 => ⟨S2x1024x256, .f32⟩
  | 99 => ⟨S1x2x1024, .f32⟩
  | 100 => ⟨S2x1024, .f32⟩
  | 101 => ⟨S_, .f32⟩
  | 102 => ⟨S2x32x256, .f32⟩
  | 103 => ⟨S128x32x512, .f32⟩
  | 104 => ⟨S128x1x32x512, .f32⟩
  | 105 => ⟨S128x1x32x512, .f32⟩
  | 106 => ⟨S128x2x32x512, .f32⟩
  | 107 => ⟨S_, .f32⟩
  | 108 => ⟨S128x2x32x256, .f32⟩
  | 109 => ⟨S_, .i32⟩
  | 110 => ⟨S128x2x32x512, .f32⟩
  | 111 => ⟨S2x1024x512, .f32⟩
  | 112 => ⟨S2x1024x256, .f32⟩
  | 113 => ⟨S2x1024, .f32⟩
  | 114 => ⟨S_, .i32⟩
  | 115 => ⟨S2x32x256, .f32⟩
  | 116 => ⟨S2x32x256, .f32⟩
  | 117 => ⟨S128x2x32x256, .f32⟩
  | 118 => ⟨S_, .i32⟩
  | 119 => ⟨S_, .i1⟩
  | 120 => ⟨S_, .i32⟩
  | 121 => ⟨S_, .i32⟩
  | 122 => ⟨S_, .i32⟩
  | 123 => ⟨S1x2x32x512, .f32⟩
  | 124 => ⟨S2x32x512, .f32⟩
  | 125 => ⟨S2x32x1024, .f32⟩
  | 126 => ⟨S2x32x1024, .f32⟩
  | 127 => ⟨S2x32x1024, .f32⟩
  | _ => ⟨S32x128, .i32⟩

abbrev hbmTy0_1 (i : Nat) : BufTy := match i % 128 with
  | 0 => ⟨S2x1x1024, .f32⟩
  | 1 => ⟨S2x32x1024, .f32⟩
  | 2 => ⟨S2x32x1024, .f32⟩
  | 3 => ⟨S2x32x256, .f32⟩
  | 4 => ⟨S2x32x256, .f32⟩
  | 5 => ⟨S2x32x256, .f32⟩
  | 6 => ⟨S2x32x256, .f32⟩
  | 7 => ⟨S2x32x256, .f32⟩
  | 8 => ⟨S2x32x256, .f32⟩
  | 9 => ⟨S_, .f32⟩
  | 10 => ⟨S2x32x256, .f32⟩
  | 11 => ⟨S2x32x256, .f32⟩
  | 12 => ⟨S_, .f32⟩
  | 13 => ⟨S2x32x256, .f32⟩
  | 14 => ⟨S2x32x256, .f32⟩
  | 15 => ⟨S2x32x256, .f32⟩
  | 16 => ⟨S2x32x256, .f32⟩
  | 17 => ⟨S2x32x256, .f32⟩
  | 18 => ⟨S_, .f32⟩
  | 19 => ⟨S2x32x256, .f32⟩
  | 20 => ⟨S2x32x256, .f32⟩
  | 21 => ⟨S_, .f32⟩
  | 22 => ⟨S2x32x256, .f32⟩
  | 23 => ⟨S2x32x256, .f32⟩
  | 24 => ⟨S2x32x256, .f32⟩
  | 25 => ⟨S2x32x256, .f32⟩
  | 26 => ⟨S2x32x256, .f32⟩
  | 27 => ⟨S2x32x256, .f32⟩
  | 28 => ⟨S2x32x256, .f32⟩
  | 29 => ⟨S_, .f32⟩
  | 30 => ⟨S2x32x256, .f32⟩
  | 31 => ⟨S2x32x256, .f32⟩
  | 32 => ⟨S_, .f32⟩
  | 33 => ⟨S2x32x256, .f32⟩
  | 34 => ⟨S2x32x256, .f32⟩
  | 35 => ⟨S2x32x256, .f32⟩
  | 36 => ⟨S2x32x256, .f32⟩
  | 37 => ⟨S1x2x32x256, .f32⟩
  | 38 => ⟨S_, .i32⟩
  | 39 => ⟨S_, .i32⟩
  | 40 => ⟨S_, .i32⟩
  | 41 => ⟨S128x2x32x256, .f32⟩
  | 42 => ⟨S_, .i32⟩
  | 43 => ⟨S_, .i32⟩
  | 44 => ⟨S128x1x32x256, .f32⟩
  | 45 => ⟨S128x32x256, .f32⟩
  | 46 => ⟨S128x1x32x256, .f32⟩
  | 47 => ⟨S128x1x32x256, .f32⟩
  | 48 => ⟨S128x32x256, .f32⟩
  | 49 => ⟨S128x32x512, .f32⟩
  | 50 => ⟨S1x2x1024x512, .f32⟩
  | 51 => ⟨S2x1024x512, .f32⟩
  | 52 => ⟨S1x2x1024x256, .f32⟩
  | 53 => ⟨S2x1024x256, .f32⟩
  | 54 => ⟨S1x2x1024, .f32⟩
  | 55 => ⟨S2x1024, .f32⟩
  | 56 => ⟨S_, .f32⟩
  | 57 => ⟨S2x32x256, .f32⟩
  | 58 => ⟨S128x32x512, .f32⟩
  | 59 => ⟨S128x1x32x512, .f32⟩
  | 60 => ⟨S128x1x32x512, .f32⟩
  | 61 => ⟨S128x2x32x512, .f32⟩
  | 62 => ⟨S_, .f32⟩
  | 63 => ⟨S128x2x32x256, .f32⟩
  | 64 => ⟨S_, .i32⟩
  | 65 => ⟨S128x2x32x512, .f32⟩
  | 66 => ⟨S2x1024x512, .f32⟩
  | 67 => ⟨S2x1024x256, .f32⟩
  | 68 => ⟨S2x1024, .f32⟩
  | 69 => ⟨S_, .i32⟩
  | 70 => ⟨S2x32x256, .f32⟩
  | 71 => ⟨S2x32x256, .f32⟩
  | 72 => ⟨S128x2x32x256, .f32⟩
  | 73 => ⟨S_, .i32⟩
  | 74 => ⟨S_, .i1⟩
  | 75 => ⟨S_, .i32⟩
  | 76 => ⟨S_, .i32⟩
  | 77 => ⟨S_, .i32⟩
  | 78 => ⟨S1x2x32x512, .f32⟩
  | 79 => ⟨S2x32x512, .f32⟩
  | 80 => ⟨S2x32x1024, .f32⟩
  | 81 => ⟨S2x32x1024, .f32⟩
  | 82 => ⟨S2x32x1024, .f32⟩
  | 83 => ⟨S2x1x1024, .f32⟩
  | 84 => ⟨S2x32x1024, .f32⟩
  | 85 => ⟨S2x32x1024, .f32⟩
  | 86 => ⟨S2x32x256, .f32⟩
  | 87 => ⟨S2x32x256, .f32⟩
  | 88 => ⟨S2x32x256, .f32⟩
  | 89 => ⟨S2x32x256, .f32⟩
  | 90 => ⟨S2x32x256, .f32⟩
  | 91 => ⟨S2x32x256, .f32⟩
  | 92 => ⟨S_, .f32⟩
  | 93 => ⟨S2x32x256, .f32⟩
  | 94 => ⟨S2x32x256, .f32⟩
  | 95 => ⟨S_, .f32⟩
  | 96 => ⟨S2x32x256, .f32⟩
  | 97 => ⟨S2x32x256, .f32⟩
  | 98 => ⟨S2x32x256, .f32⟩
  | 99 => ⟨S2x32x256, .f32⟩
  | 100 => ⟨S2x32x256, .f32⟩
  | 101 => ⟨S_, .f32⟩
  | 102 => ⟨S2x32x256, .f32⟩
  | 103 => ⟨S2x32x256, .f32⟩
  | 104 => ⟨S_, .f32⟩
  | 105 => ⟨S2x32x256, .f32⟩
  | 106 => ⟨S2x32x256, .f32⟩
  | 107 => ⟨S2x32x256, .f32⟩
  | 108 => ⟨S2x32x256, .f32⟩
  | 109 => ⟨S2x32x256, .f32⟩
  | 110 => ⟨S2x32x256, .f32⟩
  | 111 => ⟨S2x32x256, .f32⟩
  | 112 => ⟨S_, .f32⟩
  | 113 => ⟨S2x32x256, .f32⟩
  | 114 => ⟨S2x32x256, .f32⟩
  | 115 => ⟨S_, .f32⟩
  | 116 => ⟨S2x32x256, .f32⟩
  | 117 => ⟨S2x32x256, .f32⟩
  | 118 => ⟨S2x32x256, .f32⟩
  | 119 => ⟨S2x32x256, .f32⟩
  | 120 => ⟨S1x2x32x256, .f32⟩
  | 121 => ⟨S_, .i32⟩
  | 122 => ⟨S_, .i32⟩
  | 123 => ⟨S_, .i32⟩
  | 124 => ⟨S128x2x32x256, .f32⟩
  | 125 => ⟨S_, .i32⟩
  | 126 => ⟨S_, .i32⟩
  | 127 => ⟨S128x1x32x256, .f32⟩
  | _ => ⟨S32x128, .i32⟩

abbrev hbmTy0_2 (i : Nat) : BufTy := match i % 128 with
  | 0 => ⟨S128x32x256, .f32⟩
  | 1 => ⟨S128x1x32x256, .f32⟩
  | 2 => ⟨S128x1x32x256, .f32⟩
  | 3 => ⟨S128x32x256, .f32⟩
  | 4 => ⟨S128x32x512, .f32⟩
  | 5 => ⟨S1x32x256, .f32⟩
  | 6 => ⟨S32x256, .f32⟩
  | 7 => ⟨S1x32x256, .f32⟩
  | 8 => ⟨S32x256, .f32⟩
  | 9 => ⟨S32x512, .f32⟩
  | 10 => ⟨S1x32x256, .f32⟩
  | 11 => ⟨S32x256, .f32⟩
  | 12 => ⟨S1x32x256, .f32⟩
  | 13 => ⟨S32x256, .f32⟩
  | 14 => ⟨S32x512, .f32⟩
  | 15 => ⟨S1x32x256, .f32⟩
  | 16 => ⟨S32x256, .f32⟩
  | 17 => ⟨S1x32x256, .f32⟩
  | 18 => ⟨S32x256, .f32⟩
  | 19 => ⟨S32x512, .f32⟩
  | 20 => ⟨S1x32x512, .f32⟩
  | 21 => ⟨S1x32x512, .f32⟩
  | 22 => ⟨S1x32x512, .f32⟩
  | 23 => ⟨S3x32x512, .f32⟩
  | 24 => ⟨S1x32x256, .f32⟩
  | 25 => ⟨S32x256, .f32⟩
  | 26 => ⟨S1x32x256, .f32⟩
  | 27 => ⟨S32x256, .f32⟩
  | 28 => ⟨S32x512, .f32⟩
  | 29 => ⟨S1x32x256, .f32⟩
  | 30 => ⟨S32x256, .f32⟩
  | 31 => ⟨S1x32x256, .f32⟩
  | 32 => ⟨S32x256, .f32⟩
  | 33 => ⟨S32x512, .f32⟩
  | 34 => ⟨S1x32x256, .f32⟩
  | 35 => ⟨S32x256, .f32⟩
  | 36 => ⟨S1x32x256, .f32⟩
  | 37 => ⟨S32x256, .f32⟩
  | 38 => ⟨S32x512, .f32⟩
  | 39 => ⟨S1x32x512, .f32⟩
  | 40 => ⟨S1x32x512, .f32⟩
  | 41 => ⟨S1x32x512, .f32⟩
  | 42 => ⟨S3x32x512, .f32⟩
  | 43 => ⟨S4096x512, .f32⟩
  | _ => ⟨S32x128, .i32⟩

abbrev hbmTy (i : Nat) : BufTy := match i / 128 with
  | 0 => hbmTy0_0 i
  | 1 => hbmTy0_1 i
  | 2 => hbmTy0_2 i
  | _ => ⟨S32x128, .i32⟩

abbrev bufTy : (tb : Table) → Fin (tcTables nBuf tb) → BufTy
  | .hbm, ⟨i, _⟩ => hbmTy i
  | _, _ => ⟨S32x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_c_2 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev main_v14_3 : Ref sig .tc := ⟨.hbm, 30, rfl⟩
abbrev main_v14_4 : Ref sig .tc := ⟨.hbm, 31, rfl⟩
abbrev main_v14_5 : Ref sig .tc := ⟨.hbm, 32, rfl⟩
abbrev main_v14_6 : Ref sig .tc := ⟨.hbm, 33, rfl⟩
abbrev main_v14_7 : Ref sig .tc := ⟨.hbm, 34, rfl⟩
abbrev main_while0c_c_16 : Ref sig .tc := ⟨.hbm, 35, rfl⟩
abbrev main_while0c_v98 : Ref sig .tc := ⟨.hbm, 36, rfl⟩
abbrev main_while0b_call0_c : Ref sig .tc := ⟨.hbm, 37, rfl⟩
abbrev main_while0b_call0_c_0 : Ref sig .tc := ⟨.hbm, 38, rfl⟩
abbrev main_while0b_call0_c_1 : Ref sig .tc := ⟨.hbm, 39, rfl⟩
abbrev main_while0b_call0_v0 : Ref sig .tc := ⟨.hbm, 40, rfl⟩
abbrev main_while0b_v98 : Ref sig .tc := ⟨.hbm, 41, rfl⟩
abbrev main_while0b_v99 : Ref sig .tc := ⟨.hbm, 42, rfl⟩
abbrev main_while0b_v100 : Ref sig .tc := ⟨.hbm, 43, rfl⟩
abbrev main_while0b_v101 : Ref sig .tc := ⟨.hbm, 44, rfl⟩
abbrev main_while0b_v102 : Ref sig .tc := ⟨.hbm, 45, rfl⟩
abbrev main_while0b_v103 : Ref sig .tc := ⟨.hbm, 46, rfl⟩
abbrev main_while0b_v104 : Ref sig .tc := ⟨.hbm, 47, rfl⟩
abbrev main_while0b_v105 : Ref sig .tc := ⟨.hbm, 48, rfl⟩
abbrev main_while0b_v106 : Ref sig .tc := ⟨.hbm, 49, rfl⟩
abbrev main_while0b_v107 : Ref sig .tc := ⟨.hbm, 50, rfl⟩
abbrev main_while0b_v108 : Ref sig .tc := ⟨.hbm, 51, rfl⟩
abbrev main_while0b_v109 : Ref sig .tc := ⟨.hbm, 52, rfl⟩
abbrev main_while0b_v110 : Ref sig .tc := ⟨.hbm, 53, rfl⟩
abbrev main_while0b_cst_16 : Ref sig .tc := ⟨.hbm, 54, rfl⟩
abbrev main_while0b_v111 : Ref sig .tc := ⟨.hbm, 55, rfl⟩
abbrev main_while0b_v112 : Ref sig .tc := ⟨.hbm, 56, rfl⟩
abbrev main_while0b_cst_17 : Ref sig .tc := ⟨.hbm, 57, rfl⟩
abbrev main_while0b_v113 : Ref sig .tc := ⟨.hbm, 58, rfl⟩
abbrev main_while0b_v114 : Ref sig .tc := ⟨.hbm, 59, rfl⟩
abbrev main_while0b_v115 : Ref sig .tc := ⟨.hbm, 60, rfl⟩
abbrev main_while0b_v116 : Ref sig .tc := ⟨.hbm, 61, rfl⟩
abbrev main_while0b_v117 : Ref sig .tc := ⟨.hbm, 62, rfl⟩
abbrev main_while0b_cst_18 : Ref sig .tc := ⟨.hbm, 63, rfl⟩
abbrev main_while0b_v118 : Ref sig .tc := ⟨.hbm, 64, rfl⟩
abbrev main_while0b_v119 : Ref sig .tc := ⟨.hbm, 65, rfl⟩
abbrev main_while0b_cst_19 : Ref sig .tc := ⟨.hbm, 66, rfl⟩
abbrev main_while0b_v120 : Ref sig .tc := ⟨.hbm, 67, rfl⟩
abbrev main_while0b_v121 : Ref sig .tc := ⟨.hbm, 68, rfl⟩
abbrev main_while0b_v122 : Ref sig .tc := ⟨.hbm, 69, rfl⟩
abbrev main_while0b_v123 : Ref sig .tc := ⟨.hbm, 70, rfl⟩
abbrev main_while0b_v124 : Ref sig .tc := ⟨.hbm, 71, rfl⟩
abbrev main_while0b_v125 : Ref sig .tc := ⟨.hbm, 72, rfl⟩
abbrev main_while0b_v126 : Ref sig .tc := ⟨.hbm, 73, rfl⟩
abbrev main_while0b_cst_20 : Ref sig .tc := ⟨.hbm, 74, rfl⟩
abbrev main_while0b_v127 : Ref sig .tc := ⟨.hbm, 75, rfl⟩
abbrev main_while0b_v128 : Ref sig .tc := ⟨.hbm, 76, rfl⟩
abbrev main_while0b_cst_21 : Ref sig .tc := ⟨.hbm, 77, rfl⟩
abbrev main_while0b_v129 : Ref sig .tc := ⟨.hbm, 78, rfl⟩
abbrev main_while0b_v130 : Ref sig .tc := ⟨.hbm, 79, rfl⟩
abbrev main_while0b_v131 : Ref sig .tc := ⟨.hbm, 80, rfl⟩
abbrev main_while0b_v132 : Ref sig .tc := ⟨.hbm, 81, rfl⟩
abbrev main_while0b_call1_v0 : Ref sig .tc := ⟨.hbm, 82, rfl⟩
abbrev main_while0b_call1_c : Ref sig .tc := ⟨.hbm, 83, rfl⟩
abbrev main_while0b_call1_c_0 : Ref sig .tc := ⟨.hbm, 84, rfl⟩
abbrev main_while0b_call1_c_1 : Ref sig .tc := ⟨.hbm, 85, rfl⟩
abbrev main_while0b_v133 : Ref sig .tc := ⟨.hbm, 86, rfl⟩
abbrev main_while0b_c_22 : Ref sig .tc := ⟨.hbm, 87, rfl⟩
abbrev main_while0b_v134 : Ref sig .tc := ⟨.hbm, 88, rfl⟩
abbrev main_v15 : Ref sig .tc := ⟨.hbm, 89, rfl⟩
abbrev main_v16 : Ref sig .tc := ⟨.hbm, 90, rfl⟩
abbrev main_v17 : Ref sig .tc := ⟨.hbm, 91, rfl⟩
abbrev main_v18 : Ref sig .tc := ⟨.hbm, 92, rfl⟩
abbrev main_v19 : Ref sig .tc := ⟨.hbm, 93, rfl⟩
abbrev main_v20 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩
abbrev main_cst_3 : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_v31 : Ref sig .tc := ⟨.hbm, 106, rfl⟩
abbrev main_cst_4 : Ref sig .tc := ⟨.hbm, 107, rfl⟩
abbrev main_v32 : Ref sig .tc := ⟨.hbm, 108, rfl⟩
abbrev main_c_5 : Ref sig .tc := ⟨.hbm, 109, rfl⟩
abbrev main_v33_0 : Ref sig .tc := ⟨.hbm, 110, rfl⟩
abbrev main_v33_1 : Ref sig .tc := ⟨.hbm, 111, rfl⟩
abbrev main_v33_2 : Ref sig .tc := ⟨.hbm, 112, rfl⟩
abbrev main_v33_3 : Ref sig .tc := ⟨.hbm, 113, rfl⟩
abbrev main_v33_4 : Ref sig .tc := ⟨.hbm, 114, rfl⟩
abbrev main_v33_5 : Ref sig .tc := ⟨.hbm, 115, rfl⟩
abbrev main_v33_6 : Ref sig .tc := ⟨.hbm, 116, rfl⟩
abbrev main_v33_7 : Ref sig .tc := ⟨.hbm, 117, rfl⟩
abbrev main_while1c_c_16 : Ref sig .tc := ⟨.hbm, 118, rfl⟩
abbrev main_while1c_v98 : Ref sig .tc := ⟨.hbm, 119, rfl⟩
abbrev main_while1b_call2_c : Ref sig .tc := ⟨.hbm, 120, rfl⟩
abbrev main_while1b_call2_c_0 : Ref sig .tc := ⟨.hbm, 121, rfl⟩
abbrev main_while1b_call2_c_1 : Ref sig .tc := ⟨.hbm, 122, rfl⟩
abbrev main_while1b_call2_v0 : Ref sig .tc := ⟨.hbm, 123, rfl⟩
abbrev main_while1b_v98 : Ref sig .tc := ⟨.hbm, 124, rfl⟩
abbrev main_while1b_v99 : Ref sig .tc := ⟨.hbm, 125, rfl⟩
abbrev main_while1b_v100 : Ref sig .tc := ⟨.hbm, 126, rfl⟩
abbrev main_while1b_v101 : Ref sig .tc := ⟨.hbm, 127, rfl⟩
abbrev main_while1b_v102 : Ref sig .tc := ⟨.hbm, 128, rfl⟩
abbrev main_while1b_v103 : Ref sig .tc := ⟨.hbm, 129, rfl⟩
abbrev main_while1b_v104 : Ref sig .tc := ⟨.hbm, 130, rfl⟩
abbrev main_while1b_v105 : Ref sig .tc := ⟨.hbm, 131, rfl⟩
abbrev main_while1b_v106 : Ref sig .tc := ⟨.hbm, 132, rfl⟩
abbrev main_while1b_v107 : Ref sig .tc := ⟨.hbm, 133, rfl⟩
abbrev main_while1b_v108 : Ref sig .tc := ⟨.hbm, 134, rfl⟩
abbrev main_while1b_v109 : Ref sig .tc := ⟨.hbm, 135, rfl⟩
abbrev main_while1b_v110 : Ref sig .tc := ⟨.hbm, 136, rfl⟩
abbrev main_while1b_cst_16 : Ref sig .tc := ⟨.hbm, 137, rfl⟩
abbrev main_while1b_v111 : Ref sig .tc := ⟨.hbm, 138, rfl⟩
abbrev main_while1b_v112 : Ref sig .tc := ⟨.hbm, 139, rfl⟩
abbrev main_while1b_cst_17 : Ref sig .tc := ⟨.hbm, 140, rfl⟩
abbrev main_while1b_v113 : Ref sig .tc := ⟨.hbm, 141, rfl⟩
abbrev main_while1b_v114 : Ref sig .tc := ⟨.hbm, 142, rfl⟩
abbrev main_while1b_v115 : Ref sig .tc := ⟨.hbm, 143, rfl⟩
abbrev main_while1b_v116 : Ref sig .tc := ⟨.hbm, 144, rfl⟩
abbrev main_while1b_v117 : Ref sig .tc := ⟨.hbm, 145, rfl⟩
abbrev main_while1b_cst_18 : Ref sig .tc := ⟨.hbm, 146, rfl⟩
abbrev main_while1b_v118 : Ref sig .tc := ⟨.hbm, 147, rfl⟩
abbrev main_while1b_v119 : Ref sig .tc := ⟨.hbm, 148, rfl⟩
abbrev main_while1b_cst_19 : Ref sig .tc := ⟨.hbm, 149, rfl⟩
abbrev main_while1b_v120 : Ref sig .tc := ⟨.hbm, 150, rfl⟩
abbrev main_while1b_v121 : Ref sig .tc := ⟨.hbm, 151, rfl⟩
abbrev main_while1b_v122 : Ref sig .tc := ⟨.hbm, 152, rfl⟩
abbrev main_while1b_v123 : Ref sig .tc := ⟨.hbm, 153, rfl⟩
abbrev main_while1b_v124 : Ref sig .tc := ⟨.hbm, 154, rfl⟩
abbrev main_while1b_v125 : Ref sig .tc := ⟨.hbm, 155, rfl⟩
abbrev main_while1b_v126 : Ref sig .tc := ⟨.hbm, 156, rfl⟩
abbrev main_while1b_cst_20 : Ref sig .tc := ⟨.hbm, 157, rfl⟩
abbrev main_while1b_v127 : Ref sig .tc := ⟨.hbm, 158, rfl⟩
abbrev main_while1b_v128 : Ref sig .tc := ⟨.hbm, 159, rfl⟩
abbrev main_while1b_cst_21 : Ref sig .tc := ⟨.hbm, 160, rfl⟩
abbrev main_while1b_v129 : Ref sig .tc := ⟨.hbm, 161, rfl⟩
abbrev main_while1b_v130 : Ref sig .tc := ⟨.hbm, 162, rfl⟩
abbrev main_while1b_v131 : Ref sig .tc := ⟨.hbm, 163, rfl⟩
abbrev main_while1b_v132 : Ref sig .tc := ⟨.hbm, 164, rfl⟩
abbrev main_while1b_call3_v0 : Ref sig .tc := ⟨.hbm, 165, rfl⟩
abbrev main_while1b_call3_c : Ref sig .tc := ⟨.hbm, 166, rfl⟩
abbrev main_while1b_call3_c_0 : Ref sig .tc := ⟨.hbm, 167, rfl⟩
abbrev main_while1b_call3_c_1 : Ref sig .tc := ⟨.hbm, 168, rfl⟩
abbrev main_while1b_v133 : Ref sig .tc := ⟨.hbm, 169, rfl⟩
abbrev main_while1b_c_22 : Ref sig .tc := ⟨.hbm, 170, rfl⟩
abbrev main_while1b_v134 : Ref sig .tc := ⟨.hbm, 171, rfl⟩
abbrev main_v34 : Ref sig .tc := ⟨.hbm, 172, rfl⟩
abbrev main_v35 : Ref sig .tc := ⟨.hbm, 173, rfl⟩
abbrev main_v36 : Ref sig .tc := ⟨.hbm, 174, rfl⟩
abbrev main_v37 : Ref sig .tc := ⟨.hbm, 175, rfl⟩
abbrev main_v38 : Ref sig .tc := ⟨.hbm, 176, rfl⟩
abbrev main_v39 : Ref sig .tc := ⟨.hbm, 177, rfl⟩
abbrev main_v40 : Ref sig .tc := ⟨.hbm, 178, rfl⟩
abbrev main_v41 : Ref sig .tc := ⟨.hbm, 179, rfl⟩
abbrev main_v42 : Ref sig .tc := ⟨.hbm, 180, rfl⟩
abbrev main_v43 : Ref sig .tc := ⟨.hbm, 181, rfl⟩
abbrev main_v44 : Ref sig .tc := ⟨.hbm, 182, rfl⟩
abbrev main_v45 : Ref sig .tc := ⟨.hbm, 183, rfl⟩
abbrev main_cst_6 : Ref sig .tc := ⟨.hbm, 184, rfl⟩
abbrev main_v46 : Ref sig .tc := ⟨.hbm, 185, rfl⟩
abbrev main_v47 : Ref sig .tc := ⟨.hbm, 186, rfl⟩
abbrev main_v48 : Ref sig .tc := ⟨.hbm, 187, rfl⟩
abbrev main_v49 : Ref sig .tc := ⟨.hbm, 188, rfl⟩
abbrev main_v50 : Ref sig .tc := ⟨.hbm, 189, rfl⟩
abbrev main_cst_7 : Ref sig .tc := ⟨.hbm, 190, rfl⟩
abbrev main_v51 : Ref sig .tc := ⟨.hbm, 191, rfl⟩
abbrev main_c_8 : Ref sig .tc := ⟨.hbm, 192, rfl⟩
abbrev main_v52_0 : Ref sig .tc := ⟨.hbm, 193, rfl⟩
abbrev main_v52_1 : Ref sig .tc := ⟨.hbm, 194, rfl⟩
abbrev main_v52_2 : Ref sig .tc := ⟨.hbm, 195, rfl⟩
abbrev main_v52_3 : Ref sig .tc := ⟨.hbm, 196, rfl⟩
abbrev main_v52_4 : Ref sig .tc := ⟨.hbm, 197, rfl⟩
abbrev main_v52_5 : Ref sig .tc := ⟨.hbm, 198, rfl⟩
abbrev main_v52_6 : Ref sig .tc := ⟨.hbm, 199, rfl⟩
abbrev main_v52_7 : Ref sig .tc := ⟨.hbm, 200, rfl⟩
abbrev main_while2c_c_16 : Ref sig .tc := ⟨.hbm, 201, rfl⟩
abbrev main_while2c_v98 : Ref sig .tc := ⟨.hbm, 202, rfl⟩
abbrev main_while2b_call4_c : Ref sig .tc := ⟨.hbm, 203, rfl⟩
abbrev main_while2b_call4_c_0 : Ref sig .tc := ⟨.hbm, 204, rfl⟩
abbrev main_while2b_call4_c_1 : Ref sig .tc := ⟨.hbm, 205, rfl⟩
abbrev main_while2b_call4_v0 : Ref sig .tc := ⟨.hbm, 206, rfl⟩
abbrev main_while2b_v98 : Ref sig .tc := ⟨.hbm, 207, rfl⟩
abbrev main_while2b_v99 : Ref sig .tc := ⟨.hbm, 208, rfl⟩
abbrev main_while2b_v100 : Ref sig .tc := ⟨.hbm, 209, rfl⟩
abbrev main_while2b_v101 : Ref sig .tc := ⟨.hbm, 210, rfl⟩
abbrev main_while2b_v102 : Ref sig .tc := ⟨.hbm, 211, rfl⟩
abbrev main_while2b_v103 : Ref sig .tc := ⟨.hbm, 212, rfl⟩
abbrev main_while2b_v104 : Ref sig .tc := ⟨.hbm, 213, rfl⟩
abbrev main_while2b_v105 : Ref sig .tc := ⟨.hbm, 214, rfl⟩
abbrev main_while2b_v106 : Ref sig .tc := ⟨.hbm, 215, rfl⟩
abbrev main_while2b_v107 : Ref sig .tc := ⟨.hbm, 216, rfl⟩
abbrev main_while2b_v108 : Ref sig .tc := ⟨.hbm, 217, rfl⟩
abbrev main_while2b_v109 : Ref sig .tc := ⟨.hbm, 218, rfl⟩
abbrev main_while2b_v110 : Ref sig .tc := ⟨.hbm, 219, rfl⟩
abbrev main_while2b_cst_16 : Ref sig .tc := ⟨.hbm, 220, rfl⟩
abbrev main_while2b_v111 : Ref sig .tc := ⟨.hbm, 221, rfl⟩
abbrev main_while2b_v112 : Ref sig .tc := ⟨.hbm, 222, rfl⟩
abbrev main_while2b_cst_17 : Ref sig .tc := ⟨.hbm, 223, rfl⟩
abbrev main_while2b_v113 : Ref sig .tc := ⟨.hbm, 224, rfl⟩
abbrev main_while2b_v114 : Ref sig .tc := ⟨.hbm, 225, rfl⟩
abbrev main_while2b_v115 : Ref sig .tc := ⟨.hbm, 226, rfl⟩
abbrev main_while2b_v116 : Ref sig .tc := ⟨.hbm, 227, rfl⟩
abbrev main_while2b_v117 : Ref sig .tc := ⟨.hbm, 228, rfl⟩
abbrev main_while2b_cst_18 : Ref sig .tc := ⟨.hbm, 229, rfl⟩
abbrev main_while2b_v118 : Ref sig .tc := ⟨.hbm, 230, rfl⟩
abbrev main_while2b_v119 : Ref sig .tc := ⟨.hbm, 231, rfl⟩
abbrev main_while2b_cst_19 : Ref sig .tc := ⟨.hbm, 232, rfl⟩
abbrev main_while2b_v120 : Ref sig .tc := ⟨.hbm, 233, rfl⟩
abbrev main_while2b_v121 : Ref sig .tc := ⟨.hbm, 234, rfl⟩
abbrev main_while2b_v122 : Ref sig .tc := ⟨.hbm, 235, rfl⟩
abbrev main_while2b_v123 : Ref sig .tc := ⟨.hbm, 236, rfl⟩
abbrev main_while2b_v124 : Ref sig .tc := ⟨.hbm, 237, rfl⟩
abbrev main_while2b_v125 : Ref sig .tc := ⟨.hbm, 238, rfl⟩
abbrev main_while2b_v126 : Ref sig .tc := ⟨.hbm, 239, rfl⟩
abbrev main_while2b_cst_20 : Ref sig .tc := ⟨.hbm, 240, rfl⟩
abbrev main_while2b_v127 : Ref sig .tc := ⟨.hbm, 241, rfl⟩
abbrev main_while2b_v128 : Ref sig .tc := ⟨.hbm, 242, rfl⟩
abbrev main_while2b_cst_21 : Ref sig .tc := ⟨.hbm, 243, rfl⟩
abbrev main_while2b_v129 : Ref sig .tc := ⟨.hbm, 244, rfl⟩
abbrev main_while2b_v130 : Ref sig .tc := ⟨.hbm, 245, rfl⟩
abbrev main_while2b_v131 : Ref sig .tc := ⟨.hbm, 246, rfl⟩
abbrev main_while2b_v132 : Ref sig .tc := ⟨.hbm, 247, rfl⟩
abbrev main_while2b_call5_v0 : Ref sig .tc := ⟨.hbm, 248, rfl⟩
abbrev main_while2b_call5_c : Ref sig .tc := ⟨.hbm, 249, rfl⟩
abbrev main_while2b_call5_c_0 : Ref sig .tc := ⟨.hbm, 250, rfl⟩
abbrev main_while2b_call5_c_1 : Ref sig .tc := ⟨.hbm, 251, rfl⟩
abbrev main_while2b_v133 : Ref sig .tc := ⟨.hbm, 252, rfl⟩
abbrev main_while2b_c_22 : Ref sig .tc := ⟨.hbm, 253, rfl⟩
abbrev main_while2b_v134 : Ref sig .tc := ⟨.hbm, 254, rfl⟩
abbrev main_v53 : Ref sig .tc := ⟨.hbm, 255, rfl⟩
abbrev main_v54 : Ref sig .tc := ⟨.hbm, 256, rfl⟩
abbrev main_v55 : Ref sig .tc := ⟨.hbm, 257, rfl⟩
abbrev main_v56 : Ref sig .tc := ⟨.hbm, 258, rfl⟩
abbrev main_v57 : Ref sig .tc := ⟨.hbm, 259, rfl⟩
abbrev main_v58 : Ref sig .tc := ⟨.hbm, 260, rfl⟩
abbrev main_v59 : Ref sig .tc := ⟨.hbm, 261, rfl⟩
abbrev main_v60 : Ref sig .tc := ⟨.hbm, 262, rfl⟩
abbrev main_v61 : Ref sig .tc := ⟨.hbm, 263, rfl⟩
abbrev main_v62 : Ref sig .tc := ⟨.hbm, 264, rfl⟩
abbrev main_v63 : Ref sig .tc := ⟨.hbm, 265, rfl⟩
abbrev main_v64 : Ref sig .tc := ⟨.hbm, 266, rfl⟩
abbrev main_v65 : Ref sig .tc := ⟨.hbm, 267, rfl⟩
abbrev main_v66 : Ref sig .tc := ⟨.hbm, 268, rfl⟩
abbrev main_v67 : Ref sig .tc := ⟨.hbm, 269, rfl⟩
abbrev main_v68 : Ref sig .tc := ⟨.hbm, 270, rfl⟩
abbrev main_v69 : Ref sig .tc := ⟨.hbm, 271, rfl⟩
abbrev main_v70 : Ref sig .tc := ⟨.hbm, 272, rfl⟩
abbrev main_v71 : Ref sig .tc := ⟨.hbm, 273, rfl⟩
abbrev main_v72 : Ref sig .tc := ⟨.hbm, 274, rfl⟩
abbrev main_v73 : Ref sig .tc := ⟨.hbm, 275, rfl⟩
abbrev main_v74 : Ref sig .tc := ⟨.hbm, 276, rfl⟩
abbrev main_v75 : Ref sig .tc := ⟨.hbm, 277, rfl⟩
abbrev main_v76 : Ref sig .tc := ⟨.hbm, 278, rfl⟩
abbrev main_v77 : Ref sig .tc := ⟨.hbm, 279, rfl⟩
abbrev main_v78 : Ref sig .tc := ⟨.hbm, 280, rfl⟩
abbrev main_v79 : Ref sig .tc := ⟨.hbm, 281, rfl⟩
abbrev main_v80 : Ref sig .tc := ⟨.hbm, 282, rfl⟩
abbrev main_v81 : Ref sig .tc := ⟨.hbm, 283, rfl⟩
abbrev main_v82 : Ref sig .tc := ⟨.hbm, 284, rfl⟩
abbrev main_v83 : Ref sig .tc := ⟨.hbm, 285, rfl⟩
abbrev main_v84 : Ref sig .tc := ⟨.hbm, 286, rfl⟩
abbrev main_v85 : Ref sig .tc := ⟨.hbm, 287, rfl⟩
abbrev main_v86 : Ref sig .tc := ⟨.hbm, 288, rfl⟩
abbrev main_v87 : Ref sig .tc := ⟨.hbm, 289, rfl⟩
abbrev main_v88 : Ref sig .tc := ⟨.hbm, 290, rfl⟩
abbrev main_v89 : Ref sig .tc := ⟨.hbm, 291, rfl⟩
abbrev main_v90 : Ref sig .tc := ⟨.hbm, 292, rfl⟩
abbrev main_v91 : Ref sig .tc := ⟨.hbm, 293, rfl⟩
abbrev main_v92 : Ref sig .tc := ⟨.hbm, 294, rfl⟩
abbrev main_v93 : Ref sig .tc := ⟨.hbm, 295, rfl⟩
abbrev main_v94 : Ref sig .tc := ⟨.hbm, 296, rfl⟩
abbrev main_v95 : Ref sig .tc := ⟨.hbm, 297, rfl⟩
abbrev main_v96 : Ref sig .tc := ⟨.hbm, 298, rfl⟩
abbrev main_v97 : Ref sig .tc := ⟨.hbm, 299, rfl⟩

abbrev nD : Nat := 1
abbrev τ : Topo := Topo.v7x

variable {F : FTy → Type} [FloatOps F]

abbrev main_while0_count : Scf.Loop 32 := ⟨0#32, 128#32, 1#32⟩

abbrev main_while1_count : Scf.Loop 32 := ⟨0#32, 128#32, 1#32⟩

abbrev main_while2_count : Scf.Loop 32 := ⟨0#32, 128#32, 1#32⟩
-- ==== Proof.Projection.lean ====
/-
  What the output projection computes: the array of logits is, row by row and word by word, the inner product of a hidden
  state with a row of the output matrix plus the bias; and so is the reference's array.
-/
module

public import proofs.«01_k».proof.Defs
public import proofs.«01_k».proof.Proof.Gen.KernelIdeal.Value
public import proofs.«01_k».proof.Proof.Gen.ReferenceIdeal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelIdeal.Projection

open Cert.KernelIdeal Cert.KernelIdeal.Gen Cert.KernelIdeal.Value Idealize.ShloMosaic.Pointwise

/-- The logits from arrays laid out as rows: `∑ k, x r k * w v k + b v`. -/
def logits (x : FVec Ideal S2016x512 .f32) (w : FVec Ideal S32000x512 .bf16) (b : FVec Ideal S1x32000 .f32) :
    FVec Ideal S2016x32000 .f32 :=
  fun i => (∑ k : Fin 512, x (ix2 (i 0) k) * w (ix2 (i 1) k)) + b (ix2 (0 : Fin 1) (i 1))

/-- One block of the product, read at an index. -/
theorem pay_apply (x : Vec Ideal S2016x512 .f32) (w : Vec Ideal S1280x512 .bf16) (b : Vec Ideal S1x1280 .f32)
    (r : Fin 2016) (v : Fin 1280) :
    k0_pay1 x w b (ix2 r v) = (∑ k : Fin 512, x (ix2 r k) * w (ix2 v k)) + b (ix2 (0 : Fin 1) v) := by
  pointwise [k0_pay1]

variable (m : (ℓ : Loc nD τ sig) → Buf (Elt Ideal) ℓ) (ρ : Dev nD → PrngReg)

theorem off_zero : (![0, 0] : Fin 2 → Nat) = fun _ => 0 := funext fun a => by fin_cases a <;> rfl

/-- The windows' blocks, in closed form over the grid: the rows are one block, the matrix, the bias and the result move
    along the vocabulary together. -/
theorem index_closed : ∀ t : Fin grid0.N,
    win0_0.index t 0 = 0 ∧ win0_0.index t 1 = 0 ∧ win0_1.index t 0 = t.val ∧ win0_1.index t 1 = 0
    ∧ win0_2.index t 0 = 0 ∧ win0_2.index t 1 = t.val ∧ win0_3.index t 0 = 0 ∧ win0_3.index t 1 = t.val := by
  decide +kernel

/-- The arrays that the region finds: the transposed rows, the matrix and the bias. -/
abbrev rows (c : Dev nD) : FVec Ideal S2016x512 .f32 := V m c main_v1
abbrev mat (c : Dev nD) : FVec Ideal S32000x512 .bf16 := V m c main_v2
abbrev bias (c : Dev nD) : FVec Ideal S1x32000 .f32 := V m c main_v3

/-- What point `t` writes back is block `t` of the logits. -/
theorem flushed_eq (c : Dev nD) (t : Fin cfg0.N) :
    (dats m 0 c).flushed 3 t = (win0_3.blk t).view.read (Elt Ideal) (logits (rows m c) (mat m c) (bias m c)) := by
  show (cfg0.win 3).cut (grid0.coords t) ((dats m 0 c).after 3 t) = _
  rw [after0_3]
  unfold out0_3
  rw [View.canon_unit_zero off_zero, View.ld_unit_zero off_zero, View.ld_unit_zero off_zero, View.ld_unit_zero off_zero]
  obtain ⟨h00, h01, h10, h11, h20, h21, h30, h31⟩ := index_closed t
  funext (j : S2016x1280.Idx)
  have hj0 : (j 0).val < 2016 := (j 0).isLt
  have hj1 : (j 1).val < 1280 := (j 1).isLt
  have ht : t.val < 25 := lt_of_lt_of_eq t.isLt N_0
  show k0_pay1 (iblk m c 0 t) (iblk m c 1 t) (iblk m c 2 t) j = logits (rows m c) (mat m c) (bias m c) _
  have ej : j = ix2 (n0 := 2016) (n1 := 1280) ⟨(j 0).val, hj0⟩ ⟨(j 1).val, hj1⟩ := by
    funext a; match a with | ⟨0, _⟩ => rfl | ⟨1, _⟩ => rfl
  have e0 (k : Fin 512) : ((win0_0.blk t).view.emb (ix2 (n0 := 2016) (n1 := 512) ⟨(j 0).val, hj0⟩ k) : S2016x512.Idx)
      = ix2 (n0 := 2016) (n1 := 512) ⟨(j 0).val, hj0⟩ k := by
    funext a; apply Fin.ext
    match a with
    | ⟨0, _⟩ => show win0_0.index t 0 * 2016 + 1 * (j 0).val = (j 0).val; rw [h00]; omega
    | ⟨1, _⟩ => show win0_0.index t 1 * 512 + 1 * k.val = k.val; rw [h01]; omega
  have e1 (k : Fin 512) : ((win0_1.blk t).view.emb (ix2 (n0 := 1280) (n1 := 512) ⟨(j 1).val, hj1⟩ k) : S32000x512.Idx)
      = ix2 (n0 := 32000) (n1 := 512) ⟨t.val * 1280 + (j 1).val, by omega⟩ k := by
    funext a; apply Fin.ext
    match a with
    | ⟨0, _⟩ => show win0_1.index t 0 * 1280 + 1 * (j 1).val = t.val * 1280 + (j 1).val; rw [h10]; omega
    | ⟨1, _⟩ => show win0_1.index t 1 * 512 + 1 * k.val = k.val; rw [h11]; omega
  have e2 : ((win0_2.blk t).view.emb (ix2 (n0 := 1) (n1 := 1280) 0 ⟨(j 1).val, hj1⟩) : S1x32000.Idx)
      = ix2 (n0 := 1) (n1 := 32000) 0 ⟨t.val * 1280 + (j 1).val, by omega⟩ := by
    funext a; apply Fin.ext
    match a with
    | ⟨0, _⟩ => show win0_2.index t 0 * 1 + 1 * 0 = 0; rw [h20]
    | ⟨1, _⟩ => show win0_2.index t 1 * 1280 + 1 * (j 1).val = t.val * 1280 + (j 1).val; rw [h21]; omega
  have e3 : ((win0_3.blk t).view.emb j : S2016x32000.Idx)
      = ix2 (n0 := 2016) (n1 := 32000) ⟨(j 0).val, hj0⟩ ⟨t.val * 1280 + (j 1).val, by omega⟩ := by
    funext a; apply Fin.ext
    match a with
    | ⟨0, _⟩ => show win0_3.index t 0 * 2016 + 1 * (j 0).val = (j 0).val; rw [h30]; omega
    | ⟨1, _⟩ => show win0_3.index t 1 * 1280 + 1 * (j 1).val = t.val * 1280 + (j 1).val; rw [h31]; omega
  show k0_pay1 (iblk m c 0 t) (iblk m c 1 t) (iblk m c 2 t) j
    = logits (rows m c) (mat m c) (bias m c) ((win0_3.blk t).view.emb j)
  refine (congrArg (k0_pay1 (iblk m c 0 t) (iblk m c 1 t) (iblk m c 2 t)) ej).trans ((pay_apply _ _ _ _ _).trans ?_)
  rw [e3]
  show (∑ k : Fin 512, rows m c ((win0_0.blk t).view.emb (ix2 (n0 := 2016) (n1 := 512) ⟨(j 0).val, hj0⟩ k))
      * mat m c ((win0_1.blk t).view.emb (ix2 (n0 := 1280) (n1 := 512) ⟨(j 1).val, hj1⟩ k)))
    + bias m c ((win0_2.blk t).view.emb (ix2 (n0 := 1) (n1 := 1280) 0 ⟨(j 1).val, hj1⟩)) = _
  rw [e2]
  simp only [e0, e1]
  rfl

/-- Every element of the result lies in a point's block. -/
theorem mem_blk (t : Fin grid0.N) (i : S2016x32000.Idx) (h : (i 1).val / 1280 = t.val) :
    i ∈ (win0_3.blk t).view.set := by
  obtain ⟨_, _, _, _, _, _, h30, h31⟩ := index_closed t
  have hi0 : (i 0).val < 2016 := (i 0).isLt
  have hi1 : (i 1).val < 32000 := (i 1).isLt
  have hx : ∀ t : Fin grid0.N, win0_3.xsize (grid0.coords t) 0 = 2016 ∧ win0_3.xsize (grid0.coords t) 1 = 1280 := by
    decide +kernel
  obtain ⟨hx0, hx1⟩ := hx t
  show i ∈ ((View.whole main_v4).slice (win0_3.rect t)).set
  rw [View.set_slice_whole, Rect.mem_set_unit]
  intro a
  match a with
  | ⟨0, _⟩ => show win0_3.index t 0 * 2016 ≤ (i 0).val ∧ (i 0).val < win0_3.index t 0 * 2016 + win0_3.xsize (grid0.coords t) 0
              rw [h30, hx0]; omega
  | ⟨1, _⟩ => show win0_3.index t 1 * 1280 ≤ (i 1).val ∧ (i 1).val < win0_3.index t 1 * 1280 + win0_3.xsize (grid0.coords t) 1
              rw [h31, hx1]; omega

theorem cover (i : S2016x32000.Idx) : ∃ t : Fin cfg0.N, (cfg0.win 3).flush t = true ∧ i ∈ (win0_3.blk t).view.set := by
  have hi1 : (i 1).val < 32000 := (i 1).isLt
  exact ⟨⟨(i 1).val / 1280, by show _ < grid0.N; rw [N_0]; omega⟩, flush0_3 _, mem_blk _ i rfl⟩

/-- The result array after the region: the logits of the rows. -/
theorem final (c : Dev nD) : (dats m 0 c).arrAt 3 cfg0.N = logits (rows m c) (mat m c) (bias m c) :=
  (dats m 0 c).arrAt_eq_of_cover 3 _ (fun t _ => flushed_eq m c t) cover

theorem rows_eq (c : Dev nD) : rows m c = shapeCast S2016x512 (transpose S32x63x512 [1, 0, 2]
    (m ((c.tc : Thread nD τ).loc main_arg0) : FVec Ideal S63x32x512 .f32) transposes_S63x32x512_S32x63x512_1_0_2)
    shapeCasts_S32x63x512_S2016x512 := by
  show StableHlo.after hostOps0 (fun b => m (c, b)) main_v1 = _
  after_results <;> rfl

theorem mat_eq (c : Dev nD) : mat m c = (m ((c.tc : Thread nD τ).loc main_arg1) : FVec Ideal S32000x512 .f32) := by
  show StableHlo.after hostOps0 (fun b => m (c, b)) main_v2 = _
  after_results <;> rfl

theorem bias_eq (c : Dev nD) : bias m c = shapeCast S1x32000
    (m ((c.tc : Thread nD τ).loc main_arg2) : FVec Ideal S32000 .f32) shapeCasts_S32000_S1x32000 := by
  show StableHlo.after hostOps0 (fun b => m (c, b)) main_v3 = _
  after_results <;> rfl

/-- The kernel's logits are the reference's term. -/
theorem logits_eq (a0 : FVec Ideal S63x32x512 .f32) (a1 : FVec Ideal S32000x512 .f32) (a2 : FVec Ideal S32000 .f32) :
    logits (shapeCast S2016x512 (transpose S32x63x512 [1, 0, 2] a0 transposes_S63x32x512_S32x63x512_1_0_2)
        shapeCasts_S32x63x512_S2016x512) a1 (shapeCast S1x32000 a2 shapeCasts_S32000_S1x32000)
      = shapeCast _ (transpose Cert.ReferenceIdeal.S32x63x32000 [1, 0, 2] (addf
          (Host.dotGeneral Cert.ReferenceIdeal.dot_S63x32x512_S512x32000_S63x32x32000_2_0_01_1_n_n none a0
            (transpose Cert.ReferenceIdeal.S512x32000 [1, 0] a1 Cert.ReferenceIdeal.Gen.transposes_S32000x512_S512x32000_1_0))
          (broadcastInDim Cert.ReferenceIdeal.S63x32x32000 ![0, 1, 2] Cert.ReferenceIdeal.Gen.bcast_S1x1x32000_S63x32x32000_0_1_2
            (broadcastInDim Cert.ReferenceIdeal.S1x1x32000 ![2] Cert.ReferenceIdeal.Gen.bcast_S32000_S1x1x32000_2 a2)))
          Cert.ReferenceIdeal.Gen.transposes_S63x32x32000_S32x63x32000_1_0_2)
        Cert.ReferenceIdeal.Gen.shapeCasts_S32x63x32000_S2016x32000 := by
  funext j
  idx_vars j
  unfold logits
  pointwise

/-- What the reference's run leaves in its result, as a term of the arguments. -/
abbrev refLogits (a0 : FVec Ideal S63x32x512 .f32) (a1 : FVec Ideal S32000x512 .f32) (a2 : FVec Ideal S32000 .f32) :
    FVec Ideal S2016x32000 .f32 :=
  logits (shapeCast S2016x512 (transpose S32x63x512 [1, 0, 2] a0 transposes_S63x32x512_S32x63x512_1_0_2)
    shapeCasts_S32x63x512_S2016x512) a1 (shapeCast S1x32000 a2 shapeCasts_S32000_S1x32000)

/-- The kernel's run: the result at the logits of the arguments, the arguments unchanged. -/
theorem run : θ_run (defs (F := Ideal)) (onTc (τ := τ) (main (F := Ideal))) ⟨m, fun _ => 0, ρ⟩ fun r => ∀ c : Dev nD,
      r.2.mem ((c.tc : Thread nD τ).loc main_v4) = refLogits (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by rw [final, rows_eq, mat_eq, bias_eq]), (h c).2⟩)
    (run_blocks m ρ)

end Cert.KernelIdeal.Projection
-- ==== Proof.Gather.lean ====
/-
  The row gather at the head of the decoder call. The first loop starts one copy per token: row `k` of the scratch
  buffer is filled from the table row the `k`-th token names. The second loop waits once per copy on the same
  semaphore. The copies are one batch on that semaphore, so only the last wait hands anything back, and it hands back
  everything. A token may occur twice, so each copy holds its own read share of its table row.
-/
module

public import proofs.«01_k».proof.Proof.Gen.DecoderIdeal.Skeleton
public import Idealize.ShloMosaic.Lib.Pipeline.Routed
public import Idealize.ShloMosaic.Lib.Batch
public import Idealize.ShloMosaic.Lib.Ring
public import Idealize.ShloMosaic.Lib.Tactic
public import Idealize.ShloMosaic.Lib.Pointwise
public import Idealize.ShloMosaic.Lib.WordArith.Masks

@[expose] public section

set_option maxRecDepth 16384

noncomputable section

namespace Cert.DecoderIdeal.Gather

open Cert.DecoderIdeal Cert.DecoderIdeal.Gen
open Idealize.ShloMosaic Idealize.ShloMosaic.Pointwise Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-- The contents of a memref's buffer on core `c`. -/
abbrev Bf (c : Dev nD) {sp : Space} {S : Shape} {e : EltTy} (M : Memref sig .tc sp S e) : Type :=
  Buf (Elt F) (M.view.loc (c : Thread nD τ))

theorem trips1 : k0_t1_loop.trips = 2016 := by decide
theorem trips2 : k0_t2_loop.trips = 2016 := by decide

/-- The scratch the rows land in, and the table. -/
abbrev Dst : Memref sig .tc .vmem S2016x512 .f32 := Memref.whole cc0_scratch0
abbrev Tab : Memref sig .tc .hbm S32000x512 .f32 := Memref.whole main_arg1

abbrev one : S1.Idx := Shape.Idx.first (s := S1) (numel1_S1.symm ▸ Nat.one_pos)

/-- The `t`-th token, as the body's load reads it. -/
abbrev word (M0 : Memref sig .tc .smem S2016 .i32) {c : Dev nD} (f0 : Bf (F := F) c M0) (t : Fin k0_t1_loop.trips) : BitVec 32 :=
  M0.view.readAt (Elt F) (Rect.unit (s := S2016) (k0_off1 t) S1.size (k0_off1_inb t)).toLoadRect f0 one

/-- Every token names a row of the table. -/
def InVocab (w : Fin k0_t1_loop.trips → BitVec 32) : Prop := ∀ t, (w t).toNat < 32000

theorem row_inb (w : BitVec 32) (h : w.toNat < 32000) : ∀ a, k0_off3 w a + S1x512.size a ≤ S32000x512.size a := by
  intro a; fin_cases a
  · show w.toNat + 1 ≤ 32000; omega
  · show 0 + 512 ≤ 512; omega

/-- Row `t` of the scratch, and the table row word `w` names, as the body spells them. -/
def dstM (t : Fin k0_t1_loop.trips) : Memref sig .tc .vmem S512 .f32 :=
  (Dst.slice (Rect.unit (s := S2016x512) (k0_off2 t) S1x512.size (k0_off2_inb t)) (fun _ => rfl)).squeeze S512 squeezes_S1x512_S512
def srcM (w : BitVec 32) (h : ∀ a, k0_off3 w a + S1x512.size a ≤ S32000x512.size a) : Memref sig .tc .hbm S512 .f32 :=
  (Tab.slice (Rect.unit (s := S32000x512) (k0_off3 w) S1x512.size h) (fun _ => rfl)).squeeze S512 squeezes_S1x512_S512

/-- What one copy credits the semaphore with. -/
abbrev NN : ℕ := 64

section Deliveries

variable (c : Dev nD) {w : Fin k0_t1_loop.trips → BitVec 32} (hw : InVocab w)
  (fv : Bf (F := F) c Dst) (fs : Bf (F := F) c Tab)

abbrev fvAt (t : Fin k0_t1_loop.trips) : Buf (Elt F) ((dstM t).view.loc (c : Thread nD τ)) := fv
abbrev fsAt (t : Fin k0_t1_loop.trips) : Buf (Elt F) ((srcM (w t) (row_inb _ (hw t))).view.loc (c : Thread nD τ)) := fs

/-- Row `t` after its copy. -/
abbrev landed (t : Fin k0_t1_loop.trips) : Buf (Elt F) ((dstM t).view.loc (c : Thread nD τ)) :=
  (dstM t).view.writes (Elt F) (fvAt c fv t) [⟨Rect.whole S512, ReadAs.same.apply ((srcM (w t) (row_inb _ (hw t))).view.read (Elt F) (fsAt c hw fs t))⟩]

abbrev tokD (t : Fin k0_t1_loop.trips) : sProp 𝕄 :=
  (srcM (w t) (row_inb _ (hw t))).view.loc (c : Thread nD τ) ↦[(srcM (w t) (row_inb _ (hw t))).view.set]{Transfers.shareTokN fullShare t.val} fsAt c hw fs t
abbrev dstD (t : Fin k0_t1_loop.trips) : sProp 𝕄 :=
  (dstM t).view.loc (c : Thread nD τ) ↦[(dstM t).view.set]{fullShare} fvAt c fv t
abbrev landD (t : Fin k0_t1_loop.trips) : sProp 𝕄 :=
  (dstM t).view.loc (c : Thread nD τ) ↦[(dstM t).view.set]{fullShare} landed c hw fv fs t

/-- What copy `t` hands back: its row landed, and its share of the table row. -/
abbrev D (t : Fin k0_t1_loop.trips) : sProp 𝕄 := iprop(landD c hw fv fs t ∗ tokD c hw fs t)

instance D_storable (t : Fin k0_t1_loop.trips) : BI.Storable (upEmb : UEmb _ 𝕄) (D c hw fv fs t) := by
  unfold D; infer_instance

abbrev batch (j u : ℕ) : sProp 𝕄 :=
  Transfers.Batch countersEmb (c : Thread nD τ) (.dma cc0_scratch3.sem) () NN
    (fun t : Fin 2016 => D c hw fv fs (t.castLE (trips1 ▸ le_rfl))) j u

end Deliveries

section Issue

variable (c : Dev nD) (M0 : Memref sig .tc .smem S2016 .i32) (f0 : Bf (F := F) c M0)
  (hw : InVocab (word M0 f0)) (fv : Bf (F := F) c Dst) (fs : Bf (F := F) c Tab)

/-- Before trip `k`: `k` copies started, the rows and shares of the later copies in hand, the tokens readable. -/
def issueAt (k : ℕ) (_ : Unit) : sProp 𝕄 :=
  iprop(batch c hw fv fs (min k 2016) 0
    ∗ bigSep (Ring.rangeSet k0_t1_loop.trips k 2016) (fun t => dstD c fv t)
    ∗ bigSep (Ring.rangeSet k0_t1_loop.trips k 2016) (fun t => tokD c hw fs t)
    ∗ (M0.view.loc (c : Thread nD τ) ↦{fullShare} f0))

variable (arg2 : Memref sig .tc .vmem S4096x512 .bf16) (harg2 : arg2.IsWhole) (arg3 : Memref sig .tc .vmem S512x512 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S2x512x2048 .bf16) (harg8 : arg8.IsWhole) (arg9 : Memref sig .tc .vmem S2x512x2048 .bf16) (harg9 : arg9.IsWhole) (arg10 : Memref sig .tc .vmem S2x2048 .f32) (harg10 : arg10.IsWhole) (arg11 : Memref sig .tc .vmem S3x32x512 .f32) (harg11 : arg11.IsWhole) (arg12 : Memref sig .tc .vmem S3x32x512 .f32) (harg12 : arg12.IsWhole) (arg13 : Memref sig .tc .vmem S63x32x512 .f32) (harg13 : arg13.IsWhole) (arg15 : Memref sig .tc .vmem S2016x2048 .f32) (harg15 : arg15.IsWhole) (arg16 : Memref sig .tc .vmem S4096x512 .bf16) (harg16 : arg16.IsWhole)

set_option maxHeartbeats 2000000 in
theorem issue_step [∀ e, Nonempty (Elt F e)] (h0 : M0.IsWhole) (k : Fin k0_t1_loop.trips) (acc : Unit) :
    issueAt c M0 f0 hw fv fs k acc
      ⊢ wp frame (wpE (defs₀ (F := F)) Variants.none c none) Set.univ
          (k0_t1_body M0 h0 Tab (Memref.isWhole_whole _) arg2 harg2 arg3 harg3 arg4 harg4 arg5 harg5 arg6 harg6 arg7 harg7 arg8 harg8 arg9 harg9 arg10 harg10 arg11 harg11 arg12 harg12 arg13 harg13 Dst (Memref.isWhole_whole _) arg15 harg15 arg16 harg16 cc0_scratch3 k acc)
          (issueAt c M0 f0 hw fv fs (k.val + 1)) := by
  have hk : k.val < 2016 := trips1 ▸ k.isLt
  have hchk : k0_chk1 (word M0 f0 k) := row_inb _ (hw k)
  unfold issueAt
  simp only [Nat.min_eq_left (Nat.le_of_lt hk), Nat.min_eq_left (Nat.succ_le_of_lt hk)]
  rw [Ring.bigSep_rangeSet_head (Φ := fun t => dstD c fv t) hk k.isLt,
    Ring.bigSep_rangeSet_head (Φ := fun t => tokD c hw fs t) hk k.isLt]
  iintro ⟨HB, ⟨HP, HPs⟩, ⟨HS, HSs⟩, H0⟩
  dsimp only [k0_t1_body]
  sl_exec (disch := exact hchk)
  sl_step
  isplitl [HB]; · iexact HB
  isplitl [HPs]; · iexact HPs
  isplitl [HSs]; · iexact HSs
  iexact H0

end Issue

section Drain

variable (c : Dev nD) {w : Fin k0_t1_loop.trips → BitVec 32} (hw : InVocab w)
  (fv : Bf (F := F) c Dst) (fs : Bf (F := F) c Tab)

/-- Before trip `k`: the credit of `k` copies consumed; after the last, the semaphore at zero and every copy's yield. -/
def drainAt (k : ℕ) (_ : Unit) : sProp 𝕄 :=
  iprop((∃ W, owes (c : Thread nD τ) 0 W)
    ∗ (if k < 2016 then batch c hw fv fs 2016 (k * NN)
       else iprop(semVal ((c : Thread nD τ), SemLoc.dma cc0_scratch3.sem) 0
              ∗ bigSep Finset.univ (fun t : Fin 2016 => D c hw fv fs (t.castLE (trips1 ▸ le_rfl))))))

variable (M0 : Memref sig .tc .smem S2016 .i32) (arg2 : Memref sig .tc .vmem S4096x512 .bf16) (harg2 : arg2.IsWhole) (arg3 : Memref sig .tc .vmem S512x512 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S2x512x2048 .bf16) (harg8 : arg8.IsWhole) (arg9 : Memref sig .tc .vmem S2x512x2048 .bf16) (harg9 : arg9.IsWhole) (arg10 : Memref sig .tc .vmem S2x2048 .f32) (harg10 : arg10.IsWhole) (arg11 : Memref sig .tc .vmem S3x32x512 .f32) (harg11 : arg11.IsWhole) (arg12 : Memref sig .tc .vmem S3x32x512 .f32) (harg12 : arg12.IsWhole) (arg13 : Memref sig .tc .vmem S63x32x512 .f32) (harg13 : arg13.IsWhole) (arg15 : Memref sig .tc .vmem S2016x2048 .f32) (harg15 : arg15.IsWhole) (arg16 : Memref sig .tc .vmem S4096x512 .bf16) (harg16 : arg16.IsWhole)

set_option maxHeartbeats 2000000 in
theorem drain_step [∀ e, Nonempty (Elt F e)] (h0 : M0.IsWhole) (k : Fin k0_t2_loop.trips) (acc : Unit) :
    drainAt c hw fv fs k acc
      ⊢ wp frame (wpE (defs₀ (F := F)) Variants.none c none) Set.univ
          (k0_t2_body M0 h0 Tab (Memref.isWhole_whole _) arg2 harg2 arg3 harg3 arg4 harg4 arg5 harg5 arg6 harg6 arg7 harg7 arg8 harg8 arg9 harg9 arg10 harg10 arg11 harg11 arg12 harg12 arg13 harg13 Dst (Memref.isWhole_whole _) arg15 harg15 arg16 harg16 cc0_scratch3 k acc)
          (drainAt c hw fv fs (k.val + 1)) := by
  have hk : k.val < 2016 := trips2 ▸ k.isLt
  unfold drainAt
  simp only [if_pos hk]
  rcases Nat.lt_or_ge (k.val + 1) 2016 with hk1 | hk1
  · simp only [if_pos hk1]
    iintro ⟨⟨%W, HO⟩, HB⟩
    dsimp only [k0_t2_body]
    sl_exec
    sl_step
    isplitl [HO]; · iexists _; iexact HO
    rw [show (k.val + 1) * NN = k.val * NN + NN from Nat.succ_mul _ _]
    iexact HB
  · have hlast : k.val + 1 = 2016 := by omega
    simp only [if_neg (Nat.not_lt.mpr hk1)]
    iintro ⟨⟨%W, HO⟩, HB⟩
    dsimp only [k0_t2_body]
    sl_exec
    sl_step
    isplitl [HO]; · iexists _; iexact HO
    isplitl [HB]; · iexact HB
    iexact HB_all

end Drain

section Ends

variable (c : Dev nD) {w : Fin k0_t1_loop.trips → BitVec 32} (hw : InVocab w)
  (fv : Bf (F := F) c Dst) (fs : Bf (F := F) c Tab)

/-- The scratch after all copies: row `i` is the table row the `i`-th token names. -/
def gath : Bf (F := F) c Dst := fun i : S2016x512.Idx =>
  (show S32000x512.Idx → F .f32 from fs)
    (ix2 ⟨(w ((i 0).cast trips1.symm)).toNat, hw _⟩ ⟨(i 1).val, (i 1).isLt⟩)

theorem off2_eq (t : Fin k0_t1_loop.trips) : k0_off2 t = ![t.val, 0] := by
  have ht : t.val < 2016 := trips1 ▸ t.isLt
  unfold k0_off2
  show ![(Scf.iv 0#32 1#32 t.val).toNat, 0] = _
  rw [WordArith.toNat_iv_zero_one _ (by omega)]

/-- Row `t`'s elements, in the buffer's own index. -/
def rowSet (t : Fin k0_t1_loop.trips) : Finset S2016x512.Idx := (dstM t).view.set

theorem mem_dst (t : Fin k0_t1_loop.trips) (i : S2016x512.Idx) : i ∈ rowSet t ↔ (i 0).val = t.val := by
  have es : rowSet t = (Rect.unit (s := S2016x512) (k0_off2 t) S1x512.size (k0_off2_inb t)).set := by
    unfold rowSet dstM
    exact (View.set_reshape (v := Dst.view.slice (Rect.unit (s := S2016x512) (k0_off2 t) S1x512.size (k0_off2_inb t))) squeezes_S1x512_S512.numel_eq).trans
      (View.set_slice_whole _ _)
  refine (show _ ↔ i ∈ (Rect.unit (s := S2016x512) (k0_off2 t) S1x512.size (k0_off2_inb t)).set from es ▸ Iff.rfl).trans ?_
  rw [Rect.mem_set_unit]
  have e := off2_eq t
  constructor
  · intro h
    have h0 := h 0
    rw [e] at h0
    have : t.val ≤ (i 0).val ∧ (i 0).val < t.val + 1 := h0
    omega
  · intro h a
    rw [e]
    fin_cases a
    · show t.val ≤ (i 0).val ∧ (i 0).val < t.val + 1
      omega
    · show 0 ≤ (i 1).val ∧ (i 1).val < 0 + 512
      have : (i 1).val < 512 := (i 1).isLt
      omega

theorem landed_eq (t : Fin k0_t1_loop.trips) (i : S2016x512.Idx) (hi : i ∈ rowSet t) :
    landed c hw fv fs t i = gath c hw fs i := by
  have hit := (mem_dst t i).1 hi
  obtain ⟨y, -, rfl⟩ := Finset.mem_map.1 hi
  have h1 := congrFun (View.read_writes_whole (Val := Elt F) (dstM t).view (fvAt c fv t)
    (ReadAs.same.apply ((srcM (w t) (row_inb _ (hw t))).view.read (Elt F) (fsAt c hw fs t)))) y
  refine Eq.trans h1 ?_
  show (show S32000x512.Idx → F .f32 from fs) ((srcM (w t) (row_inb _ (hw t))).view.emb y) = _
  unfold gath
  refine congrArg (show S32000x512.Idx → F .f32 from fs) ?_
  have ht : (((show S2016x512.Idx from (dstM t).view.emb y) 0).cast trips1.symm) = t := Fin.ext hit
  obtain ⟨z, hz⟩ : ∃ z : S1x512.Idx, z = Shape.reshapeEquiv squeezes_S1x512_S512.numel_eq y := ⟨_, rfl⟩
  have e1 : ((dstM t).view.emb y : S2016x512.Idx) = (Rect.unit (s := S2016x512) (k0_off2 t) S1x512.size (k0_off2_inb t)).emb z := by
    rw [hz]; rfl
  have e2 : ((srcM (w t) (row_inb _ (hw t))).view.emb y : S32000x512.Idx) = (Rect.unit (s := S32000x512) (k0_off3 (w t)) S1x512.size (row_inb _ (hw t))).emb z := by
    rw [hz]; rfl
  have hz0 : (z 0).val = 0 := by have : (z 0).val < 1 := (z 0).isLt; omega
  funext a
  fin_cases a
  · refine Fin.ext ?_
    refine (congrArg (fun j : S32000x512.Idx => (j 0).val) e2).trans ?_
    show (w t).toNat + 1 * (z 0).val = (w (((show S2016x512.Idx from (dstM t).view.emb y) 0).cast trips1.symm)).toNat
    rw [ht, hz0]; rfl
  · refine Fin.ext ?_
    refine (congrArg (fun j : S32000x512.Idx => (j 1).val) e2).trans ?_
    refine Eq.trans ?_ (congrArg (fun j : S2016x512.Idx => (j 1).val) e1).symm
    show 0 + 1 * (z 1).val = (k0_off2 t) 1 + 1 * (z 1).val
    rw [off2_eq t]; rfl

/-- A family over the trips, counted by the number of copies. -/
theorem bigSep_cast {n m : ℕ} (h : n = m) (Φ : Fin n → sProp 𝕄) :
    bigSep Finset.univ (fun t : Fin m => Φ (t.castLE (h ▸ le_rfl))) = bigSep Finset.univ Φ := by
  subst h; rfl

/-- What is left of the table while the copies run. -/
def left : sProp 𝕄 :=
  iprop((Tab.view.loc (c : Thread nD τ) ↦{Transfers.shareDrop fullShare k0_t1_loop.trips} fs)
    ∗ bigSep Finset.univ (fun t : Fin k0_t1_loop.trips =>
        Tab.view.loc (c : Thread nD τ) ↦[Finset.univ \ (srcM (w t) (row_inb _ (hw t))).view.set]{Transfers.shareTokN fullShare t.val} fs))

theorem table_eq : (Tab.view.loc (c : Thread nD τ) ↦{fullShare} fs : sProp 𝕄)
    ⊣⊢ iprop(bigSep Finset.univ (fun t => tokD c hw fs t) ∗ left c hw fs) := by
  have h1 := Transfers.pointsTo_toks_range (Ix := Unit) (Name := ℕ) (U := UC sig nD τ) (Lvl := ℕ) (ℓ := Tab.view.loc (c : Thread nD τ)) (S := Finset.univ) (f := fs) fullShare k0_t1_loop.trips
  rw [← Ring.bigSep_fin_eq_range k0_t1_loop.trips (fun t => (Tab.view.loc (c : Thread nD τ) ↦{Transfers.shareTokN fullShare t.val} fs : sProp 𝕄)) _ (fun _ _ => rfl)] at h1
  have h2 : bigSep Finset.univ (fun t : Fin k0_t1_loop.trips => (Tab.view.loc (c : Thread nD τ) ↦{Transfers.shareTokN fullShare t.val} fs : sProp 𝕄))
      = iprop(bigSep Finset.univ (fun t => tokD c hw fs t) ∗ bigSep Finset.univ (fun t : Fin k0_t1_loop.trips =>
        (Tab.view.loc (c : Thread nD τ) ↦[Finset.univ \ (srcM (w t) (row_inb _ (hw t))).view.set]{Transfers.shareTokN fullShare t.val} fs : sProp 𝕄))) := by
    rw [← bigSep_sep']
    refine bigSep_congr fun t _ => ?_
    have h := (pointsTo_split_subset (Ix := Unit) (Name := ℕ) (U := UC sig nD τ) (Lvl := ℕ) (q := Transfers.shareTokN fullShare t.val) (ℓ := Tab.view.loc (c : Thread nD τ)) (f := fs) (I := (srcM (w t) (row_inb _ (hw t))).view.set) (Finset.subset_univ _))
    exact equiv_iff.mp ⟨h.1, h.2⟩
  rw [h2] at h1
  unfold left
  refine ⟨h1.1.trans ?_, BIBase.Entails.trans ?_ h1.2⟩
  · iintro ⟨H1, H2, H3⟩
    isplitl [H2]; · iexact H2
    isplitl [H1]; · iexact H1
    iexact H3
  · iintro ⟨H2, H1, H3⟩
    isplitl [H1]; · iexact H1
    isplitl [H2]; · iexact H2
    iexact H3

theorem row_of (i : S2016x512.Idx) : ∃ t : Fin k0_t1_loop.trips, i ∈ rowSet t := by
  have h0 : (i 0).val < 2016 := (i 0).isLt
  have h : (i 0).val < k0_t1_loop.trips := Nat.lt_of_lt_of_eq h0 trips1.symm
  exact Exists.intro (Fin.mk (i 0).val h) ((mem_dst (Fin.mk (i 0).val h) i).2 (Eq.refl _))

theorem rows_univ : Finset.univ.biUnion (fun t : Fin k0_t1_loop.trips => rowSet t) = (Finset.univ : Finset S2016x512.Idx) := by
  refine Finset.eq_univ_iff_forall.2 fun i => ?_
  rw [Finset.mem_biUnion]
  exact (row_of i).elim fun t h => Exists.intro t (And.intro (Finset.mem_univ t) h)

theorem rows_disjoint (t t' : Fin k0_t1_loop.trips) (h : t ≠ t') :
    Disjoint (rowSet t) (rowSet t') := by
  rw [Finset.disjoint_left]
  intro i h1 h2
  exact h (Fin.ext (((mem_dst t i).1 h1).symm.trans ((mem_dst t' i).1 h2)))

theorem rows_eq (f : Bf (F := F) c Dst) : (Dst.view.loc (c : Thread nD τ) ↦{fullShare} f : sProp 𝕄) = bigSep Finset.univ (fun t => dstD c f t) := by
  refine Eq.trans ?_ (pointsTo_biUnion (Ix := Unit) (Name := ℕ) (U := UC sig nD τ) (Lvl := ℕ) (ℓ := Dst.view.loc (c : Thread nD τ)) (q := fullShare) (f := f)
    (Finset.univ : Finset (Fin k0_t1_loop.trips)) (fun t => rowSet t) (fun t _ t' _ h => rows_disjoint t t' h))
  exact congrArg (fun S => (Dst.view.loc (c : Thread nD τ) ↦[S]{fullShare} f : sProp 𝕄)) rows_univ.symm

/-- Into the first loop: the scratch by rows, the table by shares. -/
theorem enter : iprop((Dst.view.loc (c : Thread nD τ) ↦{fullShare} fv) ∗ (Tab.view.loc (c : Thread nD τ) ↦{fullShare} fs))
    ⊢ (iprop(bigSep (Ring.rangeSet k0_t1_loop.trips 0 2016) (fun t => dstD c fv t)
        ∗ bigSep (Ring.rangeSet k0_t1_loop.trips 0 2016) (fun t => tokD c hw fs t) ∗ left c hw fs) : sProp 𝕄) := by
  have e : (Ring.rangeSet k0_t1_loop.trips 0 2016) = Finset.univ := by
    conv_lhs => rw [← trips1]
    exact Ring.rangeSet_univ
  rw [e, rows_eq]
  iintro ⟨H1, H2⟩
  isplitl [H1]; · iexact H1
  iapply (table_eq c hw fs).1
  iexact H2

/-- Out of the second: every row landed, the table whole again. -/
theorem leave : iprop(bigSep Finset.univ (fun t : Fin 2016 => D c hw fv fs (t.castLE (trips1 ▸ le_rfl))) ∗ left c hw fs)
    ⊢ (iprop((Dst.view.loc (c : Thread nD τ) ↦{fullShare} gath c hw fs) ∗ (Tab.view.loc (c : Thread nD τ) ↦{fullShare} fs)) : sProp 𝕄) := by
  rw [bigSep_cast trips1 (fun t => D c hw fv fs t), bigSep_sep', rows_eq]
  have h : bigSep Finset.univ (fun t => landD c hw fv fs t) = bigSep Finset.univ (fun t => dstD c (gath c hw fs) t) :=
    bigSep_congr fun t _ => pointsTo_congr fun i hi => landed_eq c hw fv fs t i hi
  rw [h]
  iintro ⟨⟨H1, H2⟩, H3⟩
  isplitl [H1]; · iexact H1
  iapply (table_eq c hw fs).2
  isplitl [H2]; · iexact H2
  iexact H3

end Ends

end Cert.DecoderIdeal.Gather
-- ==== Proof.Decoder.lean ====
/-
  The decoder call's time loop as a recurrence. The loop carries the hidden and cell vectors of the three layers; trip `k`
  attends with the top layer's hidden vector, runs the three cells one after another and writes the new top hidden vector
  as block `k` of the output. The carried vectors and the written blocks are stated here by recursion on `k`.
-/
module

public import proofs.«01_k».proof.Proof.Gen.DecoderIdeal.Loops
public import proofs.«01_k».proof.Proof.Gather
public import Idealize.ShloMosaic.Lib.Pipeline.Value

@[expose] public section

set_option maxRecDepth 16384

noncomputable section

namespace Cert.DecoderIdeal.Recurrence

open Cert.DecoderIdeal Cert.DecoderIdeal.Gen
open Idealize.ShloMosaic Idealize.ShloMosaic.Pointwise Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-- Hidden and cell vector of layer 0, of layer 1 and of layer 2. -/
abbrev St (F : FTy → Type) : Type :=
  FVec F S32x512 .f32 × FVec F S32x512 .f32 × FVec F S32x512 .f32 × FVec F S32x512 .f32 × FVec F S32x512 .f32 × FVec F S32x512 .f32

/-- What the loop reads: the encoder's rows and the same rows through the attention matrix, the first layer's gate inputs
  of every step, its context and recurrent matrices, and the two upper layers' matrices and biases. -/
structure Arr (F : FTy → Type) where
  en : Vec F S4096x512 .bf16
  e2 : Vec F S4096x512 .bf16
  gx : Vec F S2016x2048 .f32
  wc : Vec F S512x2048 .bf16
  wh : Vec F S512x2048 .bf16
  wi : Vec F S2x512x2048 .bf16
  wr : Vec F S2x512x2048 .bf16
  bb : Vec F S2x2048 .f32

/-- A state iterated through the trips of a loop. -/
def iter {A : Type} {n : ℕ} (f : Fin n → A → A) (a : A) : ℕ → A
  | 0 => a
  | k + 1 => if h : k < n then f ⟨k, h⟩ (iter f a k) else iter f a k

theorem iter_succ {A : Type} {n : ℕ} (f : Fin n → A → A) (a : A) (k : Fin n) :
    iter f a (k.val + 1) = f k (iter f a k.val) := by
  rw [iter, dif_pos k.isLt]

theorem trips3 : k0_t3_loop.trips = 63 := by decide

variable (x : Arr F)

abbrev en0 : Vec F S1024x512 .bf16 := fun i => x.en ((Rect.unit (s := S4096x512) ![0, 0] S1024x512.size inb_S4096x512_S1024x512_0_0).toLoadRect.idx i)
abbrev es0 : Vec F S1024x512 .bf16 := fun i => x.e2 ((Rect.unit (s := S4096x512) ![0, 0] S1024x512.size inb_S4096x512_S1024x512_0_0).toLoadRect.idx i)
abbrev en1 : Vec F S1024x512 .bf16 := fun i => x.en ((Rect.unit (s := S4096x512) ![1024, 0] S1024x512.size inb_S4096x512_S1024x512_1024_0).toLoadRect.idx i)
abbrev es1 : Vec F S1024x512 .bf16 := fun i => x.e2 ((Rect.unit (s := S4096x512) ![1024, 0] S1024x512.size inb_S4096x512_S1024x512_1024_0).toLoadRect.idx i)
abbrev en2 : Vec F S1024x512 .bf16 := fun i => x.en ((Rect.unit (s := S4096x512) ![2048, 0] S1024x512.size inb_S4096x512_S1024x512_2048_0).toLoadRect.idx i)
abbrev es2 : Vec F S1024x512 .bf16 := fun i => x.e2 ((Rect.unit (s := S4096x512) ![2048, 0] S1024x512.size inb_S4096x512_S1024x512_2048_0).toLoadRect.idx i)
abbrev en3 : Vec F S1024x512 .bf16 := fun i => x.en ((Rect.unit (s := S4096x512) ![3072, 0] S1024x512.size inb_S4096x512_S1024x512_3072_0).toLoadRect.idx i)
abbrev es3 : Vec F S1024x512 .bf16 := fun i => x.e2 ((Rect.unit (s := S4096x512) ![3072, 0] S1024x512.size inb_S4096x512_S1024x512_3072_0).toLoadRect.idx i)
abbrev gxk (k : Fin k0_t3_loop.trips) : Vec F S32x2048 .f32 := fun i => x.gx ((Rect.unit (s := S2016x2048) (k0_off5 k) S32x2048.size (k0_off5_inb k)).toLoadRect.idx i)
abbrev wca : Vec F S512x2048 .bf16 := fun i => x.wc ((Rect.unit (s := S512x2048) ![0, 0] S512x2048.size inb_S512x2048_S512x2048_0_0).toLoadRect.idx i)
abbrev wha : Vec F S512x2048 .bf16 := fun i => x.wh ((Rect.unit (s := S512x2048) ![0, 0] S512x2048.size inb_S512x2048_S512x2048_0_0).toLoadRect.idx i)
abbrev wi0 : Vec F S1x512x2048 .bf16 := fun i => x.wi ((Rect.unit (s := S2x512x2048) ![0, 0, 0] S1x512x2048.size inb_S2x512x2048_S1x512x2048_0_0_0).toLoadRect.idx i)
abbrev wi1 : Vec F S1x512x2048 .bf16 := fun i => x.wi ((Rect.unit (s := S2x512x2048) ![1, 0, 0] S1x512x2048.size inb_S2x512x2048_S1x512x2048_1_0_0).toLoadRect.idx i)
abbrev wr0 : Vec F S1x512x2048 .bf16 := fun i => x.wr ((Rect.unit (s := S2x512x2048) ![0, 0, 0] S1x512x2048.size inb_S2x512x2048_S1x512x2048_0_0_0).toLoadRect.idx i)
abbrev wr1 : Vec F S1x512x2048 .bf16 := fun i => x.wr ((Rect.unit (s := S2x512x2048) ![1, 0, 0] S1x512x2048.size inb_S2x512x2048_S1x512x2048_1_0_0).toLoadRect.idx i)
abbrev bb0 : Vec F S1x2048 .f32 := fun i => x.bb ((Rect.unit (s := S2x2048) ![0, 0] S1x2048.size inb_S2x2048_S1x2048_0_0).toLoadRect.idx i)
abbrev bb1 : Vec F S1x2048 .f32 := fun i => x.bb ((Rect.unit (s := S2x2048) ![1, 0] S1x2048.size inb_S2x2048_S1x2048_1_0).toLoadRect.idx i)

/-- The attention context of the top hidden vector. -/
def ctx (s : St F) : FVec F S32x512 .bf16 :=
  k0_pay13 (k0_pay10 s.2.2.2.2.1 (es0 x) (es1 x) (es2 x) (es3 x)) (k0_pay11 s.2.2.2.2.1 (es0 x) (es1 x) (es2 x) (es3 x))
    (en0 x) (en1 x) (en2 x) (en3 x)

/-- The three cells' new cell and hidden vectors. -/
def cell0 (k : Fin k0_t3_loop.trips) (s : St F) : FVec F S32x512 .f32 := k0_pay15 s.1 s.2.1 (gxk x k) (k0_pay12 (wca x)) (ctx x s) (constant S32x2048 .f32 0x00000000#32) (wha x)
def hid0 (k : Fin k0_t3_loop.trips) (s : St F) : FVec F S32x512 .f32 := k0_pay16 s.1 s.2.1 (gxk x k) (k0_pay12 (wca x)) (ctx x s) (constant S32x2048 .f32 0x00000000#32) (wha x)
def cell1 (k : Fin k0_t3_loop.trips) (s : St F) : FVec F S32x512 .f32 := k0_pay18 s.1 s.2.1 s.2.2.1 s.2.2.2.1 (gxk x k) (k0_pay12 (wca x)) (ctx x s) (constant S32x2048 .f32 0x00000000#32) (wha x) (wi0 x) (wr0 x) (bb0 x)
def hid1 (k : Fin k0_t3_loop.trips) (s : St F) : FVec F S32x512 .f32 := k0_pay19 s.1 s.2.1 s.2.2.1 s.2.2.2.1 (gxk x k) (k0_pay12 (wca x)) (ctx x s) (constant S32x2048 .f32 0x00000000#32) (wha x) (wi0 x) (wr0 x) (bb0 x)
def cell2 (k : Fin k0_t3_loop.trips) (s : St F) : FVec F S32x512 .f32 := k0_pay7 s.2.2.2.2.1 s.2.2.2.2.2 (hid1 x k s) (wi1 x) (wr1 x) (bb1 x)
def hid2 (k : Fin k0_t3_loop.trips) (s : St F) : FVec F S32x512 .f32 := k0_pay8 s.2.2.2.2.1 s.2.2.2.2.2 (hid1 x k s) (wi1 x) (wr1 x) (bb1 x)

/-- One trip. -/
def step (k : Fin k0_t3_loop.trips) (s : St F) : St F := (hid0 x k s, cell0 x k s, hid1 x k s, cell1 x k s, hid2 x k s, cell2 x k s)

/-- The carried vectors before trip `k`. -/
def st (init : St F) : ℕ → St F := iter (step x) init

theorem st_zero (init : St F) : st x init 0 = init := rfl
theorem st_succ (init : St F) (k : Fin k0_t3_loop.trips) : st x init (k.val + 1) = step x k (st x init k.val) := iter_succ _ _ k

/-- The block trip `k` writes. -/
def put (k : Fin k0_t3_loop.trips) (s : St F) : FVec F S1x32x512 .f32 := k0_pay9 s.2.2.2.2.1 s.2.2.2.2.2 (hid1 x k s) (wi1 x) (wr1 x) (bb1 x)

/-- The writes of the trips before `k`, latest first. -/
def all (init : St F) : ℕ → List (View.Piece (Elt F) S63x32x512 .f32)
  | 0 => []
  | k + 1 => if h : k < k0_t3_loop.trips then
      ⟨Rect.unit (s := S63x32x512) (k0_off6 ⟨k, h⟩) S1x32x512.size (k0_off6_inb ⟨k, h⟩), put x ⟨k, h⟩ (st x init k)⟩ :: all init k
    else all init k

theorem all_succ (init : St F) (k : Fin k0_t3_loop.trips) :
    all x init (k.val + 1) = ⟨Rect.unit (s := S63x32x512) (k0_off6 k) S1x32x512.size (k0_off6_inb k), put x k (st x init k.val)⟩ :: all x init k.val := by
  rw [all, dif_pos k.isLt]

/-- The output: block `t` is trip `t`'s. -/
def out (init : St F) : Vec F S63x32x512 .f32 := fun i =>
  put x ⟨(i 0).val, by rw [trips3]; exact (i 0).isLt⟩ (st x init (i 0).val) (fun a => match a with
    | ⟨0, _⟩ => (⟨0, Nat.zero_lt_one⟩ : Fin 1)
    | ⟨1, _⟩ => (⟨(i 1).val, (i 1).isLt⟩ : Fin 32)
    | ⟨2, _⟩ => (⟨(i 2).val, (i 2).isLt⟩ : Fin 512))

theorem k0_off6_at : ∀ k : Fin k0_t3_loop.trips, k0_off6 k = ![k.val, 0, 0] := by decide +kernel

theorem all_agree (init : St F) : ∀ n ≤ 63, ∀ p ∈ all x init n, ∀ y : p.1.shape.Idx, p.2 y = out x init (p.1.emb y) := by
  intro n
  induction n with
  | zero => intro _ p hp; exact absurd hp List.not_mem_nil
  | succ n ih =>
    intro hn p hp y
    have hlt : n < k0_t3_loop.trips := by rw [trips3]; omega
    rw [show n + 1 = (⟨n, hlt⟩ : Fin k0_t3_loop.trips).val + 1 from rfl, all_succ] at hp
    rcases List.mem_cons.1 hp with rfl | hp
    · have hy0 : (y 0).val < 1 := (y 0).isLt
      have e0 : ((Rect.unit (s := S63x32x512) (k0_off6 ⟨n, hlt⟩) S1x32x512.size (k0_off6_inb ⟨n, hlt⟩)).emb y 0).val = n := by
        have hq : k0_off6 ⟨n, hlt⟩ 0 = n := congrFun (k0_off6_at ⟨n, hlt⟩) 0
        show k0_off6 ⟨n, hlt⟩ 0 + 1 * (y 0).val = _
        omega
      have e1 : ((Rect.unit (s := S63x32x512) (k0_off6 ⟨n, hlt⟩) S1x32x512.size (k0_off6_inb ⟨n, hlt⟩)).emb y 1).val = (y 1).val := by
        have hq : k0_off6 ⟨n, hlt⟩ 1 = 0 := congrFun (k0_off6_at ⟨n, hlt⟩) 1
        show k0_off6 ⟨n, hlt⟩ 1 + 1 * (y 1).val = _
        omega
      have e2 : ((Rect.unit (s := S63x32x512) (k0_off6 ⟨n, hlt⟩) S1x32x512.size (k0_off6_inb ⟨n, hlt⟩)).emb y 2).val = (y 2).val := by
        have hq : k0_off6 ⟨n, hlt⟩ 2 = 0 := congrFun (k0_off6_at ⟨n, hlt⟩) 2
        show k0_off6 ⟨n, hlt⟩ 2 + 1 * (y 2).val = _
        omega
      generalize (Rect.unit (s := S63x32x512) (k0_off6 ⟨n, hlt⟩) S1x32x512.size (k0_off6_inb ⟨n, hlt⟩)).emb y = i at e0 e1 e2
      have ef : (⟨(i 0).val, by rw [trips3]; exact (i 0).isLt⟩ : Fin k0_t3_loop.trips) = ⟨n, hlt⟩ := Fin.ext e0
      unfold out
      rw [ef, e0]
      refine congrArg (put x ⟨n, hlt⟩ (st x init n)) ?_
      funext a; fin_cases a
      · exact Fin.ext (show (y 0).val = 0 by omega)
      · exact Fin.ext (show (y 1).val = (i 1).val by omega)
      · exact Fin.ext (show (y 2).val = (i 2).val by omega)
    · exact ih (by omega) p hp y

theorem put_mem (init : St F) (k : Fin k0_t3_loop.trips) : ∀ n ≤ 63, k.val < n →
    (⟨Rect.unit (s := S63x32x512) (k0_off6 k) S1x32x512.size (k0_off6_inb k), put x k (st x init k.val)⟩ : View.Piece (Elt F) S63x32x512 .f32) ∈ all x init n := by
  intro n
  induction n with
  | zero => intro _ h; exact absurd h (Nat.not_lt_zero _)
  | succ n ih =>
    intro hn h
    have hlt : n < k0_t3_loop.trips := by rw [trips3]; omega
    rw [show n + 1 = (⟨n, hlt⟩ : Fin k0_t3_loop.trips).val + 1 from rfl, all_succ]
    rcases Nat.lt_or_ge k.val n with hk | hk
    · exact List.mem_cons_of_mem _ (ih (by omega) hk)
    · have : k = ⟨n, hlt⟩ := Fin.ext (by show k.val = n; omega)
      subst this
      exact List.mem_cons_self

theorem all_cover (init : St F) (i : S63x32x512.Idx) : ∃ p ∈ all x init 63, i ∈ p.1.set := by
  have h0 : (i 0).val < 63 := (i 0).isLt
  have h1 : (i 1).val < 32 := (i 1).isLt
  have h2 : (i 2).val < 512 := (i 2).isLt
  have hk : (i 0).val < k0_t3_loop.trips := by rw [trips3]; exact h0
  refine ⟨_, put_mem x init ⟨(i 0).val, hk⟩ 63 le_rfl h0, ?_⟩
  show i ∈ (Rect.unit (s := S63x32x512) (k0_off6 ⟨(i 0).val, hk⟩) S1x32x512.size (k0_off6_inb ⟨(i 0).val, hk⟩)).set
  rw [Rect.mem_set_unit]
  intro a
  rw [k0_off6_at]
  fin_cases a
  · show (i 0).val ≤ (i 0).val ∧ (i 0).val < (i 0).val + 1
    omega
  · show 0 ≤ (i 1).val ∧ (i 1).val < 0 + 32
    omega
  · show 0 ≤ (i 2).val ∧ (i 2).val < 0 + 512
    omega

/-- After all trips the written buffer reads the output, whatever it held before. -/
theorem read_all (arg13 : Memref sig .tc .vmem S63x32x512 .f32) (init : St F) (f : BufTy.Contents (Elt F) arg13.view.ty) (n : ℕ) (hn : n = 63) :
    arg13.view.read (Elt F) (arg13.view.writes (Elt F) f (all x init n)) = out x init := by
  subst hn
  funext i
  exact View.read_writes_apply_of_pieces arg13.view f (out x init) _ (all_agree x init 63 le_rfl) i (all_cover x init i)

section Loop

/-- The arrays the loop reads, through its memrefs. -/
abbrev arrs (arg2 : Memref sig .tc .vmem S4096x512 .bf16) (arg5 : Memref sig .tc .vmem S512x2048 .bf16) (arg6 : Memref sig .tc .vmem S512x2048 .bf16) (arg8 : Memref sig .tc .vmem S2x512x2048 .bf16) (arg9 : Memref sig .tc .vmem S2x512x2048 .bf16) (arg10 : Memref sig .tc .vmem S2x2048 .f32) (arg15 : Memref sig .tc .vmem S2016x2048 .f32) (arg16 : Memref sig .tc .vmem S4096x512 .bf16)
    (X2 : BufTy.Contents (Elt F) arg2.view.ty) (X5 : BufTy.Contents (Elt F) arg5.view.ty) (X6 : BufTy.Contents (Elt F) arg6.view.ty) (X8 : BufTy.Contents (Elt F) arg8.view.ty) (X9 : BufTy.Contents (Elt F) arg9.view.ty) (X10 : BufTy.Contents (Elt F) arg10.view.ty) (X15 : BufTy.Contents (Elt F) arg15.view.ty) (X16 : BufTy.Contents (Elt F) arg16.view.ty) : Arr F :=
  ⟨(arg2.view.read (Elt F) X2), (arg16.view.read (Elt F) X16), (arg15.view.read (Elt F) X15), (arg5.view.read (Elt F) X5), (arg6.view.read (Elt F) X6), (arg8.view.read (Elt F) X8), (arg9.view.read (Elt F) X9), (arg10.view.read (Elt F) X10)⟩

/-- Before trip `k`. -/
def inv (arg2 : Memref sig .tc .vmem S4096x512 .bf16) (arg5 : Memref sig .tc .vmem S512x2048 .bf16) (arg6 : Memref sig .tc .vmem S512x2048 .bf16) (arg8 : Memref sig .tc .vmem S2x512x2048 .bf16) (arg9 : Memref sig .tc .vmem S2x512x2048 .bf16) (arg10 : Memref sig .tc .vmem S2x2048 .f32) (arg15 : Memref sig .tc .vmem S2016x2048 .f32) (arg16 : Memref sig .tc .vmem S4096x512 .bf16) (arg13 : Memref sig .tc .vmem S63x32x512 .f32)
    (X2 : BufTy.Contents (Elt F) arg2.view.ty) (X5 : BufTy.Contents (Elt F) arg5.view.ty) (X6 : BufTy.Contents (Elt F) arg6.view.ty) (X8 : BufTy.Contents (Elt F) arg8.view.ty) (X9 : BufTy.Contents (Elt F) arg9.view.ty) (X10 : BufTy.Contents (Elt F) arg10.view.ty) (X15 : BufTy.Contents (Elt F) arg15.view.ty) (X16 : BufTy.Contents (Elt F) arg16.view.ty)
    (c : Dev nD) (f0 : BufTy.Contents (Elt F) arg13.view.ty) (init : St F) (k : ℕ) (acc : St F) : sProp 𝕄 :=
  iprop((arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg15.view.loc (c : Thread nD τ) ↦[arg15.view.set]{fullShare} X15) ∗ (arg16.view.loc (c : Thread nD τ) ↦[arg16.view.set]{fullShare} X16)
    ∗ (∃ f, (arg13.view.loc (c : Thread nD τ) ↦[arg13.view.set]{fullShare} f)
        ∗ ⌜f = arg13.view.writes (Elt F) f0 (all (arrs arg2 arg5 arg6 arg8 arg9 arg10 arg15 arg16 X2 X5 X6 X8 X9 X10 X15 X16) init k)⌝)
    ∗ ⌜acc = st (arrs arg2 arg5 arg6 arg8 arg9 arg10 arg15 arg16 X2 X5 X6 X8 X9 X10 X15 X16) init k⌝)

set_option maxHeartbeats 4000000 in
set_option warn.classDefReducibility false in
/-- The time loop keeps its invariant. -/
@[sl_loop] def loop (𝒱 : Variants) (c : Dev nD) (bd : Option 𝒱.V) (E : Set ℕ) (arg0 : Memref sig .tc .smem S2016 .i32) (harg0 : arg0.IsWhole) (arg1 : Memref sig .tc .hbm S32000x512 .f32) (harg1 : arg1.IsWhole) (arg2 : Memref sig .tc .vmem S4096x512 .bf16) (harg2 : arg2.IsWhole) (arg3 : Memref sig .tc .vmem S512x512 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S2x512x2048 .bf16) (harg8 : arg8.IsWhole) (arg9 : Memref sig .tc .vmem S2x512x2048 .bf16) (harg9 : arg9.IsWhole) (arg10 : Memref sig .tc .vmem S2x2048 .f32) (harg10 : arg10.IsWhole) (arg11 : Memref sig .tc .vmem S3x32x512 .f32) (harg11 : arg11.IsWhole) (arg12 : Memref sig .tc .vmem S3x32x512 .f32) (harg12 : arg12.IsWhole) (arg13 : Memref sig .tc .vmem S63x32x512 .f32) (harg13 : arg13.IsWhole) (arg14 : Memref sig .tc .vmem S2016x512 .f32) (harg14 : arg14.IsWhole) (arg15 : Memref sig .tc .vmem S2016x2048 .f32) (harg15 : arg15.IsWhole) (arg16 : Memref sig .tc .vmem S4096x512 .bf16) (harg16 : arg16.IsWhole) (arg17 : DmaSems sig S_)
    (X2 : BufTy.Contents (Elt F) arg2.view.ty) (X5 : BufTy.Contents (Elt F) arg5.view.ty) (X6 : BufTy.Contents (Elt F) arg6.view.ty) (X8 : BufTy.Contents (Elt F) arg8.view.ty) (X9 : BufTy.Contents (Elt F) arg9.view.ty) (X10 : BufTy.Contents (Elt F) arg10.view.ty) (X15 : BufTy.Contents (Elt F) arg15.view.ty) (X16 : BufTy.Contents (Elt F) arg16.view.ty) (f0 : BufTy.Contents (Elt F) arg13.view.ty) (init : St F) :
    LoopInvTy_k0_t3 (F := F) Unit ℕ (UC sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 init where
  inv := inv arg2 arg5 arg6 arg8 arg9 arg10 arg15 arg16 arg13 X2 X5 X6 X8 X9 X10 X15 X16 c f0 init
  step k acc := by
    have hk : k.val < 63 := Nat.lt_of_lt_of_le k.isLt k0_t3_abs.2.1
    unfold inv k0_t3_body
    iintro ⟨H2, H5, H6, H8, H9, H10, H15, H16, ⟨%f, HW, %hf⟩, %hacc⟩
    subst hacc
    sl_exec
    sl_step
    isplitl [H2]; · iexact H2
    isplitl [H5]; · iexact H5
    isplitl [H6]; · iexact H6
    isplitl [H8]; · iexact H8
    isplitl [H9]; · iexact H9
    isplitl [H10]; · iexact H10
    isplitl [H15]; · iexact H15
    isplitl [H16]; · iexact H16
    isplitl [HW]
    · iexists _
      isplitl [HW]; · iexact HW
      ipureintro
      rw [hf, all_succ]
      rfl
    · ipureintro
      rw [st_succ]
      rfl

end Loop

end Cert.DecoderIdeal.Recurrence
-- ==== Proof.DecoderRun.lean ====
/-
  The decoder call's body, run to its return: the rows of the table gathered, the first layer's gate inputs and the
  attention keys computed from them, then the time loop.
-/
module

public import proofs.«01_k».proof.Proof.Decoder

@[expose] public section

set_option maxRecDepth 16384

noncomputable section

namespace Cert.DecoderIdeal.Body

open Cert.DecoderIdeal Cert.DecoderIdeal.Gen Cert.DecoderIdeal.Gather Cert.DecoderIdeal.Recurrence
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-- What the loop reads, of the gathered rows, the encoder's rows and the weights. -/
def arrV (rows : Vec F S2016x512 .f32) (en : Vec F S4096x512 .bf16) (wa : Vec F S512x512 .bf16) (wx wc wh : Vec F S512x2048 .bf16)
    (b0 : Vec F S1x2048 .f32) (wi wr : Vec F S2x512x2048 .bf16) (bb : Vec F S2x2048 .f32) : Arr F :=
  ⟨en, k0_pay21 en wa, k0_pay20 rows wx b0, wc, wh, wi, wr, bb⟩

/-- Row `l` of the initial vectors. -/
abbrev row0 (h : Vec F S3x32x512 .f32) : Vec F S1x32x512 .f32 := fun i => h ((Rect.unit (s := S3x32x512) ![0, 0, 0] S1x32x512.size inb_S3x32x512_S1x32x512_0_0_0).toLoadRect.idx i)
abbrev row1 (h : Vec F S3x32x512 .f32) : Vec F S1x32x512 .f32 := fun i => h ((Rect.unit (s := S3x32x512) ![1, 0, 0] S1x32x512.size inb_S3x32x512_S1x32x512_1_0_0).toLoadRect.idx i)
abbrev row2 (h : Vec F S3x32x512 .f32) : Vec F S1x32x512 .f32 := fun i => h ((Rect.unit (s := S3x32x512) ![2, 0, 0] S1x32x512.size inb_S3x32x512_S1x32x512_2_0_0).toLoadRect.idx i)

/-- What the loop starts from. -/
def initV (h cc : Vec F S3x32x512 .f32) : St F :=
  (k0_pay22 (row0 h), k0_pay1 (row0 cc), k0_pay2 (row1 h), k0_pay3 (row1 cc), k0_pay4 (row2 h), k0_pay5 (row2 cc))

/-- A rectangle of the whole extent is the identity on indices. -/
theorem full_emb {S : Shape} (o : Fin S.rank → ℕ) (ho : ∀ a, o a = 0) (h : ∀ a, o a + S.size a ≤ S.size a) (y : S.Idx) :
    (Rect.unit (s := S) o S.size h).emb y = y :=
  funext fun a => Fin.ext (by show o a + 1 * (y a).val = (y a).val; rw [ho]; omega)

theorem read_full {S : Shape} {e : EltTy} {sp : Space} (M : Memref sig .tc sp S e) (o : Fin S.rank → ℕ) (ho : ∀ a, o a = 0) (h : ∀ a, o a + S.size a ≤ S.size a)
    (f : BufTy.Contents (Elt F) M.view.ty) :
    View.readAt (Elt F) M.view (Rect.unit (s := S) o S.size h).toLoadRect f = M.view.read (Elt F) f :=
  funext fun y => congrArg (M.view.read (Elt F) f) (full_emb o ho h y)

theorem read_store {S : Shape} {e : EltTy} {sp : Space} (M : Memref sig .tc sp S e) (o : Fin S.rank → ℕ) (ho : ∀ a, o a = 0) (h : ∀ a, o a + S.size a ≤ S.size a)
    (f : BufTy.Contents (Elt F) M.view.ty) (v : Vec F S e) :
    M.view.read (Elt F) (M.view.writes (Elt F) f [⟨Rect.unit (s := S) o S.size h, v⟩]) = v := by
  funext i
  refine View.read_writes_apply_of_pieces M.view f v _ ?_ i ⟨_, List.mem_cons_self, ?_⟩
  · intro p hp y
    obtain rfl := List.mem_singleton.1 hp
    exact congrArg v (full_emb o ho h y).symm
  · show i ∈ (Rect.unit (s := S) o S.size h).set
    rw [Rect.mem_set_unit]
    intro a
    rw [ho]
    exact ⟨Nat.zero_le _, by rw [Nat.zero_add]; exact (i a).isLt⟩

theorem zero2 : ∀ a : Fin 2, (![0, 0] : Fin 2 → ℕ) a = 0 := by decide

set_option maxHeartbeats 8000000 in
/-- The body from its buffers held to the same buffers and the output read as the recurrence. -/
theorem run [∀ e, Nonempty (Elt F e)] (c : Dev nD) (arg0 : Memref sig .tc .smem S2016 .i32) (harg0 : arg0.IsWhole) (arg2 : Memref sig .tc .vmem S4096x512 .bf16) (harg2 : arg2.IsWhole) (arg3 : Memref sig .tc .vmem S512x512 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S2x512x2048 .bf16) (harg8 : arg8.IsWhole) (arg9 : Memref sig .tc .vmem S2x512x2048 .bf16) (harg9 : arg9.IsWhole) (arg10 : Memref sig .tc .vmem S2x2048 .f32) (harg10 : arg10.IsWhole) (arg11 : Memref sig .tc .vmem S3x32x512 .f32) (harg11 : arg11.IsWhole) (arg12 : Memref sig .tc .vmem S3x32x512 .f32) (harg12 : arg12.IsWhole) (arg13 : Memref sig .tc .vmem S63x32x512 .f32) (harg13 : arg13.IsWhole) (arg15 : Memref sig .tc .vmem S2016x2048 .f32) (harg15 : arg15.IsWhole) (arg16 : Memref sig .tc .vmem S4096x512 .bf16) (harg16 : arg16.IsWhole)
    (f0 : Bf (F := F) c arg0) (hw : InVocab (word arg0 f0)) (fs : Bf (F := F) c Tab) (fv : Bf (F := F) c Dst) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f15 : BufTy.Contents (Elt F) arg15.view.ty) (f16 : BufTy.Contents (Elt F) arg16.view.ty)
    (W : Waits sig Unit) (Q : PUnit → sProp 𝕄) :
    iprop((arg0.view.loc (c : Thread nD τ) ↦{fullShare} f0) ∗ (Tab.view.loc (c : Thread nD τ) ↦{fullShare} fs) ∗ (Dst.view.loc (c : Thread nD τ) ↦{fullShare} fv)
      ∗ (arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11)
      ∗ (arg12.view.loc (c : Thread nD τ) ↦[arg12.view.set]{fullShare} f12)
      ∗ (arg13.view.loc (c : Thread nD τ) ↦[arg13.view.set]{fullShare} f13)
      ∗ (arg15.view.loc (c : Thread nD τ) ↦[arg15.view.set]{fullShare} f15)
      ∗ (arg16.view.loc (c : Thread nD τ) ↦[arg16.view.set]{fullShare} f16)
      ∗ semVal ((c : Thread nD τ), SemLoc.dma cc0_scratch3.sem) 0 ∗ owes (c : Thread nD τ) 0 W
      ∗ (((arg0.view.loc (c : Thread nD τ) ↦{fullShare} f0) ∗ (Tab.view.loc (c : Thread nD τ) ↦{fullShare} fs)
      ∗ (arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11)
      ∗ (arg12.view.loc (c : Thread nD τ) ↦[arg12.view.set]{fullShare} f12)
      ∗ semVal ((c : Thread nD τ), SemLoc.dma cc0_scratch3.sem) 0
      ∗ (∃ f, Dst.view.loc (c : Thread nD τ) ↦{fullShare} f)
      ∗ (∃ f, arg15.view.loc (c : Thread nD τ) ↦[arg15.view.set]{fullShare} f)
      ∗ (∃ f, arg16.view.loc (c : Thread nD τ) ↦[arg16.view.set]{fullShare} f)
      ∗ (∃ f, (arg13.view.loc (c : Thread nD τ) ↦[arg13.view.set]{fullShare} f) ∗ ⌜arg13.view.read (Elt F) f = out (arrV (Dst.view.read (Elt F) (gath c hw fs)) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10)) (initV (arg11.view.read (Elt F) f11) (arg12.view.read (Elt F) f12))⌝)
      ∗ (∃ W, owes (c : Thread nD τ) 0 W)) -∗ Q ⟨⟩))
      ⊢ wp frame (wpE (defs₀ (F := F)) Variants.none c none) Set.univ
        (cc0_decoder_recurrence (F := F) arg0 harg0 Tab (Memref.isWhole_whole _) arg2 harg2 arg3 harg3 arg4 harg4 arg5 harg5 arg6 harg6 arg7 harg7 arg8 harg8 arg9 harg9 arg10 harg10 arg11 harg11 arg12 harg12 arg13 harg13 Dst (Memref.isWhole_whole _) arg15 harg15 arg16 harg16 cc0_scratch3) Q := by
  iintro ⟨H0, HT, HD, H2, H3, H4, H5, H6, H7, H8, H9, H10, H11, H12, H13, H15, H16, Hc, HO, Hk⟩
  simp only [cc0_decoder_recurrence_eq_skeleton]
  unfold cc0_decoder_recurrence_skel
  simp only [k0_part4_eq_skeleton]
  unfold k0_part4_skel
  simp only [bind_assoc]
  imod (Transfers.batch_alloc' (Lvl := ℕ) countersEmb (c : Thread nD τ) () NN
    (fun t : Fin 2016 => D c hw fv fs (t.castLE (trips1 ▸ le_rfl))) (sm := .dma cc0_scratch3.sem) (E := Set.univ)) $$ Hc with HB
  ihave HE := (enter c hw fv fs) $$ [HD HT]
  · isplitl [HD]; · iexact HD
    iexact HT
  icases HE with ⟨HP, HS, HL⟩
  sl_for (issueAt c arg0 f0 hw fv fs) $$ [HB HP HS H0]
  · intro k acc; exact issue_step c arg0 f0 hw fv fs arg2 harg2 arg3 harg3 arg4 harg4 arg5 harg5 arg6 harg6 arg7 harg7 arg8 harg8 arg9 harg9 arg10 harg10 arg11 harg11 arg12 harg12 arg13 harg13 arg15 harg15 arg16 harg16 harg0 k acc
  · iapply (show iprop(batch c hw fv fs 0 0
        ∗ bigSep (Ring.rangeSet k0_t1_loop.trips 0 2016) (fun t => dstD c fv t)
        ∗ bigSep (Ring.rangeSet k0_t1_loop.trips 0 2016) (fun t => tokD c hw fs t)
        ∗ (arg0.view.loc (c : Thread nD τ) ↦{fullShare} f0)) ⊢ issueAt c arg0 f0 hw fv fs 0 () from by unfold issueAt; rw [Nat.zero_min])
    isplitl [HB]; · iexact HB
    isplitl [HP]; · iexact HP
    isplitl [HS]; · iexact HS
    iexact H0
  iintro %acc HI
  ihave HI' := (show issueAt c arg0 f0 hw fv fs k0_t1_loop.trips acc ⊢ iprop(batch c hw fv fs 2016 0 ∗ (arg0.view.loc (c : Thread nD τ) ↦{fullShare} f0)) from by
    unfold issueAt
    simp only [Nat.min_eq_right (Nat.le_of_eq trips1.symm), Ring.bigSep_rangeSet_empty (Nat.le_of_eq trips1.symm)]
    iintro ⟨A, -, -, B⟩; isplitl [A] <;> iassumption) $$ HI
  icases HI' with ⟨HB, H0⟩
  sl_for (drainAt c hw fv fs) $$ [HB HO]
  · intro k acc; exact drain_step c hw fv fs arg0 arg2 harg2 arg3 harg3 arg4 harg4 arg5 harg5 arg6 harg6 arg7 harg7 arg8 harg8 arg9 harg9 arg10 harg10 arg11 harg11 arg12 harg12 arg13 harg13 arg15 harg15 arg16 harg16 harg0 k acc
  · iapply (show iprop((∃ W, owes (c : Thread nD τ) 0 W) ∗ batch c hw fv fs 2016 0) ⊢ drainAt c hw fv fs 0 () from by
      unfold drainAt; rw [if_pos (by omega), Nat.zero_mul])
    isplitl [HO]; · iexists _; iexact HO
    iexact HB
  iintro %acc2 HI2
  ihave HI2' := (show drainAt c hw fv fs k0_t2_loop.trips acc2
      ⊢ iprop((∃ W, owes (c : Thread nD τ) 0 W) ∗ semVal ((c : Thread nD τ), SemLoc.dma cc0_scratch3.sem) 0
          ∗ bigSep Finset.univ (fun t : Fin 2016 => D c hw fv fs (t.castLE (trips1 ▸ le_rfl)))) from by
    unfold drainAt; rw [if_neg (by rw [trips2]; omega)]) $$ HI2
  icases HI2' with ⟨⟨%W', HO⟩, Hc, HDel⟩
  ihave HE2 := (leave c hw fv fs) $$ [HDel HL]
  · isplitl [HDel]; · iexact HDel
    iexact HL
  icases HE2 with ⟨HD, HT⟩
  sl_exec
  sl_step
  iapply Hk
  isplitl [H0]; · iexact H0
  isplitl [HT]; · iexact HT
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [Hc]; · iexact Hc
  isplitl [HD]; · iexists _; iexact HD
  isplitl [H15]; · iexists _; iexact H15
  isplitl [H16]; · iexists _; iexact H16
  isplitl [H13]
  · iexists _
    isplitl [H13]; · iexact H13
    ipureintro
    rw [read_all _ _ _ _ _ trips3]
    refine congrArg₂ out ?_ rfl
    unfold run.sl.H15_1 run.sl.H16_1
    unfold arrs arrV
    rw [read_store arg15 ![0, 0] zero2, read_store arg16 ![0, 0] zero2, read_full arg2 ![0, 0] zero2, read_full arg3 ![0, 0] zero2,
      read_full arg4 ![0, 0] zero2, read_full arg7 ![0, 0] zero2]
    erw [read_full Dst ![0, 0] zero2]
  · iexists _; iexact HO

end Cert.DecoderIdeal.Body
-- ==== Proof.DecoderRegion.lean ====
/-
  The decoder call launched: its body under the pipeline of one point, the program's run, and what every buffer holds
  after it.
-/
module

public import proofs.«01_k».proof.Proof.DecoderRun
public import proofs.«01_k».proof.Proof.Gen.DecoderIdeal.Launch
public import proofs.«01_k».proof.Proof.Gen.DecoderIdeal.Frame
public import Idealize.ShloMosaic.Lib.Pipeline.Frame
public import Idealize.ShloMosaic.Lib.Tactic

@[expose] public section

set_option maxRecDepth 16384

noncomputable section

namespace Cert.DecoderIdeal.Launched

open Cert.DecoderIdeal Cert.DecoderIdeal.Gen Cert.DecoderIdeal.Gather Cert.DecoderIdeal.Recurrence Cert.DecoderIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UC UD)

variable {F : FTy → Type} [FloatOps F] [∀ e, Nonempty (Elt F e)]

local notation "𝕄" => MT nD τ sig Unit (Elt F) ℕ (UD sig nD τ) ℕ

variable (m : (ℓ : Loc nD τ sig) → Buf (Elt F) ℓ) (ρ : Dev nD → PrngReg)

/-- A window's block as the fetch stages it. -/
abbrev stg (c : Dev nD) (w : Fin 13) : ((cfg0.win w).xblock (cfg0.grid.coords t0_0)).Idx → Elt F (cfg0.win w).elt :=
  ((cfg0.win w).blk t0_0).view.read (Elt F) (V m c (Pipeline.arrRef spec0 w))

/-- Every staged word names a row of the table. -/
def Named : Prop := ∀ c, InVocab (word (F := F) (stage0_0 0) (c := c) (stg m c 0))

variable (hw : Named m)

/-- What the call leaves in its result. -/
def result (c : Dev nD) : Vec F S63x32x512 .f32 :=
  out (arrV (gath c (hw c) (V m c main_arg1)) (stg m c 1) (stg m c 2) (stg m c 3) (stg m c 4) (stg m c 5) (stg m c 6) (stg m c 7) (stg m c 8) (stg m c 9))
    (initV (stg m c 10) (stg m c 11))

/-- The call's own semaphore. -/
abbrev osem : Unit → SemLoc sig := fun _ => .dma cc0_scratch3.sem

theorem ownFacts : Pipeline.OwnSemFacts spec0 osem := by decide

/-- The buffer the body addresses itself: the table. -/
abbrev held : Finset (Ref sig .tc) := {main_arg1}

theorem held_rest : held ⊆ Pipeline.restRefs sig spec0 :=
  Finset.singleton_subset_iff.2 (Pipeline.mem_restRefs_of main_arg1 (by decide) (by decide))

/-- The proof data: the arrays as the host operations leave them, each input's block kept, the result's written. -/
def dat (c : Dev nD) : Dat τ (Elt F) Unit ℕ (UD sig nD τ) ℕ cfg0 c where
  A w := V m c (Pipeline.arrRef spec0 w)
  after w _ := match w with
    | ⟨0, _⟩ => stg m c 0
    | ⟨1, _⟩ => stg m c 1
    | ⟨2, _⟩ => stg m c 2
    | ⟨3, _⟩ => stg m c 3
    | ⟨4, _⟩ => stg m c 4
    | ⟨5, _⟩ => stg m c 5
    | ⟨6, _⟩ => stg m c 6
    | ⟨7, _⟩ => stg m c 7
    | ⟨8, _⟩ => stg m c 8
    | ⟨9, _⟩ => stg m c 9
    | ⟨10, _⟩ => stg m c 10
    | ⟨11, _⟩ => stg m c 11
    | ⟨12, _⟩ => result m hw c
  Φ _ := Pipeline.ΦD osem spec0 held (V m) c
  q _ := fullShare
  owed _ := 0

abbrev 𝒱₀ : Variants := Variants.none

theorem before_in0 (c : Dev nD) (d : (cfg0.win 0).block.Idx → Elt F (cfg0.win 0).elt) : (dat m hw c).before 0 t0_0 d = stg m c 0 := by
  unfold Dat.before; rw [if_pos (by decide)]; rfl

theorem before_in1 (c : Dev nD) (d : (cfg0.win 1).block.Idx → Elt F (cfg0.win 1).elt) : (dat m hw c).before 1 t0_0 d = stg m c 1 := by
  unfold Dat.before; rw [if_pos (by decide)]; rfl

theorem before_in2 (c : Dev nD) (d : (cfg0.win 2).block.Idx → Elt F (cfg0.win 2).elt) : (dat m hw c).before 2 t0_0 d = stg m c 2 := by
  unfold Dat.before; rw [if_pos (by decide)]; rfl

theorem before_in3 (c : Dev nD) (d : (cfg0.win 3).block.Idx → Elt F (cfg0.win 3).elt) : (dat m hw c).before 3 t0_0 d = stg m c 3 := by
  unfold Dat.before; rw [if_pos (by decide)]; rfl

theorem before_in4 (c : Dev nD) (d : (cfg0.win 4).block.Idx → Elt F (cfg0.win 4).elt) : (dat m hw c).before 4 t0_0 d = stg m c 4 := by
  unfold Dat.before; rw [if_pos (by decide)]; rfl

theorem before_in5 (c : Dev nD) (d : (cfg0.win 5).block.Idx → Elt F (cfg0.win 5).elt) : (dat m hw c).before 5 t0_0 d = stg m c 5 := by
  unfold Dat.before; rw [if_pos (by decide)]; rfl

theorem before_in6 (c : Dev nD) (d : (cfg0.win 6).block.Idx → Elt F (cfg0.win 6).elt) : (dat m hw c).before 6 t0_0 d = stg m c 6 := by
  unfold Dat.before; rw [if_pos (by decide)]; rfl

theorem before_in7 (c : Dev nD) (d : (cfg0.win 7).block.Idx → Elt F (cfg0.win 7).elt) : (dat m hw c).before 7 t0_0 d = stg m c 7 := by
  unfold Dat.before; rw [if_pos (by decide)]; rfl

theorem before_in8 (c : Dev nD) (d : (cfg0.win 8).block.Idx → Elt F (cfg0.win 8).elt) : (dat m hw c).before 8 t0_0 d = stg m c 8 := by
  unfold Dat.before; rw [if_pos (by decide)]; rfl

theorem before_in9 (c : Dev nD) (d : (cfg0.win 9).block.Idx → Elt F (cfg0.win 9).elt) : (dat m hw c).before 9 t0_0 d = stg m c 9 := by
  unfold Dat.before; rw [if_pos (by decide)]; rfl

theorem before_in10 (c : Dev nD) (d : (cfg0.win 10).block.Idx → Elt F (cfg0.win 10).elt) : (dat m hw c).before 10 t0_0 d = stg m c 10 := by
  unfold Dat.before; rw [if_pos (by decide)]; rfl

theorem before_in11 (c : Dev nD) (d : (cfg0.win 11).block.Idx → Elt F (cfg0.win 11).elt) : (dat m hw c).before 11 t0_0 d = stg m c 11 := by
  unfold Dat.before; rw [if_pos (by decide)]; rfl

set_option maxHeartbeats 4000000 in
set_option backward.isDefEq.respectTransparency.types false in
/-- The body under the pipeline. -/
theorem body_obligation (c : Dev nD) : BodyObligation (dat m hw c) (defs₀ (F := F)) 𝒱₀ () Set.univ := fun t => by
  obtain rfl := fin_N0 t
  rw [bigSep_W0, bigSep_W0]
  simp only [owns_whole_eq]
  rw [show (dat m hw c).Φ t0_0.castSucc = Pipeline.ΦD osem spec0 held (V m) c from rfl,
    show (dat m hw c).Φ t0_0.succ = Pipeline.ΦD osem spec0 held (V m) c from rfl,
    show (dat m hw c).owesAt () t0_0.succ = (dat m hw c).owesAt () t0_0.castSucc from rfl]
  rw [Pipeline.ΦD_eq, scopedRest0_eq]
  unfold Pipeline.ownSems0
  simp only [Finset.univ_unique, BI.bigSep_singleton]
  unfold Pipeline.Dat.owesAt Pipeline.owesWithin
  iintro ⟨⟨⟨⟨%fv, HD⟩, ⟨%f15, H15⟩, ⟨%f16, H16⟩⟩, HR, Hc, HT⟩, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, -, H12⟩⟩
  rw [before_in0] at hf0
  rw [before_in1] at hf1
  rw [before_in2] at hf2
  rw [before_in3] at hf3
  rw [before_in4] at hf4
  rw [before_in5] at hf5
  rw [before_in6] at hf6
  rw [before_in7] at hf7
  rw [before_in8] at hf8
  rw [before_in9] at hf9
  rw [before_in10] at hf10
  rw [before_in11] at hf11
  subst hf0 hf1 hf2 hf3 hf4 hf5 hf6 hf7 hf8 hf9 hf10 hf11
  have hrun := run (F := F) c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0) (stage0_7 0) (hstage0_7 0) (stage0_8 0) (hstage0_8 0) (stage0_9 0) (hstage0_9 0) (stage0_10 0) (hstage0_10 0) (stage0_11 0) (hstage0_11 0) (stage0_12 0) (hstage0_12 0) (Memref.whole cc0_scratch1) (Memref.isWhole_whole _) (Memref.whole cc0_scratch2) (Memref.isWhole_whole _)
    (stg m c 0) (hw c) (V m c main_arg1) fv (stg m c 1) (stg m c 2) (stg m c 3) (stg m c 4) (stg m c 5) (stg m c 6) (stg m c 7) (stg m c 8) (stg m c 9) (stg m c 10) (stg m c 11) f12 f15 f16 W
  simp only [(hstage0_1 0).set_eq_univ, (hstage0_2 0).set_eq_univ, (hstage0_3 0).set_eq_univ, (hstage0_4 0).set_eq_univ, (hstage0_5 0).set_eq_univ, (hstage0_6 0).set_eq_univ, (hstage0_7 0).set_eq_univ, (hstage0_8 0).set_eq_univ, (hstage0_9 0).set_eq_univ, (hstage0_10 0).set_eq_univ, (hstage0_11 0).set_eq_univ, (hstage0_12 0).set_eq_univ, (Memref.isWhole_whole cc0_scratch1).set_eq_univ, (Memref.isWhole_whole cc0_scratch2).set_eq_univ] at hrun
  iapply (hrun _)
  isplitl [H0]; · iexact H0
  isplitl [HT]; · iexact HT
  isplitl [HD]; · iexact HD
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H15]; · iexact H15
  isplitl [H16]; · iexact H16
  isplitl [Hc]; · iexact Hc
  isplitl [HO]; · iexact HO
  iintro ⟨H0, HT, H1, H2, H3, H4, H5, H6, H7, H8, H9, H10, H11, Hc, ⟨%gD, HD⟩, ⟨%g15, H15⟩, ⟨%g16, H16⟩, ⟨%g12, H12, %hg⟩, ⟨%W2, HO⟩⟩
  isplitl [HD H15 H16 HR Hc HT]
  · isplitl [HD H15 H16]
    · isplitl [HD]; · iexists _; iexact HD
      isplitl [H15]; · iexists _; iexact H15
      iexists _; iexact H16
    isplitl [HR]; · iexact HR
    isplitl [Hc]; · iexact Hc
    iexact HT
  isplitl [HO]
  · iexists _; isplitr; swap; (· iexact HO); ipureintro; exact fun _ _ => Or.inl trivial
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  isplitl [H5]; · iexists _; isplitr; swap; (· iexact H5); ipureintro; dsimp only [dat]
  isplitl [H6]; · iexists _; isplitr; swap; (· iexact H6); ipureintro; dsimp only [dat]
  isplitl [H7]; · iexists _; isplitr; swap; (· iexact H7); ipureintro; dsimp only [dat]
  isplitl [H8]; · iexists _; isplitr; swap; (· iexact H8); ipureintro; dsimp only [dat]
  isplitl [H9]; · iexists _; isplitr; swap; (· iexact H9); ipureintro; dsimp only [dat]
  isplitl [H10]; · iexists _; isplitr; swap; (· iexact H10); ipureintro; dsimp only [dat]
  isplitl [H11]; · iexists _; isplitr; swap; (· iexact H11); ipureintro; dsimp only [dat]
  iexists _; isplitr; swap; (· iexact H12); ipureintro; exact hg

theorem share_dat (c : Dev nD) (w : Fin 13) : (dat m hw c).share w = fullShare := (dat m hw c).share_full (fun _ => rfl) w

theorem hmain' : Pipeline.HMain (Ix := Unit) (Name := ℕ) (U := UD sig nD τ) (Lvl := ℕ) cfgs 0 defs₀ 𝒱₀ m (main (F := F)) (V m) :=
  Pipeline.hmain_prefix cfgs 0 defs₀ 𝒱₀ m main hostOps0 hostOps0_sub hostOps0_fresh main_chain

/-- The proof data of the program's one call. -/
abbrev dats (p : Fin 1) (c : Dev nD) : Dat τ (Elt F) Unit ℕ (UD sig nD τ) ℕ (cfgs p) c := dat m hw c

/-- The program's run: every array as the call leaves it, everything else as the host operations leave it, and every
  semaphore at zero. -/
theorem run_main : θ_run defs (onTc (τ := τ) (main (F := F))) ⟨m, fun _ => 0, ρ⟩
    (fun r => Pipeline.FramePost cfgs (dats m hw) 0 (V m) r ∧ r.2.sem = fun _ => 0) :=
  Pipeline.θ_run_frame_dma (Q' := _) cfgs (dats m hw) 0 launch0 osem defs₀ 𝒱₀ ownFacts held held_rest m ρ main
    (fun c => (body_obligation m hw c).loose) (share_dat m hw) (fun _ _ => rfl) (V m) (hmain' m) (fun _ _ => rfl)
    (fun _ => BIBase.Entails.rfl) (fun _ => BIBase.Entails.rfl) (hQ' := fun _ h => h)

end Cert.DecoderIdeal.Launched
-- ==== Proof.DecoderFrame.lean ====
/-
  What the decoder call is given and what it leaves: every input's block is its whole array, the arrays are the host
  operations' values of the arguments, and the result array ends with the block the body writes.
-/
module

public import proofs.«01_k».proof.Proof.DecoderRegion
public import Idealize.ShloMosaic.Lib.Pipeline.Value
public import Idealize.ShloMosaic.Lib.Pipeline.ValueKit.Geometry
public import Idealize.ShloMosaic.Lib.Pointwise

@[expose] public section

set_option maxRecDepth 16384

noncomputable section

namespace Cert.DecoderIdeal.Launched

open Cert.DecoderIdeal Cert.DecoderIdeal.Gen Cert.DecoderIdeal.Gather Cert.DecoderIdeal.Recurrence Cert.DecoderIdeal.Body
open Idealize.ShloMosaic Idealize.ShloMosaic.TcCoe Idealize.SL.Sem
open Idealize.ShloMosaic.Pipeline (Dat UD)

variable {F : FTy → Type} [FloatOps F]

variable (m : (ℓ : Loc nD τ sig) → Buf (Elt F) ℓ) (ρ : Dev nD → PrngReg)

/-! ## The blocks -/

theorem stg0 (c : Dev nD) : stg m c 0 = V m c main_v2 := by
  funext y
  refine congrArg (V m c main_v2) (funext fun a => Fin.ext ?_)
  fin_cases a
  · have h : win0_0.index t0_0 0 = 0 := by decide
    show win0_0.index t0_0 0 * 2016 + 1 * (y 0).val = (y 0).val
    rw [h]; omega
theorem stg1 (c : Dev nD) : stg m c 1 = V m c main_v4 := by
  funext y
  refine congrArg (V m c main_v4) (funext fun a => Fin.ext ?_)
  fin_cases a
  · have h : win0_1.index t0_0 0 = 0 := by decide
    show win0_1.index t0_0 0 * 4096 + 1 * (y 0).val = (y 0).val
    rw [h]; omega
  · have h : win0_1.index t0_0 1 = 0 := by decide
    show win0_1.index t0_0 1 * 512 + 1 * (y 1).val = (y 1).val
    rw [h]; omega
theorem stg2 (c : Dev nD) : stg m c 2 = V m c main_v6 := by
  funext y
  refine congrArg (V m c main_v6) (funext fun a => Fin.ext ?_)
  fin_cases a
  · have h : win0_2.index t0_0 0 = 0 := by decide
    show win0_2.index t0_0 0 * 512 + 1 * (y 0).val = (y 0).val
    rw [h]; omega
  · have h : win0_2.index t0_0 1 = 0 := by decide
    show win0_2.index t0_0 1 * 512 + 1 * (y 1).val = (y 1).val
    rw [h]; omega
theorem stg3 (c : Dev nD) : stg m c 3 = V m c main_v9 := by
  funext y
  refine congrArg (V m c main_v9) (funext fun a => Fin.ext ?_)
  fin_cases a
  · have h : win0_3.index t0_0 0 = 0 := by decide
    show win0_3.index t0_0 0 * 512 + 1 * (y 0).val = (y 0).val
    rw [h]; omega
  · have h : win0_3.index t0_0 1 = 0 := by decide
    show win0_3.index t0_0 1 * 2048 + 1 * (y 1).val = (y 1).val
    rw [h]; omega
theorem stg4 (c : Dev nD) : stg m c 4 = V m c main_v12 := by
  funext y
  refine congrArg (V m c main_v12) (funext fun a => Fin.ext ?_)
  fin_cases a
  · have h : win0_4.index t0_0 0 = 0 := by decide
    show win0_4.index t0_0 0 * 512 + 1 * (y 0).val = (y 0).val
    rw [h]; omega
  · have h : win0_4.index t0_0 1 = 0 := by decide
    show win0_4.index t0_0 1 * 2048 + 1 * (y 1).val = (y 1).val
    rw [h]; omega
theorem stg5 (c : Dev nD) : stg m c 5 = V m c main_v14 := by
  funext y
  refine congrArg (V m c main_v14) (funext fun a => Fin.ext ?_)
  fin_cases a
  · have h : win0_5.index t0_0 0 = 0 := by decide
    show win0_5.index t0_0 0 * 512 + 1 * (y 0).val = (y 0).val
    rw [h]; omega
  · have h : win0_5.index t0_0 1 = 0 := by decide
    show win0_5.index t0_0 1 * 2048 + 1 * (y 1).val = (y 1).val
    rw [h]; omega
theorem stg6 (c : Dev nD) : stg m c 6 = V m c main_v15 := by
  funext y
  refine congrArg (V m c main_v15) (funext fun a => Fin.ext ?_)
  fin_cases a
  · have h : win0_6.index t0_0 0 = 0 := by decide
    show win0_6.index t0_0 0 * 1 + 1 * (y 0).val = (y 0).val
    rw [h]; omega
  · have h : win0_6.index t0_0 1 = 0 := by decide
    show win0_6.index t0_0 1 * 2048 + 1 * (y 1).val = (y 1).val
    rw [h]; omega
theorem stg7 (c : Dev nD) : stg m c 7 = V m c main_v25 := by
  funext y
  refine congrArg (V m c main_v25) (funext fun a => Fin.ext ?_)
  fin_cases a
  · have h : win0_7.index t0_0 0 = 0 := by decide
    show win0_7.index t0_0 0 * 2 + 1 * (y 0).val = (y 0).val
    rw [h]; omega
  · have h : win0_7.index t0_0 1 = 0 := by decide
    show win0_7.index t0_0 1 * 512 + 1 * (y 1).val = (y 1).val
    rw [h]; omega
  · have h : win0_7.index t0_0 2 = 0 := by decide
    show win0_7.index t0_0 2 * 2048 + 1 * (y 2).val = (y 2).val
    rw [h]; omega
theorem stg8 (c : Dev nD) : stg m c 8 = V m c main_v35 := by
  funext y
  refine congrArg (V m c main_v35) (funext fun a => Fin.ext ?_)
  fin_cases a
  · have h : win0_8.index t0_0 0 = 0 := by decide
    show win0_8.index t0_0 0 * 2 + 1 * (y 0).val = (y 0).val
    rw [h]; omega
  · have h : win0_8.index t0_0 1 = 0 := by decide
    show win0_8.index t0_0 1 * 512 + 1 * (y 1).val = (y 1).val
    rw [h]; omega
  · have h : win0_8.index t0_0 2 = 0 := by decide
    show win0_8.index t0_0 2 * 2048 + 1 * (y 2).val = (y 2).val
    rw [h]; omega
theorem stg9 (c : Dev nD) : stg m c 9 = V m c main_arg10 := by
  funext y
  refine congrArg (V m c main_arg10) (funext fun a => Fin.ext ?_)
  fin_cases a
  · have h : win0_9.index t0_0 0 = 0 := by decide
    show win0_9.index t0_0 0 * 2 + 1 * (y 0).val = (y 0).val
    rw [h]; omega
  · have h : win0_9.index t0_0 1 = 0 := by decide
    show win0_9.index t0_0 1 * 2048 + 1 * (y 1).val = (y 1).val
    rw [h]; omega
theorem stg10 (c : Dev nD) : stg m c 10 = V m c main_arg3 := by
  funext y
  refine congrArg (V m c main_arg3) (funext fun a => Fin.ext ?_)
  fin_cases a
  · have h : win0_10.index t0_0 0 = 0 := by decide
    show win0_10.index t0_0 0 * 3 + 1 * (y 0).val = (y 0).val
    rw [h]; omega
  · have h : win0_10.index t0_0 1 = 0 := by decide
    show win0_10.index t0_0 1 * 32 + 1 * (y 1).val = (y 1).val
    rw [h]; omega
  · have h : win0_10.index t0_0 2 = 0 := by decide
    show win0_10.index t0_0 2 * 512 + 1 * (y 2).val = (y 2).val
    rw [h]; omega
theorem stg11 (c : Dev nD) : stg m c 11 = V m c main_arg4 := by
  funext y
  refine congrArg (V m c main_arg4) (funext fun a => Fin.ext ?_)
  fin_cases a
  · have h : win0_11.index t0_0 0 = 0 := by decide
    show win0_11.index t0_0 0 * 3 + 1 * (y 0).val = (y 0).val
    rw [h]; omega
  · have h : win0_11.index t0_0 1 = 0 := by decide
    show win0_11.index t0_0 1 * 32 + 1 * (y 1).val = (y 1).val
    rw [h]; omega
  · have h : win0_11.index t0_0 2 = 0 := by decide
    show win0_11.index t0_0 2 * 512 + 1 * (y 2).val = (y 2).val
    rw [h]; omega

/-! ## The host operations' values -/

abbrev A0 (c : Dev nD) : IVec S32x64 32 := m ((c.tc : Thread nD τ).loc main_arg0)
abbrev A1 (c : Dev nD) : FVec F S32000x512 .f32 := m ((c.tc : Thread nD τ).loc main_arg1)
abbrev A2 (c : Dev nD) : FVec F S128x32x512 .f32 := m ((c.tc : Thread nD τ).loc main_arg2)
abbrev A3 (c : Dev nD) : FVec F S3x32x512 .f32 := m ((c.tc : Thread nD τ).loc main_arg3)
abbrev A4 (c : Dev nD) : FVec F S3x32x512 .f32 := m ((c.tc : Thread nD τ).loc main_arg4)
abbrev A5 (c : Dev nD) : FVec F S2048x1024 .f32 := m ((c.tc : Thread nD τ).loc main_arg5)
abbrev A6 (c : Dev nD) : FVec F S2048x512 .f32 := m ((c.tc : Thread nD τ).loc main_arg6)
abbrev A7 (c : Dev nD) : FVec F S2048 .f32 := m ((c.tc : Thread nD τ).loc main_arg7)
abbrev A8 (c : Dev nD) : FVec F S2x2048x512 .f32 := m ((c.tc : Thread nD τ).loc main_arg8)
abbrev A9 (c : Dev nD) : FVec F S2x2048x512 .f32 := m ((c.tc : Thread nD τ).loc main_arg9)
abbrev A10 (c : Dev nD) : FVec F S2x2048 .f32 := m ((c.tc : Thread nD τ).loc main_arg10)
abbrev A11 (c : Dev nD) : FVec F S512x512 .f32 := m ((c.tc : Thread nD τ).loc main_arg11)

abbrev ids (c : Dev nD) : IVec S2016 32 := shapeCast S2016 (transpose S63x32 [1, 0] (extractStridedSlice S32x63 ![0, 0] (A0 m c) slices_S32x64_S32x63_0_0) transposes_S32x63_S63x32_1_0) shapeCasts_S63x32_S2016
theorem V_ids (c : Dev nD) : V m c main_v2 = ids m c := by
  show StableHlo.after hostOps0 (fun b => m (c, b)) main_v2 = _
  after_results <;> rfl

abbrev enr (c : Dev nD) : FVec F S4096x512 .bf16 := truncf .bf16 (shapeCast S4096x512 (A2 m c) shapeCasts_S128x32x512_S4096x512) bitsLt_bf16_f32
theorem V_enr (c : Dev nD) : V m c main_v4 = enr m c := by
  show StableHlo.after hostOps0 (fun b => m (c, b)) main_v4 = _
  after_results <;> rfl

abbrev wat (c : Dev nD) : FVec F S512x512 .bf16 := truncf .bf16 (transpose S512x512 [1, 0] (A11 m c) transposes_S512x512_S512x512_1_0) bitsLt_bf16_f32
theorem V_wat (c : Dev nD) : V m c main_v6 = wat m c := by
  show StableHlo.after hostOps0 (fun b => m (c, b)) main_v6 = _
  after_results <;> rfl

abbrev wxt (c : Dev nD) : FVec F S512x2048 .bf16 := truncf .bf16 (transpose S512x2048 [1, 0] (extractStridedSlice S2048x512 ![0, 0] (A5 m c) slices_S2048x1024_S2048x512_0_0) transposes_S2048x512_S512x2048_1_0) bitsLt_bf16_f32
theorem V_wxt (c : Dev nD) : V m c main_v9 = wxt m c := by
  show StableHlo.after hostOps0 (fun b => m (c, b)) main_v9 = _
  after_results <;> rfl

abbrev wct (c : Dev nD) : FVec F S512x2048 .bf16 := truncf .bf16 (transpose S512x2048 [1, 0] (extractStridedSlice S2048x512 ![0, 512] (A5 m c) slices_S2048x1024_S2048x512_0_512) transposes_S2048x512_S512x2048_1_0) bitsLt_bf16_f32
theorem V_wct (c : Dev nD) : V m c main_v12 = wct m c := by
  show StableHlo.after hostOps0 (fun b => m (c, b)) main_v12 = _
  after_results <;> rfl

abbrev wht (c : Dev nD) : FVec F S512x2048 .bf16 := truncf .bf16 (transpose S512x2048 [1, 0] (A6 m c) transposes_S2048x512_S512x2048_1_0) bitsLt_bf16_f32
theorem V_wht (c : Dev nD) : V m c main_v14 = wht m c := by
  show StableHlo.after hostOps0 (fun b => m (c, b)) main_v14 = _
  after_results <;> rfl

abbrev b0r (c : Dev nD) : FVec F S1x2048 .f32 := shapeCast S1x2048 (A7 m c) shapeCasts_S2048_S1x2048
theorem V_b0r (c : Dev nD) : V m c main_v15 = b0r m c := by
  show StableHlo.after hostOps0 (fun b => m (c, b)) main_v15 = _
  after_results <;> rfl

abbrev wis (c : Dev nD) : FVec F S2x512x2048 .bf16 := (truncf .bf16 (concatenate S2x512x2048 0 [⟨S1x512x2048, (broadcastInDim S1x512x2048 ![1, 2] bcast_S512x2048_S1x512x2048_1_2 (transpose S512x2048 [1, 0] (shapeCast S2048x512 (extractStridedSlice S1x2048x512 ![0, 0, 0] (A8 m c) slices_S2x2048x512_S1x2048x512_0_0_0) shapeCasts_S1x2048x512_S2048x512) transposes_S2048x512_S512x2048_1_0))⟩, ⟨S1x512x2048, (broadcastInDim S1x512x2048 ![1, 2] bcast_S512x2048_S1x512x2048_1_2 (transpose S512x2048 [1, 0] (shapeCast S2048x512 (extractStridedSlice S1x2048x512 ![1, 0, 0] (A8 m c) slices_S2x2048x512_S1x2048x512_1_0_0) shapeCasts_S1x2048x512_S2048x512) transposes_S2048x512_S512x2048_1_0))⟩] concatenates_S1x512x2048_S1x512x2048_S2x512x2048_d0) bitsLt_bf16_f32)
theorem V_wis (c : Dev nD) : V m c main_v25 = wis m c := by
  show StableHlo.after hostOps0 (fun b => m (c, b)) main_v25 = _
  after_results <;> rfl

abbrev wrs (c : Dev nD) : FVec F S2x512x2048 .bf16 := (truncf .bf16 (concatenate S2x512x2048 0 [⟨S1x512x2048, (broadcastInDim S1x512x2048 ![1, 2] bcast_S512x2048_S1x512x2048_1_2 (transpose S512x2048 [1, 0] (shapeCast S2048x512 (extractStridedSlice S1x2048x512 ![0, 0, 0] (A9 m c) slices_S2x2048x512_S1x2048x512_0_0_0) shapeCasts_S1x2048x512_S2048x512) transposes_S2048x512_S512x2048_1_0))⟩, ⟨S1x512x2048, (broadcastInDim S1x512x2048 ![1, 2] bcast_S512x2048_S1x512x2048_1_2 (transpose S512x2048 [1, 0] (shapeCast S2048x512 (extractStridedSlice S1x2048x512 ![1, 0, 0] (A9 m c) slices_S2x2048x512_S1x2048x512_1_0_0) shapeCasts_S1x2048x512_S2048x512) transposes_S2048x512_S512x2048_1_0))⟩] concatenates_S1x512x2048_S1x512x2048_S2x512x2048_d0) bitsLt_bf16_f32)
theorem V_wrs (c : Dev nD) : V m c main_v35 = wrs m c := by
  show StableHlo.after hostOps0 (fun b => m (c, b)) main_v35 = _
  after_results <;> rfl

/-! ## The tokens -/

theorem off1_at : ∀ t : Fin k0_t1_loop.trips, k0_off1 t = ![t.val] := by decide +kernel

theorem word_at (c : Dev nD) (t : Fin k0_t1_loop.trips) :
    word (F := F) (stage0_0 0) (c := c) (stg m c 0) t = ids m c (ix1 ⟨t.val, t.isLt.trans_eq trips1⟩) := by
  rw [stg0, V_ids]
  refine congrArg (ids m c) (funext fun a => Fin.ext ?_)
  fin_cases a
  have hq : k0_off1 t 0 = t.val := congrFun (off1_at t) 0
  show k0_off1 t 0 + 1 * 0 = t.val
  omega

theorem ids_at (c : Dev nD) (k : Fin 63) (b : Fin 32) :
    ids m c (ix1 ⟨k.val * 32 + b.val, by omega⟩) = A0 m c (ix2 b ⟨k.val, by omega⟩) := by
  unfold ids
  generalize A0 m c = y
  pointwise

theorem named_of (h : ∀ c i, (A0 m c i).toNat < 32000) : Named m := by
  intro c t
  have ht := t.isLt.trans_eq trips1
  rw [word_at]
  have e : (ix1 ⟨t.val, ht⟩ : S2016.Idx) = ix1 ⟨(⟨t.val / 32, by omega⟩ : Fin 63).val * 32 + (⟨t.val % 32, by omega⟩ : Fin 32).val, by
      show t.val / 32 * 32 + t.val % 32 < 2016; omega⟩ :=
    congrArg ix1 (Fin.ext (by show t.val = t.val / 32 * 32 + t.val % 32; omega))
  rw [e, ids_at]
  exact h c _

variable [∀ e, Nonempty (Elt F e)] (hw : Named m)

/-! ## The result -/

theorem res_whole (i : S63x32x512.Idx) : ((cfg0.win 12).blk t0_0).view.emb i = i := by
  funext a
  refine Fin.ext ?_
  fin_cases a
  · have h : win0_12.index t0_0 0 = 0 := by decide
    show win0_12.index t0_0 0 * 63 + 1 * (i 0).val = (i 0).val
    rw [h]; omega
  · have h : win0_12.index t0_0 1 = 0 := by decide
    show win0_12.index t0_0 1 * 32 + 1 * (i 1).val = (i 1).val
    rw [h]; omega
  · have h : win0_12.index t0_0 2 = 0 := by decide
    show win0_12.index t0_0 2 * 512 + 1 * (i 2).val = (i 2).val
    rw [h]; omega

/-- The result array after the call. -/
theorem final (c : Dev nD) : (dats m hw 0 c).arrAt 12 cfg0.N = result m hw c := by
  refine (dats m hw 0 c).arrAt_eq_of_covers 12 _ (by decide +kernel) (fun t _ y => ?_)
  obtain rfl := fin_N0 t
  exact (congrArg (result m hw c) (res_whole y)).symm

/-- The program's run: the result, the arguments as they were, every semaphore at zero. -/
theorem run_args : θ_run defs (onTc (τ := τ) (main (F := F))) ⟨m, fun _ => 0, ρ⟩ (fun r => (∀ c : Dev nD,
      r.2.mem ((c.tc : Thread nD τ).loc main_v36) = result m hw c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨((h.1 c).1 12).trans (final m hw c),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).1 10).trans (((dats m hw 0 c).arrAt_in 10 rfl _).trans (V_main_arg3 m c)),
    ((h.1 c).1 11).trans (((dats m hw 0 c).arrAt_in 11 rfl _).trans (V_main_arg4 m c)),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    ((h.1 c).2 main_arg9 (Pipeline.mem_restRefs_of main_arg9 (by decide) (by decide))).trans (V_main_arg9 m c),
    ((h.1 c).1 9).trans (((dats m hw 0 c).arrAt_in 9 rfl _).trans (V_main_arg10 m c)),
    ((h.1 c).2 main_arg11 (Pipeline.mem_restRefs_of main_arg11 (by decide) (by decide))).trans (V_main_arg11 m c)⟩, h.2⟩) (run_main m ρ hw)

end Cert.DecoderIdeal.Launched
-- ==== Proof.DecoderTransfer.lean ====
/-
  The decoder call as printed is the idealized text at the device's floats: the two programs are one term, so the run of
  the one is the run of the other.
-/
module

public import proofs.«01_k».proof.Decoder
public import proofs.«01_k».proof.Proof.DecoderFrame

@[expose] public section

set_option maxRecDepth 16384

namespace Cert.Decoder.Transfer

open Idealize.ShloMosaic Idealize.SL.Sem

variable {F : FTy → Type} [FloatOps F] [h : Cert.Decoder.Facts] [h' : Cert.DecoderIdeal.Facts]

theorem body_eq : @Cert.Decoder.cc0_decoder_recurrence F _ h = @Cert.DecoderIdeal.cc0_decoder_recurrence F _ h' := rfl
set_option maxHeartbeats 4000000 in
theorem main_eq : @Cert.Decoder.main F _ h  = @Cert.DecoderIdeal.main F _ h' := rfl
theorem defs₀_eq : @Cert.Decoder.defs₀ F _ h  = @Cert.DecoderIdeal.defs₀ F _ h' := by
  refine congrArg (Defs.onTc (nD := Cert.Decoder.nD) (τ := Cert.Decoder.τ) (sig := Cert.Decoder.sig) (Val := Elt F) (Λ := Cert.Decoder.Λ₀)) (funext fun l => funext fun a => ?_)
  match l, a with
  | 0, (t, s) => rfl
theorem defs_eq : @Cert.Decoder.defs F _ h  = @Cert.DecoderIdeal.defs F _ h' :=
  congrArg (Pipeline.defs (Cert.Decoder.pcfgs (F := F))) defs₀_eq

/-- The run of the printed text leaves the arguments as they were and every semaphore at zero. -/
theorem run_args [∀ e, Nonempty (Elt F e)] (m : (ℓ : Loc Cert.DecoderIdeal.nD Cert.DecoderIdeal.τ Cert.DecoderIdeal.sig) → Buf (Elt F) ℓ)
    (ρ : Dev Cert.DecoderIdeal.nD → PrngReg) (hw : Cert.DecoderIdeal.Launched.Named m) :
    θ_run (@Cert.Decoder.defs F _ h) (onTc (τ := Cert.Decoder.τ) (@Cert.Decoder.main F _ h)) ⟨m, fun _ => 0, ρ⟩ (fun r => (∀ c : Dev Cert.Decoder.nD,
      r.2.mem ((c.tc : Thread Cert.Decoder.nD Cert.Decoder.τ).loc Cert.Decoder.main_arg0) = m ((c.tc : Thread Cert.Decoder.nD Cert.Decoder.τ).loc Cert.Decoder.main_arg0)
      ∧ r.2.mem ((c.tc : Thread Cert.Decoder.nD Cert.Decoder.τ).loc Cert.Decoder.main_arg1) = m ((c.tc : Thread Cert.Decoder.nD Cert.Decoder.τ).loc Cert.Decoder.main_arg1)
      ∧ r.2.mem ((c.tc : Thread Cert.Decoder.nD Cert.Decoder.τ).loc Cert.Decoder.main_arg2) = m ((c.tc : Thread Cert.Decoder.nD Cert.Decoder.τ).loc Cert.Decoder.main_arg2)
      ∧ r.2.mem ((c.tc : Thread Cert.Decoder.nD Cert.Decoder.τ).loc Cert.Decoder.main_arg3) = m ((c.tc : Thread Cert.Decoder.nD Cert.Decoder.τ).loc Cert.Decoder.main_arg3)
      ∧ r.2.mem ((c.tc : Thread Cert.Decoder.nD Cert.Decoder.τ).loc Cert.Decoder.main_arg4) = m ((c.tc : Thread Cert.Decoder.nD Cert.Decoder.τ).loc Cert.Decoder.main_arg4)
      ∧ r.2.mem ((c.tc : Thread Cert.Decoder.nD Cert.Decoder.τ).loc Cert.Decoder.main_arg5) = m ((c.tc : Thread Cert.Decoder.nD Cert.Decoder.τ).loc Cert.Decoder.main_arg5)
      ∧ r.2.mem ((c.tc : Thread Cert.Decoder.nD Cert.Decoder.τ).loc Cert.Decoder.main_arg6) = m ((c.tc : Thread Cert.Decoder.nD Cert.Decoder.τ).loc Cert.Decoder.main_arg6)
      ∧ r.2.mem ((c.tc : Thread Cert.Decoder.nD Cert.Decoder.τ).loc Cert.Decoder.main_arg7) = m ((c.tc : Thread Cert.Decoder.nD Cert.Decoder.τ).loc Cert.Decoder.main_arg7)
      ∧ r.2.mem ((c.tc : Thread Cert.Decoder.nD Cert.Decoder.τ).loc Cert.Decoder.main_arg8) = m ((c.tc : Thread Cert.Decoder.nD Cert.Decoder.τ).loc Cert.Decoder.main_arg8)
      ∧ r.2.mem ((c.tc : Thread Cert.Decoder.nD Cert.Decoder.τ).loc Cert.Decoder.main_arg9) = m ((c.tc : Thread Cert.Decoder.nD Cert.Decoder.τ).loc Cert.Decoder.main_arg9)
      ∧ r.2.mem ((c.tc : Thread Cert.Decoder.nD Cert.Decoder.τ).loc Cert.Decoder.main_arg10) = m ((c.tc : Thread Cert.Decoder.nD Cert.Decoder.τ).loc Cert.Decoder.main_arg10)
      ∧ r.2.mem ((c.tc : Thread Cert.Decoder.nD Cert.Decoder.τ).loc Cert.Decoder.main_arg11) = m ((c.tc : Thread Cert.Decoder.nD Cert.Decoder.τ).loc Cert.Decoder.main_arg11))
      ∧ r.2.sem = fun _ => 0) := by
  rw [defs_eq (h' := Cert.DecoderIdeal.Gen.facts), main_eq (h' := Cert.DecoderIdeal.Gen.facts)]
  exact (θ_run _ _ _).mono (fun _ h => ⟨fun c => (h.1 c).2, h.2⟩) (Cert.DecoderIdeal.Launched.run_args m ρ hw)

end Cert.Decoder.Transfer
-- ==== Proof.EncoderGather.lean ====
/-
  The row gather at the head of the encoder call. The first loop starts one copy per token: row `k` of the scratch
  buffer is filled from the table row the `k`-th token names. The second loop waits once per copy on the same
  semaphore. The copies are one batch on that semaphore, so only the last wait hands anything back, and it hands back
  everything. A token may occur twice, so each copy holds its own read share of its table row.
-/
module

public import proofs.«01_k».proof.Proof.Gen.EncoderIdeal.Skeleton
public import Idealize.ShloMosaic.Lib.Pipeline.Routed
public import Idealize.ShloMosaic.Lib.Batch
public import Idealize.ShloMosaic.Lib.Ring
public import Idealize.ShloMosaic.Lib.Tactic
public import Idealize.ShloMosaic.Lib.Pointwise
public import Idealize.ShloMosaic.Lib.WordArith.Masks

@[expose] public section

set_option maxRecDepth 16384

noncomputable section

namespace Cert.EncoderIdeal.EncoderGather

open Cert.EncoderIdeal Cert.EncoderIdeal.Gen
open Idealize.ShloMosaic Idealize.ShloMosaic.Pointwise Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-- The contents of a memref's buffer on core `c`. -/
abbrev Bf (c : Dev nD) {sp : Space} {S : Shape} {e : EltTy} (M : Memref sig .tc sp S e) : Type :=
  Buf (Elt F) (M.view.loc (c : Thread nD τ))

theorem trips1 : k0_t1_loop.trips = 4096 := by decide
theorem trips2 : k0_t2_loop.trips = 4096 := by decide

/-- The scratch the rows land in, and the table. -/
abbrev Dst : Memref sig .tc .vmem S4096x256 .f32 := Memref.whole cc0_scratch0
abbrev Tab : Memref sig .tc .hbm S32000x256 .f32 := Memref.whole main_arg1

abbrev one : S1.Idx := Shape.Idx.first (s := S1) (numel1_S1.symm ▸ Nat.one_pos)

/-- The `t`-th token, as the body's load reads it. -/
abbrev word (M0 : Memref sig .tc .smem S4096 .i32) {c : Dev nD} (f0 : Bf (F := F) c M0) (t : Fin k0_t1_loop.trips) : BitVec 32 :=
  M0.view.readAt (Elt F) (Rect.unit (s := S4096) (k0_off1 t) S1.size (k0_off1_inb t)).toLoadRect f0 one

/-- Every token names a row of the table. -/
def InVocab (w : Fin k0_t1_loop.trips → BitVec 32) : Prop := ∀ t, (w t).toNat < 32000

theorem row_inb (w : BitVec 32) (h : w.toNat < 32000) : ∀ a, k0_off3 w a + S1x256.size a ≤ S32000x256.size a := by
  intro a; fin_cases a
  · show w.toNat + 1 ≤ 32000; omega
  · show 0 + 256 ≤ 256; omega

/-- Row `t` of the scratch, and the table row word `w` names, as the body spells them. -/
def dstM (t : Fin k0_t1_loop.trips) : Memref sig .tc .vmem S256 .f32 :=
  (Dst.slice (Rect.unit (s := S4096x256) (k0_off2 t) S1x256.size (k0_off2_inb t)) (fun _ => rfl)).squeeze S256 squeezes_S1x256_S256
def srcM (w : BitVec 32) (h : ∀ a, k0_off3 w a + S1x256.size a ≤ S32000x256.size a) : Memref sig .tc .hbm S256 .f32 :=
  (Tab.slice (Rect.unit (s := S32000x256) (k0_off3 w) S1x256.size h) (fun _ => rfl)).squeeze S256 squeezes_S1x256_S256

/-- What one copy credits the semaphore with. -/
abbrev NN : ℕ := 32

section Deliveries

variable (c : Dev nD) {w : Fin k0_t1_loop.trips → BitVec 32} (hw : InVocab w)
  (fv : Bf (F := F) c Dst) (fs : Bf (F := F) c Tab)

abbrev fvAt (t : Fin k0_t1_loop.trips) : Buf (Elt F) ((dstM t).view.loc (c : Thread nD τ)) := fv
abbrev fsAt (t : Fin k0_t1_loop.trips) : Buf (Elt F) ((srcM (w t) (row_inb _ (hw t))).view.loc (c : Thread nD τ)) := fs

/-- Row `t` after its copy. -/
abbrev landed (t : Fin k0_t1_loop.trips) : Buf (Elt F) ((dstM t).view.loc (c : Thread nD τ)) :=
  (dstM t).view.writes (Elt F) (fvAt c fv t) [⟨Rect.whole S256, ReadAs.same.apply ((srcM (w t) (row_inb _ (hw t))).view.read (Elt F) (fsAt c hw fs t))⟩]

abbrev tokD (t : Fin k0_t1_loop.trips) : sProp 𝕄 :=
  (srcM (w t) (row_inb _ (hw t))).view.loc (c : Thread nD τ) ↦[(srcM (w t) (row_inb _ (hw t))).view.set]{Transfers.shareTokN fullShare t.val} fsAt c hw fs t
abbrev dstD (t : Fin k0_t1_loop.trips) : sProp 𝕄 :=
  (dstM t).view.loc (c : Thread nD τ) ↦[(dstM t).view.set]{fullShare} fvAt c fv t
abbrev landD (t : Fin k0_t1_loop.trips) : sProp 𝕄 :=
  (dstM t).view.loc (c : Thread nD τ) ↦[(dstM t).view.set]{fullShare} landed c hw fv fs t

/-- What copy `t` hands back: its row landed, and its share of the table row. -/
abbrev D (t : Fin k0_t1_loop.trips) : sProp 𝕄 := iprop(landD c hw fv fs t ∗ tokD c hw fs t)

instance D_storable (t : Fin k0_t1_loop.trips) : BI.Storable (upEmb : UEmb _ 𝕄) (D c hw fv fs t) := by
  unfold D; infer_instance

abbrev batch (j u : ℕ) : sProp 𝕄 :=
  Transfers.Batch countersEmb (c : Thread nD τ) (.dma cc0_scratch4.sem) () NN
    (fun t : Fin 4096 => D c hw fv fs (t.castLE (trips1 ▸ le_rfl))) j u

end Deliveries

section Issue

variable (c : Dev nD) (M0 : Memref sig .tc .smem S4096 .i32) (f0 : Bf (F := F) c M0)
  (hw : InVocab (word M0 f0)) (fv : Bf (F := F) c Dst) (fs : Bf (F := F) c Tab)

/-- Before trip `k`: `k` copies started, the rows and shares of the later copies in hand, the tokens readable. -/
def issueAt (k : ℕ) (_ : Unit) : sProp 𝕄 :=
  iprop(batch c hw fv fs (min k 4096) 0
    ∗ bigSep (Ring.rangeSet k0_t1_loop.trips k 4096) (fun t => dstD c fv t)
    ∗ bigSep (Ring.rangeSet k0_t1_loop.trips k 4096) (fun t => tokD c hw fs t)
    ∗ (M0.view.loc (c : Thread nD τ) ↦{fullShare} f0))

variable (arg2 : Memref sig .tc .vmem S256x2048 .bf16) (harg2 : arg2.IsWhole) (arg3 : Memref sig .tc .vmem S2x256x1024 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S2x256x1024 .bf16) (harg6 : arg6.IsWhole) (arg7 : Memref sig .tc .vmem S1x2048 .f32) (harg7 : arg7.IsWhole) (arg8 : Memref sig .tc .vmem S512x2048 .bf16) (harg8 : arg8.IsWhole) (arg9 : Memref sig .tc .vmem S2x256x1024 .bf16) (harg9 : arg9.IsWhole) (arg10 : Memref sig .tc .vmem S1x2048 .f32) (harg10 : arg10.IsWhole) (arg11 : Memref sig .tc .vmem S4096x512 .f32) (harg11 : arg11.IsWhole) (arg12 : Memref sig .tc .vmem S3x2x32x256 .f32) (harg12 : arg12.IsWhole) (arg13 : Memref sig .tc .vmem S3x2x32x256 .f32) (harg13 : arg13.IsWhole) (arg15 : Memref sig .tc .vmem S4096x512 .bf16) (harg15 : arg15.IsWhole) (arg16 : Memref sig .tc .vmem S4096x512 .bf16) (harg16 : arg16.IsWhole) (arg17 : Memref sig .tc .vmem S4096x2048 .bf16) (harg17 : arg17.IsWhole)

set_option maxHeartbeats 2000000 in
theorem issue_step [∀ e, Nonempty (Elt F e)] (h0 : M0.IsWhole) (k : Fin k0_t1_loop.trips) (acc : Unit) :
    issueAt c M0 f0 hw fv fs k acc
      ⊢ wp frame (wpE (defs₀ (F := F)) Variants.none c none) Set.univ
          (k0_t1_body M0 h0 Tab (Memref.isWhole_whole _) arg2 harg2 arg3 harg3 arg4 harg4 arg5 harg5 arg6 harg6 arg7 harg7 arg8 harg8 arg9 harg9 arg10 harg10 arg11 harg11 arg12 harg12 arg13 harg13 Dst (Memref.isWhole_whole _) arg15 harg15 arg16 harg16 arg17 harg17 cc0_scratch4 k acc)
          (issueAt c M0 f0 hw fv fs (k.val + 1)) := by
  have hk : k.val < 4096 := trips1 ▸ k.isLt
  have hchk : k0_chk1 (word M0 f0 k) := row_inb _ (hw k)
  unfold issueAt
  simp only [Nat.min_eq_left (Nat.le_of_lt hk), Nat.min_eq_left (Nat.succ_le_of_lt hk)]
  rw [Ring.bigSep_rangeSet_head (Φ := fun t => dstD c fv t) hk k.isLt,
    Ring.bigSep_rangeSet_head (Φ := fun t => tokD c hw fs t) hk k.isLt]
  iintro ⟨HB, ⟨HP, HPs⟩, ⟨HS, HSs⟩, H0⟩
  dsimp only [k0_t1_body]
  sl_exec (disch := exact hchk)
  sl_step
  isplitl [HB]; · iexact HB
  isplitl [HPs]; · iexact HPs
  isplitl [HSs]; · iexact HSs
  iexact H0

end Issue

section Drain

variable (c : Dev nD) {w : Fin k0_t1_loop.trips → BitVec 32} (hw : InVocab w)
  (fv : Bf (F := F) c Dst) (fs : Bf (F := F) c Tab)

/-- Before trip `k`: the credit of `k` copies consumed; after the last, the semaphore at zero and every copy's yield. -/
def drainAt (k : ℕ) (_ : Unit) : sProp 𝕄 :=
  iprop((∃ W, owes (c : Thread nD τ) 0 W)
    ∗ (if k < 4096 then batch c hw fv fs 4096 (k * NN)
       else iprop(semVal ((c : Thread nD τ), SemLoc.dma cc0_scratch4.sem) 0
              ∗ bigSep Finset.univ (fun t : Fin 4096 => D c hw fv fs (t.castLE (trips1 ▸ le_rfl))))))

variable (M0 : Memref sig .tc .smem S4096 .i32) (arg2 : Memref sig .tc .vmem S256x2048 .bf16) (harg2 : arg2.IsWhole) (arg3 : Memref sig .tc .vmem S2x256x1024 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S2x256x1024 .bf16) (harg6 : arg6.IsWhole) (arg7 : Memref sig .tc .vmem S1x2048 .f32) (harg7 : arg7.IsWhole) (arg8 : Memref sig .tc .vmem S512x2048 .bf16) (harg8 : arg8.IsWhole) (arg9 : Memref sig .tc .vmem S2x256x1024 .bf16) (harg9 : arg9.IsWhole) (arg10 : Memref sig .tc .vmem S1x2048 .f32) (harg10 : arg10.IsWhole) (arg11 : Memref sig .tc .vmem S4096x512 .f32) (harg11 : arg11.IsWhole) (arg12 : Memref sig .tc .vmem S3x2x32x256 .f32) (harg12 : arg12.IsWhole) (arg13 : Memref sig .tc .vmem S3x2x32x256 .f32) (harg13 : arg13.IsWhole) (arg15 : Memref sig .tc .vmem S4096x512 .bf16) (harg15 : arg15.IsWhole) (arg16 : Memref sig .tc .vmem S4096x512 .bf16) (harg16 : arg16.IsWhole) (arg17 : Memref sig .tc .vmem S4096x2048 .bf16) (harg17 : arg17.IsWhole)

set_option maxHeartbeats 2000000 in
theorem drain_step [∀ e, Nonempty (Elt F e)] (h0 : M0.IsWhole) (k : Fin k0_t2_loop.trips) (acc : Unit) :
    drainAt c hw fv fs k acc
      ⊢ wp frame (wpE (defs₀ (F := F)) Variants.none c none) Set.univ
          (k0_t2_body M0 h0 Tab (Memref.isWhole_whole _) arg2 harg2 arg3 harg3 arg4 harg4 arg5 harg5 arg6 harg6 arg7 harg7 arg8 harg8 arg9 harg9 arg10 harg10 arg11 harg11 arg12 harg12 arg13 harg13 Dst (Memref.isWhole_whole _) arg15 harg15 arg16 harg16 arg17 harg17 cc0_scratch4 k acc)
          (drainAt c hw fv fs (k.val + 1)) := by
  have hk : k.val < 4096 := trips2 ▸ k.isLt
  unfold drainAt
  simp only [if_pos hk]
  rcases Nat.lt_or_ge (k.val + 1) 4096 with hk1 | hk1
  · simp only [if_pos hk1]
    iintro ⟨⟨%W, HO⟩, HB⟩
    dsimp only [k0_t2_body]
    sl_exec
    sl_step
    isplitl [HO]; · iexists _; iexact HO
    rw [show (k.val + 1) * NN = k.val * NN + NN from Nat.succ_mul _ _]
    iexact HB
  · have hlast : k.val + 1 = 4096 := by omega
    simp only [if_neg (Nat.not_lt.mpr hk1)]
    iintro ⟨⟨%W, HO⟩, HB⟩
    dsimp only [k0_t2_body]
    sl_exec
    sl_step
    isplitl [HO]; · iexists _; iexact HO
    isplitl [HB]; · iexact HB
    iexact HB_all

end Drain

section Ends

variable (c : Dev nD) {w : Fin k0_t1_loop.trips → BitVec 32} (hw : InVocab w)
  (fv : Bf (F := F) c Dst) (fs : Bf (F := F) c Tab)

/-- The scratch after all copies: row `i` is the table row the `i`-th token names. -/
def gath : Bf (F := F) c Dst := fun i : S4096x256.Idx =>
  (show S32000x256.Idx → F .f32 from fs)
    (ix2 ⟨(w ((i 0).cast trips1.symm)).toNat, hw _⟩ ⟨(i 1).val, (i 1).isLt⟩)

theorem off2_eq (t : Fin k0_t1_loop.trips) : k0_off2 t = ![t.val, 0] := by
  have ht : t.val < 4096 := trips1 ▸ t.isLt
  unfold k0_off2
  show ![(Scf.iv 0#32 1#32 t.val).toNat, 0] = _
  rw [WordArith.toNat_iv_zero_one _ (by omega)]

/-- Row `t`'s elements, in the buffer's own index. -/
def rowSet (t : Fin k0_t1_loop.trips) : Finset S4096x256.Idx := (dstM t).view.set

theorem mem_dst (t : Fin k0_t1_loop.trips) (i : S4096x256.Idx) : i ∈ rowSet t ↔ (i 0).val = t.val := by
  have es : rowSet t = (Rect.unit (s := S4096x256) (k0_off2 t) S1x256.size (k0_off2_inb t)).set := by
    unfold rowSet dstM
    exact (View.set_reshape (v := Dst.view.slice (Rect.unit (s := S4096x256) (k0_off2 t) S1x256.size (k0_off2_inb t))) squeezes_S1x256_S256.numel_eq).trans
      (View.set_slice_whole _ _)
  refine (show _ ↔ i ∈ (Rect.unit (s := S4096x256) (k0_off2 t) S1x256.size (k0_off2_inb t)).set from es ▸ Iff.rfl).trans ?_
  rw [Rect.mem_set_unit]
  have e := off2_eq t
  constructor
  · intro h
    have h0 := h 0
    rw [e] at h0
    have : t.val ≤ (i 0).val ∧ (i 0).val < t.val + 1 := h0
    omega
  · intro h a
    rw [e]
    fin_cases a
    · show t.val ≤ (i 0).val ∧ (i 0).val < t.val + 1
      omega
    · show 0 ≤ (i 1).val ∧ (i 1).val < 0 + 256
      have : (i 1).val < 256 := (i 1).isLt
      omega

theorem landed_eq (t : Fin k0_t1_loop.trips) (i : S4096x256.Idx) (hi : i ∈ rowSet t) :
    landed c hw fv fs t i = gath c hw fs i := by
  have hit := (mem_dst t i).1 hi
  obtain ⟨y, -, rfl⟩ := Finset.mem_map.1 hi
  have h1 := congrFun (View.read_writes_whole (Val := Elt F) (dstM t).view (fvAt c fv t)
    (ReadAs.same.apply ((srcM (w t) (row_inb _ (hw t))).view.read (Elt F) (fsAt c hw fs t)))) y
  refine Eq.trans h1 ?_
  show (show S32000x256.Idx → F .f32 from fs) ((srcM (w t) (row_inb _ (hw t))).view.emb y) = _
  unfold gath
  refine congrArg (show S32000x256.Idx → F .f32 from fs) ?_
  have ht : (((show S4096x256.Idx from (dstM t).view.emb y) 0).cast trips1.symm) = t := Fin.ext hit
  obtain ⟨z, hz⟩ : ∃ z : S1x256.Idx, z = Shape.reshapeEquiv squeezes_S1x256_S256.numel_eq y := ⟨_, rfl⟩
  have e1 : ((dstM t).view.emb y : S4096x256.Idx) = (Rect.unit (s := S4096x256) (k0_off2 t) S1x256.size (k0_off2_inb t)).emb z := by
    rw [hz]; rfl
  have e2 : ((srcM (w t) (row_inb _ (hw t))).view.emb y : S32000x256.Idx) = (Rect.unit (s := S32000x256) (k0_off3 (w t)) S1x256.size (row_inb _ (hw t))).emb z := by
    rw [hz]; rfl
  have hz0 : (z 0).val = 0 := by have : (z 0).val < 1 := (z 0).isLt; omega
  funext a
  fin_cases a
  · refine Fin.ext ?_
    refine (congrArg (fun j : S32000x256.Idx => (j 0).val) e2).trans ?_
    show (w t).toNat + 1 * (z 0).val = (w (((show S4096x256.Idx from (dstM t).view.emb y) 0).cast trips1.symm)).toNat
    rw [ht, hz0]; rfl
  · refine Fin.ext ?_
    refine (congrArg (fun j : S32000x256.Idx => (j 1).val) e2).trans ?_
    refine Eq.trans ?_ (congrArg (fun j : S4096x256.Idx => (j 1).val) e1).symm
    show 0 + 1 * (z 1).val = (k0_off2 t) 1 + 1 * (z 1).val
    rw [off2_eq t]; rfl

/-- A family over the trips, counted by the number of copies. -/
theorem bigSep_cast {n m : ℕ} (h : n = m) (Φ : Fin n → sProp 𝕄) :
    bigSep Finset.univ (fun t : Fin m => Φ (t.castLE (h ▸ le_rfl))) = bigSep Finset.univ Φ := by
  subst h; rfl

/-- What is left of the table while the copies run. -/
def left : sProp 𝕄 :=
  iprop((Tab.view.loc (c : Thread nD τ) ↦{Transfers.shareDrop fullShare k0_t1_loop.trips} fs)
    ∗ bigSep Finset.univ (fun t : Fin k0_t1_loop.trips =>
        Tab.view.loc (c : Thread nD τ) ↦[Finset.univ \ (srcM (w t) (row_inb _ (hw t))).view.set]{Transfers.shareTokN fullShare t.val} fs))

theorem table_eq : (Tab.view.loc (c : Thread nD τ) ↦{fullShare} fs : sProp 𝕄)
    ⊣⊢ iprop(bigSep Finset.univ (fun t => tokD c hw fs t) ∗ left c hw fs) := by
  have h1 := Transfers.pointsTo_toks_range (Ix := Unit) (Name := ℕ) (U := UC sig nD τ) (Lvl := ℕ) (ℓ := Tab.view.loc (c : Thread nD τ)) (S := Finset.univ) (f := fs) fullShare k0_t1_loop.trips
  rw [← Ring.bigSep_fin_eq_range k0_t1_loop.trips (fun t => (Tab.view.loc (c : Thread nD τ) ↦{Transfers.shareTokN fullShare t.val} fs : sProp 𝕄)) _ (fun _ _ => rfl)] at h1
  have h2 : bigSep Finset.univ (fun t : Fin k0_t1_loop.trips => (Tab.view.loc (c : Thread nD τ) ↦{Transfers.shareTokN fullShare t.val} fs : sProp 𝕄))
      = iprop(bigSep Finset.univ (fun t => tokD c hw fs t) ∗ bigSep Finset.univ (fun t : Fin k0_t1_loop.trips =>
        (Tab.view.loc (c : Thread nD τ) ↦[Finset.univ \ (srcM (w t) (row_inb _ (hw t))).view.set]{Transfers.shareTokN fullShare t.val} fs : sProp 𝕄))) := by
    rw [← bigSep_sep']
    refine bigSep_congr fun t _ => ?_
    have h := (pointsTo_split_subset (Ix := Unit) (Name := ℕ) (U := UC sig nD τ) (Lvl := ℕ) (q := Transfers.shareTokN fullShare t.val) (ℓ := Tab.view.loc (c : Thread nD τ)) (f := fs) (I := (srcM (w t) (row_inb _ (hw t))).view.set) (Finset.subset_univ _))
    exact equiv_iff.mp ⟨h.1, h.2⟩
  rw [h2] at h1
  unfold left
  refine ⟨h1.1.trans ?_, BIBase.Entails.trans ?_ h1.2⟩
  · iintro ⟨H1, H2, H3⟩
    isplitl [H2]; · iexact H2
    isplitl [H1]; · iexact H1
    iexact H3
  · iintro ⟨H2, H1, H3⟩
    isplitl [H1]; · iexact H1
    isplitl [H2]; · iexact H2
    iexact H3

theorem row_of (i : S4096x256.Idx) : ∃ t : Fin k0_t1_loop.trips, i ∈ rowSet t := by
  have h0 : (i 0).val < 4096 := (i 0).isLt
  have h : (i 0).val < k0_t1_loop.trips := Nat.lt_of_lt_of_eq h0 trips1.symm
  exact Exists.intro (Fin.mk (i 0).val h) ((mem_dst (Fin.mk (i 0).val h) i).2 (Eq.refl _))

theorem rows_univ : Finset.univ.biUnion (fun t : Fin k0_t1_loop.trips => rowSet t) = (Finset.univ : Finset S4096x256.Idx) := by
  refine Finset.eq_univ_iff_forall.2 fun i => ?_
  rw [Finset.mem_biUnion]
  exact (row_of i).elim fun t h => Exists.intro t (And.intro (Finset.mem_univ t) h)

theorem rows_disjoint (t t' : Fin k0_t1_loop.trips) (h : t ≠ t') :
    Disjoint (rowSet t) (rowSet t') := by
  rw [Finset.disjoint_left]
  intro i h1 h2
  exact h (Fin.ext (((mem_dst t i).1 h1).symm.trans ((mem_dst t' i).1 h2)))

theorem rows_eq (f : Bf (F := F) c Dst) : (Dst.view.loc (c : Thread nD τ) ↦{fullShare} f : sProp 𝕄) = bigSep Finset.univ (fun t => dstD c f t) := by
  refine Eq.trans ?_ (pointsTo_biUnion (Ix := Unit) (Name := ℕ) (U := UC sig nD τ) (Lvl := ℕ) (ℓ := Dst.view.loc (c : Thread nD τ)) (q := fullShare) (f := f)
    (Finset.univ : Finset (Fin k0_t1_loop.trips)) (fun t => rowSet t) (fun t _ t' _ h => rows_disjoint t t' h))
  exact congrArg (fun S => (Dst.view.loc (c : Thread nD τ) ↦[S]{fullShare} f : sProp 𝕄)) rows_univ.symm

/-- Into the first loop: the scratch by rows, the table by shares. -/
theorem enter : iprop((Dst.view.loc (c : Thread nD τ) ↦{fullShare} fv) ∗ (Tab.view.loc (c : Thread nD τ) ↦{fullShare} fs))
    ⊢ (iprop(bigSep (Ring.rangeSet k0_t1_loop.trips 0 4096) (fun t => dstD c fv t)
        ∗ bigSep (Ring.rangeSet k0_t1_loop.trips 0 4096) (fun t => tokD c hw fs t) ∗ left c hw fs) : sProp 𝕄) := by
  have e : (Ring.rangeSet k0_t1_loop.trips 0 4096) = Finset.univ := by
    conv_lhs => rw [← trips1]
    exact Ring.rangeSet_univ
  rw [e, rows_eq]
  iintro ⟨H1, H2⟩
  isplitl [H1]; · iexact H1
  iapply (table_eq c hw fs).1
  iexact H2

/-- Out of the second: every row landed, the table whole again. -/
theorem leave : iprop(bigSep Finset.univ (fun t : Fin 4096 => D c hw fv fs (t.castLE (trips1 ▸ le_rfl))) ∗ left c hw fs)
    ⊢ (iprop((Dst.view.loc (c : Thread nD τ) ↦{fullShare} gath c hw fs) ∗ (Tab.view.loc (c : Thread nD τ) ↦{fullShare} fs)) : sProp 𝕄) := by
  rw [bigSep_cast trips1 (fun t => D c hw fv fs t), bigSep_sep', rows_eq]
  have h : bigSep Finset.univ (fun t => landD c hw fv fs t) = bigSep Finset.univ (fun t => dstD c (gath c hw fs) t) :=
    bigSep_congr fun t _ => pointsTo_congr fun i hi => landed_eq c hw fv fs t i hi
  rw [h]
  iintro ⟨⟨H1, H2⟩, H3⟩
  isplitl [H1]; · iexact H1
  iapply (table_eq c hw fs).2
  isplitl [H2]; · iexact H2
  iexact H3

end Ends

end Cert.EncoderIdeal.EncoderGather
-- ==== Proof.Encoder.lean ====
/-
  The three layers of the encoder call as recurrences. A layer's loop reads one matrix of gate inputs and the two
  recurrent matrices, carries the two directions' hidden and cell vectors, and writes one block row per direction and
  trip: trip `k` is step `k` forward and step `127 - k` backward. The carried vectors and the written buffer before trip
  `k` are stated here by recursion on `k`.
-/
module

public import proofs.«01_k».proof.Proof.Gen.EncoderIdeal.Loops
public import proofs.«01_k».proof.Proof.EncoderGather
public import Idealize.ShloMosaic.Lib.Pipeline.Value

@[expose] public section

set_option maxRecDepth 16384

noncomputable section

namespace Cert.EncoderIdeal.Encoder

open Cert.EncoderIdeal Cert.EncoderIdeal.Gen
open Idealize.ShloMosaic Idealize.ShloMosaic.Pointwise Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-- Forward hidden, forward cell, backward hidden, backward cell. -/
abbrev St (F : FTy → Type) : Type := FVec F S32x256 .f32 × FVec F S32x256 .f32 × FVec F S32x256 .f32 × FVec F S32x256 .f32

/-- A state iterated through the trips of a loop. -/
def iter {A : Type} {n : ℕ} (f : Fin n → A → A) (a : A) : ℕ → A
  | 0 => a
  | k + 1 => if h : k < n then f ⟨k, h⟩ (iter f a k) else iter f a k

theorem iter_zero {A : Type} {n : ℕ} (f : Fin n → A → A) (a : A) : iter f a 0 = a := rfl

theorem iter_succ {A : Type} {n : ℕ} (f : Fin n → A → A) (a : A) (k : Fin n) :
    iter f a (k.val + 1) = f k (iter f a k.val) := by
  rw [iter, dif_pos k.isLt]

section Layer0

theorem trips0 : k0_t3_loop.trips = 128 := by decide

variable (x : Vec F S2x256x1024 .bf16) (g : Vec F S4096x2048 .bf16)

/-- The two directions' recurrent matrices, and their gate inputs at trip `k`. -/
abbrev wf0 : Vec F S1x256x1024 .bf16 := fun i => x ((Rect.unit (s := S2x256x1024) ![0, 0, 0] S1x256x1024.size inb_S2x256x1024_S1x256x1024_0_0_0).toLoadRect.idx i)
abbrev wb0 : Vec F S1x256x1024 .bf16 := fun i => x ((Rect.unit (s := S2x256x1024) ![1, 0, 0] S1x256x1024.size inb_S2x256x1024_S1x256x1024_1_0_0).toLoadRect.idx i)
abbrev gf0 (k : Fin k0_t3_loop.trips) : Vec F S32x1024 .bf16 := fun i => g ((Rect.unit (s := S4096x2048) (k0_off5 k) S32x1024.size (k0_off5_inb k)).toLoadRect.idx i)
abbrev gb0 (k : Fin k0_t3_loop.trips) : Vec F S32x1024 .bf16 := fun i => g ((Rect.unit (s := S4096x2048) (k0_off6 k) S32x1024.size (k0_off6_inb k)).toLoadRect.idx i)

/-- One trip's new hidden and cell vectors. -/
def step0 (k : Fin k0_t3_loop.trips) (s : St F) : St F :=
  (k0_pay6 s.1 s.2.1 (gf0 g k) (wf0 x), k0_pay5 s.1 s.2.1 (gf0 g k) (wf0 x),
   k0_pay8 s.2.2.1 s.2.2.2 (gb0 g k) (wb0 x), k0_pay7 s.2.2.1 s.2.2.2 (gb0 g k) (wb0 x))

/-- The carried vectors before trip `k`. -/
def st0 (init : St F) : ℕ → St F := iter (step0 x g) init

theorem st0_zero (init : St F) : st0 x g init 0 = init := rfl
theorem st0_succ (init : St F) (k : Fin k0_t3_loop.trips) :
    st0 x g init (k.val + 1) = step0 x g k (st0 x g init k.val) := iter_succ _ _ k

/-- The block rows trip `k` writes, forward and backward. -/
def putF0 (k : Fin k0_t3_loop.trips) (s : St F) : FVec F S32x256 .bf16 := k0_pay25 (k0_pay9 s.1 s.2.1 (gf0 g k) (wf0 x))
def putB0 (k : Fin k0_t3_loop.trips) (s : St F) : FVec F S32x256 .bf16 := k0_pay26 (k0_pay8 s.2.2.1 s.2.2.2 (gb0 g k) (wb0 x))

/-- What one trip writes, later write first. -/
def puts0 (k : Fin k0_t3_loop.trips) (s : St F) : List (View.Piece (Elt F) S4096x512 .bf16) :=
  [⟨Rect.unit (s := S4096x512) (k0_off8 k) S32x256.size (k0_off8_inb k), putB0 x g k s⟩,
   ⟨Rect.unit (s := S4096x512) (k0_off7 k) S32x256.size (k0_off7_inb k), putF0 x g k s⟩]

/-- The writes of the trips before `k`, latest first. -/
def all0 (init : St F) : ℕ → List (View.Piece (Elt F) S4096x512 .bf16)
  | 0 => []
  | k + 1 => if h : k < k0_t3_loop.trips then puts0 x g ⟨k, h⟩ (st0 x g init k) ++ all0 init k else all0 init k

theorem all0_succ (init : St F) (k : Fin k0_t3_loop.trips) :
    all0 x g init (k.val + 1) = puts0 x g k (st0 x g init k.val) ++ all0 x g init k.val := by
  rw [all0, dif_pos k.isLt]

/-- The layer's output: the forward half of row block `t` is trip `t`'s, the backward half trip `127 - t`'s. -/
def out0 (init : St F) : Vec F S4096x512 .bf16 := fun i =>
  if h : (i 1).val < 256 then
    putF0 x g ⟨(i 0).val / 32, by rw [trips0]; have : (i 0).val < 4096 := (i 0).isLt; omega⟩ (st0 x g init ((i 0).val / 32))
      (ix2 ⟨(i 0).val % 32, Nat.mod_lt _ (by decide)⟩ ⟨(i 1).val, h⟩)
  else
    putB0 x g ⟨127 - (i 0).val / 32, by rw [trips0]; omega⟩ (st0 x g init (127 - (i 0).val / 32))
      (ix2 ⟨(i 0).val % 32, Nat.mod_lt _ (by decide)⟩ ⟨(i 1).val - 256, by have : (i 1).val < 512 := (i 1).isLt; omega⟩)

theorem k0_off7_at : ∀ k : Fin k0_t3_loop.trips, k0_off7 k = ![32 * k.val, 0] := by decide +kernel
theorem k0_off8_at : ∀ k : Fin k0_t3_loop.trips, k0_off8 k = ![32 * (127 - k.val), 256] := by decide +kernel

theorem all0_agree (init : St F) : ∀ n ≤ 128, ∀ p ∈ all0 x g init n, ∀ y : p.1.shape.Idx, p.2 y = out0 x g init (p.1.emb y) := by
  intro n
  induction n with
  | zero => intro _ p hp; exact absurd hp List.not_mem_nil
  | succ n ih =>
    intro hn p hp y
    have hlt : n < k0_t3_loop.trips := by rw [trips0]; omega
    rw [show n + 1 = (⟨n, hlt⟩ : Fin k0_t3_loop.trips).val + 1 from rfl, all0_succ] at hp
    rcases List.mem_append.1 hp with hp | hp
    · simp only [puts0, List.mem_cons, List.not_mem_nil, or_false] at hp
      rcases hp with rfl | rfl
      · have hy0 : (y 0).val < 32 := (y 0).isLt
        have hy1 : (y 1).val < 256 := (y 1).isLt
        have e0 : ((Rect.unit (s := S4096x512) (k0_off8 ⟨n, hlt⟩) S32x256.size (k0_off8_inb ⟨n, hlt⟩)).emb y 0).val = 32 * (127 - n) + (y 0).val := by
          have hq : k0_off8 ⟨n, hlt⟩ 0 = 32 * (127 - n) := congrFun (k0_off8_at ⟨n, hlt⟩) 0
          show k0_off8 ⟨n, hlt⟩ 0 + 1 * (y 0).val = _
          omega
        have e1 : ((Rect.unit (s := S4096x512) (k0_off8 ⟨n, hlt⟩) S32x256.size (k0_off8_inb ⟨n, hlt⟩)).emb y 1).val = 256 + (y 1).val := by
          have hq : k0_off8 ⟨n, hlt⟩ 1 = 256 := congrFun (k0_off8_at ⟨n, hlt⟩) 1
          show k0_off8 ⟨n, hlt⟩ 1 + 1 * (y 1).val = _
          omega
        generalize (Rect.unit (s := S4096x512) (k0_off8 ⟨n, hlt⟩) S32x256.size (k0_off8_inb ⟨n, hlt⟩)).emb y = i at e0 e1
        have ek : 127 - (i 0).val / 32 = n := by omega
        have hy : y = ix2 ⟨(i 0).val % 32, Nat.mod_lt _ (by decide)⟩ ⟨(i 1).val - 256, by have : (i 1).val < 512 := (i 1).isLt; omega⟩ := by
          funext a; fin_cases a
          · exact Fin.ext (show (y 0).val = (i 0).val % 32 by omega)
          · exact Fin.ext (show (y 1).val = (i 1).val - 256 by omega)
        unfold out0
        rw [dif_neg (by omega)]
        have ef : (⟨127 - (i 0).val / 32, by rw [trips0]; omega⟩ : Fin k0_t3_loop.trips) = ⟨n, hlt⟩ := Fin.ext ek
        rw [ef, ek]
        exact congrArg (putB0 x g ⟨n, hlt⟩ (st0 x g init n)) hy
      · have hy0 : (y 0).val < 32 := (y 0).isLt
        have hy1 : (y 1).val < 256 := (y 1).isLt
        have e0 : ((Rect.unit (s := S4096x512) (k0_off7 ⟨n, hlt⟩) S32x256.size (k0_off7_inb ⟨n, hlt⟩)).emb y 0).val = 32 * n + (y 0).val := by
          have hq : k0_off7 ⟨n, hlt⟩ 0 = 32 * n := congrFun (k0_off7_at ⟨n, hlt⟩) 0
          show k0_off7 ⟨n, hlt⟩ 0 + 1 * (y 0).val = _
          omega
        have e1 : ((Rect.unit (s := S4096x512) (k0_off7 ⟨n, hlt⟩) S32x256.size (k0_off7_inb ⟨n, hlt⟩)).emb y 1).val = (y 1).val := by
          have hq : k0_off7 ⟨n, hlt⟩ 1 = 0 := congrFun (k0_off7_at ⟨n, hlt⟩) 1
          show k0_off7 ⟨n, hlt⟩ 1 + 1 * (y 1).val = _
          omega
        generalize (Rect.unit (s := S4096x512) (k0_off7 ⟨n, hlt⟩) S32x256.size (k0_off7_inb ⟨n, hlt⟩)).emb y = i at e0 e1
        have ek : (i 0).val / 32 = n := by omega
        have hi1 : (i 1).val < 256 := by omega
        have hy : y = ix2 ⟨(i 0).val % 32, Nat.mod_lt _ (by decide)⟩ ⟨(i 1).val, hi1⟩ := by
          funext a; fin_cases a
          · exact Fin.ext (show (y 0).val = (i 0).val % 32 by omega)
          · exact Fin.ext (show (y 1).val = (i 1).val by omega)
        unfold out0
        rw [dif_pos hi1]
        have ef : (⟨(i 0).val / 32, by rw [trips0]; omega⟩ : Fin k0_t3_loop.trips) = ⟨n, hlt⟩ := Fin.ext ek
        rw [ef, ek]
        exact congrArg (putF0 x g ⟨n, hlt⟩ (st0 x g init n)) hy
    · exact ih (by omega) p hp y

theorem puts0_mem (init : St F) (k : Fin k0_t3_loop.trips) : ∀ n ≤ 128, k.val < n → ∀ p ∈ puts0 x g k (st0 x g init k.val), p ∈ all0 x g init n := by
  intro n
  induction n with
  | zero => intro _ h; exact absurd h (Nat.not_lt_zero _)
  | succ n ih =>
    intro hn h p hp
    have hlt : n < k0_t3_loop.trips := by rw [trips0]; omega
    rw [show n + 1 = (⟨n, hlt⟩ : Fin k0_t3_loop.trips).val + 1 from rfl, all0_succ]
    rcases Nat.lt_or_ge k.val n with hk | hk
    · exact List.mem_append_right _ (ih (by omega) hk p hp)
    · have : k = ⟨n, hlt⟩ := Fin.ext (by show k.val = n; omega)
      subst this
      exact List.mem_append_left _ hp

theorem all0_cover (init : St F) (i : S4096x512.Idx) : ∃ p ∈ all0 x g init 128, i ∈ p.1.set := by
  have h0 : (i 0).val < 4096 := (i 0).isLt
  have h1 : (i 1).val < 512 := (i 1).isLt
  rcases Nat.lt_or_ge (i 1).val 256 with h | h
  · have hk : (i 0).val / 32 < k0_t3_loop.trips := by rw [trips0]; omega
    refine ⟨_, puts0_mem x g init ⟨(i 0).val / 32, hk⟩ 128 le_rfl (by show (i 0).val / 32 < 128; omega) _ (List.mem_cons_of_mem _ List.mem_cons_self), ?_⟩
    show i ∈ (Rect.unit (s := S4096x512) (k0_off7 ⟨(i 0).val / 32, hk⟩) S32x256.size (k0_off7_inb ⟨(i 0).val / 32, hk⟩)).set
    rw [Rect.mem_set_unit]
    intro a
    rw [k0_off7_at]
    fin_cases a
    · show 32 * ((i 0).val / 32) ≤ (i 0).val ∧ (i 0).val < 32 * ((i 0).val / 32) + 32
      omega
    · show 0 ≤ (i 1).val ∧ (i 1).val < 0 + 256
      omega
  · have hk : 127 - (i 0).val / 32 < k0_t3_loop.trips := by rw [trips0]; omega
    refine ⟨_, puts0_mem x g init ⟨127 - (i 0).val / 32, hk⟩ 128 le_rfl (by show 127 - (i 0).val / 32 < 128; omega) _ List.mem_cons_self, ?_⟩
    show i ∈ (Rect.unit (s := S4096x512) (k0_off8 ⟨127 - (i 0).val / 32, hk⟩) S32x256.size (k0_off8_inb ⟨127 - (i 0).val / 32, hk⟩)).set
    rw [Rect.mem_set_unit]
    intro a
    rw [k0_off8_at]
    fin_cases a
    · show 32 * (127 - (127 - (i 0).val / 32)) ≤ (i 0).val ∧ (i 0).val < 32 * (127 - (127 - (i 0).val / 32)) + 32
      omega
    · show 256 ≤ (i 1).val ∧ (i 1).val < 256 + 256
      omega

/-- After all trips the written buffer reads the layer's output, whatever it held before. -/
theorem read0 (arg15 : Memref sig .tc .vmem S4096x512 .bf16) (init : St F) (f : BufTy.Contents (Elt F) arg15.view.ty) (n : ℕ) (hn : n = 128) :
    arg15.view.read (Elt F) (arg15.view.writes (Elt F) f (all0 x g init n)) = out0 x g init := by
  subst hn
  funext i
  exact View.read_writes_apply_of_pieces arg15.view f (out0 x g init) _ (all0_agree x g init 128 le_rfl) i (all0_cover x g init i)

end Layer0

section Loop0

/-- Before trip `k`. -/
def inv0 (arg3 : Memref sig .tc .vmem S2x256x1024 .bf16) (arg17 : Memref sig .tc .vmem S4096x2048 .bf16) (arg15 : Memref sig .tc .vmem S4096x512 .bf16)
    (X : BufTy.Contents (Elt F) arg3.view.ty) (G : BufTy.Contents (Elt F) arg17.view.ty)
    (c : Dev nD) (f0 : BufTy.Contents (Elt F) arg15.view.ty) (init : St F) (k : ℕ) (acc : St F) : sProp 𝕄 :=
  iprop((arg3.view.loc (c : Thread nD τ) ↦[arg3.view.set]{fullShare} X)
    ∗ (arg17.view.loc (c : Thread nD τ) ↦[arg17.view.set]{fullShare} G)
    ∗ (∃ f, (arg15.view.loc (c : Thread nD τ) ↦[arg15.view.set]{fullShare} f)
        ∗ ⌜f = arg15.view.writes (Elt F) f0 (all0 (arg3.view.read (Elt F) X) (arg17.view.read (Elt F) G) init k)⌝)
    ∗ ⌜acc = st0 (arg3.view.read (Elt F) X) (arg17.view.read (Elt F) G) init k⌝)

set_option maxHeartbeats 4000000 in
set_option warn.classDefReducibility false in
/-- The layer's loop keeps its invariant. -/
@[sl_loop] def loop0 (𝒱 : Variants) (c : Dev nD) (bd : Option 𝒱.V) (E : Set ℕ) (arg0 : Memref sig .tc .smem S4096 .i32) (harg0 : arg0.IsWhole) (arg1 : Memref sig .tc .hbm S32000x256 .f32) (harg1 : arg1.IsWhole) (arg2 : Memref sig .tc .vmem S256x2048 .bf16) (harg2 : arg2.IsWhole) (arg3 : Memref sig .tc .vmem S2x256x1024 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S2x256x1024 .bf16) (harg6 : arg6.IsWhole) (arg7 : Memref sig .tc .vmem S1x2048 .f32) (harg7 : arg7.IsWhole) (arg8 : Memref sig .tc .vmem S512x2048 .bf16) (harg8 : arg8.IsWhole) (arg9 : Memref sig .tc .vmem S2x256x1024 .bf16) (harg9 : arg9.IsWhole) (arg10 : Memref sig .tc .vmem S1x2048 .f32) (harg10 : arg10.IsWhole) (arg11 : Memref sig .tc .vmem S4096x512 .f32) (harg11 : arg11.IsWhole) (arg12 : Memref sig .tc .vmem S3x2x32x256 .f32) (harg12 : arg12.IsWhole) (arg13 : Memref sig .tc .vmem S3x2x32x256 .f32) (harg13 : arg13.IsWhole) (arg14 : Memref sig .tc .vmem S4096x256 .f32) (harg14 : arg14.IsWhole) (arg15 : Memref sig .tc .vmem S4096x512 .bf16) (harg15 : arg15.IsWhole) (arg16 : Memref sig .tc .vmem S4096x512 .bf16) (harg16 : arg16.IsWhole) (arg17 : Memref sig .tc .vmem S4096x2048 .bf16) (harg17 : arg17.IsWhole) (arg18 : DmaSems sig S_)
    (X : BufTy.Contents (Elt F) arg3.view.ty) (G : BufTy.Contents (Elt F) arg17.view.ty) (f0 : BufTy.Contents (Elt F) arg15.view.ty) (init : St F) :
    LoopInvTy_k0_t3 (F := F) Unit ℕ (UC sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18  init where
  inv := inv0 arg3 arg17 arg15 X G c f0 init
  step k acc := by
    have hk : k.val < 128 := Nat.lt_of_lt_of_le k.isLt k0_t3_abs.2.1
    unfold inv0 k0_t3_body
    iintro ⟨HX, HG, ⟨%f, HW, %hf⟩, %hacc⟩
    subst hacc
    sl_exec
    sl_step
    isplitl [HX]; · iexact HX
    isplitl [HG]; · iexact HG
    isplitl [HW]
    · iexists _
      isplitl [HW]; · iexact HW
      ipureintro
      rw [hf, all0_succ, View.writes_append]
      rfl
    · ipureintro
      rw [st0_succ]
      rfl

end Loop0

section Layer1

theorem trips1 : k0_t4_loop.trips = 128 := by decide

variable (x : Vec F S2x256x1024 .bf16) (g : Vec F S4096x2048 .bf16)

/-- The two directions' recurrent matrices, and their gate inputs at trip `k`. -/
abbrev wf1 : Vec F S1x256x1024 .bf16 := fun i => x ((Rect.unit (s := S2x256x1024) ![0, 0, 0] S1x256x1024.size inb_S2x256x1024_S1x256x1024_0_0_0).toLoadRect.idx i)
abbrev wb1 : Vec F S1x256x1024 .bf16 := fun i => x ((Rect.unit (s := S2x256x1024) ![1, 0, 0] S1x256x1024.size inb_S2x256x1024_S1x256x1024_1_0_0).toLoadRect.idx i)
abbrev gf1 (k : Fin k0_t4_loop.trips) : Vec F S32x1024 .bf16 := fun i => g ((Rect.unit (s := S4096x2048) (k0_off9 k) S32x1024.size (k0_off9_inb k)).toLoadRect.idx i)
abbrev gb1 (k : Fin k0_t4_loop.trips) : Vec F S32x1024 .bf16 := fun i => g ((Rect.unit (s := S4096x2048) (k0_off10 k) S32x1024.size (k0_off10_inb k)).toLoadRect.idx i)

/-- One trip's new hidden and cell vectors. -/
def step1 (k : Fin k0_t4_loop.trips) (s : St F) : St F :=
  (k0_pay13 s.1 s.2.1 (gf1 g k) (wf1 x), k0_pay12 s.1 s.2.1 (gf1 g k) (wf1 x),
   k0_pay15 s.2.2.1 s.2.2.2 (gb1 g k) (wb1 x), k0_pay14 s.2.2.1 s.2.2.2 (gb1 g k) (wb1 x))

/-- The carried vectors before trip `k`. -/
def st1 (init : St F) : ℕ → St F := iter (step1 x g) init

theorem st1_zero (init : St F) : st1 x g init 0 = init := rfl
theorem st1_succ (init : St F) (k : Fin k0_t4_loop.trips) :
    st1 x g init (k.val + 1) = step1 x g k (st1 x g init k.val) := iter_succ _ _ k

/-- The block rows trip `k` writes, forward and backward. -/
def putF1 (k : Fin k0_t4_loop.trips) (s : St F) : FVec F S32x256 .bf16 := k0_pay33 (k0_pay16 s.1 s.2.1 (gf1 g k) (wf1 x))
def putB1 (k : Fin k0_t4_loop.trips) (s : St F) : FVec F S32x256 .bf16 := k0_pay34 (k0_pay15 s.2.2.1 s.2.2.2 (gb1 g k) (wb1 x))

/-- What one trip writes, later write first. -/
def puts1 (k : Fin k0_t4_loop.trips) (s : St F) : List (View.Piece (Elt F) S4096x512 .bf16) :=
  [⟨Rect.unit (s := S4096x512) (k0_off12 k) S32x256.size (k0_off12_inb k), putB1 x g k s⟩,
   ⟨Rect.unit (s := S4096x512) (k0_off11 k) S32x256.size (k0_off11_inb k), putF1 x g k s⟩]

/-- The writes of the trips before `k`, latest first. -/
def all1 (init : St F) : ℕ → List (View.Piece (Elt F) S4096x512 .bf16)
  | 0 => []
  | k + 1 => if h : k < k0_t4_loop.trips then puts1 x g ⟨k, h⟩ (st1 x g init k) ++ all1 init k else all1 init k

theorem all1_succ (init : St F) (k : Fin k0_t4_loop.trips) :
    all1 x g init (k.val + 1) = puts1 x g k (st1 x g init k.val) ++ all1 x g init k.val := by
  rw [all1, dif_pos k.isLt]

/-- The layer's output: the forward half of row block `t` is trip `t`'s, the backward half trip `127 - t`'s. -/
def out1 (init : St F) : Vec F S4096x512 .bf16 := fun i =>
  if h : (i 1).val < 256 then
    putF1 x g ⟨(i 0).val / 32, by rw [trips1]; have : (i 0).val < 4096 := (i 0).isLt; omega⟩ (st1 x g init ((i 0).val / 32))
      (ix2 ⟨(i 0).val % 32, Nat.mod_lt _ (by decide)⟩ ⟨(i 1).val, h⟩)
  else
    putB1 x g ⟨127 - (i 0).val / 32, by rw [trips1]; omega⟩ (st1 x g init (127 - (i 0).val / 32))
      (ix2 ⟨(i 0).val % 32, Nat.mod_lt _ (by decide)⟩ ⟨(i 1).val - 256, by have : (i 1).val < 512 := (i 1).isLt; omega⟩)

theorem k0_off11_at : ∀ k : Fin k0_t4_loop.trips, k0_off11 k = ![32 * k.val, 0] := by decide +kernel
theorem k0_off12_at : ∀ k : Fin k0_t4_loop.trips, k0_off12 k = ![32 * (127 - k.val), 256] := by decide +kernel

theorem all1_agree (init : St F) : ∀ n ≤ 128, ∀ p ∈ all1 x g init n, ∀ y : p.1.shape.Idx, p.2 y = out1 x g init (p.1.emb y) := by
  intro n
  induction n with
  | zero => intro _ p hp; exact absurd hp List.not_mem_nil
  | succ n ih =>
    intro hn p hp y
    have hlt : n < k0_t4_loop.trips := by rw [trips1]; omega
    rw [show n + 1 = (⟨n, hlt⟩ : Fin k0_t4_loop.trips).val + 1 from rfl, all1_succ] at hp
    rcases List.mem_append.1 hp with hp | hp
    · simp only [puts1, List.mem_cons, List.not_mem_nil, or_false] at hp
      rcases hp with rfl | rfl
      · have hy0 : (y 0).val < 32 := (y 0).isLt
        have hy1 : (y 1).val < 256 := (y 1).isLt
        have e0 : ((Rect.unit (s := S4096x512) (k0_off12 ⟨n, hlt⟩) S32x256.size (k0_off12_inb ⟨n, hlt⟩)).emb y 0).val = 32 * (127 - n) + (y 0).val := by
          have hq : k0_off12 ⟨n, hlt⟩ 0 = 32 * (127 - n) := congrFun (k0_off12_at ⟨n, hlt⟩) 0
          show k0_off12 ⟨n, hlt⟩ 0 + 1 * (y 0).val = _
          omega
        have e1 : ((Rect.unit (s := S4096x512) (k0_off12 ⟨n, hlt⟩) S32x256.size (k0_off12_inb ⟨n, hlt⟩)).emb y 1).val = 256 + (y 1).val := by
          have hq : k0_off12 ⟨n, hlt⟩ 1 = 256 := congrFun (k0_off12_at ⟨n, hlt⟩) 1
          show k0_off12 ⟨n, hlt⟩ 1 + 1 * (y 1).val = _
          omega
        generalize (Rect.unit (s := S4096x512) (k0_off12 ⟨n, hlt⟩) S32x256.size (k0_off12_inb ⟨n, hlt⟩)).emb y = i at e0 e1
        have ek : 127 - (i 0).val / 32 = n := by omega
        have hy : y = ix2 ⟨(i 0).val % 32, Nat.mod_lt _ (by decide)⟩ ⟨(i 1).val - 256, by have : (i 1).val < 512 := (i 1).isLt; omega⟩ := by
          funext a; fin_cases a
          · exact Fin.ext (show (y 0).val = (i 0).val % 32 by omega)
          · exact Fin.ext (show (y 1).val = (i 1).val - 256 by omega)
        unfold out1
        rw [dif_neg (by omega)]
        have ef : (⟨127 - (i 0).val / 32, by rw [trips1]; omega⟩ : Fin k0_t4_loop.trips) = ⟨n, hlt⟩ := Fin.ext ek
        rw [ef, ek]
        exact congrArg (putB1 x g ⟨n, hlt⟩ (st1 x g init n)) hy
      · have hy0 : (y 0).val < 32 := (y 0).isLt
        have hy1 : (y 1).val < 256 := (y 1).isLt
        have e0 : ((Rect.unit (s := S4096x512) (k0_off11 ⟨n, hlt⟩) S32x256.size (k0_off11_inb ⟨n, hlt⟩)).emb y 0).val = 32 * n + (y 0).val := by
          have hq : k0_off11 ⟨n, hlt⟩ 0 = 32 * n := congrFun (k0_off11_at ⟨n, hlt⟩) 0
          show k0_off11 ⟨n, hlt⟩ 0 + 1 * (y 0).val = _
          omega
        have e1 : ((Rect.unit (s := S4096x512) (k0_off11 ⟨n, hlt⟩) S32x256.size (k0_off11_inb ⟨n, hlt⟩)).emb y 1).val = (y 1).val := by
          have hq : k0_off11 ⟨n, hlt⟩ 1 = 0 := congrFun (k0_off11_at ⟨n, hlt⟩) 1
          show k0_off11 ⟨n, hlt⟩ 1 + 1 * (y 1).val = _
          omega
        generalize (Rect.unit (s := S4096x512) (k0_off11 ⟨n, hlt⟩) S32x256.size (k0_off11_inb ⟨n, hlt⟩)).emb y = i at e0 e1
        have ek : (i 0).val / 32 = n := by omega
        have hi1 : (i 1).val < 256 := by omega
        have hy : y = ix2 ⟨(i 0).val % 32, Nat.mod_lt _ (by decide)⟩ ⟨(i 1).val, hi1⟩ := by
          funext a; fin_cases a
          · exact Fin.ext (show (y 0).val = (i 0).val % 32 by omega)
          · exact Fin.ext (show (y 1).val = (i 1).val by omega)
        unfold out1
        rw [dif_pos hi1]
        have ef : (⟨(i 0).val / 32, by rw [trips1]; omega⟩ : Fin k0_t4_loop.trips) = ⟨n, hlt⟩ := Fin.ext ek
        rw [ef, ek]
        exact congrArg (putF1 x g ⟨n, hlt⟩ (st1 x g init n)) hy
    · exact ih (by omega) p hp y

theorem puts1_mem (init : St F) (k : Fin k0_t4_loop.trips) : ∀ n ≤ 128, k.val < n → ∀ p ∈ puts1 x g k (st1 x g init k.val), p ∈ all1 x g init n := by
  intro n
  induction n with
  | zero => intro _ h; exact absurd h (Nat.not_lt_zero _)
  | succ n ih =>
    intro hn h p hp
    have hlt : n < k0_t4_loop.trips := by rw [trips1]; omega
    rw [show n + 1 = (⟨n, hlt⟩ : Fin k0_t4_loop.trips).val + 1 from rfl, all1_succ]
    rcases Nat.lt_or_ge k.val n with hk | hk
    · exact List.mem_append_right _ (ih (by omega) hk p hp)
    · have : k = ⟨n, hlt⟩ := Fin.ext (by show k.val = n; omega)
      subst this
      exact List.mem_append_left _ hp

theorem all1_cover (init : St F) (i : S4096x512.Idx) : ∃ p ∈ all1 x g init 128, i ∈ p.1.set := by
  have h0 : (i 0).val < 4096 := (i 0).isLt
  have h1 : (i 1).val < 512 := (i 1).isLt
  rcases Nat.lt_or_ge (i 1).val 256 with h | h
  · have hk : (i 0).val / 32 < k0_t4_loop.trips := by rw [trips1]; omega
    refine ⟨_, puts1_mem x g init ⟨(i 0).val / 32, hk⟩ 128 le_rfl (by show (i 0).val / 32 < 128; omega) _ (List.mem_cons_of_mem _ List.mem_cons_self), ?_⟩
    show i ∈ (Rect.unit (s := S4096x512) (k0_off11 ⟨(i 0).val / 32, hk⟩) S32x256.size (k0_off11_inb ⟨(i 0).val / 32, hk⟩)).set
    rw [Rect.mem_set_unit]
    intro a
    rw [k0_off11_at]
    fin_cases a
    · show 32 * ((i 0).val / 32) ≤ (i 0).val ∧ (i 0).val < 32 * ((i 0).val / 32) + 32
      omega
    · show 0 ≤ (i 1).val ∧ (i 1).val < 0 + 256
      omega
  · have hk : 127 - (i 0).val / 32 < k0_t4_loop.trips := by rw [trips1]; omega
    refine ⟨_, puts1_mem x g init ⟨127 - (i 0).val / 32, hk⟩ 128 le_rfl (by show 127 - (i 0).val / 32 < 128; omega) _ List.mem_cons_self, ?_⟩
    show i ∈ (Rect.unit (s := S4096x512) (k0_off12 ⟨127 - (i 0).val / 32, hk⟩) S32x256.size (k0_off12_inb ⟨127 - (i 0).val / 32, hk⟩)).set
    rw [Rect.mem_set_unit]
    intro a
    rw [k0_off12_at]
    fin_cases a
    · show 32 * (127 - (127 - (i 0).val / 32)) ≤ (i 0).val ∧ (i 0).val < 32 * (127 - (127 - (i 0).val / 32)) + 32
      omega
    · show 256 ≤ (i 1).val ∧ (i 1).val < 256 + 256
      omega

/-- After all trips the written buffer reads the layer's output, whatever it held before. -/
theorem read1 (arg16 : Memref sig .tc .vmem S4096x512 .bf16) (init : St F) (f : BufTy.Contents (Elt F) arg16.view.ty) (n : ℕ) (hn : n = 128) :
    arg16.view.read (Elt F) (arg16.view.writes (Elt F) f (all1 x g init n)) = out1 x g init := by
  subst hn
  funext i
  exact View.read_writes_apply_of_pieces arg16.view f (out1 x g init) _ (all1_agree x g init 128 le_rfl) i (all1_cover x g init i)

end Layer1

section Loop1

/-- Before trip `k`. -/
def inv1 (arg6 : Memref sig .tc .vmem S2x256x1024 .bf16) (arg17 : Memref sig .tc .vmem S4096x2048 .bf16) (arg16 : Memref sig .tc .vmem S4096x512 .bf16)
    (X : BufTy.Contents (Elt F) arg6.view.ty) (G : BufTy.Contents (Elt F) arg17.view.ty)
    (c : Dev nD) (f0 : BufTy.Contents (Elt F) arg16.view.ty) (init : St F) (k : ℕ) (acc : St F) : sProp 𝕄 :=
  iprop((arg6.view.loc (c : Thread nD τ) ↦[arg6.view.set]{fullShare} X)
    ∗ (arg17.view.loc (c : Thread nD τ) ↦[arg17.view.set]{fullShare} G)
    ∗ (∃ f, (arg16.view.loc (c : Thread nD τ) ↦[arg16.view.set]{fullShare} f)
        ∗ ⌜f = arg16.view.writes (Elt F) f0 (all1 (arg6.view.read (Elt F) X) (arg17.view.read (Elt F) G) init k)⌝)
    ∗ ⌜acc = st1 (arg6.view.read (Elt F) X) (arg17.view.read (Elt F) G) init k⌝)

set_option maxHeartbeats 4000000 in
set_option warn.classDefReducibility false in
/-- The layer's loop keeps its invariant. -/
@[sl_loop] def loop1 (𝒱 : Variants) (c : Dev nD) (bd : Option 𝒱.V) (E : Set ℕ) (arg0 : Memref sig .tc .smem S4096 .i32) (harg0 : arg0.IsWhole) (arg1 : Memref sig .tc .hbm S32000x256 .f32) (harg1 : arg1.IsWhole) (arg2 : Memref sig .tc .vmem S256x2048 .bf16) (harg2 : arg2.IsWhole) (arg3 : Memref sig .tc .vmem S2x256x1024 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S2x256x1024 .bf16) (harg6 : arg6.IsWhole) (arg7 : Memref sig .tc .vmem S1x2048 .f32) (harg7 : arg7.IsWhole) (arg8 : Memref sig .tc .vmem S512x2048 .bf16) (harg8 : arg8.IsWhole) (arg9 : Memref sig .tc .vmem S2x256x1024 .bf16) (harg9 : arg9.IsWhole) (arg10 : Memref sig .tc .vmem S1x2048 .f32) (harg10 : arg10.IsWhole) (arg11 : Memref sig .tc .vmem S4096x512 .f32) (harg11 : arg11.IsWhole) (arg12 : Memref sig .tc .vmem S3x2x32x256 .f32) (harg12 : arg12.IsWhole) (arg13 : Memref sig .tc .vmem S3x2x32x256 .f32) (harg13 : arg13.IsWhole) (arg14 : Memref sig .tc .vmem S4096x256 .f32) (harg14 : arg14.IsWhole) (arg15 : Memref sig .tc .vmem S4096x512 .bf16) (harg15 : arg15.IsWhole) (arg16 : Memref sig .tc .vmem S4096x512 .bf16) (harg16 : arg16.IsWhole) (arg17 : Memref sig .tc .vmem S4096x2048 .bf16) (harg17 : arg17.IsWhole) (arg18 : DmaSems sig S_) (v50 : FVec F S32x256 .f32) (c0 : BitVec 32)
    (X : BufTy.Contents (Elt F) arg6.view.ty) (G : BufTy.Contents (Elt F) arg17.view.ty) (f0 : BufTy.Contents (Elt F) arg16.view.ty) (init : St F) :
    LoopInvTy_k0_t4 (F := F) Unit ℕ (UC sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v50 c0 init where
  inv := inv1 arg6 arg17 arg16 X G c f0 init
  step k acc := by
    have hk : k.val < 128 := Nat.lt_of_lt_of_le k.isLt k0_t4_abs.2.1
    unfold inv1 k0_t4_body
    iintro ⟨HX, HG, ⟨%f, HW, %hf⟩, %hacc⟩
    subst hacc
    sl_exec
    sl_step
    isplitl [HX]; · iexact HX
    isplitl [HG]; · iexact HG
    isplitl [HW]
    · iexists _
      isplitl [HW]; · iexact HW
      ipureintro
      rw [hf, all1_succ, View.writes_append]
      rfl
    · ipureintro
      rw [st1_succ]
      rfl

end Loop1

section Layer2

theorem trips2 : k0_t5_loop.trips = 128 := by decide

variable (x : Vec F S2x256x1024 .bf16) (g : Vec F S4096x2048 .bf16)

/-- The two directions' recurrent matrices, and their gate inputs at trip `k`. -/
abbrev wf2 : Vec F S1x256x1024 .bf16 := fun i => x ((Rect.unit (s := S2x256x1024) ![0, 0, 0] S1x256x1024.size inb_S2x256x1024_S1x256x1024_0_0_0).toLoadRect.idx i)
abbrev wb2 : Vec F S1x256x1024 .bf16 := fun i => x ((Rect.unit (s := S2x256x1024) ![1, 0, 0] S1x256x1024.size inb_S2x256x1024_S1x256x1024_1_0_0).toLoadRect.idx i)
abbrev gf2 (k : Fin k0_t5_loop.trips) : Vec F S32x1024 .bf16 := fun i => g ((Rect.unit (s := S4096x2048) (k0_off13 k) S32x1024.size (k0_off13_inb k)).toLoadRect.idx i)
abbrev gb2 (k : Fin k0_t5_loop.trips) : Vec F S32x1024 .bf16 := fun i => g ((Rect.unit (s := S4096x2048) (k0_off14 k) S32x1024.size (k0_off14_inb k)).toLoadRect.idx i)

/-- One trip's new hidden and cell vectors. -/
def step2 (k : Fin k0_t5_loop.trips) (s : St F) : St F :=
  (k0_pay20 s.1 s.2.1 (gf2 g k) (wf2 x), k0_pay19 s.1 s.2.1 (gf2 g k) (wf2 x),
   k0_pay22 s.2.2.1 s.2.2.2 (gb2 g k) (wb2 x), k0_pay21 s.2.2.1 s.2.2.2 (gb2 g k) (wb2 x))

/-- The carried vectors before trip `k`. -/
def st2 (init : St F) : ℕ → St F := iter (step2 x g) init

theorem st2_zero (init : St F) : st2 x g init 0 = init := rfl
theorem st2_succ (init : St F) (k : Fin k0_t5_loop.trips) :
    st2 x g init (k.val + 1) = step2 x g k (st2 x g init k.val) := iter_succ _ _ k

/-- The block rows trip `k` writes, forward and backward. -/
def putF2 (k : Fin k0_t5_loop.trips) (s : St F) : FVec F S32x256 .f32 := k0_pay20 s.1 s.2.1 (gf2 g k) (wf2 x)
def putB2 (k : Fin k0_t5_loop.trips) (s : St F) : FVec F S32x256 .f32 := k0_pay22 s.2.2.1 s.2.2.2 (gb2 g k) (wb2 x)

/-- What one trip writes, later write first. -/
def puts2 (k : Fin k0_t5_loop.trips) (s : St F) : List (View.Piece (Elt F) S4096x512 .f32) :=
  [⟨Rect.unit (s := S4096x512) (k0_off16 k) S32x256.size (k0_off16_inb k), putB2 x g k s⟩,
   ⟨Rect.unit (s := S4096x512) (k0_off15 k) S32x256.size (k0_off15_inb k), putF2 x g k s⟩]

/-- The writes of the trips before `k`, latest first. -/
def all2 (init : St F) : ℕ → List (View.Piece (Elt F) S4096x512 .f32)
  | 0 => []
  | k + 1 => if h : k < k0_t5_loop.trips then puts2 x g ⟨k, h⟩ (st2 x g init k) ++ all2 init k else all2 init k

theorem all2_succ (init : St F) (k : Fin k0_t5_loop.trips) :
    all2 x g init (k.val + 1) = puts2 x g k (st2 x g init k.val) ++ all2 x g init k.val := by
  rw [all2, dif_pos k.isLt]

/-- The layer's output: the forward half of row block `t` is trip `t`'s, the backward half trip `127 - t`'s. -/
def out2 (init : St F) : Vec F S4096x512 .f32 := fun i =>
  if h : (i 1).val < 256 then
    putF2 x g ⟨(i 0).val / 32, by rw [trips2]; have : (i 0).val < 4096 := (i 0).isLt; omega⟩ (st2 x g init ((i 0).val / 32))
      (ix2 ⟨(i 0).val % 32, Nat.mod_lt _ (by decide)⟩ ⟨(i 1).val, h⟩)
  else
    putB2 x g ⟨127 - (i 0).val / 32, by rw [trips2]; omega⟩ (st2 x g init (127 - (i 0).val / 32))
      (ix2 ⟨(i 0).val % 32, Nat.mod_lt _ (by decide)⟩ ⟨(i 1).val - 256, by have : (i 1).val < 512 := (i 1).isLt; omega⟩)

theorem k0_off15_at : ∀ k : Fin k0_t5_loop.trips, k0_off15 k = ![32 * k.val, 0] := by decide +kernel
theorem k0_off16_at : ∀ k : Fin k0_t5_loop.trips, k0_off16 k = ![32 * (127 - k.val), 256] := by decide +kernel

theorem all2_agree (init : St F) : ∀ n ≤ 128, ∀ p ∈ all2 x g init n, ∀ y : p.1.shape.Idx, p.2 y = out2 x g init (p.1.emb y) := by
  intro n
  induction n with
  | zero => intro _ p hp; exact absurd hp List.not_mem_nil
  | succ n ih =>
    intro hn p hp y
    have hlt : n < k0_t5_loop.trips := by rw [trips2]; omega
    rw [show n + 1 = (⟨n, hlt⟩ : Fin k0_t5_loop.trips).val + 1 from rfl, all2_succ] at hp
    rcases List.mem_append.1 hp with hp | hp
    · simp only [puts2, List.mem_cons, List.not_mem_nil, or_false] at hp
      rcases hp with rfl | rfl
      · have hy0 : (y 0).val < 32 := (y 0).isLt
        have hy1 : (y 1).val < 256 := (y 1).isLt
        have e0 : ((Rect.unit (s := S4096x512) (k0_off16 ⟨n, hlt⟩) S32x256.size (k0_off16_inb ⟨n, hlt⟩)).emb y 0).val = 32 * (127 - n) + (y 0).val := by
          have hq : k0_off16 ⟨n, hlt⟩ 0 = 32 * (127 - n) := congrFun (k0_off16_at ⟨n, hlt⟩) 0
          show k0_off16 ⟨n, hlt⟩ 0 + 1 * (y 0).val = _
          omega
        have e1 : ((Rect.unit (s := S4096x512) (k0_off16 ⟨n, hlt⟩) S32x256.size (k0_off16_inb ⟨n, hlt⟩)).emb y 1).val = 256 + (y 1).val := by
          have hq : k0_off16 ⟨n, hlt⟩ 1 = 256 := congrFun (k0_off16_at ⟨n, hlt⟩) 1
          show k0_off16 ⟨n, hlt⟩ 1 + 1 * (y 1).val = _
          omega
        generalize (Rect.unit (s := S4096x512) (k0_off16 ⟨n, hlt⟩) S32x256.size (k0_off16_inb ⟨n, hlt⟩)).emb y = i at e0 e1
        have ek : 127 - (i 0).val / 32 = n := by omega
        have hy : y = ix2 ⟨(i 0).val % 32, Nat.mod_lt _ (by decide)⟩ ⟨(i 1).val - 256, by have : (i 1).val < 512 := (i 1).isLt; omega⟩ := by
          funext a; fin_cases a
          · exact Fin.ext (show (y 0).val = (i 0).val % 32 by omega)
          · exact Fin.ext (show (y 1).val = (i 1).val - 256 by omega)
        unfold out2
        rw [dif_neg (by omega)]
        have ef : (⟨127 - (i 0).val / 32, by rw [trips2]; omega⟩ : Fin k0_t5_loop.trips) = ⟨n, hlt⟩ := Fin.ext ek
        rw [ef, ek]
        exact congrArg (putB2 x g ⟨n, hlt⟩ (st2 x g init n)) hy
      · have hy0 : (y 0).val < 32 := (y 0).isLt
        have hy1 : (y 1).val < 256 := (y 1).isLt
        have e0 : ((Rect.unit (s := S4096x512) (k0_off15 ⟨n, hlt⟩) S32x256.size (k0_off15_inb ⟨n, hlt⟩)).emb y 0).val = 32 * n + (y 0).val := by
          have hq : k0_off15 ⟨n, hlt⟩ 0 = 32 * n := congrFun (k0_off15_at ⟨n, hlt⟩) 0
          show k0_off15 ⟨n, hlt⟩ 0 + 1 * (y 0).val = _
          omega
        have e1 : ((Rect.unit (s := S4096x512) (k0_off15 ⟨n, hlt⟩) S32x256.size (k0_off15_inb ⟨n, hlt⟩)).emb y 1).val = (y 1).val := by
          have hq : k0_off15 ⟨n, hlt⟩ 1 = 0 := congrFun (k0_off15_at ⟨n, hlt⟩) 1
          show k0_off15 ⟨n, hlt⟩ 1 + 1 * (y 1).val = _
          omega
        generalize (Rect.unit (s := S4096x512) (k0_off15 ⟨n, hlt⟩) S32x256.size (k0_off15_inb ⟨n, hlt⟩)).emb y = i at e0 e1
        have ek : (i 0).val / 32 = n := by omega
        have hi1 : (i 1).val < 256 := by omega
        have hy : y = ix2 ⟨(i 0).val % 32, Nat.mod_lt _ (by decide)⟩ ⟨(i 1).val, hi1⟩ := by
          funext a; fin_cases a
          · exact Fin.ext (show (y 0).val = (i 0).val % 32 by omega)
          · exact Fin.ext (show (y 1).val = (i 1).val by omega)
        unfold out2
        rw [dif_pos hi1]
        have ef : (⟨(i 0).val / 32, by rw [trips2]; omega⟩ : Fin k0_t5_loop.trips) = ⟨n, hlt⟩ := Fin.ext ek
        rw [ef, ek]
        exact congrArg (putF2 x g ⟨n, hlt⟩ (st2 x g init n)) hy
    · exact ih (by omega) p hp y

theorem puts2_mem (init : St F) (k : Fin k0_t5_loop.trips) : ∀ n ≤ 128, k.val < n → ∀ p ∈ puts2 x g k (st2 x g init k.val), p ∈ all2 x g init n := by
  intro n
  induction n with
  | zero => intro _ h; exact absurd h (Nat.not_lt_zero _)
  | succ n ih =>
    intro hn h p hp
    have hlt : n < k0_t5_loop.trips := by rw [trips2]; omega
    rw [show n + 1 = (⟨n, hlt⟩ : Fin k0_t5_loop.trips).val + 1 from rfl, all2_succ]
    rcases Nat.lt_or_ge k.val n with hk | hk
    · exact List.mem_append_right _ (ih (by omega) hk p hp)
    · have : k = ⟨n, hlt⟩ := Fin.ext (by show k.val = n; omega)
      subst this
      exact List.mem_append_left _ hp

theorem all2_cover (init : St F) (i : S4096x512.Idx) : ∃ p ∈ all2 x g init 128, i ∈ p.1.set := by
  have h0 : (i 0).val < 4096 := (i 0).isLt
  have h1 : (i 1).val < 512 := (i 1).isLt
  rcases Nat.lt_or_ge (i 1).val 256 with h | h
  · have hk : (i 0).val / 32 < k0_t5_loop.trips := by rw [trips2]; omega
    refine ⟨_, puts2_mem x g init ⟨(i 0).val / 32, hk⟩ 128 le_rfl (by show (i 0).val / 32 < 128; omega) _ (List.mem_cons_of_mem _ List.mem_cons_self), ?_⟩
    show i ∈ (Rect.unit (s := S4096x512) (k0_off15 ⟨(i 0).val / 32, hk⟩) S32x256.size (k0_off15_inb ⟨(i 0).val / 32, hk⟩)).set
    rw [Rect.mem_set_unit]
    intro a
    rw [k0_off15_at]
    fin_cases a
    · show 32 * ((i 0).val / 32) ≤ (i 0).val ∧ (i 0).val < 32 * ((i 0).val / 32) + 32
      omega
    · show 0 ≤ (i 1).val ∧ (i 1).val < 0 + 256
      omega
  · have hk : 127 - (i 0).val / 32 < k0_t5_loop.trips := by rw [trips2]; omega
    refine ⟨_, puts2_mem x g init ⟨127 - (i 0).val / 32, hk⟩ 128 le_rfl (by show 127 - (i 0).val / 32 < 128; omega) _ List.mem_cons_self, ?_⟩
    show i ∈ (Rect.unit (s := S4096x512) (k0_off16 ⟨127 - (i 0).val / 32, hk⟩) S32x256.size (k0_off16_inb ⟨127 - (i 0).val / 32, hk⟩)).set
    rw [Rect.mem_set_unit]
    intro a
    rw [k0_off16_at]
    fin_cases a
    · show 32 * (127 - (127 - (i 0).val / 32)) ≤ (i 0).val ∧ (i 0).val < 32 * (127 - (127 - (i 0).val / 32)) + 32
      omega
    · show 256 ≤ (i 1).val ∧ (i 1).val < 256 + 256
      omega

/-- After all trips the written buffer reads the layer's output, whatever it held before. -/
theorem read2 (arg11 : Memref sig .tc .vmem S4096x512 .f32) (init : St F) (f : BufTy.Contents (Elt F) arg11.view.ty) (n : ℕ) (hn : n = 128) :
    arg11.view.read (Elt F) (arg11.view.writes (Elt F) f (all2 x g init n)) = out2 x g init := by
  subst hn
  funext i
  exact View.read_writes_apply_of_pieces arg11.view f (out2 x g init) _ (all2_agree x g init 128 le_rfl) i (all2_cover x g init i)

end Layer2

section Loop2

/-- Before trip `k`. -/
def inv2 (arg9 : Memref sig .tc .vmem S2x256x1024 .bf16) (arg17 : Memref sig .tc .vmem S4096x2048 .bf16) (arg11 : Memref sig .tc .vmem S4096x512 .f32)
    (X : BufTy.Contents (Elt F) arg9.view.ty) (G : BufTy.Contents (Elt F) arg17.view.ty)
    (c : Dev nD) (f0 : BufTy.Contents (Elt F) arg11.view.ty) (init : St F) (k : ℕ) (acc : St F) : sProp 𝕄 :=
  iprop((arg9.view.loc (c : Thread nD τ) ↦[arg9.view.set]{fullShare} X)
    ∗ (arg17.view.loc (c : Thread nD τ) ↦[arg17.view.set]{fullShare} G)
    ∗ (∃ f, (arg11.view.loc (c : Thread nD τ) ↦[arg11.view.set]{fullShare} f)
        ∗ ⌜f = arg11.view.writes (Elt F) f0 (all2 (arg9.view.read (Elt F) X) (arg17.view.read (Elt F) G) init k)⌝)
    ∗ ⌜acc = st2 (arg9.view.read (Elt F) X) (arg17.view.read (Elt F) G) init k⌝)

set_option maxHeartbeats 4000000 in
set_option warn.classDefReducibility false in
/-- The layer's loop keeps its invariant. -/
@[sl_loop] def loop2 (𝒱 : Variants) (c : Dev nD) (bd : Option 𝒱.V) (E : Set ℕ) (arg0 : Memref sig .tc .smem S4096 .i32) (harg0 : arg0.IsWhole) (arg1 : Memref sig .tc .hbm S32000x256 .f32) (harg1 : arg1.IsWhole) (arg2 : Memref sig .tc .vmem S256x2048 .bf16) (harg2 : arg2.IsWhole) (arg3 : Memref sig .tc .vmem S2x256x1024 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S2x256x1024 .bf16) (harg6 : arg6.IsWhole) (arg7 : Memref sig .tc .vmem S1x2048 .f32) (harg7 : arg7.IsWhole) (arg8 : Memref sig .tc .vmem S512x2048 .bf16) (harg8 : arg8.IsWhole) (arg9 : Memref sig .tc .vmem S2x256x1024 .bf16) (harg9 : arg9.IsWhole) (arg10 : Memref sig .tc .vmem S1x2048 .f32) (harg10 : arg10.IsWhole) (arg11 : Memref sig .tc .vmem S4096x512 .f32) (harg11 : arg11.IsWhole) (arg12 : Memref sig .tc .vmem S3x2x32x256 .f32) (harg12 : arg12.IsWhole) (arg13 : Memref sig .tc .vmem S3x2x32x256 .f32) (harg13 : arg13.IsWhole) (arg14 : Memref sig .tc .vmem S4096x256 .f32) (harg14 : arg14.IsWhole) (arg15 : Memref sig .tc .vmem S4096x512 .bf16) (harg15 : arg15.IsWhole) (arg16 : Memref sig .tc .vmem S4096x512 .bf16) (harg16 : arg16.IsWhole) (arg17 : Memref sig .tc .vmem S4096x2048 .bf16) (harg17 : arg17.IsWhole) (arg18 : DmaSems sig S_) (v73 : Vec F S4096x512 .bf16)
    (X : BufTy.Contents (Elt F) arg9.view.ty) (G : BufTy.Contents (Elt F) arg17.view.ty) (f0 : BufTy.Contents (Elt F) arg11.view.ty) (init : St F) :
    LoopInvTy_k0_t5 (F := F) Unit ℕ (UC sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v73 init where
  inv := inv2 arg9 arg17 arg11 X G c f0 init
  step k acc := by
    have hk : k.val < 128 := Nat.lt_of_lt_of_le k.isLt k0_t5_abs.2.1
    unfold inv2 k0_t5_body
    iintro ⟨HX, HG, ⟨%f, HW, %hf⟩, %hacc⟩
    subst hacc
    sl_exec
    sl_step
    isplitl [HX]; · iexact HX
    isplitl [HG]; · iexact HG
    isplitl [HW]
    · iexists _
      isplitl [HW]; · iexact HW
      ipureintro
      rw [hf, all2_succ, View.writes_append]
      rfl
    · ipureintro
      rw [st2_succ]
      rfl

end Loop2

end Cert.EncoderIdeal.Encoder
-- ==== Proof.EncoderStack.lean ====
/-
  The encoder call's stacks of final vectors: six stores, one for each layer and direction, through a layer's part of the
  stack, and the stack they leave.
-/
module

public import proofs.«01_k».proof.Proof.Encoder

@[expose] public section

set_option maxRecDepth 16384

noncomputable section

namespace Cert.EncoderIdeal.Stack

open Cert.EncoderIdeal Cert.EncoderIdeal.Gen Cert.EncoderIdeal.Encoder
open Idealize.ShloMosaic Idealize.ShloMosaic.TcCoe

variable {F : FTy → Type} [FloatOps F]

/-- Six blocks as a stack by layer and direction. -/
def stack (w : Fin 3 → Fin 2 → Vec F S1x32x256 .f32) : Vec F S3x2x32x256 .f32 := fun i => w (i 0) (i 1) (ValueIdx.ix3 0 (i 2) (i 3))

section
variable {sp : Space} (M : Memref sig .tc sp S3x2x32x256 .f32) (l l' : Fin 3) (d d' : Fin 2) (o : Fin 4 → ℕ) (ho : o = ![l.val, 0, 0, 0])
  (inb : ∀ a, o a + (![1, 2, 32, 256] : Fin 4 → ℕ) a ≤ S3x2x32x256.size a) (hr) (hq : S1x2x32x256.Squeezes S2x32x256)
  (o' : Fin 3 → ℕ) (ho' : o' = ![d.val, 0, 0]) (inb' : ∀ a, o' a + (![1, 32, 256] : Fin 3 → ℕ) a ≤ S2x32x256.size a)
  (f : BufTy.Contents (Elt F) M.view.ty) (w : Vec F S1x32x256 .f32) (p : Fin 32) (q : Fin 256)
include ho ho'

/-- Where a store’s block lies in the stack. -/
theorem emb_at (x : S1x32x256.Idx) :
    (Rect.unit (s := S3x2x32x256) o ![1, 2, 32, 256] inb).emb (Shape.reshapeEquiv hq.numel_eq ((Rect.unit (s := S2x32x256) o' ![1, 32, 256] inb').emb x))
      = ValueIdx.ix4 l d (x 1) (x 2) := by
  subst ho ho'
  rw [show Shape.reshapeEquiv hq.numel_eq ((Rect.unit (s := S2x32x256) ![d.val, 0, 0] ![1, 32, 256] inb').emb x)
      = (Fin.cons ⟨0, Nat.one_pos⟩ ((Rect.unit (s := S2x32x256) ![d.val, 0, 0] ![1, 32, 256] inb').emb x) : S1x2x32x256.Idx) from Shape.reshapeEquiv_cons_one ..]
  have h0 : (x 0 : ℕ) = 0 := by have := (x 0).isLt; show (x 0 : ℕ) = 0; exact Nat.lt_one_iff.1 this
  funext a
  apply Fin.ext
  rw [Rect.emb_apply]
  match a with
  | ⟨0, _⟩ => show l.val + 1 * 0 = l.val; omega
  | ⟨1, _⟩ => show 0 + 1 * (d.val + 1 * (x 0 : ℕ)) = d.val; omega
  | ⟨2, _⟩ => show 0 + 1 * (0 + 1 * (x 1 : ℕ)) = (x 1 : ℕ); omega
  | ⟨3, _⟩ => show 0 + 1 * (0 + 1 * (x 2 : ℕ)) = (x 2 : ℕ); omega

/-- A store read back where it wrote. -/
theorem hit : M.view.read (Elt F) ((((M.slice (Rect.unit (s := S3x2x32x256) o ![1, 2, 32, 256] inb) hr).squeeze S2x32x256 hq).access
      (Rect.unit (s := S2x32x256) o' ![1, 32, 256] inb')).write (Elt F) f w Finset.univ) (ValueIdx.ix4 l d p q) = w (ValueIdx.ix3 0 p q) := by
  have e := emb_at l d o ho inb hq o' ho' inb' (ValueIdx.ix3 0 p q)
  rw [show (ValueIdx.ix4 l d p q : S3x2x32x256.Idx) = _ from e.symm]
  exact View.read_write_of_mem (v := ((M.slice (Rect.unit (s := S3x2x32x256) o ![1, 2, 32, 256] inb) hr).squeeze S2x32x256 hq).access
      (Rect.unit (s := S2x32x256) o' ![1, 32, 256] inb')) f w (Finset.mem_univ (ValueIdx.ix3 0 p q))

/-- A store read where it did not write. -/
theorem miss (h : ¬(l' = l ∧ d' = d)) : M.view.read (Elt F) ((((M.slice (Rect.unit (s := S3x2x32x256) o ![1, 2, 32, 256] inb) hr).squeeze S2x32x256 hq).access
      (Rect.unit (s := S2x32x256) o' ![1, 32, 256] inb')).write (Elt F) f w Finset.univ) (ValueIdx.ix4 l' d' p q) = M.view.read (Elt F) f (ValueIdx.ix4 l' d' p q) := by
  apply View.read_congr_at
  apply View.write_of_not_mem
  intro hm
  obtain ⟨x, _, hx⟩ := Finset.mem_map.mp hm
  have e : (((M.slice (Rect.unit (s := S3x2x32x256) o ![1, 2, 32, 256] inb) hr).squeeze S2x32x256 hq).access (Rect.unit (s := S2x32x256) o' ![1, 32, 256] inb')).emb x
      = M.view.emb ((Rect.unit (s := S3x2x32x256) o ![1, 2, 32, 256] inb).emb (Shape.reshapeEquiv hq.numel_eq ((Rect.unit (s := S2x32x256) o' ![1, 32, 256] inb').emb x))) := rfl
  rw [e, emb_at l d o ho inb hq o' ho' inb' x] at hx
  have hy := M.view.emb.injective hx
  exact h ⟨(congrFun hy 0).symm, (congrFun hy 1).symm⟩

end

/-- The six stores in order. -/
abbrev six {sp : Space} (M : Memref sig .tc sp S3x2x32x256 .f32) (f : BufTy.Contents (Elt F) M.view.ty) (a0 b0 a1 b1 a2 b2 : Vec F S1x32x256 .f32) : BufTy.Contents (Elt F) M.view.ty :=
    let st0 := ((M.slice (Rect.unit (s := S3x2x32x256) ![0, 0, 0, 0] ![1, 2, 32, 256] inb_S3x2x32x256_S1x2x32x256_0_0_0_0) (fun _ => rfl)).squeeze S2x32x256 squeezes_S1x2x32x256_S2x32x256).access (Rect.unit (s := S2x32x256) ![0, 0, 0] ![1, 32, 256] inb_S2x32x256_S1x32x256_0_0_0)
    let st1 := ((M.slice (Rect.unit (s := S3x2x32x256) ![0, 0, 0, 0] ![1, 2, 32, 256] inb_S3x2x32x256_S1x2x32x256_0_0_0_0) (fun _ => rfl)).squeeze S2x32x256 squeezes_S1x2x32x256_S2x32x256).access (Rect.unit (s := S2x32x256) ![1, 0, 0] ![1, 32, 256] inb_S2x32x256_S1x32x256_1_0_0)
    let st2 := ((M.slice (Rect.unit (s := S3x2x32x256) ![1, 0, 0, 0] ![1, 2, 32, 256] inb_S3x2x32x256_S1x2x32x256_1_0_0_0) (fun _ => rfl)).squeeze S2x32x256 squeezes_S1x2x32x256_S2x32x256).access (Rect.unit (s := S2x32x256) ![0, 0, 0] ![1, 32, 256] inb_S2x32x256_S1x32x256_0_0_0)
    let st3 := ((M.slice (Rect.unit (s := S3x2x32x256) ![1, 0, 0, 0] ![1, 2, 32, 256] inb_S3x2x32x256_S1x2x32x256_1_0_0_0) (fun _ => rfl)).squeeze S2x32x256 squeezes_S1x2x32x256_S2x32x256).access (Rect.unit (s := S2x32x256) ![1, 0, 0] ![1, 32, 256] inb_S2x32x256_S1x32x256_1_0_0)
    let st4 := ((M.slice (Rect.unit (s := S3x2x32x256) ![2, 0, 0, 0] ![1, 2, 32, 256] inb_S3x2x32x256_S1x2x32x256_2_0_0_0) (fun _ => rfl)).squeeze S2x32x256 squeezes_S1x2x32x256_S2x32x256).access (Rect.unit (s := S2x32x256) ![0, 0, 0] ![1, 32, 256] inb_S2x32x256_S1x32x256_0_0_0)
    let st5 := ((M.slice (Rect.unit (s := S3x2x32x256) ![2, 0, 0, 0] ![1, 2, 32, 256] inb_S3x2x32x256_S1x2x32x256_2_0_0_0) (fun _ => rfl)).squeeze S2x32x256 squeezes_S1x2x32x256_S2x32x256).access (Rect.unit (s := S2x32x256) ![1, 0, 0] ![1, 32, 256] inb_S2x32x256_S1x32x256_1_0_0)
    (st5.write (Elt F) (st4.write (Elt F) (st3.write (Elt F) (st2.write (Elt F) (st1.write (Elt F) (st0.write (Elt F) f a0 Finset.univ) b0 Finset.univ) a1 Finset.univ) b1 Finset.univ) a2 Finset.univ) b2 Finset.univ)

theorem six_at {sp : Space} (M : Memref sig .tc sp S3x2x32x256 .f32) (f : BufTy.Contents (Elt F) M.view.ty) (a0 b0 a1 b1 a2 b2 : Vec F S1x32x256 .f32) (l : Fin 3) (d : Fin 2) (p : Fin 32) (q : Fin 256) :
    M.view.read (Elt F) (six M f a0 b0 a1 b1 a2 b2) (ValueIdx.ix4 l d p q)
      = (![![a0, b0], ![a1, b1], ![a2, b2]] : Fin 3 → Fin 2 → Vec F S1x32x256 .f32) l d (ValueIdx.ix3 0 p q) := by
  by_cases h5' : l = 2 ∧ d = 1
  · obtain ⟨rfl, rfl⟩ := h5'; exact hit M 2 1 _ rfl _ _ _ _ rfl _ _ _ _ _
  refine (miss M 2 l 1 d _ rfl _ _ _ _ rfl _ _ _ _ _ h5').trans ?_
  by_cases h4' : l = 2 ∧ d = 0
  · obtain ⟨rfl, rfl⟩ := h4'; exact hit M 2 0 _ rfl _ _ _ _ rfl _ _ _ _ _
  refine (miss M 2 l 0 d _ rfl _ _ _ _ rfl _ _ _ _ _ h4').trans ?_
  by_cases h3' : l = 1 ∧ d = 1
  · obtain ⟨rfl, rfl⟩ := h3'; exact hit M 1 1 _ rfl _ _ _ _ rfl _ _ _ _ _
  refine (miss M 1 l 1 d _ rfl _ _ _ _ rfl _ _ _ _ _ h3').trans ?_
  by_cases h2' : l = 1 ∧ d = 0
  · obtain ⟨rfl, rfl⟩ := h2'; exact hit M 1 0 _ rfl _ _ _ _ rfl _ _ _ _ _
  refine (miss M 1 l 0 d _ rfl _ _ _ _ rfl _ _ _ _ _ h2').trans ?_
  by_cases h1' : l = 0 ∧ d = 1
  · obtain ⟨rfl, rfl⟩ := h1'; exact hit M 0 1 _ rfl _ _ _ _ rfl _ _ _ _ _
  refine (miss M 0 l 1 d _ rfl _ _ _ _ rfl _ _ _ _ _ h1').trans ?_
  have h0' : l = 0 ∧ d = 0 := by
    clear * - h5' h4' h3' h2' h1'
    revert l d
    decide
  obtain ⟨rfl, rfl⟩ := h0'
  exact hit M 0 0 _ rfl _ _ _ _ rfl _ _ _ _ _

/-- They leave the stack. -/
theorem read_six {sp : Space} (M : Memref sig .tc sp S3x2x32x256 .f32) (f : BufTy.Contents (Elt F) M.view.ty) (a0 b0 a1 b1 a2 b2 : Vec F S1x32x256 .f32) :
    M.view.read (Elt F) (six M f a0 b0 a1 b1 a2 b2) = stack ![![a0, b0], ![a1, b1], ![a2, b2]] := by
  funext i
  exact (congrArg (M.view.read (Elt F) (six M f a0 b0 a1 b1 a2 b2)) (ValueIdx.eq_ix4 i)).trans
    (six_at M f a0 b0 a1 b1 a2 b2 (i 0) (i 1) (i 2) (i 3))

end Cert.EncoderIdeal.Stack
-- ==== Proof.EncoderRun.lean ====
/-
  The encoder call's body, run to its return: the rows of the table gathered, then the three layers one after another.
-/
module

public import proofs.«01_k».proof.Proof.EncoderStack

@[expose] public section

set_option maxRecDepth 16384

noncomputable section

namespace Cert.EncoderIdeal.EncoderRun

open Cert.EncoderIdeal Cert.EncoderIdeal.Gen Cert.EncoderIdeal.EncoderGather Cert.EncoderIdeal.Encoder Cert.EncoderIdeal.Stack
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-- The three layers' weights: the matrix to the gate inputs, the two directions' recurrent matrices, the bias. -/
structure Weights (F : FTy → Type) where
  wi0 : Vec F S256x2048 .bf16
  wr0 : Vec F S2x256x1024 .bf16
  b0 : Vec F S1x2048 .f32
  wi1 : Vec F S512x2048 .bf16
  wr1 : Vec F S2x256x1024 .bf16
  b1 : Vec F S1x2048 .f32
  wi2 : Vec F S512x2048 .bf16
  wr2 : Vec F S2x256x1024 .bf16
  b2 : Vec F S1x2048 .f32

section Layers

variable (rows : Vec F S4096x256 .f32) (A : Weights F)

/-- A layer starts from zeros. -/
abbrev z0 : St F := (k0_pay24, k0_pay24, k0_pay24, k0_pay24)
abbrev z1 : St F := (k0_pay32, k0_pay32, k0_pay32, k0_pay32)
abbrev z2 : St F := (k0_pay40, k0_pay40, k0_pay40, k0_pay40)

/-- The layers in turn: gate inputs, final vectors, output. -/
def gin0 : FVec F S4096x2048 .bf16 := k0_pay23 rows A.wi0 A.b0
def fin0 : St F := st0 A.wr0 (gin0 rows A) z0 128
def seq0 : Vec F S4096x512 .bf16 := out0 A.wr0 (gin0 rows A) z0
def gin1 : FVec F S4096x2048 .bf16 := k0_pay31 (seq0 rows A) A.wi1 A.b1
def fin1 : St F := st1 A.wr1 (gin1 rows A) z1 128
def seq1 : Vec F S4096x512 .bf16 := out1 A.wr1 (gin1 rows A) z1
def gin2 : FVec F S4096x2048 .bf16 := k0_pay39 (seq1 rows A) A.wi2 A.b2
def fin2 : St F := st2 A.wr2 (gin2 rows A) z2 128
def seq2 : Vec F S4096x512 .f32 := out2 A.wr2 (gin2 rows A) z2

/-- The stacks of the final hidden and of the final cell vectors. -/
def hiddens : Vec F S3x2x32x256 .f32 := stack ![![k0_pay27 (fin0 rows A).1, k0_pay29 (fin0 rows A).2.2.1],
  ![k0_pay35 (fin1 rows A).1, k0_pay37 (fin1 rows A).2.2.1], ![k0_pay41 (fin2 rows A).1, k0_pay1 (fin2 rows A).2.2.1]]
def cells : Vec F S3x2x32x256 .f32 := stack ![![k0_pay28 (fin0 rows A).2.1, k0_pay30 (fin0 rows A).2.2.2],
  ![k0_pay36 (fin1 rows A).2.1, k0_pay38 (fin1 rows A).2.2.2], ![k0_pay42 (fin2 rows A).2.1, k0_pay2 (fin2 rows A).2.2.2]]

end Layers

/-- A rectangle of the whole extent is the identity on indices. -/
theorem full_emb {S : Shape} (o : Fin S.rank → ℕ) (ho : ∀ a, o a = 0) (h : ∀ a, o a + S.size a ≤ S.size a) (y : S.Idx) :
    (Rect.unit (s := S) o S.size h).emb y = y :=
  funext fun a => Fin.ext (by show o a + 1 * (y a).val = (y a).val; rw [ho]; omega)

theorem read_full {S : Shape} {e : EltTy} {sp : Space} (M : Memref sig .tc sp S e) (o : Fin S.rank → ℕ) (ho : ∀ a, o a = 0) (h : ∀ a, o a + S.size a ≤ S.size a)
    (f : BufTy.Contents (Elt F) M.view.ty) :
    View.readAt (Elt F) M.view (Rect.unit (s := S) o S.size h).toLoadRect f = M.view.read (Elt F) f :=
  funext fun y => congrArg (M.view.read (Elt F) f) (full_emb o ho h y)

/-- A buffer written whole last of all reads what was written. -/
theorem read_store {S : Shape} {e : EltTy} {sp : Space} (M : Memref sig .tc sp S e) (o : Fin S.rank → ℕ) (ho : ∀ a, o a = 0) (h : ∀ a, o a + S.size a ≤ S.size a)
    (f : BufTy.Contents (Elt F) M.view.ty) (v : Vec F S e) (L : List (View.Piece (Elt F) S e)) :
    M.view.read (Elt F) (M.view.writes (Elt F) f (⟨Rect.unit (s := S) o S.size h, v⟩ :: L)) = v := by
  funext i
  have := View.read_writes_cons_emb (v := M.view) (f := f) (Rect.unit (s := S) o S.size h) v L i
  rwa [full_emb o ho h i] at this

theorem zero2 : ∀ a : Fin 2, (![0, 0] : Fin 2 → ℕ) a = 0 := by decide

set_option maxHeartbeats 8000000 in
/-- The body from its buffers held to the same buffers and its three results read as the layers leave them. -/
theorem run [∀ e, Nonempty (Elt F e)] (c : Dev nD) (arg0 : Memref sig .tc .smem S4096 .i32) (harg0 : arg0.IsWhole) (arg2 : Memref sig .tc .vmem S256x2048 .bf16) (harg2 : arg2.IsWhole) (arg3 : Memref sig .tc .vmem S2x256x1024 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S2x256x1024 .bf16) (harg6 : arg6.IsWhole) (arg7 : Memref sig .tc .vmem S1x2048 .f32) (harg7 : arg7.IsWhole) (arg8 : Memref sig .tc .vmem S512x2048 .bf16) (harg8 : arg8.IsWhole) (arg9 : Memref sig .tc .vmem S2x256x1024 .bf16) (harg9 : arg9.IsWhole) (arg10 : Memref sig .tc .vmem S1x2048 .f32) (harg10 : arg10.IsWhole) (arg11 : Memref sig .tc .vmem S4096x512 .f32) (harg11 : arg11.IsWhole) (arg12 : Memref sig .tc .vmem S3x2x32x256 .f32) (harg12 : arg12.IsWhole) (arg13 : Memref sig .tc .vmem S3x2x32x256 .f32) (harg13 : arg13.IsWhole) (arg15 : Memref sig .tc .vmem S4096x512 .bf16) (harg15 : arg15.IsWhole) (arg16 : Memref sig .tc .vmem S4096x512 .bf16) (harg16 : arg16.IsWhole) (arg17 : Memref sig .tc .vmem S4096x2048 .bf16) (harg17 : arg17.IsWhole)
    (f0 : Bf (F := F) c arg0) (hw : InVocab (word arg0 f0)) (fs : Bf (F := F) c Tab) (fv : Bf (F := F) c Dst) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f15 : BufTy.Contents (Elt F) arg15.view.ty) (f16 : BufTy.Contents (Elt F) arg16.view.ty) (f17 : BufTy.Contents (Elt F) arg17.view.ty)
    (W : Waits sig Unit) (Q : PUnit → sProp 𝕄) :
    iprop((arg0.view.loc (c : Thread nD τ) ↦{fullShare} f0) ∗ (Tab.view.loc (c : Thread nD τ) ↦{fullShare} fs) ∗ (Dst.view.loc (c : Thread nD τ) ↦{fullShare} fv)
      ∗ (arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11)
      ∗ (arg12.view.loc (c : Thread nD τ) ↦{fullShare} f12)
      ∗ (arg13.view.loc (c : Thread nD τ) ↦{fullShare} f13)
      ∗ (arg15.view.loc (c : Thread nD τ) ↦[arg15.view.set]{fullShare} f15)
      ∗ (arg16.view.loc (c : Thread nD τ) ↦[arg16.view.set]{fullShare} f16)
      ∗ (arg17.view.loc (c : Thread nD τ) ↦[arg17.view.set]{fullShare} f17)
      ∗ semVal ((c : Thread nD τ), SemLoc.dma cc0_scratch4.sem) 0 ∗ owes (c : Thread nD τ) 0 W
      ∗ (((arg0.view.loc (c : Thread nD τ) ↦{fullShare} f0)
      ∗ (Tab.view.loc (c : Thread nD τ) ↦{fullShare} fs)
      ∗ (arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)
      ∗ (arg10.view.loc (c : Thread nD τ) ↦[arg10.view.set]{fullShare} f10)
      ∗ semVal ((c : Thread nD τ), SemLoc.dma cc0_scratch4.sem) 0
      ∗ (∃ f, Dst.view.loc (c : Thread nD τ) ↦{fullShare} f)
      ∗ (∃ f, arg15.view.loc (c : Thread nD τ) ↦[arg15.view.set]{fullShare} f)
      ∗ (∃ f, arg16.view.loc (c : Thread nD τ) ↦[arg16.view.set]{fullShare} f)
      ∗ (∃ f, arg17.view.loc (c : Thread nD τ) ↦[arg17.view.set]{fullShare} f)
      ∗ (∃ f, (arg11.view.loc (c : Thread nD τ) ↦[arg11.view.set]{fullShare} f) ∗ ⌜arg11.view.read (Elt F) f = seq2 (Dst.view.read (Elt F) (gath c hw fs)) ⟨arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10⟩⌝)
      ∗ (∃ f, (arg12.view.loc (c : Thread nD τ) ↦{fullShare} f) ∗ ⌜arg12.view.read (Elt F) f = hiddens (Dst.view.read (Elt F) (gath c hw fs)) ⟨arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10⟩⌝)
      ∗ (∃ f, (arg13.view.loc (c : Thread nD τ) ↦{fullShare} f) ∗ ⌜arg13.view.read (Elt F) f = cells (Dst.view.read (Elt F) (gath c hw fs)) ⟨arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10⟩⌝)
      ∗ (∃ W, owes (c : Thread nD τ) 0 W)) -∗ Q ⟨⟩))
      ⊢ wp frame (wpE (defs₀ (F := F)) Variants.none c none) Set.univ
        (cc0_encoder3_bilstm (F := F) arg0 harg0 Tab (Memref.isWhole_whole _) arg2 harg2 arg3 harg3 arg4 harg4 arg5 harg5 arg6 harg6 arg7 harg7 arg8 harg8 arg9 harg9 arg10 harg10 arg11 harg11 arg12 harg12 arg13 harg13 Dst (Memref.isWhole_whole _) arg15 harg15 arg16 harg16 arg17 harg17 cc0_scratch4) Q := by
  iintro ⟨H0, HT, HD, H2, H3, H4, H5, H6, H7, H8, H9, H10, H11, H12, H13, H15, H16, H17, Hc, HO, Hk⟩
  simp only [cc0_encoder3_bilstm_eq_skeleton]
  unfold cc0_encoder3_bilstm_skel
  simp only [k0_part4_eq_skeleton]
  unfold k0_part4_skel
  simp only [bind_assoc]
  imod (Transfers.batch_alloc' (Lvl := ℕ) countersEmb (c : Thread nD τ) () NN
    (fun t : Fin 4096 => D c hw fv fs (t.castLE (EncoderGather.trips1 ▸ le_rfl))) (sm := .dma cc0_scratch4.sem) (E := Set.univ)) $$ Hc with HB
  ihave HE := (enter c hw fv fs) $$ [HD HT]
  · isplitl [HD]; · iexact HD
    iexact HT
  icases HE with ⟨HP, HS, HL⟩
  sl_for (issueAt c arg0 f0 hw fv fs) $$ [HB HP HS H0]
  · intro k acc; exact issue_step c arg0 f0 hw fv fs arg2 harg2 arg3 harg3 arg4 harg4 arg5 harg5 arg6 harg6 arg7 harg7 arg8 harg8 arg9 harg9 arg10 harg10 arg11 harg11 arg12 harg12 arg13 harg13 arg15 harg15 arg16 harg16 arg17 harg17 harg0 k acc
  · iapply (show iprop(batch c hw fv fs 0 0
        ∗ bigSep (Ring.rangeSet k0_t1_loop.trips 0 4096) (fun t => dstD c fv t)
        ∗ bigSep (Ring.rangeSet k0_t1_loop.trips 0 4096) (fun t => tokD c hw fs t)
        ∗ (arg0.view.loc (c : Thread nD τ) ↦{fullShare} f0)) ⊢ issueAt c arg0 f0 hw fv fs 0 () from by unfold issueAt; rw [Nat.zero_min])
    isplitl [HB]; · iexact HB
    isplitl [HP]; · iexact HP
    isplitl [HS]; · iexact HS
    iexact H0
  iintro %acc HI
  ihave HI' := (show issueAt c arg0 f0 hw fv fs k0_t1_loop.trips acc ⊢ iprop(batch c hw fv fs 4096 0 ∗ (arg0.view.loc (c : Thread nD τ) ↦{fullShare} f0)) from by
    unfold issueAt
    simp only [Nat.min_eq_right (Nat.le_of_eq EncoderGather.trips1.symm), Ring.bigSep_rangeSet_empty (Nat.le_of_eq EncoderGather.trips1.symm)]
    iintro ⟨A, -, -, B⟩; isplitl [A] <;> iassumption) $$ HI
  icases HI' with ⟨HB, H0⟩
  sl_for (drainAt c hw fv fs) $$ [HB HO]
  · intro k acc; exact drain_step c hw fv fs arg0 arg2 harg2 arg3 harg3 arg4 harg4 arg5 harg5 arg6 harg6 arg7 harg7 arg8 harg8 arg9 harg9 arg10 harg10 arg11 harg11 arg12 harg12 arg13 harg13 arg15 harg15 arg16 harg16 arg17 harg17 harg0 k acc
  · iapply (show iprop((∃ W, owes (c : Thread nD τ) 0 W) ∗ batch c hw fv fs 4096 0) ⊢ drainAt c hw fv fs 0 () from by
      unfold drainAt; rw [if_pos (by omega), Nat.zero_mul])
    isplitl [HO]; · iexists _; iexact HO
    iexact HB
  iintro %acc2 HI2
  ihave HI2' := (show drainAt c hw fv fs k0_t2_loop.trips acc2
      ⊢ iprop((∃ W, owes (c : Thread nD τ) 0 W) ∗ semVal ((c : Thread nD τ), SemLoc.dma cc0_scratch4.sem) 0
          ∗ bigSep Finset.univ (fun t : Fin 4096 => D c hw fv fs (t.castLE (EncoderGather.trips1 ▸ le_rfl)))) from by
    unfold drainAt; rw [if_neg (by rw [EncoderGather.trips2]; omega)]) $$ HI2
  icases HI2' with ⟨⟨%W', HO⟩, Hc, HDel⟩
  ihave HE2 := (leave c hw fv fs) $$ [HDel HL]
  · isplitl [HDel]; · iexact HDel
    iexact HL
  icases HE2 with ⟨HD, HT⟩
  sl_exec
  sl_step
  have hT3 : Scf.trips k0_t3_loop.lb k0_t3_loop.ub k0_t3_loop.st = 128 := Encoder.trips0
  have hT4 : Scf.trips k0_t4_loop.lb k0_t4_loop.ub k0_t4_loop.st = 128 := Encoder.trips1
  have hT5 : Scf.trips k0_t5_loop.lb k0_t5_loop.ub k0_t5_loop.st = 128 := Encoder.trips2
  have g0 : arg17.view.read (Elt F) (arg17.view.writes (Elt F) arg17.view.junk (run.sl.H17_1 c arg0 arg2 arg4 f0 hw fs f2 f4)) = gin0 (Dst.view.read (Elt F) (gath c hw fs)) ⟨arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10⟩ := by
    unfold run.sl.H17_1 gin0
    rw [read_store arg17 ![0, 0] zero2, read_full arg2 ![0, 0] zero2, read_full arg4 ![0, 0] zero2]
    erw [read_full Dst ![0, 0] zero2]
  have s0 : run.sl.v38 c arg0 arg2 arg3 arg4 arg15 arg17 f0 hw fs f2 f3 f4 = seq0 (Dst.view.read (Elt F) (gath c hw fs)) ⟨arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10⟩ := by
    unfold run.sl.v38 View.readCov
    rw [read_full arg15 ![0, 0] zero2, read0 _ _ _ _ _ _ hT3, g0]
    rfl
  have g1 : arg17.view.read (Elt F) (arg17.view.writes (Elt F) arg17.view.junk (⟨Rect.unit ![0, 0] S4096x2048.size inb_S4096x2048_S4096x2048_0_0, k0_pay31 (run.sl.v38 c arg0 arg2 arg3 arg4 arg15 arg17 f0 hw fs f2 f3 f4) (View.readAt (Elt F) arg5.view (Rect.unit ![0, 0] S512x2048.size inb_S512x2048_S512x2048_0_0).toLoadRect f5) (View.readAt (Elt F) arg7.view (Rect.unit ![0, 0] S1x2048.size inb_S1x2048_S1x2048_0_0).toLoadRect f7)⟩ :: run.sl.H17_1 c arg0 arg2 arg4 f0 hw fs f2 f4)) = gin1 (Dst.view.read (Elt F) (gath c hw fs)) ⟨arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10⟩ := by
    rw [read_store arg17 ![0, 0] zero2, s0, read_full arg5 ![0, 0] zero2, read_full arg7 ![0, 0] zero2]
    rfl
  have s1 : run.sl.v c arg0 arg2 arg3 arg4 arg5 arg6 arg7 arg15 arg16 arg17 f0 hw fs f2 f3 f4 f5 f6 f7 = seq1 (Dst.view.read (Elt F) (gath c hw fs)) ⟨arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10⟩ := by
    unfold run.sl.v View.readCov
    rw [read_full arg16 ![0, 0] zero2, read1 _ _ _ _ _ _ hT4, g1]
    rfl
  have g2 : arg17.view.read (Elt F) (arg17.view.writes (Elt F) arg17.view.junk (⟨Rect.unit ![0, 0] S4096x2048.size inb_S4096x2048_S4096x2048_0_0, k0_pay39 (run.sl.v c arg0 arg2 arg3 arg4 arg5 arg6 arg7 arg15 arg16 arg17 f0 hw fs f2 f3 f4 f5 f6 f7) (View.readAt (Elt F) arg8.view (Rect.unit ![0, 0] S512x2048.size inb_S512x2048_S512x2048_0_0).toLoadRect f8) (View.readAt (Elt F) arg10.view (Rect.unit ![0, 0] S1x2048.size inb_S1x2048_S1x2048_0_0).toLoadRect f10)⟩ :: ⟨Rect.unit ![0, 0] S4096x2048.size inb_S4096x2048_S4096x2048_0_0, k0_pay31 (run.sl.v38 c arg0 arg2 arg3 arg4 arg15 arg17 f0 hw fs f2 f3 f4) (View.readAt (Elt F) arg5.view (Rect.unit ![0, 0] S512x2048.size inb_S512x2048_S512x2048_0_0).toLoadRect f5) (View.readAt (Elt F) arg7.view (Rect.unit ![0, 0] S1x2048.size inb_S1x2048_S1x2048_0_0).toLoadRect f7)⟩ :: run.sl.H17_1 c arg0 arg2 arg4 f0 hw fs f2 f4)) = gin2 (Dst.view.read (Elt F) (gath c hw fs)) ⟨arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10⟩ := by
    rw [read_store arg17 ![0, 0] zero2, s1, read_full arg8 ![0, 0] zero2, read_full arg10 ![0, 0] zero2]
    rfl
  iapply Hk
  isplitl [H0]; · iexact H0
  isplitl [HT]; · iexact HT
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Hc]; · iexact Hc
  isplitl [HD]; · iexists _; iexact HD
  isplitl [H15]; · iexists _; iexact H15
  isplitl [H16]; · iexists _; iexact H16
  isplitl [H17]; · iexists _; iexact H17
  isplitl [H11]
  · iexists _
    isplitl [H11]; · iexact H11
    ipureintro
    rw [read2 _ _ _ _ _ _ hT5, g2]
    rfl
  isplitl [H12]
  · iexists _
    isplitl [H12]; · iexact H12
    ipureintro
    unfold run.sl.H12_w3_2
    refine (read_six arg12 f12 _ _ _ _ _ _).trans ?_
    unfold run.sl.r
    simp only [g2, g1, g0, hT3, hT4, hT5]
    rfl
  isplitl [H13]
  · iexists _
    isplitl [H13]; · iexact H13
    ipureintro
    unfold run.sl.H13_w4_2
    refine (read_six arg13 f13 _ _ _ _ _ _).trans ?_
    unfold run.sl.r_1
    simp only [g2, g1, g0, hT3, hT4, hT5]
    rfl
  · iexists _; iexact HO

end Cert.EncoderIdeal.EncoderRun
-- ==== Proof.EncoderTail.lean ====
/-
  The host lines after the encoder call read its results and write buffers of their own: none touches the table.
-/
module

public import proofs.«01_k».proof.Proof.Gen.EncoderIdeal.Frame

@[expose] public section

set_option maxRecDepth 16384

noncomputable section

namespace Cert.EncoderIdeal.Tail

open Cert.EncoderIdeal Cert.EncoderIdeal.Gen
open Idealize.ShloMosaic Idealize.ShloMosaic.TcCoe

variable {F : FTy → Type} [FloatOps F]

theorem t2 {a y : Ref sig .tc} (ha : main_arg1 ≠ a) (hy : main_arg1 ≠ y) :
    Proc.devRef (τ := τ) .tc main_arg1 ∉ ({Proc.devRef .tc a, Proc.devRef .tc y} : Finset (DevRef τ sig)) := by
  simp only [Finset.mem_insert, Finset.mem_singleton, not_or]
  exact ⟨StableHlo.devRef_ne_of_ne ha, StableHlo.devRef_ne_of_ne hy⟩

theorem t3 {a b y : Ref sig .tc} (ha : main_arg1 ≠ a) (hb : main_arg1 ≠ b) (hy : main_arg1 ≠ y) :
    Proc.devRef (τ := τ) .tc main_arg1 ∉ ({Proc.devRef .tc a, Proc.devRef .tc b, Proc.devRef .tc y} : Finset (DevRef τ sig)) := by
  simp only [Finset.mem_insert, Finset.mem_singleton, not_or]
  exact ⟨StableHlo.devRef_ne_of_ne ha, StableHlo.devRef_ne_of_ne hb, StableHlo.devRef_ne_of_ne hy⟩

theorem tn {n : ℕ} {xs : Fin n → Ref sig .tc} {y : Ref sig .tc} (hx : ∀ k, main_arg1 ≠ xs k) (hy : main_arg1 ≠ y) :
    Proc.devRef (τ := τ) .tc main_arg1 ∉ (insert (Proc.devRef .tc y) (Finset.univ.image fun k => Proc.devRef .tc (xs k)) : Finset (DevRef τ sig)) := by
  intro h
  rcases Finset.mem_insert.1 h with h | h
  · exact StableHlo.devRef_ne_of_ne hy h
  · obtain ⟨k, -, e⟩ := Finset.mem_image.1 h
    exact StableHlo.devRef_ne_of_ne (hx k) e.symm

theorem tail_but : (hostOps1 : List (HloOp τ sig (Elt F))).Forall fun op => Proc.devRef .tc main_arg1 ∉ op.bufs :=
  ⟨t2 (by decide) (by decide), t2 (by decide) (by decide), t2 (by decide) (by decide), t2 (by decide) (by decide), t3 (by decide) (by decide) (by decide), t2 (by decide) (by decide), t2 (by decide) (by decide), t2 (by decide) (by decide), t2 (by decide) (by decide), t3 (by decide) (by decide) (by decide), t2 (by decide) (by decide), t2 (by decide) (by decide), t2 (by decide) (by decide), t2 (by decide) (by decide), t3 (by decide) (by decide) (by decide), t2 (by decide) (by decide), t2 (by decide) (by decide), t2 (by decide) (by decide), tn (by decide) (by decide), t2 (by decide) (by decide), t2 (by decide) (by decide), t2 (by decide) (by decide), t2 (by decide) (by decide), t3 (by decide) (by decide) (by decide), t2 (by decide) (by decide), t2 (by decide) (by decide), t2 (by decide) (by decide), t2 (by decide) (by decide), t3 (by decide) (by decide) (by decide), t2 (by decide) (by decide), t2 (by decide) (by decide), t2 (by decide) (by decide), t2 (by decide) (by decide), t3 (by decide) (by decide) (by decide), t2 (by decide) (by decide), t2 (by decide) (by decide), t2 (by decide) (by decide), tn (by decide) (by decide)⟩

theorem tail_sub : ∀ ops ∈ ([hostOps1] : List (List (HloOp τ sig (Elt F)))), ∀ op ∈ ops,
    op.bufs ⊆ Pipeline.tailRefsBut sig Pipeline.Prefetch.none spec0 {main_arg1} := by
  intro ops hops op hop
  simp only [List.mem_cons, List.mem_nil_iff, or_false] at hops
  subst hops
  refine Pipeline.sub_tailRefsBut _ _ _ op ((List.forall_iff_forall_mem.mp hostOps1_sub) op hop) (fun k => k.elim0) (fun b hb => ?_)
  obtain rfl := Finset.mem_singleton.1 hb
  exact (List.forall_iff_forall_mem.mp tail_but) op hop

end Cert.EncoderIdeal.Tail
-- ==== Proof.EncoderRegion.lean ====
/-
  The encoder call launched: its body under the pipeline of one point, the program's run, and what every buffer holds
  after it.
-/
module

public import proofs.«01_k».proof.Proof.EncoderRun
public import proofs.«01_k».proof.Proof.EncoderTail
public import proofs.«01_k».proof.Proof.Gen.EncoderIdeal.Launch
public import proofs.«01_k».proof.Proof.Gen.EncoderIdeal.Frame
public import Idealize.ShloMosaic.Lib.Pipeline.Frame
public import Idealize.ShloMosaic.Lib.Pipeline.FrameSuffix
public import Idealize.ShloMosaic.Lib.Tactic

@[expose] public section

set_option maxRecDepth 16384

noncomputable section

namespace Cert.EncoderIdeal.Launched

open Cert.EncoderIdeal Cert.EncoderIdeal.Gen Cert.EncoderIdeal.EncoderGather Cert.EncoderIdeal.EncoderRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UC UD)

variable {F : FTy → Type} [FloatOps F] [∀ e, Nonempty (Elt F e)]

local notation "𝕄" => MT nD τ sig Unit (Elt F) ℕ (UD sig nD τ) ℕ

variable (m : (ℓ : Loc nD τ sig) → Buf (Elt F) ℓ) (ρ : Dev nD → PrngReg)

/-- A window's block as the fetch stages it. -/
abbrev stg (c : Dev nD) (w : Fin 13) : ((cfg0.win w).xblock (cfg0.grid.coords t0_0)).Idx → Elt F (cfg0.win w).elt :=
  ((cfg0.win w).blk t0_0).view.read (Elt F) (V m c (Pipeline.arrRef spec0 w))

/-- Every staged word names a row of the table. -/
def Named : Prop := ∀ c, InVocab (word (F := F) (stage0_0 0) (c := c) (stg m c 0))

variable (hw : Named m)

/-- The rows gathered, and the weights as staged. -/
abbrev rows (c : Dev nD) : Vec F S4096x256 .f32 := Dst.view.read (Elt F) (gath c (hw c) (V m c main_arg1))
abbrev weights (c : Dev nD) : Weights F :=
  ⟨stg m c 1, stg m c 2, stg m c 3, stg m c 4, stg m c 5, stg m c 6, stg m c 7, stg m c 8, stg m c 9⟩

/-- The call's own semaphore. -/
abbrev osem : Unit → SemLoc sig := fun _ => .dma cc0_scratch4.sem

theorem ownFacts : Pipeline.OwnSemFacts spec0 osem := by decide

/-- The buffer the body addresses itself: the table. -/
abbrev held : Finset (Ref sig .tc) := {main_arg1}

theorem held_rest : held ⊆ Pipeline.restRefs sig spec0 :=
  Finset.singleton_subset_iff.2 (Pipeline.mem_restRefs_of main_arg1 (by decide) (by decide))

/-- The proof data: the arrays as the host operations leave them, each input's block kept, the results' written. -/
def dat (c : Dev nD) : Dat τ (Elt F) Unit ℕ (UD sig nD τ) ℕ cfg0 c where
  A w := V m c (Pipeline.arrRef spec0 w)
  after w _ := match w with
    | ⟨0, _⟩ => stg m c 0
    | ⟨1, _⟩ => stg m c 1
    | ⟨2, _⟩ => stg m c 2
    | ⟨3, _⟩ => stg m c 3
    | ⟨4, _⟩ => stg m c 4
    | ⟨5, _⟩ => stg m c 5
    | ⟨6, _⟩ => stg m c 6
    | ⟨7, _⟩ => stg m c 7
    | ⟨8, _⟩ => stg m c 8
    | ⟨9, _⟩ => stg m c 9
    | ⟨10, _⟩ => seq2 (rows m hw c) (weights m c)
    | ⟨11, _⟩ => hiddens (rows m hw c) (weights m c)
    | ⟨12, _⟩ => cells (rows m hw c) (weights m c)
  Φ _ := Pipeline.ΦD osem spec0 held (V m) c
  q _ := fullShare
  owed _ := 0

abbrev 𝒱₀ : Variants := Variants.none

theorem before_in0 (c : Dev nD) (d : (cfg0.win 0).block.Idx → Elt F (cfg0.win 0).elt) : (dat m hw c).before 0 t0_0 d = stg m c 0 := by
  unfold Dat.before; rw [if_pos (by decide)]; rfl

theorem before_in1 (c : Dev nD) (d : (cfg0.win 1).block.Idx → Elt F (cfg0.win 1).elt) : (dat m hw c).before 1 t0_0 d = stg m c 1 := by
  unfold Dat.before; rw [if_pos (by decide)]; rfl

theorem before_in2 (c : Dev nD) (d : (cfg0.win 2).block.Idx → Elt F (cfg0.win 2).elt) : (dat m hw c).before 2 t0_0 d = stg m c 2 := by
  unfold Dat.before; rw [if_pos (by decide)]; rfl

theorem before_in3 (c : Dev nD) (d : (cfg0.win 3).block.Idx → Elt F (cfg0.win 3).elt) : (dat m hw c).before 3 t0_0 d = stg m c 3 := by
  unfold Dat.before; rw [if_pos (by decide)]; rfl

theorem before_in4 (c : Dev nD) (d : (cfg0.win 4).block.Idx → Elt F (cfg0.win 4).elt) : (dat m hw c).before 4 t0_0 d = stg m c 4 := by
  unfold Dat.before; rw [if_pos (by decide)]; rfl

theorem before_in5 (c : Dev nD) (d : (cfg0.win 5).block.Idx → Elt F (cfg0.win 5).elt) : (dat m hw c).before 5 t0_0 d = stg m c 5 := by
  unfold Dat.before; rw [if_pos (by decide)]; rfl

theorem before_in6 (c : Dev nD) (d : (cfg0.win 6).block.Idx → Elt F (cfg0.win 6).elt) : (dat m hw c).before 6 t0_0 d = stg m c 6 := by
  unfold Dat.before; rw [if_pos (by decide)]; rfl

theorem before_in7 (c : Dev nD) (d : (cfg0.win 7).block.Idx → Elt F (cfg0.win 7).elt) : (dat m hw c).before 7 t0_0 d = stg m c 7 := by
  unfold Dat.before; rw [if_pos (by decide)]; rfl

theorem before_in8 (c : Dev nD) (d : (cfg0.win 8).block.Idx → Elt F (cfg0.win 8).elt) : (dat m hw c).before 8 t0_0 d = stg m c 8 := by
  unfold Dat.before; rw [if_pos (by decide)]; rfl

theorem before_in9 (c : Dev nD) (d : (cfg0.win 9).block.Idx → Elt F (cfg0.win 9).elt) : (dat m hw c).before 9 t0_0 d = stg m c 9 := by
  unfold Dat.before; rw [if_pos (by decide)]; rfl

attribute [local irreducible] seq2 hiddens cells

set_option maxHeartbeats 8000000 in
set_option backward.isDefEq.respectTransparency.types false in
/-- The body under the pipeline. -/
theorem body_obligation (c : Dev nD) : BodyObligation (dat m hw c) (defs₀ (F := F)) 𝒱₀ () Set.univ := fun t => by
  obtain rfl := fin_N0 t
  rw [bigSep_W0, bigSep_W0]
  simp only [owns_whole_eq]
  rw [show (dat m hw c).Φ t0_0.castSucc = Pipeline.ΦD osem spec0 held (V m) c from rfl,
    show (dat m hw c).Φ t0_0.succ = Pipeline.ΦD osem spec0 held (V m) c from rfl,
    show (dat m hw c).owesAt () t0_0.succ = (dat m hw c).owesAt () t0_0.castSucc from rfl]
  rw [Pipeline.ΦD_eq, scopedRest0_eq]
  unfold Pipeline.ownSems0
  simp only [Finset.univ_unique, BI.bigSep_singleton]
  unfold Pipeline.Dat.owesAt Pipeline.owesWithin
  iintro ⟨⟨⟨⟨%fv, HD⟩, ⟨%f15, H15⟩, ⟨%f16, H16⟩, ⟨%f17, H17⟩⟩, HR, Hc, HT⟩, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, -, H10⟩, ⟨%d11, %f11, -, H11⟩, ⟨%d12, %f12, -, H12⟩⟩
  rw [before_in0] at hf0
  rw [before_in1] at hf1
  rw [before_in2] at hf2
  rw [before_in3] at hf3
  rw [before_in4] at hf4
  rw [before_in5] at hf5
  rw [before_in6] at hf6
  rw [before_in7] at hf7
  rw [before_in8] at hf8
  rw [before_in9] at hf9
  subst hf0 hf1 hf2 hf3 hf4 hf5 hf6 hf7 hf8 hf9
  have hrun := run (F := F) c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0) (stage0_7 0) (hstage0_7 0) (stage0_8 0) (hstage0_8 0) (stage0_9 0) (hstage0_9 0) (stage0_10 0) (hstage0_10 0) (stage0_11 0) (hstage0_11 0) (stage0_12 0) (hstage0_12 0) (Memref.whole cc0_scratch1) (Memref.isWhole_whole _) (Memref.whole cc0_scratch2) (Memref.isWhole_whole _) (Memref.whole cc0_scratch3) (Memref.isWhole_whole _)
    (stg m c 0) (hw c) (V m c main_arg1) fv (stg m c 1) (stg m c 2) (stg m c 3) (stg m c 4) (stg m c 5) (stg m c 6) (stg m c 7) (stg m c 8) (stg m c 9) f10 f11 f12 f15 f16 f17 W
  simp only [(hstage0_1 0).set_eq_univ, (hstage0_2 0).set_eq_univ, (hstage0_3 0).set_eq_univ, (hstage0_4 0).set_eq_univ, (hstage0_5 0).set_eq_univ, (hstage0_6 0).set_eq_univ, (hstage0_7 0).set_eq_univ, (hstage0_8 0).set_eq_univ, (hstage0_9 0).set_eq_univ, (hstage0_10 0).set_eq_univ, (hstage0_11 0).set_eq_univ, (hstage0_12 0).set_eq_univ, (Memref.isWhole_whole cc0_scratch1).set_eq_univ, (Memref.isWhole_whole cc0_scratch2).set_eq_univ, (Memref.isWhole_whole cc0_scratch3).set_eq_univ] at hrun
  iapply (hrun _)
  isplitl [H0]; · iexact H0
  isplitl [HT]; · iexact HT
  isplitl [HD]; · iexact HD
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H15]; · iexact H15
  isplitl [H16]; · iexact H16
  isplitl [H17]; · iexact H17
  isplitl [Hc]; · iexact Hc
  isplitl [HO]; · iexact HO
  iintro ⟨H0, HT, H1, H2, H3, H4, H5, H6, H7, H8, H9, Hc, ⟨%gD, HD⟩, ⟨%g15, H15⟩, ⟨%g16, H16⟩, ⟨%g17, H17⟩, ⟨%g10, H10, %hg10⟩, ⟨%g11, H11, %hg11⟩, ⟨%g12, H12, %hg12⟩, ⟨%W2, HO⟩⟩
  isplitl [HD H15 H16 H17 HR Hc HT]
  · isplitl [HD H15 H16 H17]
    · isplitl [HD]; · iexists _; iexact HD
      isplitl [H15]; · iexists _; iexact H15
      isplitl [H16]; · iexists _; iexact H16
      iexists _; iexact H17
    isplitl [HR]; · iexact HR
    isplitl [Hc]; · iexact Hc
    iexact HT
  isplitl [HO]
  · iexists _; isplitr; swap; (· iexact HO); ipureintro; exact fun _ _ => Or.inl trivial
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  isplitl [H5]; · iexists _; isplitr; swap; (· iexact H5); ipureintro; dsimp only [dat]
  isplitl [H6]; · iexists _; isplitr; swap; (· iexact H6); ipureintro; dsimp only [dat]
  isplitl [H7]; · iexists _; isplitr; swap; (· iexact H7); ipureintro; dsimp only [dat]
  isplitl [H8]; · iexists _; isplitr; swap; (· iexact H8); ipureintro; dsimp only [dat]
  isplitl [H9]; · iexists _; isplitr; swap; (· iexact H9); ipureintro; dsimp only [dat]
  isplitl [H10]; · iexists _; isplitr; swap; (· iexact H10); ipureintro; dsimp only [dat]; exact hg10
  isplitl [H11]; · iexists _; isplitr; swap; (· iexact H11); ipureintro; dsimp only [dat]; exact hg11
  iexists _; isplitr; swap; (· iexact H12); ipureintro; dsimp only [dat]; exact hg12

theorem share_dat (c : Dev nD) (w : Fin 13) : (dat m hw c).share w = fullShare := (dat m hw c).share_full (fun _ => rfl) w

set_option maxHeartbeats 800000 in
theorem hmain' : Pipeline.HMainK (Ix := Unit) (Name := ℕ) (U := UD sig nD τ) (Lvl := ℕ) cfgs 0 defs₀ 𝒱₀ m (main (F := F)) (V m)
    (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The proof data of the program's one call. -/
abbrev dats (p : Fin 1) (c : Dev nD) : Dat τ (Elt F) Unit ℕ (UD sig nD τ) ℕ (cfgs p) c := dat m hw c

/-- The program's run: every buffer as the call and the lines after it leave it, and every semaphore at zero. -/
theorem run_main : θ_run defs (onTc (τ := τ) (main (F := F))) ⟨m, fun _ => 0, ρ⟩
    (fun r => Pipeline.FramePost cfgs (dats m hw) 0 (Pipeline.afterTail₀ cfgs (dats m hw) 0 (V0 m) [hostOps1]) r ∧ r.2.sem = fun _ => 0) :=
  Pipeline.θ_run_frame_dma_around (Q' := _) cfgs (dats m hw) 0 launch0 osem defs₀ 𝒱₀ ownFacts held held_rest m ρ main
    (fun c => (body_obligation m hw c).loose) (share_dat m hw) (fun _ _ => rfl) (V0 m) [hostOps1] Tail.tail_sub sfx_fresh sfx_keeps
    (hmain' m) (fun _ _ => rfl) (fun _ => BIBase.Entails.rfl) (fun _ => BIBase.Entails.rfl) (hQ' := fun _ h => h)

end Cert.EncoderIdeal.Launched
-- ==== Proof.EncoderFrame.lean ====
/-
  What the encoder call is given and what it leaves: every input's block is its whole array, the arrays are the host
  operations' values of the arguments, the call's result arrays end with the blocks the body writes, and the lines after
  the call join the two directions' final vectors.
-/
module

public import proofs.«01_k».proof.Proof.EncoderRegion
public import Idealize.ShloMosaic.Lib.Pipeline.Value
public import Idealize.ShloMosaic.Lib.Pipeline.ValueKit.Geometry
public import Idealize.ShloMosaic.Lib.Pointwise

@[expose] public section

set_option maxRecDepth 16384

noncomputable section

namespace Cert.EncoderIdeal.Launched

open Cert.EncoderIdeal Cert.EncoderIdeal.Gen Cert.EncoderIdeal.EncoderGather Cert.EncoderIdeal.EncoderRun
open Idealize.ShloMosaic Idealize.ShloMosaic.TcCoe Idealize.SL.Sem
open Idealize.ShloMosaic.Pipeline (Dat UD)

variable {F : FTy → Type} [FloatOps F]

variable (m : (ℓ : Loc nD τ sig) → Buf (Elt F) ℓ) (ρ : Dev nD → PrngReg)

/-! ## The blocks -/

theorem stg0 (c : Dev nD) : stg m c 0 = V m c main_v1 := by
  funext y
  refine congrArg (V m c main_v1) (funext fun a => Fin.ext ?_)
  fin_cases a
  · have h : win0_0.index t0_0 0 = 0 := by decide
    show win0_0.index t0_0 0 * 4096 + 1 * (y 0).val = (y 0).val
    rw [h]; omega
theorem stg1 (c : Dev nD) : stg m c 1 = V m c main_v9 := by
  funext y
  refine congrArg (V m c main_v9) (funext fun a => Fin.ext ?_)
  fin_cases a
  · have h : win0_1.index t0_0 0 = 0 := by decide
    show win0_1.index t0_0 0 * 256 + 1 * (y 0).val = (y 0).val
    rw [h]; omega
  · have h : win0_1.index t0_0 1 = 0 := by decide
    show win0_1.index t0_0 1 * 2048 + 1 * (y 1).val = (y 1).val
    rw [h]; omega
theorem stg2 (c : Dev nD) : stg m c 2 = V m c main_v19 := by
  funext y
  refine congrArg (V m c main_v19) (funext fun a => Fin.ext ?_)
  fin_cases a
  · have h : win0_2.index t0_0 0 = 0 := by decide
    show win0_2.index t0_0 0 * 2 + 1 * (y 0).val = (y 0).val
    rw [h]; omega
  · have h : win0_2.index t0_0 1 = 0 := by decide
    show win0_2.index t0_0 1 * 256 + 1 * (y 1).val = (y 1).val
    rw [h]; omega
  · have h : win0_2.index t0_0 2 = 0 := by decide
    show win0_2.index t0_0 2 * 1024 + 1 * (y 2).val = (y 2).val
    rw [h]; omega
theorem stg3 (c : Dev nD) : stg m c 3 = V m c main_v25 := by
  funext y
  refine congrArg (V m c main_v25) (funext fun a => Fin.ext ?_)
  fin_cases a
  · have h : win0_3.index t0_0 0 = 0 := by decide
    show win0_3.index t0_0 0 * 1 + 1 * (y 0).val = (y 0).val
    rw [h]; omega
  · have h : win0_3.index t0_0 1 = 0 := by decide
    show win0_3.index t0_0 1 * 2048 + 1 * (y 1).val = (y 1).val
    rw [h]; omega
theorem stg4 (c : Dev nD) : stg m c 4 = V m c main_v39 := by
  funext y
  refine congrArg (V m c main_v39) (funext fun a => Fin.ext ?_)
  fin_cases a
  · have h : win0_4.index t0_0 0 = 0 := by decide
    show win0_4.index t0_0 0 * 512 + 1 * (y 0).val = (y 0).val
    rw [h]; omega
  · have h : win0_4.index t0_0 1 = 0 := by decide
    show win0_4.index t0_0 1 * 2048 + 1 * (y 1).val = (y 1).val
    rw [h]; omega
theorem stg5 (c : Dev nD) : stg m c 5 = V m c main_v49 := by
  funext y
  refine congrArg (V m c main_v49) (funext fun a => Fin.ext ?_)
  fin_cases a
  · have h : win0_5.index t0_0 0 = 0 := by decide
    show win0_5.index t0_0 0 * 2 + 1 * (y 0).val = (y 0).val
    rw [h]; omega
  · have h : win0_5.index t0_0 1 = 0 := by decide
    show win0_5.index t0_0 1 * 256 + 1 * (y 1).val = (y 1).val
    rw [h]; omega
  · have h : win0_5.index t0_0 2 = 0 := by decide
    show win0_5.index t0_0 2 * 1024 + 1 * (y 2).val = (y 2).val
    rw [h]; omega
theorem stg6 (c : Dev nD) : stg m c 6 = V m c main_v55 := by
  funext y
  refine congrArg (V m c main_v55) (funext fun a => Fin.ext ?_)
  fin_cases a
  · have h : win0_6.index t0_0 0 = 0 := by decide
    show win0_6.index t0_0 0 * 1 + 1 * (y 0).val = (y 0).val
    rw [h]; omega
  · have h : win0_6.index t0_0 1 = 0 := by decide
    show win0_6.index t0_0 1 * 2048 + 1 * (y 1).val = (y 1).val
    rw [h]; omega
theorem stg7 (c : Dev nD) : stg m c 7 = V m c main_v69 := by
  funext y
  refine congrArg (V m c main_v69) (funext fun a => Fin.ext ?_)
  fin_cases a
  · have h : win0_7.index t0_0 0 = 0 := by decide
    show win0_7.index t0_0 0 * 512 + 1 * (y 0).val = (y 0).val
    rw [h]; omega
  · have h : win0_7.index t0_0 1 = 0 := by decide
    show win0_7.index t0_0 1 * 2048 + 1 * (y 1).val = (y 1).val
    rw [h]; omega
theorem stg8 (c : Dev nD) : stg m c 8 = V m c main_v79 := by
  funext y
  refine congrArg (V m c main_v79) (funext fun a => Fin.ext ?_)
  fin_cases a
  · have h : win0_8.index t0_0 0 = 0 := by decide
    show win0_8.index t0_0 0 * 2 + 1 * (y 0).val = (y 0).val
    rw [h]; omega
  · have h : win0_8.index t0_0 1 = 0 := by decide
    show win0_8.index t0_0 1 * 256 + 1 * (y 1).val = (y 1).val
    rw [h]; omega
  · have h : win0_8.index t0_0 2 = 0 := by decide
    show win0_8.index t0_0 2 * 1024 + 1 * (y 2).val = (y 2).val
    rw [h]; omega
theorem stg9 (c : Dev nD) : stg m c 9 = V m c main_v85 := by
  funext y
  refine congrArg (V m c main_v85) (funext fun a => Fin.ext ?_)
  fin_cases a
  · have h : win0_9.index t0_0 0 = 0 := by decide
    show win0_9.index t0_0 0 * 1 + 1 * (y 0).val = (y 0).val
    rw [h]; omega
  · have h : win0_9.index t0_0 1 = 0 := by decide
    show win0_9.index t0_0 1 * 2048 + 1 * (y 1).val = (y 1).val
    rw [h]; omega

/-! ## The host operations' values -/

abbrev A0 (c : Dev nD) : IVec S32x128 32 := m ((c.tc : Thread nD τ).loc main_arg0)
abbrev A1 (c : Dev nD) : FVec F S32000x256 .f32 := m ((c.tc : Thread nD τ).loc main_arg1)
abbrev A2 (c : Dev nD) : FVec F S2x1024x256 .f32 := m ((c.tc : Thread nD τ).loc main_arg2)
abbrev A3 (c : Dev nD) : FVec F S2x1024x256 .f32 := m ((c.tc : Thread nD τ).loc main_arg3)
abbrev A4 (c : Dev nD) : FVec F S2x1024 .f32 := m ((c.tc : Thread nD τ).loc main_arg4)
abbrev A5 (c : Dev nD) : FVec F S2x2x1024x512 .f32 := m ((c.tc : Thread nD τ).loc main_arg5)
abbrev A6 (c : Dev nD) : FVec F S2x2x1024x256 .f32 := m ((c.tc : Thread nD τ).loc main_arg6)
abbrev A7 (c : Dev nD) : FVec F S2x2x1024 .f32 := m ((c.tc : Thread nD τ).loc main_arg7)

/-- A layer's weights out of the stack of two. -/
abbrev inL (l : Fin 2) (W : FVec F S2x2x1024x512 .f32) : FVec F S2x1024x512 .f32 := match l with
  | 0 => shapeCast S2x1024x512 (extractStridedSlice S1x2x1024x512 ![0, 0, 0, 0] W slices_S2x2x1024x512_S1x2x1024x512_0_0_0_0) shapeCasts_S1x2x1024x512_S2x1024x512
  | 1 => shapeCast S2x1024x512 (extractStridedSlice S1x2x1024x512 ![1, 0, 0, 0] W slices_S2x2x1024x512_S1x2x1024x512_1_0_0_0) shapeCasts_S1x2x1024x512_S2x1024x512
abbrev recL (l : Fin 2) (W : FVec F S2x2x1024x256 .f32) : FVec F S2x1024x256 .f32 := match l with
  | 0 => shapeCast S2x1024x256 (extractStridedSlice S1x2x1024x256 ![0, 0, 0, 0] W slices_S2x2x1024x256_S1x2x1024x256_0_0_0_0) shapeCasts_S1x2x1024x256_S2x1024x256
  | 1 => shapeCast S2x1024x256 (extractStridedSlice S1x2x1024x256 ![1, 0, 0, 0] W slices_S2x2x1024x256_S1x2x1024x256_1_0_0_0) shapeCasts_S1x2x1024x256_S2x1024x256
abbrev biasL (l : Fin 2) (W : FVec F S2x2x1024 .f32) : FVec F S2x1024 .f32 := match l with
  | 0 => shapeCast S2x1024 (extractStridedSlice S1x2x1024 ![0, 0, 0] W slices_S2x2x1024_S1x2x1024_0_0_0) shapeCasts_S1x2x1024_S2x1024
  | 1 => shapeCast S2x1024 (extractStridedSlice S1x2x1024 ![1, 0, 0] W slices_S2x2x1024_S1x2x1024_1_0_0) shapeCasts_S1x2x1024_S2x1024

/-- The two directions' weights transposed and joined, as the call takes them. -/
def in256 (W : FVec F S2x1024x256 .f32) : FVec F S256x2048 .bf16 := truncf .bf16 (concatenate S256x2048 1
  [⟨S256x1024, transpose S256x1024 [1, 0] (shapeCast S1024x256 (extractStridedSlice S1x1024x256 ![0, 0, 0] W slices_S2x1024x256_S1x1024x256_0_0_0) shapeCasts_S1x1024x256_S1024x256) transposes_S1024x256_S256x1024_1_0⟩,
   ⟨S256x1024, transpose S256x1024 [1, 0] (shapeCast S1024x256 (extractStridedSlice S1x1024x256 ![1, 0, 0] W slices_S2x1024x256_S1x1024x256_1_0_0) shapeCasts_S1x1024x256_S1024x256) transposes_S1024x256_S256x1024_1_0⟩]
  concatenates_S256x1024_S256x1024_S256x2048_d1) bitsLt_bf16_f32
def in512 (W : FVec F S2x1024x512 .f32) : FVec F S512x2048 .bf16 := truncf .bf16 (concatenate S512x2048 1
  [⟨S512x1024, transpose S512x1024 [1, 0] (shapeCast S1024x512 (extractStridedSlice S1x1024x512 ![0, 0, 0] W slices_S2x1024x512_S1x1024x512_0_0_0) shapeCasts_S1x1024x512_S1024x512) transposes_S1024x512_S512x1024_1_0⟩,
   ⟨S512x1024, transpose S512x1024 [1, 0] (shapeCast S1024x512 (extractStridedSlice S1x1024x512 ![1, 0, 0] W slices_S2x1024x512_S1x1024x512_1_0_0) shapeCasts_S1x1024x512_S1024x512) transposes_S1024x512_S512x1024_1_0⟩]
  concatenates_S512x1024_S512x1024_S512x2048_d1) bitsLt_bf16_f32
def rec256 (W : FVec F S2x1024x256 .f32) : FVec F S2x256x1024 .bf16 := truncf .bf16 (concatenate S2x256x1024 0
  [⟨S1x256x1024, broadcastInDim S1x256x1024 ![1, 2] bcast_S256x1024_S1x256x1024_1_2 (transpose S256x1024 [1, 0] (shapeCast S1024x256 (extractStridedSlice S1x1024x256 ![0, 0, 0] W slices_S2x1024x256_S1x1024x256_0_0_0) shapeCasts_S1x1024x256_S1024x256) transposes_S1024x256_S256x1024_1_0)⟩,
   ⟨S1x256x1024, broadcastInDim S1x256x1024 ![1, 2] bcast_S256x1024_S1x256x1024_1_2 (transpose S256x1024 [1, 0] (shapeCast S1024x256 (extractStridedSlice S1x1024x256 ![1, 0, 0] W slices_S2x1024x256_S1x1024x256_1_0_0) shapeCasts_S1x1024x256_S1024x256) transposes_S1024x256_S256x1024_1_0)⟩]
  concatenates_S1x256x1024_S1x256x1024_S2x256x1024_d0) bitsLt_bf16_f32
def biasR (b : FVec F S2x1024 .f32) : FVec F S1x2048 .f32 := shapeCast S1x2048 (concatenate S2048 0
  [⟨S1024, shapeCast S1024 (extractStridedSlice S1x1024 ![0, 0] b slices_S2x1024_S1x1024_0_0) shapeCasts_S1x1024_S1024⟩,
   ⟨S1024, shapeCast S1024 (extractStridedSlice S1x1024 ![1, 0] b slices_S2x1024_S1x1024_1_0) shapeCasts_S1x1024_S1024⟩]
  concatenates_S1024_S1024_S2048_d0) shapeCasts_S2048_S1x2048

/-- The weights of the three layers, of the arguments. -/
def args (c : Dev nD) : Weights F :=
  ⟨in256 (A2 m c), rec256 (A3 m c), biasR (A4 m c), in512 (inL 0 (A5 m c)), rec256 (recL 0 (A6 m c)), biasR (biasL 0 (A7 m c)),
   in512 (inL 1 (A5 m c)), rec256 (recL 1 (A6 m c)), biasR (biasL 1 (A7 m c))⟩

abbrev ids (c : Dev nD) : IVec S4096 32 := shapeCast S4096 (transpose S128x32 [1, 0] (A0 m c) transposes_S32x128_S128x32_1_0) shapeCasts_S128x32_S4096
theorem V_ids (c : Dev nD) : V m c main_v1 = ids m c := by
  show StableHlo.after hostOps0 (fun b => m (c, b)) main_v1 = _
  after_results <;> rfl

theorem V_wi0 (c : Dev nD) : V m c main_v9 = (args m c).wi0 := by
  show StableHlo.after hostOps0 (fun b => m (c, b)) main_v9 = _
  after_results <;> rfl
theorem V_wr0 (c : Dev nD) : V m c main_v19 = (args m c).wr0 := by
  show StableHlo.after hostOps0 (fun b => m (c, b)) main_v19 = _
  after_results <;> rfl
theorem V_b0 (c : Dev nD) : V m c main_v25 = (args m c).b0 := by
  show StableHlo.after hostOps0 (fun b => m (c, b)) main_v25 = _
  after_results <;> rfl
theorem V_wi1 (c : Dev nD) : V m c main_v39 = (args m c).wi1 := by
  show StableHlo.after hostOps0 (fun b => m (c, b)) main_v39 = _
  after_results <;> rfl
theorem V_wr1 (c : Dev nD) : V m c main_v49 = (args m c).wr1 := by
  show StableHlo.after hostOps0 (fun b => m (c, b)) main_v49 = _
  after_results <;> rfl
theorem V_b1 (c : Dev nD) : V m c main_v55 = (args m c).b1 := by
  show StableHlo.after hostOps0 (fun b => m (c, b)) main_v55 = _
  after_results <;> rfl
theorem V_wi2 (c : Dev nD) : V m c main_v69 = (args m c).wi2 := by
  show StableHlo.after hostOps0 (fun b => m (c, b)) main_v69 = _
  after_results <;> rfl
theorem V_wr2 (c : Dev nD) : V m c main_v79 = (args m c).wr2 := by
  show StableHlo.after hostOps0 (fun b => m (c, b)) main_v79 = _
  after_results <;> rfl
theorem V_b2 (c : Dev nD) : V m c main_v85 = (args m c).b2 := by
  show StableHlo.after hostOps0 (fun b => m (c, b)) main_v85 = _
  after_results <;> rfl

theorem weights_eq (c : Dev nD) : weights m c = args m c := by
  unfold weights
  rw [stg1, stg2, stg3, stg4, stg5, stg6, stg7, stg8, stg9, V_wi0, V_wr0, V_b0, V_wi1, V_wr1, V_b1, V_wi2, V_wr2, V_b2]

/-! ## The tokens -/

theorem off1_at : ∀ t : Fin k0_t1_loop.trips, k0_off1 t = ![t.val] := by decide +kernel

theorem word_at (c : Dev nD) (t : Fin k0_t1_loop.trips) :
    word (F := F) (stage0_0 0) (c := c) (stg m c 0) t = ids m c (ix1 ⟨t.val, t.isLt.trans_eq trips1⟩) := by
  rw [stg0, V_ids]
  refine congrArg (ids m c) (funext fun a => Fin.ext ?_)
  fin_cases a
  have hq : k0_off1 t 0 = t.val := congrFun (off1_at t) 0
  show k0_off1 t 0 + 1 * 0 = t.val
  omega

theorem ids_at (c : Dev nD) (k : Fin 128) (b : Fin 32) :
    ids m c (ix1 ⟨k.val * 32 + b.val, by omega⟩) = A0 m c (ix2 b k) := by
  unfold ids
  generalize A0 m c = y
  pointwise

theorem named_of (h : ∀ c i, (A0 m c i).toNat < 32000) : Named m := by
  intro c t
  have ht := t.isLt.trans_eq trips1
  rw [word_at]
  have e : (ix1 ⟨t.val, ht⟩ : S4096.Idx) = ix1 ⟨(⟨t.val / 32, by omega⟩ : Fin 128).val * 32 + (⟨t.val % 32, by omega⟩ : Fin 32).val, by
      show t.val / 32 * 32 + t.val % 32 < 4096; omega⟩ :=
    congrArg ix1 (Fin.ext (by show t.val = t.val / 32 * 32 + t.val % 32; omega))
  rw [e, ids_at]
  exact h c _

variable [∀ e, Nonempty (Elt F e)] (hw : Named m)

/-! ## The results -/

theorem whole10 (i : S4096x512.Idx) : ((cfg0.win 10).blk t0_0).view.emb i = i := by
  funext a
  refine Fin.ext ?_
  fin_cases a
  · have h : win0_10.index t0_0 0 = 0 := by decide
    show win0_10.index t0_0 0 * 4096 + 1 * (i 0).val = (i 0).val
    rw [h]; omega
  · have h : win0_10.index t0_0 1 = 0 := by decide
    show win0_10.index t0_0 1 * 512 + 1 * (i 1).val = (i 1).val
    rw [h]; omega

theorem final10 (c : Dev nD) : (dats m hw 0 c).arrAt 10 cfg0.N = seq2 (rows m hw c) (args m c) := by
  rw [← weights_eq]
  refine (dats m hw 0 c).arrAt_eq_of_covers 10 _ (by decide +kernel) (fun t _ y => ?_)
  obtain rfl := fin_N0 t
  exact (congrArg (seq2 (rows m hw c) (weights m c)) (whole10 y)).symm

theorem whole11 (i : S3x2x32x256.Idx) : ((cfg0.win 11).blk t0_0).view.emb i = i := by
  funext a
  refine Fin.ext ?_
  fin_cases a
  · have h : win0_11.index t0_0 0 = 0 := by decide
    show win0_11.index t0_0 0 * 3 + 1 * (i 0).val = (i 0).val
    rw [h]; omega
  · have h : win0_11.index t0_0 1 = 0 := by decide
    show win0_11.index t0_0 1 * 2 + 1 * (i 1).val = (i 1).val
    rw [h]; omega
  · have h : win0_11.index t0_0 2 = 0 := by decide
    show win0_11.index t0_0 2 * 32 + 1 * (i 2).val = (i 2).val
    rw [h]; omega
  · have h : win0_11.index t0_0 3 = 0 := by decide
    show win0_11.index t0_0 3 * 256 + 1 * (i 3).val = (i 3).val
    rw [h]; omega

theorem final11 (c : Dev nD) : (dats m hw 0 c).arrAt 11 cfg0.N = hiddens (rows m hw c) (args m c) := by
  rw [← weights_eq]
  refine (dats m hw 0 c).arrAt_eq_of_covers 11 _ (by decide +kernel) (fun t _ y => ?_)
  obtain rfl := fin_N0 t
  exact (congrArg (hiddens (rows m hw c) (weights m c)) (whole11 y)).symm

theorem whole12 (i : S3x2x32x256.Idx) : ((cfg0.win 12).blk t0_0).view.emb i = i := by
  funext a
  refine Fin.ext ?_
  fin_cases a
  · have h : win0_12.index t0_0 0 = 0 := by decide
    show win0_12.index t0_0 0 * 3 + 1 * (i 0).val = (i 0).val
    rw [h]; omega
  · have h : win0_12.index t0_0 1 = 0 := by decide
    show win0_12.index t0_0 1 * 2 + 1 * (i 1).val = (i 1).val
    rw [h]; omega
  · have h : win0_12.index t0_0 2 = 0 := by decide
    show win0_12.index t0_0 2 * 32 + 1 * (i 2).val = (i 2).val
    rw [h]; omega
  · have h : win0_12.index t0_0 3 = 0 := by decide
    show win0_12.index t0_0 3 * 256 + 1 * (i 3).val = (i 3).val
    rw [h]; omega

theorem final12 (c : Dev nD) : (dats m hw 0 c).arrAt 12 cfg0.N = cells (rows m hw c) (args m c) := by
  rw [← weights_eq]
  refine (dats m hw 0 c).arrAt_eq_of_covers 12 _ (by decide +kernel) (fun t _ y => ?_)
  obtain rfl := fin_N0 t
  exact (congrArg (cells (rows m hw c) (weights m c)) (whole12 y)).symm

/-- The two directions' vectors of every layer joined. -/
def joined (H : FVec F S3x2x32x256 .f32) : FVec F S3x32x512 .f32 := concatenate S3x32x512 0 [
  ⟨S1x32x512, broadcastInDim S1x32x512 ![1, 2] bcast_S32x512_S1x32x512_1_2 (concatenate S32x512 1 [⟨S32x256, shapeCast S32x256 (extractStridedSlice S1x1x32x256 ![0, 0, 0, 0] H slices_S3x2x32x256_S1x1x32x256_0_0_0_0) shapeCasts_S1x1x32x256_S32x256⟩,
    ⟨S32x256, shapeCast S32x256 (extractStridedSlice S1x1x32x256 ![0, 1, 0, 0] H slices_S3x2x32x256_S1x1x32x256_0_1_0_0) shapeCasts_S1x1x32x256_S32x256⟩] concatenates_S32x256_S32x256_S32x512_d1)⟩,
  ⟨S1x32x512, broadcastInDim S1x32x512 ![1, 2] bcast_S32x512_S1x32x512_1_2 (concatenate S32x512 1 [⟨S32x256, shapeCast S32x256 (extractStridedSlice S1x1x32x256 ![1, 0, 0, 0] H slices_S3x2x32x256_S1x1x32x256_1_0_0_0) shapeCasts_S1x1x32x256_S32x256⟩,
    ⟨S32x256, shapeCast S32x256 (extractStridedSlice S1x1x32x256 ![1, 1, 0, 0] H slices_S3x2x32x256_S1x1x32x256_1_1_0_0) shapeCasts_S1x1x32x256_S32x256⟩] concatenates_S32x256_S32x256_S32x512_d1)⟩,
  ⟨S1x32x512, broadcastInDim S1x32x512 ![1, 2] bcast_S32x512_S1x32x512_1_2 (concatenate S32x512 1 [⟨S32x256, shapeCast S32x256 (extractStridedSlice S1x1x32x256 ![2, 0, 0, 0] H slices_S3x2x32x256_S1x1x32x256_2_0_0_0) shapeCasts_S1x1x32x256_S32x256⟩,
    ⟨S32x256, shapeCast S32x256 (extractStridedSlice S1x1x32x256 ![2, 1, 0, 0] H slices_S3x2x32x256_S1x1x32x256_2_1_0_0) shapeCasts_S1x1x32x256_S32x256⟩] concatenates_S32x256_S32x256_S32x512_d1)⟩] concatenates_S1x32x512_S1x32x512_S1x32x512_S3x32x512_d0

theorem tail_h (W : Valuation τ sig (Elt F)) : StableHlo.after hostOps1 W main_v105 = joined (W main_v86_1) := by
  after_results <;> rfl

theorem tail_c (W : Valuation τ sig (Elt F)) : StableHlo.after hostOps1 W main_v124 = joined (W main_v86_2) := by
  after_results <;> rfl

/-- A buffer the tail does not write. -/
theorem tail_keeps (c : Dev nD) (b : Ref sig .tc) (hb : ∀ op ∈ (hostOps1 : List (HloOp τ sig (Elt F))), Proc.devRef .tc b ∉ op.writes)
    (hn : ∀ w, Pipeline.arrRef spec0 w ≠ b) : Pipeline.afterTail₀ cfgs (dats m hw) 0 (V0 m) [hostOps1] c b = V m c b := by
  unfold Pipeline.afterTail₀
  rw [StableHlo.after_of_forall_not_mem (b := Proc.devRef .tc b) _ _ (by simpa using hb), Pipeline.withArrays_of_ne _ c (V0 m c) _ b hn]

theorem kept0 (c : Dev nD) : Pipeline.afterTail₀ cfgs (dats m hw) 0 (V0 m) [hostOps1] c main_arg0 = m ((c.tc : Thread nD τ).loc main_arg0) := by
  refine (tail_keeps m hw c main_arg0 (List.forall_iff_forall_mem.mp ?_) (by decide)).trans (V_main_arg0 m c)
  simp only [hostOps1, List.Forall, StableHlo.unary_writes, StableHlo.binary_writes, StableHlo.reshape_writes, StableHlo.nary_writes, Finset.mem_singleton]
  repeat' apply And.intro
  all_goals exact StableHlo.devRef_ne_of_ne (by decide)
theorem kept1 (c : Dev nD) : Pipeline.afterTail₀ cfgs (dats m hw) 0 (V0 m) [hostOps1] c main_arg1 = m ((c.tc : Thread nD τ).loc main_arg1) := by
  refine (tail_keeps m hw c main_arg1 (List.forall_iff_forall_mem.mp ?_) (by decide)).trans (V_main_arg1 m c)
  simp only [hostOps1, List.Forall, StableHlo.unary_writes, StableHlo.binary_writes, StableHlo.reshape_writes, StableHlo.nary_writes, Finset.mem_singleton]
  repeat' apply And.intro
  all_goals exact StableHlo.devRef_ne_of_ne (by decide)
theorem kept2 (c : Dev nD) : Pipeline.afterTail₀ cfgs (dats m hw) 0 (V0 m) [hostOps1] c main_arg2 = m ((c.tc : Thread nD τ).loc main_arg2) := by
  refine (tail_keeps m hw c main_arg2 (List.forall_iff_forall_mem.mp ?_) (by decide)).trans (V_main_arg2 m c)
  simp only [hostOps1, List.Forall, StableHlo.unary_writes, StableHlo.binary_writes, StableHlo.reshape_writes, StableHlo.nary_writes, Finset.mem_singleton]
  repeat' apply And.intro
  all_goals exact StableHlo.devRef_ne_of_ne (by decide)
theorem kept3 (c : Dev nD) : Pipeline.afterTail₀ cfgs (dats m hw) 0 (V0 m) [hostOps1] c main_arg3 = m ((c.tc : Thread nD τ).loc main_arg3) := by
  refine (tail_keeps m hw c main_arg3 (List.forall_iff_forall_mem.mp ?_) (by decide)).trans (V_main_arg3 m c)
  simp only [hostOps1, List.Forall, StableHlo.unary_writes, StableHlo.binary_writes, StableHlo.reshape_writes, StableHlo.nary_writes, Finset.mem_singleton]
  repeat' apply And.intro
  all_goals exact StableHlo.devRef_ne_of_ne (by decide)
theorem kept4 (c : Dev nD) : Pipeline.afterTail₀ cfgs (dats m hw) 0 (V0 m) [hostOps1] c main_arg4 = m ((c.tc : Thread nD τ).loc main_arg4) := by
  refine (tail_keeps m hw c main_arg4 (List.forall_iff_forall_mem.mp ?_) (by decide)).trans (V_main_arg4 m c)
  simp only [hostOps1, List.Forall, StableHlo.unary_writes, StableHlo.binary_writes, StableHlo.reshape_writes, StableHlo.nary_writes, Finset.mem_singleton]
  repeat' apply And.intro
  all_goals exact StableHlo.devRef_ne_of_ne (by decide)
theorem kept5 (c : Dev nD) : Pipeline.afterTail₀ cfgs (dats m hw) 0 (V0 m) [hostOps1] c main_arg5 = m ((c.tc : Thread nD τ).loc main_arg5) := by
  refine (tail_keeps m hw c main_arg5 (List.forall_iff_forall_mem.mp ?_) (by decide)).trans (V_main_arg5 m c)
  simp only [hostOps1, List.Forall, StableHlo.unary_writes, StableHlo.binary_writes, StableHlo.reshape_writes, StableHlo.nary_writes, Finset.mem_singleton]
  repeat' apply And.intro
  all_goals exact StableHlo.devRef_ne_of_ne (by decide)
theorem kept6 (c : Dev nD) : Pipeline.afterTail₀ cfgs (dats m hw) 0 (V0 m) [hostOps1] c main_arg6 = m ((c.tc : Thread nD τ).loc main_arg6) := by
  refine (tail_keeps m hw c main_arg6 (List.forall_iff_forall_mem.mp ?_) (by decide)).trans (V_main_arg6 m c)
  simp only [hostOps1, List.Forall, StableHlo.unary_writes, StableHlo.binary_writes, StableHlo.reshape_writes, StableHlo.nary_writes, Finset.mem_singleton]
  repeat' apply And.intro
  all_goals exact StableHlo.devRef_ne_of_ne (by decide)
theorem kept7 (c : Dev nD) : Pipeline.afterTail₀ cfgs (dats m hw) 0 (V0 m) [hostOps1] c main_arg7 = m ((c.tc : Thread nD τ).loc main_arg7) := by
  refine (tail_keeps m hw c main_arg7 (List.forall_iff_forall_mem.mp ?_) (by decide)).trans (V_main_arg7 m c)
  simp only [hostOps1, List.Forall, StableHlo.unary_writes, StableHlo.binary_writes, StableHlo.reshape_writes, StableHlo.nary_writes, Finset.mem_singleton]
  repeat' apply And.intro
  all_goals exact StableHlo.devRef_ne_of_ne (by decide)

theorem at105 (c : Dev nD) : Pipeline.afterTail₀ cfgs (dats m hw) 0 (V0 m) [hostOps1] c main_v105 = joined (hiddens (rows m hw c) (args m c)) := by
  unfold Pipeline.afterTail₀
  refine (tail_h _).trans (congrArg joined ?_)
  exact (Pipeline.withArrays_arr spec0 launch0.win.arr_inj c (V0 m c) (fun w => (dats m hw 0 c).arrAt w cfg0.N) 11).trans (final11 m hw c)

theorem at124 (c : Dev nD) : Pipeline.afterTail₀ cfgs (dats m hw) 0 (V0 m) [hostOps1] c main_v124 = joined (cells (rows m hw c) (args m c)) := by
  unfold Pipeline.afterTail₀
  refine (tail_c _).trans (congrArg joined ?_)
  exact (Pipeline.withArrays_arr spec0 launch0.win.arr_inj c (V0 m c) (fun w => (dats m hw 0 c).arrAt w cfg0.N) 12).trans (final12 m hw c)

/-- The program's run: the results, the arguments as they were, every semaphore at zero. -/
theorem run_args : θ_run defs (onTc (τ := τ) (main (F := F))) ⟨m, fun _ => 0, ρ⟩ (fun r => (∀ c : Dev nD,
      r.2.mem ((c.tc : Thread nD τ).loc main_v86_0) = seq2 (rows m hw c) (args m c)
      ∧ r.2.mem ((c.tc : Thread nD τ).loc main_v105) = joined (hiddens (rows m hw c) (args m c))
      ∧ r.2.mem ((c.tc : Thread nD τ).loc main_v124) = joined (cells (rows m hw c) (args m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).1 10).trans (final10 m hw c),
    ((h.1 c).2 main_v105 (Pipeline.mem_restRefs_of main_v105 (by decide) (by decide))).trans (at105 m hw c),
    ((h.1 c).2 main_v124 (Pipeline.mem_restRefs_of main_v124 (by decide) (by decide))).trans (at124 m hw c),
    ((h.1 c).2 main_arg0 (Pipeline.mem_restRefs_of main_arg0 (by decide) (by decide))).trans (kept0 m hw c),
    ((h.1 c).2 main_arg1 (Pipeline.mem_restRefs_of main_arg1 (by decide) (by decide))).trans (kept1 m hw c),
    ((h.1 c).2 main_arg2 (Pipeline.mem_restRefs_of main_arg2 (by decide) (by decide))).trans (kept2 m hw c),
    ((h.1 c).2 main_arg3 (Pipeline.mem_restRefs_of main_arg3 (by decide) (by decide))).trans (kept3 m hw c),
    ((h.1 c).2 main_arg4 (Pipeline.mem_restRefs_of main_arg4 (by decide) (by decide))).trans (kept4 m hw c),
    ((h.1 c).2 main_arg5 (Pipeline.mem_restRefs_of main_arg5 (by decide) (by decide))).trans (kept5 m hw c),
    ((h.1 c).2 main_arg6 (Pipeline.mem_restRefs_of main_arg6 (by decide) (by decide))).trans (kept6 m hw c),
    ((h.1 c).2 main_arg7 (Pipeline.mem_restRefs_of main_arg7 (by decide) (by decide))).trans (kept7 m hw c)⟩, h.2⟩) (run_main m ρ hw)

end Cert.EncoderIdeal.Launched
-- ==== Proof.EncoderTransfer.lean ====
/-
  The encoder call as printed is the idealized text at the device's floats: the two programs are one term, so the run of
  the one is the run of the other.
-/
module

public import proofs.«01_k».proof.Encoder
public import proofs.«01_k».proof.Proof.EncoderFrame

@[expose] public section

set_option maxRecDepth 16384

namespace Cert.Encoder.Transfer

open Idealize.ShloMosaic Idealize.SL.Sem

variable {F : FTy → Type} [FloatOps F] [h : Cert.Encoder.Facts] [h' : Cert.EncoderIdeal.Facts]

theorem body_eq : @Cert.Encoder.cc0_encoder3_bilstm F _ h = @Cert.EncoderIdeal.cc0_encoder3_bilstm F _ h' := rfl
set_option maxHeartbeats 4000000 in
theorem main_eq : @Cert.Encoder.main F _ h  = @Cert.EncoderIdeal.main F _ h' := rfl
theorem defs₀_eq : @Cert.Encoder.defs₀ F _ h  = @Cert.EncoderIdeal.defs₀ F _ h' := by
  refine congrArg (Defs.onTc (nD := Cert.Encoder.nD) (τ := Cert.Encoder.τ) (sig := Cert.Encoder.sig) (Val := Elt F) (Λ := Cert.Encoder.Λ₀)) (funext fun l => funext fun a => ?_)
  match l, a with
  | 0, (t, s) => rfl
theorem defs_eq : @Cert.Encoder.defs F _ h  = @Cert.EncoderIdeal.defs F _ h' :=
  congrArg (Pipeline.defs (Cert.Encoder.pcfgs (F := F))) defs₀_eq

/-- The run of the printed text leaves the arguments as they were and every semaphore at zero. -/
theorem run_args [∀ e, Nonempty (Elt F e)] (m : (ℓ : Loc Cert.EncoderIdeal.nD Cert.EncoderIdeal.τ Cert.EncoderIdeal.sig) → Buf (Elt F) ℓ)
    (ρ : Dev Cert.EncoderIdeal.nD → PrngReg) (hw : Cert.EncoderIdeal.Launched.Named m) :
    θ_run (@Cert.Encoder.defs F _ h) (onTc (τ := Cert.Encoder.τ) (@Cert.Encoder.main F _ h)) ⟨m, fun _ => 0, ρ⟩ (fun r => (∀ c : Dev Cert.Encoder.nD,
      r.2.mem ((c.tc : Thread Cert.Encoder.nD Cert.Encoder.τ).loc Cert.Encoder.main_arg0) = m ((c.tc : Thread Cert.Encoder.nD Cert.Encoder.τ).loc Cert.Encoder.main_arg0)
      ∧ r.2.mem ((c.tc : Thread Cert.Encoder.nD Cert.Encoder.τ).loc Cert.Encoder.main_arg1) = m ((c.tc : Thread Cert.Encoder.nD Cert.Encoder.τ).loc Cert.Encoder.main_arg1)
      ∧ r.2.mem ((c.tc : Thread Cert.Encoder.nD Cert.Encoder.τ).loc Cert.Encoder.main_arg2) = m ((c.tc : Thread Cert.Encoder.nD Cert.Encoder.τ).loc Cert.Encoder.main_arg2)
      ∧ r.2.mem ((c.tc : Thread Cert.Encoder.nD Cert.Encoder.τ).loc Cert.Encoder.main_arg3) = m ((c.tc : Thread Cert.Encoder.nD Cert.Encoder.τ).loc Cert.Encoder.main_arg3)
      ∧ r.2.mem ((c.tc : Thread Cert.Encoder.nD Cert.Encoder.τ).loc Cert.Encoder.main_arg4) = m ((c.tc : Thread Cert.Encoder.nD Cert.Encoder.τ).loc Cert.Encoder.main_arg4)
      ∧ r.2.mem ((c.tc : Thread Cert.Encoder.nD Cert.Encoder.τ).loc Cert.Encoder.main_arg5) = m ((c.tc : Thread Cert.Encoder.nD Cert.Encoder.τ).loc Cert.Encoder.main_arg5)
      ∧ r.2.mem ((c.tc : Thread Cert.Encoder.nD Cert.Encoder.τ).loc Cert.Encoder.main_arg6) = m ((c.tc : Thread Cert.Encoder.nD Cert.Encoder.τ).loc Cert.Encoder.main_arg6)
      ∧ r.2.mem ((c.tc : Thread Cert.Encoder.nD Cert.Encoder.τ).loc Cert.Encoder.main_arg7) = m ((c.tc : Thread Cert.Encoder.nD Cert.Encoder.τ).loc Cert.Encoder.main_arg7))
      ∧ r.2.sem = fun _ => 0) := by
  rw [defs_eq (h' := Cert.EncoderIdeal.Gen.facts), main_eq (h' := Cert.EncoderIdeal.Gen.facts)]
  exact (θ_run _ _ _).mono (fun _ h => ⟨fun c => (h.1 c).2.2.2, h.2⟩) (Cert.EncoderIdeal.Launched.run_args m ρ hw)

end Cert.Encoder.Transfer
-- ==== Proof.EncoderReference.lean ====
/-
  The reference of the encoder: three loops over the hundred and twenty-eight steps, on the host. Its operations as lists, and its
  run: every buffer ends at what the lists leave, each loop’s lists a hundred and twenty-eight times round.
-/
module

public import proofs.«01_k».proof.Proof.Gen.EncoderReferenceIdeal
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.EncoderReferenceIdeal.Run

open Cert.EncoderReferenceIdeal Cert.EncoderReferenceIdeal.Gen
open Idealize.ShloMosaic Idealize.ShloMosaic.TcCoe Idealize.ShloMosaic.StableHlo
open Idealize.ShloMosaic.Pipeline (CSeg Ticket ucRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- An array of floats of a shape, and one of words. -/
abbrev A (F : FTy → Type) (S : Shape) : Type := (⟨S, .f32⟩ : BufTy).Contents (Elt F)
abbrev I (F : FTy → Type) (S : Shape) : Type := (⟨S, .i32⟩ : BufTy).Contents (Elt F)

/-! ## The operations, as the program runs them -/

/-- Before the first loop. -/
abbrev pre0 : List (HloOp τ sig (Elt F)) :=
  [ nullary main_c (constantI S_ 32 0#32),
    unary main_c main_v0 (broadcastInDim S32x128 ![] bcast_S_S32x128 : I F S_ → I F S32x128),
    binary main_arg0 main_v0 main_v1 (cmpi .slt : I F S32x128 → I F S32x128 → (⟨S32x128, .i1⟩ : BufTy).Contents (Elt F)),
    nullary main_c_0 (constantI S_ 32 32000#32),
    unary main_c_0 main_v2 (broadcastInDim S32x128 ![] bcast_S_S32x128 : I F S_ → I F S32x128),
    binary main_arg0 main_v2 main_v3 (addi : I F S32x128 → I F S32x128 → I F S32x128),
    ternary main_v1 main_v3 main_arg0 main_v4 (select : (⟨S32x128, .i1⟩ : BufTy).Contents (Elt F) → I F S32x128 → I F S32x128 → I F S32x128),
    unary main_v4 main_v5 (broadcastInDim S32x128x1 ![0, 1] bcast_S32x128_S32x128x1_0_1 : I F S32x128 → I F S32x128x1),
    binary main_arg1 main_v5 main_v6 ((fun x i => Host.gather gather_S32000x256_S32x128x1_S32x128x256_2_0_n_n_0_2_1256 x i) : A F S32000x256 → I F S32x128x1 → A F S32x128x256),
    unary main_v6 main_v7 ((transpose S128x32x256 [1, 0, 2] · transposes_S32x128x256_S128x32x256_1_0_2) : A F S32x128x256 → A F S128x32x256),
    nullary main_cst (constant S_ .f32 0x00000000#32),
    unary main_cst main_v8 (broadcastInDim S2x32x256 ![] bcast_S_S2x32x256 : A F S_ → A F S2x32x256),
    unary main_v7 main_v9 (Host.reverse [0] : A F S128x32x256 → A F S128x32x256),
    unary main_v7 main_v10 (broadcastInDim S128x1x32x256 ![0, 2, 3] bcast_S128x32x256_S128x1x32x256_0_2_3 : A F S128x32x256 → A F S128x1x32x256),
    unary main_v9 main_v11 (broadcastInDim S128x1x32x256 ![0, 2, 3] bcast_S128x32x256_S128x1x32x256_0_2_3 : A F S128x32x256 → A F S128x1x32x256),
    binary main_v10 main_v11 main_v12 ((fun a b => concatenate S128x2x32x256 1 [⟨S128x1x32x256, a⟩, ⟨S128x1x32x256, b⟩] concatenates_S128x1x32x256_S128x1x32x256_S128x2x32x256_d1) : A F S128x1x32x256 → A F S128x1x32x256 → A F S128x2x32x256),
    nullary main_cst_1 (constant S_ .f32 0x00000000#32),
    unary main_cst_1 main_v13 (broadcastInDim S128x2x32x256 ![] bcast_S_S128x2x32x256 : A F S_ → A F S128x2x32x256),
    nullary main_c_2 (constantI S_ 32 0#32),
    unary main_v12 main_v14_0 id,
    unary main_arg2 main_v14_1 id,
    unary main_arg3 main_v14_2 id,
    unary main_arg4 main_v14_3 id,
    unary main_c_2 main_v14_4 id,
    unary main_v8 main_v14_5 id,
    unary main_v8 main_v14_6 id,
    unary main_v13 main_v14_7 id ]

/-- Between the first loop and the second. -/
abbrev pre1 : List (HloOp τ sig (Elt F)) :=
  [ unary main_v14_7 main_v15 ((extractStridedSlice S128x1x32x256 ![0, 0, 0, 0] · slices_S128x2x32x256_S128x1x32x256_0_0_0_0) : A F S128x2x32x256 → A F S128x1x32x256),
    reshape main_v15 main_v16 (rfl : (.f32 : EltTy) = .f32) shapeCasts_S128x1x32x256_S128x32x256,
    unary main_v14_7 main_v17 ((extractStridedSlice S128x1x32x256 ![0, 1, 0, 0] · slices_S128x2x32x256_S128x1x32x256_0_1_0_0) : A F S128x2x32x256 → A F S128x1x32x256),
    unary main_v17 main_v18 (Host.reverse [0] : A F S128x1x32x256 → A F S128x1x32x256),
    reshape main_v18 main_v19 (rfl : (.f32 : EltTy) = .f32) shapeCasts_S128x1x32x256_S128x32x256,
    binary main_v16 main_v19 main_v20 ((fun a b => concatenate S128x32x512 2 [⟨S128x32x256, a⟩, ⟨S128x32x256, b⟩] concatenates_S128x32x256_S128x32x256_S128x32x512_d2) : A F S128x32x256 → A F S128x32x256 → A F S128x32x512),
    unary main_arg5 main_v21 ((extractStridedSlice S1x2x1024x512 ![0, 0, 0, 0] · slices_S2x2x1024x512_S1x2x1024x512_0_0_0_0) : A F S2x2x1024x512 → A F S1x2x1024x512),
    reshape main_v21 main_v22 (rfl : (.f32 : EltTy) = .f32) shapeCasts_S1x2x1024x512_S2x1024x512,
    unary main_arg6 main_v23 ((extractStridedSlice S1x2x1024x256 ![0, 0, 0, 0] · slices_S2x2x1024x256_S1x2x1024x256_0_0_0_0) : A F S2x2x1024x256 → A F S1x2x1024x256),
    reshape main_v23 main_v24 (rfl : (.f32 : EltTy) = .f32) shapeCasts_S1x2x1024x256_S2x1024x256,
    unary main_arg7 main_v25 ((extractStridedSlice S1x2x1024 ![0, 0, 0] · slices_S2x2x1024_S1x2x1024_0_0_0) : A F S2x2x1024 → A F S1x2x1024),
    reshape main_v25 main_v26 (rfl : (.f32 : EltTy) = .f32) shapeCasts_S1x2x1024_S2x1024,
    nullary main_cst_3 (constant S_ .f32 0x00000000#32),
    unary main_cst_3 main_v27 (broadcastInDim S2x32x256 ![] bcast_S_S2x32x256 : A F S_ → A F S2x32x256),
    unary main_v20 main_v28 (Host.reverse [0] : A F S128x32x512 → A F S128x32x512),
    unary main_v20 main_v29 (broadcastInDim S128x1x32x512 ![0, 2, 3] bcast_S128x32x512_S128x1x32x512_0_2_3 : A F S128x32x512 → A F S128x1x32x512),
    unary main_v28 main_v30 (broadcastInDim S128x1x32x512 ![0, 2, 3] bcast_S128x32x512_S128x1x32x512_0_2_3 : A F S128x32x512 → A F S128x1x32x512),
    binary main_v29 main_v30 main_v31 ((fun a b => concatenate S128x2x32x512 1 [⟨S128x1x32x512, a⟩, ⟨S128x1x32x512, b⟩] concatenates_S128x1x32x512_S128x1x32x512_S128x2x32x512_d1) : A F S128x1x32x512 → A F S128x1x32x512 → A F S128x2x32x512),
    nullary main_cst_4 (constant S_ .f32 0x00000000#32),
    unary main_cst_4 main_v32 (broadcastInDim S128x2x32x256 ![] bcast_S_S128x2x32x256 : A F S_ → A F S128x2x32x256),
    nullary main_c_5 (constantI S_ 32 0#32),
    unary main_v31 main_v33_0 id,
    unary main_v22 main_v33_1 id,
    unary main_v24 main_v33_2 id,
    unary main_v26 main_v33_3 id,
    unary main_c_5 main_v33_4 id,
    unary main_v27 main_v33_5 id,
    unary main_v27 main_v33_6 id,
    unary main_v32 main_v33_7 id ]

/-- After the second loop. -/
abbrev pre2a : List (HloOp τ sig (Elt F)) :=
  [ unary main_v33_7 main_v34 ((extractStridedSlice S128x1x32x256 ![0, 0, 0, 0] · slices_S128x2x32x256_S128x1x32x256_0_0_0_0) : A F S128x2x32x256 → A F S128x1x32x256),
    reshape main_v34 main_v35 (rfl : (.f32 : EltTy) = .f32) shapeCasts_S128x1x32x256_S128x32x256 ]

/-- Before the third loop. -/
abbrev pre2b : List (HloOp τ sig (Elt F)) :=
  [ unary main_v33_7 main_v36 ((extractStridedSlice S128x1x32x256 ![0, 1, 0, 0] · slices_S128x2x32x256_S128x1x32x256_0_1_0_0) : A F S128x2x32x256 → A F S128x1x32x256),
    unary main_v36 main_v37 (Host.reverse [0] : A F S128x1x32x256 → A F S128x1x32x256),
    reshape main_v37 main_v38 (rfl : (.f32 : EltTy) = .f32) shapeCasts_S128x1x32x256_S128x32x256,
    binary main_v35 main_v38 main_v39 ((fun a b => concatenate S128x32x512 2 [⟨S128x32x256, a⟩, ⟨S128x32x256, b⟩] concatenates_S128x32x256_S128x32x256_S128x32x512_d2) : A F S128x32x256 → A F S128x32x256 → A F S128x32x512),
    unary main_arg5 main_v40 ((extractStridedSlice S1x2x1024x512 ![1, 0, 0, 0] · slices_S2x2x1024x512_S1x2x1024x512_1_0_0_0) : A F S2x2x1024x512 → A F S1x2x1024x512),
    reshape main_v40 main_v41 (rfl : (.f32 : EltTy) = .f32) shapeCasts_S1x2x1024x512_S2x1024x512,
    unary main_arg6 main_v42 ((extractStridedSlice S1x2x1024x256 ![1, 0, 0, 0] · slices_S2x2x1024x256_S1x2x1024x256_1_0_0_0) : A F S2x2x1024x256 → A F S1x2x1024x256),
    reshape main_v42 main_v43 (rfl : (.f32 : EltTy) = .f32) shapeCasts_S1x2x1024x256_S2x1024x256,
    unary main_arg7 main_v44 ((extractStridedSlice S1x2x1024 ![1, 0, 0] · slices_S2x2x1024_S1x2x1024_1_0_0) : A F S2x2x1024 → A F S1x2x1024),
    reshape main_v44 main_v45 (rfl : (.f32 : EltTy) = .f32) shapeCasts_S1x2x1024_S2x1024,
    nullary main_cst_6 (constant S_ .f32 0x00000000#32),
    unary main_cst_6 main_v46 (broadcastInDim S2x32x256 ![] bcast_S_S2x32x256 : A F S_ → A F S2x32x256),
    unary main_v39 main_v47 (Host.reverse [0] : A F S128x32x512 → A F S128x32x512),
    unary main_v39 main_v48 (broadcastInDim S128x1x32x512 ![0, 2, 3] bcast_S128x32x512_S128x1x32x512_0_2_3 : A F S128x32x512 → A F S128x1x32x512),
    unary main_v47 main_v49 (broadcastInDim S128x1x32x512 ![0, 2, 3] bcast_S128x32x512_S128x1x32x512_0_2_3 : A F S128x32x512 → A F S128x1x32x512),
    binary main_v48 main_v49 main_v50 ((fun a b => concatenate S128x2x32x512 1 [⟨S128x1x32x512, a⟩, ⟨S128x1x32x512, b⟩] concatenates_S128x1x32x512_S128x1x32x512_S128x2x32x512_d1) : A F S128x1x32x512 → A F S128x1x32x512 → A F S128x2x32x512),
    nullary main_cst_7 (constant S_ .f32 0x00000000#32),
    unary main_cst_7 main_v51 (broadcastInDim S128x2x32x256 ![] bcast_S_S128x2x32x256 : A F S_ → A F S128x2x32x256),
    nullary main_c_8 (constantI S_ 32 0#32),
    unary main_v50 main_v52_0 id,
    unary main_v41 main_v52_1 id,
    unary main_v43 main_v52_2 id,
    unary main_v45 main_v52_3 id,
    unary main_c_8 main_v52_4 id,
    unary main_v46 main_v52_5 id,
    unary main_v46 main_v52_6 id,
    unary main_v51 main_v52_7 id ]

/-- After the third loop. -/
abbrev posta : List (HloOp τ sig (Elt F)) :=
  [ unary main_v52_7 main_v53 ((extractStridedSlice S128x1x32x256 ![0, 0, 0, 0] · slices_S128x2x32x256_S128x1x32x256_0_0_0_0) : A F S128x2x32x256 → A F S128x1x32x256),
    reshape main_v53 main_v54 (rfl : (.f32 : EltTy) = .f32) shapeCasts_S128x1x32x256_S128x32x256,
    unary main_v52_7 main_v55 ((extractStridedSlice S128x1x32x256 ![0, 1, 0, 0] · slices_S128x2x32x256_S128x1x32x256_0_1_0_0) : A F S128x2x32x256 → A F S128x1x32x256),
    unary main_v55 main_v56 (Host.reverse [0] : A F S128x1x32x256 → A F S128x1x32x256),
    reshape main_v56 main_v57 (rfl : (.f32 : EltTy) = .f32) shapeCasts_S128x1x32x256_S128x32x256,
    binary main_v54 main_v57 main_v58 ((fun a b => concatenate S128x32x512 2 [⟨S128x32x256, a⟩, ⟨S128x32x256, b⟩] concatenates_S128x32x256_S128x32x256_S128x32x512_d2) : A F S128x32x256 → A F S128x32x256 → A F S128x32x512),
    unary main_v14_5 main_v59 ((extractStridedSlice S1x32x256 ![0, 0, 0] · slices_S2x32x256_S1x32x256_0_0_0) : A F S2x32x256 → A F S1x32x256),
    reshape main_v59 main_v60 (rfl : (.f32 : EltTy) = .f32) shapeCasts_S1x32x256_S32x256,
    unary main_v14_5 main_v61 ((extractStridedSlice S1x32x256 ![1, 0, 0] · slices_S2x32x256_S1x32x256_1_0_0) : A F S2x32x256 → A F S1x32x256),
    reshape main_v61 main_v62 (rfl : (.f32 : EltTy) = .f32) shapeCasts_S1x32x256_S32x256,
    binary main_v60 main_v62 main_v63 ((fun a b => concatenate S32x512 1 [⟨S32x256, a⟩, ⟨S32x256, b⟩] concatenates_S32x256_S32x256_S32x512_d1) : A F S32x256 → A F S32x256 → A F S32x512),
    unary main_v33_5 main_v64 ((extractStridedSlice S1x32x256 ![0, 0, 0] · slices_S2x32x256_S1x32x256_0_0_0) : A F S2x32x256 → A F S1x32x256),
    reshape main_v64 main_v65 (rfl : (.f32 : EltTy) = .f32) shapeCasts_S1x32x256_S32x256,
    unary main_v33_5 main_v66 ((extractStridedSlice S1x32x256 ![1, 0, 0] · slices_S2x32x256_S1x32x256_1_0_0) : A F S2x32x256 → A F S1x32x256),
    reshape main_v66 main_v67 (rfl : (.f32 : EltTy) = .f32) shapeCasts_S1x32x256_S32x256,
    binary main_v65 main_v67 main_v68 ((fun a b => concatenate S32x512 1 [⟨S32x256, a⟩, ⟨S32x256, b⟩] concatenates_S32x256_S32x256_S32x512_d1) : A F S32x256 → A F S32x256 → A F S32x512),
    unary main_v52_5 main_v69 ((extractStridedSlice S1x32x256 ![0, 0, 0] · slices_S2x32x256_S1x32x256_0_0_0) : A F S2x32x256 → A F S1x32x256),
    reshape main_v69 main_v70 (rfl : (.f32 : EltTy) = .f32) shapeCasts_S1x32x256_S32x256,
    unary main_v52_5 main_v71 ((extractStridedSlice S1x32x256 ![1, 0, 0] · slices_S2x32x256_S1x32x256_1_0_0) : A F S2x32x256 → A F S1x32x256),
    reshape main_v71 main_v72 (rfl : (.f32 : EltTy) = .f32) shapeCasts_S1x32x256_S32x256,
    binary main_v70 main_v72 main_v73 ((fun a b => concatenate S32x512 1 [⟨S32x256, a⟩, ⟨S32x256, b⟩] concatenates_S32x256_S32x256_S32x512_d1) : A F S32x256 → A F S32x256 → A F S32x512),
    unary main_v63 main_v74 (broadcastInDim S1x32x512 ![1, 2] bcast_S32x512_S1x32x512_1_2 : A F S32x512 → A F S1x32x512),
    unary main_v68 main_v75 (broadcastInDim S1x32x512 ![1, 2] bcast_S32x512_S1x32x512_1_2 : A F S32x512 → A F S1x32x512),
    unary main_v73 main_v76 (broadcastInDim S1x32x512 ![1, 2] bcast_S32x512_S1x32x512_1_2 : A F S32x512 → A F S1x32x512),
    nary ![main_v74, main_v75, main_v76] main_v77 (fun u => (concatenate S3x32x512 0 [⟨S1x32x512, (u 0 : A F S1x32x512)⟩, ⟨S1x32x512, (u 1 : A F S1x32x512)⟩, ⟨S1x32x512, (u 2 : A F S1x32x512)⟩] concatenates_S1x32x512_S1x32x512_S1x32x512_S3x32x512_d0 : A F S3x32x512)),
    unary main_v14_6 main_v78 ((extractStridedSlice S1x32x256 ![0, 0, 0] · slices_S2x32x256_S1x32x256_0_0_0) : A F S2x32x256 → A F S1x32x256),
    reshape main_v78 main_v79 (rfl : (.f32 : EltTy) = .f32) shapeCasts_S1x32x256_S32x256,
    unary main_v14_6 main_v80 ((extractStridedSlice S1x32x256 ![1, 0, 0] · slices_S2x32x256_S1x32x256_1_0_0) : A F S2x32x256 → A F S1x32x256),
    reshape main_v80 main_v81 (rfl : (.f32 : EltTy) = .f32) shapeCasts_S1x32x256_S32x256,
    binary main_v79 main_v81 main_v82 ((fun a b => concatenate S32x512 1 [⟨S32x256, a⟩, ⟨S32x256, b⟩] concatenates_S32x256_S32x256_S32x512_d1) : A F S32x256 → A F S32x256 → A F S32x512),
    unary main_v33_6 main_v83 ((extractStridedSlice S1x32x256 ![0, 0, 0] · slices_S2x32x256_S1x32x256_0_0_0) : A F S2x32x256 → A F S1x32x256),
    reshape main_v83 main_v84 (rfl : (.f32 : EltTy) = .f32) shapeCasts_S1x32x256_S32x256 ]

/-- The last results. -/
abbrev postb : List (HloOp τ sig (Elt F)) :=
  [ unary main_v33_6 main_v85 ((extractStridedSlice S1x32x256 ![1, 0, 0] · slices_S2x32x256_S1x32x256_1_0_0) : A F S2x32x256 → A F S1x32x256),
    reshape main_v85 main_v86 (rfl : (.f32 : EltTy) = .f32) shapeCasts_S1x32x256_S32x256,
    binary main_v84 main_v86 main_v87 ((fun a b => concatenate S32x512 1 [⟨S32x256, a⟩, ⟨S32x256, b⟩] concatenates_S32x256_S32x256_S32x512_d1) : A F S32x256 → A F S32x256 → A F S32x512),
    unary main_v52_6 main_v88 ((extractStridedSlice S1x32x256 ![0, 0, 0] · slices_S2x32x256_S1x32x256_0_0_0) : A F S2x32x256 → A F S1x32x256),
    reshape main_v88 main_v89 (rfl : (.f32 : EltTy) = .f32) shapeCasts_S1x32x256_S32x256,
    unary main_v52_6 main_v90 ((extractStridedSlice S1x32x256 ![1, 0, 0] · slices_S2x32x256_S1x32x256_1_0_0) : A F S2x32x256 → A F S1x32x256),
    reshape main_v90 main_v91 (rfl : (.f32 : EltTy) = .f32) shapeCasts_S1x32x256_S32x256,
    binary main_v89 main_v91 main_v92 ((fun a b => concatenate S32x512 1 [⟨S32x256, a⟩, ⟨S32x256, b⟩] concatenates_S32x256_S32x256_S32x512_d1) : A F S32x256 → A F S32x256 → A F S32x512),
    unary main_v82 main_v93 (broadcastInDim S1x32x512 ![1, 2] bcast_S32x512_S1x32x512_1_2 : A F S32x512 → A F S1x32x512),
    unary main_v87 main_v94 (broadcastInDim S1x32x512 ![1, 2] bcast_S32x512_S1x32x512_1_2 : A F S32x512 → A F S1x32x512),
    unary main_v92 main_v95 (broadcastInDim S1x32x512 ![1, 2] bcast_S32x512_S1x32x512_1_2 : A F S32x512 → A F S1x32x512),
    nary ![main_v93, main_v94, main_v95] main_v96 (fun u => (concatenate S3x32x512 0 [⟨S1x32x512, (u 0 : A F S1x32x512)⟩, ⟨S1x32x512, (u 1 : A F S1x32x512)⟩, ⟨S1x32x512, (u 2 : A F S1x32x512)⟩] concatenates_S1x32x512_S1x32x512_S1x32x512_S3x32x512_d0 : A F S3x32x512)),
    reshape main_v58 main_v97 (rfl : (.f32 : EltTy) = .f32) shapeCasts_S128x32x512_S4096x512 ]

/-- The test of the loop: the counter against the number of trips. -/
abbrev test0 : List (HloOp τ sig (Elt F)) :=
  [ nullary main_while0c_c_16 (constantI S_ 32 128#32),
    binary main_v14_4 main_while0c_c_16 main_while0c_v98 (cmpi .slt : I F S_ → I F S_ → (⟨S_, .i1⟩ : BufTy).Contents (Elt F)) ]

/-- The trip’s inputs taken. -/
abbrev take0 : List (HloOp τ sig (Elt F)) :=
  [ TRef.nullary main_while0b_call0.c (constantI S_ 32 0#32),
    TRef.nullary main_while0b_call0.c_0 (constantI S_ 32 0#32),
    TRef.nullary main_while0b_call0.c_1 (constantI S_ 32 0#32),
    TRef.unaryIndexed (.of main_v14_0 : TRef sig ⟨S128x2x32x256, .f32⟩) ![(.of main_v14_4 : TRef sig ⟨S_, .i32⟩), main_while0b_call0.c, main_while0b_call0.c_0, main_while0b_call0.c_1] main_while0b_call0.v0 (fun x i => Host.dynamicSlice S1x2x32x256 x (fun k => (i k (Shape.Idx.first h_S_)).toInt) sliceFits_S128x2x32x256_S1x2x32x256),
    TRef.reshape main_while0b_call0.v0 main_while0b_call0.v1 (rfl : (.f32 : EltTy) = .f32) shapeCasts_S1x2x32x256_S2x32x256 ]

/-- The cells of the two directions. -/
abbrev cell0 : List (HloOp τ sig (Elt F)) :=
  [ binary main_while0b_v98 main_v14_1 main_while0b_v99 ((fun l r => Host.dotGeneral dot_S2x32x256_S2x1024x256_S2x32x1024_2_2_1_1_0_0 none l r) : A F S2x32x256 → A F S2x1024x256 → A F S2x32x1024),
    binary main_v14_5 main_v14_2 main_while0b_v100 ((fun l r => Host.dotGeneral dot_S2x32x256_S2x1024x256_S2x32x1024_2_2_1_1_0_0 none l r) : A F S2x32x256 → A F S2x1024x256 → A F S2x32x1024),
    binary main_while0b_v99 main_while0b_v100 main_while0b_v101 (addf : A F S2x32x1024 → A F S2x32x1024 → A F S2x32x1024),
    unary main_v14_3 main_while0b_v102 (broadcastInDim S2x1x1024 ![0, 2] bcast_S2x1024_S2x1x1024_0_2 : A F S2x1024 → A F S2x1x1024),
    unary main_while0b_v102 main_while0b_v103 (broadcastInDim S2x32x1024 ![0, 1, 2] bcast_S2x1x1024_S2x32x1024_0_1_2 : A F S2x1x1024 → A F S2x32x1024),
    binary main_while0b_v101 main_while0b_v103 main_while0b_v104 (addf : A F S2x32x1024 → A F S2x32x1024 → A F S2x32x1024),
    unary main_while0b_v104 main_while0b_v105 ((extractStridedSlice S2x32x256 ![0, 0, 0] · slices_S2x32x1024_S2x32x256_0_0_0) : A F S2x32x1024 → A F S2x32x256),
    unary main_while0b_v104 main_while0b_v106 ((extractStridedSlice S2x32x256 ![0, 0, 256] · slices_S2x32x1024_S2x32x256_0_0_256) : A F S2x32x1024 → A F S2x32x256),
    unary main_while0b_v104 main_while0b_v107 ((extractStridedSlice S2x32x256 ![0, 0, 512] · slices_S2x32x1024_S2x32x256_0_0_512) : A F S2x32x1024 → A F S2x32x256),
    unary main_while0b_v104 main_while0b_v108 ((extractStridedSlice S2x32x256 ![0, 0, 768] · slices_S2x32x1024_S2x32x256_0_0_768) : A F S2x32x1024 → A F S2x32x256),
    unary main_while0b_v106 main_while0b_v109 (Host.negf : A F S2x32x256 → A F S2x32x256),
    unary main_while0b_v109 main_while0b_v110 (Host.exp : A F S2x32x256 → A F S2x32x256),
    nullary main_while0b_cst_16 (constant S_ .f32 0x3F800000#32),
    unary main_while0b_cst_16 main_while0b_v111 (broadcastInDim S2x32x256 ![] bcast_S_S2x32x256 : A F S_ → A F S2x32x256),
    binary main_while0b_v111 main_while0b_v110 main_while0b_v112 (addf : A F S2x32x256 → A F S2x32x256 → A F S2x32x256),
    nullary main_while0b_cst_17 (constant S_ .f32 0x3F800000#32),
    unary main_while0b_cst_17 main_while0b_v113 (broadcastInDim S2x32x256 ![] bcast_S_S2x32x256 : A F S_ → A F S2x32x256),
    binary main_while0b_v113 main_while0b_v112 main_while0b_v114 (Host.divf : A F S2x32x256 → A F S2x32x256 → A F S2x32x256),
    binary main_while0b_v114 main_v14_6 main_while0b_v115 (mulf : A F S2x32x256 → A F S2x32x256 → A F S2x32x256),
    unary main_while0b_v105 main_while0b_v116 (Host.negf : A F S2x32x256 → A F S2x32x256),
    unary main_while0b_v116 main_while0b_v117 (Host.exp : A F S2x32x256 → A F S2x32x256),
    nullary main_while0b_cst_18 (constant S_ .f32 0x3F800000#32),
    unary main_while0b_cst_18 main_while0b_v118 (broadcastInDim S2x32x256 ![] bcast_S_S2x32x256 : A F S_ → A F S2x32x256),
    binary main_while0b_v118 main_while0b_v117 main_while0b_v119 (addf : A F S2x32x256 → A F S2x32x256 → A F S2x32x256),
    nullary main_while0b_cst_19 (constant S_ .f32 0x3F800000#32),
    unary main_while0b_cst_19 main_while0b_v120 (broadcastInDim S2x32x256 ![] bcast_S_S2x32x256 : A F S_ → A F S2x32x256),
    binary main_while0b_v120 main_while0b_v119 main_while0b_v121 (Host.divf : A F S2x32x256 → A F S2x32x256 → A F S2x32x256),
    unary main_while0b_v107 main_while0b_v122 (Host.tanh : A F S2x32x256 → A F S2x32x256),
    binary main_while0b_v121 main_while0b_v122 main_while0b_v123 (mulf : A F S2x32x256 → A F S2x32x256 → A F S2x32x256),
    binary main_while0b_v115 main_while0b_v123 main_while0b_v124 (addf : A F S2x32x256 → A F S2x32x256 → A F S2x32x256),
    unary main_while0b_v108 main_while0b_v125 (Host.negf : A F S2x32x256 → A F S2x32x256),
    unary main_while0b_v125 main_while0b_v126 (Host.exp : A F S2x32x256 → A F S2x32x256),
    nullary main_while0b_cst_20 (constant S_ .f32 0x3F800000#32),
    unary main_while0b_cst_20 main_while0b_v127 (broadcastInDim S2x32x256 ![] bcast_S_S2x32x256 : A F S_ → A F S2x32x256),
    binary main_while0b_v127 main_while0b_v126 main_while0b_v128 (addf : A F S2x32x256 → A F S2x32x256 → A F S2x32x256),
    nullary main_while0b_cst_21 (constant S_ .f32 0x3F800000#32),
    unary main_while0b_cst_21 main_while0b_v129 (broadcastInDim S2x32x256 ![] bcast_S_S2x32x256 : A F S_ → A F S2x32x256),
    binary main_while0b_v129 main_while0b_v128 main_while0b_v130 (Host.divf : A F S2x32x256 → A F S2x32x256 → A F S2x32x256),
    unary main_while0b_v124 main_while0b_v131 (Host.tanh : A F S2x32x256 → A F S2x32x256),
    binary main_while0b_v130 main_while0b_v131 main_while0b_v132 (mulf : A F S2x32x256 → A F S2x32x256 → A F S2x32x256) ]

/-- The trip’s outputs written. -/
abbrev put0 : List (HloOp τ sig (Elt F)) :=
  [ TRef.unary (.of main_while0b_v132 : TRef sig ⟨S2x32x256, .f32⟩) main_while0b_call1.v0 (broadcastInDim S1x2x32x256 ![1, 2, 3] bcast_S2x32x256_S1x2x32x256_1_2_3),
    TRef.nullary main_while0b_call1.c (constantI S_ 32 0#32),
    TRef.nullary main_while0b_call1.c_0 (constantI S_ 32 0#32),
    TRef.nullary main_while0b_call1.c_1 (constantI S_ 32 0#32),
    TRef.binaryIndexed (.of main_v14_7 : TRef sig ⟨S128x2x32x256, .f32⟩) main_while0b_call1.v0 ![(.of main_v14_4 : TRef sig ⟨S_, .i32⟩), main_while0b_call1.c, main_while0b_call1.c_0, main_while0b_call1.c_1] main_while0b_call1.v1 (fun x u i => Host.dynamicUpdateSlice x u (fun k => (i k (Shape.Idx.first h_S_)).toInt) updateFits_S128x2x32x256_S1x2x32x256) ]

/-- The carried values of the next trip. -/
abbrev carry0 : List (HloOp τ sig (Elt F)) :=
  [ nullary main_while0b_c_22 (constantI S_ 32 1#32),
    binary main_v14_4 main_while0b_c_22 main_while0b_v134 (addi : I F S_ → I F S_ → I F S_),
    unary main_while0b_v134 main_v14_4 id,
    unary main_while0b_v132 main_v14_5 id,
    unary main_while0b_v124 main_v14_6 id,
    unary main_while0b_v133 main_v14_7 id ]

/-- The test of the loop: the counter against the number of trips. -/
abbrev test1 : List (HloOp τ sig (Elt F)) :=
  [ nullary main_while1c_c_16 (constantI S_ 32 128#32),
    binary main_v33_4 main_while1c_c_16 main_while1c_v98 (cmpi .slt : I F S_ → I F S_ → (⟨S_, .i1⟩ : BufTy).Contents (Elt F)) ]

/-- The trip’s inputs taken. -/
abbrev take1 : List (HloOp τ sig (Elt F)) :=
  [ TRef.nullary main_while1b_call2.c (constantI S_ 32 0#32),
    TRef.nullary main_while1b_call2.c_0 (constantI S_ 32 0#32),
    TRef.nullary main_while1b_call2.c_1 (constantI S_ 32 0#32),
    TRef.unaryIndexed (.of main_v33_0 : TRef sig ⟨S128x2x32x512, .f32⟩) ![(.of main_v33_4 : TRef sig ⟨S_, .i32⟩), main_while1b_call2.c, main_while1b_call2.c_0, main_while1b_call2.c_1] main_while1b_call2.v0 (fun x i => Host.dynamicSlice S1x2x32x512 x (fun k => (i k (Shape.Idx.first h_S_)).toInt) sliceFits_S128x2x32x512_S1x2x32x512),
    TRef.reshape main_while1b_call2.v0 main_while1b_call2.v1 (rfl : (.f32 : EltTy) = .f32) shapeCasts_S1x2x32x512_S2x32x512 ]

/-- The cells of the two directions. -/
abbrev cell1 : List (HloOp τ sig (Elt F)) :=
  [ binary main_while1b_v98 main_v33_1 main_while1b_v99 ((fun l r => Host.dotGeneral dot_S2x32x512_S2x1024x512_S2x32x1024_2_2_1_1_0_0 none l r) : A F S2x32x512 → A F S2x1024x512 → A F S2x32x1024),
    binary main_v33_5 main_v33_2 main_while1b_v100 ((fun l r => Host.dotGeneral dot_S2x32x256_S2x1024x256_S2x32x1024_2_2_1_1_0_0 none l r) : A F S2x32x256 → A F S2x1024x256 → A F S2x32x1024),
    binary main_while1b_v99 main_while1b_v100 main_while1b_v101 (addf : A F S2x32x1024 → A F S2x32x1024 → A F S2x32x1024),
    unary main_v33_3 main_while1b_v102 (broadcastInDim S2x1x1024 ![0, 2] bcast_S2x1024_S2x1x1024_0_2 : A F S2x1024 → A F S2x1x1024),
    unary main_while1b_v102 main_while1b_v103 (broadcastInDim S2x32x1024 ![0, 1, 2] bcast_S2x1x1024_S2x32x1024_0_1_2 : A F S2x1x1024 → A F S2x32x1024),
    binary main_while1b_v101 main_while1b_v103 main_while1b_v104 (addf : A F S2x32x1024 → A F S2x32x1024 → A F S2x32x1024),
    unary main_while1b_v104 main_while1b_v105 ((extractStridedSlice S2x32x256 ![0, 0, 0] · slices_S2x32x1024_S2x32x256_0_0_0) : A F S2x32x1024 → A F S2x32x256),
    unary main_while1b_v104 main_while1b_v106 ((extractStridedSlice S2x32x256 ![0, 0, 256] · slices_S2x32x1024_S2x32x256_0_0_256) : A F S2x32x1024 → A F S2x32x256),
    unary main_while1b_v104 main_while1b_v107 ((extractStridedSlice S2x32x256 ![0, 0, 512] · slices_S2x32x1024_S2x32x256_0_0_512) : A F S2x32x1024 → A F S2x32x256),
    unary main_while1b_v104 main_while1b_v108 ((extractStridedSlice S2x32x256 ![0, 0, 768] · slices_S2x32x1024_S2x32x256_0_0_768) : A F S2x32x1024 → A F S2x32x256),
    unary main_while1b_v106 main_while1b_v109 (Host.negf : A F S2x32x256 → A F S2x32x256),
    unary main_while1b_v109 main_while1b_v110 (Host.exp : A F S2x32x256 → A F S2x32x256),
    nullary main_while1b_cst_16 (constant S_ .f32 0x3F800000#32),
    unary main_while1b_cst_16 main_while1b_v111 (broadcastInDim S2x32x256 ![] bcast_S_S2x32x256 : A F S_ → A F S2x32x256),
    binary main_while1b_v111 main_while1b_v110 main_while1b_v112 (addf : A F S2x32x256 → A F S2x32x256 → A F S2x32x256),
    nullary main_while1b_cst_17 (constant S_ .f32 0x3F800000#32),
    unary main_while1b_cst_17 main_while1b_v113 (broadcastInDim S2x32x256 ![] bcast_S_S2x32x256 : A F S_ → A F S2x32x256),
    binary main_while1b_v113 main_while1b_v112 main_while1b_v114 (Host.divf : A F S2x32x256 → A F S2x32x256 → A F S2x32x256),
    binary main_while1b_v114 main_v33_6 main_while1b_v115 (mulf : A F S2x32x256 → A F S2x32x256 → A F S2x32x256),
    unary main_while1b_v105 main_while1b_v116 (Host.negf : A F S2x32x256 → A F S2x32x256),
    unary main_while1b_v116 main_while1b_v117 (Host.exp : A F S2x32x256 → A F S2x32x256),
    nullary main_while1b_cst_18 (constant S_ .f32 0x3F800000#32),
    unary main_while1b_cst_18 main_while1b_v118 (broadcastInDim S2x32x256 ![] bcast_S_S2x32x256 : A F S_ → A F S2x32x256),
    binary main_while1b_v118 main_while1b_v117 main_while1b_v119 (addf : A F S2x32x256 → A F S2x32x256 → A F S2x32x256),
    nullary main_while1b_cst_19 (constant S_ .f32 0x3F800000#32),
    unary main_while1b_cst_19 main_while1b_v120 (broadcastInDim S2x32x256 ![] bcast_S_S2x32x256 : A F S_ → A F S2x32x256),
    binary main_while1b_v120 main_while1b_v119 main_while1b_v121 (Host.divf : A F S2x32x256 → A F S2x32x256 → A F S2x32x256),
    unary main_while1b_v107 main_while1b_v122 (Host.tanh : A F S2x32x256 → A F S2x32x256),
    binary main_while1b_v121 main_while1b_v122 main_while1b_v123 (mulf : A F S2x32x256 → A F S2x32x256 → A F S2x32x256),
    binary main_while1b_v115 main_while1b_v123 main_while1b_v124 (addf : A F S2x32x256 → A F S2x32x256 → A F S2x32x256),
    unary main_while1b_v108 main_while1b_v125 (Host.negf : A F S2x32x256 → A F S2x32x256),
    unary main_while1b_v125 main_while1b_v126 (Host.exp : A F S2x32x256 → A F S2x32x256),
    nullary main_while1b_cst_20 (constant S_ .f32 0x3F800000#32),
    unary main_while1b_cst_20 main_while1b_v127 (broadcastInDim S2x32x256 ![] bcast_S_S2x32x256 : A F S_ → A F S2x32x256),
    binary main_while1b_v127 main_while1b_v126 main_while1b_v128 (addf : A F S2x32x256 → A F S2x32x256 → A F S2x32x256),
    nullary main_while1b_cst_21 (constant S_ .f32 0x3F800000#32),
    unary main_while1b_cst_21 main_while1b_v129 (broadcastInDim S2x32x256 ![] bcast_S_S2x32x256 : A F S_ → A F S2x32x256),
    binary main_while1b_v129 main_while1b_v128 main_while1b_v130 (Host.divf : A F S2x32x256 → A F S2x32x256 → A F S2x32x256),
    unary main_while1b_v124 main_while1b_v131 (Host.tanh : A F S2x32x256 → A F S2x32x256),
    binary main_while1b_v130 main_while1b_v131 main_while1b_v132 (mulf : A F S2x32x256 → A F S2x32x256 → A F S2x32x256) ]

/-- The trip’s outputs written. -/
abbrev put1 : List (HloOp τ sig (Elt F)) :=
  [ TRef.unary (.of main_while1b_v132 : TRef sig ⟨S2x32x256, .f32⟩) main_while1b_call3.v0 (broadcastInDim S1x2x32x256 ![1, 2, 3] bcast_S2x32x256_S1x2x32x256_1_2_3),
    TRef.nullary main_while1b_call3.c (constantI S_ 32 0#32),
    TRef.nullary main_while1b_call3.c_0 (constantI S_ 32 0#32),
    TRef.nullary main_while1b_call3.c_1 (constantI S_ 32 0#32),
    TRef.binaryIndexed (.of main_v33_7 : TRef sig ⟨S128x2x32x256, .f32⟩) main_while1b_call3.v0 ![(.of main_v33_4 : TRef sig ⟨S_, .i32⟩), main_while1b_call3.c, main_while1b_call3.c_0, main_while1b_call3.c_1] main_while1b_call3.v1 (fun x u i => Host.dynamicUpdateSlice x u (fun k => (i k (Shape.Idx.first h_S_)).toInt) updateFits_S128x2x32x256_S1x2x32x256) ]

/-- The carried values of the next trip. -/
abbrev carry1 : List (HloOp τ sig (Elt F)) :=
  [ nullary main_while1b_c_22 (constantI S_ 32 1#32),
    binary main_v33_4 main_while1b_c_22 main_while1b_v134 (addi : I F S_ → I F S_ → I F S_),
    unary main_while1b_v134 main_v33_4 id,
    unary main_while1b_v132 main_v33_5 id,
    unary main_while1b_v124 main_v33_6 id,
    unary main_while1b_v133 main_v33_7 id ]

/-- The test of the loop: the counter against the number of trips. -/
abbrev test2 : List (HloOp τ sig (Elt F)) :=
  [ nullary main_while2c_c_16 (constantI S_ 32 128#32),
    binary main_v52_4 main_while2c_c_16 main_while2c_v98 (cmpi .slt : I F S_ → I F S_ → (⟨S_, .i1⟩ : BufTy).Contents (Elt F)) ]

/-- The trip’s inputs taken. -/
abbrev take2 : List (HloOp τ sig (Elt F)) :=
  [ TRef.nullary main_while2b_call4.c (constantI S_ 32 0#32),
    TRef.nullary main_while2b_call4.c_0 (constantI S_ 32 0#32),
    TRef.nullary main_while2b_call4.c_1 (constantI S_ 32 0#32),
    TRef.unaryIndexed (.of main_v52_0 : TRef sig ⟨S128x2x32x512, .f32⟩) ![(.of main_v52_4 : TRef sig ⟨S_, .i32⟩), main_while2b_call4.c, main_while2b_call4.c_0, main_while2b_call4.c_1] main_while2b_call4.v0 (fun x i => Host.dynamicSlice S1x2x32x512 x (fun k => (i k (Shape.Idx.first h_S_)).toInt) sliceFits_S128x2x32x512_S1x2x32x512),
    TRef.reshape main_while2b_call4.v0 main_while2b_call4.v1 (rfl : (.f32 : EltTy) = .f32) shapeCasts_S1x2x32x512_S2x32x512 ]

/-- The cells of the two directions. -/
abbrev cell2 : List (HloOp τ sig (Elt F)) :=
  [ binary main_while2b_v98 main_v52_1 main_while2b_v99 ((fun l r => Host.dotGeneral dot_S2x32x512_S2x1024x512_S2x32x1024_2_2_1_1_0_0 none l r) : A F S2x32x512 → A F S2x1024x512 → A F S2x32x1024),
    binary main_v52_5 main_v52_2 main_while2b_v100 ((fun l r => Host.dotGeneral dot_S2x32x256_S2x1024x256_S2x32x1024_2_2_1_1_0_0 none l r) : A F S2x32x256 → A F S2x1024x256 → A F S2x32x1024),
    binary main_while2b_v99 main_while2b_v100 main_while2b_v101 (addf : A F S2x32x1024 → A F S2x32x1024 → A F S2x32x1024),
    unary main_v52_3 main_while2b_v102 (broadcastInDim S2x1x1024 ![0, 2] bcast_S2x1024_S2x1x1024_0_2 : A F S2x1024 → A F S2x1x1024),
    unary main_while2b_v102 main_while2b_v103 (broadcastInDim S2x32x1024 ![0, 1, 2] bcast_S2x1x1024_S2x32x1024_0_1_2 : A F S2x1x1024 → A F S2x32x1024),
    binary main_while2b_v101 main_while2b_v103 main_while2b_v104 (addf : A F S2x32x1024 → A F S2x32x1024 → A F S2x32x1024),
    unary main_while2b_v104 main_while2b_v105 ((extractStridedSlice S2x32x256 ![0, 0, 0] · slices_S2x32x1024_S2x32x256_0_0_0) : A F S2x32x1024 → A F S2x32x256),
    unary main_while2b_v104 main_while2b_v106 ((extractStridedSlice S2x32x256 ![0, 0, 256] · slices_S2x32x1024_S2x32x256_0_0_256) : A F S2x32x1024 → A F S2x32x256),
    unary main_while2b_v104 main_while2b_v107 ((extractStridedSlice S2x32x256 ![0, 0, 512] · slices_S2x32x1024_S2x32x256_0_0_512) : A F S2x32x1024 → A F S2x32x256),
    unary main_while2b_v104 main_while2b_v108 ((extractStridedSlice S2x32x256 ![0, 0, 768] · slices_S2x32x1024_S2x32x256_0_0_768) : A F S2x32x1024 → A F S2x32x256),
    unary main_while2b_v106 main_while2b_v109 (Host.negf : A F S2x32x256 → A F S2x32x256),
    unary main_while2b_v109 main_while2b_v110 (Host.exp : A F S2x32x256 → A F S2x32x256),
    nullary main_while2b_cst_16 (constant S_ .f32 0x3F800000#32),
    unary main_while2b_cst_16 main_while2b_v111 (broadcastInDim S2x32x256 ![] bcast_S_S2x32x256 : A F S_ → A F S2x32x256),
    binary main_while2b_v111 main_while2b_v110 main_while2b_v112 (addf : A F S2x32x256 → A F S2x32x256 → A F S2x32x256),
    nullary main_while2b_cst_17 (constant S_ .f32 0x3F800000#32),
    unary main_while2b_cst_17 main_while2b_v113 (broadcastInDim S2x32x256 ![] bcast_S_S2x32x256 : A F S_ → A F S2x32x256),
    binary main_while2b_v113 main_while2b_v112 main_while2b_v114 (Host.divf : A F S2x32x256 → A F S2x32x256 → A F S2x32x256),
    binary main_while2b_v114 main_v52_6 main_while2b_v115 (mulf : A F S2x32x256 → A F S2x32x256 → A F S2x32x256),
    unary main_while2b_v105 main_while2b_v116 (Host.negf : A F S2x32x256 → A F S2x32x256),
    unary main_while2b_v116 main_while2b_v117 (Host.exp : A F S2x32x256 → A F S2x32x256),
    nullary main_while2b_cst_18 (constant S_ .f32 0x3F800000#32),
    unary main_while2b_cst_18 main_while2b_v118 (broadcastInDim S2x32x256 ![] bcast_S_S2x32x256 : A F S_ → A F S2x32x256),
    binary main_while2b_v118 main_while2b_v117 main_while2b_v119 (addf : A F S2x32x256 → A F S2x32x256 → A F S2x32x256),
    nullary main_while2b_cst_19 (constant S_ .f32 0x3F800000#32),
    unary main_while2b_cst_19 main_while2b_v120 (broadcastInDim S2x32x256 ![] bcast_S_S2x32x256 : A F S_ → A F S2x32x256),
    binary main_while2b_v120 main_while2b_v119 main_while2b_v121 (Host.divf : A F S2x32x256 → A F S2x32x256 → A F S2x32x256),
    unary main_while2b_v107 main_while2b_v122 (Host.tanh : A F S2x32x256 → A F S2x32x256),
    binary main_while2b_v121 main_while2b_v122 main_while2b_v123 (mulf : A F S2x32x256 → A F S2x32x256 → A F S2x32x256),
    binary main_while2b_v115 main_while2b_v123 main_while2b_v124 (addf : A F S2x32x256 → A F S2x32x256 → A F S2x32x256),
    unary main_while2b_v108 main_while2b_v125 (Host.negf : A F S2x32x256 → A F S2x32x256),
    unary main_while2b_v125 main_while2b_v126 (Host.exp : A F S2x32x256 → A F S2x32x256),
    nullary main_while2b_cst_20 (constant S_ .f32 0x3F800000#32),
    unary main_while2b_cst_20 main_while2b_v127 (broadcastInDim S2x32x256 ![] bcast_S_S2x32x256 : A F S_ → A F S2x32x256),
    binary main_while2b_v127 main_while2b_v126 main_while2b_v128 (addf : A F S2x32x256 → A F S2x32x256 → A F S2x32x256),
    nullary main_while2b_cst_21 (constant S_ .f32 0x3F800000#32),
    unary main_while2b_cst_21 main_while2b_v129 (broadcastInDim S2x32x256 ![] bcast_S_S2x32x256 : A F S_ → A F S2x32x256),
    binary main_while2b_v129 main_while2b_v128 main_while2b_v130 (Host.divf : A F S2x32x256 → A F S2x32x256 → A F S2x32x256),
    unary main_while2b_v124 main_while2b_v131 (Host.tanh : A F S2x32x256 → A F S2x32x256),
    binary main_while2b_v130 main_while2b_v131 main_while2b_v132 (mulf : A F S2x32x256 → A F S2x32x256 → A F S2x32x256) ]

/-- The trip’s outputs written. -/
abbrev put2 : List (HloOp τ sig (Elt F)) :=
  [ TRef.unary (.of main_while2b_v132 : TRef sig ⟨S2x32x256, .f32⟩) main_while2b_call5.v0 (broadcastInDim S1x2x32x256 ![1, 2, 3] bcast_S2x32x256_S1x2x32x256_1_2_3),
    TRef.nullary main_while2b_call5.c (constantI S_ 32 0#32),
    TRef.nullary main_while2b_call5.c_0 (constantI S_ 32 0#32),
    TRef.nullary main_while2b_call5.c_1 (constantI S_ 32 0#32),
    TRef.binaryIndexed (.of main_v52_7 : TRef sig ⟨S128x2x32x256, .f32⟩) main_while2b_call5.v0 ![(.of main_v52_4 : TRef sig ⟨S_, .i32⟩), main_while2b_call5.c, main_while2b_call5.c_0, main_while2b_call5.c_1] main_while2b_call5.v1 (fun x u i => Host.dynamicUpdateSlice x u (fun k => (i k (Shape.Idx.first h_S_)).toInt) updateFits_S128x2x32x256_S1x2x32x256) ]

/-- The carried values of the next trip. -/
abbrev carry2 : List (HloOp τ sig (Elt F)) :=
  [ nullary main_while2b_c_22 (constantI S_ 32 1#32),
    binary main_v52_4 main_while2b_c_22 main_while2b_v134 (addi : I F S_ → I F S_ → I F S_),
    unary main_while2b_v134 main_v52_4 id,
    unary main_while2b_v132 main_v52_5 id,
    unary main_while2b_v124 main_v52_6 id,
    unary main_while2b_v133 main_v52_7 id ]

theorem pre0_sub : (pre0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., unary_bufs_sub .., unary_bufs_sub .., unary_bufs_sub .., binary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub ..⟩
theorem pre0_fresh : (pre0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
abbrev pre0_W : List (Ref sig .tc) := [main_c, main_v0, main_v1, main_c_0, main_v2, main_v3, main_v4, main_v5, main_v6, main_v7, main_cst, main_v8, main_v9, main_v10, main_v11, main_v12, main_cst_1, main_v13, main_c_2, main_v14_0, main_v14_1, main_v14_2, main_v14_3, main_v14_4, main_v14_5, main_v14_6, main_v14_7]
theorem pre0_writes : (pre0 : List (HloOp τ sig (Elt F))).Forall fun op => op.writes ⊆ (pre0_W.map (Proc.devRef (τ := τ) .tc)).toFinset :=
  forall_writes_sub_of_map rfl
theorem pre0_other (V : Valuation τ sig (Elt F)) {r : Ref sig .tc} (h : r ∉ pre0_W) :
    after pre0 V (Proc.devRef .tc r) = V (Proc.devRef .tc r) :=
  after_of_writes_sub pre0 V pre0_writes h

theorem pre1_sub : (pre1 : List (HloOp τ sig (Elt F))).Forall fun op => op.bufs ⊆ tcRefs τ sig :=
  ⟨unary_bufs_sub .., reshape_bufs_sub .., unary_bufs_sub .., unary_bufs_sub .., reshape_bufs_sub .., binary_bufs_sub .., unary_bufs_sub .., reshape_bufs_sub .., unary_bufs_sub .., reshape_bufs_sub .., unary_bufs_sub .., reshape_bufs_sub .., nullary_bufs_sub .., unary_bufs_sub .., unary_bufs_sub .., unary_bufs_sub .., unary_bufs_sub .., binary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub ..⟩
theorem pre1_fresh : (pre1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
abbrev pre1_W : List (Ref sig .tc) := [main_v15, main_v16, main_v17, main_v18, main_v19, main_v20, main_v21, main_v22, main_v23, main_v24, main_v25, main_v26, main_cst_3, main_v27, main_v28, main_v29, main_v30, main_v31, main_cst_4, main_v32, main_c_5, main_v33_0, main_v33_1, main_v33_2, main_v33_3, main_v33_4, main_v33_5, main_v33_6, main_v33_7]
theorem pre1_writes : (pre1 : List (HloOp τ sig (Elt F))).Forall fun op => op.writes ⊆ (pre1_W.map (Proc.devRef (τ := τ) .tc)).toFinset :=
  forall_writes_sub_of_map rfl
theorem pre1_other (V : Valuation τ sig (Elt F)) {r : Ref sig .tc} (h : r ∉ pre1_W) :
    after pre1 V (Proc.devRef .tc r) = V (Proc.devRef .tc r) :=
  after_of_writes_sub pre1 V pre1_writes h

theorem pre2a_sub : (pre2a : List (HloOp τ sig (Elt F))).Forall fun op => op.bufs ⊆ tcRefs τ sig :=
  ⟨unary_bufs_sub .., reshape_bufs_sub ..⟩
theorem pre2a_fresh : (pre2a : List (HloOp τ sig (Elt F))).Forall fun op => op.fresh = ∅ :=
  ⟨rfl, rfl⟩
abbrev pre2a_W : List (Ref sig .tc) := [main_v34, main_v35]
theorem pre2a_writes : (pre2a : List (HloOp τ sig (Elt F))).Forall fun op => op.writes ⊆ (pre2a_W.map (Proc.devRef (τ := τ) .tc)).toFinset :=
  forall_writes_sub_of_map rfl
theorem pre2a_other (V : Valuation τ sig (Elt F)) {r : Ref sig .tc} (h : r ∉ pre2a_W) :
    after pre2a V (Proc.devRef .tc r) = V (Proc.devRef .tc r) :=
  after_of_writes_sub pre2a V pre2a_writes h

theorem pre2b_sub : (pre2b : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., reshape_bufs_sub .., unary_bufs_sub .., reshape_bufs_sub .., nullary_bufs_sub .., unary_bufs_sub .., unary_bufs_sub .., unary_bufs_sub .., unary_bufs_sub .., binary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub ..⟩
theorem pre2b_fresh : (pre2b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
abbrev pre2b_W : List (Ref sig .tc) := [main_v36, main_v37, main_v38, main_v39, main_v40, main_v41, main_v42, main_v43, main_v44, main_v45, main_cst_6, main_v46, main_v47, main_v48, main_v49, main_v50, main_cst_7, main_v51, main_c_8, main_v52_0, main_v52_1, main_v52_2, main_v52_3, main_v52_4, main_v52_5, main_v52_6, main_v52_7]
theorem pre2b_writes : (pre2b : List (HloOp τ sig (Elt F))).Forall fun op => op.writes ⊆ (pre2b_W.map (Proc.devRef (τ := τ) .tc)).toFinset :=
  forall_writes_sub_of_map rfl
theorem pre2b_other (V : Valuation τ sig (Elt F)) {r : Ref sig .tc} (h : r ∉ pre2b_W) :
    after pre2b V (Proc.devRef .tc r) = V (Proc.devRef .tc r) :=
  after_of_writes_sub pre2b V pre2b_writes h

theorem posta_sub : (posta : List (HloOp τ sig (Elt F))).Forall fun op => op.bufs ⊆ tcRefs τ sig :=
  ⟨unary_bufs_sub .., reshape_bufs_sub .., unary_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., unary_bufs_sub .., unary_bufs_sub .., nary_bufs_sub .., unary_bufs_sub .., reshape_bufs_sub .., unary_bufs_sub .., reshape_bufs_sub .., binary_bufs_sub .., unary_bufs_sub .., reshape_bufs_sub ..⟩
theorem posta_fresh : (posta : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
abbrev posta_W : List (Ref sig .tc) := [main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84]
theorem posta_writes : (posta : List (HloOp τ sig (Elt F))).Forall fun op => op.writes ⊆ (posta_W.map (Proc.devRef (τ := τ) .tc)).toFinset :=
  forall_writes_sub_of_map rfl
theorem posta_other (V : Valuation τ sig (Elt F)) {r : Ref sig .tc} (h : r ∉ posta_W) :
    after posta V (Proc.devRef .tc r) = V (Proc.devRef .tc r) :=
  after_of_writes_sub posta V posta_writes h

theorem postb_sub : (postb : List (HloOp τ sig (Elt F))).Forall fun op => op.bufs ⊆ tcRefs τ sig :=
  ⟨unary_bufs_sub .., reshape_bufs_sub .., binary_bufs_sub .., unary_bufs_sub .., reshape_bufs_sub .., unary_bufs_sub .., reshape_bufs_sub .., binary_bufs_sub .., unary_bufs_sub .., unary_bufs_sub .., unary_bufs_sub .., nary_bufs_sub .., reshape_bufs_sub ..⟩
theorem postb_fresh : (postb : List (HloOp τ sig (Elt F))).Forall fun op => op.fresh = ∅ :=
  ⟨rfl, rfl, rfl, rfl, rfl, rfl, rfl, rfl, rfl, rfl, rfl, rfl, rfl⟩
abbrev postb_W : List (Ref sig .tc) := [main_v85, main_v86, main_v87, main_v88, main_v89, main_v90, main_v91, main_v92, main_v93, main_v94, main_v95, main_v96, main_v97]
theorem postb_writes : (postb : List (HloOp τ sig (Elt F))).Forall fun op => op.writes ⊆ (postb_W.map (Proc.devRef (τ := τ) .tc)).toFinset :=
  forall_writes_sub_of_map rfl
theorem postb_other (V : Valuation τ sig (Elt F)) {r : Ref sig .tc} (h : r ∉ postb_W) :
    after postb V (Proc.devRef .tc r) = V (Proc.devRef .tc r) :=
  after_of_writes_sub postb V postb_writes h

theorem test0_sub : (test0 : List (HloOp τ sig (Elt F))).Forall fun op => op.bufs ⊆ tcRefs τ sig :=
  ⟨nullary_bufs_sub .., binary_bufs_sub ..⟩
theorem test0_fresh : (test0 : List (HloOp τ sig (Elt F))).Forall fun op => op.fresh = ∅ :=
  ⟨rfl, rfl⟩
abbrev test0_W : List (Ref sig .tc) := [main_while0c_c_16, main_while0c_v98]
theorem test0_writes : (test0 : List (HloOp τ sig (Elt F))).Forall fun op => op.writes ⊆ (test0_W.map (Proc.devRef (τ := τ) .tc)).toFinset :=
  forall_writes_sub_of_map rfl
theorem test0_other (V : Valuation τ sig (Elt F)) {r : Ref sig .tc} (h : r ∉ test0_W) :
    after test0 V (Proc.devRef .tc r) = V (Proc.devRef .tc r) :=
  after_of_writes_sub test0 V test0_writes h

theorem take0_sub : (take0 : List (HloOp τ sig (Elt F))).Forall fun op => op.bufs ⊆ tcRefs τ sig :=
  ⟨nullary_bufs_sub .., nullary_bufs_sub .., nullary_bufs_sub .., unaryIndexed_bufs_sub .., reshape_bufs_sub ..⟩
theorem take0_fresh : (take0 : List (HloOp τ sig (Elt F))).Forall fun op => op.fresh = ∅ :=
  ⟨rfl, rfl, rfl, rfl, rfl⟩
abbrev take0_W : List (Ref sig .tc) := [main_while0b_call0_c, main_while0b_call0_c_0, main_while0b_call0_c_1, main_while0b_call0_v0, main_while0b_v98]
theorem take0_writes : (take0 : List (HloOp τ sig (Elt F))).Forall fun op => op.writes ⊆ (take0_W.map (Proc.devRef (τ := τ) .tc)).toFinset :=
  forall_writes_sub_of_map rfl
theorem take0_other (V : Valuation τ sig (Elt F)) {r : Ref sig .tc} (h : r ∉ take0_W) :
    after take0 V (Proc.devRef .tc r) = V (Proc.devRef .tc r) :=
  after_of_writes_sub take0 V take0_writes h

theorem cell0_sub : (cell0 : List (HloOp τ sig (Elt F))).Forall fun op => op.bufs ⊆ tcRefs τ sig :=
  ⟨binary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩
theorem cell0_fresh : (cell0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
abbrev cell0_W : List (Ref sig .tc) := [main_while0b_v99, main_while0b_v100, main_while0b_v101, main_while0b_v102, main_while0b_v103, main_while0b_v104, main_while0b_v105, main_while0b_v106, main_while0b_v107, main_while0b_v108, main_while0b_v109, main_while0b_v110, main_while0b_cst_16, main_while0b_v111, main_while0b_v112, main_while0b_cst_17, main_while0b_v113, main_while0b_v114, main_while0b_v115, main_while0b_v116, main_while0b_v117, main_while0b_cst_18, main_while0b_v118, main_while0b_v119, main_while0b_cst_19, main_while0b_v120, main_while0b_v121, main_while0b_v122, main_while0b_v123, main_while0b_v124, main_while0b_v125, main_while0b_v126, main_while0b_cst_20, main_while0b_v127, main_while0b_v128, main_while0b_cst_21, main_while0b_v129, main_while0b_v130, main_while0b_v131, main_while0b_v132]
theorem cell0_writes : (cell0 : List (HloOp τ sig (Elt F))).Forall fun op => op.writes ⊆ (cell0_W.map (Proc.devRef (τ := τ) .tc)).toFinset :=
  forall_writes_sub_of_map rfl
theorem cell0_other (V : Valuation τ sig (Elt F)) {r : Ref sig .tc} (h : r ∉ cell0_W) :
    after cell0 V (Proc.devRef .tc r) = V (Proc.devRef .tc r) :=
  after_of_writes_sub cell0 V cell0_writes h

theorem put0_sub : (put0 : List (HloOp τ sig (Elt F))).Forall fun op => op.bufs ⊆ tcRefs τ sig :=
  ⟨unary_bufs_sub .., nullary_bufs_sub .., nullary_bufs_sub .., nullary_bufs_sub .., binaryIndexed_bufs_sub ..⟩
theorem put0_fresh : (put0 : List (HloOp τ sig (Elt F))).Forall fun op => op.fresh = ∅ :=
  ⟨rfl, rfl, rfl, rfl, rfl⟩
abbrev put0_W : List (Ref sig .tc) := [main_while0b_call1_v0, main_while0b_call1_c, main_while0b_call1_c_0, main_while0b_call1_c_1, main_while0b_v133]
theorem put0_writes : (put0 : List (HloOp τ sig (Elt F))).Forall fun op => op.writes ⊆ (put0_W.map (Proc.devRef (τ := τ) .tc)).toFinset :=
  forall_writes_sub_of_map rfl
theorem put0_other (V : Valuation τ sig (Elt F)) {r : Ref sig .tc} (h : r ∉ put0_W) :
    after put0 V (Proc.devRef .tc r) = V (Proc.devRef .tc r) :=
  after_of_writes_sub put0 V put0_writes h

theorem carry0_sub : (carry0 : List (HloOp τ sig (Elt F))).Forall fun op => op.bufs ⊆ tcRefs τ sig :=
  ⟨nullary_bufs_sub .., binary_bufs_sub .., unary_bufs_sub .., unary_bufs_sub .., unary_bufs_sub .., unary_bufs_sub ..⟩
theorem carry0_fresh : (carry0 : List (HloOp τ sig (Elt F))).Forall fun op => op.fresh = ∅ :=
  ⟨rfl, rfl, rfl, rfl, rfl, rfl⟩
abbrev carry0_W : List (Ref sig .tc) := [main_while0b_c_22, main_while0b_v134, main_v14_4, main_v14_5, main_v14_6, main_v14_7]
theorem carry0_writes : (carry0 : List (HloOp τ sig (Elt F))).Forall fun op => op.writes ⊆ (carry0_W.map (Proc.devRef (τ := τ) .tc)).toFinset :=
  forall_writes_sub_of_map rfl
theorem carry0_other (V : Valuation τ sig (Elt F)) {r : Ref sig .tc} (h : r ∉ carry0_W) :
    after carry0 V (Proc.devRef .tc r) = V (Proc.devRef .tc r) :=
  after_of_writes_sub carry0 V carry0_writes h

theorem test1_sub : (test1 : List (HloOp τ sig (Elt F))).Forall fun op => op.bufs ⊆ tcRefs τ sig :=
  ⟨nullary_bufs_sub .., binary_bufs_sub ..⟩
theorem test1_fresh : (test1 : List (HloOp τ sig (Elt F))).Forall fun op => op.fresh = ∅ :=
  ⟨rfl, rfl⟩
abbrev test1_W : List (Ref sig .tc) := [main_while1c_c_16, main_while1c_v98]
theorem test1_writes : (test1 : List (HloOp τ sig (Elt F))).Forall fun op => op.writes ⊆ (test1_W.map (Proc.devRef (τ := τ) .tc)).toFinset :=
  forall_writes_sub_of_map rfl
theorem test1_other (V : Valuation τ sig (Elt F)) {r : Ref sig .tc} (h : r ∉ test1_W) :
    after test1 V (Proc.devRef .tc r) = V (Proc.devRef .tc r) :=
  after_of_writes_sub test1 V test1_writes h

theorem take1_sub : (take1 : List (HloOp τ sig (Elt F))).Forall fun op => op.bufs ⊆ tcRefs τ sig :=
  ⟨nullary_bufs_sub .., nullary_bufs_sub .., nullary_bufs_sub .., unaryIndexed_bufs_sub .., reshape_bufs_sub ..⟩
theorem take1_fresh : (take1 : List (HloOp τ sig (Elt F))).Forall fun op => op.fresh = ∅ :=
  ⟨rfl, rfl, rfl, rfl, rfl⟩
abbrev take1_W : List (Ref sig .tc) := [main_while1b_call2_c, main_while1b_call2_c_0, main_while1b_call2_c_1, main_while1b_call2_v0, main_while1b_v98]
theorem take1_writes : (take1 : List (HloOp τ sig (Elt F))).Forall fun op => op.writes ⊆ (take1_W.map (Proc.devRef (τ := τ) .tc)).toFinset :=
  forall_writes_sub_of_map rfl
theorem take1_other (V : Valuation τ sig (Elt F)) {r : Ref sig .tc} (h : r ∉ take1_W) :
    after take1 V (Proc.devRef .tc r) = V (Proc.devRef .tc r) :=
  after_of_writes_sub take1 V take1_writes h

theorem cell1_sub : (cell1 : List (HloOp τ sig (Elt F))).Forall fun op => op.bufs ⊆ tcRefs τ sig :=
  ⟨binary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩
theorem cell1_fresh : (cell1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
abbrev cell1_W : List (Ref sig .tc) := [main_while1b_v99, main_while1b_v100, main_while1b_v101, main_while1b_v102, main_while1b_v103, main_while1b_v104, main_while1b_v105, main_while1b_v106, main_while1b_v107, main_while1b_v108, main_while1b_v109, main_while1b_v110, main_while1b_cst_16, main_while1b_v111, main_while1b_v112, main_while1b_cst_17, main_while1b_v113, main_while1b_v114, main_while1b_v115, main_while1b_v116, main_while1b_v117, main_while1b_cst_18, main_while1b_v118, main_while1b_v119, main_while1b_cst_19, main_while1b_v120, main_while1b_v121, main_while1b_v122, main_while1b_v123, main_while1b_v124, main_while1b_v125, main_while1b_v126, main_while1b_cst_20, main_while1b_v127, main_while1b_v128, main_while1b_cst_21, main_while1b_v129, main_while1b_v130, main_while1b_v131, main_while1b_v132]
theorem cell1_writes : (cell1 : List (HloOp τ sig (Elt F))).Forall fun op => op.writes ⊆ (cell1_W.map (Proc.devRef (τ := τ) .tc)).toFinset :=
  forall_writes_sub_of_map rfl
theorem cell1_other (V : Valuation τ sig (Elt F)) {r : Ref sig .tc} (h : r ∉ cell1_W) :
    after cell1 V (Proc.devRef .tc r) = V (Proc.devRef .tc r) :=
  after_of_writes_sub cell1 V cell1_writes h

theorem put1_sub : (put1 : List (HloOp τ sig (Elt F))).Forall fun op => op.bufs ⊆ tcRefs τ sig :=
  ⟨unary_bufs_sub .., nullary_bufs_sub .., nullary_bufs_sub .., nullary_bufs_sub .., binaryIndexed_bufs_sub ..⟩
theorem put1_fresh : (put1 : List (HloOp τ sig (Elt F))).Forall fun op => op.fresh = ∅ :=
  ⟨rfl, rfl, rfl, rfl, rfl⟩
abbrev put1_W : List (Ref sig .tc) := [main_while1b_call3_v0, main_while1b_call3_c, main_while1b_call3_c_0, main_while1b_call3_c_1, main_while1b_v133]
theorem put1_writes : (put1 : List (HloOp τ sig (Elt F))).Forall fun op => op.writes ⊆ (put1_W.map (Proc.devRef (τ := τ) .tc)).toFinset :=
  forall_writes_sub_of_map rfl
theorem put1_other (V : Valuation τ sig (Elt F)) {r : Ref sig .tc} (h : r ∉ put1_W) :
    after put1 V (Proc.devRef .tc r) = V (Proc.devRef .tc r) :=
  after_of_writes_sub put1 V put1_writes h

theorem carry1_sub : (carry1 : List (HloOp τ sig (Elt F))).Forall fun op => op.bufs ⊆ tcRefs τ sig :=
  ⟨nullary_bufs_sub .., binary_bufs_sub .., unary_bufs_sub .., unary_bufs_sub .., unary_bufs_sub .., unary_bufs_sub ..⟩
theorem carry1_fresh : (carry1 : List (HloOp τ sig (Elt F))).Forall fun op => op.fresh = ∅ :=
  ⟨rfl, rfl, rfl, rfl, rfl, rfl⟩
abbrev carry1_W : List (Ref sig .tc) := [main_while1b_c_22, main_while1b_v134, main_v33_4, main_v33_5, main_v33_6, main_v33_7]
theorem carry1_writes : (carry1 : List (HloOp τ sig (Elt F))).Forall fun op => op.writes ⊆ (carry1_W.map (Proc.devRef (τ := τ) .tc)).toFinset :=
  forall_writes_sub_of_map rfl
theorem carry1_other (V : Valuation τ sig (Elt F)) {r : Ref sig .tc} (h : r ∉ carry1_W) :
    after carry1 V (Proc.devRef .tc r) = V (Proc.devRef .tc r) :=
  after_of_writes_sub carry1 V carry1_writes h

theorem test2_sub : (test2 : List (HloOp τ sig (Elt F))).Forall fun op => op.bufs ⊆ tcRefs τ sig :=
  ⟨nullary_bufs_sub .., binary_bufs_sub ..⟩
theorem test2_fresh : (test2 : List (HloOp τ sig (Elt F))).Forall fun op => op.fresh = ∅ :=
  ⟨rfl, rfl⟩
abbrev test2_W : List (Ref sig .tc) := [main_while2c_c_16, main_while2c_v98]
theorem test2_writes : (test2 : List (HloOp τ sig (Elt F))).Forall fun op => op.writes ⊆ (test2_W.map (Proc.devRef (τ := τ) .tc)).toFinset :=
  forall_writes_sub_of_map rfl
theorem test2_other (V : Valuation τ sig (Elt F)) {r : Ref sig .tc} (h : r ∉ test2_W) :
    after test2 V (Proc.devRef .tc r) = V (Proc.devRef .tc r) :=
  after_of_writes_sub test2 V test2_writes h

theorem take2_sub : (take2 : List (HloOp τ sig (Elt F))).Forall fun op => op.bufs ⊆ tcRefs τ sig :=
  ⟨nullary_bufs_sub .., nullary_bufs_sub .., nullary_bufs_sub .., unaryIndexed_bufs_sub .., reshape_bufs_sub ..⟩
theorem take2_fresh : (take2 : List (HloOp τ sig (Elt F))).Forall fun op => op.fresh = ∅ :=
  ⟨rfl, rfl, rfl, rfl, rfl⟩
abbrev take2_W : List (Ref sig .tc) := [main_while2b_call4_c, main_while2b_call4_c_0, main_while2b_call4_c_1, main_while2b_call4_v0, main_while2b_v98]
theorem take2_writes : (take2 : List (HloOp τ sig (Elt F))).Forall fun op => op.writes ⊆ (take2_W.map (Proc.devRef (τ := τ) .tc)).toFinset :=
  forall_writes_sub_of_map rfl
theorem take2_other (V : Valuation τ sig (Elt F)) {r : Ref sig .tc} (h : r ∉ take2_W) :
    after take2 V (Proc.devRef .tc r) = V (Proc.devRef .tc r) :=
  after_of_writes_sub take2 V take2_writes h

theorem cell2_sub : (cell2 : List (HloOp τ sig (Elt F))).Forall fun op => op.bufs ⊆ tcRefs τ sig :=
  ⟨binary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩
theorem cell2_fresh : (cell2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
abbrev cell2_W : List (Ref sig .tc) := [main_while2b_v99, main_while2b_v100, main_while2b_v101, main_while2b_v102, main_while2b_v103, main_while2b_v104, main_while2b_v105, main_while2b_v106, main_while2b_v107, main_while2b_v108, main_while2b_v109, main_while2b_v110, main_while2b_cst_16, main_while2b_v111, main_while2b_v112, main_while2b_cst_17, main_while2b_v113, main_while2b_v114, main_while2b_v115, main_while2b_v116, main_while2b_v117, main_while2b_cst_18, main_while2b_v118, main_while2b_v119, main_while2b_cst_19, main_while2b_v120, main_while2b_v121, main_while2b_v122, main_while2b_v123, main_while2b_v124, main_while2b_v125, main_while2b_v126, main_while2b_cst_20, main_while2b_v127, main_while2b_v128, main_while2b_cst_21, main_while2b_v129, main_while2b_v130, main_while2b_v131, main_while2b_v132]
theorem cell2_writes : (cell2 : List (HloOp τ sig (Elt F))).Forall fun op => op.writes ⊆ (cell2_W.map (Proc.devRef (τ := τ) .tc)).toFinset :=
  forall_writes_sub_of_map rfl
theorem cell2_other (V : Valuation τ sig (Elt F)) {r : Ref sig .tc} (h : r ∉ cell2_W) :
    after cell2 V (Proc.devRef .tc r) = V (Proc.devRef .tc r) :=
  after_of_writes_sub cell2 V cell2_writes h

theorem put2_sub : (put2 : List (HloOp τ sig (Elt F))).Forall fun op => op.bufs ⊆ tcRefs τ sig :=
  ⟨unary_bufs_sub .., nullary_bufs_sub .., nullary_bufs_sub .., nullary_bufs_sub .., binaryIndexed_bufs_sub ..⟩
theorem put2_fresh : (put2 : List (HloOp τ sig (Elt F))).Forall fun op => op.fresh = ∅ :=
  ⟨rfl, rfl, rfl, rfl, rfl⟩
abbrev put2_W : List (Ref sig .tc) := [main_while2b_call5_v0, main_while2b_call5_c, main_while2b_call5_c_0, main_while2b_call5_c_1, main_while2b_v133]
theorem put2_writes : (put2 : List (HloOp τ sig (Elt F))).Forall fun op => op.writes ⊆ (put2_W.map (Proc.devRef (τ := τ) .tc)).toFinset :=
  forall_writes_sub_of_map rfl
theorem put2_other (V : Valuation τ sig (Elt F)) {r : Ref sig .tc} (h : r ∉ put2_W) :
    after put2 V (Proc.devRef .tc r) = V (Proc.devRef .tc r) :=
  after_of_writes_sub put2 V put2_writes h

theorem carry2_sub : (carry2 : List (HloOp τ sig (Elt F))).Forall fun op => op.bufs ⊆ tcRefs τ sig :=
  ⟨nullary_bufs_sub .., binary_bufs_sub .., unary_bufs_sub .., unary_bufs_sub .., unary_bufs_sub .., unary_bufs_sub ..⟩
theorem carry2_fresh : (carry2 : List (HloOp τ sig (Elt F))).Forall fun op => op.fresh = ∅ :=
  ⟨rfl, rfl, rfl, rfl, rfl, rfl⟩
abbrev carry2_W : List (Ref sig .tc) := [main_while2b_c_22, main_while2b_v134, main_v52_4, main_v52_5, main_v52_6, main_v52_7]
theorem carry2_writes : (carry2 : List (HloOp τ sig (Elt F))).Forall fun op => op.writes ⊆ (carry2_W.map (Proc.devRef (τ := τ) .tc)).toFinset :=
  forall_writes_sub_of_map rfl
theorem carry2_other (V : Valuation τ sig (Elt F)) {r : Ref sig .tc} (h : r ∉ carry2_W) :
    after carry2 V (Proc.devRef .tc r) = V (Proc.devRef .tc r) :=
  after_of_writes_sub carry2 V carry2_writes h

abbrev items0 : List (List (HloOp τ sig (Elt F))) := [pre0]
theorem items0_plain : Plain (items0 (F := F)) := (.cons pre0_sub .nil (List.forall_iff_forall_mem.mp pre0_fresh))
abbrev items1 : List (List (HloOp τ sig (Elt F))) := [pre1]
theorem items1_plain : Plain (items1 (F := F)) := (.cons pre1_sub .nil (List.forall_iff_forall_mem.mp pre1_fresh))
abbrev items2 : List (List (HloOp τ sig (Elt F))) := [pre2a, pre2b]
theorem items2_plain : Plain (items2 (F := F)) := (.cons pre2a_sub (.cons pre2b_sub .nil (List.forall_iff_forall_mem.mp pre2b_fresh)) (List.forall_iff_forall_mem.mp pre2a_fresh))
abbrev itemsE : List (List (HloOp τ sig (Elt F))) := [posta, postb]
theorem itemsE_plain : Plain (itemsE (F := F)) := (.cons posta_sub (.cons postb_sub .nil (List.forall_iff_forall_mem.mp postb_fresh)) (List.forall_iff_forall_mem.mp posta_fresh))
abbrev trip0 : List (List (HloOp τ sig (Elt F))) := [take0, cell0, put0, carry0]
theorem trip0_plain : Plain (trip0 (F := F)) := (.cons take0_sub (.cons cell0_sub (.cons put0_sub (.cons carry0_sub .nil (List.forall_iff_forall_mem.mp carry0_fresh)) (List.forall_iff_forall_mem.mp put0_fresh)) (List.forall_iff_forall_mem.mp cell0_fresh)) (List.forall_iff_forall_mem.mp take0_fresh))
theorem body0_eq : main_while0_body (F := F) = Pipeline.chain (trip0.map fun ops => (seq ops : Prog _ PUnit)) := by
  chain_rfl

abbrev trip1 : List (List (HloOp τ sig (Elt F))) := [take1, cell1, put1, carry1]
theorem trip1_plain : Plain (trip1 (F := F)) := (.cons take1_sub (.cons cell1_sub (.cons put1_sub (.cons carry1_sub .nil (List.forall_iff_forall_mem.mp carry1_fresh)) (List.forall_iff_forall_mem.mp put1_fresh)) (List.forall_iff_forall_mem.mp cell1_fresh)) (List.forall_iff_forall_mem.mp take1_fresh))
theorem body1_eq : main_while1_body (F := F) = Pipeline.chain (trip1.map fun ops => (seq ops : Prog _ PUnit)) := by
  chain_rfl

abbrev trip2 : List (List (HloOp τ sig (Elt F))) := [take2, cell2, put2, carry2]
theorem trip2_plain : Plain (trip2 (F := F)) := (.cons take2_sub (.cons cell2_sub (.cons put2_sub (.cons carry2_sub .nil (List.forall_iff_forall_mem.mp carry2_fresh)) (List.forall_iff_forall_mem.mp put2_fresh)) (List.forall_iff_forall_mem.mp cell2_fresh)) (List.forall_iff_forall_mem.mp take2_fresh))
theorem body2_eq : main_while2_body (F := F) = Pipeline.chain (trip2.map fun ops => (seq ops : Prog _ PUnit)) := by
  chain_rfl

theorem main_eq (c : Dev nD) : main (F := F) c
    = Pipeline.chain ((items0.map fun ops => (seq ops : Prog _ PUnit)) ++ (HostLoop.enter 0 :: ((items1.map fun ops => (seq ops : Prog _ PUnit))
      ++ (HostLoop.enter 1 :: ((items2.map fun ops => (seq ops : Prog _ PUnit)) ++ (HostLoop.enter 2 :: (itemsE.map fun ops => (seq ops : Prog _ PUnit)))))))) := by
  chain_rfl

/-! ## The counters -/

section Loop0

theorem trip0_cut (V : Valuation τ sig (Elt F)) : afterL trip0 V = after carry0 (after put0 (after cell0 (after take0 V))) := rfl

theorem carry0_counter (V : Valuation τ sig (Elt F)) :
    after carry0 V (Proc.devRef .tc main_v14_4) = addi (V (Proc.devRef .tc main_v14_4)) (constantI S_ 32 1#32) := by
  after_reads_simp; rfl

/-- What no trip writes. -/
abbrev kept0 (r : Ref sig .tc) : Prop := r ∉ test0_W ∧ r ∉ take0_W ∧ r ∉ cell0_W ∧ r ∉ put0_W ∧ r ∉ carry0_W

theorem trip0_other (V : Valuation τ sig (Elt F)) {r : Ref sig .tc} (h : kept0 r) : afterL trip0 V (Proc.devRef .tc r) = V (Proc.devRef .tc r) := by
  rw [trip0_cut, carry0_other _ h.2.2.2.2, put0_other _ h.2.2.2.1, cell0_other _ h.2.2.1, take0_other _ h.2.1]

variable (E : Dev nD → Valuation τ sig (Elt F))

/-- The buffers before each run of the test. -/
abbrev at0 (k : ℕ) (c : Dev nD) : Valuation τ sig (Elt F) := atTrip test0 trip0 E k c

theorem at0_kept (c : Dev nD) {r : Ref sig .tc} (h : kept0 r) : ∀ k, at0 E k c (Proc.devRef .tc r) = E c (Proc.devRef .tc r)
  | 0 => rfl
  | k + 1 => by
    show afterL trip0 (after test0 (at0 E k c)) _ = _
    rw [trip0_other _ h, test0_other _ h.1]
    exact at0_kept c h k

variable (h0 : ∀ c, E c (Proc.devRef .tc main_v14_4) = constantI S_ 32 0#32)
include h0

theorem at0_counter (c : Dev nD) : ∀ k, at0 E k c (Proc.devRef .tc main_v14_4) = fun _ => Scf.iv 0#32 1#32 k
  | 0 => by
    refine (h0 c).trans ?_
    funext i
    exact (Scf.iv_zero (lb := 0#32) (st := 1#32)).symm
  | k + 1 => by
    show afterL trip0 (after test0 (at0 E k c)) _ = _
    rw [trip0_cut, carry0_counter, put0_other _ (by decide), cell0_other _ (by decide), take0_other _ (by decide), test0_other _ (by decide), at0_counter c k]
    funext i
    exact (Scf.iv_succ (lb := 0#32) (st := 1#32) k).symm

set_option backward.isDefEq.respectTransparency.types false in
theorem test0_spec : LoopCond (Ix := Unit) (Name := ℕ) (U := Option PUnit) (Lvl := ℕ) (pcfgs (F := F)) defs₀ Variants.none loops
    (fun c => iprop(∃ W, owes (c : Thread nD τ) (0 : CellTallies nD τ sig Unit) W)) (main_while0_cond (F := F)) test0 trip0 E 128 := by
  intro k hk c bd
  have hctr := at0_counter E h0 c k
  unfold main_while0_cond
  simp only [bind_pure]
  rw [wp_bind]
  iintro ⟨Hb, Hh, HR⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 E k c) main_v14_4 HostLoop.idx0)
        (HloOp.result _ (at0 E k c) main_while0c_c_16 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  isplitl [Hh]; · rw [after_cons, after_cons, after_nil]; iexact Hh
  iexact HR

end Loop0

section Loop1

theorem trip1_cut (V : Valuation τ sig (Elt F)) : afterL trip1 V = after carry1 (after put1 (after cell1 (after take1 V))) := rfl

theorem carry1_counter (V : Valuation τ sig (Elt F)) :
    after carry1 V (Proc.devRef .tc main_v33_4) = addi (V (Proc.devRef .tc main_v33_4)) (constantI S_ 32 1#32) := by
  after_reads_simp; rfl

/-- What no trip writes. -/
abbrev kept1 (r : Ref sig .tc) : Prop := r ∉ test1_W ∧ r ∉ take1_W ∧ r ∉ cell1_W ∧ r ∉ put1_W ∧ r ∉ carry1_W

theorem trip1_other (V : Valuation τ sig (Elt F)) {r : Ref sig .tc} (h : kept1 r) : afterL trip1 V (Proc.devRef .tc r) = V (Proc.devRef .tc r) := by
  rw [trip1_cut, carry1_other _ h.2.2.2.2, put1_other _ h.2.2.2.1, cell1_other _ h.2.2.1, take1_other _ h.2.1]

variable (E : Dev nD → Valuation τ sig (Elt F))

/-- The buffers before each run of the test. -/
abbrev at1 (k : ℕ) (c : Dev nD) : Valuation τ sig (Elt F) := atTrip test1 trip1 E k c

theorem at1_kept (c : Dev nD) {r : Ref sig .tc} (h : kept1 r) : ∀ k, at1 E k c (Proc.devRef .tc r) = E c (Proc.devRef .tc r)
  | 0 => rfl
  | k + 1 => by
    show afterL trip1 (after test1 (at1 E k c)) _ = _
    rw [trip1_other _ h, test1_other _ h.1]
    exact at1_kept c h k

variable (h0 : ∀ c, E c (Proc.devRef .tc main_v33_4) = constantI S_ 32 0#32)
include h0

theorem at1_counter (c : Dev nD) : ∀ k, at1 E k c (Proc.devRef .tc main_v33_4) = fun _ => Scf.iv 0#32 1#32 k
  | 0 => by
    refine (h0 c).trans ?_
    funext i
    exact (Scf.iv_zero (lb := 0#32) (st := 1#32)).symm
  | k + 1 => by
    show afterL trip1 (after test1 (at1 E k c)) _ = _
    rw [trip1_cut, carry1_counter, put1_other _ (by decide), cell1_other _ (by decide), take1_other _ (by decide), test1_other _ (by decide), at1_counter c k]
    funext i
    exact (Scf.iv_succ (lb := 0#32) (st := 1#32) k).symm

set_option backward.isDefEq.respectTransparency.types false in
theorem test1_spec : LoopCond (Ix := Unit) (Name := ℕ) (U := Option PUnit) (Lvl := ℕ) (pcfgs (F := F)) defs₀ Variants.none loops
    (fun c => iprop(∃ W, owes (c : Thread nD τ) (0 : CellTallies nD τ sig Unit) W)) (main_while1_cond (F := F)) test1 trip1 E 128 := by
  intro k hk c bd
  have hctr := at1_counter E h0 c k
  unfold main_while1_cond
  simp only [bind_pure]
  rw [wp_bind]
  iintro ⟨Hb, Hh, HR⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 E k c) main_v33_4 HostLoop.idx0)
        (HloOp.result _ (at1 E k c) main_while1c_c_16 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  isplitl [Hh]; · rw [after_cons, after_cons, after_nil]; iexact Hh
  iexact HR

end Loop1

section Loop2

theorem trip2_cut (V : Valuation τ sig (Elt F)) : afterL trip2 V = after carry2 (after put2 (after cell2 (after take2 V))) := rfl

theorem carry2_counter (V : Valuation τ sig (Elt F)) :
    after carry2 V (Proc.devRef .tc main_v52_4) = addi (V (Proc.devRef .tc main_v52_4)) (constantI S_ 32 1#32) := by
  after_reads_simp; rfl

/-- What no trip writes. -/
abbrev kept2 (r : Ref sig .tc) : Prop := r ∉ test2_W ∧ r ∉ take2_W ∧ r ∉ cell2_W ∧ r ∉ put2_W ∧ r ∉ carry2_W

theorem trip2_other (V : Valuation τ sig (Elt F)) {r : Ref sig .tc} (h : kept2 r) : afterL trip2 V (Proc.devRef .tc r) = V (Proc.devRef .tc r) := by
  rw [trip2_cut, carry2_other _ h.2.2.2.2, put2_other _ h.2.2.2.1, cell2_other _ h.2.2.1, take2_other _ h.2.1]

variable (E : Dev nD → Valuation τ sig (Elt F))

/-- The buffers before each run of the test. -/
abbrev at2 (k : ℕ) (c : Dev nD) : Valuation τ sig (Elt F) := atTrip test2 trip2 E k c

theorem at2_kept (c : Dev nD) {r : Ref sig .tc} (h : kept2 r) : ∀ k, at2 E k c (Proc.devRef .tc r) = E c (Proc.devRef .tc r)
  | 0 => rfl
  | k + 1 => by
    show afterL trip2 (after test2 (at2 E k c)) _ = _
    rw [trip2_other _ h, test2_other _ h.1]
    exact at2_kept c h k

variable (h0 : ∀ c, E c (Proc.devRef .tc main_v52_4) = constantI S_ 32 0#32)
include h0

theorem at2_counter (c : Dev nD) : ∀ k, at2 E k c (Proc.devRef .tc main_v52_4) = fun _ => Scf.iv 0#32 1#32 k
  | 0 => by
    refine (h0 c).trans ?_
    funext i
    exact (Scf.iv_zero (lb := 0#32) (st := 1#32)).symm
  | k + 1 => by
    show afterL trip2 (after test2 (at2 E k c)) _ = _
    rw [trip2_cut, carry2_counter, put2_other _ (by decide), cell2_other _ (by decide), take2_other _ (by decide), test2_other _ (by decide), at2_counter c k]
    funext i
    exact (Scf.iv_succ (lb := 0#32) (st := 1#32) k).symm

set_option backward.isDefEq.respectTransparency.types false in
theorem test2_spec : LoopCond (Ix := Unit) (Name := ℕ) (U := Option PUnit) (Lvl := ℕ) (pcfgs (F := F)) defs₀ Variants.none loops
    (fun c => iprop(∃ W, owes (c : Thread nD τ) (0 : CellTallies nD τ sig Unit) W)) (main_while2_cond (F := F)) test2 trip2 E 128 := by
  intro k hk c bd
  have hctr := at2_counter E h0 c k
  unfold main_while2_cond
  simp only [bind_pure]
  rw [wp_bind]
  iintro ⟨Hb, Hh, HR⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at2 E k c) main_v52_4 HostLoop.idx0)
        (HloOp.result _ (at2 E k c) main_while2c_c_16 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  isplitl [Hh]; · rw [after_cons, after_cons, after_nil]; iexact Hh
  iexact HR

end Loop2

/-! ## The run -/

variable (m : (ℓ : Loc nD τ sig) → Buf (Elt F) ℓ)

/-- The buffers when each loop is entered, and when it is left. -/
abbrev ent0 (c : Dev nD) : Valuation τ sig (Elt F) := afterL items0 (launchContents m c)
abbrev lft0 (c : Dev nD) : Valuation τ sig (Elt F) := after test0 (at0 (ent0 m) 128 c)
abbrev ent1 (c : Dev nD) : Valuation τ sig (Elt F) := afterL items1 (lft0 m c)
abbrev lft1 (c : Dev nD) : Valuation τ sig (Elt F) := after test1 (at1 (ent1 m) 128 c)
abbrev ent2 (c : Dev nD) : Valuation τ sig (Elt F) := afterL items2 (lft1 m c)
abbrev lft2 (c : Dev nD) : Valuation τ sig (Elt F) := after test2 (at2 (ent2 m) 128 c)

/-- The buffers at the end. -/
abbrev fin (c : Dev nD) : Valuation τ sig (Elt F) := afterL itemsE (lft2 m c)

theorem pre0_counter (V : Valuation τ sig (Elt F)) : after pre0 V (Proc.devRef .tc main_v14_4) = constantI S_ 32 0#32 := by
  after_reads_simp; rfl
theorem pre1_counter (V : Valuation τ sig (Elt F)) : after pre1 V (Proc.devRef .tc main_v33_4) = constantI S_ 32 0#32 := by
  after_reads_simp; rfl
theorem pre2b_counter (V : Valuation τ sig (Elt F)) : after pre2b V (Proc.devRef .tc main_v52_4) = constantI S_ 32 0#32 := by
  after_reads_simp; rfl

theorem ent0_counter (c : Dev nD) : ent0 m c (Proc.devRef .tc main_v14_4) = constantI S_ 32 0#32 := pre0_counter _
theorem ent1_counter (c : Dev nD) : ent1 m c (Proc.devRef .tc main_v33_4) = constantI S_ 32 0#32 := pre1_counter _
theorem ent2_counter (c : Dev nD) : ent2 m c (Proc.devRef .tc main_v52_4) = constantI S_ 32 0#32 := pre2b_counter (after pre2a (lft1 m c))

abbrev noAdm : (p : Fin 0) → (pcfgs (F := F) p).Adm := fun p => p.elim0
abbrev noTickets : Fin 0 → Ticket (Ix := Unit) (Name := ℕ) (U := Option PUnit) (Lvl := ℕ) (nD := nD) (τ := τ) (pcfgs (F := F)) noAdm := fun j => j.elim0
abbrev noLabels : GSem nD τ sig → Finset Unit := fun _ => ∅
abbrev noLevels : GSem nD τ sig → Unit → ℕ := fun _ _ => 0

/-- What each core carries beside its buffers. -/
abbrev carried (c : Dev nD) : sProp (MT nD τ sig Unit (Elt F) ℕ (Option PUnit) ℕ) := iprop(∃ W, owes (c : Thread nD τ) (0 : CellTallies nD τ sig Unit) W)

/-- The program’s segments in order. -/
def segments : List (CSeg (pcfgs (F := F)) noAdm defs₀ Variants.none noLabels noLevels loops noTickets) :=
  segsOf _ _ _ _ _ _ _ _ carried items0 items0_plain (launchContents m)
    ++ (loopSeg _ _ _ _ _ _ _ _ 0 main_while0_cond main_while0_body rfl test0 trip0 trip0_plain body0_eq 128 (ent0 m) carried (test0_spec (ent0 m) (ent0_counter m))
    :: (segsOf _ _ _ _ _ _ _ _ carried items1 items1_plain (lft0 m)
    ++ (loopSeg _ _ _ _ _ _ _ _ 1 main_while1_cond main_while1_body rfl test1 trip1 trip1_plain body1_eq 128 (ent1 m) carried (test1_spec (ent1 m) (ent1_counter m))
    :: (segsOf _ _ _ _ _ _ _ _ carried items2 items2_plain (lft1 m)
    ++ (loopSeg _ _ _ _ _ _ _ _ 2 main_while2_cond main_while2_body rfl test2 trip2 trip2_plain body2_eq 128 (ent2 m) carried (test2_spec (ent2 m) (ent2_counter m))
    :: segsOf _ _ _ _ _ _ _ _ carried itemsE itemsE_plain (lft2 m))))))

theorem segments_prog : (segments m).map CSeg.prog
    = (items0.map fun ops => (seq ops : Prog _ PUnit)) ++ (HostLoop.enter 0 :: ((items1.map fun ops => (seq ops : Prog _ PUnit))
      ++ (HostLoop.enter 1 :: ((items2.map fun ops => (seq ops : Prog _ PUnit)) ++ (HostLoop.enter 2 :: (itemsE.map fun ops => (seq ops : Prog _ PUnit))))))) := by
  unfold segments
  rw [List.map_append, List.map_cons, List.map_append, List.map_cons, List.map_append, List.map_cons, segsOf_prog, segsOf_prog, segsOf_prog, segsOf_prog]
  rfl

theorem segments_chain : CSeg.Chains (fun c => iprop(held (c : Thread nD τ) (ucRefs τ sig) (launchContents m c) ∗ carried c)) (segments m)
    (fun c => iprop(iprop(held (c : Thread nD τ) (ucRefs τ sig) (fin m c)) ∗ ∃ W, owes (c : Thread nD τ) (0 : CellTallies nD τ sig Unit) W)) := by
  unfold segments
  exact CSeg.Chains.append (segsOf_chains _ _ _ _ _ _ _ _ carried items0 items0_plain _) ⟨fun _ => .rfl,
    CSeg.Chains.append (segsOf_chains _ _ _ _ _ _ _ _ carried items1 items1_plain _) ⟨fun _ => .rfl,
    CSeg.Chains.append (segsOf_chains _ _ _ _ _ _ _ _ carried items2 items2_plain _) ⟨fun _ => .rfl,
    segsOf_chains _ _ _ _ _ _ _ _ carried itemsE itemsE_plain _⟩⟩⟩

/-- The run: every buffer ends at `fin`. -/
theorem run [∀ e, Nonempty (Elt F e)] (ρ : Dev nD → PrngReg) :
    θ_run defs (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = fin m c (Proc.devRef .tc b)) :=
  Pipeline.θ_run_regions_loop_kit (Ix := Unit) (Name := ℕ) (U := Option PUnit) (Lvl := ℕ) (J := Fin 0) (P := Fin 0) (Val := Elt F)
    pcfgs noAdm (fun k => k.1.elim0) defs₀ Variants.none noLabels noLevels loops noTickets m ρ main (segments m)
    (fun c Q => by
      rw [main_eq c]
      show wp _ _ _ (Pipeline.chain ((segments m).map CSeg.prog)) Q ⊢ _
      rw [segments_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ carried c))
    (Tₙ := fun c => iprop(held (c : Thread nD τ) (ucRefs τ sig) (fin m c)))
    (hch := segments_chain m)
    (hinit := by
      refine Pipeline.initEach noLabels noLevels fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = fin m c b)
    (hfin := fun c s' => by
      unfold held
      iintro ⟨Hh, HSI⟩
      ihave Hr := (pointsTo_read_all (ucRefs τ sig) (fun b => ((c : Dev nD), b)) (fun b => fin m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-! ## What is kept -/

theorem ent1_kept (c : Dev nD) {r : Ref sig .tc} (h : kept0 r ∧ r ∉ pre1_W) : ent1 m c (Proc.devRef .tc r) = ent0 m c (Proc.devRef .tc r) := by
  show after pre1 (after test0 _) _ = _
  rw [pre1_other _ h.2, test0_other _ h.1.1, at0_kept _ c h.1]

theorem lft1_kept (c : Dev nD) {r : Ref sig .tc} (h : kept1 r ∧ r ∉ pre1_W) : lft1 m c (Proc.devRef .tc r) = lft0 m c (Proc.devRef .tc r) := by
  show after test1 _ _ = _
  rw [test1_other _ h.1.1, at1_kept _ c h.1]
  exact pre1_other _ h.2

theorem lft2_kept (c : Dev nD) {r : Ref sig .tc} (h : kept2 r ∧ r ∉ pre2a_W ∧ r ∉ pre2b_W) : lft2 m c (Proc.devRef .tc r) = lft1 m c (Proc.devRef .tc r) := by
  show after test2 _ _ = _
  rw [test2_other _ h.1.1, at2_kept _ c h.1]
  exact (pre2b_other _ h.2.2).trans (pre2a_other _ h.2.1)

theorem lft0_kept (c : Dev nD) {r : Ref sig .tc} (h : kept0 r ∧ r ∉ pre0_W) : lft0 m c (Proc.devRef .tc r) = m ((c.tc : Thread nD τ).loc r) := by
  show after test0 _ _ = _
  rw [test0_other _ h.1.1, at0_kept _ c h.1]
  exact pre0_other (F := F) _ h.2

/-- An array no list writes ends as it began. -/
theorem fin_kept (c : Dev nD) {r : Ref sig .tc} (h0 : kept0 r ∧ r ∉ pre0_W) (h1 : kept1 r ∧ r ∉ pre1_W) (h2 : kept2 r ∧ r ∉ pre2a_W ∧ r ∉ pre2b_W)
    (h3 : r ∉ posta_W ∧ r ∉ postb_W) : fin m c (Proc.devRef .tc r) = m ((c.tc : Thread nD τ).loc r) :=
  (postb_other _ h3.2).trans ((posta_other _ h3.1).trans ((lft2_kept m c h2).trans ((lft1_kept m c h1).trans (lft0_kept m c h0))))

end Cert.EncoderReferenceIdeal.Run
-- ==== Proof.EncoderReferenceValues.lean ====
/-
  The encoder's reference as values: one trip of a layer's loop as functions of what it is given, the outputs after the
  hundred and twenty-eight trips, and what one layer hands the next.
-/
module

public import proofs.«01_k».proof.Proof.EncoderReference
public import Idealize.ShloMosaic.Lib.Pointwise
public import Idealize.ShloMosaic.Lib.DynamicIndex
public import Idealize.ShloMosaic.Lib.Pipeline.Value

@[expose] public section

set_option maxRecDepth 16384

noncomputable section

namespace Cert.EncoderReferenceIdeal.Values

open Cert.EncoderReferenceIdeal Cert.EncoderReferenceIdeal.Gen Cert.EncoderReferenceIdeal.Run
open Idealize.ShloMosaic Idealize.ShloMosaic.TcCoe Idealize.ShloMosaic.StableHlo
open Idealize.SL.Sem

variable {F : FTy → Type} [FloatOps F]

/-! ## One trip -/

/-- The hidden and the cell vectors of the two directions. -/
abbrev Sts (F : FTy → Type) : Type := Vec F S2x32x256 .f32 × Vec F S2x32x256 .f32

def bias (b : Vec F S2x1024 .f32) : Vec F S2x32x1024 .f32 :=
  broadcastInDim S2x32x1024 ![0, 1, 2] bcast_S2x1x1024_S2x32x1024_0_1_2 (broadcastInDim S2x1x1024 ![0, 2] bcast_S2x1024_S2x1x1024_0_2 b)

/-- The sigmoid. -/
def sigm (x : Vec F S2x32x256 .f32) : Vec F S2x32x256 .f32 :=
  Host.divf (broadcastInDim S2x32x256 ![] bcast_S_S2x32x256 (constant S_ .f32 0x3F800000#32))
    (addf (broadcastInDim S2x32x256 ![] bcast_S_S2x32x256 (constant S_ .f32 0x3F800000#32)) (Host.exp (Host.negf x)))

/-- The new cell and hidden vectors from the gates. -/
def inner (g : Vec F S2x32x1024 .f32) (cc : Vec F S2x32x256 .f32) : Vec F S2x32x256 .f32 :=
  addf (mulf (sigm (extractStridedSlice S2x32x256 ![0, 0, 256] g slices_S2x32x1024_S2x32x256_0_0_256)) cc)
    (mulf (sigm (extractStridedSlice S2x32x256 ![0, 0, 0] g slices_S2x32x1024_S2x32x256_0_0_0))
      (Host.tanh (extractStridedSlice S2x32x256 ![0, 0, 512] g slices_S2x32x1024_S2x32x256_0_0_512)))
def outer (g : Vec F S2x32x1024 .f32) (cc : Vec F S2x32x256 .f32) : Vec F S2x32x256 .f32 :=
  mulf (sigm (extractStridedSlice S2x32x256 ![0, 0, 768] g slices_S2x32x1024_S2x32x256_0_0_768)) (Host.tanh (inner g cc))

/-- The counter before trip `n`. -/
def count (n : ℕ) : Vec F S_ .i32 := fun _ => Scf.iv 0#32 1#32 n

abbrev starts (k : Vec F S_ .i32) : Fin 4 → Int := fun a => ((![k, constantI S_ 32 0#32, constantI S_ 32 0#32, constantI S_ 32 0#32] : Fin 4 → Vec F S_ .i32) a (Shape.Idx.first h_S_)).toInt

/-- The outputs with trip `k`'s written. -/
def written (o : Vec F S128x2x32x256 .f32) (x : Vec F S2x32x256 .f32) (k : Vec F S_ .i32) : Vec F S128x2x32x256 .f32 :=
  Host.dynamicUpdateSlice o (broadcastInDim S1x2x32x256 ![1, 2, 3] bcast_S2x32x256_S1x2x32x256_1_2_3 x) (starts k) updateFits_S128x2x32x256_S1x2x32x256

/-- Trip `k`'s inputs, its gates, and what it makes. -/
def taken256 (xs : Vec F S128x2x32x256 .f32) (k : Vec F S_ .i32) : Vec F S2x32x256 .f32 :=
  shapeCast S2x32x256 (Host.dynamicSlice S1x2x32x256 xs (starts k) sliceFits_S128x2x32x256_S1x2x32x256) shapeCasts_S1x2x32x256_S2x32x256
def gates256 (x : Vec F S2x32x256 .f32) (h : Vec F S2x32x256 .f32) (w : Vec F S2x1024x256 .f32) (u : Vec F S2x1024x256 .f32) (b : Vec F S2x1024 .f32) : Vec F S2x32x1024 .f32 :=
  addf (addf (Host.dotGeneral dot_S2x32x256_S2x1024x256_S2x32x1024_2_2_1_1_0_0 none x w)
    (Host.dotGeneral dot_S2x32x256_S2x1024x256_S2x32x1024_2_2_1_1_0_0 none h u)) (bias b)
def next256 (xs : Vec F S128x2x32x256 .f32) (w : Vec F S2x1024x256 .f32) (u : Vec F S2x1024x256 .f32) (b : Vec F S2x1024 .f32) (k : Vec F S_ .i32) (s : Sts F) : Sts F :=
  (outer (gates256 (taken256 xs k) s.1 w u b) s.2, inner (gates256 (taken256 xs k) s.1 w u b) s.2)
/-- The vectors before trip `n`. -/
def sts256 (xs : Vec F S128x2x32x256 .f32) (w : Vec F S2x1024x256 .f32) (u : Vec F S2x1024x256 .f32) (b : Vec F S2x1024 .f32) (s : Sts F) : ℕ → Sts F
  | 0 => s
  | n + 1 => next256 xs w u b (count n) (sts256 xs w u b s n)
/-- A sequence and its reverse. -/
def both256 (s : Vec F S128x32x256 .f32) : Vec F S128x2x32x256 .f32 :=
  concatenate S128x2x32x256 1 [⟨S128x1x32x256, broadcastInDim S128x1x32x256 ![0, 2, 3] bcast_S128x32x256_S128x1x32x256_0_2_3 s⟩,
    ⟨S128x1x32x256, broadcastInDim S128x1x32x256 ![0, 2, 3] bcast_S128x32x256_S128x1x32x256_0_2_3 (Host.reverse [0] s)⟩] concatenates_S128x1x32x256_S128x1x32x256_S128x2x32x256_d1

/-- Trip `k`'s inputs, its gates, and what it makes. -/
def taken512 (xs : Vec F S128x2x32x512 .f32) (k : Vec F S_ .i32) : Vec F S2x32x512 .f32 :=
  shapeCast S2x32x512 (Host.dynamicSlice S1x2x32x512 xs (starts k) sliceFits_S128x2x32x512_S1x2x32x512) shapeCasts_S1x2x32x512_S2x32x512
def gates512 (x : Vec F S2x32x512 .f32) (h : Vec F S2x32x256 .f32) (w : Vec F S2x1024x512 .f32) (u : Vec F S2x1024x256 .f32) (b : Vec F S2x1024 .f32) : Vec F S2x32x1024 .f32 :=
  addf (addf (Host.dotGeneral dot_S2x32x512_S2x1024x512_S2x32x1024_2_2_1_1_0_0 none x w)
    (Host.dotGeneral dot_S2x32x256_S2x1024x256_S2x32x1024_2_2_1_1_0_0 none h u)) (bias b)
def next512 (xs : Vec F S128x2x32x512 .f32) (w : Vec F S2x1024x512 .f32) (u : Vec F S2x1024x256 .f32) (b : Vec F S2x1024 .f32) (k : Vec F S_ .i32) (s : Sts F) : Sts F :=
  (outer (gates512 (taken512 xs k) s.1 w u b) s.2, inner (gates512 (taken512 xs k) s.1 w u b) s.2)
/-- The vectors before trip `n`. -/
def sts512 (xs : Vec F S128x2x32x512 .f32) (w : Vec F S2x1024x512 .f32) (u : Vec F S2x1024x256 .f32) (b : Vec F S2x1024 .f32) (s : Sts F) : ℕ → Sts F
  | 0 => s
  | n + 1 => next512 xs w u b (count n) (sts512 xs w u b s n)
/-- A sequence and its reverse. -/
def both512 (s : Vec F S128x32x512 .f32) : Vec F S128x2x32x512 .f32 :=
  concatenate S128x2x32x512 1 [⟨S128x1x32x512, broadcastInDim S128x1x32x512 ![0, 2, 3] bcast_S128x32x512_S128x1x32x512_0_2_3 s⟩,
    ⟨S128x1x32x512, broadcastInDim S128x1x32x512 ![0, 2, 3] bcast_S128x32x512_S128x1x32x512_0_2_3 (Host.reverse [0] s)⟩] concatenates_S128x1x32x512_S128x1x32x512_S128x2x32x512_d1

/-! ## Between the loops -/

def zeros : Vec F S2x32x256 .f32 := broadcastInDim S2x32x256 ![] bcast_S_S2x32x256 (constant S_ .f32 0x00000000#32)

/-- The embedded sequence. -/
def embedded (x : Vec F S32x128 .i32) (tab : Vec F S32000x256 .f32) : Vec F S128x32x256 .f32 :=
  transpose S128x32x256 [1, 0, 2] (Host.gather gather_S32000x256_S32x128x1_S32x128x256_2_0_n_n_0_2_1256 tab (broadcastInDim S32x128x1 ![0, 1] bcast_S32x128_S32x128x1_0_1
    (select (cmpi .slt x (broadcastInDim S32x128 ![] bcast_S_S32x128 (constantI S_ 32 0#32)))
      (addi x (broadcastInDim S32x128 ![] bcast_S_S32x128 (constantI S_ 32 32000#32))) x))) transposes_S32x128x256_S128x32x256_1_0_2

/-- The forward outputs beside the backward outputs turned round. -/
def sequence (o : Vec F S128x2x32x256 .f32) : Vec F S128x32x512 .f32 :=
  concatenate S128x32x512 2 [⟨S128x32x256, shapeCast S128x32x256 (extractStridedSlice S128x1x32x256 ![0, 0, 0, 0] o slices_S128x2x32x256_S128x1x32x256_0_0_0_0) shapeCasts_S128x1x32x256_S128x32x256⟩,
    ⟨S128x32x256, shapeCast S128x32x256 (Host.reverse [0] (extractStridedSlice S128x1x32x256 ![0, 1, 0, 0] o slices_S128x2x32x256_S128x1x32x256_0_1_0_0)) shapeCasts_S128x1x32x256_S128x32x256⟩]
    concatenates_S128x32x256_S128x32x256_S128x32x512_d2

/-- A layer's final vectors side by side, and the three layers' stacked. -/
def pair (h : Vec F S2x32x256 .f32) : Vec F S32x512 .f32 :=
  concatenate S32x512 1 [⟨S32x256, shapeCast S32x256 (extractStridedSlice S1x32x256 ![0, 0, 0] h slices_S2x32x256_S1x32x256_0_0_0) shapeCasts_S1x32x256_S32x256⟩,
    ⟨S32x256, shapeCast S32x256 (extractStridedSlice S1x32x256 ![1, 0, 0] h slices_S2x32x256_S1x32x256_1_0_0) shapeCasts_S1x32x256_S32x256⟩] concatenates_S32x256_S32x256_S32x512_d1
def three (x y z : Vec F S2x32x256 .f32) : Vec F S3x32x512 .f32 :=
  concatenate S3x32x512 0 [⟨S1x32x512, broadcastInDim S1x32x512 ![1, 2] bcast_S32x512_S1x32x512_1_2 (pair x)⟩, ⟨S1x32x512, broadcastInDim S1x32x512 ![1, 2] bcast_S32x512_S1x32x512_1_2 (pair y)⟩,
    ⟨S1x32x512, broadcastInDim S1x32x512 ![1, 2] bcast_S32x512_S1x32x512_1_2 (pair z)⟩] concatenates_S1x32x512_S1x32x512_S1x32x512_S3x32x512_d0

/-- A later layer's weights. -/
def inL0 (W : Vec F S2x2x1024x512 .f32) : Vec F S2x1024x512 .f32 := shapeCast S2x1024x512 (extractStridedSlice S1x2x1024x512 ![0, 0, 0, 0] W slices_S2x2x1024x512_S1x2x1024x512_0_0_0_0) shapeCasts_S1x2x1024x512_S2x1024x512
def inL1 (W : Vec F S2x2x1024x512 .f32) : Vec F S2x1024x512 .f32 := shapeCast S2x1024x512 (extractStridedSlice S1x2x1024x512 ![1, 0, 0, 0] W slices_S2x2x1024x512_S1x2x1024x512_1_0_0_0) shapeCasts_S1x2x1024x512_S2x1024x512
def recL0 (W : Vec F S2x2x1024x256 .f32) : Vec F S2x1024x256 .f32 := shapeCast S2x1024x256 (extractStridedSlice S1x2x1024x256 ![0, 0, 0, 0] W slices_S2x2x1024x256_S1x2x1024x256_0_0_0_0) shapeCasts_S1x2x1024x256_S2x1024x256
def recL1 (W : Vec F S2x2x1024x256 .f32) : Vec F S2x1024x256 .f32 := shapeCast S2x1024x256 (extractStridedSlice S1x2x1024x256 ![1, 0, 0, 0] W slices_S2x2x1024x256_S1x2x1024x256_1_0_0_0) shapeCasts_S1x2x1024x256_S2x1024x256
def biasL0 (W : Vec F S2x2x1024 .f32) : Vec F S2x1024 .f32 := shapeCast S2x1024 (extractStridedSlice S1x2x1024 ![0, 0, 0] W slices_S2x2x1024_S1x2x1024_0_0_0) shapeCasts_S1x2x1024_S2x1024
def biasL1 (W : Vec F S2x2x1024 .f32) : Vec F S2x1024 .f32 := shapeCast S2x1024 (extractStridedSlice S1x2x1024 ![1, 0, 0] W slices_S2x2x1024_S1x2x1024_1_0_0) shapeCasts_S1x2x1024_S2x1024

/-! ## What the lists leave -/

theorem take0_x (V : Valuation τ sig (Elt F)) : after take0 V (Proc.devRef .tc main_while0b_v98) = taken256 (V (Proc.devRef .tc main_v14_0)) (V (Proc.devRef .tc main_v14_4)) := by
  after_reads_simp [unaryIndexed_result_read, indexContents_tref_cons, indexContents_tref_empty]
  rfl
theorem cell0_inner (V : Valuation τ sig (Elt F)) : after cell0 V (Proc.devRef .tc main_while0b_v124) = inner (gates256 (V (Proc.devRef .tc main_while0b_v98)) (V (Proc.devRef .tc main_v14_5)) (V (Proc.devRef .tc main_v14_1)) (V (Proc.devRef .tc main_v14_2)) (V (Proc.devRef .tc main_v14_3))) (V (Proc.devRef .tc main_v14_6)) := by
  after_reads_simp
  rfl
theorem cell0_outer (V : Valuation τ sig (Elt F)) : after cell0 V (Proc.devRef .tc main_while0b_v132) = outer (gates256 (V (Proc.devRef .tc main_while0b_v98)) (V (Proc.devRef .tc main_v14_5)) (V (Proc.devRef .tc main_v14_1)) (V (Proc.devRef .tc main_v14_2)) (V (Proc.devRef .tc main_v14_3))) (V (Proc.devRef .tc main_v14_6)) := by
  after_reads_simp
  rfl
theorem put0_out (V : Valuation τ sig (Elt F)) : after put0 V (Proc.devRef .tc main_while0b_v133) = written (V (Proc.devRef .tc main_v14_7)) (V (Proc.devRef .tc main_while0b_v132)) (V (Proc.devRef .tc main_v14_4)) := by
  after_reads_simp [binaryIndexed_result_read, indexContents_tref_cons, indexContents_tref_empty]
  rfl
theorem carry0_h (V : Valuation τ sig (Elt F)) : after carry0 V (Proc.devRef .tc main_v14_5) = (V (Proc.devRef .tc main_while0b_v132)) := by
  after_reads_simp
  rfl
theorem carry0_c (V : Valuation τ sig (Elt F)) : after carry0 V (Proc.devRef .tc main_v14_6) = (V (Proc.devRef .tc main_while0b_v124)) := by
  after_reads_simp
  rfl
theorem carry0_out (V : Valuation τ sig (Elt F)) : after carry0 V (Proc.devRef .tc main_v14_7) = (V (Proc.devRef .tc main_while0b_v133)) := by
  after_reads_simp
  rfl
theorem take1_x (V : Valuation τ sig (Elt F)) : after take1 V (Proc.devRef .tc main_while1b_v98) = taken512 (V (Proc.devRef .tc main_v33_0)) (V (Proc.devRef .tc main_v33_4)) := by
  after_reads_simp [unaryIndexed_result_read, indexContents_tref_cons, indexContents_tref_empty]
  rfl
theorem cell1_inner (V : Valuation τ sig (Elt F)) : after cell1 V (Proc.devRef .tc main_while1b_v124) = inner (gates512 (V (Proc.devRef .tc main_while1b_v98)) (V (Proc.devRef .tc main_v33_5)) (V (Proc.devRef .tc main_v33_1)) (V (Proc.devRef .tc main_v33_2)) (V (Proc.devRef .tc main_v33_3))) (V (Proc.devRef .tc main_v33_6)) := by
  after_reads_simp
  rfl
theorem cell1_outer (V : Valuation τ sig (Elt F)) : after cell1 V (Proc.devRef .tc main_while1b_v132) = outer (gates512 (V (Proc.devRef .tc main_while1b_v98)) (V (Proc.devRef .tc main_v33_5)) (V (Proc.devRef .tc main_v33_1)) (V (Proc.devRef .tc main_v33_2)) (V (Proc.devRef .tc main_v33_3))) (V (Proc.devRef .tc main_v33_6)) := by
  after_reads_simp
  rfl
theorem put1_out (V : Valuation τ sig (Elt F)) : after put1 V (Proc.devRef .tc main_while1b_v133) = written (V (Proc.devRef .tc main_v33_7)) (V (Proc.devRef .tc main_while1b_v132)) (V (Proc.devRef .tc main_v33_4)) := by
  after_reads_simp [binaryIndexed_result_read, indexContents_tref_cons, indexContents_tref_empty]
  rfl
theorem carry1_h (V : Valuation τ sig (Elt F)) : after carry1 V (Proc.devRef .tc main_v33_5) = (V (Proc.devRef .tc main_while1b_v132)) := by
  after_reads_simp
  rfl
theorem carry1_c (V : Valuation τ sig (Elt F)) : after carry1 V (Proc.devRef .tc main_v33_6) = (V (Proc.devRef .tc main_while1b_v124)) := by
  after_reads_simp
  rfl
theorem carry1_out (V : Valuation τ sig (Elt F)) : after carry1 V (Proc.devRef .tc main_v33_7) = (V (Proc.devRef .tc main_while1b_v133)) := by
  after_reads_simp
  rfl
theorem take2_x (V : Valuation τ sig (Elt F)) : after take2 V (Proc.devRef .tc main_while2b_v98) = taken512 (V (Proc.devRef .tc main_v52_0)) (V (Proc.devRef .tc main_v52_4)) := by
  after_reads_simp [unaryIndexed_result_read, indexContents_tref_cons, indexContents_tref_empty]
  rfl
theorem cell2_inner (V : Valuation τ sig (Elt F)) : after cell2 V (Proc.devRef .tc main_while2b_v124) = inner (gates512 (V (Proc.devRef .tc main_while2b_v98)) (V (Proc.devRef .tc main_v52_5)) (V (Proc.devRef .tc main_v52_1)) (V (Proc.devRef .tc main_v52_2)) (V (Proc.devRef .tc main_v52_3))) (V (Proc.devRef .tc main_v52_6)) := by
  after_reads_simp
  rfl
theorem cell2_outer (V : Valuation τ sig (Elt F)) : after cell2 V (Proc.devRef .tc main_while2b_v132) = outer (gates512 (V (Proc.devRef .tc main_while2b_v98)) (V (Proc.devRef .tc main_v52_5)) (V (Proc.devRef .tc main_v52_1)) (V (Proc.devRef .tc main_v52_2)) (V (Proc.devRef .tc main_v52_3))) (V (Proc.devRef .tc main_v52_6)) := by
  after_reads_simp
  rfl
theorem put2_out (V : Valuation τ sig (Elt F)) : after put2 V (Proc.devRef .tc main_while2b_v133) = written (V (Proc.devRef .tc main_v52_7)) (V (Proc.devRef .tc main_while2b_v132)) (V (Proc.devRef .tc main_v52_4)) := by
  after_reads_simp [binaryIndexed_result_read, indexContents_tref_cons, indexContents_tref_empty]
  rfl
theorem carry2_h (V : Valuation τ sig (Elt F)) : after carry2 V (Proc.devRef .tc main_v52_5) = (V (Proc.devRef .tc main_while2b_v132)) := by
  after_reads_simp
  rfl
theorem carry2_c (V : Valuation τ sig (Elt F)) : after carry2 V (Proc.devRef .tc main_v52_6) = (V (Proc.devRef .tc main_while2b_v124)) := by
  after_reads_simp
  rfl
theorem carry2_out (V : Valuation τ sig (Elt F)) : after carry2 V (Proc.devRef .tc main_v52_7) = (V (Proc.devRef .tc main_while2b_v133)) := by
  after_reads_simp
  rfl

theorem pre0_0 (V : Valuation τ sig (Elt F)) : after pre0 V (Proc.devRef .tc main_v14_0) = both256 (embedded (V (Proc.devRef .tc main_arg0)) (V (Proc.devRef .tc main_arg1))) := by
  after_reads_simp
  rfl
theorem pre0_1 (V : Valuation τ sig (Elt F)) : after pre0 V (Proc.devRef .tc main_v14_1) = (V (Proc.devRef .tc main_arg2)) := by
  after_reads_simp
  rfl
theorem pre0_2 (V : Valuation τ sig (Elt F)) : after pre0 V (Proc.devRef .tc main_v14_2) = (V (Proc.devRef .tc main_arg3)) := by
  after_reads_simp
  rfl
theorem pre0_3 (V : Valuation τ sig (Elt F)) : after pre0 V (Proc.devRef .tc main_v14_3) = (V (Proc.devRef .tc main_arg4)) := by
  after_reads_simp
  rfl
theorem pre0_5 (V : Valuation τ sig (Elt F)) : after pre0 V (Proc.devRef .tc main_v14_5) = zeros := by
  after_reads_simp
  rfl
theorem pre0_6 (V : Valuation τ sig (Elt F)) : after pre0 V (Proc.devRef .tc main_v14_6) = zeros := by
  after_reads_simp
  rfl
theorem pre1_0 (V : Valuation τ sig (Elt F)) : after pre1 V (Proc.devRef .tc main_v33_0) = both512 (sequence (V (Proc.devRef .tc main_v14_7))) := by
  after_reads_simp
  rfl
theorem pre1_1 (V : Valuation τ sig (Elt F)) : after pre1 V (Proc.devRef .tc main_v33_1) = inL0 (V (Proc.devRef .tc main_arg5)) := by
  after_reads_simp
  rfl
theorem pre1_2 (V : Valuation τ sig (Elt F)) : after pre1 V (Proc.devRef .tc main_v33_2) = recL0 (V (Proc.devRef .tc main_arg6)) := by
  after_reads_simp
  rfl
theorem pre1_3 (V : Valuation τ sig (Elt F)) : after pre1 V (Proc.devRef .tc main_v33_3) = biasL0 (V (Proc.devRef .tc main_arg7)) := by
  after_reads_simp
  rfl
theorem pre1_5 (V : Valuation τ sig (Elt F)) : after pre1 V (Proc.devRef .tc main_v33_5) = zeros := by
  after_reads_simp
  rfl
theorem pre1_6 (V : Valuation τ sig (Elt F)) : after pre1 V (Proc.devRef .tc main_v33_6) = zeros := by
  after_reads_simp
  rfl
theorem pre2_0 (V : Valuation τ sig (Elt F)) : after pre2b (after pre2a V) (Proc.devRef .tc main_v52_0) = both512 (sequence (V (Proc.devRef .tc main_v33_7))) := by
  rw [← StableHlo.after_append]
  simp only [pre2a, pre2b, List.cons_append, List.nil_append]
  after_reads_simp
  rfl
theorem pre2b_1 (V : Valuation τ sig (Elt F)) : after pre2b V (Proc.devRef .tc main_v52_1) = inL1 (V (Proc.devRef .tc main_arg5)) := by
  after_reads_simp
  rfl
theorem pre2b_2 (V : Valuation τ sig (Elt F)) : after pre2b V (Proc.devRef .tc main_v52_2) = recL1 (V (Proc.devRef .tc main_arg6)) := by
  after_reads_simp
  rfl
theorem pre2b_3 (V : Valuation τ sig (Elt F)) : after pre2b V (Proc.devRef .tc main_v52_3) = biasL1 (V (Proc.devRef .tc main_arg7)) := by
  after_reads_simp
  rfl
theorem pre2b_5 (V : Valuation τ sig (Elt F)) : after pre2b V (Proc.devRef .tc main_v52_5) = zeros := by
  after_reads_simp
  rfl
theorem pre2b_6 (V : Valuation τ sig (Elt F)) : after pre2b V (Proc.devRef .tc main_v52_6) = zeros := by
  after_reads_simp
  rfl
theorem posta_h (V : Valuation τ sig (Elt F)) : after posta V (Proc.devRef .tc main_v77) = three (V (Proc.devRef .tc main_v14_5)) (V (Proc.devRef .tc main_v33_5)) (V (Proc.devRef .tc main_v52_5)) := by
  after_reads_simp
  rfl
theorem posta_seq (V : Valuation τ sig (Elt F)) : after posta V (Proc.devRef .tc main_v58) = sequence (V (Proc.devRef .tc main_v52_7)) := by
  after_reads_simp
  rfl
theorem postb_seq (V : Valuation τ sig (Elt F)) : after postb V (Proc.devRef .tc main_v97) = shapeCast S4096x512 (V (Proc.devRef .tc main_v58) : Vec F S128x32x512 .f32) shapeCasts_S128x32x512_S4096x512 := by
  after_reads_simp
  rfl
theorem post_c (V : Valuation τ sig (Elt F)) : after postb (after posta V) (Proc.devRef .tc main_v96) = three (V (Proc.devRef .tc main_v14_6)) (V (Proc.devRef .tc main_v33_6)) (V (Proc.devRef .tc main_v52_6)) := by
  rw [← StableHlo.after_append]
  simp only [posta, postb, List.cons_append, List.nil_append]
  after_reads_simp
  rfl

end Cert.EncoderReferenceIdeal.Values
-- ==== Proof.EncoderReferenceStart.lean ====
/-
  The encoder's reference run: the three layers' vectors trip by trip, and the results the run ends with.
-/
module

public import proofs.«01_k».proof.Proof.EncoderReferenceValues

@[expose] public section

set_option maxRecDepth 16384

noncomputable section

namespace Cert.EncoderReferenceIdeal.Start

open Cert.EncoderReferenceIdeal Cert.EncoderReferenceIdeal.Gen Cert.EncoderReferenceIdeal.Run Cert.EncoderReferenceIdeal.Values
open Idealize.ShloMosaic Idealize.ShloMosaic.TcCoe Idealize.ShloMosaic.StableHlo
open Idealize.SL.Sem

variable {F : FTy → Type} [FloatOps F]

/-! ## Reading at a counter -/

theorem count_toInt {n : ℕ} (hn : n < 128) (i : S_.Idx) : ((count (F := F) n) i).toInt = (n : Int) := by
  have e : Scf.iv 0#32 1#32 n = BitVec.ofNat 32 n := by simp [Scf.iv]
  show (Scf.iv 0#32 1#32 n).toInt = _
  rw [e]
  exact toInt_ofNat_of_lt (by omega)

theorem starts_at {n : ℕ} (hn : n < 128) : ∀ a : Fin 4, starts (count (F := F) n) a = ((![n, 0, 0, 0] : Fin 4 → ℕ) a : Int) := by
  intro a
  fin_cases a
  · exact count_toInt (F := F) hn (Shape.Idx.first h_S_)
  · rfl
  · rfl
  · rfl

theorem written_slices {n : ℕ} (hn : n < 128) : S128x2x32x256.Slices ![n, 0, 0, 0] S1x2x32x256 := by
  refine ⟨rfl, fun a => ?_⟩
  fin_cases a
  · show n + 1 ≤ 128; omega
  · show 0 + 2 ≤ 2; omega
  · show 0 + 32 ≤ 32; omega
  · show 0 + 256 ≤ 256; omega

/-- The outputs with trip `n`'s written, read at an index. -/
theorem written_apply (o : Vec F S128x2x32x256 .f32) (x : Vec F S2x32x256 .f32) {n : ℕ} (hn : n < 128) (a : Fin 128) (d : Fin 2) (p : Fin 32) (q : Fin 256) :
    written o x (count n) (ix4 a d p q) = if a.val = n then x (ix3 d p q) else o (ix4 a d p q) := by
  have hs : ∀ a, Host.clampedStart S128x2x32x256 S1x2x32x256 rfl (starts (count (F := F) n)) a = (![n, 0, 0, 0] : Fin 4 → ℕ) a := by
    intro a
    fin_cases a
    · show (min (max ((count (F := F) n (Shape.Idx.first h_S_)).toInt) 0) ((128 - 1 : ℕ) : Int)).toNat = n
      rw [count_toInt hn]; omega
    · rfl
    · rfl
    · rfl
  unfold written
  rw [Host.dynamicUpdateSlice_eq_updateSlice _ _ _ _ ![n, 0, 0, 0] hs (written_slices hn), updateSlice_apply]
  by_cases e : a.val = n
  · rw [if_pos e, dif_pos (by
      intro d'
      fin_cases d'
      · show n ≤ a.val ∧ a.val < n + 1; omega
      · show 0 ≤ d.val ∧ d.val < 0 + 2; omega
      · show 0 ≤ p.val ∧ p.val < 0 + 32; omega
      · show 0 ≤ q.val ∧ q.val < 0 + 256; omega)]
    pointwise
  · rw [if_neg e, dif_neg (by
      intro h
      have := h 0
      have h' : n ≤ a.val ∧ a.val < n + 1 := this
      omega)]

theorem taken256_at (xs : Vec F S128x2x32x256 .f32) (k : Fin 128) (d : Fin 2) (p : Fin 32) (q : Fin 256) :
    taken256 xs (count k.val) (ix3 d p q) = xs (ix4 k d p q) := by
  unfold taken256
  rw [Host.dynamicSlice_eq_extractStridedSlice S1x2x32x256 xs _ ![k.val, 0, 0, 0] _ (by
      refine ⟨rfl, fun a => ?_⟩
      have := k.isLt
      fin_cases a
      · show k.val + 1 ≤ 128; omega
      · show 0 + 2 ≤ 2; omega
      · show 0 + 32 ≤ 32; omega
      · show 0 + 256 ≤ 256; omega) (starts_at k.isLt)]
  pointwise

theorem taken512_at (xs : Vec F S128x2x32x512 .f32) (k : Fin 128) (d : Fin 2) (p : Fin 32) (q : Fin 512) :
    taken512 xs (count k.val) (ix3 d p q) = xs (ix4 k d p q) := by
  unfold taken512
  rw [Host.dynamicSlice_eq_extractStridedSlice S1x2x32x512 xs _ ![k.val, 0, 0, 0] _ (by
      refine ⟨rfl, fun a => ?_⟩
      have := k.isLt
      fin_cases a
      · show k.val + 1 ≤ 128; omega
      · show 0 + 2 ≤ 2; omega
      · show 0 + 32 ≤ 32; omega
      · show 0 + 512 ≤ 512; omega) (starts_at k.isLt)]
  pointwise

/-! ## The trips -/

/-- The outputs of a layer whose vectors before trip `n` are `r n`. -/
def outs (r : ℕ → Sts F) : Vec F S128x2x32x256 .f32 := fun i => (r ((i 0).val + 1)).1 (ix3 (i 1) (i 2) (i 3))

section Loop0

theorem trip0_h (V : Valuation τ sig (Elt F)) : afterL trip0 V (Proc.devRef .tc main_v14_5) = (next256 (V (Proc.devRef .tc main_v14_0)) (V (Proc.devRef .tc main_v14_1)) (V (Proc.devRef .tc main_v14_2)) (V (Proc.devRef .tc main_v14_3)) (V (Proc.devRef .tc main_v14_4)) ((V (Proc.devRef .tc main_v14_5)), (V (Proc.devRef .tc main_v14_6)))).1 := by
  rw [trip0_cut, carry0_h, put0_other _ (r := main_while0b_v132) (by decide), cell0_outer, take0_x, take0_other _ (r := main_v14_1) (by decide), take0_other _ (r := main_v14_2) (by decide), take0_other _ (r := main_v14_3) (by decide), take0_other _ (r := main_v14_5) (by decide), take0_other _ (r := main_v14_6) (by decide)]
  rfl
theorem trip0_c (V : Valuation τ sig (Elt F)) : afterL trip0 V (Proc.devRef .tc main_v14_6) = (next256 (V (Proc.devRef .tc main_v14_0)) (V (Proc.devRef .tc main_v14_1)) (V (Proc.devRef .tc main_v14_2)) (V (Proc.devRef .tc main_v14_3)) (V (Proc.devRef .tc main_v14_4)) ((V (Proc.devRef .tc main_v14_5)), (V (Proc.devRef .tc main_v14_6)))).2 := by
  rw [trip0_cut, carry0_c, put0_other _ (r := main_while0b_v124) (by decide), cell0_inner, take0_x, take0_other _ (r := main_v14_1) (by decide), take0_other _ (r := main_v14_2) (by decide), take0_other _ (r := main_v14_3) (by decide), take0_other _ (r := main_v14_5) (by decide), take0_other _ (r := main_v14_6) (by decide)]
  rfl
theorem trip0_out (V : Valuation τ sig (Elt F)) : afterL trip0 V (Proc.devRef .tc main_v14_7)
    = written (V (Proc.devRef .tc main_v14_7)) (next256 (V (Proc.devRef .tc main_v14_0)) (V (Proc.devRef .tc main_v14_1)) (V (Proc.devRef .tc main_v14_2)) (V (Proc.devRef .tc main_v14_3)) (V (Proc.devRef .tc main_v14_4)) ((V (Proc.devRef .tc main_v14_5)), (V (Proc.devRef .tc main_v14_6)))).1 (V (Proc.devRef .tc main_v14_4)) := by
  rw [trip0_cut, carry0_out, put0_out, cell0_outer, cell0_other _ (r := main_v14_7) (by decide), cell0_other _ (r := main_v14_4) (by decide), take0_x, take0_other _ (r := main_v14_1) (by decide), take0_other _ (r := main_v14_2) (by decide), take0_other _ (r := main_v14_3) (by decide), take0_other _ (r := main_v14_5) (by decide), take0_other _ (r := main_v14_6) (by decide), take0_other _ (r := main_v14_7) (by decide), take0_other _ (r := main_v14_4) (by decide)]
  rfl

variable (E : Dev nD → Valuation τ sig (Elt F)) (h0 : ∀ c, E c (Proc.devRef .tc main_v14_4) = constantI S_ 32 0#32)

/-- The vectors before trip `k`, of what the loop is entered with. -/
abbrev run0 (c : Dev nD) : ℕ → Sts F := sts256 (E c (Proc.devRef .tc main_v14_0)) (E c (Proc.devRef .tc main_v14_1)) (E c (Proc.devRef .tc main_v14_2)) (E c (Proc.devRef .tc main_v14_3)) ((E c (Proc.devRef .tc main_v14_5)), (E c (Proc.devRef .tc main_v14_6)))

include h0 in
theorem sts0_at (c : Dev nD) : ∀ k, ((at0 E k c (Proc.devRef .tc main_v14_5), at0 E k c (Proc.devRef .tc main_v14_6)) : Sts F) = run0 E c k
  | 0 => rfl
  | k + 1 => by
    show ((afterL trip0 (after test0 (at0 E k c)) (Proc.devRef .tc main_v14_5), afterL trip0 (after test0 (at0 E k c)) (Proc.devRef .tc main_v14_6)) : Sts F) = _
    rw [trip0_h, trip0_c, test0_other _ (r := main_v14_0) (by decide), test0_other _ (r := main_v14_1) (by decide), test0_other _ (r := main_v14_2) (by decide), test0_other _ (r := main_v14_3) (by decide), test0_other _ (r := main_v14_4) (by decide), test0_other _ (r := main_v14_5) (by decide), test0_other _ (r := main_v14_6) (by decide), at0_kept E c (r := main_v14_0) (by unfold kept0; decide) k, at0_kept E c (r := main_v14_1) (by unfold kept0; decide) k, at0_kept E c (r := main_v14_2) (by unfold kept0; decide) k, at0_kept E c (r := main_v14_3) (by unfold kept0; decide) k, at0_counter E h0 c k, sts0_at c k]
    rfl

include h0 in
theorem out0_at (c : Dev nD) (k : ℕ) : at0 E (k + 1) c (Proc.devRef .tc main_v14_7) = written (at0 E k c (Proc.devRef .tc main_v14_7)) (run0 E c (k + 1)).1 (count k) := by
  show afterL trip0 (after test0 (at0 E k c)) _ = _
  rw [trip0_out, test0_other _ (r := main_v14_0) (by decide), test0_other _ (r := main_v14_1) (by decide), test0_other _ (r := main_v14_2) (by decide), test0_other _ (r := main_v14_3) (by decide), test0_other _ (r := main_v14_4) (by decide), test0_other _ (r := main_v14_5) (by decide), test0_other _ (r := main_v14_6) (by decide), test0_other _ (r := main_v14_7) (by decide), at0_kept E c (r := main_v14_0) (by unfold kept0; decide) k, at0_kept E c (r := main_v14_1) (by unfold kept0; decide) k, at0_kept E c (r := main_v14_2) (by unfold kept0; decide) k, at0_kept E c (r := main_v14_3) (by unfold kept0; decide) k, at0_counter E h0 c k, sts0_at E h0 c k]
  rfl

include h0 in
/-- After `k` trips the first `k` outputs stand. -/
theorem outs0_at (c : Dev nD) : ∀ k ≤ 128, ∀ (a : Fin 128) (d : Fin 2) (p : Fin 32) (q : Fin 256), a.val < k →
    (at0 E k c (Proc.devRef .tc main_v14_7) : Vec F S128x2x32x256 .f32) (ix4 a d p q) = (run0 E c (a.val + 1)).1 (ix3 d p q)
  | 0, _, a, _, _, _, h => absurd h (Nat.not_lt_zero _)
  | k + 1, hk, a, d, p, q, h => by
    rw [out0_at E h0, written_apply _ _ (show k < 128 by omega)]
    split
    · rename_i e; rw [e]
    · exact outs0_at c k (by omega) a d p q (by omega)

include h0 in
theorem left0 (c : Dev nD) : after test0 (at0 E 128 c) (Proc.devRef .tc main_v14_5) = (run0 E c 128).1
    ∧ after test0 (at0 E 128 c) (Proc.devRef .tc main_v14_6) = (run0 E c 128).2
    ∧ after test0 (at0 E 128 c) (Proc.devRef .tc main_v14_7) = outs (run0 E c) := by
  have hs := sts0_at E h0 c 128
  rw [test0_other _ (r := main_v14_5) (by decide), test0_other _ (r := main_v14_6) (by decide), test0_other _ (r := main_v14_7) (by decide)]
  refine ⟨congrArg Prod.fst hs, congrArg Prod.snd hs, ?_⟩
  funext i
  obtain ⟨a, d, p, q, rfl⟩ : ∃ (a : Fin 128) (d : Fin 2) (p : Fin 32) (q : Fin 256), i = ix4 a d p q := ⟨i 0, i 1, i 2, i 3, eq_ix4 i⟩
  exact outs0_at E h0 c 128 le_rfl a d p q a.isLt

end Loop0

section Loop1

theorem trip1_h (V : Valuation τ sig (Elt F)) : afterL trip1 V (Proc.devRef .tc main_v33_5) = (next512 (V (Proc.devRef .tc main_v33_0)) (V (Proc.devRef .tc main_v33_1)) (V (Proc.devRef .tc main_v33_2)) (V (Proc.devRef .tc main_v33_3)) (V (Proc.devRef .tc main_v33_4)) ((V (Proc.devRef .tc main_v33_5)), (V (Proc.devRef .tc main_v33_6)))).1 := by
  rw [trip1_cut, carry1_h, put1_other _ (r := main_while1b_v132) (by decide), cell1_outer, take1_x, take1_other _ (r := main_v33_1) (by decide), take1_other _ (r := main_v33_2) (by decide), take1_other _ (r := main_v33_3) (by decide), take1_other _ (r := main_v33_5) (by decide), take1_other _ (r := main_v33_6) (by decide)]
  rfl
theorem trip1_c (V : Valuation τ sig (Elt F)) : afterL trip1 V (Proc.devRef .tc main_v33_6) = (next512 (V (Proc.devRef .tc main_v33_0)) (V (Proc.devRef .tc main_v33_1)) (V (Proc.devRef .tc main_v33_2)) (V (Proc.devRef .tc main_v33_3)) (V (Proc.devRef .tc main_v33_4)) ((V (Proc.devRef .tc main_v33_5)), (V (Proc.devRef .tc main_v33_6)))).2 := by
  rw [trip1_cut, carry1_c, put1_other _ (r := main_while1b_v124) (by decide), cell1_inner, take1_x, take1_other _ (r := main_v33_1) (by decide), take1_other _ (r := main_v33_2) (by decide), take1_other _ (r := main_v33_3) (by decide), take1_other _ (r := main_v33_5) (by decide), take1_other _ (r := main_v33_6) (by decide)]
  rfl
theorem trip1_out (V : Valuation τ sig (Elt F)) : afterL trip1 V (Proc.devRef .tc main_v33_7)
    = written (V (Proc.devRef .tc main_v33_7)) (next512 (V (Proc.devRef .tc main_v33_0)) (V (Proc.devRef .tc main_v33_1)) (V (Proc.devRef .tc main_v33_2)) (V (Proc.devRef .tc main_v33_3)) (V (Proc.devRef .tc main_v33_4)) ((V (Proc.devRef .tc main_v33_5)), (V (Proc.devRef .tc main_v33_6)))).1 (V (Proc.devRef .tc main_v33_4)) := by
  rw [trip1_cut, carry1_out, put1_out, cell1_outer, cell1_other _ (r := main_v33_7) (by decide), cell1_other _ (r := main_v33_4) (by decide), take1_x, take1_other _ (r := main_v33_1) (by decide), take1_other _ (r := main_v33_2) (by decide), take1_other _ (r := main_v33_3) (by decide), take1_other _ (r := main_v33_5) (by decide), take1_other _ (r := main_v33_6) (by decide), take1_other _ (r := main_v33_7) (by decide), take1_other _ (r := main_v33_4) (by decide)]
  rfl

variable (E : Dev nD → Valuation τ sig (Elt F)) (h0 : ∀ c, E c (Proc.devRef .tc main_v33_4) = constantI S_ 32 0#32)

/-- The vectors before trip `k`, of what the loop is entered with. -/
abbrev run1 (c : Dev nD) : ℕ → Sts F := sts512 (E c (Proc.devRef .tc main_v33_0)) (E c (Proc.devRef .tc main_v33_1)) (E c (Proc.devRef .tc main_v33_2)) (E c (Proc.devRef .tc main_v33_3)) ((E c (Proc.devRef .tc main_v33_5)), (E c (Proc.devRef .tc main_v33_6)))

include h0 in
theorem sts1_at (c : Dev nD) : ∀ k, ((at1 E k c (Proc.devRef .tc main_v33_5), at1 E k c (Proc.devRef .tc main_v33_6)) : Sts F) = run1 E c k
  | 0 => rfl
  | k + 1 => by
    show ((afterL trip1 (after test1 (at1 E k c)) (Proc.devRef .tc main_v33_5), afterL trip1 (after test1 (at1 E k c)) (Proc.devRef .tc main_v33_6)) : Sts F) = _
    rw [trip1_h, trip1_c, test1_other _ (r := main_v33_0) (by decide), test1_other _ (r := main_v33_1) (by decide), test1_other _ (r := main_v33_2) (by decide), test1_other _ (r := main_v33_3) (by decide), test1_other _ (r := main_v33_4) (by decide), test1_other _ (r := main_v33_5) (by decide), test1_other _ (r := main_v33_6) (by decide), at1_kept E c (r := main_v33_0) (by unfold kept1; decide) k, at1_kept E c (r := main_v33_1) (by unfold kept1; decide) k, at1_kept E c (r := main_v33_2) (by unfold kept1; decide) k, at1_kept E c (r := main_v33_3) (by unfold kept1; decide) k, at1_counter E h0 c k, sts1_at c k]
    rfl

include h0 in
theorem out1_at (c : Dev nD) (k : ℕ) : at1 E (k + 1) c (Proc.devRef .tc main_v33_7) = written (at1 E k c (Proc.devRef .tc main_v33_7)) (run1 E c (k + 1)).1 (count k) := by
  show afterL trip1 (after test1 (at1 E k c)) _ = _
  rw [trip1_out, test1_other _ (r := main_v33_0) (by decide), test1_other _ (r := main_v33_1) (by decide), test1_other _ (r := main_v33_2) (by decide), test1_other _ (r := main_v33_3) (by decide), test1_other _ (r := main_v33_4) (by decide), test1_other _ (r := main_v33_5) (by decide), test1_other _ (r := main_v33_6) (by decide), test1_other _ (r := main_v33_7) (by decide), at1_kept E c (r := main_v33_0) (by unfold kept1; decide) k, at1_kept E c (r := main_v33_1) (by unfold kept1; decide) k, at1_kept E c (r := main_v33_2) (by unfold kept1; decide) k, at1_kept E c (r := main_v33_3) (by unfold kept1; decide) k, at1_counter E h0 c k, sts1_at E h0 c k]
  rfl

include h0 in
/-- After `k` trips the first `k` outputs stand. -/
theorem outs1_at (c : Dev nD) : ∀ k ≤ 128, ∀ (a : Fin 128) (d : Fin 2) (p : Fin 32) (q : Fin 256), a.val < k →
    (at1 E k c (Proc.devRef .tc main_v33_7) : Vec F S128x2x32x256 .f32) (ix4 a d p q) = (run1 E c (a.val + 1)).1 (ix3 d p q)
  | 0, _, a, _, _, _, h => absurd h (Nat.not_lt_zero _)
  | k + 1, hk, a, d, p, q, h => by
    rw [out1_at E h0, written_apply _ _ (show k < 128 by omega)]
    split
    · rename_i e; rw [e]
    · exact outs1_at c k (by omega) a d p q (by omega)

include h0 in
theorem left1 (c : Dev nD) : after test1 (at1 E 128 c) (Proc.devRef .tc main_v33_5) = (run1 E c 128).1
    ∧ after test1 (at1 E 128 c) (Proc.devRef .tc main_v33_6) = (run1 E c 128).2
    ∧ after test1 (at1 E 128 c) (Proc.devRef .tc main_v33_7) = outs (run1 E c) := by
  have hs := sts1_at E h0 c 128
  rw [test1_other _ (r := main_v33_5) (by decide), test1_other _ (r := main_v33_6) (by decide), test1_other _ (r := main_v33_7) (by decide)]
  refine ⟨congrArg Prod.fst hs, congrArg Prod.snd hs, ?_⟩
  funext i
  obtain ⟨a, d, p, q, rfl⟩ : ∃ (a : Fin 128) (d : Fin 2) (p : Fin 32) (q : Fin 256), i = ix4 a d p q := ⟨i 0, i 1, i 2, i 3, eq_ix4 i⟩
  exact outs1_at E h0 c 128 le_rfl a d p q a.isLt

end Loop1

section Loop2

theorem trip2_h (V : Valuation τ sig (Elt F)) : afterL trip2 V (Proc.devRef .tc main_v52_5) = (next512 (V (Proc.devRef .tc main_v52_0)) (V (Proc.devRef .tc main_v52_1)) (V (Proc.devRef .tc main_v52_2)) (V (Proc.devRef .tc main_v52_3)) (V (Proc.devRef .tc main_v52_4)) ((V (Proc.devRef .tc main_v52_5)), (V (Proc.devRef .tc main_v52_6)))).1 := by
  rw [trip2_cut, carry2_h, put2_other _ (r := main_while2b_v132) (by decide), cell2_outer, take2_x, take2_other _ (r := main_v52_1) (by decide), take2_other _ (r := main_v52_2) (by decide), take2_other _ (r := main_v52_3) (by decide), take2_other _ (r := main_v52_5) (by decide), take2_other _ (r := main_v52_6) (by decide)]
  rfl
theorem trip2_c (V : Valuation τ sig (Elt F)) : afterL trip2 V (Proc.devRef .tc main_v52_6) = (next512 (V (Proc.devRef .tc main_v52_0)) (V (Proc.devRef .tc main_v52_1)) (V (Proc.devRef .tc main_v52_2)) (V (Proc.devRef .tc main_v52_3)) (V (Proc.devRef .tc main_v52_4)) ((V (Proc.devRef .tc main_v52_5)), (V (Proc.devRef .tc main_v52_6)))).2 := by
  rw [trip2_cut, carry2_c, put2_other _ (r := main_while2b_v124) (by decide), cell2_inner, take2_x, take2_other _ (r := main_v52_1) (by decide), take2_other _ (r := main_v52_2) (by decide), take2_other _ (r := main_v52_3) (by decide), take2_other _ (r := main_v52_5) (by decide), take2_other _ (r := main_v52_6) (by decide)]
  rfl
theorem trip2_out (V : Valuation τ sig (Elt F)) : afterL trip2 V (Proc.devRef .tc main_v52_7)
    = written (V (Proc.devRef .tc main_v52_7)) (next512 (V (Proc.devRef .tc main_v52_0)) (V (Proc.devRef .tc main_v52_1)) (V (Proc.devRef .tc main_v52_2)) (V (Proc.devRef .tc main_v52_3)) (V (Proc.devRef .tc main_v52_4)) ((V (Proc.devRef .tc main_v52_5)), (V (Proc.devRef .tc main_v52_6)))).1 (V (Proc.devRef .tc main_v52_4)) := by
  rw [trip2_cut, carry2_out, put2_out, cell2_outer, cell2_other _ (r := main_v52_7) (by decide), cell2_other _ (r := main_v52_4) (by decide), take2_x, take2_other _ (r := main_v52_1) (by decide), take2_other _ (r := main_v52_2) (by decide), take2_other _ (r := main_v52_3) (by decide), take2_other _ (r := main_v52_5) (by decide), take2_other _ (r := main_v52_6) (by decide), take2_other _ (r := main_v52_7) (by decide), take2_other _ (r := main_v52_4) (by decide)]
  rfl

variable (E : Dev nD → Valuation τ sig (Elt F)) (h0 : ∀ c, E c (Proc.devRef .tc main_v52_4) = constantI S_ 32 0#32)

/-- The vectors before trip `k`, of what the loop is entered with. -/
abbrev run2 (c : Dev nD) : ℕ → Sts F := sts512 (E c (Proc.devRef .tc main_v52_0)) (E c (Proc.devRef .tc main_v52_1)) (E c (Proc.devRef .tc main_v52_2)) (E c (Proc.devRef .tc main_v52_3)) ((E c (Proc.devRef .tc main_v52_5)), (E c (Proc.devRef .tc main_v52_6)))

include h0 in
theorem sts2_at (c : Dev nD) : ∀ k, ((at2 E k c (Proc.devRef .tc main_v52_5), at2 E k c (Proc.devRef .tc main_v52_6)) : Sts F) = run2 E c k
  | 0 => rfl
  | k + 1 => by
    show ((afterL trip2 (after test2 (at2 E k c)) (Proc.devRef .tc main_v52_5), afterL trip2 (after test2 (at2 E k c)) (Proc.devRef .tc main_v52_6)) : Sts F) = _
    rw [trip2_h, trip2_c, test2_other _ (r := main_v52_0) (by decide), test2_other _ (r := main_v52_1) (by decide), test2_other _ (r := main_v52_2) (by decide), test2_other _ (r := main_v52_3) (by decide), test2_other _ (r := main_v52_4) (by decide), test2_other _ (r := main_v52_5) (by decide), test2_other _ (r := main_v52_6) (by decide), at2_kept E c (r := main_v52_0) (by unfold kept2; decide) k, at2_kept E c (r := main_v52_1) (by unfold kept2; decide) k, at2_kept E c (r := main_v52_2) (by unfold kept2; decide) k, at2_kept E c (r := main_v52_3) (by unfold kept2; decide) k, at2_counter E h0 c k, sts2_at c k]
    rfl

include h0 in
theorem out2_at (c : Dev nD) (k : ℕ) : at2 E (k + 1) c (Proc.devRef .tc main_v52_7) = written (at2 E k c (Proc.devRef .tc main_v52_7)) (run2 E c (k + 1)).1 (count k) := by
  show afterL trip2 (after test2 (at2 E k c)) _ = _
  rw [trip2_out, test2_other _ (r := main_v52_0) (by decide), test2_other _ (r := main_v52_1) (by decide), test2_other _ (r := main_v52_2) (by decide), test2_other _ (r := main_v52_3) (by decide), test2_other _ (r := main_v52_4) (by decide), test2_other _ (r := main_v52_5) (by decide), test2_other _ (r := main_v52_6) (by decide), test2_other _ (r := main_v52_7) (by decide), at2_kept E c (r := main_v52_0) (by unfold kept2; decide) k, at2_kept E c (r := main_v52_1) (by unfold kept2; decide) k, at2_kept E c (r := main_v52_2) (by unfold kept2; decide) k, at2_kept E c (r := main_v52_3) (by unfold kept2; decide) k, at2_counter E h0 c k, sts2_at E h0 c k]
  rfl

include h0 in
/-- After `k` trips the first `k` outputs stand. -/
theorem outs2_at (c : Dev nD) : ∀ k ≤ 128, ∀ (a : Fin 128) (d : Fin 2) (p : Fin 32) (q : Fin 256), a.val < k →
    (at2 E k c (Proc.devRef .tc main_v52_7) : Vec F S128x2x32x256 .f32) (ix4 a d p q) = (run2 E c (a.val + 1)).1 (ix3 d p q)
  | 0, _, a, _, _, _, h => absurd h (Nat.not_lt_zero _)
  | k + 1, hk, a, d, p, q, h => by
    rw [out2_at E h0, written_apply _ _ (show k < 128 by omega)]
    split
    · rename_i e; rw [e]
    · exact outs2_at c k (by omega) a d p q (by omega)

include h0 in
theorem left2 (c : Dev nD) : after test2 (at2 E 128 c) (Proc.devRef .tc main_v52_5) = (run2 E c 128).1
    ∧ after test2 (at2 E 128 c) (Proc.devRef .tc main_v52_6) = (run2 E c 128).2
    ∧ after test2 (at2 E 128 c) (Proc.devRef .tc main_v52_7) = outs (run2 E c) := by
  have hs := sts2_at E h0 c 128
  rw [test2_other _ (r := main_v52_5) (by decide), test2_other _ (r := main_v52_6) (by decide), test2_other _ (r := main_v52_7) (by decide)]
  refine ⟨congrArg Prod.fst hs, congrArg Prod.snd hs, ?_⟩
  funext i
  obtain ⟨a, d, p, q, rfl⟩ : ∃ (a : Fin 128) (d : Fin 2) (p : Fin 32) (q : Fin 256), i = ix4 a d p q := ⟨i 0, i 1, i 2, i 3, eq_ix4 i⟩
  exact outs2_at E h0 c 128 le_rfl a d p q a.isLt

end Loop2

/-! ## The layers, of the arguments -/

variable (m : (ℓ : Loc nD τ sig) → Buf (Elt F) ℓ) (ρ : Dev nD → PrngReg) (c : Dev nD)

def layer0 (x : Vec F S32x128 .i32) (tab : Vec F S32000x256 .f32) (w u : Vec F S2x1024x256 .f32) (b : Vec F S2x1024 .f32) : ℕ → Sts F :=
  sts256 (both256 (embedded x tab)) w u b (zeros, zeros)
def layer (r : ℕ → Sts F) (w : Vec F S2x1024x512 .f32) (u : Vec F S2x1024x256 .f32) (b : Vec F S2x1024 .f32) : ℕ → Sts F :=
  sts512 (both512 (sequence (outs r))) w u b (zeros, zeros)

abbrev R0 : ℕ → Sts F := layer0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
abbrev R1 : ℕ → Sts F := layer (R0 m c) (inL0 (m ((c.tc : Thread nD τ).loc main_arg5))) (recL0 (m ((c.tc : Thread nD τ).loc main_arg6))) (biasL0 (m ((c.tc : Thread nD τ).loc main_arg7)))
abbrev R2 : ℕ → Sts F := layer (R1 m c) (inL1 (m ((c.tc : Thread nD τ).loc main_arg5))) (recL1 (m ((c.tc : Thread nD τ).loc main_arg6))) (biasL1 (m ((c.tc : Thread nD τ).loc main_arg7)))

theorem run0_eq : run0 (ent0 m) c = R0 m c := by
  have e0 : ent0 m c (Proc.devRef .tc main_v14_0) = both256 (embedded (m ((c.tc : Thread nD τ).loc main_arg0)) (m ((c.tc : Thread nD τ).loc main_arg1))) := pre0_0 (launchContents m c)
  have e1 : ent0 m c (Proc.devRef .tc main_v14_1) = (m ((c.tc : Thread nD τ).loc main_arg2)) := pre0_1 (launchContents m c)
  have e2 : ent0 m c (Proc.devRef .tc main_v14_2) = (m ((c.tc : Thread nD τ).loc main_arg3)) := pre0_2 (launchContents m c)
  have e3 : ent0 m c (Proc.devRef .tc main_v14_3) = (m ((c.tc : Thread nD τ).loc main_arg4)) := pre0_3 (launchContents m c)
  have e5 : ent0 m c (Proc.devRef .tc main_v14_5) = zeros := pre0_5 (launchContents m c)
  have e6 : ent0 m c (Proc.devRef .tc main_v14_6) = zeros := pre0_6 (launchContents m c)
  unfold run0
  rw [e0, e1, e2, e3, e5, e6]
  rfl

theorem lft0_arg5 : lft0 m c (Proc.devRef .tc main_arg5) = (m ((c.tc : Thread nD τ).loc main_arg5)) := lft0_kept m c (by unfold kept0; decide)
theorem lft0_arg6 : lft0 m c (Proc.devRef .tc main_arg6) = (m ((c.tc : Thread nD τ).loc main_arg6)) := lft0_kept m c (by unfold kept0; decide)
theorem lft0_arg7 : lft0 m c (Proc.devRef .tc main_arg7) = (m ((c.tc : Thread nD τ).loc main_arg7)) := lft0_kept m c (by unfold kept0; decide)
theorem lft1_arg5 : lft1 m c (Proc.devRef .tc main_arg5) = (m ((c.tc : Thread nD τ).loc main_arg5)) := (lft1_kept m c (by unfold kept1; decide)).trans (lft0_arg5 m c)
theorem lft1_arg6 : lft1 m c (Proc.devRef .tc main_arg6) = (m ((c.tc : Thread nD τ).loc main_arg6)) := (lft1_kept m c (by unfold kept1; decide)).trans (lft0_arg6 m c)
theorem lft1_arg7 : lft1 m c (Proc.devRef .tc main_arg7) = (m ((c.tc : Thread nD τ).loc main_arg7)) := (lft1_kept m c (by unfold kept1; decide)).trans (lft0_arg7 m c)

theorem lft0_5 : lft0 m c (Proc.devRef .tc main_v14_5) = (R0 m c 128).1 := (left0 (ent0 m) (ent0_counter m) c).1.trans (by rw [run0_eq])
theorem lft0_6 : lft0 m c (Proc.devRef .tc main_v14_6) = (R0 m c 128).2 := (left0 (ent0 m) (ent0_counter m) c).2.1.trans (by rw [run0_eq])
theorem lft0_7 : lft0 m c (Proc.devRef .tc main_v14_7) = outs (R0 m c) := (left0 (ent0 m) (ent0_counter m) c).2.2.trans (by rw [run0_eq])

theorem run1_eq : run1 (ent1 m) c = R1 m c := by
  have e0 : ent1 m c (Proc.devRef .tc main_v33_0) = both512 (sequence (outs (R0 m c))) := (pre1_0 (lft0 m c)).trans (by rw [lft0_7])
  have e1 : ent1 m c (Proc.devRef .tc main_v33_1) = inL0 (m ((c.tc : Thread nD τ).loc main_arg5)) := (pre1_1 (lft0 m c)).trans (by rw [lft0_arg5])
  have e2 : ent1 m c (Proc.devRef .tc main_v33_2) = recL0 (m ((c.tc : Thread nD τ).loc main_arg6)) := (pre1_2 (lft0 m c)).trans (by rw [lft0_arg6])
  have e3 : ent1 m c (Proc.devRef .tc main_v33_3) = biasL0 (m ((c.tc : Thread nD τ).loc main_arg7)) := (pre1_3 (lft0 m c)).trans (by rw [lft0_arg7])
  have e5 : ent1 m c (Proc.devRef .tc main_v33_5) = zeros := pre1_5 (lft0 m c)
  have e6 : ent1 m c (Proc.devRef .tc main_v33_6) = zeros := pre1_6 (lft0 m c)
  unfold run1
  rw [e0, e1, e2, e3, e5, e6]
  rfl

theorem lft1_5 : lft1 m c (Proc.devRef .tc main_v33_5) = (R1 m c 128).1 := (left1 (ent1 m) (ent1_counter m) c).1.trans (by rw [run1_eq])
theorem lft1_6 : lft1 m c (Proc.devRef .tc main_v33_6) = (R1 m c 128).2 := (left1 (ent1 m) (ent1_counter m) c).2.1.trans (by rw [run1_eq])
theorem lft1_7 : lft1 m c (Proc.devRef .tc main_v33_7) = outs (R1 m c) := (left1 (ent1 m) (ent1_counter m) c).2.2.trans (by rw [run1_eq])

theorem run2_eq : run2 (ent2 m) c = R2 m c := by
  have a5 : after pre2a (lft1 m c) (Proc.devRef .tc main_arg5) = (m ((c.tc : Thread nD τ).loc main_arg5)) := (pre2a_other _ (by decide)).trans (lft1_arg5 m c)
  have a6 : after pre2a (lft1 m c) (Proc.devRef .tc main_arg6) = (m ((c.tc : Thread nD τ).loc main_arg6)) := (pre2a_other _ (by decide)).trans (lft1_arg6 m c)
  have a7 : after pre2a (lft1 m c) (Proc.devRef .tc main_arg7) = (m ((c.tc : Thread nD τ).loc main_arg7)) := (pre2a_other _ (by decide)).trans (lft1_arg7 m c)
  have e0 : ent2 m c (Proc.devRef .tc main_v52_0) = both512 (sequence (outs (R1 m c))) := (pre2_0 (lft1 m c)).trans (by rw [lft1_7])
  have e1 : ent2 m c (Proc.devRef .tc main_v52_1) = inL1 (m ((c.tc : Thread nD τ).loc main_arg5)) := (pre2b_1 (after pre2a (lft1 m c))).trans (by rw [a5])
  have e2 : ent2 m c (Proc.devRef .tc main_v52_2) = recL1 (m ((c.tc : Thread nD τ).loc main_arg6)) := (pre2b_2 (after pre2a (lft1 m c))).trans (by rw [a6])
  have e3 : ent2 m c (Proc.devRef .tc main_v52_3) = biasL1 (m ((c.tc : Thread nD τ).loc main_arg7)) := (pre2b_3 (after pre2a (lft1 m c))).trans (by rw [a7])
  have e5 : ent2 m c (Proc.devRef .tc main_v52_5) = zeros := pre2b_5 (after pre2a (lft1 m c))
  have e6 : ent2 m c (Proc.devRef .tc main_v52_6) = zeros := pre2b_6 (after pre2a (lft1 m c))
  unfold run2
  rw [e0, e1, e2, e3, e5, e6]
  rfl

theorem lft2_5 : lft2 m c (Proc.devRef .tc main_v52_5) = (R2 m c 128).1 := (left2 (ent2 m) (ent2_counter m) c).1.trans (by rw [run2_eq])
theorem lft2_6 : lft2 m c (Proc.devRef .tc main_v52_6) = (R2 m c 128).2 := (left2 (ent2 m) (ent2_counter m) c).2.1.trans (by rw [run2_eq])
theorem lft2_7 : lft2 m c (Proc.devRef .tc main_v52_7) = outs (R2 m c) := (left2 (ent2 m) (ent2_counter m) c).2.2.trans (by rw [run2_eq])
theorem late0_5 : lft2 m c (Proc.devRef .tc main_v14_5) = (R0 m c 128).1 :=
  (lft2_kept m c (by unfold kept2; decide)).trans ((lft1_kept m c (by unfold kept1; decide)).trans (lft0_5 m c))
theorem late1_5 : lft2 m c (Proc.devRef .tc main_v33_5) = (R1 m c 128).1 :=
  (lft2_kept m c (by unfold kept2; decide)).trans (lft1_5 m c)
theorem late0_6 : lft2 m c (Proc.devRef .tc main_v14_6) = (R0 m c 128).2 :=
  (lft2_kept m c (by unfold kept2; decide)).trans ((lft1_kept m c (by unfold kept1; decide)).trans (lft0_6 m c))
theorem late1_6 : lft2 m c (Proc.devRef .tc main_v33_6) = (R1 m c 128).2 :=
  (lft2_kept m c (by unfold kept2; decide)).trans (lft1_6 m c)

/-! ## The results -/

theorem fin_seq : fin m c (Proc.devRef .tc main_v97) = shapeCast S4096x512 (sequence (outs (R2 m c))) shapeCasts_S128x32x512_S4096x512 := by
  show after postb (after posta (lft2 m c)) (Proc.devRef .tc main_v97) = _
  rw [postb_seq, posta_seq, lft2_7]

theorem fin_h : fin m c (Proc.devRef .tc main_v77) = three (R0 m c 128).1 (R1 m c 128).1 (R2 m c 128).1 := by
  show after postb (after posta (lft2 m c)) (Proc.devRef .tc main_v77) = _
  rw [postb_other _ (r := main_v77) (by decide), posta_h, late0_5, late1_5, lft2_5]

theorem fin_c : fin m c (Proc.devRef .tc main_v96) = three (R0 m c 128).2 (R1 m c 128).2 (R2 m c 128).2 := by
  show after postb (after posta (lft2 m c)) (Proc.devRef .tc main_v96) = _
  rw [post_c, late0_6, late1_6, lft2_6]

/-- The run: the three results, the arguments as they were, every semaphore at zero. -/
theorem run_args [∀ e, Nonempty (Elt F e)] : θ_run defs (onTc (τ := τ) (main (F := F))) ⟨m, fun _ => 0, ρ⟩ (fun r => (∀ c : Dev nD,
      r.2.mem ((c.tc : Thread nD τ).loc main_v97) = shapeCast S4096x512 (sequence (outs (R2 m c))) shapeCasts_S128x32x512_S4096x512
      ∧ r.2.mem ((c.tc : Thread nD τ).loc main_v77) = three (R0 m c 128).1 (R1 m c 128).1 (R2 m c 128).1
      ∧ r.2.mem ((c.tc : Thread nD τ).loc main_v96) = three (R0 m c 128).2 (R1 m c 128).2 (R2 m c 128).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨(h c main_v97 rfl).trans (fin_seq m c), (h c main_v77 rfl).trans (fin_h m c), (h c main_v96 rfl).trans (fin_c m c),
    (h c main_arg0 rfl).trans (fin_kept m c (by unfold kept0; decide) (by unfold kept1; decide) (by unfold kept2; decide) (by decide)),
    (h c main_arg1 rfl).trans (fin_kept m c (by unfold kept0; decide) (by unfold kept1; decide) (by unfold kept2; decide) (by decide)),
    (h c main_arg2 rfl).trans (fin_kept m c (by unfold kept0; decide) (by unfold kept1; decide) (by unfold kept2; decide) (by decide)),
    (h c main_arg3 rfl).trans (fin_kept m c (by unfold kept0; decide) (by unfold kept1; decide) (by unfold kept2; decide) (by decide)),
    (h c main_arg4 rfl).trans (fin_kept m c (by unfold kept0; decide) (by unfold kept1; decide) (by unfold kept2; decide) (by decide)),
    (h c main_arg5 rfl).trans (fin_kept m c (by unfold kept0; decide) (by unfold kept1; decide) (by unfold kept2; decide) (by decide)),
    (h c main_arg6 rfl).trans (fin_kept m c (by unfold kept0; decide) (by unfold kept1; decide) (by unfold kept2; decide) (by decide)),
    (h c main_arg7 rfl).trans (fin_kept m c (by unfold kept0; decide) (by unfold kept1; decide) (by unfold kept2; decide) (by decide))⟩,
    Idealize.ShloMosaic.sem_eq_zero_of_no_sems (by decide) r.2⟩) (run m ρ)

end Cert.EncoderReferenceIdeal.Start
-- ==== Proof.EncoderValue.lean ====
/-
  The encoder's recurrence over the extended reals: a trip of the kernel's loop and a trip of the reference's loop make the
  same four vectors of the same four vectors, forward and backward, and a layer's stored output is the reference's sequence.
-/
module

public import proofs.«01_k».proof.Proof.EncoderRun
public import proofs.«01_k».proof.Proof.EncoderReferenceStart
public import Idealize.ShloMosaic.Lib.Pointwise

@[expose] public section

set_option maxRecDepth 16384

noncomputable section

namespace Cert.EncoderIdeal.Value

open Idealize.ShloMosaic Cert.EncoderIdeal Cert.EncoderIdeal.Gen Cert.EncoderIdeal.Encoder Cert.EncoderIdeal.EncoderRun
open Cert.EncoderReferenceIdeal.Values (Sts count zeros both256 both512 gates256 gates512 taken256 taken512 next256 next512 sts256 sts512)
open Cert.EncoderReferenceIdeal.Start (outs taken256_at taken512_at)

/-! ## A cell -/

/-- A cell's new inner state and its output, of its gates and its state. -/
def cellV (G : Fin 1024 → EReal) (cc : EReal) (q : Fin 256) : EReal :=
  Ideal.logistic (G ⟨256 + q.val, by omega⟩) * cc + Ideal.logistic (G ⟨q.val, by omega⟩) * Ideal.tanh (G ⟨512 + q.val, by omega⟩)
def hidV (G : Fin 1024 → EReal) (cc : EReal) (q : Fin 256) : EReal :=
  Ideal.logistic (G ⟨768 + q.val, by omega⟩) * Ideal.tanh (cellV G cc q)

theorem pay3_at (h : FVec Ideal S32x256 .f32) (g : FVec Ideal S32x1024 .bf16) (w : FVec Ideal S1x256x1024 .bf16) (b : Fin 32) (n : Fin 1024) :
    k0_pay3 (F := Ideal) h g w (ix2 b n) = g (ix2 b n) + ∑ e : Fin 256, h (ix2 b e) * w (ix3 0 e n) := by
  pointwise [k0_pay3]

theorem pay5_at (h cc : FVec Ideal S32x256 .f32) (g : FVec Ideal S32x1024 .bf16) (w : FVec Ideal S1x256x1024 .bf16) (b : Fin 32) (q : Fin 256) :
    k0_pay5 (F := Ideal) h cc g w (ix2 b q) = cellV (fun n => k0_pay3 (F := Ideal) h g w (ix2 b n)) (cc (ix2 b q)) q := by
  unfold k0_pay5 cellV
  generalize k0_pay3 (F := Ideal) h g w = G
  pointwise

theorem pay6_at (h cc : FVec Ideal S32x256 .f32) (g : FVec Ideal S32x1024 .bf16) (w : FVec Ideal S1x256x1024 .bf16) (b : Fin 32) (q : Fin 256) :
    k0_pay6 (F := Ideal) h cc g w (ix2 b q) = hidV (fun n => k0_pay3 (F := Ideal) h g w (ix2 b n)) (cc (ix2 b q)) q := by
  unfold k0_pay6 hidV
  rw [← pay5_at h cc g w b q]
  generalize k0_pay5 (F := Ideal) h cc g w = z
  generalize k0_pay3 (F := Ideal) h g w = G
  pointwise

theorem inner_at (g : FVec Ideal Cert.EncoderReferenceIdeal.S2x32x1024 .f32) (cc : FVec Ideal Cert.EncoderReferenceIdeal.S2x32x256 .f32) (d : Fin 2) (b : Fin 32) (q : Fin 256) :
    Cert.EncoderReferenceIdeal.Values.inner (F := Ideal) g cc (ix3 d b q) = cellV (fun n => g (ix3 d b n)) (cc (ix3 d b q)) q := by
  unfold Cert.EncoderReferenceIdeal.Values.inner Cert.EncoderReferenceIdeal.Values.sigm cellV
  pointwise [Ideal.logistic]

theorem outer_at (g : FVec Ideal Cert.EncoderReferenceIdeal.S2x32x1024 .f32) (cc : FVec Ideal Cert.EncoderReferenceIdeal.S2x32x256 .f32) (d : Fin 2) (b : Fin 32) (q : Fin 256) :
    Cert.EncoderReferenceIdeal.Values.outer (F := Ideal) g cc (ix3 d b q) = hidV (fun n => g (ix3 d b n)) (cc (ix3 d b q)) q := by
  unfold Cert.EncoderReferenceIdeal.Values.outer Cert.EncoderReferenceIdeal.Values.sigm hidV
  rw [← inner_at g cc d b q]
  generalize Cert.EncoderReferenceIdeal.Values.inner (F := Ideal) g cc = z
  pointwise [Ideal.logistic]

/-- The kernel's four vectors are the reference's pair of arrays, direction by direction. -/
def Same (s : St Ideal) (r : Sts Ideal) : Prop := ∀ (b : Fin 32) (q : Fin 256),
  s.1 (ix2 b q) = r.1 (ix3 0 b q) ∧ s.2.1 (ix2 b q) = r.2 (ix3 0 b q) ∧ s.2.2.1 (ix2 b q) = r.1 (ix3 1 b q) ∧ s.2.2.2 (ix2 b q) = r.2 (ix3 1 b q)

theorem seq_low (o : FVec Ideal Cert.EncoderReferenceIdeal.S128x2x32x256 .f32) (k : Fin 128) (b : Fin 32) (q : Fin 256) :
    Cert.EncoderReferenceIdeal.Values.sequence (F := Ideal) o (ix3 k b ⟨q.val, by omega⟩) = o (ix4 k 0 b q) := by
  have hq := q.isLt
  unfold Cert.EncoderReferenceIdeal.Values.sequence
  pointwise

theorem seq_high (o : FVec Ideal Cert.EncoderReferenceIdeal.S128x2x32x256 .f32) (k : Fin 128) (b : Fin 32) (q : Fin 256) :
    Cert.EncoderReferenceIdeal.Values.sequence (F := Ideal) o (ix3 k b ⟨256 + q.val, by omega⟩) = o (ix4 ⟨127 - k.val, by omega⟩ 1 b q) := by
  unfold Cert.EncoderReferenceIdeal.Values.sequence
  have h : k.rev = ⟨127 - k.val, by omega⟩ := Fin.ext (by rw [Fin.val_rev]; show 128 - (k.val + 1) = 127 - k.val; omega)
  pointwise
  exact congrArg (fun t : Fin 128 => o (ix4 t 1 b q)) h

theorem stored25 (p : FVec Ideal S32x256 .f32) (hb) (b : Fin 32) (q : Fin 256) : k0_pay25 (F := Ideal) (truncf .bf16 p hb) (ix2 b q) = p (ix2 b q) := by
  pointwise [k0_pay25]
theorem stored26 (p : FVec Ideal S32x256 .f32) (b : Fin 32) (q : Fin 256) : k0_pay26 (F := Ideal) p (ix2 b q) = p (ix2 b q) := by
  pointwise [k0_pay26]

/-! ## A trip, of inputs of length 256 -/

theorem gates256_at (x : FVec Ideal Cert.EncoderReferenceIdeal.S2x32x256 .f32) (h : FVec Ideal Cert.EncoderReferenceIdeal.S2x32x256 .f32) (w : FVec Ideal Cert.EncoderReferenceIdeal.S2x1024x256 .f32) (u : FVec Ideal Cert.EncoderReferenceIdeal.S2x1024x256 .f32) (bi : FVec Ideal Cert.EncoderReferenceIdeal.S2x1024 .f32) (d : Fin 2) (b : Fin 32) (n : Fin 1024) :
    gates256 (F := Ideal) x h w u bi (ix3 d b n) = (∑ e : Fin 256, x (ix3 d b e) * w (ix3 d n e)) + (∑ e : Fin 256, h (ix3 d b e) * u (ix3 d n e)) + bi (ix2 d n) := by
  unfold gates256 Cert.EncoderReferenceIdeal.Values.bias
  pointwise

theorem both256_fwd (s : FVec Ideal Cert.EncoderReferenceIdeal.S128x32x256 .f32) (k : Fin 128) (b : Fin 32) (e : Fin 256) :
    both256 (F := Ideal) s (ix4 k 0 b e) = s (ix3 k b e) := by
  unfold both256
  pointwise

theorem both256_bwd (s : FVec Ideal Cert.EncoderReferenceIdeal.S128x32x256 .f32) (k : Fin 128) (b : Fin 32) (e : Fin 256) :
    both256 (F := Ideal) s (ix4 k 1 b e) = s (ix3 ⟨127 - k.val, by omega⟩ b e) := by
  unfold both256
  pointwise
  have h : k.rev = ⟨127 - k.val, by omega⟩ := Fin.ext (by rw [Fin.val_rev]; show 128 - (k.val + 1) = 127 - k.val; omega)
  exact congrArg (fun t : Fin 128 => s (ix3 t b e)) h

theorem gate256_eq (x : FVec Ideal Cert.EncoderReferenceIdeal.S2x32x256 .f32) (h' : FVec Ideal Cert.EncoderReferenceIdeal.S2x32x256 .f32) (w : FVec Ideal Cert.EncoderReferenceIdeal.S2x1024x256 .f32) (u : FVec Ideal Cert.EncoderReferenceIdeal.S2x1024x256 .f32) (bi : FVec Ideal Cert.EncoderReferenceIdeal.S2x1024 .f32) (d : Fin 2)
    (h : FVec Ideal S32x256 .f32) (g : FVec Ideal S32x1024 .bf16) (v : FVec Ideal S1x256x1024 .bf16)
    (hg : ∀ (b : Fin 32) (n : Fin 1024), g (ix2 b n) = (∑ e : Fin 256, x (ix3 d b e) * w (ix3 d n e)) + bi (ix2 d n))
    (hh : ∀ (b : Fin 32) (e : Fin 256), h (ix2 b e) = h' (ix3 d b e)) (hv : ∀ (e : Fin 256) (n : Fin 1024), v (ix3 0 e n) = u (ix3 d n e)) (b : Fin 32) :
    (fun n : Fin 1024 => k0_pay3 (F := Ideal) h g v (ix2 b n)) = fun n => gates256 (F := Ideal) x h' w u bi (ix3 d b n) := by
  funext n
  rw [pay3_at, gates256_at, hg, add_right_comm]
  simp only [hh, hv]

theorem step256 (x : FVec Ideal Cert.EncoderReferenceIdeal.S2x32x256 .f32) (w : FVec Ideal Cert.EncoderReferenceIdeal.S2x1024x256 .f32) (u : FVec Ideal Cert.EncoderReferenceIdeal.S2x1024x256 .f32) (bi : FVec Ideal Cert.EncoderReferenceIdeal.S2x1024 .f32) (s : St Ideal) (r : Sts Ideal) (hs : Same s r)
    (gf gb : FVec Ideal S32x1024 .bf16) (vf vb : FVec Ideal S1x256x1024 .bf16)
    (hf : ∀ (b : Fin 32) (n : Fin 1024), gf (ix2 b n) = (∑ e : Fin 256, x (ix3 0 b e) * w (ix3 0 n e)) + bi (ix2 0 n))
    (hb : ∀ (b : Fin 32) (n : Fin 1024), gb (ix2 b n) = (∑ e : Fin 256, x (ix3 1 b e) * w (ix3 1 n e)) + bi (ix2 1 n))
    (hvf : ∀ (e : Fin 256) (n : Fin 1024), vf (ix3 0 e n) = u (ix3 0 n e)) (hvb : ∀ (e : Fin 256) (n : Fin 1024), vb (ix3 0 e n) = u (ix3 1 n e)) :
    Same (k0_pay6 (F := Ideal) s.1 s.2.1 gf vf, k0_pay5 (F := Ideal) s.1 s.2.1 gf vf, k0_pay6 (F := Ideal) s.2.2.1 s.2.2.2 gb vb, k0_pay5 (F := Ideal) s.2.2.1 s.2.2.2 gb vb)
      (Cert.EncoderReferenceIdeal.Values.outer (F := Ideal) (gates256 (F := Ideal) x r.1 w u bi) r.2, Cert.EncoderReferenceIdeal.Values.inner (F := Ideal) (gates256 (F := Ideal) x r.1 w u bi) r.2) := by
  intro b q
  have G0 := gate256_eq x r.1 w u bi 0 s.1 gf vf hf (fun b e => (hs b e).1) hvf b
  have G1 := gate256_eq x r.1 w u bi 1 s.2.2.1 gb vb hb (fun b e => (hs b e).2.2.1) hvb b
  obtain ⟨_, c0, _, c1⟩ := hs b q
  refine ⟨?_, ?_, ?_, ?_⟩
  · refine (pay6_at _ _ _ _ _ _).trans (Eq.trans ?_ (outer_at _ _ _ _ _).symm)
    rw [G0, c0]
  · refine (pay5_at _ _ _ _ _ _).trans (Eq.trans ?_ (inner_at _ _ _ _ _).symm)
    rw [G0, c0]
  · refine (pay6_at _ _ _ _ _ _).trans (Eq.trans ?_ (outer_at _ _ _ _ _).symm)
    rw [G1, c1]
  · refine (pay5_at _ _ _ _ _ _).trans (Eq.trans ?_ (inner_at _ _ _ _ _).symm)
    rw [G1, c1]

/-! ## A trip, of inputs of length 512 -/

theorem gates512_at (x : FVec Ideal Cert.EncoderReferenceIdeal.S2x32x512 .f32) (h : FVec Ideal Cert.EncoderReferenceIdeal.S2x32x256 .f32) (w : FVec Ideal Cert.EncoderReferenceIdeal.S2x1024x512 .f32) (u : FVec Ideal Cert.EncoderReferenceIdeal.S2x1024x256 .f32) (bi : FVec Ideal Cert.EncoderReferenceIdeal.S2x1024 .f32) (d : Fin 2) (b : Fin 32) (n : Fin 1024) :
    gates512 (F := Ideal) x h w u bi (ix3 d b n) = (∑ e : Fin 512, x (ix3 d b e) * w (ix3 d n e)) + (∑ e : Fin 256, h (ix3 d b e) * u (ix3 d n e)) + bi (ix2 d n) := by
  unfold gates512 Cert.EncoderReferenceIdeal.Values.bias
  pointwise

theorem both512_fwd (s : FVec Ideal Cert.EncoderReferenceIdeal.S128x32x512 .f32) (k : Fin 128) (b : Fin 32) (e : Fin 512) :
    both512 (F := Ideal) s (ix4 k 0 b e) = s (ix3 k b e) := by
  unfold both512
  pointwise

theorem both512_bwd (s : FVec Ideal Cert.EncoderReferenceIdeal.S128x32x512 .f32) (k : Fin 128) (b : Fin 32) (e : Fin 512) :
    both512 (F := Ideal) s (ix4 k 1 b e) = s (ix3 ⟨127 - k.val, by omega⟩ b e) := by
  unfold both512
  pointwise
  have h : k.rev = ⟨127 - k.val, by omega⟩ := Fin.ext (by rw [Fin.val_rev]; show 128 - (k.val + 1) = 127 - k.val; omega)
  exact congrArg (fun t : Fin 128 => s (ix3 t b e)) h

theorem gate512_eq (x : FVec Ideal Cert.EncoderReferenceIdeal.S2x32x512 .f32) (h' : FVec Ideal Cert.EncoderReferenceIdeal.S2x32x256 .f32) (w : FVec Ideal Cert.EncoderReferenceIdeal.S2x1024x512 .f32) (u : FVec Ideal Cert.EncoderReferenceIdeal.S2x1024x256 .f32) (bi : FVec Ideal Cert.EncoderReferenceIdeal.S2x1024 .f32) (d : Fin 2)
    (h : FVec Ideal S32x256 .f32) (g : FVec Ideal S32x1024 .bf16) (v : FVec Ideal S1x256x1024 .bf16)
    (hg : ∀ (b : Fin 32) (n : Fin 1024), g (ix2 b n) = (∑ e : Fin 512, x (ix3 d b e) * w (ix3 d n e)) + bi (ix2 d n))
    (hh : ∀ (b : Fin 32) (e : Fin 256), h (ix2 b e) = h' (ix3 d b e)) (hv : ∀ (e : Fin 256) (n : Fin 1024), v (ix3 0 e n) = u (ix3 d n e)) (b : Fin 32) :
    (fun n : Fin 1024 => k0_pay3 (F := Ideal) h g v (ix2 b n)) = fun n => gates512 (F := Ideal) x h' w u bi (ix3 d b n) := by
  funext n
  rw [pay3_at, gates512_at, hg, add_right_comm]
  simp only [hh, hv]

theorem step512 (x : FVec Ideal Cert.EncoderReferenceIdeal.S2x32x512 .f32) (w : FVec Ideal Cert.EncoderReferenceIdeal.S2x1024x512 .f32) (u : FVec Ideal Cert.EncoderReferenceIdeal.S2x1024x256 .f32) (bi : FVec Ideal Cert.EncoderReferenceIdeal.S2x1024 .f32) (s : St Ideal) (r : Sts Ideal) (hs : Same s r)
    (gf gb : FVec Ideal S32x1024 .bf16) (vf vb : FVec Ideal S1x256x1024 .bf16)
    (hf : ∀ (b : Fin 32) (n : Fin 1024), gf (ix2 b n) = (∑ e : Fin 512, x (ix3 0 b e) * w (ix3 0 n e)) + bi (ix2 0 n))
    (hb : ∀ (b : Fin 32) (n : Fin 1024), gb (ix2 b n) = (∑ e : Fin 512, x (ix3 1 b e) * w (ix3 1 n e)) + bi (ix2 1 n))
    (hvf : ∀ (e : Fin 256) (n : Fin 1024), vf (ix3 0 e n) = u (ix3 0 n e)) (hvb : ∀ (e : Fin 256) (n : Fin 1024), vb (ix3 0 e n) = u (ix3 1 n e)) :
    Same (k0_pay6 (F := Ideal) s.1 s.2.1 gf vf, k0_pay5 (F := Ideal) s.1 s.2.1 gf vf, k0_pay6 (F := Ideal) s.2.2.1 s.2.2.2 gb vb, k0_pay5 (F := Ideal) s.2.2.1 s.2.2.2 gb vb)
      (Cert.EncoderReferenceIdeal.Values.outer (F := Ideal) (gates512 (F := Ideal) x r.1 w u bi) r.2, Cert.EncoderReferenceIdeal.Values.inner (F := Ideal) (gates512 (F := Ideal) x r.1 w u bi) r.2) := by
  intro b q
  have G0 := gate512_eq x r.1 w u bi 0 s.1 gf vf hf (fun b e => (hs b e).1) hvf b
  have G1 := gate512_eq x r.1 w u bi 1 s.2.2.1 gb vb hb (fun b e => (hs b e).2.2.1) hvb b
  obtain ⟨_, c0, _, c1⟩ := hs b q
  refine ⟨?_, ?_, ?_, ?_⟩
  · refine (pay6_at _ _ _ _ _ _).trans (Eq.trans ?_ (outer_at _ _ _ _ _).symm)
    rw [G0, c0]
  · refine (pay5_at _ _ _ _ _ _).trans (Eq.trans ?_ (inner_at _ _ _ _ _).symm)
    rw [G0, c0]
  · refine (pay6_at _ _ _ _ _ _).trans (Eq.trans ?_ (outer_at _ _ _ _ _).symm)
    rw [G1, c1]
  · refine (pay5_at _ _ _ _ _ _).trans (Eq.trans ?_ (inner_at _ _ _ _ _).symm)
    rw [G1, c1]

/-! ## Layer 0 -/

section Layer0
variable (v : FVec Ideal S2x256x1024 .bf16) (g : FVec Ideal S4096x2048 .bf16)

theorem k0_off5_at : ∀ k : Fin k0_t3_loop.trips, k0_off5 k = ![k.val * 32, 0] := by decide +kernel
theorem k0_off6_at : ∀ k : Fin k0_t3_loop.trips, k0_off6 k = ![(127 - k.val) * 32, 1024] := by decide +kernel

theorem wf0_at (e : Fin 256) (n : Fin 1024) : wf0 (F := Ideal) v (ix3 0 e n) = v (ix3 0 e n) := by
  refine congrArg v (funext fun a => Fin.ext ?_)
  fin_cases a
  · rfl
  · show 0 + 1 * e.val = e.val; omega
  · show 0 + 1 * n.val = n.val; omega

theorem wb0_at (e : Fin 256) (n : Fin 1024) : wb0 (F := Ideal) v (ix3 0 e n) = v (ix3 1 e n) := by
  refine congrArg v (funext fun a => Fin.ext ?_)
  fin_cases a
  · rfl
  · show 0 + 1 * e.val = e.val; omega
  · show 0 + 1 * n.val = n.val; omega

theorem gf0_at (k : Fin k0_t3_loop.trips) (b : Fin 32) (n : Fin 1024) (hk : k.val < 128) :
    gf0 (F := Ideal) g k (ix2 b n) = g (ix2 ⟨k.val * 32 + b.val, by omega⟩ ⟨n.val, by omega⟩) := by
  refine congrArg g (funext fun a => Fin.ext ?_)
  have h := k0_off5_at k
  fin_cases a
  · have h0 : k0_off5 k 0 = k.val * 32 := congrFun h 0
    show k0_off5 k 0 + 1 * b.val = k.val * 32 + b.val
    omega
  · have h0 : k0_off5 k 1 = 0 := congrFun h 1
    show k0_off5 k 1 + 1 * n.val = n.val
    omega

theorem gb0_at (k : Fin k0_t3_loop.trips) (b : Fin 32) (n : Fin 1024) (hk : k.val < 128) :
    gb0 (F := Ideal) g k (ix2 b n) = g (ix2 ⟨(127 - k.val) * 32 + b.val, by omega⟩ ⟨1024 + n.val, by omega⟩) := by
  refine congrArg g (funext fun a => Fin.ext ?_)
  have h := k0_off6_at k
  fin_cases a
  · have h0 : k0_off6 k 0 = (127 - k.val) * 32 := congrFun h 0
    show k0_off6 k 0 + 1 * b.val = (127 - k.val) * 32 + b.val
    omega
  · have h0 : k0_off6 k 1 = 1024 := congrFun h 1
    show k0_off6 k 1 + 1 * n.val = 1024 + n.val
    omega

/-- The layer's vectors before every trip are the reference's. -/
theorem same0 (s : FVec Ideal Cert.EncoderReferenceIdeal.S128x32x256 .f32) (w : FVec Ideal Cert.EncoderReferenceIdeal.S2x1024x256 .f32) (u : FVec Ideal Cert.EncoderReferenceIdeal.S2x1024x256 .f32) (bi : FVec Ideal Cert.EncoderReferenceIdeal.S2x1024 .f32)
    (hf : ∀ (k : Fin 128) (b : Fin 32) (n : Fin 1024), g (ix2 ⟨k.val * 32 + b.val, by omega⟩ ⟨n.val, by omega⟩) = (∑ e : Fin 256, s (ix3 k b e) * w (ix3 0 n e)) + bi (ix2 0 n))
    (hb : ∀ (k : Fin 128) (b : Fin 32) (n : Fin 1024), g (ix2 ⟨k.val * 32 + b.val, by omega⟩ ⟨1024 + n.val, by omega⟩) = (∑ e : Fin 256, s (ix3 k b e) * w (ix3 1 n e)) + bi (ix2 1 n))
    (hv : ∀ (d : Fin 2) (e : Fin 256) (n : Fin 1024), v (ix3 d e n) = u (ix3 d n e)) :
    ∀ k ≤ 128, Same (st0 (F := Ideal) v g z0 k) (sts256 (F := Ideal) (both256 (F := Ideal) s) w u bi (zeros (F := Ideal), zeros (F := Ideal)) k) := by
  intro k
  induction k with
  | zero => exact fun _ b q => ⟨rfl, rfl, rfl, rfl⟩
  | succ k ih =>
    intro hk
    have hlt : k < k0_t3_loop.trips := by rw [Encoder.trips0]; omega
    have hk' : k < 128 := hk
    have e := st0_succ (F := Ideal) v g z0 ⟨k, hlt⟩
    rw [show st0 (F := Ideal) v g z0 (k + 1) = _ from e]
    refine step256 (taken256 (F := Ideal) (both256 (F := Ideal) s) (count (F := Ideal) k)) w u bi _ _ (ih (by omega)) (gf0 (F := Ideal) g ⟨k, hlt⟩) (gb0 (F := Ideal) g ⟨k, hlt⟩) (wf0 (F := Ideal) v) (wb0 (F := Ideal) v) ?_ ?_ ?_ ?_
    · intro b n
      refine (gf0_at g ⟨k, hlt⟩ b n hk').trans ((hf ⟨k, hk'⟩ b n).trans (congrArg (· + _) (Finset.sum_congr rfl fun e _ => congrArg (· * _) ?_)))
      exact ((taken256_at (F := Ideal) _ ⟨k, hk'⟩ 0 b e).trans (both256_fwd s ⟨k, hk'⟩ b e)).symm
    · intro b n
      refine (gb0_at g ⟨k, hlt⟩ b n hk').trans ((hb ⟨127 - k, by omega⟩ b n).trans (congrArg (· + _) (Finset.sum_congr rfl fun e _ => congrArg (· * _) ?_)))
      exact ((taken256_at (F := Ideal) _ ⟨k, hk'⟩ 1 b e).trans (both256_bwd s ⟨k, hk'⟩ b e)).symm
    · exact fun e n => (wf0_at v e n).trans (hv 0 e n)
    · exact fun e n => (wb0_at v e n).trans (hv 1 e n)

theorem out0_low (r : ℕ → Sts Ideal) (H : ∀ k ≤ 128, Same (st0 (F := Ideal) v g z0 k) (r k)) (k : Fin 128) (b : Fin 32) (q : Fin 256) :
    out0 (F := Ideal) v g z0 (ix2 ⟨k.val * 32 + b.val, by omega⟩ ⟨q.val, by omega⟩) = Cert.EncoderReferenceIdeal.Values.sequence (F := Ideal) (outs r) (ix3 k b ⟨q.val, by omega⟩) := by
  rw [seq_low]
  have aux : ∀ (t : ℕ) (ht : t < k0_t3_loop.trips) (y : Fin 32), t = k.val → y = b →
      putF0 (F := Ideal) v g ⟨t, ht⟩ (st0 (F := Ideal) v g z0 t) (ix2 y q) = outs r (ix4 k 0 b q) := by
    intro t ht y h1 h2
    subst h1; subst h2
    have e := st0_succ (F := Ideal) v g z0 ⟨k.val, ht⟩
    have h := (H (k.val + 1) (by omega) y q).1
    rw [show st0 (F := Ideal) v g z0 (k.val + 1) = _ from e] at h
    refine Eq.trans ?_ h
    exact stored25 _ _ y q
  unfold out0
  refine (dif_pos (c := q.val < 256) q.isLt).trans ?_
  exact aux _ _ _ (by show (k.val * 32 + b.val) / 32 = k.val; omega) (Fin.ext (by show (k.val * 32 + b.val) % 32 = b.val; omega))

theorem out0_high (r : ℕ → Sts Ideal) (H : ∀ k ≤ 128, Same (st0 (F := Ideal) v g z0 k) (r k)) (k : Fin 128) (b : Fin 32) (q : Fin 256) :
    out0 (F := Ideal) v g z0 (ix2 ⟨k.val * 32 + b.val, by omega⟩ ⟨256 + q.val, by omega⟩) = Cert.EncoderReferenceIdeal.Values.sequence (F := Ideal) (outs r) (ix3 k b ⟨256 + q.val, by omega⟩) := by
  rw [seq_high]
  have aux : ∀ (t : ℕ) (ht : t < k0_t3_loop.trips) (y : Fin 32) (p : Fin 256), t = 127 - k.val → y = b → p = q →
      putB0 (F := Ideal) v g ⟨t, ht⟩ (st0 (F := Ideal) v g z0 t) (ix2 y p) = outs r (ix4 ⟨127 - k.val, by omega⟩ 1 b q) := by
    intro t ht y p h1 h2 h3
    subst h1; subst h2; subst h3
    have e := st0_succ (F := Ideal) v g z0 ⟨127 - k.val, ht⟩
    have h := (H (127 - k.val + 1) (by omega) y p).2.2.1
    rw [show st0 (F := Ideal) v g z0 (127 - k.val + 1) = _ from e] at h
    refine Eq.trans ?_ h
    exact stored26 _ y p
  unfold out0
  refine (dif_neg (c := 256 + q.val < 256) (by omega)).trans ?_
  exact aux _ _ _ _ (by show 127 - (k.val * 32 + b.val) / 32 = 127 - k.val; omega) (Fin.ext (by show (k.val * 32 + b.val) % 32 = b.val; omega))
    (Fin.ext (by show 256 + q.val - 256 = q.val; omega))

/-- The layer's output is the reference's sequence. -/
theorem out0_at (r : ℕ → Sts Ideal) (H : ∀ k ≤ 128, Same (st0 (F := Ideal) v g z0 k) (r k)) (k : Fin 128) (b : Fin 32) (e : Fin 512) :
    out0 (F := Ideal) v g z0 (ix2 ⟨k.val * 32 + b.val, by omega⟩ e) = Cert.EncoderReferenceIdeal.Values.sequence (F := Ideal) (outs r) (ix3 k b e) := by
  by_cases he : e.val < 256
  · exact out0_low v g r H k b ⟨e.val, he⟩
  · have h := out0_high v g r H k b ⟨e.val - 256, by omega⟩
    have e' : (⟨256 + (e.val - 256), by omega⟩ : Fin 512) = e := Fin.ext (by show 256 + (e.val - 256) = e.val; omega)
    rw [e'] at h
    exact h

end Layer0

/-! ## Layer 1 -/

section Layer1
variable (v : FVec Ideal S2x256x1024 .bf16) (g : FVec Ideal S4096x2048 .bf16)

theorem k0_off9_at : ∀ k : Fin k0_t4_loop.trips, k0_off9 k = ![k.val * 32, 0] := by decide +kernel
theorem k0_off10_at : ∀ k : Fin k0_t4_loop.trips, k0_off10 k = ![(127 - k.val) * 32, 1024] := by decide +kernel

theorem wf1_at (e : Fin 256) (n : Fin 1024) : wf1 (F := Ideal) v (ix3 0 e n) = v (ix3 0 e n) := by
  refine congrArg v (funext fun a => Fin.ext ?_)
  fin_cases a
  · rfl
  · show 0 + 1 * e.val = e.val; omega
  · show 0 + 1 * n.val = n.val; omega

theorem wb1_at (e : Fin 256) (n : Fin 1024) : wb1 (F := Ideal) v (ix3 0 e n) = v (ix3 1 e n) := by
  refine congrArg v (funext fun a => Fin.ext ?_)
  fin_cases a
  · rfl
  · show 0 + 1 * e.val = e.val; omega
  · show 0 + 1 * n.val = n.val; omega

theorem gf1_at (k : Fin k0_t4_loop.trips) (b : Fin 32) (n : Fin 1024) (hk : k.val < 128) :
    gf1 (F := Ideal) g k (ix2 b n) = g (ix2 ⟨k.val * 32 + b.val, by omega⟩ ⟨n.val, by omega⟩) := by
  refine congrArg g (funext fun a => Fin.ext ?_)
  have h := k0_off9_at k
  fin_cases a
  · have h0 : k0_off9 k 0 = k.val * 32 := congrFun h 0
    show k0_off9 k 0 + 1 * b.val = k.val * 32 + b.val
    omega
  · have h0 : k0_off9 k 1 = 0 := congrFun h 1
    show k0_off9 k 1 + 1 * n.val = n.val
    omega

theorem gb1_at (k : Fin k0_t4_loop.trips) (b : Fin 32) (n : Fin 1024) (hk : k.val < 128) :
    gb1 (F := Ideal) g k (ix2 b n) = g (ix2 ⟨(127 - k.val) * 32 + b.val, by omega⟩ ⟨1024 + n.val, by omega⟩) := by
  refine congrArg g (funext fun a => Fin.ext ?_)
  have h := k0_off10_at k
  fin_cases a
  · have h0 : k0_off10 k 0 = (127 - k.val) * 32 := congrFun h 0
    show k0_off10 k 0 + 1 * b.val = (127 - k.val) * 32 + b.val
    omega
  · have h0 : k0_off10 k 1 = 1024 := congrFun h 1
    show k0_off10 k 1 + 1 * n.val = 1024 + n.val
    omega

/-- The layer's vectors before every trip are the reference's. -/
theorem same1 (s : FVec Ideal Cert.EncoderReferenceIdeal.S128x32x512 .f32) (w : FVec Ideal Cert.EncoderReferenceIdeal.S2x1024x512 .f32) (u : FVec Ideal Cert.EncoderReferenceIdeal.S2x1024x256 .f32) (bi : FVec Ideal Cert.EncoderReferenceIdeal.S2x1024 .f32)
    (hf : ∀ (k : Fin 128) (b : Fin 32) (n : Fin 1024), g (ix2 ⟨k.val * 32 + b.val, by omega⟩ ⟨n.val, by omega⟩) = (∑ e : Fin 512, s (ix3 k b e) * w (ix3 0 n e)) + bi (ix2 0 n))
    (hb : ∀ (k : Fin 128) (b : Fin 32) (n : Fin 1024), g (ix2 ⟨k.val * 32 + b.val, by omega⟩ ⟨1024 + n.val, by omega⟩) = (∑ e : Fin 512, s (ix3 k b e) * w (ix3 1 n e)) + bi (ix2 1 n))
    (hv : ∀ (d : Fin 2) (e : Fin 256) (n : Fin 1024), v (ix3 d e n) = u (ix3 d n e)) :
    ∀ k ≤ 128, Same (st1 (F := Ideal) v g z1 k) (sts512 (F := Ideal) (both512 (F := Ideal) s) w u bi (zeros (F := Ideal), zeros (F := Ideal)) k) := by
  intro k
  induction k with
  | zero => exact fun _ b q => ⟨rfl, rfl, rfl, rfl⟩
  | succ k ih =>
    intro hk
    have hlt : k < k0_t4_loop.trips := by rw [Encoder.trips1]; omega
    have hk' : k < 128 := hk
    have e := st1_succ (F := Ideal) v g z1 ⟨k, hlt⟩
    rw [show st1 (F := Ideal) v g z1 (k + 1) = _ from e]
    refine step512 (taken512 (F := Ideal) (both512 (F := Ideal) s) (count (F := Ideal) k)) w u bi _ _ (ih (by omega)) (gf1 (F := Ideal) g ⟨k, hlt⟩) (gb1 (F := Ideal) g ⟨k, hlt⟩) (wf1 (F := Ideal) v) (wb1 (F := Ideal) v) ?_ ?_ ?_ ?_
    · intro b n
      refine (gf1_at g ⟨k, hlt⟩ b n hk').trans ((hf ⟨k, hk'⟩ b n).trans (congrArg (· + _) (Finset.sum_congr rfl fun e _ => congrArg (· * _) ?_)))
      exact ((taken512_at (F := Ideal) _ ⟨k, hk'⟩ 0 b e).trans (both512_fwd s ⟨k, hk'⟩ b e)).symm
    · intro b n
      refine (gb1_at g ⟨k, hlt⟩ b n hk').trans ((hb ⟨127 - k, by omega⟩ b n).trans (congrArg (· + _) (Finset.sum_congr rfl fun e _ => congrArg (· * _) ?_)))
      exact ((taken512_at (F := Ideal) _ ⟨k, hk'⟩ 1 b e).trans (both512_bwd s ⟨k, hk'⟩ b e)).symm
    · exact fun e n => (wf1_at v e n).trans (hv 0 e n)
    · exact fun e n => (wb1_at v e n).trans (hv 1 e n)

theorem out1_low (r : ℕ → Sts Ideal) (H : ∀ k ≤ 128, Same (st1 (F := Ideal) v g z1 k) (r k)) (k : Fin 128) (b : Fin 32) (q : Fin 256) :
    out1 (F := Ideal) v g z1 (ix2 ⟨k.val * 32 + b.val, by omega⟩ ⟨q.val, by omega⟩) = Cert.EncoderReferenceIdeal.Values.sequence (F := Ideal) (outs r) (ix3 k b ⟨q.val, by omega⟩) := by
  rw [seq_low]
  have aux : ∀ (t : ℕ) (ht : t < k0_t4_loop.trips) (y : Fin 32), t = k.val → y = b →
      putF1 (F := Ideal) v g ⟨t, ht⟩ (st1 (F := Ideal) v g z1 t) (ix2 y q) = outs r (ix4 k 0 b q) := by
    intro t ht y h1 h2
    subst h1; subst h2
    have e := st1_succ (F := Ideal) v g z1 ⟨k.val, ht⟩
    have h := (H (k.val + 1) (by omega) y q).1
    rw [show st1 (F := Ideal) v g z1 (k.val + 1) = _ from e] at h
    refine Eq.trans ?_ h
    exact stored25 _ _ y q
  unfold out1
  refine (dif_pos (c := q.val < 256) q.isLt).trans ?_
  exact aux _ _ _ (by show (k.val * 32 + b.val) / 32 = k.val; omega) (Fin.ext (by show (k.val * 32 + b.val) % 32 = b.val; omega))

theorem out1_high (r : ℕ → Sts Ideal) (H : ∀ k ≤ 128, Same (st1 (F := Ideal) v g z1 k) (r k)) (k : Fin 128) (b : Fin 32) (q : Fin 256) :
    out1 (F := Ideal) v g z1 (ix2 ⟨k.val * 32 + b.val, by omega⟩ ⟨256 + q.val, by omega⟩) = Cert.EncoderReferenceIdeal.Values.sequence (F := Ideal) (outs r) (ix3 k b ⟨256 + q.val, by omega⟩) := by
  rw [seq_high]
  have aux : ∀ (t : ℕ) (ht : t < k0_t4_loop.trips) (y : Fin 32) (p : Fin 256), t = 127 - k.val → y = b → p = q →
      putB1 (F := Ideal) v g ⟨t, ht⟩ (st1 (F := Ideal) v g z1 t) (ix2 y p) = outs r (ix4 ⟨127 - k.val, by omega⟩ 1 b q) := by
    intro t ht y p h1 h2 h3
    subst h1; subst h2; subst h3
    have e := st1_succ (F := Ideal) v g z1 ⟨127 - k.val, ht⟩
    have h := (H (127 - k.val + 1) (by omega) y p).2.2.1
    rw [show st1 (F := Ideal) v g z1 (127 - k.val + 1) = _ from e] at h
    refine Eq.trans ?_ h
    exact stored26 _ y p
  unfold out1
  refine (dif_neg (c := 256 + q.val < 256) (by omega)).trans ?_
  exact aux _ _ _ _ (by show 127 - (k.val * 32 + b.val) / 32 = 127 - k.val; omega) (Fin.ext (by show (k.val * 32 + b.val) % 32 = b.val; omega))
    (Fin.ext (by show 256 + q.val - 256 = q.val; omega))

/-- The layer's output is the reference's sequence. -/
theorem out1_at (r : ℕ → Sts Ideal) (H : ∀ k ≤ 128, Same (st1 (F := Ideal) v g z1 k) (r k)) (k : Fin 128) (b : Fin 32) (e : Fin 512) :
    out1 (F := Ideal) v g z1 (ix2 ⟨k.val * 32 + b.val, by omega⟩ e) = Cert.EncoderReferenceIdeal.Values.sequence (F := Ideal) (outs r) (ix3 k b e) := by
  by_cases he : e.val < 256
  · exact out1_low v g r H k b ⟨e.val, he⟩
  · have h := out1_high v g r H k b ⟨e.val - 256, by omega⟩
    have e' : (⟨256 + (e.val - 256), by omega⟩ : Fin 512) = e := Fin.ext (by show 256 + (e.val - 256) = e.val; omega)
    rw [e'] at h
    exact h

end Layer1

/-! ## Layer 2 -/

section Layer2
variable (v : FVec Ideal S2x256x1024 .bf16) (g : FVec Ideal S4096x2048 .bf16)

theorem k0_off13_at : ∀ k : Fin k0_t5_loop.trips, k0_off13 k = ![k.val * 32, 0] := by decide +kernel
theorem k0_off14_at : ∀ k : Fin k0_t5_loop.trips, k0_off14 k = ![(127 - k.val) * 32, 1024] := by decide +kernel

theorem wf2_at (e : Fin 256) (n : Fin 1024) : wf2 (F := Ideal) v (ix3 0 e n) = v (ix3 0 e n) := by
  refine congrArg v (funext fun a => Fin.ext ?_)
  fin_cases a
  · rfl
  · show 0 + 1 * e.val = e.val; omega
  · show 0 + 1 * n.val = n.val; omega

theorem wb2_at (e : Fin 256) (n : Fin 1024) : wb2 (F := Ideal) v (ix3 0 e n) = v (ix3 1 e n) := by
  refine congrArg v (funext fun a => Fin.ext ?_)
  fin_cases a
  · rfl
  · show 0 + 1 * e.val = e.val; omega
  · show 0 + 1 * n.val = n.val; omega

theorem gf2_at (k : Fin k0_t5_loop.trips) (b : Fin 32) (n : Fin 1024) (hk : k.val < 128) :
    gf2 (F := Ideal) g k (ix2 b n) = g (ix2 ⟨k.val * 32 + b.val, by omega⟩ ⟨n.val, by omega⟩) := by
  refine congrArg g (funext fun a => Fin.ext ?_)
  have h := k0_off13_at k
  fin_cases a
  · have h0 : k0_off13 k 0 = k.val * 32 := congrFun h 0
    show k0_off13 k 0 + 1 * b.val = k.val * 32 + b.val
    omega
  · have h0 : k0_off13 k 1 = 0 := congrFun h 1
    show k0_off13 k 1 + 1 * n.val = n.val
    omega

theorem gb2_at (k : Fin k0_t5_loop.trips) (b : Fin 32) (n : Fin 1024) (hk : k.val < 128) :
    gb2 (F := Ideal) g k (ix2 b n) = g (ix2 ⟨(127 - k.val) * 32 + b.val, by omega⟩ ⟨1024 + n.val, by omega⟩) := by
  refine congrArg g (funext fun a => Fin.ext ?_)
  have h := k0_off14_at k
  fin_cases a
  · have h0 : k0_off14 k 0 = (127 - k.val) * 32 := congrFun h 0
    show k0_off14 k 0 + 1 * b.val = (127 - k.val) * 32 + b.val
    omega
  · have h0 : k0_off14 k 1 = 1024 := congrFun h 1
    show k0_off14 k 1 + 1 * n.val = 1024 + n.val
    omega

/-- The layer's vectors before every trip are the reference's. -/
theorem same2 (s : FVec Ideal Cert.EncoderReferenceIdeal.S128x32x512 .f32) (w : FVec Ideal Cert.EncoderReferenceIdeal.S2x1024x512 .f32) (u : FVec Ideal Cert.EncoderReferenceIdeal.S2x1024x256 .f32) (bi : FVec Ideal Cert.EncoderReferenceIdeal.S2x1024 .f32)
    (hf : ∀ (k : Fin 128) (b : Fin 32) (n : Fin 1024), g (ix2 ⟨k.val * 32 + b.val, by omega⟩ ⟨n.val, by omega⟩) = (∑ e : Fin 512, s (ix3 k b e) * w (ix3 0 n e)) + bi (ix2 0 n))
    (hb : ∀ (k : Fin 128) (b : Fin 32) (n : Fin 1024), g (ix2 ⟨k.val * 32 + b.val, by omega⟩ ⟨1024 + n.val, by omega⟩) = (∑ e : Fin 512, s (ix3 k b e) * w (ix3 1 n e)) + bi (ix2 1 n))
    (hv : ∀ (d : Fin 2) (e : Fin 256) (n : Fin 1024), v (ix3 d e n) = u (ix3 d n e)) :
    ∀ k ≤ 128, Same (st2 (F := Ideal) v g z2 k) (sts512 (F := Ideal) (both512 (F := Ideal) s) w u bi (zeros (F := Ideal), zeros (F := Ideal)) k) := by
  intro k
  induction k with
  | zero => exact fun _ b q => ⟨rfl, rfl, rfl, rfl⟩
  | succ k ih =>
    intro hk
    have hlt : k < k0_t5_loop.trips := by rw [Encoder.trips2]; omega
    have hk' : k < 128 := hk
    have e := st2_succ (F := Ideal) v g z2 ⟨k, hlt⟩
    rw [show st2 (F := Ideal) v g z2 (k + 1) = _ from e]
    refine step512 (taken512 (F := Ideal) (both512 (F := Ideal) s) (count (F := Ideal) k)) w u bi _ _ (ih (by omega)) (gf2 (F := Ideal) g ⟨k, hlt⟩) (gb2 (F := Ideal) g ⟨k, hlt⟩) (wf2 (F := Ideal) v) (wb2 (F := Ideal) v) ?_ ?_ ?_ ?_
    · intro b n
      refine (gf2_at g ⟨k, hlt⟩ b n hk').trans ((hf ⟨k, hk'⟩ b n).trans (congrArg (· + _) (Finset.sum_congr rfl fun e _ => congrArg (· * _) ?_)))
      exact ((taken512_at (F := Ideal) _ ⟨k, hk'⟩ 0 b e).trans (both512_fwd s ⟨k, hk'⟩ b e)).symm
    · intro b n
      refine (gb2_at g ⟨k, hlt⟩ b n hk').trans ((hb ⟨127 - k, by omega⟩ b n).trans (congrArg (· + _) (Finset.sum_congr rfl fun e _ => congrArg (· * _) ?_)))
      exact ((taken512_at (F := Ideal) _ ⟨k, hk'⟩ 1 b e).trans (both512_bwd s ⟨k, hk'⟩ b e)).symm
    · exact fun e n => (wf2_at v e n).trans (hv 0 e n)
    · exact fun e n => (wb2_at v e n).trans (hv 1 e n)

theorem out2_low (r : ℕ → Sts Ideal) (H : ∀ k ≤ 128, Same (st2 (F := Ideal) v g z2 k) (r k)) (k : Fin 128) (b : Fin 32) (q : Fin 256) :
    out2 (F := Ideal) v g z2 (ix2 ⟨k.val * 32 + b.val, by omega⟩ ⟨q.val, by omega⟩) = Cert.EncoderReferenceIdeal.Values.sequence (F := Ideal) (outs r) (ix3 k b ⟨q.val, by omega⟩) := by
  rw [seq_low]
  have aux : ∀ (t : ℕ) (ht : t < k0_t5_loop.trips) (y : Fin 32), t = k.val → y = b →
      putF2 (F := Ideal) v g ⟨t, ht⟩ (st2 (F := Ideal) v g z2 t) (ix2 y q) = outs r (ix4 k 0 b q) := by
    intro t ht y h1 h2
    subst h1; subst h2
    have e := st2_succ (F := Ideal) v g z2 ⟨k.val, ht⟩
    have h := (H (k.val + 1) (by omega) y q).1
    rw [show st2 (F := Ideal) v g z2 (k.val + 1) = _ from e] at h
    refine Eq.trans ?_ h
    exact rfl
  unfold out2
  refine (dif_pos (c := q.val < 256) q.isLt).trans ?_
  exact aux _ _ _ (by show (k.val * 32 + b.val) / 32 = k.val; omega) (Fin.ext (by show (k.val * 32 + b.val) % 32 = b.val; omega))

theorem out2_high (r : ℕ → Sts Ideal) (H : ∀ k ≤ 128, Same (st2 (F := Ideal) v g z2 k) (r k)) (k : Fin 128) (b : Fin 32) (q : Fin 256) :
    out2 (F := Ideal) v g z2 (ix2 ⟨k.val * 32 + b.val, by omega⟩ ⟨256 + q.val, by omega⟩) = Cert.EncoderReferenceIdeal.Values.sequence (F := Ideal) (outs r) (ix3 k b ⟨256 + q.val, by omega⟩) := by
  rw [seq_high]
  have aux : ∀ (t : ℕ) (ht : t < k0_t5_loop.trips) (y : Fin 32) (p : Fin 256), t = 127 - k.val → y = b → p = q →
      putB2 (F := Ideal) v g ⟨t, ht⟩ (st2 (F := Ideal) v g z2 t) (ix2 y p) = outs r (ix4 ⟨127 - k.val, by omega⟩ 1 b q) := by
    intro t ht y p h1 h2 h3
    subst h1; subst h2; subst h3
    have e := st2_succ (F := Ideal) v g z2 ⟨127 - k.val, ht⟩
    have h := (H (127 - k.val + 1) (by omega) y p).2.2.1
    rw [show st2 (F := Ideal) v g z2 (127 - k.val + 1) = _ from e] at h
    refine Eq.trans ?_ h
    exact rfl
  unfold out2
  refine (dif_neg (c := 256 + q.val < 256) (by omega)).trans ?_
  exact aux _ _ _ _ (by show 127 - (k.val * 32 + b.val) / 32 = 127 - k.val; omega) (Fin.ext (by show (k.val * 32 + b.val) % 32 = b.val; omega))
    (Fin.ext (by show 256 + q.val - 256 = q.val; omega))

/-- The layer's output is the reference's sequence. -/
theorem out2_at (r : ℕ → Sts Ideal) (H : ∀ k ≤ 128, Same (st2 (F := Ideal) v g z2 k) (r k)) (k : Fin 128) (b : Fin 32) (e : Fin 512) :
    out2 (F := Ideal) v g z2 (ix2 ⟨k.val * 32 + b.val, by omega⟩ e) = Cert.EncoderReferenceIdeal.Values.sequence (F := Ideal) (outs r) (ix3 k b e) := by
  by_cases he : e.val < 256
  · exact out2_low v g r H k b ⟨e.val, he⟩
  · have h := out2_high v g r H k b ⟨e.val - 256, by omega⟩
    have e' : (⟨256 + (e.val - 256), by omega⟩ : Fin 512) = e := Fin.ext (by show 256 + (e.val - 256) = e.val; omega)
    rw [e'] at h
    exact h

end Layer2

end Cert.EncoderIdeal.Value

end
-- ==== Proof.DecoderReference.lean ====
/-
  The reference of the decoder: one loop over the sixty-three steps, on the host. Its operations as lists, and its run: every buffer ends at what the
  lists leave after sixty-three trips.
-/
module

public import proofs.«01_k».proof.Proof.Gen.DecoderReferenceIdeal
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.DecoderReferenceIdeal.Run

open Cert.DecoderReferenceIdeal Cert.DecoderReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The operations, as the program runs them -/

/-- The loop’s test: the counter against the number of trips. -/
abbrev test : List (HloOp τ sig (Elt F)) :=
  [ nullary main_while0c_c_13 (constantI S_ 32 63#32),
    binary main_v3_10 main_while0c_c_13 main_while0c_v4 (cmpi .slt : (⟨S_, .i32⟩ : BufTy).Contents (Elt F) → (⟨S_, .i32⟩ : BufTy).Contents (Elt F) → (⟨S_, .i1⟩ : BufTy).Contents (Elt F)) ]

/-- What runs before the loop. -/
abbrev before : List (HloOp τ sig (Elt F)) :=
  [ unary main_arg0 main_v0 ((extractStridedSlice S32x63 ![0, 0] · slices_S32x64_S32x63_0_0) : (⟨S32x64, .i32⟩ : BufTy).Contents (Elt F) → (⟨S32x63, .i32⟩ : BufTy).Contents (Elt F)),
    unary main_v0 main_v1 ((transpose S63x32 [1, 0] · transposes_S32x63_S63x32_1_0) : (⟨S32x63, .i32⟩ : BufTy).Contents (Elt F) → (⟨S63x32, .i32⟩ : BufTy).Contents (Elt F)),
    nullary main_cst (constant S_ .f32 0x00000000#32),
    unary main_cst main_v2 (broadcastInDim S63x32x512 ![] bcast_S_S63x32x512 : (⟨S_, .f32⟩ : BufTy).Contents (Elt F) → (⟨S63x32x512, .f32⟩ : BufTy).Contents (Elt F)),
    nullary main_c (constantI S_ 32 0#32),
    unary main_v1 main_v3_0 id,
    unary main_arg1 main_v3_1 id,
    unary main_arg11 main_v3_2 id,
    unary main_arg2 main_v3_3 id,
    unary main_arg5 main_v3_4 id,
    unary main_arg6 main_v3_5 id,
    unary main_arg7 main_v3_6 id,
    unary main_arg8 main_v3_7 id,
    unary main_arg9 main_v3_8 id,
    unary main_arg10 main_v3_9 id,
    unary main_c main_v3_10 id,
    unary main_arg3 main_v3_11 id,
    unary main_arg4 main_v3_12 id,
    unary main_v2 main_v3_13 id ]

/-- The trip’s tokens taken. -/
abbrev take : List (HloOp τ sig (Elt F)) :=
  [ TRef.nullary main_while0b_call0.c (constantI S_ 32 0#32),
    TRef.unaryIndexed (.of main_v3_0 : TRef sig ⟨S63x32, .i32⟩) ![(.of main_v3_10 : TRef sig ⟨S_, .i32⟩), main_while0b_call0.c] main_while0b_call0.v0 (fun x i => Host.dynamicSlice S1x32 x (fun k => (i k (Shape.Idx.first h_S_)).toInt) sliceFits_S63x32_S1x32),
    TRef.reshape main_while0b_call0.v0 main_while0b_call0.v1 (rfl : (.i32 : EltTy) = .i32) shapeCasts_S1x32_S32 ]

/-- The loop’s body up to the first forget gate. -/
abbrev bodyA : List (HloOp τ sig (Elt F)) :=
  [ nullary main_while0b_c_13 (constantI S_ 32 0#32),
    unary main_while0b_c_13 main_while0b_v5 (broadcastInDim S32 ![] bcast_S_S32 : (⟨S_, .i32⟩ : BufTy).Contents (Elt F) → (⟨S32, .i32⟩ : BufTy).Contents (Elt F)),
    binary main_while0b_v4 main_while0b_v5 main_while0b_v6 (cmpi .slt : (⟨S32, .i32⟩ : BufTy).Contents (Elt F) → (⟨S32, .i32⟩ : BufTy).Contents (Elt F) → (⟨S32, .i1⟩ : BufTy).Contents (Elt F)),
    nullary main_while0b_c_14 (constantI S_ 32 32000#32),
    unary main_while0b_c_14 main_while0b_v7 (broadcastInDim S32 ![] bcast_S_S32 : (⟨S_, .i32⟩ : BufTy).Contents (Elt F) → (⟨S32, .i32⟩ : BufTy).Contents (Elt F)),
    binary main_while0b_v4 main_while0b_v7 main_while0b_v8 (addi : (⟨S32, .i32⟩ : BufTy).Contents (Elt F) → (⟨S32, .i32⟩ : BufTy).Contents (Elt F) → (⟨S32, .i32⟩ : BufTy).Contents (Elt F)),
    ternary main_while0b_v6 main_while0b_v8 main_while0b_v4 main_while0b_v9 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_while0b_v9 main_while0b_v10 (broadcastInDim S32x1 ![0] bcast_S32_S32x1_0 : (⟨S32, .i32⟩ : BufTy).Contents (Elt F) → (⟨S32x1, .i32⟩ : BufTy).Contents (Elt F)),
    binary main_v3_1 main_while0b_v10 main_while0b_v11 ((fun x i => Host.gather gather_S32000x512_S32x1_S32x512_1_0_n_n_0_1_1512 x i) : (⟨S32000x512, .f32⟩ : BufTy).Contents (Elt F) → (⟨S32x1, .i32⟩ : BufTy).Contents (Elt F) → (⟨S32x512, .f32⟩ : BufTy).Contents (Elt F)),
    unary main_v3_11 main_while0b_v12 ((extractStridedSlice S1x32x512 ![2, 0, 0] · slices_S3x32x512_S1x32x512_2_0_0) : (⟨S3x32x512, .f32⟩ : BufTy).Contents (Elt F) → (⟨S1x32x512, .f32⟩ : BufTy).Contents (Elt F)),
    reshape main_while0b_v12 main_while0b_v13 (rfl : (.f32 : EltTy) = .f32) shapeCasts_S1x32x512_S32x512,
    binary main_v3_2 main_while0b_v13 main_while0b_v14 ((fun l r => Host.dotGeneral dot_S512x512_S32x512_S512x32_0_1_1_0_n_n none l r) : (⟨S512x512, .f32⟩ : BufTy).Contents (Elt F) → (⟨S32x512, .f32⟩ : BufTy).Contents (Elt F) → (⟨S512x32, .f32⟩ : BufTy).Contents (Elt F)),
    binary main_v3_3 main_while0b_v14 main_while0b_v15 ((fun l r => Host.dotGeneral dot_S128x32x512_S512x32_S32x128_2_0_0_n_1_1 none l r) : (⟨S128x32x512, .f32⟩ : BufTy).Contents (Elt F) → (⟨S512x32, .f32⟩ : BufTy).Contents (Elt F) → (⟨S32x128, .f32⟩ : BufTy).Contents (Elt F)),
    nullary main_while0b_cst_15 (constant S_ .f32 0xFF800000#32),
    binary main_while0b_v15 main_while0b_cst_15 main_while0b_v16 ((fun x v => Host.reduce FloatOps.maximumf x v reducesTo_S32x128_S32_d1 h_S_) : (⟨S32x128, .f32⟩ : BufTy).Contents (Elt F) → (⟨S_, .f32⟩ : BufTy).Contents (Elt F) → (⟨S32, .f32⟩ : BufTy).Contents (Elt F)),
    nullary main_while0b_cst_16 (constant S_ .f32 0xFF800000#32),
    unary main_while0b_cst_16 main_while0b_v17 (broadcastInDim S32 ![] bcast_S_S32 : (⟨S_, .f32⟩ : BufTy).Contents (Elt F) → (⟨S32, .f32⟩ : BufTy).Contents (Elt F)),
    binary main_while0b_v17 main_while0b_v16 main_while0b_v18 (maximumf : (⟨S32, .f32⟩ : BufTy).Contents (Elt F) → (⟨S32, .f32⟩ : BufTy).Contents (Elt F) → (⟨S32, .f32⟩ : BufTy).Contents (Elt F)),
    unary main_while0b_v18 main_while0b_v19 (broadcastInDim S32x1 ![0] bcast_S32_S32x1_0 : (⟨S32, .f32⟩ : BufTy).Contents (Elt F) → (⟨S32x1, .f32⟩ : BufTy).Contents (Elt F)),
    unary main_while0b_v19 main_while0b_v20 (broadcastInDim S32x128 ![0, 1] bcast_S32x1_S32x128_0_1 : (⟨S32x1, .f32⟩ : BufTy).Contents (Elt F) → (⟨S32x128, .f32⟩ : BufTy).Contents (Elt F)),
    binary main_while0b_v15 main_while0b_v20 main_while0b_v21 (subf : (⟨S32x128, .f32⟩ : BufTy).Contents (Elt F) → (⟨S32x128, .f32⟩ : BufTy).Contents (Elt F) → (⟨S32x128, .f32⟩ : BufTy).Contents (Elt F)),
    unary main_while0b_v21 main_while0b_v22 (Host.exp : (⟨S32x128, .f32⟩ : BufTy).Contents (Elt F) → (⟨S32x128, .f32⟩ : BufTy).Contents (Elt F)),
    nullary main_while0b_cst_17 (constant S_ .f32 0x00000000#32),
    binary main_while0b_v22 main_while0b_cst_17 main_while0b_v23 ((fun x v => Host.reduceAdd x v reducesTo_S32x128_S32_d1 h_S_) : (⟨S32x128, .f32⟩ : BufTy).Contents (Elt F) → (⟨S_, .f32⟩ : BufTy).Contents (Elt F) → (⟨S32, .f32⟩ : BufTy).Contents (Elt F)),
    unary main_while0b_v23 main_while0b_v24 (broadcastInDim S32x1 ![0] bcast_S32_S32x1_0 : (⟨S32, .f32⟩ : BufTy).Contents (Elt F) → (⟨S32x1, .f32⟩ : BufTy).Contents (Elt F)),
    unary main_while0b_v24 main_while0b_v25 (broadcastInDim S32x128 ![0, 1] bcast_S32x1_S32x128_0_1 : (⟨S32x1, .f32⟩ : BufTy).Contents (Elt F) → (⟨S32x128, .f32⟩ : BufTy).Contents (Elt F)),
    binary main_while0b_v22 main_while0b_v25 main_while0b_v26 (Host.divf : (⟨S32x128, .f32⟩ : BufTy).Contents (Elt F) → (⟨S32x128, .f32⟩ : BufTy).Contents (Elt F) → (⟨S32x128, .f32⟩ : BufTy).Contents (Elt F)),
    binary main_while0b_v26 main_v3_3 main_while0b_v27 ((fun l r => Host.dotGeneral dot_S32x128_S128x32x512_S32x512_1_0_n_2_0_1 none l r) : (⟨S32x128, .f32⟩ : BufTy).Contents (Elt F) → (⟨S128x32x512, .f32⟩ : BufTy).Contents (Elt F) → (⟨S32x512, .f32⟩ : BufTy).Contents (Elt F)),
    binary main_while0b_v11 main_while0b_v27 main_while0b_v28 ((fun a b => concatenate S32x1024 1 [⟨S32x512, a⟩, ⟨S32x512, b⟩] concatenates_S32x512_S32x512_S32x1024_d1) : (⟨S32x512, .f32⟩ : BufTy).Contents (Elt F) → (⟨S32x512, .f32⟩ : BufTy).Contents (Elt F) → (⟨S32x1024, .f32⟩ : BufTy).Contents (Elt F)),
    unary main_v3_11 main_while0b_v29 ((extractStridedSlice S1x32x512 ![0, 0, 0] · slices_S3x32x512_S1x32x512_0_0_0) : (⟨S3x32x512, .f32⟩ : BufTy).Contents (Elt F) → (⟨S1x32x512, .f32⟩ : BufTy).Contents (Elt F)),
    reshape main_while0b_v29 main_while0b_v30 (rfl : (.f32 : EltTy) = .f32) shapeCasts_S1x32x512_S32x512,
    unary main_v3_12 main_while0b_v31 ((extractStridedSlice S1x32x512 ![0, 0, 0] · slices_S3x32x512_S1x32x512_0_0_0) : (⟨S3x32x512, .f32⟩ : BufTy).Contents (Elt F) → (⟨S1x32x512, .f32⟩ : BufTy).Contents (Elt F)),
    reshape main_while0b_v31 main_while0b_v32 (rfl : (.f32 : EltTy) = .f32) shapeCasts_S1x32x512_S32x512,
    unary main_v3_4 main_while0b_v33 ((transpose S1024x2048 [1, 0] · transposes_S2048x1024_S1024x2048_1_0) : (⟨S2048x1024, .f32⟩ : BufTy).Contents (Elt F) → (⟨S1024x2048, .f32⟩ : BufTy).Contents (Elt F)),
    binary main_while0b_v28 main_while0b_v33 main_while0b_v34 ((fun l r => Host.dotGeneral dot_S32x1024_S1024x2048_S32x2048_1_0_0_1_n_n none l r) : (⟨S32x1024, .f32⟩ : BufTy).Contents (Elt F) → (⟨S1024x2048, .f32⟩ : BufTy).Contents (Elt F) → (⟨S32x2048, .f32⟩ : BufTy).Contents (Elt F)),
    unary main_v3_5 main_while0b_v35 ((transpose S512x2048 [1, 0] · transposes_S2048x512_S512x2048_1_0) : (⟨S2048x512, .f32⟩ : BufTy).Contents (Elt F) → (⟨S512x2048, .f32⟩ : BufTy).Contents (Elt F)),
    binary main_while0b_v30 main_while0b_v35 main_while0b_v36 ((fun l r => Host.dotGeneral dot_S32x512_S512x2048_S32x2048_1_0_0_1_n_n none l r) : (⟨S32x512, .f32⟩ : BufTy).Contents (Elt F) → (⟨S512x2048, .f32⟩ : BufTy).Contents (Elt F) → (⟨S32x2048, .f32⟩ : BufTy).Contents (Elt F)),
    binary main_while0b_v34 main_while0b_v36 main_while0b_v37 (addf : (⟨S32x2048, .f32⟩ : BufTy).Contents (Elt F) → (⟨S32x2048, .f32⟩ : BufTy).Contents (Elt F) → (⟨S32x2048, .f32⟩ : BufTy).Contents (Elt F)),
    unary main_v3_6 main_while0b_v38 (broadcastInDim S1x2048 ![1] bcast_S2048_S1x2048_1 : (⟨S2048, .f32⟩ : BufTy).Contents (Elt F) → (⟨S1x2048, .f32⟩ : BufTy).Contents (Elt F)),
    unary main_while0b_v38 main_while0b_v39 (broadcastInDim S32x2048 ![0, 1] bcast_S1x2048_S32x2048_0_1 : (⟨S1x2048, .f32⟩ : BufTy).Contents (Elt F) → (⟨S32x2048, .f32⟩ : BufTy).Contents (Elt F)),
    binary main_while0b_v37 main_while0b_v39 main_while0b_v40 (addf : (⟨S32x2048, .f32⟩ : BufTy).Contents (Elt F) → (⟨S32x2048, .f32⟩ : BufTy).Contents (Elt F) → (⟨S32x2048, .f32⟩ : BufTy).Contents (Elt F)),
    unary main_while0b_v40 main_while0b_v41 ((extractStridedSlice S32x512 ![0, 0] · slices_S32x2048_S32x512_0_0) : (⟨S32x2048, .f32⟩ : BufTy).Contents (Elt F) → (⟨S32x512, .f32⟩ : BufTy).Contents (Elt F)),
    unary main_while0b_v40 main_while0b_v42 ((extractStridedSlice S32x512 ![0, 512] · slices_S32x2048_S32x512_0_512) : (⟨S32x2048, .f32⟩ : BufTy).Contents (Elt F) → (⟨S32x512, .f32⟩ : BufTy).Contents (Elt F)),
    unary main_while0b_v40 main_while0b_v43 ((extractStridedSlice S32x512 ![0, 1024] · slices_S32x2048_S32x512_0_1024) : (⟨S32x2048, .f32⟩ : BufTy).Contents (Elt F) → (⟨S32x512, .f32⟩ : BufTy).Contents (Elt F)),
    unary main_while0b_v40 main_while0b_v44 ((extractStridedSlice S32x512 ![0, 1536] · slices_S32x2048_S32x512_0_1536) : (⟨S32x2048, .f32⟩ : BufTy).Contents (Elt F) → (⟨S32x512, .f32⟩ : BufTy).Contents (Elt F)),
    unary main_while0b_v42 main_while0b_v45 (Host.negf : (⟨S32x512, .f32⟩ : BufTy).Contents (Elt F) → (⟨S32x512, .f32⟩ : BufTy).Contents (Elt F)),
    unary main_while0b_v45 main_while0b_v46 (Host.exp : (⟨S32x512, .f32⟩ : BufTy).Contents (Elt F) → (⟨S32x512, .f32⟩ : BufTy).Contents (Elt F)),
    nullary main_while0b_cst_18 (constant S_ .f32 0x3F800000#32),
    unary main_while0b_cst_18 main_while0b_v47 (broadcastInDim S32x512 ![] bcast_S_S32x512 : (⟨S_, .f32⟩ : BufTy).Contents (Elt F) → (⟨S32x512, .f32⟩ : BufTy).Contents (Elt F)),
    binary main_while0b_v47 main_while0b_v46 main_while0b_v48 (addf : (⟨S32x512, .f32⟩ : BufTy).Contents (Elt F) → (⟨S32x512, .f32⟩ : BufTy).Contents (Elt F) → (⟨S32x512, .f32⟩ : BufTy).Contents (Elt F)),
    nullary main_while0b_cst_19 (constant S_ .f32 0x3F800000#32),
    unary main_while0b_cst_19 main_while0b_v49 (broadcastInDim S32x512 ![] bcast_S_S32x512 : (⟨S_, .f32⟩ : BufTy).Contents (Elt F) → (⟨S32x512, .f32⟩ : BufTy).Contents (Elt F)),
    binary main_while0b_v49 main_while0b_v48 main_while0b_v50 (Host.divf : (⟨S32x512, .f32⟩ : BufTy).Contents (Elt F) → (⟨S32x512, .f32⟩ : BufTy).Contents (Elt F) → (⟨S32x512, .f32⟩ : BufTy).Contents (Elt F)),
    binary main_while0b_v50 main_while0b_v32 main_while0b_v51 (mulf : (⟨S32x512, .f32⟩ : BufTy).Contents (Elt F) → (⟨S32x512, .f32⟩ : BufTy).Contents (Elt F) → (⟨S32x512, .f32⟩ : BufTy).Contents (Elt F)),
    unary main_while0b_v41 main_while0b_v52 (Host.negf : (⟨S32x512, .f32⟩ : BufTy).Contents (Elt F) → (⟨S32x512, .f32⟩ : BufTy).Contents (Elt F)),
    unary main_while0b_v52 main_while0b_v53 (Host.exp : (⟨S32x512, .f32⟩ : BufTy).Contents (Elt F) → (⟨S32x512, .f32⟩ : BufTy).Contents (Elt F)),
    nullary main_while0b_cst_20 (constant S_ .f32 0x3F800000#32),
    unary main_while0b_cst_20 main_while0b_v54 (broadcastInDim S32x512 ![] bcast_S_S32x512 : (⟨S_, .f32⟩ : BufTy).Contents (Elt F) → (⟨S32x512, .f32⟩ : BufTy).Contents (Elt F)),
    binary main_while0b_v54 main_while0b_v53 main_while0b_v55 (addf : (⟨S32x512, .f32⟩ : BufTy).Contents (Elt F) → (⟨S32x512, .f32⟩ : BufTy).Contents (Elt F) → (⟨S32x512, .f32⟩ : BufTy).Contents (Elt F)) ]

/-- The body, its second stretch. -/
abbrev bodyB : List (HloOp τ sig (Elt F)) :=
  [ nullary main_while0b_cst_21 (constant S_ .f32 0x3F800000#32),
    unary main_while0b_cst_21 main_while0b_v56 (broadcastInDim S32x512 ![] bcast_S_S32x512 : (⟨S_, .f32⟩ : BufTy).Contents (Elt F) → (⟨S32x512, .f32⟩ : BufTy).Contents (Elt F)),
    binary main_while0b_v56 main_while0b_v55 main_while0b_v57 (Host.divf : (⟨S32x512, .f32⟩ : BufTy).Contents (Elt F) → (⟨S32x512, .f32⟩ : BufTy).Contents (Elt F) → (⟨S32x512, .f32⟩ : BufTy).Contents (Elt F)),
    unary main_while0b_v43 main_while0b_v58 (Host.tanh : (⟨S32x512, .f32⟩ : BufTy).Contents (Elt F) → (⟨S32x512, .f32⟩ : BufTy).Contents (Elt F)),
    binary main_while0b_v57 main_while0b_v58 main_while0b_v59 (mulf : (⟨S32x512, .f32⟩ : BufTy).Contents (Elt F) → (⟨S32x512, .f32⟩ : BufTy).Contents (Elt F) → (⟨S32x512, .f32⟩ : BufTy).Contents (Elt F)),
    binary main_while0b_v51 main_while0b_v59 main_while0b_v60 (addf : (⟨S32x512, .f32⟩ : BufTy).Contents (Elt F) → (⟨S32x512, .f32⟩ : BufTy).Contents (Elt F) → (⟨S32x512, .f32⟩ : BufTy).Contents (Elt F)),
    unary main_while0b_v44 main_while0b_v61 (Host.negf : (⟨S32x512, .f32⟩ : BufTy).Contents (Elt F) → (⟨S32x512, .f32⟩ : BufTy).Contents (Elt F)),
    unary main_while0b_v61 main_while0b_v62 (Host.exp : (⟨S32x512, .f32⟩ : BufTy).Contents (Elt F) → (⟨S32x512, .f32⟩ : BufTy).Contents (Elt F)),
    nullary main_while0b_cst_22 (constant S_ .f32 0x3F800000#32),
    unary main_while0b_cst_22 main_while0b_v63 (broadcastInDim S32x512 ![] bcast_S_S32x512 : (⟨S_, .f32⟩ : BufTy).Contents (Elt F) → (⟨S32x512, .f32⟩ : BufTy).Contents (Elt F)),
    binary main_while0b_v63 main_while0b_v62 main_while0b_v64 (addf : (⟨S32x512, .f32⟩ : BufTy).Contents (Elt F) → (⟨S32x512, .f32⟩ : BufTy).Contents (Elt F) → (⟨S32x512, .f32⟩ : BufTy).Contents (Elt F)),
    nullary main_while0b_cst_23 (constant S_ .f32 0x3F800000#32),
    unary main_while0b_cst_23 main_while0b_v65 (broadcastInDim S32x512 ![] bcast_S_S32x512 : (⟨S_, .f32⟩ : BufTy).Contents (Elt F) → (⟨S32x512, .f32⟩ : BufTy).Contents (Elt F)),
    binary main_while0b_v65 main_while0b_v64 main_while0b_v66 (Host.divf : (⟨S32x512, .f32⟩ : BufTy).Contents (Elt F) → (⟨S32x512, .f32⟩ : BufTy).Contents (Elt F) → (⟨S32x512, .f32⟩ : BufTy).Contents (Elt F)),
    unary main_while0b_v60 main_while0b_v67 (Host.tanh : (⟨S32x512, .f32⟩ : BufTy).Contents (Elt F) → (⟨S32x512, .f32⟩ : BufTy).Contents (Elt F)),
    binary main_while0b_v66 main_while0b_v67 main_while0b_v68 (mulf : (⟨S32x512, .f32⟩ : BufTy).Contents (Elt F) → (⟨S32x512, .f32⟩ : BufTy).Contents (Elt F) → (⟨S32x512, .f32⟩ : BufTy).Contents (Elt F)),
    unary main_v3_11 main_while0b_v69 ((extractStridedSlice S1x32x512 ![1, 0, 0] · slices_S3x32x512_S1x32x512_1_0_0) : (⟨S3x32x512, .f32⟩ : BufTy).Contents (Elt F) → (⟨S1x32x512, .f32⟩ : BufTy).Contents (Elt F)),
    reshape main_while0b_v69 main_while0b_v70 (rfl : (.f32 : EltTy) = .f32) shapeCasts_S1x32x512_S32x512,
    unary main_v3_12 main_while0b_v71 ((extractStridedSlice S1x32x512 ![1, 0, 0] · slices_S3x32x512_S1x32x512_1_0_0) : (⟨S3x32x512, .f32⟩ : BufTy).Contents (Elt F) → (⟨S1x32x512, .f32⟩ : BufTy).Contents (Elt F)),
    reshape main_while0b_v71 main_while0b_v72 (rfl : (.f32 : EltTy) = .f32) shapeCasts_S1x32x512_S32x512,
    unary main_v3_7 main_while0b_v73 ((extractStridedSlice S1x2048x512 ![0, 0, 0] · slices_S2x2048x512_S1x2048x512_0_0_0) : (⟨S2x2048x512, .f32⟩ : BufTy).Contents (Elt F) → (⟨S1x2048x512, .f32⟩ : BufTy).Contents (Elt F)),
    reshape main_while0b_v73 main_while0b_v74 (rfl : (.f32 : EltTy) = .f32) shapeCasts_S1x2048x512_S2048x512,
    unary main_v3_8 main_while0b_v75 ((extractStridedSlice S1x2048x512 ![0, 0, 0] · slices_S2x2048x512_S1x2048x512_0_0_0) : (⟨S2x2048x512, .f32⟩ : BufTy).Contents (Elt F) → (⟨S1x2048x512, .f32⟩ : BufTy).Contents (Elt F)),
    reshape main_while0b_v75 main_while0b_v76 (rfl : (.f32 : EltTy) = .f32) shapeCasts_S1x2048x512_S2048x512,
    unary main_v3_9 main_while0b_v77 ((extractStridedSlice S1x2048 ![0, 0] · slices_S2x2048_S1x2048_0_0) : (⟨S2x2048, .f32⟩ : BufTy).Contents (Elt F) → (⟨S1x2048, .f32⟩ : BufTy).Contents (Elt F)),
    reshape main_while0b_v77 main_while0b_v78 (rfl : (.f32 : EltTy) = .f32) shapeCasts_S1x2048_S2048,
    unary main_while0b_v74 main_while0b_v79 ((transpose S512x2048 [1, 0] · transposes_S2048x512_S512x2048_1_0) : (⟨S2048x512, .f32⟩ : BufTy).Contents (Elt F) → (⟨S512x2048, .f32⟩ : BufTy).Contents (Elt F)),
    binary main_while0b_v68 main_while0b_v79 main_while0b_v80 ((fun l r => Host.dotGeneral dot_S32x512_S512x2048_S32x2048_1_0_0_1_n_n none l r) : (⟨S32x512, .f32⟩ : BufTy).Contents (Elt F) → (⟨S512x2048, .f32⟩ : BufTy).Contents (Elt F) → (⟨S32x2048, .f32⟩ : BufTy).Contents (Elt F)),
    unary main_while0b_v76 main_while0b_v81 ((transpose S512x2048 [1, 0] · transposes_S2048x512_S512x2048_1_0) : (⟨S2048x512, .f32⟩ : BufTy).Contents (Elt F) → (⟨S512x2048, .f32⟩ : BufTy).Contents (Elt F)),
    binary main_while0b_v70 main_while0b_v81 main_while0b_v82 ((fun l r => Host.dotGeneral dot_S32x512_S512x2048_S32x2048_1_0_0_1_n_n none l r) : (⟨S32x512, .f32⟩ : BufTy).Contents (Elt F) → (⟨S512x2048, .f32⟩ : BufTy).Contents (Elt F) → (⟨S32x2048, .f32⟩ : BufTy).Contents (Elt F)),
    binary main_while0b_v80 main_while0b_v82 main_while0b_v83 (addf : (⟨S32x2048, .f32⟩ : BufTy).Contents (Elt F) → (⟨S32x2048, .f32⟩ : BufTy).Contents (Elt F) → (⟨S32x2048, .f32⟩ : BufTy).Contents (Elt F)),
    unary main_while0b_v78 main_while0b_v84 (broadcastInDim S1x2048 ![1] bcast_S2048_S1x2048_1 : (⟨S2048, .f32⟩ : BufTy).Contents (Elt F) → (⟨S1x2048, .f32⟩ : BufTy).Contents (Elt F)),
    unary main_while0b_v84 main_while0b_v85 (broadcastInDim S32x2048 ![0, 1] bcast_S1x2048_S32x2048_0_1 : (⟨S1x2048, .f32⟩ : BufTy).Contents (Elt F) → (⟨S32x2048, .f32⟩ : BufTy).Contents (Elt F)),
    binary main_while0b_v83 main_while0b_v85 main_while0b_v86 (addf : (⟨S32x2048, .f32⟩ : BufTy).Contents (Elt F) → (⟨S32x2048, .f32⟩ : BufTy).Contents (Elt F) → (⟨S32x2048, .f32⟩ : BufTy).Contents (Elt F)),
    unary main_while0b_v86 main_while0b_v87 ((extractStridedSlice S32x512 ![0, 0] · slices_S32x2048_S32x512_0_0) : (⟨S32x2048, .f32⟩ : BufTy).Contents (Elt F) → (⟨S32x512, .f32⟩ : BufTy).Contents (Elt F)),
    unary main_while0b_v86 main_while0b_v88 ((extractStridedSlice S32x512 ![0, 512] · slices_S32x2048_S32x512_0_512) : (⟨S32x2048, .f32⟩ : BufTy).Contents (Elt F) → (⟨S32x512, .f32⟩ : BufTy).Contents (Elt F)),
    unary main_while0b_v86 main_while0b_v89 ((extractStridedSlice S32x512 ![0, 1024] · slices_S32x2048_S32x512_0_1024) : (⟨S32x2048, .f32⟩ : BufTy).Contents (Elt F) → (⟨S32x512, .f32⟩ : BufTy).Contents (Elt F)),
    unary main_while0b_v86 main_while0b_v90 ((extractStridedSlice S32x512 ![0, 1536] · slices_S32x2048_S32x512_0_1536) : (⟨S32x2048, .f32⟩ : BufTy).Contents (Elt F) → (⟨S32x512, .f32⟩ : BufTy).Contents (Elt F)),
    unary main_while0b_v88 main_while0b_v91 (Host.negf : (⟨S32x512, .f32⟩ : BufTy).Contents (Elt F) → (⟨S32x512, .f32⟩ : BufTy).Contents (Elt F)),
    unary main_while0b_v91 main_while0b_v92 (Host.exp : (⟨S32x512, .f32⟩ : BufTy).Contents (Elt F) → (⟨S32x512, .f32⟩ : BufTy).Contents (Elt F)),
    nullary main_while0b_cst_24 (constant S_ .f32 0x3F800000#32),
    unary main_while0b_cst_24 main_while0b_v93 (broadcastInDim S32x512 ![] bcast_S_S32x512 : (⟨S_, .f32⟩ : BufTy).Contents (Elt F) → (⟨S32x512, .f32⟩ : BufTy).Contents (Elt F)),
    binary main_while0b_v93 main_while0b_v92 main_while0b_v94 (addf : (⟨S32x512, .f32⟩ : BufTy).Contents (Elt F) → (⟨S32x512, .f32⟩ : BufTy).Contents (Elt F) → (⟨S32x512, .f32⟩ : BufTy).Contents (Elt F)),
    nullary main_while0b_cst_25 (constant S_ .f32 0x3F800000#32),
    unary main_while0b_cst_25 main_while0b_v95 (broadcastInDim S32x512 ![] bcast_S_S32x512 : (⟨S_, .f32⟩ : BufTy).Contents (Elt F) → (⟨S32x512, .f32⟩ : BufTy).Contents (Elt F)),
    binary main_while0b_v95 main_while0b_v94 main_while0b_v96 (Host.divf : (⟨S32x512, .f32⟩ : BufTy).Contents (Elt F) → (⟨S32x512, .f32⟩ : BufTy).Contents (Elt F) → (⟨S32x512, .f32⟩ : BufTy).Contents (Elt F)),
    binary main_while0b_v96 main_while0b_v72 main_while0b_v97 (mulf : (⟨S32x512, .f32⟩ : BufTy).Contents (Elt F) → (⟨S32x512, .f32⟩ : BufTy).Contents (Elt F) → (⟨S32x512, .f32⟩ : BufTy).Contents (Elt F)),
    unary main_while0b_v87 main_while0b_v98 (Host.negf : (⟨S32x512, .f32⟩ : BufTy).Contents (Elt F) → (⟨S32x512, .f32⟩ : BufTy).Contents (Elt F)),
    unary main_while0b_v98 main_while0b_v99 (Host.exp : (⟨S32x512, .f32⟩ : BufTy).Contents (Elt F) → (⟨S32x512, .f32⟩ : BufTy).Contents (Elt F)),
    nullary main_while0b_cst_26 (constant S_ .f32 0x3F800000#32),
    unary main_while0b_cst_26 main_while0b_v100 (broadcastInDim S32x512 ![] bcast_S_S32x512 : (⟨S_, .f32⟩ : BufTy).Contents (Elt F) → (⟨S32x512, .f32⟩ : BufTy).Contents (Elt F)),
    binary main_while0b_v100 main_while0b_v99 main_while0b_v101 (addf : (⟨S32x512, .f32⟩ : BufTy).Contents (Elt F) → (⟨S32x512, .f32⟩ : BufTy).Contents (Elt F) → (⟨S32x512, .f32⟩ : BufTy).Contents (Elt F)),
    nullary main_while0b_cst_27 (constant S_ .f32 0x3F800000#32),
    unary main_while0b_cst_27 main_while0b_v102 (broadcastInDim S32x512 ![] bcast_S_S32x512 : (⟨S_, .f32⟩ : BufTy).Contents (Elt F) → (⟨S32x512, .f32⟩ : BufTy).Contents (Elt F)),
    binary main_while0b_v102 main_while0b_v101 main_while0b_v103 (Host.divf : (⟨S32x512, .f32⟩ : BufTy).Contents (Elt F) → (⟨S32x512, .f32⟩ : BufTy).Contents (Elt F) → (⟨S32x512, .f32⟩ : BufTy).Contents (Elt F)),
    unary main_while0b_v89 main_while0b_v104 (Host.tanh : (⟨S32x512, .f32⟩ : BufTy).Contents (Elt F) → (⟨S32x512, .f32⟩ : BufTy).Contents (Elt F)),
    binary main_while0b_v103 main_while0b_v104 main_while0b_v105 (mulf : (⟨S32x512, .f32⟩ : BufTy).Contents (Elt F) → (⟨S32x512, .f32⟩ : BufTy).Contents (Elt F) → (⟨S32x512, .f32⟩ : BufTy).Contents (Elt F)),
    binary main_while0b_v97 main_while0b_v105 main_while0b_v106 (addf : (⟨S32x512, .f32⟩ : BufTy).Contents (Elt F) → (⟨S32x512, .f32⟩ : BufTy).Contents (Elt F) → (⟨S32x512, .f32⟩ : BufTy).Contents (Elt F)),
    unary main_while0b_v90 main_while0b_v107 (Host.negf : (⟨S32x512, .f32⟩ : BufTy).Contents (Elt F) → (⟨S32x512, .f32⟩ : BufTy).Contents (Elt F)),
    unary main_while0b_v107 main_while0b_v108 (Host.exp : (⟨S32x512, .f32⟩ : BufTy).Contents (Elt F) → (⟨S32x512, .f32⟩ : BufTy).Contents (Elt F)) ]

/-- The body, its third stretch. -/
abbrev bodyC : List (HloOp τ sig (Elt F)) :=
  [ nullary main_while0b_cst_28 (constant S_ .f32 0x3F800000#32),
    unary main_while0b_cst_28 main_while0b_v109 (broadcastInDim S32x512 ![] bcast_S_S32x512 : (⟨S_, .f32⟩ : BufTy).Contents (Elt F) → (⟨S32x512, .f32⟩ : BufTy).Contents (Elt F)),
    binary main_while0b_v109 main_while0b_v108 main_while0b_v110 (addf : (⟨S32x512, .f32⟩ : BufTy).Contents (Elt F) → (⟨S32x512, .f32⟩ : BufTy).Contents (Elt F) → (⟨S32x512, .f32⟩ : BufTy).Contents (Elt F)),
    nullary main_while0b_cst_29 (constant S_ .f32 0x3F800000#32),
    unary main_while0b_cst_29 main_while0b_v111 (broadcastInDim S32x512 ![] bcast_S_S32x512 : (⟨S_, .f32⟩ : BufTy).Contents (Elt F) → (⟨S32x512, .f32⟩ : BufTy).Contents (Elt F)),
    binary main_while0b_v111 main_while0b_v110 main_while0b_v112 (Host.divf : (⟨S32x512, .f32⟩ : BufTy).Contents (Elt F) → (⟨S32x512, .f32⟩ : BufTy).Contents (Elt F) → (⟨S32x512, .f32⟩ : BufTy).Contents (Elt F)),
    unary main_while0b_v106 main_while0b_v113 (Host.tanh : (⟨S32x512, .f32⟩ : BufTy).Contents (Elt F) → (⟨S32x512, .f32⟩ : BufTy).Contents (Elt F)),
    binary main_while0b_v112 main_while0b_v113 main_while0b_v114 (mulf : (⟨S32x512, .f32⟩ : BufTy).Contents (Elt F) → (⟨S32x512, .f32⟩ : BufTy).Contents (Elt F) → (⟨S32x512, .f32⟩ : BufTy).Contents (Elt F)),
    unary main_v3_11 main_while0b_v115 ((extractStridedSlice S1x32x512 ![2, 0, 0] · slices_S3x32x512_S1x32x512_2_0_0) : (⟨S3x32x512, .f32⟩ : BufTy).Contents (Elt F) → (⟨S1x32x512, .f32⟩ : BufTy).Contents (Elt F)),
    reshape main_while0b_v115 main_while0b_v116 (rfl : (.f32 : EltTy) = .f32) shapeCasts_S1x32x512_S32x512,
    unary main_v3_12 main_while0b_v117 ((extractStridedSlice S1x32x512 ![2, 0, 0] · slices_S3x32x512_S1x32x512_2_0_0) : (⟨S3x32x512, .f32⟩ : BufTy).Contents (Elt F) → (⟨S1x32x512, .f32⟩ : BufTy).Contents (Elt F)),
    reshape main_while0b_v117 main_while0b_v118 (rfl : (.f32 : EltTy) = .f32) shapeCasts_S1x32x512_S32x512,
    unary main_v3_7 main_while0b_v119 ((extractStridedSlice S1x2048x512 ![1, 0, 0] · slices_S2x2048x512_S1x2048x512_1_0_0) : (⟨S2x2048x512, .f32⟩ : BufTy).Contents (Elt F) → (⟨S1x2048x512, .f32⟩ : BufTy).Contents (Elt F)),
    reshape main_while0b_v119 main_while0b_v120 (rfl : (.f32 : EltTy) = .f32) shapeCasts_S1x2048x512_S2048x512,
    unary main_v3_8 main_while0b_v121 ((extractStridedSlice S1x2048x512 ![1, 0, 0] · slices_S2x2048x512_S1x2048x512_1_0_0) : (⟨S2x2048x512, .f32⟩ : BufTy).Contents (Elt F) → (⟨S1x2048x512, .f32⟩ : BufTy).Contents (Elt F)),
    reshape main_while0b_v121 main_while0b_v122 (rfl : (.f32 : EltTy) = .f32) shapeCasts_S1x2048x512_S2048x512,
    unary main_v3_9 main_while0b_v123 ((extractStridedSlice S1x2048 ![1, 0] · slices_S2x2048_S1x2048_1_0) : (⟨S2x2048, .f32⟩ : BufTy).Contents (Elt F) → (⟨S1x2048, .f32⟩ : BufTy).Contents (Elt F)),
    reshape main_while0b_v123 main_while0b_v124 (rfl : (.f32 : EltTy) = .f32) shapeCasts_S1x2048_S2048,
    unary main_while0b_v120 main_while0b_v125 ((transpose S512x2048 [1, 0] · transposes_S2048x512_S512x2048_1_0) : (⟨S2048x512, .f32⟩ : BufTy).Contents (Elt F) → (⟨S512x2048, .f32⟩ : BufTy).Contents (Elt F)),
    binary main_while0b_v114 main_while0b_v125 main_while0b_v126 ((fun l r => Host.dotGeneral dot_S32x512_S512x2048_S32x2048_1_0_0_1_n_n none l r) : (⟨S32x512, .f32⟩ : BufTy).Contents (Elt F) → (⟨S512x2048, .f32⟩ : BufTy).Contents (Elt F) → (⟨S32x2048, .f32⟩ : BufTy).Contents (Elt F)),
    unary main_while0b_v122 main_while0b_v127 ((transpose S512x2048 [1, 0] · transposes_S2048x512_S512x2048_1_0) : (⟨S2048x512, .f32⟩ : BufTy).Contents (Elt F) → (⟨S512x2048, .f32⟩ : BufTy).Contents (Elt F)),
    binary main_while0b_v116 main_while0b_v127 main_while0b_v128 ((fun l r => Host.dotGeneral dot_S32x512_S512x2048_S32x2048_1_0_0_1_n_n none l r) : (⟨S32x512, .f32⟩ : BufTy).Contents (Elt F) → (⟨S512x2048, .f32⟩ : BufTy).Contents (Elt F) → (⟨S32x2048, .f32⟩ : BufTy).Contents (Elt F)),
    binary main_while0b_v126 main_while0b_v128 main_while0b_v129 (addf : (⟨S32x2048, .f32⟩ : BufTy).Contents (Elt F) → (⟨S32x2048, .f32⟩ : BufTy).Contents (Elt F) → (⟨S32x2048, .f32⟩ : BufTy).Contents (Elt F)),
    unary main_while0b_v124 main_while0b_v130 (broadcastInDim S1x2048 ![1] bcast_S2048_S1x2048_1 : (⟨S2048, .f32⟩ : BufTy).Contents (Elt F) → (⟨S1x2048, .f32⟩ : BufTy).Contents (Elt F)),
    unary main_while0b_v130 main_while0b_v131 (broadcastInDim S32x2048 ![0, 1] bcast_S1x2048_S32x2048_0_1 : (⟨S1x2048, .f32⟩ : BufTy).Contents (Elt F) → (⟨S32x2048, .f32⟩ : BufTy).Contents (Elt F)),
    binary main_while0b_v129 main_while0b_v131 main_while0b_v132 (addf : (⟨S32x2048, .f32⟩ : BufTy).Contents (Elt F) → (⟨S32x2048, .f32⟩ : BufTy).Contents (Elt F) → (⟨S32x2048, .f32⟩ : BufTy).Contents (Elt F)),
    unary main_while0b_v132 main_while0b_v133 ((extractStridedSlice S32x512 ![0, 0] · slices_S32x2048_S32x512_0_0) : (⟨S32x2048, .f32⟩ : BufTy).Contents (Elt F) → (⟨S32x512, .f32⟩ : BufTy).Contents (Elt F)),
    unary main_while0b_v132 main_while0b_v134 ((extractStridedSlice S32x512 ![0, 512] · slices_S32x2048_S32x512_0_512) : (⟨S32x2048, .f32⟩ : BufTy).Contents (Elt F) → (⟨S32x512, .f32⟩ : BufTy).Contents (Elt F)),
    unary main_while0b_v132 main_while0b_v135 ((extractStridedSlice S32x512 ![0, 1024] · slices_S32x2048_S32x512_0_1024) : (⟨S32x2048, .f32⟩ : BufTy).Contents (Elt F) → (⟨S32x512, .f32⟩ : BufTy).Contents (Elt F)),
    unary main_while0b_v132 main_while0b_v136 ((extractStridedSlice S32x512 ![0, 1536] · slices_S32x2048_S32x512_0_1536) : (⟨S32x2048, .f32⟩ : BufTy).Contents (Elt F) → (⟨S32x512, .f32⟩ : BufTy).Contents (Elt F)),
    unary main_while0b_v134 main_while0b_v137 (Host.negf : (⟨S32x512, .f32⟩ : BufTy).Contents (Elt F) → (⟨S32x512, .f32⟩ : BufTy).Contents (Elt F)),
    unary main_while0b_v137 main_while0b_v138 (Host.exp : (⟨S32x512, .f32⟩ : BufTy).Contents (Elt F) → (⟨S32x512, .f32⟩ : BufTy).Contents (Elt F)),
    nullary main_while0b_cst_30 (constant S_ .f32 0x3F800000#32),
    unary main_while0b_cst_30 main_while0b_v139 (broadcastInDim S32x512 ![] bcast_S_S32x512 : (⟨S_, .f32⟩ : BufTy).Contents (Elt F) → (⟨S32x512, .f32⟩ : BufTy).Contents (Elt F)),
    binary main_while0b_v139 main_while0b_v138 main_while0b_v140 (addf : (⟨S32x512, .f32⟩ : BufTy).Contents (Elt F) → (⟨S32x512, .f32⟩ : BufTy).Contents (Elt F) → (⟨S32x512, .f32⟩ : BufTy).Contents (Elt F)),
    nullary main_while0b_cst_31 (constant S_ .f32 0x3F800000#32),
    unary main_while0b_cst_31 main_while0b_v141 (broadcastInDim S32x512 ![] bcast_S_S32x512 : (⟨S_, .f32⟩ : BufTy).Contents (Elt F) → (⟨S32x512, .f32⟩ : BufTy).Contents (Elt F)),
    binary main_while0b_v141 main_while0b_v140 main_while0b_v142 (Host.divf : (⟨S32x512, .f32⟩ : BufTy).Contents (Elt F) → (⟨S32x512, .f32⟩ : BufTy).Contents (Elt F) → (⟨S32x512, .f32⟩ : BufTy).Contents (Elt F)),
    binary main_while0b_v142 main_while0b_v118 main_while0b_v143 (mulf : (⟨S32x512, .f32⟩ : BufTy).Contents (Elt F) → (⟨S32x512, .f32⟩ : BufTy).Contents (Elt F) → (⟨S32x512, .f32⟩ : BufTy).Contents (Elt F)),
    unary main_while0b_v133 main_while0b_v144 (Host.negf : (⟨S32x512, .f32⟩ : BufTy).Contents (Elt F) → (⟨S32x512, .f32⟩ : BufTy).Contents (Elt F)),
    unary main_while0b_v144 main_while0b_v145 (Host.exp : (⟨S32x512, .f32⟩ : BufTy).Contents (Elt F) → (⟨S32x512, .f32⟩ : BufTy).Contents (Elt F)),
    nullary main_while0b_cst_32 (constant S_ .f32 0x3F800000#32),
    unary main_while0b_cst_32 main_while0b_v146 (broadcastInDim S32x512 ![] bcast_S_S32x512 : (⟨S_, .f32⟩ : BufTy).Contents (Elt F) → (⟨S32x512, .f32⟩ : BufTy).Contents (Elt F)),
    binary main_while0b_v146 main_while0b_v145 main_while0b_v147 (addf : (⟨S32x512, .f32⟩ : BufTy).Contents (Elt F) → (⟨S32x512, .f32⟩ : BufTy).Contents (Elt F) → (⟨S32x512, .f32⟩ : BufTy).Contents (Elt F)),
    nullary main_while0b_cst_33 (constant S_ .f32 0x3F800000#32),
    unary main_while0b_cst_33 main_while0b_v148 (broadcastInDim S32x512 ![] bcast_S_S32x512 : (⟨S_, .f32⟩ : BufTy).Contents (Elt F) → (⟨S32x512, .f32⟩ : BufTy).Contents (Elt F)),
    binary main_while0b_v148 main_while0b_v147 main_while0b_v149 (Host.divf : (⟨S32x512, .f32⟩ : BufTy).Contents (Elt F) → (⟨S32x512, .f32⟩ : BufTy).Contents (Elt F) → (⟨S32x512, .f32⟩ : BufTy).Contents (Elt F)),
    unary main_while0b_v135 main_while0b_v150 (Host.tanh : (⟨S32x512, .f32⟩ : BufTy).Contents (Elt F) → (⟨S32x512, .f32⟩ : BufTy).Contents (Elt F)),
    binary main_while0b_v149 main_while0b_v150 main_while0b_v151 (mulf : (⟨S32x512, .f32⟩ : BufTy).Contents (Elt F) → (⟨S32x512, .f32⟩ : BufTy).Contents (Elt F) → (⟨S32x512, .f32⟩ : BufTy).Contents (Elt F)),
    binary main_while0b_v143 main_while0b_v151 main_while0b_v152 (addf : (⟨S32x512, .f32⟩ : BufTy).Contents (Elt F) → (⟨S32x512, .f32⟩ : BufTy).Contents (Elt F) → (⟨S32x512, .f32⟩ : BufTy).Contents (Elt F)),
    unary main_while0b_v136 main_while0b_v153 (Host.negf : (⟨S32x512, .f32⟩ : BufTy).Contents (Elt F) → (⟨S32x512, .f32⟩ : BufTy).Contents (Elt F)),
    unary main_while0b_v153 main_while0b_v154 (Host.exp : (⟨S32x512, .f32⟩ : BufTy).Contents (Elt F) → (⟨S32x512, .f32⟩ : BufTy).Contents (Elt F)),
    nullary main_while0b_cst_34 (constant S_ .f32 0x3F800000#32),
    unary main_while0b_cst_34 main_while0b_v155 (broadcastInDim S32x512 ![] bcast_S_S32x512 : (⟨S_, .f32⟩ : BufTy).Contents (Elt F) → (⟨S32x512, .f32⟩ : BufTy).Contents (Elt F)),
    binary main_while0b_v155 main_while0b_v154 main_while0b_v156 (addf : (⟨S32x512, .f32⟩ : BufTy).Contents (Elt F) → (⟨S32x512, .f32⟩ : BufTy).Contents (Elt F) → (⟨S32x512, .f32⟩ : BufTy).Contents (Elt F)),
    nullary main_while0b_cst_35 (constant S_ .f32 0x3F800000#32),
    unary main_while0b_cst_35 main_while0b_v157 (broadcastInDim S32x512 ![] bcast_S_S32x512 : (⟨S_, .f32⟩ : BufTy).Contents (Elt F) → (⟨S32x512, .f32⟩ : BufTy).Contents (Elt F)),
    binary main_while0b_v157 main_while0b_v156 main_while0b_v158 (Host.divf : (⟨S32x512, .f32⟩ : BufTy).Contents (Elt F) → (⟨S32x512, .f32⟩ : BufTy).Contents (Elt F) → (⟨S32x512, .f32⟩ : BufTy).Contents (Elt F)),
    unary main_while0b_v152 main_while0b_v159 (Host.tanh : (⟨S32x512, .f32⟩ : BufTy).Contents (Elt F) → (⟨S32x512, .f32⟩ : BufTy).Contents (Elt F)),
    binary main_while0b_v158 main_while0b_v159 main_while0b_v160 (mulf : (⟨S32x512, .f32⟩ : BufTy).Contents (Elt F) → (⟨S32x512, .f32⟩ : BufTy).Contents (Elt F) → (⟨S32x512, .f32⟩ : BufTy).Contents (Elt F)) ]

/-- The three states stacked. -/
abbrev bodyD : List (HloOp τ sig (Elt F)) :=
  [ unary main_while0b_v68 main_while0b_v161 (broadcastInDim S1x32x512 ![1, 2] bcast_S32x512_S1x32x512_1_2 : (⟨S32x512, .f32⟩ : BufTy).Contents (Elt F) → (⟨S1x32x512, .f32⟩ : BufTy).Contents (Elt F)),
    unary main_while0b_v114 main_while0b_v162 (broadcastInDim S1x32x512 ![1, 2] bcast_S32x512_S1x32x512_1_2 : (⟨S32x512, .f32⟩ : BufTy).Contents (Elt F) → (⟨S1x32x512, .f32⟩ : BufTy).Contents (Elt F)),
    unary main_while0b_v160 main_while0b_v163 (broadcastInDim S1x32x512 ![1, 2] bcast_S32x512_S1x32x512_1_2 : (⟨S32x512, .f32⟩ : BufTy).Contents (Elt F) → (⟨S1x32x512, .f32⟩ : BufTy).Contents (Elt F)),
    nary ![main_while0b_v161, main_while0b_v162, main_while0b_v163] main_while0b_v164 (fun u => (concatenate S3x32x512 0 [⟨S1x32x512, (u 0 : (⟨S1x32x512, .f32⟩ : BufTy).Contents (Elt F))⟩, ⟨S1x32x512, (u 1 : (⟨S1x32x512, .f32⟩ : BufTy).Contents (Elt F))⟩, ⟨S1x32x512, (u 2 : (⟨S1x32x512, .f32⟩ : BufTy).Contents (Elt F))⟩] concatenates_S1x32x512_S1x32x512_S1x32x512_S3x32x512_d0 : (⟨S3x32x512, .f32⟩ : BufTy).Contents (Elt F))),
    unary main_while0b_v60 main_while0b_v165 (broadcastInDim S1x32x512 ![1, 2] bcast_S32x512_S1x32x512_1_2 : (⟨S32x512, .f32⟩ : BufTy).Contents (Elt F) → (⟨S1x32x512, .f32⟩ : BufTy).Contents (Elt F)),
    unary main_while0b_v106 main_while0b_v166 (broadcastInDim S1x32x512 ![1, 2] bcast_S32x512_S1x32x512_1_2 : (⟨S32x512, .f32⟩ : BufTy).Contents (Elt F) → (⟨S1x32x512, .f32⟩ : BufTy).Contents (Elt F)),
    unary main_while0b_v152 main_while0b_v167 (broadcastInDim S1x32x512 ![1, 2] bcast_S32x512_S1x32x512_1_2 : (⟨S32x512, .f32⟩ : BufTy).Contents (Elt F) → (⟨S1x32x512, .f32⟩ : BufTy).Contents (Elt F)),
    nary ![main_while0b_v165, main_while0b_v166, main_while0b_v167] main_while0b_v168 (fun u => (concatenate S3x32x512 0 [⟨S1x32x512, (u 0 : (⟨S1x32x512, .f32⟩ : BufTy).Contents (Elt F))⟩, ⟨S1x32x512, (u 1 : (⟨S1x32x512, .f32⟩ : BufTy).Contents (Elt F))⟩, ⟨S1x32x512, (u 2 : (⟨S1x32x512, .f32⟩ : BufTy).Contents (Elt F))⟩] concatenates_S1x32x512_S1x32x512_S1x32x512_S3x32x512_d0 : (⟨S3x32x512, .f32⟩ : BufTy).Contents (Elt F))) ]

/-- The trip’s output written. -/
abbrev put : List (HloOp τ sig (Elt F)) :=
  [ TRef.unary (.of main_while0b_v160 : TRef sig ⟨S32x512, .f32⟩) main_while0b_call1.v0 (broadcastInDim S1x32x512 ![1, 2] bcast_S32x512_S1x32x512_1_2),
    TRef.nullary main_while0b_call1.c (constantI S_ 32 0#32),
    TRef.nullary main_while0b_call1.c_0 (constantI S_ 32 0#32),
    TRef.binaryIndexed (.of main_v3_13 : TRef sig ⟨S63x32x512, .f32⟩) main_while0b_call1.v0 ![(.of main_v3_10 : TRef sig ⟨S_, .i32⟩), main_while0b_call1.c, main_while0b_call1.c_0] main_while0b_call1.v1 (fun x u i => Host.dynamicUpdateSlice x u (fun k => (i k (Shape.Idx.first h_S_)).toInt) updateFits_S63x32x512_S1x32x512) ]

/-- The counter and the carried values. -/
abbrev bodyE : List (HloOp τ sig (Elt F)) :=
  [ nullary main_while0b_c_36 (constantI S_ 32 1#32),
    binary main_v3_10 main_while0b_c_36 main_while0b_v170 (addi : (⟨S_, .i32⟩ : BufTy).Contents (Elt F) → (⟨S_, .i32⟩ : BufTy).Contents (Elt F) → (⟨S_, .i32⟩ : BufTy).Contents (Elt F)),
    unary main_while0b_v170 main_v3_10 id,
    unary main_while0b_v164 main_v3_11 id,
    unary main_while0b_v168 main_v3_12 id,
    unary main_while0b_v169 main_v3_13 id ]

theorem before_sub : (before : List (HloOp τ sig (Elt F))).Forall fun op => op.bufs ⊆ tcRefs τ sig :=
  ⟨unary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩

theorem before_fresh : (before : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem take_sub : (take : List (HloOp τ sig (Elt F))).Forall fun op => op.bufs ⊆ tcRefs τ sig :=
  ⟨nullary_bufs_sub .., unaryIndexed_bufs_sub .., reshape_bufs_sub ..⟩

theorem take_fresh : (take : List (HloOp τ sig (Elt F))).Forall fun op => op.fresh = ∅ :=
  ⟨rfl, rfl, rfl⟩

theorem bodyA_sub : (bodyA : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., reshape_bufs_sub .., unary_bufs_sub .., reshape_bufs_sub .., unary_bufs_sub .., binary_bufs_sub .., unary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub ..⟩

theorem bodyA_fresh : (bodyA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem bodyB_sub : (bodyB : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., unary_bufs_sub ..⟩

theorem bodyB_fresh : (bodyB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem bodyC_sub : (bodyC : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩

theorem bodyC_fresh : (bodyC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem bodyD_sub : (bodyD : List (HloOp τ sig (Elt F))).Forall fun op => op.bufs ⊆ tcRefs τ sig :=
  ⟨unary_bufs_sub .., unary_bufs_sub .., unary_bufs_sub .., nary_bufs_sub .., unary_bufs_sub .., unary_bufs_sub .., unary_bufs_sub .., nary_bufs_sub ..⟩

theorem bodyD_fresh : (bodyD : List (HloOp τ sig (Elt F))).Forall fun op => op.fresh = ∅ :=
  ⟨rfl, rfl, rfl, rfl, rfl, rfl, rfl, rfl⟩

theorem put_sub : (put : List (HloOp τ sig (Elt F))).Forall fun op => op.bufs ⊆ tcRefs τ sig :=
  ⟨unary_bufs_sub .., nullary_bufs_sub .., nullary_bufs_sub .., binaryIndexed_bufs_sub ..⟩

theorem put_fresh : (put : List (HloOp τ sig (Elt F))).Forall fun op => op.fresh = ∅ :=
  ⟨rfl, rfl, rfl, rfl⟩

theorem bodyE_sub : (bodyE : List (HloOp τ sig (Elt F))).Forall fun op => op.bufs ⊆ tcRefs τ sig :=
  ⟨nullary_bufs_sub .., binary_bufs_sub .., unary_bufs_sub .., unary_bufs_sub .., unary_bufs_sub .., unary_bufs_sub ..⟩

theorem bodyE_fresh : (bodyE : List (HloOp τ sig (Elt F))).Forall fun op => op.fresh = ∅ :=
  ⟨rfl, rfl, rfl, rfl, rfl, rfl⟩

abbrev entry : List (List (HloOp τ sig (Elt F))) := [before]
abbrev trip : List (List (HloOp τ sig (Elt F))) := [take, bodyA, bodyB, bodyC, bodyD, put, bodyE]

theorem entry_plain : Plain (entry (F := F)) := .cons before_sub .nil (List.forall_iff_forall_mem.mp before_fresh)
theorem trip_plain : Plain (trip (F := F)) :=
  .cons take_sub (.cons bodyA_sub (.cons bodyB_sub (.cons bodyC_sub (.cons bodyD_sub (.cons put_sub (.cons bodyE_sub (.nil) (List.forall_iff_forall_mem.mp bodyE_fresh)) (List.forall_iff_forall_mem.mp put_fresh)) (List.forall_iff_forall_mem.mp bodyD_fresh)) (List.forall_iff_forall_mem.mp bodyC_fresh)) (List.forall_iff_forall_mem.mp bodyB_fresh)) (List.forall_iff_forall_mem.mp bodyA_fresh)) (List.forall_iff_forall_mem.mp take_fresh)

theorem main_eq (c : Dev nD) : main (F := F) c
    = Pipeline.chain ((entry.map fun ops => (seq ops : Prog _ PUnit)) ++ HostLoop.enter 0 :: ([] : List (List (HloOp τ sig (Elt F)))).map fun ops => (seq ops : Prog _ PUnit)) := by
  chain_rfl

theorem body_eq : main_while0_body (F := F) = Pipeline.chain (trip.map fun ops => (seq ops : Prog _ PUnit)) := by
  chain_rfl

/-! ## The same operations, cut where the values are -/

/-- The trip’s rows of the embedding table. -/
abbrev cut0 : List (HloOp τ sig (Elt F)) :=
  [ TRef.nullary main_while0b_call0.c (constantI S_ 32 0#32),
    TRef.unaryIndexed (.of main_v3_0 : TRef sig ⟨S63x32, .i32⟩) ![(.of main_v3_10 : TRef sig ⟨S_, .i32⟩), main_while0b_call0.c] main_while0b_call0.v0 (fun x i => Host.dynamicSlice S1x32 x (fun k => (i k (Shape.Idx.first h_S_)).toInt) sliceFits_S63x32_S1x32),
    TRef.reshape main_while0b_call0.v0 main_while0b_call0.v1 (rfl : (.i32 : EltTy) = .i32) shapeCasts_S1x32_S32,
    nullary main_while0b_c_13 (constantI S_ 32 0#32),
    unary main_while0b_c_13 main_while0b_v5 (broadcastInDim S32 ![] bcast_S_S32 : (⟨S_, .i32⟩ : BufTy).Contents (Elt F) → (⟨S32, .i32⟩ : BufTy).Contents (Elt F)),
    binary main_while0b_v4 main_while0b_v5 main_while0b_v6 (cmpi .slt : (⟨S32, .i32⟩ : BufTy).Contents (Elt F) → (⟨S32, .i32⟩ : BufTy).Contents (Elt F) → (⟨S32, .i1⟩ : BufTy).Contents (Elt F)),
    nullary main_while0b_c_14 (constantI S_ 32 32000#32),
    unary main_while0b_c_14 main_while0b_v7 (broadcastInDim S32 ![] bcast_S_S32 : (⟨S_, .i32⟩ : BufTy).Contents (Elt F) → (⟨S32, .i32⟩ : BufTy).Contents (Elt F)),
    binary main_while0b_v4 main_while0b_v7 main_while0b_v8 (addi : (⟨S32, .i32⟩ : BufTy).Contents (Elt F) → (⟨S32, .i32⟩ : BufTy).Contents (Elt F) → (⟨S32, .i32⟩ : BufTy).Contents (Elt F)),
    ternary main_while0b_v6 main_while0b_v8 main_while0b_v4 main_while0b_v9 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_while0b_v9 main_while0b_v10 (broadcastInDim S32x1 ![0] bcast_S32_S32x1_0 : (⟨S32, .i32⟩ : BufTy).Contents (Elt F) → (⟨S32x1, .i32⟩ : BufTy).Contents (Elt F)),
    binary main_v3_1 main_while0b_v10 main_while0b_v11 ((fun x i => Host.gather gather_S32000x512_S32x1_S32x512_1_0_n_n_0_1_1512 x i) : (⟨S32000x512, .f32⟩ : BufTy).Contents (Elt F) → (⟨S32x1, .i32⟩ : BufTy).Contents (Elt F) → (⟨S32x512, .f32⟩ : BufTy).Contents (Elt F)) ]

/-- The context, and the input of the first cell. -/
abbrev cut1 : List (HloOp τ sig (Elt F)) :=
  [ unary main_v3_11 main_while0b_v12 ((extractStridedSlice S1x32x512 ![2, 0, 0] · slices_S3x32x512_S1x32x512_2_0_0) : (⟨S3x32x512, .f32⟩ : BufTy).Contents (Elt F) → (⟨S1x32x512, .f32⟩ : BufTy).Contents (Elt F)),
    reshape main_while0b_v12 main_while0b_v13 (rfl : (.f32 : EltTy) = .f32) shapeCasts_S1x32x512_S32x512,
    binary main_v3_2 main_while0b_v13 main_while0b_v14 ((fun l r => Host.dotGeneral dot_S512x512_S32x512_S512x32_0_1_1_0_n_n none l r) : (⟨S512x512, .f32⟩ : BufTy).Contents (Elt F) → (⟨S32x512, .f32⟩ : BufTy).Contents (Elt F) → (⟨S512x32, .f32⟩ : BufTy).Contents (Elt F)),
    binary main_v3_3 main_while0b_v14 main_while0b_v15 ((fun l r => Host.dotGeneral dot_S128x32x512_S512x32_S32x128_2_0_0_n_1_1 none l r) : (⟨S128x32x512, .f32⟩ : BufTy).Contents (Elt F) → (⟨S512x32, .f32⟩ : BufTy).Contents (Elt F) → (⟨S32x128, .f32⟩ : BufTy).Contents (Elt F)),
    nullary main_while0b_cst_15 (constant S_ .f32 0xFF800000#32),
    binary main_while0b_v15 main_while0b_cst_15 main_while0b_v16 ((fun x v => Host.reduce FloatOps.maximumf x v reducesTo_S32x128_S32_d1 h_S_) : (⟨S32x128, .f32⟩ : BufTy).Contents (Elt F) → (⟨S_, .f32⟩ : BufTy).Contents (Elt F) → (⟨S32, .f32⟩ : BufTy).Contents (Elt F)),
    nullary main_while0b_cst_16 (constant S_ .f32 0xFF800000#32),
    unary main_while0b_cst_16 main_while0b_v17 (broadcastInDim S32 ![] bcast_S_S32 : (⟨S_, .f32⟩ : BufTy).Contents (Elt F) → (⟨S32, .f32⟩ : BufTy).Contents (Elt F)),
    binary main_while0b_v17 main_while0b_v16 main_while0b_v18 (maximumf : (⟨S32, .f32⟩ : BufTy).Contents (Elt F) → (⟨S32, .f32⟩ : BufTy).Contents (Elt F) → (⟨S32, .f32⟩ : BufTy).Contents (Elt F)),
    unary main_while0b_v18 main_while0b_v19 (broadcastInDim S32x1 ![0] bcast_S32_S32x1_0 : (⟨S32, .f32⟩ : BufTy).Contents (Elt F) → (⟨S32x1, .f32⟩ : BufTy).Contents (Elt F)),
    unary main_while0b_v19 main_while0b_v20 (broadcastInDim S32x128 ![0, 1] bcast_S32x1_S32x128_0_1 : (⟨S32x1, .f32⟩ : BufTy).Contents (Elt F) → (⟨S32x128, .f32⟩ : BufTy).Contents (Elt F)),
    binary main_while0b_v15 main_while0b_v20 main_while0b_v21 (subf : (⟨S32x128, .f32⟩ : BufTy).Contents (Elt F) → (⟨S32x128, .f32⟩ : BufTy).Contents (Elt F) → (⟨S32x128, .f32⟩ : BufTy).Contents (Elt F)),
    unary main_while0b_v21 main_while0b_v22 (Host.exp : (⟨S32x128, .f32⟩ : BufTy).Contents (Elt F) → (⟨S32x128, .f32⟩ : BufTy).Contents (Elt F)),
    nullary main_while0b_cst_17 (constant S_ .f32 0x00000000#32),
    binary main_while0b_v22 main_while0b_cst_17 main_while0b_v23 ((fun x v => Host.reduceAdd x v reducesTo_S32x128_S32_d1 h_S_) : (⟨S32x128, .f32⟩ : BufTy).Contents (Elt F) → (⟨S_, .f32⟩ : BufTy).Contents (Elt F) → (⟨S32, .f32⟩ : BufTy).Contents (Elt F)),
    unary main_while0b_v23 main_while0b_v24 (broadcastInDim S32x1 ![0] bcast_S32_S32x1_0 : (⟨S32, .f32⟩ : BufTy).Contents (Elt F) → (⟨S32x1, .f32⟩ : BufTy).Contents (Elt F)),
    unary main_while0b_v24 main_while0b_v25 (broadcastInDim S32x128 ![0, 1] bcast_S32x1_S32x128_0_1 : (⟨S32x1, .f32⟩ : BufTy).Contents (Elt F) → (⟨S32x128, .f32⟩ : BufTy).Contents (Elt F)),
    binary main_while0b_v22 main_while0b_v25 main_while0b_v26 (Host.divf : (⟨S32x128, .f32⟩ : BufTy).Contents (Elt F) → (⟨S32x128, .f32⟩ : BufTy).Contents (Elt F) → (⟨S32x128, .f32⟩ : BufTy).Contents (Elt F)),
    binary main_while0b_v26 main_v3_3 main_while0b_v27 ((fun l r => Host.dotGeneral dot_S32x128_S128x32x512_S32x512_1_0_n_2_0_1 none l r) : (⟨S32x128, .f32⟩ : BufTy).Contents (Elt F) → (⟨S128x32x512, .f32⟩ : BufTy).Contents (Elt F) → (⟨S32x512, .f32⟩ : BufTy).Contents (Elt F)),
    binary main_while0b_v11 main_while0b_v27 main_while0b_v28 ((fun a b => concatenate S32x1024 1 [⟨S32x512, a⟩, ⟨S32x512, b⟩] concatenates_S32x512_S32x512_S32x1024_d1) : (⟨S32x512, .f32⟩ : BufTy).Contents (Elt F) → (⟨S32x512, .f32⟩ : BufTy).Contents (Elt F) → (⟨S32x1024, .f32⟩ : BufTy).Contents (Elt F)) ]

/-- The first cell. -/
abbrev cut2 : List (HloOp τ sig (Elt F)) :=
  [ unary main_v3_11 main_while0b_v29 ((extractStridedSlice S1x32x512 ![0, 0, 0] · slices_S3x32x512_S1x32x512_0_0_0) : (⟨S3x32x512, .f32⟩ : BufTy).Contents (Elt F) → (⟨S1x32x512, .f32⟩ : BufTy).Contents (Elt F)),
    reshape main_while0b_v29 main_while0b_v30 (rfl : (.f32 : EltTy) = .f32) shapeCasts_S1x32x512_S32x512,
    unary main_v3_12 main_while0b_v31 ((extractStridedSlice S1x32x512 ![0, 0, 0] · slices_S3x32x512_S1x32x512_0_0_0) : (⟨S3x32x512, .f32⟩ : BufTy).Contents (Elt F) → (⟨S1x32x512, .f32⟩ : BufTy).Contents (Elt F)),
    reshape main_while0b_v31 main_while0b_v32 (rfl : (.f32 : EltTy) = .f32) shapeCasts_S1x32x512_S32x512,
    unary main_v3_4 main_while0b_v33 ((transpose S1024x2048 [1, 0] · transposes_S2048x1024_S1024x2048_1_0) : (⟨S2048x1024, .f32⟩ : BufTy).Contents (Elt F) → (⟨S1024x2048, .f32⟩ : BufTy).Contents (Elt F)),
    binary main_while0b_v28 main_while0b_v33 main_while0b_v34 ((fun l r => Host.dotGeneral dot_S32x1024_S1024x2048_S32x2048_1_0_0_1_n_n none l r) : (⟨S32x1024, .f32⟩ : BufTy).Contents (Elt F) → (⟨S1024x2048, .f32⟩ : BufTy).Contents (Elt F) → (⟨S32x2048, .f32⟩ : BufTy).Contents (Elt F)),
    unary main_v3_5 main_while0b_v35 ((transpose S512x2048 [1, 0] · transposes_S2048x512_S512x2048_1_0) : (⟨S2048x512, .f32⟩ : BufTy).Contents (Elt F) → (⟨S512x2048, .f32⟩ : BufTy).Contents (Elt F)),
    binary main_while0b_v30 main_while0b_v35 main_while0b_v36 ((fun l r => Host.dotGeneral dot_S32x512_S512x2048_S32x2048_1_0_0_1_n_n none l r) : (⟨S32x512, .f32⟩ : BufTy).Contents (Elt F) → (⟨S512x2048, .f32⟩ : BufTy).Contents (Elt F) → (⟨S32x2048, .f32⟩ : BufTy).Contents (Elt F)),
    binary main_while0b_v34 main_while0b_v36 main_while0b_v37 (addf : (⟨S32x2048, .f32⟩ : BufTy).Contents (Elt F) → (⟨S32x2048, .f32⟩ : BufTy).Contents (Elt F) → (⟨S32x2048, .f32⟩ : BufTy).Contents (Elt F)),
    unary main_v3_6 main_while0b_v38 (broadcastInDim S1x2048 ![1] bcast_S2048_S1x2048_1 : (⟨S2048, .f32⟩ : BufTy).Contents (Elt F) → (⟨S1x2048, .f32⟩ : BufTy).Contents (Elt F)),
    unary main_while0b_v38 main_while0b_v39 (broadcastInDim S32x2048 ![0, 1] bcast_S1x2048_S32x2048_0_1 : (⟨S1x2048, .f32⟩ : BufTy).Contents (Elt F) → (⟨S32x2048, .f32⟩ : BufTy).Contents (Elt F)),
    binary main_while0b_v37 main_while0b_v39 main_while0b_v40 (addf : (⟨S32x2048, .f32⟩ : BufTy).Contents (Elt F) → (⟨S32x2048, .f32⟩ : BufTy).Contents (Elt F) → (⟨S32x2048, .f32⟩ : BufTy).Contents (Elt F)),
    unary main_while0b_v40 main_while0b_v41 ((extractStridedSlice S32x512 ![0, 0] · slices_S32x2048_S32x512_0_0) : (⟨S32x2048, .f32⟩ : BufTy).Contents (Elt F) → (⟨S32x512, .f32⟩ : BufTy).Contents (Elt F)),
    unary main_while0b_v40 main_while0b_v42 ((extractStridedSlice S32x512 ![0, 512] · slices_S32x2048_S32x512_0_512) : (⟨S32x2048, .f32⟩ : BufTy).Contents (Elt F) → (⟨S32x512, .f32⟩ : BufTy).Contents (Elt F)),
    unary main_while0b_v40 main_while0b_v43 ((extractStridedSlice S32x512 ![0, 1024] · slices_S32x2048_S32x512_0_1024) : (⟨S32x2048, .f32⟩ : BufTy).Contents (Elt F) → (⟨S32x512, .f32⟩ : BufTy).Contents (Elt F)),
    unary main_while0b_v40 main_while0b_v44 ((extractStridedSlice S32x512 ![0, 1536] · slices_S32x2048_S32x512_0_1536) : (⟨S32x2048, .f32⟩ : BufTy).Contents (Elt F) → (⟨S32x512, .f32⟩ : BufTy).Contents (Elt F)),
    unary main_while0b_v42 main_while0b_v45 (Host.negf : (⟨S32x512, .f32⟩ : BufTy).Contents (Elt F) → (⟨S32x512, .f32⟩ : BufTy).Contents (Elt F)),
    unary main_while0b_v45 main_while0b_v46 (Host.exp : (⟨S32x512, .f32⟩ : BufTy).Contents (Elt F) → (⟨S32x512, .f32⟩ : BufTy).Contents (Elt F)),
    nullary main_while0b_cst_18 (constant S_ .f32 0x3F800000#32),
    unary main_while0b_cst_18 main_while0b_v47 (broadcastInDim S32x512 ![] bcast_S_S32x512 : (⟨S_, .f32⟩ : BufTy).Contents (Elt F) → (⟨S32x512, .f32⟩ : BufTy).Contents (Elt F)),
    binary main_while0b_v47 main_while0b_v46 main_while0b_v48 (addf : (⟨S32x512, .f32⟩ : BufTy).Contents (Elt F) → (⟨S32x512, .f32⟩ : BufTy).Contents (Elt F) → (⟨S32x512, .f32⟩ : BufTy).Contents (Elt F)),
    nullary main_while0b_cst_19 (constant S_ .f32 0x3F800000#32),
    unary main_while0b_cst_19 main_while0b_v49 (broadcastInDim S32x512 ![] bcast_S_S32x512 : (⟨S_, .f32⟩ : BufTy).Contents (Elt F) → (⟨S32x512, .f32⟩ : BufTy).Contents (Elt F)),
    binary main_while0b_v49 main_while0b_v48 main_while0b_v50 (Host.divf : (⟨S32x512, .f32⟩ : BufTy).Contents (Elt F) → (⟨S32x512, .f32⟩ : BufTy).Contents (Elt F) → (⟨S32x512, .f32⟩ : BufTy).Contents (Elt F)),
    binary main_while0b_v50 main_while0b_v32 main_while0b_v51 (mulf : (⟨S32x512, .f32⟩ : BufTy).Contents (Elt F) → (⟨S32x512, .f32⟩ : BufTy).Contents (Elt F) → (⟨S32x512, .f32⟩ : BufTy).Contents (Elt F)),
    unary main_while0b_v41 main_while0b_v52 (Host.negf : (⟨S32x512, .f32⟩ : BufTy).Contents (Elt F) → (⟨S32x512, .f32⟩ : BufTy).Contents (Elt F)),
    unary main_while0b_v52 main_while0b_v53 (Host.exp : (⟨S32x512, .f32⟩ : BufTy).Contents (Elt F) → (⟨S32x512, .f32⟩ : BufTy).Contents (Elt F)),
    nullary main_while0b_cst_20 (constant S_ .f32 0x3F800000#32),
    unary main_while0b_cst_20 main_while0b_v54 (broadcastInDim S32x512 ![] bcast_S_S32x512 : (⟨S_, .f32⟩ : BufTy).Contents (Elt F) → (⟨S32x512, .f32⟩ : BufTy).Contents (Elt F)),
    binary main_while0b_v54 main_while0b_v53 main_while0b_v55 (addf : (⟨S32x512, .f32⟩ : BufTy).Contents (Elt F) → (⟨S32x512, .f32⟩ : BufTy).Contents (Elt F) → (⟨S32x512, .f32⟩ : BufTy).Contents (Elt F)),
    nullary main_while0b_cst_21 (constant S_ .f32 0x3F800000#32),
    unary main_while0b_cst_21 main_while0b_v56 (broadcastInDim S32x512 ![] bcast_S_S32x512 : (⟨S_, .f32⟩ : BufTy).Contents (Elt F) → (⟨S32x512, .f32⟩ : BufTy).Contents (Elt F)),
    binary main_while0b_v56 main_while0b_v55 main_while0b_v57 (Host.divf : (⟨S32x512, .f32⟩ : BufTy).Contents (Elt F) → (⟨S32x512, .f32⟩ : BufTy).Contents (Elt F) → (⟨S32x512, .f32⟩ : BufTy).Contents (Elt F)),
    unary main_while0b_v43 main_while0b_v58 (Host.tanh : (⟨S32x512, .f32⟩ : BufTy).Contents (Elt F) → (⟨S32x512, .f32⟩ : BufTy).Contents (Elt F)),
    binary main_while0b_v57 main_while0b_v58 main_while0b_v59 (mulf : (⟨S32x512, .f32⟩ : BufTy).Contents (Elt F) → (⟨S32x512, .f32⟩ : BufTy).Contents (Elt F) → (⟨S32x512, .f32⟩ : BufTy).Contents (Elt F)),
    binary main_while0b_v51 main_while0b_v59 main_while0b_v60 (addf : (⟨S32x512, .f32⟩ : BufTy).Contents (Elt F) → (⟨S32x512, .f32⟩ : BufTy).Contents (Elt F) → (⟨S32x512, .f32⟩ : BufTy).Contents (Elt F)),
    unary main_while0b_v44 main_while0b_v61 (Host.negf : (⟨S32x512, .f32⟩ : BufTy).Contents (Elt F) → (⟨S32x512, .f32⟩ : BufTy).Contents (Elt F)),
    unary main_while0b_v61 main_while0b_v62 (Host.exp : (⟨S32x512, .f32⟩ : BufTy).Contents (Elt F) → (⟨S32x512, .f32⟩ : BufTy).Contents (Elt F)),
    nullary main_while0b_cst_22 (constant S_ .f32 0x3F800000#32),
    unary main_while0b_cst_22 main_while0b_v63 (broadcastInDim S32x512 ![] bcast_S_S32x512 : (⟨S_, .f32⟩ : BufTy).Contents (Elt F) → (⟨S32x512, .f32⟩ : BufTy).Contents (Elt F)),
    binary main_while0b_v63 main_while0b_v62 main_while0b_v64 (addf : (⟨S32x512, .f32⟩ : BufTy).Contents (Elt F) → (⟨S32x512, .f32⟩ : BufTy).Contents (Elt F) → (⟨S32x512, .f32⟩ : BufTy).Contents (Elt F)),
    nullary main_while0b_cst_23 (constant S_ .f32 0x3F800000#32),
    unary main_while0b_cst_23 main_while0b_v65 (broadcastInDim S32x512 ![] bcast_S_S32x512 : (⟨S_, .f32⟩ : BufTy).Contents (Elt F) → (⟨S32x512, .f32⟩ : BufTy).Contents (Elt F)),
    binary main_while0b_v65 main_while0b_v64 main_while0b_v66 (Host.divf : (⟨S32x512, .f32⟩ : BufTy).Contents (Elt F) → (⟨S32x512, .f32⟩ : BufTy).Contents (Elt F) → (⟨S32x512, .f32⟩ : BufTy).Contents (Elt F)),
    unary main_while0b_v60 main_while0b_v67 (Host.tanh : (⟨S32x512, .f32⟩ : BufTy).Contents (Elt F) → (⟨S32x512, .f32⟩ : BufTy).Contents (Elt F)),
    binary main_while0b_v66 main_while0b_v67 main_while0b_v68 (mulf : (⟨S32x512, .f32⟩ : BufTy).Contents (Elt F) → (⟨S32x512, .f32⟩ : BufTy).Contents (Elt F) → (⟨S32x512, .f32⟩ : BufTy).Contents (Elt F)) ]

/-- The second cell. -/
abbrev cut3 : List (HloOp τ sig (Elt F)) :=
  [ unary main_v3_11 main_while0b_v69 ((extractStridedSlice S1x32x512 ![1, 0, 0] · slices_S3x32x512_S1x32x512_1_0_0) : (⟨S3x32x512, .f32⟩ : BufTy).Contents (Elt F) → (⟨S1x32x512, .f32⟩ : BufTy).Contents (Elt F)),
    reshape main_while0b_v69 main_while0b_v70 (rfl : (.f32 : EltTy) = .f32) shapeCasts_S1x32x512_S32x512,
    unary main_v3_12 main_while0b_v71 ((extractStridedSlice S1x32x512 ![1, 0, 0] · slices_S3x32x512_S1x32x512_1_0_0) : (⟨S3x32x512, .f32⟩ : BufTy).Contents (Elt F) → (⟨S1x32x512, .f32⟩ : BufTy).Contents (Elt F)),
    reshape main_while0b_v71 main_while0b_v72 (rfl : (.f32 : EltTy) = .f32) shapeCasts_S1x32x512_S32x512,
    unary main_v3_7 main_while0b_v73 ((extractStridedSlice S1x2048x512 ![0, 0, 0] · slices_S2x2048x512_S1x2048x512_0_0_0) : (⟨S2x2048x512, .f32⟩ : BufTy).Contents (Elt F) → (⟨S1x2048x512, .f32⟩ : BufTy).Contents (Elt F)),
    reshape main_while0b_v73 main_while0b_v74 (rfl : (.f32 : EltTy) = .f32) shapeCasts_S1x2048x512_S2048x512,
    unary main_v3_8 main_while0b_v75 ((extractStridedSlice S1x2048x512 ![0, 0, 0] · slices_S2x2048x512_S1x2048x512_0_0_0) : (⟨S2x2048x512, .f32⟩ : BufTy).Contents (Elt F) → (⟨S1x2048x512, .f32⟩ : BufTy).Contents (Elt F)),
    reshape main_while0b_v75 main_while0b_v76 (rfl : (.f32 : EltTy) = .f32) shapeCasts_S1x2048x512_S2048x512,
    unary main_v3_9 main_while0b_v77 ((extractStridedSlice S1x2048 ![0, 0] · slices_S2x2048_S1x2048_0_0) : (⟨S2x2048, .f32⟩ : BufTy).Contents (Elt F) → (⟨S1x2048, .f32⟩ : BufTy).Contents (Elt F)),
    reshape main_while0b_v77 main_while0b_v78 (rfl : (.f32 : EltTy) = .f32) shapeCasts_S1x2048_S2048,
    unary main_while0b_v74 main_while0b_v79 ((transpose S512x2048 [1, 0] · transposes_S2048x512_S512x2048_1_0) : (⟨S2048x512, .f32⟩ : BufTy).Contents (Elt F) → (⟨S512x2048, .f32⟩ : BufTy).Contents (Elt F)),
    binary main_while0b_v68 main_while0b_v79 main_while0b_v80 ((fun l r => Host.dotGeneral dot_S32x512_S512x2048_S32x2048_1_0_0_1_n_n none l r) : (⟨S32x512, .f32⟩ : BufTy).Contents (Elt F) → (⟨S512x2048, .f32⟩ : BufTy).Contents (Elt F) → (⟨S32x2048, .f32⟩ : BufTy).Contents (Elt F)),
    unary main_while0b_v76 main_while0b_v81 ((transpose S512x2048 [1, 0] · transposes_S2048x512_S512x2048_1_0) : (⟨S2048x512, .f32⟩ : BufTy).Contents (Elt F) → (⟨S512x2048, .f32⟩ : BufTy).Contents (Elt F)),
    binary main_while0b_v70 main_while0b_v81 main_while0b_v82 ((fun l r => Host.dotGeneral dot_S32x512_S512x2048_S32x2048_1_0_0_1_n_n none l r) : (⟨S32x512, .f32⟩ : BufTy).Contents (Elt F) → (⟨S512x2048, .f32⟩ : BufTy).Contents (Elt F) → (⟨S32x2048, .f32⟩ : BufTy).Contents (Elt F)),
    binary main_while0b_v80 main_while0b_v82 main_while0b_v83 (addf : (⟨S32x2048, .f32⟩ : BufTy).Contents (Elt F) → (⟨S32x2048, .f32⟩ : BufTy).Contents (Elt F) → (⟨S32x2048, .f32⟩ : BufTy).Contents (Elt F)),
    unary main_while0b_v78 main_while0b_v84 (broadcastInDim S1x2048 ![1] bcast_S2048_S1x2048_1 : (⟨S2048, .f32⟩ : BufTy).Contents (Elt F) → (⟨S1x2048, .f32⟩ : BufTy).Contents (Elt F)),
    unary main_while0b_v84 main_while0b_v85 (broadcastInDim S32x2048 ![0, 1] bcast_S1x2048_S32x2048_0_1 : (⟨S1x2048, .f32⟩ : BufTy).Contents (Elt F) → (⟨S32x2048, .f32⟩ : BufTy).Contents (Elt F)),
    binary main_while0b_v83 main_while0b_v85 main_while0b_v86 (addf : (⟨S32x2048, .f32⟩ : BufTy).Contents (Elt F) → (⟨S32x2048, .f32⟩ : BufTy).Contents (Elt F) → (⟨S32x2048, .f32⟩ : BufTy).Contents (Elt F)),
    unary main_while0b_v86 main_while0b_v87 ((extractStridedSlice S32x512 ![0, 0] · slices_S32x2048_S32x512_0_0) : (⟨S32x2048, .f32⟩ : BufTy).Contents (Elt F) → (⟨S32x512, .f32⟩ : BufTy).Contents (Elt F)),
    unary main_while0b_v86 main_while0b_v88 ((extractStridedSlice S32x512 ![0, 512] · slices_S32x2048_S32x512_0_512) : (⟨S32x2048, .f32⟩ : BufTy).Contents (Elt F) → (⟨S32x512, .f32⟩ : BufTy).Contents (Elt F)),
    unary main_while0b_v86 main_while0b_v89 ((extractStridedSlice S32x512 ![0, 1024] · slices_S32x2048_S32x512_0_1024) : (⟨S32x2048, .f32⟩ : BufTy).Contents (Elt F) → (⟨S32x512, .f32⟩ : BufTy).Contents (Elt F)),
    unary main_while0b_v86 main_while0b_v90 ((extractStridedSlice S32x512 ![0, 1536] · slices_S32x2048_S32x512_0_1536) : (⟨S32x2048, .f32⟩ : BufTy).Contents (Elt F) → (⟨S32x512, .f32⟩ : BufTy).Contents (Elt F)),
    unary main_while0b_v88 main_while0b_v91 (Host.negf : (⟨S32x512, .f32⟩ : BufTy).Contents (Elt F) → (⟨S32x512, .f32⟩ : BufTy).Contents (Elt F)),
    unary main_while0b_v91 main_while0b_v92 (Host.exp : (⟨S32x512, .f32⟩ : BufTy).Contents (Elt F) → (⟨S32x512, .f32⟩ : BufTy).Contents (Elt F)),
    nullary main_while0b_cst_24 (constant S_ .f32 0x3F800000#32),
    unary main_while0b_cst_24 main_while0b_v93 (broadcastInDim S32x512 ![] bcast_S_S32x512 : (⟨S_, .f32⟩ : BufTy).Contents (Elt F) → (⟨S32x512, .f32⟩ : BufTy).Contents (Elt F)),
    binary main_while0b_v93 main_while0b_v92 main_while0b_v94 (addf : (⟨S32x512, .f32⟩ : BufTy).Contents (Elt F) → (⟨S32x512, .f32⟩ : BufTy).Contents (Elt F) → (⟨S32x512, .f32⟩ : BufTy).Contents (Elt F)),
    nullary main_while0b_cst_25 (constant S_ .f32 0x3F800000#32),
    unary main_while0b_cst_25 main_while0b_v95 (broadcastInDim S32x512 ![] bcast_S_S32x512 : (⟨S_, .f32⟩ : BufTy).Contents (Elt F) → (⟨S32x512, .f32⟩ : BufTy).Contents (Elt F)),
    binary main_while0b_v95 main_while0b_v94 main_while0b_v96 (Host.divf : (⟨S32x512, .f32⟩ : BufTy).Contents (Elt F) → (⟨S32x512, .f32⟩ : BufTy).Contents (Elt F) → (⟨S32x512, .f32⟩ : BufTy).Contents (Elt F)),
    binary main_while0b_v96 main_while0b_v72 main_while0b_v97 (mulf : (⟨S32x512, .f32⟩ : BufTy).Contents (Elt F) → (⟨S32x512, .f32⟩ : BufTy).Contents (Elt F) → (⟨S32x512, .f32⟩ : BufTy).Contents (Elt F)),
    unary main_while0b_v87 main_while0b_v98 (Host.negf : (⟨S32x512, .f32⟩ : BufTy).Contents (Elt F) → (⟨S32x512, .f32⟩ : BufTy).Contents (Elt F)),
    unary main_while0b_v98 main_while0b_v99 (Host.exp : (⟨S32x512, .f32⟩ : BufTy).Contents (Elt F) → (⟨S32x512, .f32⟩ : BufTy).Contents (Elt F)),
    nullary main_while0b_cst_26 (constant S_ .f32 0x3F800000#32),
    unary main_while0b_cst_26 main_while0b_v100 (broadcastInDim S32x512 ![] bcast_S_S32x512 : (⟨S_, .f32⟩ : BufTy).Contents (Elt F) → (⟨S32x512, .f32⟩ : BufTy).Contents (Elt F)),
    binary main_while0b_v100 main_while0b_v99 main_while0b_v101 (addf : (⟨S32x512, .f32⟩ : BufTy).Contents (Elt F) → (⟨S32x512, .f32⟩ : BufTy).Contents (Elt F) → (⟨S32x512, .f32⟩ : BufTy).Contents (Elt F)),
    nullary main_while0b_cst_27 (constant S_ .f32 0x3F800000#32),
    unary main_while0b_cst_27 main_while0b_v102 (broadcastInDim S32x512 ![] bcast_S_S32x512 : (⟨S_, .f32⟩ : BufTy).Contents (Elt F) → (⟨S32x512, .f32⟩ : BufTy).Contents (Elt F)),
    binary main_while0b_v102 main_while0b_v101 main_while0b_v103 (Host.divf : (⟨S32x512, .f32⟩ : BufTy).Contents (Elt F) → (⟨S32x512, .f32⟩ : BufTy).Contents (Elt F) → (⟨S32x512, .f32⟩ : BufTy).Contents (Elt F)),
    unary main_while0b_v89 main_while0b_v104 (Host.tanh : (⟨S32x512, .f32⟩ : BufTy).Contents (Elt F) → (⟨S32x512, .f32⟩ : BufTy).Contents (Elt F)),
    binary main_while0b_v103 main_while0b_v104 main_while0b_v105 (mulf : (⟨S32x512, .f32⟩ : BufTy).Contents (Elt F) → (⟨S32x512, .f32⟩ : BufTy).Contents (Elt F) → (⟨S32x512, .f32⟩ : BufTy).Contents (Elt F)),
    binary main_while0b_v97 main_while0b_v105 main_while0b_v106 (addf : (⟨S32x512, .f32⟩ : BufTy).Contents (Elt F) → (⟨S32x512, .f32⟩ : BufTy).Contents (Elt F) → (⟨S32x512, .f32⟩ : BufTy).Contents (Elt F)),
    unary main_while0b_v90 main_while0b_v107 (Host.negf : (⟨S32x512, .f32⟩ : BufTy).Contents (Elt F) → (⟨S32x512, .f32⟩ : BufTy).Contents (Elt F)),
    unary main_while0b_v107 main_while0b_v108 (Host.exp : (⟨S32x512, .f32⟩ : BufTy).Contents (Elt F) → (⟨S32x512, .f32⟩ : BufTy).Contents (Elt F)),
    nullary main_while0b_cst_28 (constant S_ .f32 0x3F800000#32),
    unary main_while0b_cst_28 main_while0b_v109 (broadcastInDim S32x512 ![] bcast_S_S32x512 : (⟨S_, .f32⟩ : BufTy).Contents (Elt F) → (⟨S32x512, .f32⟩ : BufTy).Contents (Elt F)),
    binary main_while0b_v109 main_while0b_v108 main_while0b_v110 (addf : (⟨S32x512, .f32⟩ : BufTy).Contents (Elt F) → (⟨S32x512, .f32⟩ : BufTy).Contents (Elt F) → (⟨S32x512, .f32⟩ : BufTy).Contents (Elt F)),
    nullary main_while0b_cst_29 (constant S_ .f32 0x3F800000#32),
    unary main_while0b_cst_29 main_while0b_v111 (broadcastInDim S32x512 ![] bcast_S_S32x512 : (⟨S_, .f32⟩ : BufTy).Contents (Elt F) → (⟨S32x512, .f32⟩ : BufTy).Contents (Elt F)),
    binary main_while0b_v111 main_while0b_v110 main_while0b_v112 (Host.divf : (⟨S32x512, .f32⟩ : BufTy).Contents (Elt F) → (⟨S32x512, .f32⟩ : BufTy).Contents (Elt F) → (⟨S32x512, .f32⟩ : BufTy).Contents (Elt F)),
    unary main_while0b_v106 main_while0b_v113 (Host.tanh : (⟨S32x512, .f32⟩ : BufTy).Contents (Elt F) → (⟨S32x512, .f32⟩ : BufTy).Contents (Elt F)),
    binary main_while0b_v112 main_while0b_v113 main_while0b_v114 (mulf : (⟨S32x512, .f32⟩ : BufTy).Contents (Elt F) → (⟨S32x512, .f32⟩ : BufTy).Contents (Elt F) → (⟨S32x512, .f32⟩ : BufTy).Contents (Elt F)) ]

/-- The third cell. -/
abbrev cut4 : List (HloOp τ sig (Elt F)) :=
  [ unary main_v3_11 main_while0b_v115 ((extractStridedSlice S1x32x512 ![2, 0, 0] · slices_S3x32x512_S1x32x512_2_0_0) : (⟨S3x32x512, .f32⟩ : BufTy).Contents (Elt F) → (⟨S1x32x512, .f32⟩ : BufTy).Contents (Elt F)),
    reshape main_while0b_v115 main_while0b_v116 (rfl : (.f32 : EltTy) = .f32) shapeCasts_S1x32x512_S32x512,
    unary main_v3_12 main_while0b_v117 ((extractStridedSlice S1x32x512 ![2, 0, 0] · slices_S3x32x512_S1x32x512_2_0_0) : (⟨S3x32x512, .f32⟩ : BufTy).Contents (Elt F) → (⟨S1x32x512, .f32⟩ : BufTy).Contents (Elt F)),
    reshape main_while0b_v117 main_while0b_v118 (rfl : (.f32 : EltTy) = .f32) shapeCasts_S1x32x512_S32x512,
    unary main_v3_7 main_while0b_v119 ((extractStridedSlice S1x2048x512 ![1, 0, 0] · slices_S2x2048x512_S1x2048x512_1_0_0) : (⟨S2x2048x512, .f32⟩ : BufTy).Contents (Elt F) → (⟨S1x2048x512, .f32⟩ : BufTy).Contents (Elt F)),
    reshape main_while0b_v119 main_while0b_v120 (rfl : (.f32 : EltTy) = .f32) shapeCasts_S1x2048x512_S2048x512,
    unary main_v3_8 main_while0b_v121 ((extractStridedSlice S1x2048x512 ![1, 0, 0] · slices_S2x2048x512_S1x2048x512_1_0_0) : (⟨S2x2048x512, .f32⟩ : BufTy).Contents (Elt F) → (⟨S1x2048x512, .f32⟩ : BufTy).Contents (Elt F)),
    reshape main_while0b_v121 main_while0b_v122 (rfl : (.f32 : EltTy) = .f32) shapeCasts_S1x2048x512_S2048x512,
    unary main_v3_9 main_while0b_v123 ((extractStridedSlice S1x2048 ![1, 0] · slices_S2x2048_S1x2048_1_0) : (⟨S2x2048, .f32⟩ : BufTy).Contents (Elt F) → (⟨S1x2048, .f32⟩ : BufTy).Contents (Elt F)),
    reshape main_while0b_v123 main_while0b_v124 (rfl : (.f32 : EltTy) = .f32) shapeCasts_S1x2048_S2048,
    unary main_while0b_v120 main_while0b_v125 ((transpose S512x2048 [1, 0] · transposes_S2048x512_S512x2048_1_0) : (⟨S2048x512, .f32⟩ : BufTy).Contents (Elt F) → (⟨S512x2048, .f32⟩ : BufTy).Contents (Elt F)),
    binary main_while0b_v114 main_while0b_v125 main_while0b_v126 ((fun l r => Host.dotGeneral dot_S32x512_S512x2048_S32x2048_1_0_0_1_n_n none l r) : (⟨S32x512, .f32⟩ : BufTy).Contents (Elt F) → (⟨S512x2048, .f32⟩ : BufTy).Contents (Elt F) → (⟨S32x2048, .f32⟩ : BufTy).Contents (Elt F)),
    unary main_while0b_v122 main_while0b_v127 ((transpose S512x2048 [1, 0] · transposes_S2048x512_S512x2048_1_0) : (⟨S2048x512, .f32⟩ : BufTy).Contents (Elt F) → (⟨S512x2048, .f32⟩ : BufTy).Contents (Elt F)),
    binary main_while0b_v116 main_while0b_v127 main_while0b_v128 ((fun l r => Host.dotGeneral dot_S32x512_S512x2048_S32x2048_1_0_0_1_n_n none l r) : (⟨S32x512, .f32⟩ : BufTy).Contents (Elt F) → (⟨S512x2048, .f32⟩ : BufTy).Contents (Elt F) → (⟨S32x2048, .f32⟩ : BufTy).Contents (Elt F)),
    binary main_while0b_v126 main_while0b_v128 main_while0b_v129 (addf : (⟨S32x2048, .f32⟩ : BufTy).Contents (Elt F) → (⟨S32x2048, .f32⟩ : BufTy).Contents (Elt F) → (⟨S32x2048, .f32⟩ : BufTy).Contents (Elt F)),
    unary main_while0b_v124 main_while0b_v130 (broadcastInDim S1x2048 ![1] bcast_S2048_S1x2048_1 : (⟨S2048, .f32⟩ : BufTy).Contents (Elt F) → (⟨S1x2048, .f32⟩ : BufTy).Contents (Elt F)),
    unary main_while0b_v130 main_while0b_v131 (broadcastInDim S32x2048 ![0, 1] bcast_S1x2048_S32x2048_0_1 : (⟨S1x2048, .f32⟩ : BufTy).Contents (Elt F) → (⟨S32x2048, .f32⟩ : BufTy).Contents (Elt F)),
    binary main_while0b_v129 main_while0b_v131 main_while0b_v132 (addf : (⟨S32x2048, .f32⟩ : BufTy).Contents (Elt F) → (⟨S32x2048, .f32⟩ : BufTy).Contents (Elt F) → (⟨S32x2048, .f32⟩ : BufTy).Contents (Elt F)),
    unary main_while0b_v132 main_while0b_v133 ((extractStridedSlice S32x512 ![0, 0] · slices_S32x2048_S32x512_0_0) : (⟨S32x2048, .f32⟩ : BufTy).Contents (Elt F) → (⟨S32x512, .f32⟩ : BufTy).Contents (Elt F)),
    unary main_while0b_v132 main_while0b_v134 ((extractStridedSlice S32x512 ![0, 512] · slices_S32x2048_S32x512_0_512) : (⟨S32x2048, .f32⟩ : BufTy).Contents (Elt F) → (⟨S32x512, .f32⟩ : BufTy).Contents (Elt F)),
    unary main_while0b_v132 main_while0b_v135 ((extractStridedSlice S32x512 ![0, 1024] · slices_S32x2048_S32x512_0_1024) : (⟨S32x2048, .f32⟩ : BufTy).Contents (Elt F) → (⟨S32x512, .f32⟩ : BufTy).Contents (Elt F)),
    unary main_while0b_v132 main_while0b_v136 ((extractStridedSlice S32x512 ![0, 1536] · slices_S32x2048_S32x512_0_1536) : (⟨S32x2048, .f32⟩ : BufTy).Contents (Elt F) → (⟨S32x512, .f32⟩ : BufTy).Contents (Elt F)),
    unary main_while0b_v134 main_while0b_v137 (Host.negf : (⟨S32x512, .f32⟩ : BufTy).Contents (Elt F) → (⟨S32x512, .f32⟩ : BufTy).Contents (Elt F)),
    unary main_while0b_v137 main_while0b_v138 (Host.exp : (⟨S32x512, .f32⟩ : BufTy).Contents (Elt F) → (⟨S32x512, .f32⟩ : BufTy).Contents (Elt F)),
    nullary main_while0b_cst_30 (constant S_ .f32 0x3F800000#32),
    unary main_while0b_cst_30 main_while0b_v139 (broadcastInDim S32x512 ![] bcast_S_S32x512 : (⟨S_, .f32⟩ : BufTy).Contents (Elt F) → (⟨S32x512, .f32⟩ : BufTy).Contents (Elt F)),
    binary main_while0b_v139 main_while0b_v138 main_while0b_v140 (addf : (⟨S32x512, .f32⟩ : BufTy).Contents (Elt F) → (⟨S32x512, .f32⟩ : BufTy).Contents (Elt F) → (⟨S32x512, .f32⟩ : BufTy).Contents (Elt F)),
    nullary main_while0b_cst_31 (constant S_ .f32 0x3F800000#32),
    unary main_while0b_cst_31 main_while0b_v141 (broadcastInDim S32x512 ![] bcast_S_S32x512 : (⟨S_, .f32⟩ : BufTy).Contents (Elt F) → (⟨S32x512, .f32⟩ : BufTy).Contents (Elt F)),
    binary main_while0b_v141 main_while0b_v140 main_while0b_v142 (Host.divf : (⟨S32x512, .f32⟩ : BufTy).Contents (Elt F) → (⟨S32x512, .f32⟩ : BufTy).Contents (Elt F) → (⟨S32x512, .f32⟩ : BufTy).Contents (Elt F)),
    binary main_while0b_v142 main_while0b_v118 main_while0b_v143 (mulf : (⟨S32x512, .f32⟩ : BufTy).Contents (Elt F) → (⟨S32x512, .f32⟩ : BufTy).Contents (Elt F) → (⟨S32x512, .f32⟩ : BufTy).Contents (Elt F)),
    unary main_while0b_v133 main_while0b_v144 (Host.negf : (⟨S32x512, .f32⟩ : BufTy).Contents (Elt F) → (⟨S32x512, .f32⟩ : BufTy).Contents (Elt F)),
    unary main_while0b_v144 main_while0b_v145 (Host.exp : (⟨S32x512, .f32⟩ : BufTy).Contents (Elt F) → (⟨S32x512, .f32⟩ : BufTy).Contents (Elt F)),
    nullary main_while0b_cst_32 (constant S_ .f32 0x3F800000#32),
    unary main_while0b_cst_32 main_while0b_v146 (broadcastInDim S32x512 ![] bcast_S_S32x512 : (⟨S_, .f32⟩ : BufTy).Contents (Elt F) → (⟨S32x512, .f32⟩ : BufTy).Contents (Elt F)),
    binary main_while0b_v146 main_while0b_v145 main_while0b_v147 (addf : (⟨S32x512, .f32⟩ : BufTy).Contents (Elt F) → (⟨S32x512, .f32⟩ : BufTy).Contents (Elt F) → (⟨S32x512, .f32⟩ : BufTy).Contents (Elt F)),
    nullary main_while0b_cst_33 (constant S_ .f32 0x3F800000#32),
    unary main_while0b_cst_33 main_while0b_v148 (broadcastInDim S32x512 ![] bcast_S_S32x512 : (⟨S_, .f32⟩ : BufTy).Contents (Elt F) → (⟨S32x512, .f32⟩ : BufTy).Contents (Elt F)),
    binary main_while0b_v148 main_while0b_v147 main_while0b_v149 (Host.divf : (⟨S32x512, .f32⟩ : BufTy).Contents (Elt F) → (⟨S32x512, .f32⟩ : BufTy).Contents (Elt F) → (⟨S32x512, .f32⟩ : BufTy).Contents (Elt F)),
    unary main_while0b_v135 main_while0b_v150 (Host.tanh : (⟨S32x512, .f32⟩ : BufTy).Contents (Elt F) → (⟨S32x512, .f32⟩ : BufTy).Contents (Elt F)),
    binary main_while0b_v149 main_while0b_v150 main_while0b_v151 (mulf : (⟨S32x512, .f32⟩ : BufTy).Contents (Elt F) → (⟨S32x512, .f32⟩ : BufTy).Contents (Elt F) → (⟨S32x512, .f32⟩ : BufTy).Contents (Elt F)),
    binary main_while0b_v143 main_while0b_v151 main_while0b_v152 (addf : (⟨S32x512, .f32⟩ : BufTy).Contents (Elt F) → (⟨S32x512, .f32⟩ : BufTy).Contents (Elt F) → (⟨S32x512, .f32⟩ : BufTy).Contents (Elt F)),
    unary main_while0b_v136 main_while0b_v153 (Host.negf : (⟨S32x512, .f32⟩ : BufTy).Contents (Elt F) → (⟨S32x512, .f32⟩ : BufTy).Contents (Elt F)),
    unary main_while0b_v153 main_while0b_v154 (Host.exp : (⟨S32x512, .f32⟩ : BufTy).Contents (Elt F) → (⟨S32x512, .f32⟩ : BufTy).Contents (Elt F)),
    nullary main_while0b_cst_34 (constant S_ .f32 0x3F800000#32),
    unary main_while0b_cst_34 main_while0b_v155 (broadcastInDim S32x512 ![] bcast_S_S32x512 : (⟨S_, .f32⟩ : BufTy).Contents (Elt F) → (⟨S32x512, .f32⟩ : BufTy).Contents (Elt F)),
    binary main_while0b_v155 main_while0b_v154 main_while0b_v156 (addf : (⟨S32x512, .f32⟩ : BufTy).Contents (Elt F) → (⟨S32x512, .f32⟩ : BufTy).Contents (Elt F) → (⟨S32x512, .f32⟩ : BufTy).Contents (Elt F)),
    nullary main_while0b_cst_35 (constant S_ .f32 0x3F800000#32),
    unary main_while0b_cst_35 main_while0b_v157 (broadcastInDim S32x512 ![] bcast_S_S32x512 : (⟨S_, .f32⟩ : BufTy).Contents (Elt F) → (⟨S32x512, .f32⟩ : BufTy).Contents (Elt F)),
    binary main_while0b_v157 main_while0b_v156 main_while0b_v158 (Host.divf : (⟨S32x512, .f32⟩ : BufTy).Contents (Elt F) → (⟨S32x512, .f32⟩ : BufTy).Contents (Elt F) → (⟨S32x512, .f32⟩ : BufTy).Contents (Elt F)),
    unary main_while0b_v152 main_while0b_v159 (Host.tanh : (⟨S32x512, .f32⟩ : BufTy).Contents (Elt F) → (⟨S32x512, .f32⟩ : BufTy).Contents (Elt F)),
    binary main_while0b_v158 main_while0b_v159 main_while0b_v160 (mulf : (⟨S32x512, .f32⟩ : BufTy).Contents (Elt F) → (⟨S32x512, .f32⟩ : BufTy).Contents (Elt F) → (⟨S32x512, .f32⟩ : BufTy).Contents (Elt F)) ]

/-- The carried values of the next trip. -/
abbrev cut5 : List (HloOp τ sig (Elt F)) :=
  [ unary main_while0b_v68 main_while0b_v161 (broadcastInDim S1x32x512 ![1, 2] bcast_S32x512_S1x32x512_1_2 : (⟨S32x512, .f32⟩ : BufTy).Contents (Elt F) → (⟨S1x32x512, .f32⟩ : BufTy).Contents (Elt F)),
    unary main_while0b_v114 main_while0b_v162 (broadcastInDim S1x32x512 ![1, 2] bcast_S32x512_S1x32x512_1_2 : (⟨S32x512, .f32⟩ : BufTy).Contents (Elt F) → (⟨S1x32x512, .f32⟩ : BufTy).Contents (Elt F)),
    unary main_while0b_v160 main_while0b_v163 (broadcastInDim S1x32x512 ![1, 2] bcast_S32x512_S1x32x512_1_2 : (⟨S32x512, .f32⟩ : BufTy).Contents (Elt F) → (⟨S1x32x512, .f32⟩ : BufTy).Contents (Elt F)),
    nary ![main_while0b_v161, main_while0b_v162, main_while0b_v163] main_while0b_v164 (fun u => (concatenate S3x32x512 0 [⟨S1x32x512, (u 0 : (⟨S1x32x512, .f32⟩ : BufTy).Contents (Elt F))⟩, ⟨S1x32x512, (u 1 : (⟨S1x32x512, .f32⟩ : BufTy).Contents (Elt F))⟩, ⟨S1x32x512, (u 2 : (⟨S1x32x512, .f32⟩ : BufTy).Contents (Elt F))⟩] concatenates_S1x32x512_S1x32x512_S1x32x512_S3x32x512_d0 : (⟨S3x32x512, .f32⟩ : BufTy).Contents (Elt F))),
    unary main_while0b_v60 main_while0b_v165 (broadcastInDim S1x32x512 ![1, 2] bcast_S32x512_S1x32x512_1_2 : (⟨S32x512, .f32⟩ : BufTy).Contents (Elt F) → (⟨S1x32x512, .f32⟩ : BufTy).Contents (Elt F)),
    unary main_while0b_v106 main_while0b_v166 (broadcastInDim S1x32x512 ![1, 2] bcast_S32x512_S1x32x512_1_2 : (⟨S32x512, .f32⟩ : BufTy).Contents (Elt F) → (⟨S1x32x512, .f32⟩ : BufTy).Contents (Elt F)),
    unary main_while0b_v152 main_while0b_v167 (broadcastInDim S1x32x512 ![1, 2] bcast_S32x512_S1x32x512_1_2 : (⟨S32x512, .f32⟩ : BufTy).Contents (Elt F) → (⟨S1x32x512, .f32⟩ : BufTy).Contents (Elt F)),
    nary ![main_while0b_v165, main_while0b_v166, main_while0b_v167] main_while0b_v168 (fun u => (concatenate S3x32x512 0 [⟨S1x32x512, (u 0 : (⟨S1x32x512, .f32⟩ : BufTy).Contents (Elt F))⟩, ⟨S1x32x512, (u 1 : (⟨S1x32x512, .f32⟩ : BufTy).Contents (Elt F))⟩, ⟨S1x32x512, (u 2 : (⟨S1x32x512, .f32⟩ : BufTy).Contents (Elt F))⟩] concatenates_S1x32x512_S1x32x512_S1x32x512_S3x32x512_d0 : (⟨S3x32x512, .f32⟩ : BufTy).Contents (Elt F))),
    TRef.unary (.of main_while0b_v160 : TRef sig ⟨S32x512, .f32⟩) main_while0b_call1.v0 (broadcastInDim S1x32x512 ![1, 2] bcast_S32x512_S1x32x512_1_2),
    TRef.nullary main_while0b_call1.c (constantI S_ 32 0#32),
    TRef.nullary main_while0b_call1.c_0 (constantI S_ 32 0#32),
    TRef.binaryIndexed (.of main_v3_13 : TRef sig ⟨S63x32x512, .f32⟩) main_while0b_call1.v0 ![(.of main_v3_10 : TRef sig ⟨S_, .i32⟩), main_while0b_call1.c, main_while0b_call1.c_0] main_while0b_call1.v1 (fun x u i => Host.dynamicUpdateSlice x u (fun k => (i k (Shape.Idx.first h_S_)).toInt) updateFits_S63x32x512_S1x32x512),
    nullary main_while0b_c_36 (constantI S_ 32 1#32),
    binary main_v3_10 main_while0b_c_36 main_while0b_v170 (addi : (⟨S_, .i32⟩ : BufTy).Contents (Elt F) → (⟨S_, .i32⟩ : BufTy).Contents (Elt F) → (⟨S_, .i32⟩ : BufTy).Contents (Elt F)),
    unary main_while0b_v170 main_v3_10 id,
    unary main_while0b_v164 main_v3_11 id,
    unary main_while0b_v168 main_v3_12 id,
    unary main_while0b_v169 main_v3_13 id ]

theorem trip_cut (V : Valuation τ sig (Elt F)) :
    afterL trip V = after cut5 (after cut4 (after cut3 (after cut2 (after cut1 (after cut0 V))))) := by
  rw [afterL_eq_after_flatten, ← after_append, ← after_append, ← after_append, ← after_append, ← after_append]
  rfl

/-! ## What each list writes -/

abbrev before_W : List (Ref sig .tc) := [main_v0, main_v1, main_cst, main_v2, main_c, main_v3_0, main_v3_1, main_v3_2, main_v3_3, main_v3_4, main_v3_5, main_v3_6, main_v3_7, main_v3_8, main_v3_9, main_v3_10, main_v3_11, main_v3_12, main_v3_13]
theorem before_writes : (before : List (HloOp τ sig (Elt F))).Forall fun op => op.writes ⊆ (before_W.map (Proc.devRef (τ := τ) .tc)).toFinset :=
  forall_writes_sub_of_map rfl
theorem before_other (V : Valuation τ sig (Elt F)) {r : Ref sig .tc} (h : r ∉ before_W) :
    after before V (Proc.devRef .tc r) = V (Proc.devRef .tc r) :=
  after_of_writes_sub before V before_writes h

abbrev test_W : List (Ref sig .tc) := [main_while0c_c_13, main_while0c_v4]
theorem test_writes : (test : List (HloOp τ sig (Elt F))).Forall fun op => op.writes ⊆ (test_W.map (Proc.devRef (τ := τ) .tc)).toFinset :=
  forall_writes_sub_of_map rfl
theorem test_other (V : Valuation τ sig (Elt F)) {r : Ref sig .tc} (h : r ∉ test_W) :
    after test V (Proc.devRef .tc r) = V (Proc.devRef .tc r) :=
  after_of_writes_sub test V test_writes h

abbrev cut0_W : List (Ref sig .tc) := [main_while0b_call0_c, main_while0b_call0_v0, main_while0b_v4, main_while0b_c_13, main_while0b_v5, main_while0b_v6, main_while0b_c_14, main_while0b_v7, main_while0b_v8, main_while0b_v9, main_while0b_v10, main_while0b_v11]
theorem cut0_writes : (cut0 : List (HloOp τ sig (Elt F))).Forall fun op => op.writes ⊆ (cut0_W.map (Proc.devRef (τ := τ) .tc)).toFinset :=
  forall_writes_sub_of_map rfl
theorem cut0_other (V : Valuation τ sig (Elt F)) {r : Ref sig .tc} (h : r ∉ cut0_W) :
    after cut0 V (Proc.devRef .tc r) = V (Proc.devRef .tc r) :=
  after_of_writes_sub cut0 V cut0_writes h

abbrev cut1_W : List (Ref sig .tc) := [main_while0b_v12, main_while0b_v13, main_while0b_v14, main_while0b_v15, main_while0b_cst_15, main_while0b_v16, main_while0b_cst_16, main_while0b_v17, main_while0b_v18, main_while0b_v19, main_while0b_v20, main_while0b_v21, main_while0b_v22, main_while0b_cst_17, main_while0b_v23, main_while0b_v24, main_while0b_v25, main_while0b_v26, main_while0b_v27, main_while0b_v28]
theorem cut1_writes : (cut1 : List (HloOp τ sig (Elt F))).Forall fun op => op.writes ⊆ (cut1_W.map (Proc.devRef (τ := τ) .tc)).toFinset :=
  forall_writes_sub_of_map rfl
theorem cut1_other (V : Valuation τ sig (Elt F)) {r : Ref sig .tc} (h : r ∉ cut1_W) :
    after cut1 V (Proc.devRef .tc r) = V (Proc.devRef .tc r) :=
  after_of_writes_sub cut1 V cut1_writes h

abbrev cut2_W : List (Ref sig .tc) := [main_while0b_v29, main_while0b_v30, main_while0b_v31, main_while0b_v32, main_while0b_v33, main_while0b_v34, main_while0b_v35, main_while0b_v36, main_while0b_v37, main_while0b_v38, main_while0b_v39, main_while0b_v40, main_while0b_v41, main_while0b_v42, main_while0b_v43, main_while0b_v44, main_while0b_v45, main_while0b_v46, main_while0b_cst_18, main_while0b_v47, main_while0b_v48, main_while0b_cst_19, main_while0b_v49, main_while0b_v50, main_while0b_v51, main_while0b_v52, main_while0b_v53, main_while0b_cst_20, main_while0b_v54, main_while0b_v55, main_while0b_cst_21, main_while0b_v56, main_while0b_v57, main_while0b_v58, main_while0b_v59, main_while0b_v60, main_while0b_v61, main_while0b_v62, main_while0b_cst_22, main_while0b_v63, main_while0b_v64, main_while0b_cst_23, main_while0b_v65, main_while0b_v66, main_while0b_v67, main_while0b_v68]
theorem cut2_writes : (cut2 : List (HloOp τ sig (Elt F))).Forall fun op => op.writes ⊆ (cut2_W.map (Proc.devRef (τ := τ) .tc)).toFinset :=
  forall_writes_sub_of_map rfl
theorem cut2_other (V : Valuation τ sig (Elt F)) {r : Ref sig .tc} (h : r ∉ cut2_W) :
    after cut2 V (Proc.devRef .tc r) = V (Proc.devRef .tc r) :=
  after_of_writes_sub cut2 V cut2_writes h

abbrev cut3_W : List (Ref sig .tc) := [main_while0b_v69, main_while0b_v70, main_while0b_v71, main_while0b_v72, main_while0b_v73, main_while0b_v74, main_while0b_v75, main_while0b_v76, main_while0b_v77, main_while0b_v78, main_while0b_v79, main_while0b_v80, main_while0b_v81, main_while0b_v82, main_while0b_v83, main_while0b_v84, main_while0b_v85, main_while0b_v86, main_while0b_v87, main_while0b_v88, main_while0b_v89, main_while0b_v90, main_while0b_v91, main_while0b_v92, main_while0b_cst_24, main_while0b_v93, main_while0b_v94, main_while0b_cst_25, main_while0b_v95, main_while0b_v96, main_while0b_v97, main_while0b_v98, main_while0b_v99, main_while0b_cst_26, main_while0b_v100, main_while0b_v101, main_while0b_cst_27, main_while0b_v102, main_while0b_v103, main_while0b_v104, main_while0b_v105, main_while0b_v106, main_while0b_v107, main_while0b_v108, main_while0b_cst_28, main_while0b_v109, main_while0b_v110, main_while0b_cst_29, main_while0b_v111, main_while0b_v112, main_while0b_v113, main_while0b_v114]
theorem cut3_writes : (cut3 : List (HloOp τ sig (Elt F))).Forall fun op => op.writes ⊆ (cut3_W.map (Proc.devRef (τ := τ) .tc)).toFinset :=
  forall_writes_sub_of_map rfl
theorem cut3_other (V : Valuation τ sig (Elt F)) {r : Ref sig .tc} (h : r ∉ cut3_W) :
    after cut3 V (Proc.devRef .tc r) = V (Proc.devRef .tc r) :=
  after_of_writes_sub cut3 V cut3_writes h

abbrev cut4_W : List (Ref sig .tc) := [main_while0b_v115, main_while0b_v116, main_while0b_v117, main_while0b_v118, main_while0b_v119, main_while0b_v120, main_while0b_v121, main_while0b_v122, main_while0b_v123, main_while0b_v124, main_while0b_v125, main_while0b_v126, main_while0b_v127, main_while0b_v128, main_while0b_v129, main_while0b_v130, main_while0b_v131, main_while0b_v132, main_while0b_v133, main_while0b_v134, main_while0b_v135, main_while0b_v136, main_while0b_v137, main_while0b_v138, main_while0b_cst_30, main_while0b_v139, main_while0b_v140, main_while0b_cst_31, main_while0b_v141, main_while0b_v142, main_while0b_v143, main_while0b_v144, main_while0b_v145, main_while0b_cst_32, main_while0b_v146, main_while0b_v147, main_while0b_cst_33, main_while0b_v148, main_while0b_v149, main_while0b_v150, main_while0b_v151, main_while0b_v152, main_while0b_v153, main_while0b_v154, main_while0b_cst_34, main_while0b_v155, main_while0b_v156, main_while0b_cst_35, main_while0b_v157, main_while0b_v158, main_while0b_v159, main_while0b_v160]
theorem cut4_writes : (cut4 : List (HloOp τ sig (Elt F))).Forall fun op => op.writes ⊆ (cut4_W.map (Proc.devRef (τ := τ) .tc)).toFinset :=
  forall_writes_sub_of_map rfl
theorem cut4_other (V : Valuation τ sig (Elt F)) {r : Ref sig .tc} (h : r ∉ cut4_W) :
    after cut4 V (Proc.devRef .tc r) = V (Proc.devRef .tc r) :=
  after_of_writes_sub cut4 V cut4_writes h

abbrev cut5_W : List (Ref sig .tc) := [main_while0b_v161, main_while0b_v162, main_while0b_v163, main_while0b_v164, main_while0b_v165, main_while0b_v166, main_while0b_v167, main_while0b_v168, main_while0b_call1_v0, main_while0b_call1_c, main_while0b_call1_c_0, main_while0b_v169, main_while0b_c_36, main_while0b_v170, main_v3_10, main_v3_11, main_v3_12, main_v3_13]
theorem cut5_writes : (cut5 : List (HloOp τ sig (Elt F))).Forall fun op => op.writes ⊆ (cut5_W.map (Proc.devRef (τ := τ) .tc)).toFinset :=
  forall_writes_sub_of_map rfl
theorem cut5_other (V : Valuation τ sig (Elt F)) {r : Ref sig .tc} (h : r ∉ cut5_W) :
    after cut5 V (Proc.devRef .tc r) = V (Proc.devRef .tc r) :=
  after_of_writes_sub cut5 V cut5_writes h

/-! ## The counter -/

theorem cut5_counter (V : Valuation τ sig (Elt F)) :
    after cut5 V (Proc.devRef .tc main_v3_10) = addi (V (Proc.devRef .tc main_v3_10)) (constantI S_ 32 1#32) := by
  after_reads_simp; rfl

theorem before_counter (V : Valuation τ sig (Elt F)) : after before V (Proc.devRef .tc main_v3_10) = constantI S_ 32 0#32 := by
  after_reads_simp; rfl

/-- What no trip writes. -/
abbrev kept (r : Ref sig .tc) : Prop :=
  r ∉ test_W ∧ r ∉ cut0_W ∧ r ∉ cut1_W ∧ r ∉ cut2_W ∧ r ∉ cut3_W ∧ r ∉ cut4_W ∧ r ∉ cut5_W

theorem trip_other (V : Valuation τ sig (Elt F)) {r : Ref sig .tc} (h0 : r ∉ cut0_W) (h1 : r ∉ cut1_W) (h2 : r ∉ cut2_W) (h3 : r ∉ cut3_W)
    (h4 : r ∉ cut4_W) (h5 : r ∉ cut5_W) : afterL trip V (Proc.devRef .tc r) = V (Proc.devRef .tc r) := by
  rw [trip_cut, cut5_other _ h5, cut4_other _ h4, cut3_other _ h3, cut2_other _ h2, cut1_other _ h1, cut0_other _ h0]

variable (m : (ℓ : Loc nD τ sig) → Buf (Elt F) ℓ)

/-- The buffers when the loop is entered, and before each run of the test. -/
abbrev ent : Dev nD → Valuation τ sig (Elt F) := entryContents entry m
abbrev at_ (k : ℕ) (c : Dev nD) : Valuation τ sig (Elt F) := atTrip test trip (ent m) k c

theorem at_kept (c : Dev nD) {r : Ref sig .tc} (h : kept r) : ∀ k, at_ m k c (Proc.devRef .tc r) = ent m c (Proc.devRef .tc r)
  | 0 => rfl
  | k + 1 => by
    show afterL trip (after test (at_ m k c)) _ = _
    rw [trip_other _ h.2.1 h.2.2.1 h.2.2.2.1 h.2.2.2.2.1 h.2.2.2.2.2.1 h.2.2.2.2.2.2, test_other _ h.1]
    exact at_kept c h k

theorem at_counter (c : Dev nD) : ∀ k, at_ m k c (Proc.devRef .tc main_v3_10) = fun _ => Scf.iv 0#32 1#32 k
  | 0 => by
    refine (before_counter (F := F) (launchContents m c)).trans ?_
    funext i
    exact (Scf.iv_zero (lb := 0#32) (st := 1#32)).symm
  | k + 1 => by
    show afterL trip (after test (at_ m k c)) _ = _
    rw [trip_cut, cut5_counter, cut4_other _ (by decide), cut3_other _ (by decide), cut2_other _ (by decide), cut1_other _ (by decide),
      cut0_other _ (by decide), test_other _ (by decide), at_counter c k]
    funext i
    exact (Scf.iv_succ (lb := 0#32) (st := 1#32) k).symm

set_option backward.isDefEq.respectTransparency.types false in
theorem test_spec : CondSpec (pcfgs (F := F)) defs₀ loops (main_while0_cond (F := F)) test trip (ent m) 63 := by
  intro k hk c bd
  have hctr := at_counter m c k
  unfold main_while0_cond
  simp only [bind_pure]
  rw [wp_bind]
  iintro ⟨Hb, Hh⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at_ m k c) main_v3_10 HostLoop.idx0)
        (HloOp.result _ (at_ m k c) main_while0c_c_13 HostLoop.idx0) = 1#1) (k < 63)
    rw [nullary_result_ne _ _ _ _ (by decide), nullary_result, hctr]
    exact Scf.cmpi_slt_iv_ub_iff (lb := 0#32) (ub := 63#32) (st := 1#32) (by decide) (show k ≤ Scf.trips 0#32 63#32 1#32 from hk)
  isplitl [Hb]; · iexact Hb
  rw [after_cons, after_cons, after_nil]; iexact Hh

/-- The buffers after the loop. -/
abbrev fin (c : Dev nD) : Valuation τ sig (Elt F) := after test (at_ m 63 c)

/-- The run: every buffer ends at `fin`. -/
theorem run [∀ e, Nonempty (Elt F e)] (ρ : Dev nD → PrngReg) :
    θ_run defs (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = fin m c (Proc.devRef .tc b)) :=
  run_loop (F := F) pcfgs defs₀ loops main 0 main_while0_cond main_while0_body rfl entry trip [] test entry_plain trip_plain .nil
    (fun c => main_eq c) body_eq 63 m ρ (test_spec m)

/-- An array that neither the lists before the loop nor the trips write ends as it began. -/
theorem fin_kept (c : Dev nD) {r : Ref sig .tc} (h : kept r) (hb : r ∉ before_W) :
    fin m c (Proc.devRef .tc r) = m ((c.tc : Thread nD τ).loc r) := by
  show after test _ _ = _
  rw [test_other _ h.1, at_kept m c h]
  exact before_other (F := F) _ hb

end Cert.DecoderReferenceIdeal.Run
-- ==== Proof.DecoderReferenceValues.lean ====
/-
  The reference of the decoder as values: one trip of the loop as functions of what the trip is given, and the outputs after sixty-three trips.
-/
module

public import proofs.«01_k».proof.Proof.DecoderReference
public import Idealize.ShloMosaic.Lib.Pointwise
public import Idealize.ShloMosaic.Lib.DynamicIndex
public import Idealize.ShloMosaic.Lib.Pipeline.Value

@[expose] public section

set_option maxRecDepth 16384

noncomputable section

namespace Cert.DecoderReferenceIdeal.Values

open Cert.DecoderReferenceIdeal Cert.DecoderReferenceIdeal.Gen Cert.DecoderReferenceIdeal.Run
open Idealize.ShloMosaic Idealize.ShloMosaic.TcCoe Idealize.ShloMosaic.StableHlo
open Idealize.SL.Sem

variable {F : FTy → Type} [FloatOps F]

/-! ## One trip -/

/-- The tokens of step `k`. -/
def tokens (toks : Vec F S63x32 .i32) (k : Vec F S_ .i32) : Vec F S32 .i32 :=
  shapeCast S32 (Host.dynamicSlice S1x32 toks (fun a => ((![k, constantI S_ 32 0#32] : Fin 2 → Vec F S_ .i32) a (Shape.Idx.first h_S_)).toInt) sliceFits_S63x32_S1x32) shapeCasts_S1x32_S32

/-- Their rows of the embedding table. -/
def rows (toks : Vec F S63x32 .i32) (tab : Vec F S32000x512 .f32) (k : Vec F S_ .i32) : Vec F S32x512 .f32 :=
  Host.gather gather_S32000x512_S32x1_S32x512_1_0_n_n_0_1_1512 tab (broadcastInDim S32x1 ![0] bcast_S32_S32x1_0
    (select (cmpi .slt (tokens toks k) (broadcastInDim S32 ![] bcast_S_S32 (constantI S_ 32 0#32)))
      (addi (tokens toks k) (broadcastInDim S32 ![] bcast_S_S32 (constantI S_ 32 32000#32))) (tokens toks k)))

/-- Layer `0`, `1`, `2` of the states. -/
def top0 (h : Vec F S3x32x512 .f32) : Vec F S32x512 .f32 :=
  shapeCast S32x512 (extractStridedSlice S1x32x512 ![0, 0, 0] h slices_S3x32x512_S1x32x512_0_0_0) shapeCasts_S1x32x512_S32x512
def top1 (h : Vec F S3x32x512 .f32) : Vec F S32x512 .f32 :=
  shapeCast S32x512 (extractStridedSlice S1x32x512 ![1, 0, 0] h slices_S3x32x512_S1x32x512_1_0_0) shapeCasts_S1x32x512_S32x512
def top2 (h : Vec F S3x32x512 .f32) : Vec F S32x512 .f32 :=
  shapeCast S32x512 (extractStridedSlice S1x32x512 ![2, 0, 0] h slices_S3x32x512_S1x32x512_2_0_0) shapeCasts_S1x32x512_S32x512

/-- The attention scores. -/
def scores (en : Vec F S128x32x512 .f32) (wa : Vec F S512x512 .f32) (h : Vec F S32x512 .f32) : Vec F S32x128 .f32 :=
  Host.dotGeneral dot_S128x32x512_S512x32_S32x128_2_0_0_n_1_1 none en (Host.dotGeneral dot_S512x512_S32x512_S512x32_0_1_1_0_n_n none wa h)

/-- Their exponentials, the largest score taken off. -/
def exps (s : Vec F S32x128 .f32) : Vec F S32x128 .f32 :=
  Host.exp (subf s (broadcastInDim S32x128 ![0, 1] bcast_S32x1_S32x128_0_1 (broadcastInDim S32x1 ![0] bcast_S32_S32x1_0
    (maximumf (broadcastInDim S32 ![] bcast_S_S32 (constant S_ .f32 0xFF800000#32))
      (Host.reduce FloatOps.maximumf s (constant S_ .f32 0xFF800000#32) reducesTo_S32x128_S32_d1 h_S_)))))

/-- The weights, summing to one. -/
def weights (e : Vec F S32x128 .f32) : Vec F S32x128 .f32 :=
  Host.divf e (broadcastInDim S32x128 ![0, 1] bcast_S32x1_S32x128_0_1 (broadcastInDim S32x1 ![0] bcast_S32_S32x1_0
    (Host.reduceAdd e (constant S_ .f32 0x00000000#32) reducesTo_S32x128_S32_d1 h_S_)))

/-- The context. -/
def context (en : Vec F S128x32x512 .f32) (wa : Vec F S512x512 .f32) (h : Vec F S32x512 .f32) : Vec F S32x512 .f32 :=
  Host.dotGeneral dot_S32x128_S128x32x512_S32x512_1_0_n_2_0_1 none (weights (exps (scores en wa h))) en

/-- The first cell's input: the rows and the context side by side. -/
def joined (e x : Vec F S32x512 .f32) : Vec F S32x1024 .f32 :=
  concatenate S32x1024 1 [⟨S32x512, e⟩, ⟨S32x512, x⟩] concatenates_S32x512_S32x512_S32x1024_d1

/-- The sigmoid. -/
def sigm (x : Vec F S32x512 .f32) : Vec F S32x512 .f32 :=
  Host.divf (broadcastInDim S32x512 ![] bcast_S_S32x512 (constant S_ .f32 0x3F800000#32))
    (addf (broadcastInDim S32x512 ![] bcast_S_S32x512 (constant S_ .f32 0x3F800000#32)) (Host.exp (Host.negf x)))

/-- A cell's new inner state, and its output, from the four gates. -/
def inner (g : Vec F S32x2048 .f32) (cc : Vec F S32x512 .f32) : Vec F S32x512 .f32 :=
  addf (mulf (sigm (extractStridedSlice S32x512 ![0, 512] g slices_S32x2048_S32x512_0_512)) cc)
    (mulf (sigm (extractStridedSlice S32x512 ![0, 0] g slices_S32x2048_S32x512_0_0))
      (Host.tanh (extractStridedSlice S32x512 ![0, 1024] g slices_S32x2048_S32x512_0_1024)))
def outer (g : Vec F S32x2048 .f32) (cc : Vec F S32x512 .f32) : Vec F S32x512 .f32 :=
  mulf (sigm (extractStridedSlice S32x512 ![0, 1536] g slices_S32x2048_S32x512_0_1536)) (Host.tanh (inner g cc))

def bias (b : Vec F S2048 .f32) : Vec F S32x2048 .f32 :=
  broadcastInDim S32x2048 ![0, 1] bcast_S1x2048_S32x2048_0_1 (broadcastInDim S1x2048 ![1] bcast_S2048_S1x2048_1 b)

/-- The gates of the first cell. -/
def gates0 (x : Vec F S32x1024 .f32) (h : Vec F S32x512 .f32) (w : Vec F S2048x1024 .f32) (u : Vec F S2048x512 .f32) (b : Vec F S2048 .f32) : Vec F S32x2048 .f32 :=
  addf (addf (Host.dotGeneral dot_S32x1024_S1024x2048_S32x2048_1_0_0_1_n_n none x (transpose S1024x2048 [1, 0] w transposes_S2048x1024_S1024x2048_1_0))
    (Host.dotGeneral dot_S32x512_S512x2048_S32x2048_1_0_0_1_n_n none h (transpose S512x2048 [1, 0] u transposes_S2048x512_S512x2048_1_0))) (bias b)

/-- The gates of a later cell. -/
def gates (x h : Vec F S32x512 .f32) (w u : Vec F S2048x512 .f32) (b : Vec F S2048 .f32) : Vec F S32x2048 .f32 :=
  addf (addf (Host.dotGeneral dot_S32x512_S512x2048_S32x2048_1_0_0_1_n_n none x (transpose S512x2048 [1, 0] w transposes_S2048x512_S512x2048_1_0))
    (Host.dotGeneral dot_S32x512_S512x2048_S32x2048_1_0_0_1_n_n none h (transpose S512x2048 [1, 0] u transposes_S2048x512_S512x2048_1_0))) (bias b)

def w0 (w : Vec F S2x2048x512 .f32) : Vec F S2048x512 .f32 :=
  shapeCast S2048x512 (extractStridedSlice S1x2048x512 ![0, 0, 0] w slices_S2x2048x512_S1x2048x512_0_0_0) shapeCasts_S1x2048x512_S2048x512
def w1 (w : Vec F S2x2048x512 .f32) : Vec F S2048x512 .f32 :=
  shapeCast S2048x512 (extractStridedSlice S1x2048x512 ![1, 0, 0] w slices_S2x2048x512_S1x2048x512_1_0_0) shapeCasts_S1x2048x512_S2048x512
def b0 (b : Vec F S2x2048 .f32) : Vec F S2048 .f32 :=
  shapeCast S2048 (extractStridedSlice S1x2048 ![0, 0] b slices_S2x2048_S1x2048_0_0) shapeCasts_S1x2048_S2048
def b1 (b : Vec F S2x2048 .f32) : Vec F S2048 .f32 :=
  shapeCast S2048 (extractStridedSlice S1x2048 ![1, 0] b slices_S2x2048_S1x2048_1_0) shapeCasts_S1x2048_S2048

/-- Three layers as one array. -/
def three (x y z : Vec F S32x512 .f32) : Vec F S3x32x512 .f32 :=
  concatenate S3x32x512 0 [⟨S1x32x512, broadcastInDim S1x32x512 ![1, 2] bcast_S32x512_S1x32x512_1_2 x⟩, ⟨S1x32x512, broadcastInDim S1x32x512 ![1, 2] bcast_S32x512_S1x32x512_1_2 y⟩,
    ⟨S1x32x512, broadcastInDim S1x32x512 ![1, 2] bcast_S32x512_S1x32x512_1_2 z⟩] concatenates_S1x32x512_S1x32x512_S1x32x512_S3x32x512_d0

/-- The outputs with step `k`'s written. -/
def written (o : Vec F S63x32x512 .f32) (x : Vec F S32x512 .f32) (k : Vec F S_ .i32) : Vec F S63x32x512 .f32 :=
  Host.dynamicUpdateSlice o (broadcastInDim S1x32x512 ![1, 2] bcast_S32x512_S1x32x512_1_2 x)
    (fun a => ((![k, constantI S_ 32 0#32, constantI S_ 32 0#32] : Fin 3 → Vec F S_ .i32) a (Shape.Idx.first h_S_)).toInt) updateFits_S63x32x512_S1x32x512

/-! ## What the lists leave -/

theorem cut0_rows (V : Valuation τ sig (Elt F)) : after cut0 V (Proc.devRef .tc main_while0b_v11)
    = rows (V (Proc.devRef .tc main_v3_0)) (V (Proc.devRef .tc main_v3_1)) (V (Proc.devRef .tc main_v3_10)) := by
  after_reads_simp [unaryIndexed_result_read, indexContents_tref_cons, indexContents_tref_empty]
  rfl

theorem cut1_joined (V : Valuation τ sig (Elt F)) : after cut1 V (Proc.devRef .tc main_while0b_v28)
    = joined (V (Proc.devRef .tc main_while0b_v11)) (context (V (Proc.devRef .tc main_v3_3)) (V (Proc.devRef .tc main_v3_2)) (top2 (V (Proc.devRef .tc main_v3_11)))) := by
  after_reads_simp
  rfl

theorem cut2_inner (V : Valuation τ sig (Elt F)) : after cut2 V (Proc.devRef .tc main_while0b_v60)
    = inner (gates0 (V (Proc.devRef .tc main_while0b_v28)) (top0 (V (Proc.devRef .tc main_v3_11))) (V (Proc.devRef .tc main_v3_4)) (V (Proc.devRef .tc main_v3_5)) (V (Proc.devRef .tc main_v3_6)))
      (top0 (V (Proc.devRef .tc main_v3_12))) := by
  after_reads_simp
  rfl

theorem cut2_outer (V : Valuation τ sig (Elt F)) : after cut2 V (Proc.devRef .tc main_while0b_v68)
    = outer (gates0 (V (Proc.devRef .tc main_while0b_v28)) (top0 (V (Proc.devRef .tc main_v3_11))) (V (Proc.devRef .tc main_v3_4)) (V (Proc.devRef .tc main_v3_5)) (V (Proc.devRef .tc main_v3_6)))
      (top0 (V (Proc.devRef .tc main_v3_12))) := by
  after_reads_simp
  rfl

theorem cut3_inner (V : Valuation τ sig (Elt F)) : after cut3 V (Proc.devRef .tc main_while0b_v106)
    = inner (gates (V (Proc.devRef .tc main_while0b_v68)) (top1 (V (Proc.devRef .tc main_v3_11))) (w0 (V (Proc.devRef .tc main_v3_7))) (w0 (V (Proc.devRef .tc main_v3_8))) (b0 (V (Proc.devRef .tc main_v3_9))))
      (top1 (V (Proc.devRef .tc main_v3_12))) := by
  after_reads_simp
  rfl

theorem cut3_outer (V : Valuation τ sig (Elt F)) : after cut3 V (Proc.devRef .tc main_while0b_v114)
    = outer (gates (V (Proc.devRef .tc main_while0b_v68)) (top1 (V (Proc.devRef .tc main_v3_11))) (w0 (V (Proc.devRef .tc main_v3_7))) (w0 (V (Proc.devRef .tc main_v3_8))) (b0 (V (Proc.devRef .tc main_v3_9))))
      (top1 (V (Proc.devRef .tc main_v3_12))) := by
  after_reads_simp
  rfl

theorem cut4_inner (V : Valuation τ sig (Elt F)) : after cut4 V (Proc.devRef .tc main_while0b_v152)
    = inner (gates (V (Proc.devRef .tc main_while0b_v114)) (top2 (V (Proc.devRef .tc main_v3_11))) (w1 (V (Proc.devRef .tc main_v3_7))) (w1 (V (Proc.devRef .tc main_v3_8))) (b1 (V (Proc.devRef .tc main_v3_9))))
      (top2 (V (Proc.devRef .tc main_v3_12))) := by
  after_reads_simp
  rfl

theorem cut4_outer (V : Valuation τ sig (Elt F)) : after cut4 V (Proc.devRef .tc main_while0b_v160)
    = outer (gates (V (Proc.devRef .tc main_while0b_v114)) (top2 (V (Proc.devRef .tc main_v3_11))) (w1 (V (Proc.devRef .tc main_v3_7))) (w1 (V (Proc.devRef .tc main_v3_8))) (b1 (V (Proc.devRef .tc main_v3_9))))
      (top2 (V (Proc.devRef .tc main_v3_12))) := by
  after_reads_simp
  rfl

theorem cut5_h (V : Valuation τ sig (Elt F)) : after cut5 V (Proc.devRef .tc main_v3_11)
    = three (V (Proc.devRef .tc main_while0b_v68)) (V (Proc.devRef .tc main_while0b_v114)) (V (Proc.devRef .tc main_while0b_v160)) := by
  after_reads_simp
  rfl

theorem cut5_c (V : Valuation τ sig (Elt F)) : after cut5 V (Proc.devRef .tc main_v3_12)
    = three (V (Proc.devRef .tc main_while0b_v60)) (V (Proc.devRef .tc main_while0b_v106)) (V (Proc.devRef .tc main_while0b_v152)) := by
  after_reads_simp
  rfl

theorem cut5_out (V : Valuation τ sig (Elt F)) : after cut5 V (Proc.devRef .tc main_v3_13)
    = written (V (Proc.devRef .tc main_v3_13)) (V (Proc.devRef .tc main_while0b_v160)) (V (Proc.devRef .tc main_v3_10)) := by
  after_reads_simp [binaryIndexed_result_read, indexContents_tref_cons, indexContents_tref_empty]
  rfl

/-! ## The trips -/

/-- What every trip reads: the tokens, the embedding table, the encoder's outputs, and the weights. -/
structure Par (F : FTy → Type) where
  toks : Vec F S63x32 .i32
  tab : Vec F S32000x512 .f32
  en : Vec F S128x32x512 .f32
  wa : Vec F S512x512 .f32
  w : Vec F S2048x1024 .f32
  u : Vec F S2048x512 .f32
  b : Vec F S2048 .f32
  w12 : Vec F S2x2048x512 .f32
  u12 : Vec F S2x2048x512 .f32
  b12 : Vec F S2x2048 .f32

/-- The three cells' outputs and inner states. -/
abbrev Sts (F : FTy → Type) : Type :=
  Vec F S32x512 .f32 × Vec F S32x512 .f32 × Vec F S32x512 .f32 × Vec F S32x512 .f32 × Vec F S32x512 .f32 × Vec F S32x512 .f32

/-- The gates of the three cells. -/
def g0 (p : Par F) (k : Vec F S_ .i32) (s : Sts F) : Vec F S32x2048 .f32 :=
  gates0 (joined (rows p.toks p.tab k) (context p.en p.wa s.2.2.2.2.1)) s.1 p.w p.u p.b
def g1 (p : Par F) (k : Vec F S_ .i32) (s : Sts F) : Vec F S32x2048 .f32 :=
  gates (outer (g0 p k s) s.2.1) s.2.2.1 (w0 p.w12) (w0 p.u12) (b0 p.b12)
def g2 (p : Par F) (k : Vec F S_ .i32) (s : Sts F) : Vec F S32x2048 .f32 :=
  gates (outer (g1 p k s) s.2.2.2.1) s.2.2.2.2.1 (w1 p.w12) (w1 p.u12) (b1 p.b12)

/-- One trip. -/
def next (p : Par F) (k : Vec F S_ .i32) (s : Sts F) : Sts F :=
  (outer (g0 p k s) s.2.1, inner (g0 p k s) s.2.1, outer (g1 p k s) s.2.2.2.1, inner (g1 p k s) s.2.2.2.1,
    outer (g2 p k s) s.2.2.2.2.2, inner (g2 p k s) s.2.2.2.2.2)

/-- The counter before trip `n`. -/
def count (n : ℕ) : Vec F S_ .i32 := fun _ => Scf.iv 0#32 1#32 n

/-- The states before trip `n`. -/
def sts (p : Par F) (s : Sts F) : ℕ → Sts F
  | 0 => s
  | n + 1 => next p (count n) (sts p s n)

/-- The constants and the states as the buffers hold them. -/
def parOf (V : Valuation τ sig (Elt F)) : Par F :=
  ⟨V (Proc.devRef .tc main_v3_0), V (Proc.devRef .tc main_v3_1), V (Proc.devRef .tc main_v3_3), V (Proc.devRef .tc main_v3_2), V (Proc.devRef .tc main_v3_4), V (Proc.devRef .tc main_v3_5), V (Proc.devRef .tc main_v3_6), V (Proc.devRef .tc main_v3_7), V (Proc.devRef .tc main_v3_8), V (Proc.devRef .tc main_v3_9)⟩
def stsOf (V : Valuation τ sig (Elt F)) : Sts F :=
  (top0 (V (Proc.devRef .tc main_v3_11)), top0 (V (Proc.devRef .tc main_v3_12)), top1 (V (Proc.devRef .tc main_v3_11)), top1 (V (Proc.devRef .tc main_v3_12)), top2 (V (Proc.devRef .tc main_v3_11)), top2 (V (Proc.devRef .tc main_v3_12)))

theorem trip_h (V : Valuation τ sig (Elt F)) : afterL trip V (Proc.devRef .tc main_v3_11)
    = three (next (parOf V) (V (Proc.devRef .tc main_v3_10)) (stsOf V)).1 (next (parOf V) (V (Proc.devRef .tc main_v3_10)) (stsOf V)).2.2.1 (next (parOf V) (V (Proc.devRef .tc main_v3_10)) (stsOf V)).2.2.2.2.1 := by
  rw [trip_cut, cut5_h, cut4_other _ (r := main_while0b_v68) (by decide), cut4_other _ (r := main_while0b_v114) (by decide), cut4_outer, cut3_other _ (r := main_while0b_v68) (by decide), cut3_other _ (r := main_v3_11) (by decide), cut3_other _ (r := main_v3_7) (by decide), cut3_other _ (r := main_v3_8) (by decide), cut3_other _ (r := main_v3_9) (by decide), cut3_other _ (r := main_v3_12) (by decide), cut3_outer, cut2_other _ (r := main_v3_11) (by decide), cut2_other _ (r := main_v3_7) (by decide), cut2_other _ (r := main_v3_8) (by decide), cut2_other _ (r := main_v3_9) (by decide), cut2_other _ (r := main_v3_12) (by decide), cut2_outer, cut1_other _ (r := main_v3_11) (by decide), cut1_other _ (r := main_v3_4) (by decide), cut1_other _ (r := main_v3_5) (by decide), cut1_other _ (r := main_v3_6) (by decide), cut1_other _ (r := main_v3_12) (by decide), cut1_other _ (r := main_v3_7) (by decide), cut1_other _ (r := main_v3_8) (by decide), cut1_other _ (r := main_v3_9) (by decide), cut1_joined, cut0_rows, cut0_other _ (r := main_v3_2) (by decide), cut0_other _ (r := main_v3_3) (by decide), cut0_other _ (r := main_v3_4) (by decide), cut0_other _ (r := main_v3_5) (by decide), cut0_other _ (r := main_v3_6) (by decide), cut0_other _ (r := main_v3_7) (by decide), cut0_other _ (r := main_v3_8) (by decide), cut0_other _ (r := main_v3_9) (by decide), cut0_other _ (r := main_v3_11) (by decide), cut0_other _ (r := main_v3_12) (by decide)]
  rfl

theorem trip_c (V : Valuation τ sig (Elt F)) : afterL trip V (Proc.devRef .tc main_v3_12)
    = three (next (parOf V) (V (Proc.devRef .tc main_v3_10)) (stsOf V)).2.1 (next (parOf V) (V (Proc.devRef .tc main_v3_10)) (stsOf V)).2.2.2.1 (next (parOf V) (V (Proc.devRef .tc main_v3_10)) (stsOf V)).2.2.2.2.2 := by
  rw [trip_cut, cut5_c, cut4_other _ (r := main_while0b_v60) (by decide), cut4_other _ (r := main_while0b_v106) (by decide), cut4_inner, cut3_other _ (r := main_while0b_v60) (by decide), cut3_other _ (r := main_v3_11) (by decide), cut3_other _ (r := main_v3_7) (by decide), cut3_other _ (r := main_v3_8) (by decide), cut3_other _ (r := main_v3_9) (by decide), cut3_other _ (r := main_v3_12) (by decide), cut3_inner, cut3_outer, cut2_other _ (r := main_v3_11) (by decide), cut2_other _ (r := main_v3_7) (by decide), cut2_other _ (r := main_v3_8) (by decide), cut2_other _ (r := main_v3_9) (by decide), cut2_other _ (r := main_v3_12) (by decide), cut2_inner, cut2_outer, cut1_other _ (r := main_v3_11) (by decide), cut1_other _ (r := main_v3_4) (by decide), cut1_other _ (r := main_v3_5) (by decide), cut1_other _ (r := main_v3_6) (by decide), cut1_other _ (r := main_v3_12) (by decide), cut1_other _ (r := main_v3_7) (by decide), cut1_other _ (r := main_v3_8) (by decide), cut1_other _ (r := main_v3_9) (by decide), cut1_joined, cut0_rows, cut0_other _ (r := main_v3_2) (by decide), cut0_other _ (r := main_v3_3) (by decide), cut0_other _ (r := main_v3_4) (by decide), cut0_other _ (r := main_v3_5) (by decide), cut0_other _ (r := main_v3_6) (by decide), cut0_other _ (r := main_v3_7) (by decide), cut0_other _ (r := main_v3_8) (by decide), cut0_other _ (r := main_v3_9) (by decide), cut0_other _ (r := main_v3_11) (by decide), cut0_other _ (r := main_v3_12) (by decide)]
  rfl

theorem trip_out (V : Valuation τ sig (Elt F)) : afterL trip V (Proc.devRef .tc main_v3_13)
    = written (V (Proc.devRef .tc main_v3_13)) (next (parOf V) (V (Proc.devRef .tc main_v3_10)) (stsOf V)).2.2.2.2.1 (V (Proc.devRef .tc main_v3_10)) := by
  rw [trip_cut, cut5_out, cut4_other _ (r := main_v3_13) (by decide), cut4_other _ (r := main_v3_10) (by decide), cut4_outer, cut3_other _ (r := main_v3_13) (by decide), cut3_other _ (r := main_v3_10) (by decide), cut3_other _ (r := main_v3_11) (by decide), cut3_other _ (r := main_v3_7) (by decide), cut3_other _ (r := main_v3_8) (by decide), cut3_other _ (r := main_v3_9) (by decide), cut3_other _ (r := main_v3_12) (by decide), cut3_outer, cut2_other _ (r := main_v3_13) (by decide), cut2_other _ (r := main_v3_10) (by decide), cut2_other _ (r := main_v3_11) (by decide), cut2_other _ (r := main_v3_7) (by decide), cut2_other _ (r := main_v3_8) (by decide), cut2_other _ (r := main_v3_9) (by decide), cut2_other _ (r := main_v3_12) (by decide), cut2_outer, cut1_other _ (r := main_v3_13) (by decide), cut1_other _ (r := main_v3_10) (by decide), cut1_other _ (r := main_v3_11) (by decide), cut1_other _ (r := main_v3_4) (by decide), cut1_other _ (r := main_v3_5) (by decide), cut1_other _ (r := main_v3_6) (by decide), cut1_other _ (r := main_v3_12) (by decide), cut1_other _ (r := main_v3_7) (by decide), cut1_other _ (r := main_v3_8) (by decide), cut1_other _ (r := main_v3_9) (by decide), cut1_joined, cut0_rows, cut0_other _ (r := main_v3_13) (by decide), cut0_other _ (r := main_v3_10) (by decide), cut0_other _ (r := main_v3_2) (by decide), cut0_other _ (r := main_v3_3) (by decide), cut0_other _ (r := main_v3_4) (by decide), cut0_other _ (r := main_v3_5) (by decide), cut0_other _ (r := main_v3_6) (by decide), cut0_other _ (r := main_v3_7) (by decide), cut0_other _ (r := main_v3_8) (by decide), cut0_other _ (r := main_v3_9) (by decide), cut0_other _ (r := main_v3_11) (by decide), cut0_other _ (r := main_v3_12) (by decide)]
  rfl

theorem top0_three (x y z : Vec F S32x512 .f32) : top0 (three x y z) = x := by
  funext i; idx_vars i; unfold top0 three; pointwise
theorem top1_three (x y z : Vec F S32x512 .f32) : top1 (three x y z) = y := by
  funext i; idx_vars i; unfold top1 three; pointwise
theorem top2_three (x y z : Vec F S32x512 .f32) : top2 (three x y z) = z := by
  funext i; idx_vars i; unfold top2 three; pointwise

variable (m : (ℓ : Loc nD τ sig) → Buf (Elt F) ℓ)

theorem parOf_at (c : Dev nD) (k : ℕ) : parOf (F := F) (after test (at_ m k c)) = parOf (ent m c) := by
  unfold parOf
  rw [test_other (F := F) _ (r := main_v3_0) (by decide), at_kept m c (r := main_v3_0) (by unfold kept; decide) k, test_other (F := F) _ (r := main_v3_1) (by decide), at_kept m c (r := main_v3_1) (by unfold kept; decide) k, test_other (F := F) _ (r := main_v3_2) (by decide), at_kept m c (r := main_v3_2) (by unfold kept; decide) k, test_other (F := F) _ (r := main_v3_3) (by decide), at_kept m c (r := main_v3_3) (by unfold kept; decide) k, test_other (F := F) _ (r := main_v3_4) (by decide), at_kept m c (r := main_v3_4) (by unfold kept; decide) k, test_other (F := F) _ (r := main_v3_5) (by decide), at_kept m c (r := main_v3_5) (by unfold kept; decide) k, test_other (F := F) _ (r := main_v3_6) (by decide), at_kept m c (r := main_v3_6) (by unfold kept; decide) k, test_other (F := F) _ (r := main_v3_7) (by decide), at_kept m c (r := main_v3_7) (by unfold kept; decide) k, test_other (F := F) _ (r := main_v3_8) (by decide), at_kept m c (r := main_v3_8) (by unfold kept; decide) k, test_other (F := F) _ (r := main_v3_9) (by decide), at_kept m c (r := main_v3_9) (by unfold kept; decide) k]

theorem stsOf_at (c : Dev nD) : ∀ k, stsOf (at_ m k c) = sts (parOf (ent m c)) (stsOf (ent m c)) k
  | 0 => rfl
  | k + 1 => by
    have e : next (parOf (after test (at_ m k c))) (after test (at_ m k c) (Proc.devRef .tc main_v3_10)) (stsOf (after test (at_ m k c)))
        = sts (parOf (ent m c)) (stsOf (ent m c)) (k + 1) := by
      rw [parOf_at, test_other _ (r := main_v3_10) (by decide), at_counter]
      have e2 : stsOf (after test (at_ m k c)) = stsOf (at_ m k c) := by
        unfold stsOf
        rw [test_other _ (r := main_v3_11) (by decide), test_other _ (r := main_v3_12) (by decide)]
      rw [e2, stsOf_at c k]
      rfl
    show stsOf (afterL trip (after test (at_ m k c))) = _
    rw [← e, stsOf, trip_h, trip_c, top0_three, top1_three, top2_three, top0_three, top1_three, top2_three]

theorem out_at (c : Dev nD) (k : ℕ) : at_ m (k + 1) c (Proc.devRef .tc main_v3_13)
    = written (at_ m k c (Proc.devRef .tc main_v3_13)) (sts (parOf (ent m c)) (stsOf (ent m c)) (k + 1)).2.2.2.2.1 (count k) := by
  show afterL trip (after test (at_ m k c)) _ = _
  rw [trip_out, parOf_at, test_other _ (r := main_v3_13) (by decide), test_other _ (r := main_v3_10) (by decide), at_counter]
  have e2 : stsOf (after test (at_ m k c)) = stsOf (at_ m k c) := by
    unfold stsOf
    rw [test_other _ (r := main_v3_11) (by decide), test_other _ (r := main_v3_12) (by decide)]
  rw [e2, stsOf_at]
  rfl

theorem count_toInt {n : ℕ} (hn : n < 63) (i : S_.Idx) : ((count (F := F) n) i).toInt = (n : Int) := by
  have e : Scf.iv 0#32 1#32 n = BitVec.ofNat 32 n := by simp [Scf.iv]
  show (Scf.iv 0#32 1#32 n).toInt = _
  rw [e]
  exact toInt_ofNat_of_lt (by omega)

theorem written_start {n : ℕ} (hn : n < 63) : ∀ a : Fin 3, (fun a : Fin S63x32x512.rank => ((![count (F := F) n, constantI S_ 32 0#32, constantI S_ 32 0#32] : Fin 3 → Vec F S_ .i32) a (Shape.Idx.first h_S_)).toInt) a
    = ((![n, 0, 0] : Fin 3 → ℕ) a : Int) := by
  intro a
  fin_cases a
  · exact count_toInt (F := F) hn (Shape.Idx.first h_S_)
  · rfl
  · rfl

theorem written_slices {n : ℕ} (hn : n < 63) : S63x32x512.Slices ![n, 0, 0] S1x32x512 := by
  refine ⟨rfl, fun a => ?_⟩
  fin_cases a
  · show n + 1 ≤ 63; omega
  · show 0 + 32 ≤ 32; omega
  · show 0 + 512 ≤ 512; omega

/-- The outputs with step `n`'s written, read at an index. -/
theorem written_apply (o : Vec F S63x32x512 .f32) (x : Vec F S32x512 .f32) {n : ℕ} (hn : n < 63) (a : Fin 63) (b : Fin 32) (d : Fin 512) :
    written o x (count n) (ix3 a b d) = if a.val = n then x (ix2 b d) else o (ix3 a b d) := by
  have hs : ∀ a, Host.clampedStart S63x32x512 S1x32x512 rfl (fun a => ((![count (F := F) n, constantI S_ 32 0#32, constantI S_ 32 0#32] : Fin 3 → Vec F S_ .i32) a (Shape.Idx.first h_S_)).toInt) a = (![n, 0, 0] : Fin 3 → ℕ) a := by
    intro a
    fin_cases a
    · show (min (max ((count (F := F) n (Shape.Idx.first h_S_)).toInt) 0) ((63 - 1 : ℕ) : Int)).toNat = n
      rw [count_toInt hn]; omega
    · rfl
    · rfl
  unfold written
  rw [Host.dynamicUpdateSlice_eq_updateSlice _ _ _ _ ![n, 0, 0] hs (written_slices hn), updateSlice_apply]
  by_cases e : a.val = n
  · rw [if_pos e, dif_pos (by
      intro d'
      fin_cases d'
      · show n ≤ a.val ∧ a.val < n + 1; omega
      · show 0 ≤ b.val ∧ b.val < 0 + 32; omega
      · show 0 ≤ d.val ∧ d.val < 0 + 512; omega)]
    pointwise
  · rw [if_neg e, dif_neg (by
      intro h
      have := h 0
      have h' : n ≤ a.val ∧ a.val < n + 1 := this
      omega)]

/-- After `k` trips the outputs of the first `k` steps stand. -/
theorem outs_at (c : Dev nD) : ∀ k ≤ 63, ∀ (a : Fin 63) (b : Fin 32) (d : Fin 512), a.val < k →
    (at_ m k c (Proc.devRef .tc main_v3_13) : Vec F S63x32x512 .f32) (ix3 a b d) = (sts (parOf (ent m c)) (stsOf (ent m c)) (a.val + 1)).2.2.2.2.1 (ix2 b d)
  | 0, _, a, _, _, h => absurd h (Nat.not_lt_zero _)
  | k + 1, hk, a, b, d, h => by
    rw [out_at, written_apply _ _ (show k < 63 by omega)]
    split
    · rename_i e; rw [e]
    · exact outs_at c k (by omega) a b d (by omega)

/-- The result of the run. -/
theorem fin_out (c : Dev nD) (a : Fin 63) (b : Fin 32) (d : Fin 512) :
    (fin m c (Proc.devRef .tc main_v3_13) : Vec F S63x32x512 .f32) (ix3 a b d) = (sts (parOf (ent m c)) (stsOf (ent m c)) (a.val + 1)).2.2.2.2.1 (ix2 b d) := by
  show after test _ _ _ = _
  rw [test_other _ (r := main_v3_13) (by decide)]
  exact outs_at m c 63 le_rfl a b d a.isLt

end Cert.DecoderReferenceIdeal.Values
-- ==== Proof.DecoderValue.lean ====
/-
  The decoder's recurrence over the extended reals: a trip of the kernel's loop and a trip of the reference's loop make the
  same six vectors of the same six vectors. The kernel sends the encoder's outputs through the attention matrix once, before
  its loop, and the reference sends each step's hidden vector through it; for finite numbers the two double sums are one.
-/
module

public import proofs.«01_k».proof.Proof.Decoder
public import proofs.«01_k».proof.Proof.DecoderReferenceValues
public import Idealize.ShloMosaic.Lib.Pointwise

@[expose] public section

set_option maxRecDepth 16384

noncomputable section

namespace Cert.DecoderIdeal.Exchange

open Idealize.ShloMosaic Cert.DecoderIdeal Cert.DecoderIdeal.Gen Cert.DecoderIdeal.Recurrence
open Cert.DecoderReferenceIdeal.Values (Par Sts g0 g1 g2 next sts rows count context scores exps weights joined inner outer gates0 gates w0 w1 b0 b1)

/-! ## Sums -/

/-- A real number. -/
def Fin' (x : EReal) : Prop := ∃ r : ℝ, x = (r : EReal)

theorem coe_sum {ι : Type} [Fintype ι] (f : ι → ℝ) : ((∑ i, f i : ℝ) : EReal) = ∑ i, (f i : EReal) := by
  classical
  have : ∀ s : Finset ι, ((∑ i ∈ s, f i : ℝ) : EReal) = ∑ i ∈ s, (f i : EReal) := fun s => by
    induction s using Finset.induction_on with
    | empty => simp
    | insert a s ha ih => rw [Finset.sum_insert ha, Finset.sum_insert ha, EReal.coe_add, ih]
  exact this Finset.univ

/-- Of real numbers, a vector against a matrix and then against a vector is the vector against the matrix's product with the other. -/
theorem swap {ι κ : Type} [Fintype ι] [Fintype κ] (e : ι → EReal) (w : κ → ι → EReal) (h : κ → EReal)
    (he : ∀ i, Fin' (e i)) (hw : ∀ k i, Fin' (w k i)) (hh : ∀ k, Fin' (h k)) :
    ∑ k, h k * ∑ i, e i * w k i = ∑ i, e i * ∑ k, w k i * h k := by
  choose e' he' using he
  choose w' hw' using hw
  choose h' hh' using hh
  simp only [he', hw', hh', ← EReal.coe_mul, ← coe_sum]
  congr 1
  simp only [Finset.mul_sum]
  rw [Finset.sum_comm]
  refine Finset.sum_congr rfl fun i _ => Finset.sum_congr rfl fun k _ => ?_
  ring

theorem sum_quarters (f : Fin 128 → EReal) : ∑ s, f s
    = ∑ x : Fin 32, f ⟨x.val, by omega⟩ + ∑ x : Fin 32, f ⟨32 + x.val, by omega⟩ + ∑ x : Fin 32, f ⟨64 + x.val, by omega⟩ + ∑ x : Fin 32, f ⟨96 + x.val, by omega⟩ := by
  have h1 := Fin.sum_univ_add (a := 96) (b := 32) f
  have h2 := Fin.sum_univ_add (a := 64) (b := 32) fun i : Fin 96 => f (Fin.castAdd 32 i)
  have h3 := Fin.sum_univ_add (a := 32) (b := 32) fun i : Fin 64 => f (Fin.castAdd 32 (Fin.castAdd 32 i))
  exact h1.trans (congrArg (· + _) (h2.trans (congrArg (· + _) h3)))

theorem sum_halves (f : Fin 1024 → EReal) : ∑ s, f s
    = ∑ x : Fin 512, f ⟨x.val, by omega⟩ + ∑ x : Fin 512, f ⟨512 + x.val, by omega⟩ :=
  Fin.sum_univ_add (a := 512) (b := 512) f

/-- Sigmoid and hyperbolic tangent are real everywhere. -/
theorem fin_mul {x y : EReal} (hx : Fin' x) (hy : Fin' y) : Fin' (x * y) := by
  obtain ⟨a, rfl⟩ := hx; obtain ⟨b, rfl⟩ := hy
  exact ⟨a * b, (EReal.coe_mul a b).symm⟩

theorem fin_tanh (x : EReal) : Fin' (Ideal.tanh x) := by
  induction x with
  | bot => exact ⟨-1, by rw [EReal.coe_neg, EReal.coe_one]; rfl⟩
  | top => exact ⟨1, by rw [EReal.coe_one]; rfl⟩
  | coe r => exact ⟨Real.tanh r, rfl⟩

theorem fin_logistic (x : EReal) : Fin' (Ideal.logistic x) := by
  induction x with
  | bot =>
    refine ⟨0, ?_⟩
    have h : (1 : EReal) + Ideal.exp (-⊥) = ⊤ := by
      rw [EReal.neg_bot]; show (1 : EReal) + ⊤ = ⊤; exact EReal.coe_add_top 1
    unfold Ideal.logistic Ideal.div
    rw [h, if_neg (by simp), EReal.inv_top, mul_zero]; rfl
  | top =>
    refine ⟨1, ?_⟩
    have h : (1 : EReal) + Ideal.exp (-⊤) = 1 := by
      rw [EReal.neg_top]; show (1 : EReal) + 0 = 1; exact add_zero _
    unfold Ideal.logistic Ideal.div
    rw [h, if_neg one_ne_zero, one_mul, ← EReal.coe_one, ← EReal.coe_inv, inv_one]
  | coe r =>
    refine ⟨(1 + Real.exp (-r))⁻¹, ?_⟩
    have hp : (0 : ℝ) < 1 + Real.exp (-r) := by positivity
    have hc : (1 : EReal) + Ideal.exp (-(r : EReal)) = ((1 + Real.exp (-r) : ℝ) : EReal) := by
      rw [← EReal.coe_neg]; show (1 : EReal) + ((Real.exp (-r) : ℝ) : EReal) = _
      rw [EReal.coe_add, EReal.coe_one]
    unfold Ideal.logistic Ideal.div
    rw [hc, if_neg (by exact_mod_cast hp.ne'), one_mul, ← EReal.coe_inv]

theorem split2 {a c : ℕ} (i : (⟨2, ![a, c]⟩ : Shape).Idx) : ∃ (b : Fin a) (d : Fin c), i = ix2 b d := ⟨i 0, i 1, eq_ix2 i⟩

/-! ## The two texts' arrays -/

/-- What the kernel's loop reads, as what the reference's loop reads. -/
structure Matches (x : Arr Ideal) (p : Par Ideal) : Prop where
  en : ∀ (s : Fin 128) (b : Fin 32) (e : Fin 512), x.en (ix2 ⟨s.val * 32 + b.val, by omega⟩ e) = p.en (ix3 s b e)
  e2 : ∀ (s : Fin 128) (b : Fin 32) (d : Fin 512), x.e2 (ix2 ⟨s.val * 32 + b.val, by omega⟩ d) = ∑ e : Fin 512, p.en (ix3 s b e) * p.wa (ix2 d e)
  gx : ∀ (k : Fin 63) (b : Fin 32) (n : Fin 2048), x.gx (ix2 ⟨k.val * 32 + b.val, by omega⟩ n)
    = (∑ e : Fin 512, rows (F := Ideal) p.toks p.tab (count k.val) (ix2 b e) * p.w (ix2 n ⟨e.val, by omega⟩)) + p.b (ix1 n)
  wc : ∀ (d : Fin 512) (n : Fin 2048), x.wc (ix2 d n) = p.w (ix2 n ⟨512 + d.val, by omega⟩)
  wh : ∀ (d : Fin 512) (n : Fin 2048), x.wh (ix2 d n) = p.u (ix2 n d)
  wi : ∀ (l : Fin 2) (d : Fin 512) (n : Fin 2048), x.wi (ix3 l d n) = p.w12 (ix3 l n d)
  wr : ∀ (l : Fin 2) (d : Fin 512) (n : Fin 2048), x.wr (ix3 l d n) = p.u12 (ix3 l n d)
  bb : ∀ (l : Fin 2) (n : Fin 2048), x.bb (ix2 l n) = p.b12 (ix2 l n)
  fin_en : ∀ i, Fin' (p.en i)
  fin_wa : ∀ i, Fin' (p.wa i)

/-! ## Parts of the arrays -/

section Parts
variable (x : Arr Ideal)

theorem en0_at (r : Fin 1024) (e : Fin 512) : en0 x (ix2 r e) = x.en (ix2 ⟨0 + r.val, by omega⟩ e) :=
  congrArg x.en (by
    funext a; fin_cases a
    · exact Fin.ext (by show 0 + 1 * r.val = 0 + r.val; omega)
    · exact Fin.ext (by show 0 + 1 * e.val = e.val; omega))
theorem en1_at (r : Fin 1024) (e : Fin 512) : en1 x (ix2 r e) = x.en (ix2 ⟨1024 + r.val, by omega⟩ e) :=
  congrArg x.en (by
    funext a; fin_cases a
    · exact Fin.ext (by show 1024 + 1 * r.val = 1024 + r.val; omega)
    · exact Fin.ext (by show 0 + 1 * e.val = e.val; omega))
theorem en2_at (r : Fin 1024) (e : Fin 512) : en2 x (ix2 r e) = x.en (ix2 ⟨2048 + r.val, by omega⟩ e) :=
  congrArg x.en (by
    funext a; fin_cases a
    · exact Fin.ext (by show 2048 + 1 * r.val = 2048 + r.val; omega)
    · exact Fin.ext (by show 0 + 1 * e.val = e.val; omega))
theorem en3_at (r : Fin 1024) (e : Fin 512) : en3 x (ix2 r e) = x.en (ix2 ⟨3072 + r.val, by omega⟩ e) :=
  congrArg x.en (by
    funext a; fin_cases a
    · exact Fin.ext (by show 3072 + 1 * r.val = 3072 + r.val; omega)
    · exact Fin.ext (by show 0 + 1 * e.val = e.val; omega))
theorem es0_at (r : Fin 1024) (e : Fin 512) : es0 x (ix2 r e) = x.e2 (ix2 ⟨0 + r.val, by omega⟩ e) :=
  congrArg x.e2 (by
    funext a; fin_cases a
    · exact Fin.ext (by show 0 + 1 * r.val = 0 + r.val; omega)
    · exact Fin.ext (by show 0 + 1 * e.val = e.val; omega))
theorem es1_at (r : Fin 1024) (e : Fin 512) : es1 x (ix2 r e) = x.e2 (ix2 ⟨1024 + r.val, by omega⟩ e) :=
  congrArg x.e2 (by
    funext a; fin_cases a
    · exact Fin.ext (by show 1024 + 1 * r.val = 1024 + r.val; omega)
    · exact Fin.ext (by show 0 + 1 * e.val = e.val; omega))
theorem es2_at (r : Fin 1024) (e : Fin 512) : es2 x (ix2 r e) = x.e2 (ix2 ⟨2048 + r.val, by omega⟩ e) :=
  congrArg x.e2 (by
    funext a; fin_cases a
    · exact Fin.ext (by show 2048 + 1 * r.val = 2048 + r.val; omega)
    · exact Fin.ext (by show 0 + 1 * e.val = e.val; omega))
theorem es3_at (r : Fin 1024) (e : Fin 512) : es3 x (ix2 r e) = x.e2 (ix2 ⟨3072 + r.val, by omega⟩ e) :=
  congrArg x.e2 (by
    funext a; fin_cases a
    · exact Fin.ext (by show 3072 + 1 * r.val = 3072 + r.val; omega)
    · exact Fin.ext (by show 0 + 1 * e.val = e.val; omega))

theorem off5_at : ∀ k : Fin k0_t3_loop.trips, k0_off5 k = ![k.val * 32, 0] := by decide +kernel

theorem gxk_at (k : Fin k0_t3_loop.trips) (b : Fin 32) (n : Fin 2048) :
    gxk x k (ix2 b n) = x.gx (ix2 ⟨k.val * 32 + b.val, by have := k.isLt.trans_eq trips3; omega⟩ n) :=
  congrArg x.gx (by
    funext a; fin_cases a
    · have hq : k0_off5 k 0 = k.val * 32 := congrFun (off5_at k) 0
      exact Fin.ext (by show k0_off5 k 0 + 1 * b.val = k.val * 32 + b.val; omega)
    · have hq : k0_off5 k 1 = 0 := congrFun (off5_at k) 1
      exact Fin.ext (by show k0_off5 k 1 + 1 * n.val = n.val; omega))

theorem wca_at (d : Fin 512) (n : Fin 2048) : wca x (ix2 d n) = x.wc (ix2 d n) :=
  congrArg x.wc (by
    funext a; fin_cases a
    · exact Fin.ext (by show 0 + 1 * d.val = d.val; omega)
    · exact Fin.ext (by show 0 + 1 * n.val = n.val; omega))
theorem wha_at (d : Fin 512) (n : Fin 2048) : wha x (ix2 d n) = x.wh (ix2 d n) :=
  congrArg x.wh (by
    funext a; fin_cases a
    · exact Fin.ext (by show 0 + 1 * d.val = d.val; omega)
    · exact Fin.ext (by show 0 + 1 * n.val = n.val; omega))
theorem wi0_at (d : Fin 512) (n : Fin 2048) : wi0 x (ix3 0 d n) = x.wi (ix3 0 d n) :=
  congrArg x.wi (by
    funext a; fin_cases a
    · rfl
    · exact Fin.ext (by show 0 + 1 * d.val = d.val; omega)
    · exact Fin.ext (by show 0 + 1 * n.val = n.val; omega))
theorem wi1_at (d : Fin 512) (n : Fin 2048) : wi1 x (ix3 0 d n) = x.wi (ix3 1 d n) :=
  congrArg x.wi (by
    funext a; fin_cases a
    · rfl
    · exact Fin.ext (by show 0 + 1 * d.val = d.val; omega)
    · exact Fin.ext (by show 0 + 1 * n.val = n.val; omega))
theorem wr0_at (d : Fin 512) (n : Fin 2048) : wr0 x (ix3 0 d n) = x.wr (ix3 0 d n) :=
  congrArg x.wr (by
    funext a; fin_cases a
    · rfl
    · exact Fin.ext (by show 0 + 1 * d.val = d.val; omega)
    · exact Fin.ext (by show 0 + 1 * n.val = n.val; omega))
theorem wr1_at (d : Fin 512) (n : Fin 2048) : wr1 x (ix3 0 d n) = x.wr (ix3 1 d n) :=
  congrArg x.wr (by
    funext a; fin_cases a
    · rfl
    · exact Fin.ext (by show 0 + 1 * d.val = d.val; omega)
    · exact Fin.ext (by show 0 + 1 * n.val = n.val; omega))
theorem bb0_at (n : Fin 2048) : bb0 x (ix2 0 n) = x.bb (ix2 0 n) :=
  congrArg x.bb (by
    funext a; fin_cases a
    · rfl
    · exact Fin.ext (by show 0 + 1 * n.val = n.val; omega))
theorem bb1_at (n : Fin 2048) : bb1 x (ix2 0 n) = x.bb (ix2 1 n) :=
  congrArg x.bb (by
    funext a; fin_cases a
    · rfl
    · exact Fin.ext (by show 0 + 1 * n.val = n.val; omega))

end Parts

/-! ## Attention -/

/-- The softmax weight of one entry. -/
def soft (f : Fin 128 → EReal) (s : Fin 128) : EReal :=
  Ideal.div (Ideal.exp (f s - Finset.fold max (Ideal.ofBits FTy.f32 4286578688#32) f Finset.univ))
    (∑ t, Ideal.exp (f t - Finset.fold max (Ideal.ofBits FTy.f32 4286578688#32) f Finset.univ))

/-- The kernel's score. -/
def score (x : Arr Ideal) (h : FVec Ideal S32x512 .f32) (b : Fin 32) (s : Fin 128) : EReal :=
  ∑ d : Fin 512, h (ix2 b d) * x.e2 (ix2 ⟨s.val * 32 + b.val, by omega⟩ d)

theorem kernel_weights (x : Arr Ideal) (h : FVec Ideal S32x512 .f32) (s : Fin 128) (b : Fin 32) :
    k0_pay10 h (es0 x) (es1 x) (es2 x) (es3 x) (ix2 s b) = soft (score x h b) s := by
  have chunk : ∀ s : Fin 128, (if h_1 : s.val < 32 then ∑ d : Fin 512, h (ix2 b d) * es0 x (ix2 ⟨s.val * 32 + b.val, by omega⟩ d)
      else if h_2 : s.val - 32 < 32 then ∑ d : Fin 512, h (ix2 b d) * es1 x (ix2 ⟨(s.val - 32) * 32 + b.val, by omega⟩ d)
      else if h_3 : s.val - 32 - 32 < 32 then ∑ d : Fin 512, h (ix2 b d) * es2 x (ix2 ⟨(s.val - 32 - 32) * 32 + b.val, by omega⟩ d)
      else ∑ d : Fin 512, h (ix2 b d) * es3 x (ix2 ⟨(s.val - 32 - 32 - 32) * 32 + b.val, by omega⟩ d)) = score x h b s := by
    intro s
    unfold score
    split_ifs <;> refine Finset.sum_congr rfl fun d _ => ?_
    · rw [es0_at]; congr 3; exact Fin.ext (by show 0 + (s.val * 32 + b.val) = s.val * 32 + b.val; omega)
    · rw [es1_at]; congr 3; exact Fin.ext (by show 1024 + ((s.val - 32) * 32 + b.val) = s.val * 32 + b.val; omega)
    · rw [es2_at]; congr 3; exact Fin.ext (by show 2048 + ((s.val - 32 - 32) * 32 + b.val) = s.val * 32 + b.val; omega)
    · rw [es3_at]; congr 3; exact Fin.ext (by show 3072 + ((s.val - 32 - 32 - 32) * 32 + b.val) = s.val * 32 + b.val; omega)
  have key : ∀ (a b' c d : FVec Ideal S1024x512 .bf16), a = es0 x → b' = es1 x → c = es2 x → d = es3 x → k0_pay10 h a b' c d (ix2 s b) = soft (score x h b) s := by
    intro a b' c d ha hb hc hd
    rw [← ha, ← hb, ← hc, ← hd] at chunk
    unfold soft
    simp only [← chunk]
    pointwise [k0_pay10]
  exact key _ _ _ _ rfl rfl rfl rfl

theorem kernel_ctx (x : Arr Ideal) (s : St Ideal) (b : Fin 32) (e : Fin 512) :
    ctx x s (ix2 b e) = ∑ t : Fin 128, soft (score x s.2.2.2.2.1 b) t * x.en (ix2 ⟨t.val * 32 + b.val, by omega⟩ e) := by
  have key : ∀ (w : FVec Ideal S128x32 .bf16) (w' : FVec Ideal S32x32x1 .bf16) (a b' c d : FVec Ideal S1024x512 .bf16),
      k0_pay13 w w' a b' c d (ix2 b e) = ∑ t : Fin 32, w' (ix3 t b 0) * a (ix2 ⟨t.val * 32 + b.val, by omega⟩ e)
        + ∑ t : Fin 32, w (ix2 ⟨32 + t.val, by omega⟩ b) * b' (ix2 ⟨t.val * 32 + b.val, by omega⟩ e)
        + ∑ t : Fin 32, w (ix2 ⟨64 + t.val, by omega⟩ b) * c (ix2 ⟨t.val * 32 + b.val, by omega⟩ e)
        + ∑ t : Fin 32, w (ix2 ⟨96 + t.val, by omega⟩ b) * d (ix2 ⟨t.val * 32 + b.val, by omega⟩ e) := by
    intro w w' a b' c d
    pointwise [k0_pay13]
  have k11 : ∀ t : Fin 32, k0_pay11 s.2.2.2.2.1 (es0 x) (es1 x) (es2 x) (es3 x) (ix3 t b 0)
      = k0_pay10 s.2.2.2.2.1 (es0 x) (es1 x) (es2 x) (es3 x) (ix2 ⟨t.val, by omega⟩ b) := by
    intro t
    generalize es0 x = a; generalize es1 x = b'; generalize es2 x = c; generalize es3 x = d
    unfold k0_pay11
    generalize k0_pay10 s.2.2.2.2.1 a b' c d = w
    pointwise
  unfold ctx
  rw [key, sum_quarters]
  simp only [k11, kernel_weights]
  refine congrArg₂ (· + ·) (congrArg₂ (· + ·) (congrArg₂ (· + ·) ?_ ?_) ?_) ?_ <;> refine Finset.sum_congr rfl fun t _ => ?_
  · rw [en0_at]; congr 3; exact Fin.ext (by show 0 + (t.val * 32 + b.val) = t.val * 32 + b.val; omega)
  · rw [en1_at]; congr 3; exact Fin.ext (by show 1024 + (t.val * 32 + b.val) = (32 + t.val) * 32 + b.val; omega)
  · rw [en2_at]; congr 3; exact Fin.ext (by show 2048 + (t.val * 32 + b.val) = (64 + t.val) * 32 + b.val; omega)
  · rw [en3_at]; congr 3; exact Fin.ext (by show 3072 + (t.val * 32 + b.val) = (96 + t.val) * 32 + b.val; omega)

/-- The reference's score. -/
theorem scores_at (en : FVec Ideal Cert.DecoderReferenceIdeal.S128x32x512 .f32) (wa : FVec Ideal Cert.DecoderReferenceIdeal.S512x512 .f32)
    (h : FVec Ideal Cert.DecoderReferenceIdeal.S32x512 .f32) (b : Fin 32) (s : Fin 128) :
    scores (F := Ideal) en wa h (ix2 b s) = ∑ e : Fin 512, en (ix3 s b e) * ∑ d : Fin 512, wa (ix2 d e) * h (ix2 b d) := by
  unfold scores
  pointwise

theorem fold_max (c : EReal) (f : Fin 128 → EReal) : max c (Finset.fold max c f Finset.univ) = Finset.fold max c f Finset.univ :=
  max_eq_right ((Finset.le_fold_max c).2 (Or.inl le_rfl))

theorem weights_at (S : FVec Ideal Cert.DecoderReferenceIdeal.S32x128 .f32) (b : Fin 32) (s : Fin 128) :
    weights (F := Ideal) (exps (F := Ideal) S) (ix2 b s) = soft (fun t => S (ix2 b t)) s := by
  unfold soft
  rw [← fold_max]
  unfold weights exps
  pointwise

theorem context_at (en : FVec Ideal Cert.DecoderReferenceIdeal.S128x32x512 .f32) (wa : FVec Ideal Cert.DecoderReferenceIdeal.S512x512 .f32)
    (h : FVec Ideal Cert.DecoderReferenceIdeal.S32x512 .f32) (b : Fin 32) (e : Fin 512) :
    context (F := Ideal) en wa h (ix2 b e) = ∑ t : Fin 128, soft (fun t => scores (F := Ideal) en wa h (ix2 b t)) t * en (ix3 t b e) := by
  unfold context
  simp only [← weights_at]
  generalize weights (F := Ideal) (exps (F := Ideal) (scores (F := Ideal) en wa h)) = w
  pointwise

variable {x : Arr Ideal} {p : Par Ideal}

/-- The two contexts are equal. -/
theorem ctx_eq (hM : Matches x p) (s : St Ideal) (hf : ∀ i, Fin' (s.2.2.2.2.1 i)) (b : Fin 32) (e : Fin 512) :
    ctx x s (ix2 b e) = context (F := Ideal) p.en p.wa s.2.2.2.2.1 (ix2 b e) := by
  rw [kernel_ctx, context_at]
  have hs : score x s.2.2.2.2.1 b = fun t => scores (F := Ideal) p.en p.wa s.2.2.2.2.1 (ix2 b t) := by
    funext t
    rw [scores_at]
    unfold score
    simp only [hM.e2]
    exact swap (fun e => p.en (ix3 t b e)) (fun d e => p.wa (ix2 d e)) (fun d => s.2.2.2.2.1 (ix2 b d))
      (fun _ => hM.fin_en _) (fun _ _ => hM.fin_wa _) (fun _ => hf _)
  rw [hs]
  exact Finset.sum_congr rfl fun t _ => by rw [hM.en]

/-! ## The cells -/

theorem pay14_at (h : FVec Ideal S32x512 .f32) (v : FVec Ideal S32x2048 .f32) (w u : FVec Ideal S512x2048 .bf16) (c : FVec Ideal S32x512 .bf16)
    (b : Fin 32) (n : Fin 2048) : k0_pay14 h v (k0_pay12 w) c (constant S32x2048 .f32 0x00000000#32) u (ix2 b n)
      = v (ix2 b n) + (∑ d : Fin 512, c (ix2 b d) * w (ix2 d n)) + ∑ d : Fin 512, h (ix2 b d) * u (ix2 d n) := by
  pointwise [k0_pay14, k0_pay12]

theorem gates0_at (j : FVec Ideal Cert.DecoderReferenceIdeal.S32x1024 .f32) (h : FVec Ideal Cert.DecoderReferenceIdeal.S32x512 .f32)
    (w : FVec Ideal Cert.DecoderReferenceIdeal.S2048x1024 .f32) (u : FVec Ideal Cert.DecoderReferenceIdeal.S2048x512 .f32)
    (bi : FVec Ideal Cert.DecoderReferenceIdeal.S2048 .f32) (b : Fin 32) (n : Fin 2048) :
    gates0 (F := Ideal) j h w u bi (ix2 b n) = (∑ d : Fin 1024, j (ix2 b d) * w (ix2 n d)) + (∑ d : Fin 512, h (ix2 b d) * u (ix2 n d)) + bi (ix1 n) := by
  unfold gates0 Cert.DecoderReferenceIdeal.Values.bias
  pointwise

theorem joined_left (r c : FVec Ideal Cert.DecoderReferenceIdeal.S32x512 .f32) (b : Fin 32) (d : Fin 512) :
    joined (F := Ideal) r c (ix2 b ⟨d.val, by omega⟩) = r (ix2 b d) := by
  have hd := d.isLt
  unfold joined
  pointwise

theorem joined_right (r c : FVec Ideal Cert.DecoderReferenceIdeal.S32x512 .f32) (b : Fin 32) (d : Fin 512) :
    joined (F := Ideal) r c (ix2 b ⟨512 + d.val, by omega⟩) = c (ix2 b d) := by
  unfold joined
  pointwise

theorem regroup (a b c d : EReal) : a + d + b + c = a + b + c + d := by
  rw [add_right_comm a d b, add_right_comm (a + b) d c]

theorem gates0_eq (hM : Matches x p) (k : Fin k0_t3_loop.trips) (s : St Ideal) (hf : ∀ i, Fin' (s.2.2.2.2.1 i)) :
    k0_pay14 s.1 (gxk x k) (k0_pay12 (wca x)) (ctx x s) (constant S32x2048 .f32 0x00000000#32) (wha x) = g0 (F := Ideal) p (count k.val) s := by
  funext i
  obtain ⟨b, n, rfl⟩ := split2 i
  refine (pay14_at s.1 (gxk x k) (wca x) (wha x) (ctx x s) b n).trans ?_
  refine Eq.trans ?_ (gates0_at (joined (F := Ideal) (rows (F := Ideal) p.toks p.tab (count k.val)) (context (F := Ideal) p.en p.wa s.2.2.2.2.1)) s.1 p.w p.u p.b b n).symm
  rw [sum_halves, gxk_at, hM.gx ⟨k.val, k.isLt.trans_eq trips3⟩ b n]
  refine (regroup _ _ _ _).trans (congrArg (· + _) (congrArg₂ (· + ·) (congrArg₂ (· + ·) ?_ ?_) ?_)) <;> refine Finset.sum_congr rfl fun d _ => ?_
  · rw [joined_left]
  · rw [joined_right, ctx_eq hM s hf, wca_at, hM.wc]
  · rw [wha_at, hM.wh]

theorem pay6_at (h y : FVec Ideal S32x512 .f32) (a c : FVec Ideal S1x512x2048 .bf16) (d : FVec Ideal S1x2048 .f32) (b : Fin 32) (n : Fin 2048) :
    k0_pay6 h y a c d (ix2 b n) = (∑ e : Fin 512, y (ix2 b e) * a (ix3 0 e n)) + (∑ e : Fin 512, h (ix2 b e) * c (ix3 0 e n)) + d (ix2 0 n) := by
  pointwise [k0_pay6]

theorem gates_at (y h : FVec Ideal Cert.DecoderReferenceIdeal.S32x512 .f32) (w u : FVec Ideal Cert.DecoderReferenceIdeal.S2048x512 .f32)
    (d : FVec Ideal Cert.DecoderReferenceIdeal.S2048 .f32) (b : Fin 32) (n : Fin 2048) :
    gates (F := Ideal) y h w u d (ix2 b n) = (∑ e : Fin 512, y (ix2 b e) * w (ix2 n e)) + (∑ e : Fin 512, h (ix2 b e) * u (ix2 n e)) + d (ix1 n) := by
  unfold gates Cert.DecoderReferenceIdeal.Values.bias
  pointwise

theorem w0_at (w : FVec Ideal Cert.DecoderReferenceIdeal.S2x2048x512 .f32) (n : Fin 2048) (e : Fin 512) : w0 (F := Ideal) w (ix2 n e) = w (ix3 0 n e) := by
  unfold w0
  pointwise
theorem b0_at (d : FVec Ideal Cert.DecoderReferenceIdeal.S2x2048 .f32) (n : Fin 2048) : b0 (F := Ideal) d (ix1 n) = d (ix2 0 n) := by
  unfold b0
  pointwise
theorem w1_at (w : FVec Ideal Cert.DecoderReferenceIdeal.S2x2048x512 .f32) (n : Fin 2048) (e : Fin 512) : w1 (F := Ideal) w (ix2 n e) = w (ix3 1 n e) := by
  unfold w1
  pointwise
theorem b1_at (d : FVec Ideal Cert.DecoderReferenceIdeal.S2x2048 .f32) (n : Fin 2048) : b1 (F := Ideal) d (ix1 n) = d (ix2 1 n) := by
  unfold b1
  pointwise

theorem gates_eq0 (hM : Matches x p) (y h : FVec Ideal S32x512 .f32) :
    k0_pay6 h y (wi0 x) (wr0 x) (bb0 x) = gates (F := Ideal) y h (w0 (F := Ideal) p.w12) (w0 (F := Ideal) p.u12) (b0 (F := Ideal) p.b12) := by
  funext i
  obtain ⟨b, n, rfl⟩ := split2 i
  rw [pay6_at, gates_at]
  simp only [wi0_at, wr0_at, bb0_at, hM.wi, hM.wr, hM.bb, w0_at, b0_at]

theorem gates_eq1 (hM : Matches x p) (y h : FVec Ideal S32x512 .f32) :
    k0_pay6 h y (wi1 x) (wr1 x) (bb1 x) = gates (F := Ideal) y h (w1 (F := Ideal) p.w12) (w1 (F := Ideal) p.u12) (b1 (F := Ideal) p.b12) := by
  funext i
  obtain ⟨b, n, rfl⟩ := split2 i
  rw [pay6_at, gates_at]
  simp only [wi1_at, wr1_at, bb1_at, hM.wi, hM.wr, hM.bb, w1_at, b1_at]

/-- A cell's inner state and output of its gates, as the kernel's text has them. -/
theorem cell_inner (g : FVec Ideal S32x2048 .f32) (c : FVec Ideal S32x512 .f32) (i : S32x512.Idx) :
    Cert.DecoderReferenceIdeal.Values.inner (F := Ideal) g c i = Ideal.logistic (g (ix2 (i 0) ⟨512 + (i 1).val, by have h : (i 1).val < 512 := (i 1).isLt; omega⟩)) * c i
      + Ideal.logistic (g (ix2 (i 0) ⟨(i 1).val, by have h : (i 1).val < 512 := (i 1).isLt; omega⟩))
        * Ideal.tanh (g (ix2 (i 0) ⟨1024 + (i 1).val, by have h : (i 1).val < 512 := (i 1).isLt; omega⟩)) := by
  obtain ⟨b, d', rfl⟩ := split2 i
  unfold Cert.DecoderReferenceIdeal.Values.inner Cert.DecoderReferenceIdeal.Values.sigm
  pointwise [Ideal.logistic]

theorem cell_outer (g : FVec Ideal S32x2048 .f32) (c : FVec Ideal S32x512 .f32) (i : S32x512.Idx) :
    outer (F := Ideal) g c i = Ideal.logistic (g (ix2 (i 0) ⟨1536 + (i 1).val, by have h : (i 1).val < 512 := (i 1).isLt; omega⟩)) * Ideal.tanh (Cert.DecoderReferenceIdeal.Values.inner (F := Ideal) g c i) := by
  obtain ⟨b, d', rfl⟩ := split2 i
  unfold outer Cert.DecoderReferenceIdeal.Values.sigm
  generalize Cert.DecoderReferenceIdeal.Values.inner (F := Ideal) g c = z
  pointwise [Ideal.logistic]

theorem top_inner (h cc y : FVec Ideal S32x512 .f32) (a c : FVec Ideal S1x512x2048 .bf16) (d : FVec Ideal S1x2048 .f32) : k0_pay7 h cc y a c d = Cert.DecoderReferenceIdeal.Values.inner (F := Ideal) (k0_pay6 h y a c d) cc := by
  funext i
  rw [cell_inner]
  obtain ⟨b, d', rfl⟩ := split2 i
  unfold k0_pay7
  generalize k0_pay6 h y a c d = g
  pointwise

theorem top_outer (h cc y : FVec Ideal S32x512 .f32) (a c : FVec Ideal S1x512x2048 .bf16) (d : FVec Ideal S1x2048 .f32) : k0_pay8 h cc y a c d = outer (F := Ideal) (k0_pay6 h y a c d) cc := by
  funext i
  rw [cell_outer]
  unfold k0_pay8
  rw [top_inner]
  generalize k0_pay6 h y a c d = g
  generalize Cert.DecoderReferenceIdeal.Values.inner (F := Ideal) g cc = z
  obtain ⟨b, d', rfl⟩ := split2 i
  pointwise

theorem bottom_inner (h cc : FVec Ideal S32x512 .f32) (v : FVec Ideal S32x2048 .f32) (w : FVec Ideal S512x2048 .bf16) (x : FVec Ideal S32x512 .bf16) (z : FVec Ideal S32x2048 .f32) (u : FVec Ideal S512x2048 .bf16) : k0_pay15 h cc v w x z u = Cert.DecoderReferenceIdeal.Values.inner (F := Ideal) (k0_pay14 h v w x z u) cc := by
  funext i
  rw [cell_inner]
  obtain ⟨b, d', rfl⟩ := split2 i
  unfold k0_pay15
  generalize k0_pay14 h v w x z u = g
  pointwise

theorem bottom_outer (h cc : FVec Ideal S32x512 .f32) (v : FVec Ideal S32x2048 .f32) (w : FVec Ideal S512x2048 .bf16) (x : FVec Ideal S32x512 .bf16) (z : FVec Ideal S32x2048 .f32) (u : FVec Ideal S512x2048 .bf16) : k0_pay16 h cc v w x z u = outer (F := Ideal) (k0_pay14 h v w x z u) cc := by
  funext i
  rw [cell_outer]
  unfold k0_pay16
  rw [bottom_inner]
  generalize k0_pay14 h v w x z u = g
  generalize Cert.DecoderReferenceIdeal.Values.inner (F := Ideal) g cc = z
  obtain ⟨b, d', rfl⟩ := split2 i
  pointwise

theorem middle_inner (h cc h1 c1 : FVec Ideal S32x512 .f32) (v : FVec Ideal S32x2048 .f32) (w : FVec Ideal S512x2048 .bf16) (x : FVec Ideal S32x512 .bf16) (z : FVec Ideal S32x2048 .f32) (u : FVec Ideal S512x2048 .bf16) (a c : FVec Ideal S1x512x2048 .bf16) (d : FVec Ideal S1x2048 .f32) : k0_pay18 h cc h1 c1 v w x z u a c d = Cert.DecoderReferenceIdeal.Values.inner (F := Ideal) (k0_pay17 h cc h1 v w x z u a c d) c1 := by
  funext i
  rw [cell_inner]
  obtain ⟨b, d', rfl⟩ := split2 i
  unfold k0_pay18
  generalize k0_pay17 h cc h1 v w x z u a c d = g
  pointwise

theorem middle_outer (h cc h1 c1 : FVec Ideal S32x512 .f32) (v : FVec Ideal S32x2048 .f32) (w : FVec Ideal S512x2048 .bf16) (x : FVec Ideal S32x512 .bf16) (z : FVec Ideal S32x2048 .f32) (u : FVec Ideal S512x2048 .bf16) (a c : FVec Ideal S1x512x2048 .bf16) (d : FVec Ideal S1x2048 .f32) : k0_pay19 h cc h1 c1 v w x z u a c d = outer (F := Ideal) (k0_pay17 h cc h1 v w x z u a c d) c1 := by
  funext i
  rw [cell_outer]
  unfold k0_pay19
  rw [middle_inner]
  generalize k0_pay17 h cc h1 v w x z u a c d = g
  generalize Cert.DecoderReferenceIdeal.Values.inner (F := Ideal) g c1 = z
  obtain ⟨b, d', rfl⟩ := split2 i
  pointwise

theorem middle_gates (h cc h1 : FVec Ideal S32x512 .f32) (v : FVec Ideal S32x2048 .f32) (w : FVec Ideal S512x2048 .bf16) (x : FVec Ideal S32x512 .bf16) (z : FVec Ideal S32x2048 .f32) (u : FVec Ideal S512x2048 .bf16)
    (a c : FVec Ideal S1x512x2048 .bf16) (d : FVec Ideal S1x2048 .f32) :
    k0_pay17 h cc h1 v w x z u a c d = k0_pay6 h1 (k0_pay16 h cc v w x z u) a c d := rfl

/-- A trip of the kernel's loop is a trip of the reference's. -/
theorem step_eq (hM : Matches x p) (k : Fin k0_t3_loop.trips) (s : St Ideal) (hf : ∀ i, Fin' (s.2.2.2.2.1 i)) :
    step x k s = next (F := Ideal) p (count k.val) s := by
  have h0 : hid0 x k s = outer (F := Ideal) (g0 (F := Ideal) p (count k.val) s) s.2.1 := by
    unfold hid0; rw [bottom_outer, gates0_eq hM k s hf]
  have c0 : cell0 x k s = Cert.DecoderReferenceIdeal.Values.inner (F := Ideal) (g0 (F := Ideal) p (count k.val) s) s.2.1 := by
    unfold cell0; rw [bottom_inner, gates0_eq hM k s hf]
  have G1 : k0_pay17 s.1 s.2.1 s.2.2.1 (gxk x k) (k0_pay12 (wca x)) (ctx x s) (constant S32x2048 .f32 0x00000000#32) (wha x) (wi0 x) (wr0 x) (bb0 x)
      = g1 (F := Ideal) p (count k.val) s := by
    rw [middle_gates, gates_eq0 hM]
    unfold g1
    rw [← h0]
    rfl
  have h1 : hid1 x k s = outer (F := Ideal) (g1 (F := Ideal) p (count k.val) s) s.2.2.2.1 := by
    unfold hid1; rw [middle_outer, G1]
  have c1 : cell1 x k s = Cert.DecoderReferenceIdeal.Values.inner (F := Ideal) (g1 (F := Ideal) p (count k.val) s) s.2.2.2.1 := by
    unfold cell1; rw [middle_inner, G1]
  have G2 : k0_pay6 s.2.2.2.2.1 (hid1 x k s) (wi1 x) (wr1 x) (bb1 x) = g2 (F := Ideal) p (count k.val) s := by
    rw [gates_eq1 hM, h1]
    rfl
  have h2 : hid2 x k s = outer (F := Ideal) (g2 (F := Ideal) p (count k.val) s) s.2.2.2.2.2 := by
    unfold hid2; rw [top_outer, G2]
  have c2 : cell2 x k s = Cert.DecoderReferenceIdeal.Values.inner (F := Ideal) (g2 (F := Ideal) p (count k.val) s) s.2.2.2.2.2 := by
    unfold cell2; rw [top_inner, G2]
  unfold step next
  rw [h0, c0, h1, c1, h2, c2]

/-- A trip leaves the top hidden vector real. -/
theorem fin_next (k : Vec Ideal Cert.DecoderReferenceIdeal.S_ .i32) (s : Sts Ideal) (i : S32x512.Idx) : Fin' ((next (F := Ideal) p k s).2.2.2.2.1 i) := by
  show Fin' (outer (F := Ideal) (g2 (F := Ideal) p k s) s.2.2.2.2.2 i)
  rw [cell_outer]
  exact fin_mul (fin_logistic _) (fin_tanh _)

/-- The carried vectors before every trip. -/
theorem st_eq (hM : Matches x p) (s : St Ideal) (hf : ∀ i, Fin' (s.2.2.2.2.1 i)) : ∀ k ≤ 63, st x s k = sts (F := Ideal) p s k ∧ ∀ i, Fin' ((sts (F := Ideal) p s k).2.2.2.2.1 i)
  | 0, _ => ⟨rfl, hf⟩
  | k + 1, hk => by
    obtain ⟨e, f⟩ := st_eq hM s hf k (by omega)
    refine ⟨?_, fun i => fin_next _ _ i⟩
    have hlt : k < k0_t3_loop.trips := by rw [trips3]; omega
    rw [show k + 1 = (⟨k, hlt⟩ : Fin k0_t3_loop.trips).val + 1 from rfl, st_succ, e]
    exact step_eq hM ⟨k, hlt⟩ _ f

/-- The kernel's result, block by block. -/
theorem out_eq (hM : Matches x p) (s : St Ideal) (hf : ∀ i, Fin' (s.2.2.2.2.1 i)) (a : Fin 63) (b : Fin 32) (d : Fin 512) :
    out (F := Ideal) x s (ix3 a b d) = (sts (F := Ideal) p s (a.val + 1)).2.2.2.2.1 (ix2 b d) := by
  have hlt : a.val < k0_t3_loop.trips := by rw [trips3]; exact a.isLt
  have e : st (F := Ideal) x s (a.val + 1) = sts (F := Ideal) p s (a.val + 1) := (st_eq hM s hf (a.val + 1) (by omega)).1
  rw [← e, show a.val + 1 = (⟨a.val, hlt⟩ : Fin k0_t3_loop.trips).val + 1 from rfl, st_succ]
  show put x ⟨a.val, hlt⟩ (st x s a.val) (ix3 0 b d) = hid2 x ⟨a.val, hlt⟩ (st x s a.val) (ix2 b d)
  unfold put hid2 k0_pay9
  generalize k0_pay8 (F := Ideal) _ _ _ _ _ _ = z
  pointwise

end Cert.DecoderIdeal.Exchange
-- ==== Proof.DecoderReferenceStart.lean ====
/-
  What the reference of the decoder starts its loop from, and what its run keeps.
-/
module

public import proofs.«01_k».proof.Proof.DecoderReferenceValues
public import Idealize.ShloMosaic.Lib.Quiescent

@[expose] public section

set_option maxRecDepth 16384

noncomputable section

namespace Cert.DecoderReferenceIdeal.Start

open Cert.DecoderReferenceIdeal Cert.DecoderReferenceIdeal.Gen Cert.DecoderReferenceIdeal.Run Cert.DecoderReferenceIdeal.Values
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg) (c : Dev nD)

abbrev parArgs : Par F :=
  ⟨transpose S63x32 [1, 0] (extractStridedSlice S32x63 ![0, 0] (m ((c.tc : Thread nD τ).loc main_arg0) : IVec S32x64 32) slices_S32x64_S32x63_0_0) transposes_S32x63_S63x32_1_0,
    m ((c.tc : Thread nD τ).loc main_arg1), m ((c.tc : Thread nD τ).loc main_arg2), m ((c.tc : Thread nD τ).loc main_arg11),
    m ((c.tc : Thread nD τ).loc main_arg5), m ((c.tc : Thread nD τ).loc main_arg6), m ((c.tc : Thread nD τ).loc main_arg7),
    m ((c.tc : Thread nD τ).loc main_arg8), m ((c.tc : Thread nD τ).loc main_arg9), m ((c.tc : Thread nD τ).loc main_arg10)⟩

abbrev stsArgs : Sts F :=
  (top0 (m ((c.tc : Thread nD τ).loc main_arg3)), top0 (m ((c.tc : Thread nD τ).loc main_arg4)), top1 (m ((c.tc : Thread nD τ).loc main_arg3)), top1 (m ((c.tc : Thread nD τ).loc main_arg4)),
    top2 (m ((c.tc : Thread nD τ).loc main_arg3)), top2 (m ((c.tc : Thread nD τ).loc main_arg4)))

theorem ent_0 : ent m c main_v3_0 = (parArgs m c).toks := by
  show StableHlo.after before (fun b => m (c, b)) main_v3_0 = _
  after_results <;> rfl

theorem ent_1 : ent m c main_v3_1 = m ((c.tc : Thread nD τ).loc main_arg1) := by
  show StableHlo.after before (fun b => m (c, b)) main_v3_1 = _
  after_results <;> rfl

theorem ent_2 : ent m c main_v3_2 = m ((c.tc : Thread nD τ).loc main_arg11) := by
  show StableHlo.after before (fun b => m (c, b)) main_v3_2 = _
  after_results <;> rfl

theorem ent_3 : ent m c main_v3_3 = m ((c.tc : Thread nD τ).loc main_arg2) := by
  show StableHlo.after before (fun b => m (c, b)) main_v3_3 = _
  after_results <;> rfl

theorem ent_4 : ent m c main_v3_4 = m ((c.tc : Thread nD τ).loc main_arg5) := by
  show StableHlo.after before (fun b => m (c, b)) main_v3_4 = _
  after_results <;> rfl

theorem ent_5 : ent m c main_v3_5 = m ((c.tc : Thread nD τ).loc main_arg6) := by
  show StableHlo.after before (fun b => m (c, b)) main_v3_5 = _
  after_results <;> rfl

theorem ent_6 : ent m c main_v3_6 = m ((c.tc : Thread nD τ).loc main_arg7) := by
  show StableHlo.after before (fun b => m (c, b)) main_v3_6 = _
  after_results <;> rfl

theorem ent_7 : ent m c main_v3_7 = m ((c.tc : Thread nD τ).loc main_arg8) := by
  show StableHlo.after before (fun b => m (c, b)) main_v3_7 = _
  after_results <;> rfl

theorem ent_8 : ent m c main_v3_8 = m ((c.tc : Thread nD τ).loc main_arg9) := by
  show StableHlo.after before (fun b => m (c, b)) main_v3_8 = _
  after_results <;> rfl

theorem ent_9 : ent m c main_v3_9 = m ((c.tc : Thread nD τ).loc main_arg10) := by
  show StableHlo.after before (fun b => m (c, b)) main_v3_9 = _
  after_results <;> rfl

theorem ent_11 : ent m c main_v3_11 = m ((c.tc : Thread nD τ).loc main_arg3) := by
  show StableHlo.after before (fun b => m (c, b)) main_v3_11 = _
  after_results <;> rfl

theorem ent_12 : ent m c main_v3_12 = m ((c.tc : Thread nD τ).loc main_arg4) := by
  show StableHlo.after before (fun b => m (c, b)) main_v3_12 = _
  after_results <;> rfl

/-- The loop's arrays are the arguments. -/
theorem par_ent : parOf (ent m c) = parArgs m c := by
  unfold parOf parArgs
  rw [ent_0, ent_1, ent_2, ent_3, ent_4, ent_5, ent_6, ent_7, ent_8, ent_9]

/-- The loop's states start at the arguments. -/
theorem sts_ent : stsOf (ent m c) = stsArgs m c := by
  unfold stsOf stsArgs
  rw [ent_11, ent_12]

/-- The run: the steps' outputs, the arguments as they were, every semaphore at zero. -/
theorem run_args : θ_run defs (onTc (τ := τ) (main (F := F))) ⟨m, fun _ => 0, ρ⟩ (fun r => (∀ c : Dev nD,
      r.2.mem ((c.tc : Thread nD τ).loc main_v3_13) = fin m c (Proc.devRef .tc main_v3_13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨h c main_v3_13 rfl,
    (h c main_arg0 rfl).trans (fin_kept m c (by unfold kept; decide) (by decide)),
    (h c main_arg1 rfl).trans (fin_kept m c (by unfold kept; decide) (by decide)),
    (h c main_arg2 rfl).trans (fin_kept m c (by unfold kept; decide) (by decide)),
    (h c main_arg3 rfl).trans (fin_kept m c (by unfold kept; decide) (by decide)),
    (h c main_arg4 rfl).trans (fin_kept m c (by unfold kept; decide) (by decide)),
    (h c main_arg5 rfl).trans (fin_kept m c (by unfold kept; decide) (by decide)),
    (h c main_arg6 rfl).trans (fin_kept m c (by unfold kept; decide) (by decide)),
    (h c main_arg7 rfl).trans (fin_kept m c (by unfold kept; decide) (by decide)),
    (h c main_arg8 rfl).trans (fin_kept m c (by unfold kept; decide) (by decide)),
    (h c main_arg9 rfl).trans (fin_kept m c (by unfold kept; decide) (by decide)),
    (h c main_arg10 rfl).trans (fin_kept m c (by unfold kept; decide) (by decide)),
    (h c main_arg11 rfl).trans (fin_kept m c (by unfold kept; decide) (by decide))⟩,
    Idealize.ShloMosaic.sem_eq_zero_of_no_sems (by decide) r.2⟩) (run m ρ)

end Cert.DecoderReferenceIdeal.Start
-- ==== Proof.DecoderEquation.lean ====
/-
  The decoder call and its reference end with the same array: what the call's windows carry is what the reference's loop
  reads, token by token and weight by weight, and the recurrences are one.
-/
module

public import proofs.«01_k».proof.Proof.DecoderFrame
public import proofs.«01_k».proof.Proof.DecoderValue
public import proofs.«01_k».proof.Proof.DecoderReferenceStart
public import proofs.«01_k».proof.Proof.Gen.Pre_decodes
public import proofs.«01_k».proof.Proof.Gen.Pre_tokens_in_vocabulary
public import Idealize.ShloMosaic.Lib.ReduceAll
public import Idealize.ShloMosaic.Lib.Affine
public import Idealize.ShloMosaic.Lib.DynamicIndex
public import Idealize.ShloMosaic.Lib.Routing.Ops

@[expose] public section

set_option maxRecDepth 16384

noncomputable section

namespace Cert.DecoderIdeal.Equation

open Idealize.ShloMosaic Idealize.ShloMosaic.TcCoe Cert.DecoderIdeal Cert.DecoderIdeal.Gen Cert.DecoderIdeal.Recurrence Cert.DecoderIdeal.Body
open Cert.DecoderIdeal.Gather Cert.DecoderIdeal.Exchange Cert.DecoderIdeal.Launched
open Cert.DecoderReferenceIdeal.Values (Par Sts sts rows count tokens top0 top1 top2)

/-! ## The kernel's arrays -/

theorem gx_at (r : Vec Ideal S2016x512 .f32) (wx : Vec Ideal S512x2048 .bf16) (b : Vec Ideal S1x2048 .f32) (i : Fin 2016) (n : Fin 2048) :
    k0_pay20 (F := Ideal) r wx b (ix2 i n) = (∑ e : Fin 512, r (ix2 i e) * wx (ix2 e n)) + b (ix2 0 n) := by
  pointwise [k0_pay20]

theorem e2_at (en : Vec Ideal S4096x512 .bf16) (wa : Vec Ideal S512x512 .bf16) (i : Fin 4096) (d : Fin 512) :
    k0_pay21 (F := Ideal) en wa (ix2 i d) = ∑ e : Fin 512, en (ix2 i e) * wa (ix2 e d) := by
  pointwise [k0_pay21]

section Args
variable (m : (ℓ : Loc nD τ sig) → Buf (Elt Ideal) ℓ) (c : Dev nD)

theorem enr_at (s : Fin 128) (b : Fin 32) (e : Fin 512) : enr (F := Ideal) m c (ix2 ⟨s.val * 32 + b.val, by omega⟩ e) = A2 (F := Ideal) m c (ix3 s b e) := by
  unfold enr
  generalize A2 m c = x
  pointwise

theorem wat_at (e d : Fin 512) : wat (F := Ideal) m c (ix2 e d) = A11 (F := Ideal) m c (ix2 d e) := by
  unfold wat
  generalize A11 m c = x
  pointwise

theorem wxt_at (e : Fin 512) (n : Fin 2048) : wxt (F := Ideal) m c (ix2 e n) = A5 (F := Ideal) m c (ix2 n ⟨e.val, by omega⟩) := by
  unfold wxt
  generalize A5 m c = x
  pointwise

theorem wct_at (e : Fin 512) (n : Fin 2048) : wct (F := Ideal) m c (ix2 e n) = A5 (F := Ideal) m c (ix2 n ⟨512 + e.val, by omega⟩) := by
  unfold wct
  generalize A5 m c = x
  pointwise

theorem wht_at (e : Fin 512) (n : Fin 2048) : wht (F := Ideal) m c (ix2 e n) = A6 (F := Ideal) m c (ix2 n e) := by
  unfold wht
  generalize A6 m c = x
  pointwise

theorem b0r_at (n : Fin 2048) : b0r (F := Ideal) m c (ix2 0 n) = A7 (F := Ideal) m c (ix1 n) := by
  unfold b0r
  generalize A7 m c = x
  pointwise

theorem wis_at (l : Fin 2) (d : Fin 512) (n : Fin 2048) : wis (F := Ideal) m c (ix3 l d n) = A8 (F := Ideal) m c (ix3 l n d) := by
  unfold wis
  generalize A8 m c = x
  fin_cases l <;> pointwise

theorem wrs_at (l : Fin 2) (d : Fin 512) (n : Fin 2048) : wrs (F := Ideal) m c (ix3 l d n) = A9 (F := Ideal) m c (ix3 l n d) := by
  unfold wrs
  generalize A9 m c = x
  fin_cases l <;> pointwise

end Args

/-! ## The reference's rows -/

theorem tokens_at (toks : Vec Ideal S63x32 .i32) (k : Fin 63) (b : Fin 32) :
    tokens (F := Ideal) toks (count (F := Ideal) k.val) (ix1 b) = toks (ix2 k b) := by
  unfold tokens
  rw [Host.dynamicSlice_eq_extractStridedSlice S1x32 toks _ ![k.val, 0] _ (by
      refine ⟨rfl, fun a => ?_⟩
      have := k.isLt
      fin_cases a
      · show k.val + 1 ≤ 63; omega
      · show 0 + 32 ≤ 32; omega) (fun a => by
      fin_cases a
      · exact Cert.DecoderReferenceIdeal.Values.count_toInt (F := Ideal) k.isLt (Shape.Idx.first Cert.DecoderReferenceIdeal.Gen.h_S_)
      · rfl)]
  pointwise

theorem rows_at (toks : Vec Ideal S63x32 .i32) (tab : Vec Ideal S32000x512 .f32) (k : Fin 63) (b : Fin 32) (e : Fin 512)
    (h : (toks (ix2 k b)).toNat < 32000) : rows (F := Ideal) toks tab (count (F := Ideal) k.val) (ix2 b e) = tab (ix2 ⟨(toks (ix2 k b)).toNat, h⟩ e) := by
  unfold rows
  refine Routing.gather_row _ rfl rfl rfl rfl rfl tab _ b e ⟨(toks (ix2 k b)).toNat, h⟩ ?_ (by decide)
  have ht := tokens_at toks k b
  have hn : 0 ≤ (toks (ix2 k b)).toInt := by
    rw [BitVec.toInt_eq_toNat_of_lt (by omega)]; omega
  refine Eq.trans (b := toks (ix2 k b)) ?_ (BitVec.eq_of_toNat_eq (by rw [BitVec.toNat_ofNat]; exact (Nat.mod_eq_of_lt (by omega)).symm))
  rw [← ht] at hn ⊢
  generalize tokens (F := Ideal) toks (count (F := Ideal) k.val) = w at hn
  have hs := select_slt_zero_of_nonneg w (addi w (broadcastInDim S32 ![] Cert.DecoderReferenceIdeal.Gen.bcast_S_S32 (constantI S_ 32 32000#32))) w (ix1 b) hn
  refine Eq.trans ?_ hs
  pointwise

/-! ## The preconditions -/

theorem vocab_of {x : BitVec 32} (h0 : IntOp.cmpi .sge x 0#32 = 1#1) (h1 : IntOp.cmpi .slt x 32000#32 = 1#1) : x.toNat < 32000 := by
  have a := IntOp.cmpi_sge.1 h0
  have b := IntOp.cmpi_slt.1 h1
  rw [show (0#32 : BitVec 32).toInt = 0 from rfl] at a
  rw [show (32000#32 : BitVec 32).toInt = 32000 from rfl] at b
  have := BitVec.toInt_eq_toNat_cond x
  omega

theorem fin_of {x y : EReal} (h : FloatOps.cmpf (F := Ideal) (φ := .f32) .olt (FloatOps.absf (F := Ideal) (φ := .f32) x) y = 1#1) : Fin' x := by
  have h' : BitVec.ofBool (decide (max x (-x) < y)) = 1#1 := h
  have hlt : max x (-x) < ⊤ := by
    by_cases q : max x (-x) < y
    · exact lt_of_lt_of_le q le_top
    · rw [decide_eq_false q] at h'; exact absurd h' (by decide)
  induction x using EReal.rec with
  | bot => exact absurd hlt (by simp)
  | coe r => exact ⟨r, rfl⟩
  | top => exact absurd hlt (by simp)

section Pre
variable (a0 : IVec S32x64 32) (a1 : FVec Ideal S32000x512 .f32) (a2 : FVec Ideal S128x32x512 .f32) (a3 a4 : FVec Ideal S3x32x512 .f32)
  (a5 : FVec Ideal S2048x1024 .f32) (a6 : FVec Ideal S2048x512 .f32) (a7 : FVec Ideal S2048 .f32) (a8 a9 : FVec Ideal S2x2048x512 .f32)
  (a10 : FVec Ideal S2x2048 .f32) (a11 : FVec Ideal S512x512 .f32)

/-- What the value claim's precondition says: the tokens name rows, and three arrays are of real numbers. -/
theorem decodes_says (h : Cert.Pre_decodes.fn (F := Ideal) a0 a1 a2 a3 a4 a5 a6 a7 a8 a9 a10 a11 = fun _ => 1#1) :
    (∀ i, (a0 i).toNat < 32000) ∧ (∀ i, Fin' (a2 i)) ∧ (∀ i, Fin' (a3 i)) ∧ (∀ i, Fin' (a11 i)) := by
  have hs : Subsingleton Cert.Pre_decodes.S_.Idx := ⟨fun a b => funext fun i => i.elim0⟩
  have h0 := congrFun h (fun i => i.elim0)
  dsimp only [Cert.Pre_decodes.fn, Cert.Pre_decodes.fn_part1] at h0
  obtain ⟨t, h1⟩ := IntOp.andi_eq_one.1 h0
  obtain ⟨h2, h4⟩ := IntOp.andi_eq_one.1 h1
  obtain ⟨h2, h3⟩ := IntOp.andi_eq_one.1 h2
  refine ⟨fun i => ?_, fun i => ?_, fun i => ?_, fun i => ?_⟩
  · obtain ⟨x, y⟩ := IntOp.andi_eq_one.1 (Host.reduce_andi_all _ _ _ _ _ t i)
    exact vocab_of x y
  · exact fin_of (Host.reduce_andi_all _ _ _ _ _ h2 i)
  · exact fin_of (Host.reduce_andi_all _ _ _ _ _ h3 i)
  · exact fin_of (Host.reduce_andi_all _ _ _ _ _ h4 i)

end Pre

/-- What the frames' precondition says. -/
theorem vocabulary_says {F : FTy → Type} [FloatOps F] (a0 : IVec S32x64 32) (a1 : FVec F S32000x512 .f32) (a2 : FVec F S128x32x512 .f32) (a3 a4 : FVec F S3x32x512 .f32)
    (a5 : FVec F S2048x1024 .f32) (a6 : FVec F S2048x512 .f32) (a7 : FVec F S2048 .f32) (a8 a9 : FVec F S2x2048x512 .f32)
    (a10 : FVec F S2x2048 .f32) (a11 : FVec F S512x512 .f32)
    (h : Cert.Pre_tokens_in_vocabulary.fn (F := F) a0 a1 a2 a3 a4 a5 a6 a7 a8 a9 a10 a11 = fun _ => 1#1) (i : S32x64.Idx) : (a0 i).toNat < 32000 := by
  obtain ⟨x, y⟩ := IntOp.andi_eq_one.1 (congrFun h i)
  exact vocab_of x y

/-! ## The two arrays -/

section Both
variable (m : (ℓ : Loc nD τ sig) → Buf (Elt Ideal) ℓ) (c : Dev nD)

/-- What the reference's loop reads, of the kernel's arguments. -/
abbrev par : Par Ideal :=
  ⟨transpose S63x32 [1, 0] (extractStridedSlice S32x63 ![0, 0] (A0 m c) slices_S32x64_S32x63_0_0) transposes_S32x63_S63x32_1_0,
    A1 (F := Ideal) m c, A2 (F := Ideal) m c, A11 (F := Ideal) m c, A5 (F := Ideal) m c, A6 (F := Ideal) m c, A7 (F := Ideal) m c, A8 (F := Ideal) m c, A9 (F := Ideal) m c, A10 (F := Ideal) m c⟩
abbrev start : Sts Ideal :=
  (top0 (F := Ideal) (A3 (F := Ideal) m c), top0 (F := Ideal) (A4 (F := Ideal) m c), top1 (F := Ideal) (A3 (F := Ideal) m c), top1 (F := Ideal) (A4 (F := Ideal) m c), top2 (F := Ideal) (A3 (F := Ideal) m c), top2 (F := Ideal) (A4 (F := Ideal) m c))

theorem toks_at (k : Fin 63) (b : Fin 32) : (par m c).toks (ix2 k b) = A0 (F := Ideal) m c (ix2 b ⟨k.val, by omega⟩) := by
  show transpose S63x32 [1, 0] (extractStridedSlice S32x63 ![0, 0] (A0 (F := Ideal) m c) slices_S32x64_S32x63_0_0) transposes_S32x63_S63x32_1_0 (ix2 k b) = _
  generalize A0 (F := Ideal) m c = y
  pointwise

theorem row0_eq (h : Vec Ideal S3x32x512 .f32) :
    row0 (F := Ideal) h = extractStridedSlice S1x32x512 ![0, 0, 0] h Cert.DecoderReferenceIdeal.Gen.slices_S3x32x512_S1x32x512_0_0_0 := by
  funext i
  refine congrArg h (funext fun a => Fin.ext ?_)
  fin_cases a
  · show 0 + 1 * (i 0).val = 0 + (i 0).val; omega
  · show 0 + 1 * (i 1).val = 0 + (i 1).val; omega
  · show 0 + 1 * (i 2).val = 0 + (i 2).val; omega

theorem row1_eq (h : Vec Ideal S3x32x512 .f32) :
    row1 (F := Ideal) h = extractStridedSlice S1x32x512 ![1, 0, 0] h Cert.DecoderReferenceIdeal.Gen.slices_S3x32x512_S1x32x512_1_0_0 := by
  funext i
  refine congrArg h (funext fun a => Fin.ext ?_)
  fin_cases a
  · show 1 + 1 * (i 0).val = 1 + (i 0).val; omega
  · show 0 + 1 * (i 1).val = 0 + (i 1).val; omega
  · show 0 + 1 * (i 2).val = 0 + (i 2).val; omega

theorem row2_eq (h : Vec Ideal S3x32x512 .f32) :
    row2 (F := Ideal) h = extractStridedSlice S1x32x512 ![2, 0, 0] h Cert.DecoderReferenceIdeal.Gen.slices_S3x32x512_S1x32x512_2_0_0 := by
  funext i
  refine congrArg h (funext fun a => Fin.ext ?_)
  fin_cases a
  · show 2 + 1 * (i 0).val = 2 + (i 0).val; omega
  · show 0 + 1 * (i 1).val = 0 + (i 1).val; omega
  · show 0 + 1 * (i 2).val = 0 + (i 2).val; omega

theorem init_eq (h cc : Vec Ideal S3x32x512 .f32) : initV (F := Ideal) h cc
    = (top0 (F := Ideal) h, top0 (F := Ideal) cc, top1 (F := Ideal) h, top1 (F := Ideal) cc, top2 (F := Ideal) h, top2 (F := Ideal) cc) := by
  unfold initV
  rw [row0_eq, row0_eq, row1_eq, row1_eq, row2_eq, row2_eq]
  rfl

variable (hw : Named (F := Ideal) m)

theorem gath_at (hv : ∀ i, (A0 (F := Ideal) m c i).toNat < 32000) (k : Fin 63) (b : Fin 32) (e : Fin 512) :
    gath (F := Ideal) c (hw c) (V m c main_arg1) (ix2 ⟨k.val * 32 + b.val, by omega⟩ e)
      = A1 (F := Ideal) m c (ix2 ⟨(A0 (F := Ideal) m c (ix2 b ⟨k.val, by omega⟩)).toNat, hv _⟩ e) := by
  have hk := k.isLt
  have hb := b.isLt
  have e0 : word (F := Ideal) (stage0_0 0) (c := c) (stg m c 0) (Fin.cast trips1.symm ⟨k.val * 32 + b.val, by omega⟩) = A0 (F := Ideal) m c (ix2 b ⟨k.val, by omega⟩) :=
    (word_at m c _).trans (ids_at m c k b)
  have e1 : V m c main_arg1 = A1 (F := Ideal) m c := V_main_arg1 m c
  unfold gath
  rw [e1]
  refine congrArg (A1 (F := Ideal) m c) (funext fun a => Fin.ext ?_)
  fin_cases a
  · have e2 := congrArg BitVec.toNat e0
    exact e2
  · rfl

theorem matches_args (h : ∀ i, (A0 (F := Ideal) m c i).toNat < 32000) (h2 : ∀ i, Fin' (A2 (F := Ideal) m c i)) (h11 : ∀ i, Fin' (A11 (F := Ideal) m c i)) :
    Matches (arrV (F := Ideal) (gath (F := Ideal) c (hw c) (V m c main_arg1)) (stg m c 1) (stg m c 2) (stg m c 3) (stg m c 4) (stg m c 5) (stg m c 6) (stg m c 7) (stg m c 8) (stg m c 9)) (par m c) := by
  rw [stg1, stg2, stg3, stg4, stg5, stg6, stg7, stg8, stg9, V_enr, V_wat, V_wxt, V_wct, V_wht, V_b0r, V_wis, V_wrs, V_main_arg10]
  constructor
  · exact enr_at m c
  · intro s b d
    refine (e2_at _ _ _ _).trans (Finset.sum_congr rfl fun e _ => ?_)
    rw [enr_at, wat_at]
  · intro k b n
    refine (gx_at _ _ _ _ _).trans ?_
    rw [b0r_at]
    refine congrArg (· + _) (Finset.sum_congr rfl fun e _ => ?_)
    rw [gath_at m c hw h, wxt_at]
    have ht := toks_at m c k b
    have hv : ((par m c).toks (ix2 k b)).toNat < 32000 := by rw [ht]; exact h _
    refine congrArg (· * _) (Eq.trans ?_ (rows_at (par m c).toks (par m c).tab k b e hv).symm)
    exact congrArg (fun t => A1 (F := Ideal) m c (ix2 t e)) (Fin.ext (congrArg BitVec.toNat ht.symm))
  · exact wct_at m c
  · exact wht_at m c
  · exact wis_at m c
  · exact wrs_at m c
  · exact fun _ _ => rfl
  · exact h2
  · exact h11

/-- The kernel's result is the reference's. -/
theorem result_eq (h : ∀ i, (A0 (F := Ideal) m c i).toNat < 32000) (h2 : ∀ i, Fin' (A2 (F := Ideal) m c i)) (h3 : ∀ i, Fin' (A3 (F := Ideal) m c i)) (h11 : ∀ i, Fin' (A11 (F := Ideal) m c i))
    (a : Fin 63) (b : Fin 32) (d : Fin 512) :
    result m hw c (ix3 a b d) = (sts (F := Ideal) (par m c) (start m c) (a.val + 1)).2.2.2.2.1 (ix2 b d) := by
  have hi : initV (F := Ideal) (stg m c 10) (stg m c 11) = start m c := by
    rw [stg10, stg11, V_main_arg3, V_main_arg4]; exact init_eq _ _
  refine (out_eq (matches_args m c hw h h2 h11) _ (fun i => ?_) a b d).trans ?_
  · rw [hi]
    exact h3 _
  · rw [hi]

end Both

end Cert.DecoderIdeal.Equation
-- ==== Proof.EncoderEquation.lean ====
/-
  The encoder call and its reference end with the same arrays: the gathered rows are the embedded sequence, the weights the
  call is given are the reference's transposed and joined, and the recurrences are one.
-/
module

public import proofs.«01_k».proof.Proof.EncoderFrame
public import proofs.«01_k».proof.Proof.EncoderValue
public import proofs.«01_k».proof.Proof.DecoderEquation
public import proofs.«01_k».proof.Proof.Gen.Pre_source_in_vocabulary

@[expose] public section

set_option maxRecDepth 16384

noncomputable section

namespace Cert.EncoderIdeal.Equation

open Idealize.ShloMosaic Idealize.ShloMosaic.TcCoe Cert.EncoderIdeal Cert.EncoderIdeal.Gen Cert.EncoderIdeal.Encoder Cert.EncoderIdeal.EncoderRun
open Cert.EncoderIdeal.EncoderGather Cert.EncoderIdeal.Stack Cert.EncoderIdeal.Launched Cert.EncoderIdeal.Value
open Cert.EncoderReferenceIdeal.Values (Sts embedded three zeros both256 both512 sts256 sts512 inL0 inL1 recL0 recL1 biasL0 biasL1)
open Cert.EncoderReferenceIdeal.Start (outs layer layer0)

/-! ## The embedded sequence -/

theorem gather_at (x : FVec Ideal Cert.EncoderReferenceIdeal.S32000x256 .f32) (idx : IVec Cert.EncoderReferenceIdeal.S32x128x1 32) (b : Fin 32) (k : Fin 128) (e : Fin 256)
    (r : Fin 32000) (hr : idx (ix3 b k 0) = BitVec.ofNat 32 r.val) :
    Host.gather Cert.EncoderReferenceIdeal.gather_S32000x256_S32x128x1_S32x128x256_2_0_n_n_0_2_1256 x idx (ix3 b k e) = x (ix2 r e) := by
  unfold Host.gather
  refine congrArg x (funext fun a => Fin.ext ?_)
  generalize hd : Cert.EncoderReferenceIdeal.gather_S32000x256_S32x128x1_S32x128x256_2_0_n_n_0_2_1256 = d
  have hsi : ∀ h, d.siIdx (ix3 b k e) ⟨d.startIndexMap.idxOf 0, h⟩ = ix3 b k 0 := by
    subst hd
    intro h
    funext a
    fin_cases a <;> rfl
  have hrl := r.isLt
  match a with
  | ⟨0, _⟩ =>
    show d.start (ix3 b k e) idx 0 + d.batchCoord (ix3 b k e) 0 + d.offCoord (ix3 b k e) 0 = r.val
    have hm : (0 : Fin 2) ∈ d.startIndexMap := by subst hd; exact List.mem_singleton.2 rfl
    have h1 : d.batchCoord (ix3 b k e) 0 = 0 := by subst hd; rfl
    have h2 : d.offCoord (ix3 b k e) 0 = 0 := by subst hd; rfl
    have hsl : d.sliceSizes 0 = 1 := by subst hd; rfl
    rw [h1, h2]
    unfold GatherDims.start
    rw [dif_pos hm, hsi, hr, hsl, StableHlo.Predicate.toInt_ofNat_small _ (by omega)]
    show min ((r.val : Int)).toNat (32000 - 1) + 0 + 0 = r.val
    omega
  | ⟨1, _⟩ =>
    subst hd
    show GatherDims.start _ (ix3 b k e) idx 1 + GatherDims.batchCoord _ (ix3 b k e) 1 + GatherDims.offCoord _ (ix3 b k e) 1 = e.val
    have h0 : GatherDims.start Cert.EncoderReferenceIdeal.gather_S32000x256_S32x128x1_S32x128x256_2_0_n_n_0_2_1256 (ix3 b k e) idx 1 = 0 := rfl
    have h1 : GatherDims.batchCoord Cert.EncoderReferenceIdeal.gather_S32000x256_S32x128x1_S32x128x256_2_0_n_n_0_2_1256 (ix3 b k e) 1 = 0 := rfl
    have h2 : GatherDims.offCoord Cert.EncoderReferenceIdeal.gather_S32000x256_S32x128x1_S32x128x256_2_0_n_n_0_2_1256 (ix3 b k e) 1 = e.val := rfl
    rw [h0, h1, h2]
    omega

theorem turned_at (G : FVec Ideal Cert.EncoderReferenceIdeal.S32x128x256 .f32) (h) (k : Fin 128) (b : Fin 32) (e : Fin 256) :
    transpose Cert.EncoderReferenceIdeal.S128x32x256 [1, 0, 2] G h (ix3 k b e) = G (ix3 b k e) := by
  pointwise

theorem widened_at (w : IVec Cert.EncoderReferenceIdeal.S32x128 32) (h) (b : Fin 32) (k : Fin 128) :
    broadcastInDim Cert.EncoderReferenceIdeal.S32x128x1 ![0, 1] h w (ix3 b k 0) = w (ix2 b k) := by
  pointwise

theorem embedded_at (x : IVec Cert.EncoderReferenceIdeal.S32x128 32) (tab : FVec Ideal Cert.EncoderReferenceIdeal.S32000x256 .f32) (k : Fin 128) (b : Fin 32) (e : Fin 256)
    (h : (x (ix2 b k)).toNat < 32000) : embedded (F := Ideal) x tab (ix3 k b e) = tab (ix2 ⟨(x (ix2 b k)).toNat, h⟩ e) := by
  unfold embedded
  refine (turned_at _ _ k b e).trans (gather_at tab _ b k e ⟨(x (ix2 b k)).toNat, h⟩ ((widened_at _ _ b k).trans ?_))
  have hn : 0 ≤ (x (ix2 b k)).toInt := by
    rw [BitVec.toInt_eq_toNat_of_lt (by omega)]; omega
  refine Eq.trans (b := x (ix2 b k)) ?_ (BitVec.eq_of_toNat_eq (by rw [BitVec.toNat_ofNat]; exact (Nat.mod_eq_of_lt (by omega)).symm))
  have hs := select_slt_zero_of_nonneg x (addi x (broadcastInDim Cert.EncoderReferenceIdeal.S32x128 ![] Cert.EncoderReferenceIdeal.Gen.bcast_S_S32x128 (constantI Cert.EncoderReferenceIdeal.S_ 32 32000#32))) x (ix2 b k) hn
  refine Eq.trans ?_ hs
  pointwise

/-- What the precondition says. -/
theorem source_says {F : FTy → Type} [FloatOps F] (a0 : IVec S32x128 32) (a1 : FVec F S32000x256 .f32) (a2 a3 : FVec F S2x1024x256 .f32) (a4 : FVec F S2x1024 .f32)
    (a5 : FVec F S2x2x1024x512 .f32) (a6 : FVec F S2x2x1024x256 .f32) (a7 : FVec F S2x2x1024 .f32)
    (h : Cert.Pre_source_in_vocabulary.fn (F := F) a0 a1 a2 a3 a4 a5 a6 a7 = fun _ => 1#1) (i : S32x128.Idx) : (a0 i).toNat < 32000 := by
  obtain ⟨x, y⟩ := IntOp.andi_eq_one.1 (congrFun h i)
  exact Cert.DecoderIdeal.Equation.vocab_of x y

/-! ## Weights -/

theorem rec_at (W : FVec Ideal S2x1024x256 .f32) (d : Fin 2) (e : Fin 256) (n : Fin 1024) : rec256 (F := Ideal) W (ix3 d e n) = W (ix3 d n e) := by
  unfold rec256
  fin_cases d <;> pointwise

theorem bias_low (b : FVec Ideal S2x1024 .f32) (n : Fin 1024) : biasR (F := Ideal) b (ix2 0 ⟨n.val, by omega⟩) = b (ix2 0 n) := by
  have hn := n.isLt
  unfold biasR
  pointwise
theorem bias_high (b : FVec Ideal S2x1024 .f32) (n : Fin 1024) : biasR (F := Ideal) b (ix2 0 ⟨1024 + n.val, by omega⟩) = b (ix2 1 n) := by
  unfold biasR
  pointwise

theorem in256_low (W : FVec Ideal S2x1024x256 .f32) (e : Fin 256) (n : Fin 1024) : in256 (F := Ideal) W (ix2 e ⟨n.val, by omega⟩) = W (ix3 0 n e) := by
  have hn := n.isLt
  unfold in256
  pointwise
theorem in256_high (W : FVec Ideal S2x1024x256 .f32) (e : Fin 256) (n : Fin 1024) : in256 (F := Ideal) W (ix2 e ⟨1024 + n.val, by omega⟩) = W (ix3 1 n e) := by
  unfold in256
  pointwise

theorem in512_low (W : FVec Ideal S2x1024x512 .f32) (e : Fin 512) (n : Fin 1024) : in512 (F := Ideal) W (ix2 e ⟨n.val, by omega⟩) = W (ix3 0 n e) := by
  have hn := n.isLt
  unfold in512
  pointwise
theorem in512_high (W : FVec Ideal S2x1024x512 .f32) (e : Fin 512) (n : Fin 1024) : in512 (F := Ideal) W (ix2 e ⟨1024 + n.val, by omega⟩) = W (ix3 1 n e) := by
  unfold in512
  pointwise

theorem gin0_at (x : FVec Ideal S4096x256 .f32) (w : FVec Ideal S256x2048 .bf16) (b : FVec Ideal S1x2048 .f32) (i : Fin 4096) (n : Fin 2048) :
    k0_pay23 (F := Ideal) x w b (ix2 i n) = (∑ e : Fin 256, x (ix2 i e) * w (ix2 e n)) + b (ix2 0 n) := by
  pointwise [k0_pay23]

theorem layer0_same (x : FVec Ideal S4096x256 .f32) (s : FVec Ideal Cert.EncoderReferenceIdeal.S128x32x256 .f32) (w : FVec Ideal S2x1024x256 .f32) (u : FVec Ideal S2x1024x256 .f32) (b : FVec Ideal S2x1024 .f32)
    (hx : ∀ (k : Fin 128) (b : Fin 32) (e : Fin 256), x (ix2 ⟨k.val * 32 + b.val, by omega⟩ e) = s (ix3 k b e)) :
    ∀ k ≤ 128, Same (st0 (F := Ideal) (rec256 (F := Ideal) u) (k0_pay23 (F := Ideal) x (in256 (F := Ideal) w) (biasR (F := Ideal) b)) z0 k)
      (sts256 (F := Ideal) (both256 (F := Ideal) s) w u b (zeros (F := Ideal), zeros (F := Ideal)) k) := by
  refine same0 _ _ s w u b (fun k p n => ?_) (fun k p n => ?_) (rec_at u)
  · refine (gin0_at _ _ _ _ _).trans ?_
    rw [bias_low]
    refine congrArg (· + _) (Finset.sum_congr rfl fun e _ => ?_)
    rw [hx, in256_low]
  · refine (gin0_at _ _ _ _ _).trans ?_
    rw [bias_high]
    refine congrArg (· + _) (Finset.sum_congr rfl fun e _ => ?_)
    rw [hx, in256_high]

theorem gin1_at (x : FVec Ideal S4096x512 .bf16) (w : FVec Ideal S512x2048 .bf16) (b : FVec Ideal S1x2048 .f32) (i : Fin 4096) (n : Fin 2048) :
    k0_pay31 (F := Ideal) x w b (ix2 i n) = (∑ e : Fin 512, x (ix2 i e) * w (ix2 e n)) + b (ix2 0 n) := by
  pointwise [k0_pay31]

theorem layer1_same (x : FVec Ideal S4096x512 .bf16) (s : FVec Ideal Cert.EncoderReferenceIdeal.S128x32x512 .f32) (w : FVec Ideal S2x1024x512 .f32) (u : FVec Ideal S2x1024x256 .f32) (b : FVec Ideal S2x1024 .f32)
    (hx : ∀ (k : Fin 128) (b : Fin 32) (e : Fin 512), x (ix2 ⟨k.val * 32 + b.val, by omega⟩ e) = s (ix3 k b e)) :
    ∀ k ≤ 128, Same (st1 (F := Ideal) (rec256 (F := Ideal) u) (k0_pay31 (F := Ideal) x (in512 (F := Ideal) w) (biasR (F := Ideal) b)) z1 k)
      (sts512 (F := Ideal) (both512 (F := Ideal) s) w u b (zeros (F := Ideal), zeros (F := Ideal)) k) := by
  refine same1 _ _ s w u b (fun k p n => ?_) (fun k p n => ?_) (rec_at u)
  · refine (gin1_at _ _ _ _ _).trans ?_
    rw [bias_low]
    refine congrArg (· + _) (Finset.sum_congr rfl fun e _ => ?_)
    rw [hx, in512_low]
  · refine (gin1_at _ _ _ _ _).trans ?_
    rw [bias_high]
    refine congrArg (· + _) (Finset.sum_congr rfl fun e _ => ?_)
    rw [hx, in512_high]

theorem gin2_at (x : FVec Ideal S4096x512 .bf16) (w : FVec Ideal S512x2048 .bf16) (b : FVec Ideal S1x2048 .f32) (i : Fin 4096) (n : Fin 2048) :
    k0_pay39 (F := Ideal) x w b (ix2 i n) = (∑ e : Fin 512, x (ix2 i e) * w (ix2 e n)) + b (ix2 0 n) := by
  pointwise [k0_pay39]

theorem layer2_same (x : FVec Ideal S4096x512 .bf16) (s : FVec Ideal Cert.EncoderReferenceIdeal.S128x32x512 .f32) (w : FVec Ideal S2x1024x512 .f32) (u : FVec Ideal S2x1024x256 .f32) (b : FVec Ideal S2x1024 .f32)
    (hx : ∀ (k : Fin 128) (b : Fin 32) (e : Fin 512), x (ix2 ⟨k.val * 32 + b.val, by omega⟩ e) = s (ix3 k b e)) :
    ∀ k ≤ 128, Same (st2 (F := Ideal) (rec256 (F := Ideal) u) (k0_pay39 (F := Ideal) x (in512 (F := Ideal) w) (biasR (F := Ideal) b)) z2 k)
      (sts512 (F := Ideal) (both512 (F := Ideal) s) w u b (zeros (F := Ideal), zeros (F := Ideal)) k) := by
  refine same2 _ _ s w u b (fun k p n => ?_) (fun k p n => ?_) (rec_at u)
  · refine (gin2_at _ _ _ _ _).trans ?_
    rw [bias_low]
    refine congrArg (· + _) (Finset.sum_congr rfl fun e _ => ?_)
    rw [hx, in512_low]
  · refine (gin2_at _ _ _ _ _).trans ?_
    rw [bias_high]
    refine congrArg (· + _) (Finset.sum_congr rfl fun e _ => ?_)
    rw [hx, in512_high]

/-! ## The stacks -/

theorem joined_low (H : FVec Ideal S3x2x32x256 .f32) (l : Fin 3) (b : Fin 32) (q : Fin 256) : joined (F := Ideal) H (ix3 l b ⟨q.val, by omega⟩) = H (ix4 l 0 b q) := by
  have hq := q.isLt
  unfold joined
  fin_cases l <;> pointwise
theorem joined_high (H : FVec Ideal S3x2x32x256 .f32) (l : Fin 3) (b : Fin 32) (q : Fin 256) : joined (F := Ideal) H (ix3 l b ⟨256 + q.val, by omega⟩) = H (ix4 l 1 b q) := by
  unfold joined
  fin_cases l <;> pointwise
theorem pair_low (x : FVec Ideal Cert.EncoderReferenceIdeal.S2x32x256 .f32) (b : Fin 32) (q : Fin 256) : Cert.EncoderReferenceIdeal.Values.pair (F := Ideal) x (ix2 b ⟨q.val, by omega⟩) = x (ix3 0 b q) := by
  have hq := q.isLt
  unfold Cert.EncoderReferenceIdeal.Values.pair
  pointwise
theorem pair_high (x : FVec Ideal Cert.EncoderReferenceIdeal.S2x32x256 .f32) (b : Fin 32) (q : Fin 256) : Cert.EncoderReferenceIdeal.Values.pair (F := Ideal) x (ix2 b ⟨256 + q.val, by omega⟩) = x (ix3 1 b q) := by
  unfold Cert.EncoderReferenceIdeal.Values.pair
  pointwise
theorem three_at0 (x y z : FVec Ideal Cert.EncoderReferenceIdeal.S2x32x256 .f32) (b : Fin 32) (e : Fin 512) : three (F := Ideal) x y z (ix3 0 b e) = Cert.EncoderReferenceIdeal.Values.pair (F := Ideal) x (ix2 b e) := by
  unfold three
  generalize Cert.EncoderReferenceIdeal.Values.pair (F := Ideal) x = X
  generalize Cert.EncoderReferenceIdeal.Values.pair (F := Ideal) y = Y
  generalize Cert.EncoderReferenceIdeal.Values.pair (F := Ideal) z = Z
  pointwise
theorem three_at1 (x y z : FVec Ideal Cert.EncoderReferenceIdeal.S2x32x256 .f32) (b : Fin 32) (e : Fin 512) : three (F := Ideal) x y z (ix3 1 b e) = Cert.EncoderReferenceIdeal.Values.pair (F := Ideal) y (ix2 b e) := by
  unfold three
  generalize Cert.EncoderReferenceIdeal.Values.pair (F := Ideal) x = X
  generalize Cert.EncoderReferenceIdeal.Values.pair (F := Ideal) y = Y
  generalize Cert.EncoderReferenceIdeal.Values.pair (F := Ideal) z = Z
  pointwise
theorem three_at2 (x y z : FVec Ideal Cert.EncoderReferenceIdeal.S2x32x256 .f32) (b : Fin 32) (e : Fin 512) : three (F := Ideal) x y z (ix3 2 b e) = Cert.EncoderReferenceIdeal.Values.pair (F := Ideal) z (ix2 b e) := by
  unfold three
  generalize Cert.EncoderReferenceIdeal.Values.pair (F := Ideal) x = X
  generalize Cert.EncoderReferenceIdeal.Values.pair (F := Ideal) y = Y
  generalize Cert.EncoderReferenceIdeal.Values.pair (F := Ideal) z = Z
  pointwise
theorem pay27_at (p : FVec Ideal S32x256 .f32) (b : Fin 32) (q : Fin 256) : k0_pay27 (F := Ideal) p (ix3 0 b q) = p (ix2 b q) := by
  pointwise [k0_pay27]

section Stacks
variable (s0 s1 s2 : St Ideal) (r0 r1 r2 : Sts Ideal) (h0 : Same s0 r0) (h1 : Same s1 r1) (h2 : Same s2 r2)
include h0 h1 h2

theorem hiddens_eq : joined (F := Ideal) (stack (F := Ideal) ![![k0_pay27 (F := Ideal) s0.1, k0_pay29 (F := Ideal) s0.2.2.1], ![k0_pay35 (F := Ideal) s1.1, k0_pay37 (F := Ideal) s1.2.2.1], ![k0_pay41 (F := Ideal) s2.1, k0_pay1 (F := Ideal) s2.2.2.1]]) = three (F := Ideal) r0.1 r1.1 r2.1 := by
  funext i
  obtain ⟨l, b, e, rfl⟩ : ∃ (l : Fin 3) (b : Fin 32) (e : Fin 512), i = ix3 l b e := ⟨i 0, i 1, i 2, eq_ix3 i⟩
  by_cases he : e.val < 256
  · obtain ⟨q, rfl⟩ : ∃ q : Fin 256, e = ⟨q.val, Nat.lt_trans q.isLt (by decide)⟩ := ⟨⟨e.val, he⟩, rfl⟩
    refine (joined_low _ l b q).trans ?_
    rcases (by decide : ∀ l : Fin 3, l = 0 ∨ l = 1 ∨ l = 2) l with rfl | rfl | rfl
    · exact (pay27_at s0.1 b q).trans ((h0 b q).1.trans ((three_at0 _ _ _ b _).trans (pair_low _ b q)).symm)
    · exact (pay27_at s1.1 b q).trans ((h1 b q).1.trans ((three_at1 _ _ _ b _).trans (pair_low _ b q)).symm)
    · exact (pay27_at s2.1 b q).trans ((h2 b q).1.trans ((three_at2 _ _ _ b _).trans (pair_low _ b q)).symm)
  · obtain ⟨q, rfl⟩ : ∃ q : Fin 256, e = ⟨256 + q.val, Nat.add_lt_add_left q.isLt 256⟩ := ⟨⟨e.val - 256, by omega⟩, Fin.ext (by show e.val = 256 + (e.val - 256); omega)⟩
    refine (joined_high _ l b q).trans ?_
    rcases (by decide : ∀ l : Fin 3, l = 0 ∨ l = 1 ∨ l = 2) l with rfl | rfl | rfl
    · exact (pay27_at s0.2.2.1 b q).trans ((h0 b q).2.2.1.trans ((three_at0 _ _ _ b _).trans (pair_high _ b q)).symm)
    · exact (pay27_at s1.2.2.1 b q).trans ((h1 b q).2.2.1.trans ((three_at1 _ _ _ b _).trans (pair_high _ b q)).symm)
    · exact (pay27_at s2.2.2.1 b q).trans ((h2 b q).2.2.1.trans ((three_at2 _ _ _ b _).trans (pair_high _ b q)).symm)

theorem cells_eq : joined (F := Ideal) (stack (F := Ideal) ![![k0_pay28 (F := Ideal) s0.2.1, k0_pay30 (F := Ideal) s0.2.2.2], ![k0_pay36 (F := Ideal) s1.2.1, k0_pay38 (F := Ideal) s1.2.2.2], ![k0_pay42 (F := Ideal) s2.2.1, k0_pay2 (F := Ideal) s2.2.2.2]]) = three (F := Ideal) r0.2 r1.2 r2.2 := by
  funext i
  obtain ⟨l, b, e, rfl⟩ : ∃ (l : Fin 3) (b : Fin 32) (e : Fin 512), i = ix3 l b e := ⟨i 0, i 1, i 2, eq_ix3 i⟩
  by_cases he : e.val < 256
  · obtain ⟨q, rfl⟩ : ∃ q : Fin 256, e = ⟨q.val, Nat.lt_trans q.isLt (by decide)⟩ := ⟨⟨e.val, he⟩, rfl⟩
    refine (joined_low _ l b q).trans ?_
    rcases (by decide : ∀ l : Fin 3, l = 0 ∨ l = 1 ∨ l = 2) l with rfl | rfl | rfl
    · exact (pay27_at s0.2.1 b q).trans ((h0 b q).2.1.trans ((three_at0 _ _ _ b _).trans (pair_low _ b q)).symm)
    · exact (pay27_at s1.2.1 b q).trans ((h1 b q).2.1.trans ((three_at1 _ _ _ b _).trans (pair_low _ b q)).symm)
    · exact (pay27_at s2.2.1 b q).trans ((h2 b q).2.1.trans ((three_at2 _ _ _ b _).trans (pair_low _ b q)).symm)
  · obtain ⟨q, rfl⟩ : ∃ q : Fin 256, e = ⟨256 + q.val, Nat.add_lt_add_left q.isLt 256⟩ := ⟨⟨e.val - 256, by omega⟩, Fin.ext (by show e.val = 256 + (e.val - 256); omega)⟩
    refine (joined_high _ l b q).trans ?_
    rcases (by decide : ∀ l : Fin 3, l = 0 ∨ l = 1 ∨ l = 2) l with rfl | rfl | rfl
    · exact (pay27_at s0.2.2.2 b q).trans ((h0 b q).2.2.2.trans ((three_at0 _ _ _ b _).trans (pair_high _ b q)).symm)
    · exact (pay27_at s1.2.2.2 b q).trans ((h1 b q).2.2.2.trans ((three_at1 _ _ _ b _).trans (pair_high _ b q)).symm)
    · exact (pay27_at s2.2.2.2 b q).trans ((h2 b q).2.2.2.trans ((three_at2 _ _ _ b _).trans (pair_high _ b q)).symm)

end Stacks

theorem flat_at (s : FVec Ideal Cert.EncoderReferenceIdeal.S128x32x512 .f32) (h) (k : Fin 128) (b : Fin 32) (e : Fin 512) :
    shapeCast Cert.EncoderReferenceIdeal.S4096x512 s h (ix2 ⟨k.val * 32 + b.val, by omega⟩ e) = s (ix3 k b e) := by
  have hk := k.isLt
  have hb := b.isLt
  pointwise

/-! ## The two programs' arrays -/

section Both
variable (m : (ℓ : Loc nD τ sig) → Buf (Elt Ideal) ℓ) (c : Dev nD) (hw : Named (F := Ideal) m)

theorem rows_at (hv : ∀ i, (A0 (F := Ideal) m c i).toNat < 32000) (k : Fin 128) (b : Fin 32) (e : Fin 256) :
    rows (F := Ideal) m hw c (ix2 ⟨k.val * 32 + b.val, by omega⟩ e) = embedded (F := Ideal) (A0 (F := Ideal) m c) (A1 (F := Ideal) m c) (ix3 k b e) := by
  have hk := k.isLt
  have hb := b.isLt
  rw [embedded_at _ _ _ _ _ (hv _)]
  have e0 : word (F := Ideal) (stage0_0 0) (c := c) (stg m c 0) (Fin.cast EncoderGather.trips1.symm ⟨k.val * 32 + b.val, by omega⟩) = A0 (F := Ideal) m c (ix2 b k) :=
    (word_at m c _).trans (ids_at m c k b)
  have e1 : V m c main_arg1 = A1 (F := Ideal) m c := V_main_arg1 m c
  refine Eq.trans (b := gath (F := Ideal) c (hw c) (V m c main_arg1) (ix2 ⟨k.val * 32 + b.val, by omega⟩ e)) rfl ?_
  unfold gath
  rw [e1]
  refine congrArg (A1 (F := Ideal) m c) (funext fun a => Fin.ext ?_)
  fin_cases a
  · have e2 := congrArg BitVec.toNat e0
    exact e2
  · rfl

/-- The reference's three layers of the kernel's arguments. -/
def ref0 : ℕ → Sts Ideal := layer0 (F := Ideal) (A0 (F := Ideal) m c) (A1 (F := Ideal) m c) (A2 (F := Ideal) m c) (A3 (F := Ideal) m c) (A4 (F := Ideal) m c)
def ref1 : ℕ → Sts Ideal := layer (F := Ideal) (ref0 m c) (inL0 (F := Ideal) (A5 (F := Ideal) m c)) (recL0 (F := Ideal) (A6 (F := Ideal) m c)) (biasL0 (F := Ideal) (A7 (F := Ideal) m c))
def ref2 : ℕ → Sts Ideal := layer (F := Ideal) (ref1 m c) (inL1 (F := Ideal) (A5 (F := Ideal) m c)) (recL1 (F := Ideal) (A6 (F := Ideal) m c)) (biasL1 (F := Ideal) (A7 (F := Ideal) m c))

variable (hv : ∀ i, (A0 (F := Ideal) m c i).toNat < 32000)
include hv

theorem eq0 : ∀ k ≤ 128, Same (st0 (F := Ideal) (args (F := Ideal) m c).wr0 (gin0 (F := Ideal) (rows (F := Ideal) m hw c) (args (F := Ideal) m c)) z0 k) (ref0 m c k) :=
  layer0_same (rows (F := Ideal) m hw c) (embedded (F := Ideal) (A0 (F := Ideal) m c) (A1 (F := Ideal) m c)) (A2 (F := Ideal) m c) (A3 (F := Ideal) m c) (A4 (F := Ideal) m c) (rows_at m c hw hv)

theorem eq1 : ∀ k ≤ 128, Same (st1 (F := Ideal) (args (F := Ideal) m c).wr1 (gin1 (F := Ideal) (rows (F := Ideal) m hw c) (args (F := Ideal) m c)) z1 k) (ref1 m c k) :=
  layer1_same (seq0 (F := Ideal) (rows (F := Ideal) m hw c) (args (F := Ideal) m c)) (Cert.EncoderReferenceIdeal.Values.sequence (F := Ideal) (outs (ref0 m c))) (inL (F := Ideal) 0 (A5 (F := Ideal) m c)) (recL (F := Ideal) 0 (A6 (F := Ideal) m c)) (biasL (F := Ideal) 0 (A7 (F := Ideal) m c))
    (out0_at _ _ (ref0 m c) (eq0 m c hw hv))

theorem eq2 : ∀ k ≤ 128, Same (st2 (F := Ideal) (args (F := Ideal) m c).wr2 (gin2 (F := Ideal) (rows (F := Ideal) m hw c) (args (F := Ideal) m c)) z2 k) (ref2 m c k) :=
  layer2_same (seq1 (F := Ideal) (rows (F := Ideal) m hw c) (args (F := Ideal) m c)) (Cert.EncoderReferenceIdeal.Values.sequence (F := Ideal) (outs (ref1 m c))) (inL (F := Ideal) 1 (A5 (F := Ideal) m c)) (recL (F := Ideal) 1 (A6 (F := Ideal) m c)) (biasL (F := Ideal) 1 (A7 (F := Ideal) m c))
    (out1_at _ _ (ref1 m c) (eq1 m c hw hv))

/-- The three results are the reference's. -/
theorem outputs_eq (h) : seq2 (F := Ideal) (rows (F := Ideal) m hw c) (args (F := Ideal) m c) = shapeCast Cert.EncoderReferenceIdeal.S4096x512 (Cert.EncoderReferenceIdeal.Values.sequence (F := Ideal) (outs (ref2 m c))) h := by
  funext i
  obtain ⟨k, b, e, rfl⟩ : ∃ (k : Fin 128) (b : Fin 32) (e : Fin 512), i = ix2 ⟨k.val * 32 + b.val, by omega⟩ e := by
    have hi : (i 0).val < 4096 := (i 0).isLt
    refine ⟨⟨(i 0).val / 32, by omega⟩, ⟨(i 0).val % 32, Nat.mod_lt _ (by decide)⟩, i 1, (eq_ix2 i).trans (congrArg (fun t => ix2 t (i 1)) (Fin.ext ?_))⟩
    show (i 0).val = (i 0).val / 32 * 32 + (i 0).val % 32
    omega
  exact (out2_at _ _ (ref2 m c) (eq2 m c hw hv) k b e).trans (flat_at _ _ k b e).symm

theorem hidden_eq : joined (F := Ideal) (hiddens (F := Ideal) (rows (F := Ideal) m hw c) (args (F := Ideal) m c)) = three (F := Ideal) (ref0 m c 128).1 (ref1 m c 128).1 (ref2 m c 128).1 :=
  hiddens_eq _ _ _ _ _ _ (eq0 m c hw hv 128 (Nat.le_refl _)) (eq1 m c hw hv 128 (Nat.le_refl _)) (eq2 m c hw hv 128 (Nat.le_refl _))

theorem cell_eq : joined (F := Ideal) (cells (F := Ideal) (rows (F := Ideal) m hw c) (args (F := Ideal) m c)) = three (F := Ideal) (ref0 m c 128).2 (ref1 m c 128).2 (ref2 m c 128).2 :=
  cells_eq _ _ _ _ _ _ (eq0 m c hw hv 128 (Nat.le_refl _)) (eq1 m c hw hv 128 (Nat.le_refl _)) (eq2 m c hw hv 128 (Nat.le_refl _))

end Both

end Cert.EncoderIdeal.Equation

end
-- ==== Proof.lean ====
/- The claims about the encoder's and the decoder's recurrences and about the output projection: of each call both kernel
   programs and the reference run, and the results agree. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Projection
public import proofs.«01_k».proof.Proof.DecoderTransfer
public import proofs.«01_k».proof.Proof.EncoderTransfer
public import proofs.«01_k».proof.Proof.EncoderEquation
public import proofs.«01_k».proof.Proof.DecoderEquation
public import proofs.«01_k».proof.Proof.DecoderReferenceStart
public import proofs.«01_k».proof.Proof.Gen.Decoder
public import proofs.«01_k».proof.Proof.Gen.Decoder.Skeleton
public import proofs.«01_k».proof.Proof.Gen.Decoder.Loops
public import proofs.«01_k».proof.Proof.Gen.Decoder.Launch
public import proofs.«01_k».proof.Proof.Gen.Decoder.Points
public import proofs.«01_k».proof.Proof.Gen.Decoder.Frame
public import proofs.«01_k».proof.Proof.Gen.Encoder
public import proofs.«01_k».proof.Proof.Gen.Encoder.Skeleton
public import proofs.«01_k».proof.Proof.Gen.Encoder.Loops
public import proofs.«01_k».proof.Proof.Gen.Encoder.Launch
public import proofs.«01_k».proof.Proof.Gen.Encoder.Points
public import proofs.«01_k».proof.Proof.Gen.Encoder.Frame
public import proofs.«01_k».proof.Proof.Gen.EncoderIdeal
public import proofs.«01_k».proof.Proof.Gen.EncoderIdeal.Skeleton
public import proofs.«01_k».proof.Proof.Gen.EncoderIdeal.Loops
public import proofs.«01_k».proof.Proof.Gen.EncoderIdeal.Launch
public import proofs.«01_k».proof.Proof.Gen.EncoderIdeal.Points
public import proofs.«01_k».proof.Proof.Gen.EncoderIdeal.Frame
public import proofs.«01_k».proof.Proof.Gen.EncoderReferenceIdeal
public import proofs.«01_k».proof.Proof.Gen.Pre_source_in_vocabulary
public import Idealize.ShloMosaic.Adequacy
public import Idealize.ShloMosaic.Init

@[expose] public section

noncomputable section

namespace Cert.Proof

open Idealize.ShloMosaic Idealize.SL.Sem

/-- The reference runs; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel's logits are the reference's. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨_, Cert.KernelIdeal.Projection.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.KernelIdeal.Projection.logits_eq _ _ _).symm

/-- The decoder call runs, as printed. -/
theorem frame_decoder : Cert.quiescent_Decoder (hDecoder := Cert.Decoder.Gen.facts) (hPre_tokens_in_vocabulary := Cert.Pre_tokens_in_vocabulary.Gen.facts) := fun m ρ hp =>
  Cert.Decoder.Transfer.run_args (F := Bits) m ρ (Cert.DecoderIdeal.Launched.named_of m fun c i =>
    Cert.DecoderIdeal.Equation.vocabulary_says (F := Bits) _ _ _ _ _ _ _ _ _ _ _ _ (hp c) i)

/-- It runs, idealized. -/
theorem frame_decoderIdeal : Cert.quiescent_DecoderIdeal (hDecoderIdeal := Cert.DecoderIdeal.Gen.facts) (hPre_tokens_in_vocabulary := Cert.Pre_tokens_in_vocabulary.Gen.facts) := fun m ρ hp =>
  (θ_run Cert.DecoderIdeal.defs _ _).mono (fun _ h => ⟨fun c => (h.1 c).2, h.2⟩)
    (Cert.DecoderIdeal.Launched.run_args m ρ (Cert.DecoderIdeal.Launched.named_of m fun c i =>
      Cert.DecoderIdeal.Equation.vocabulary_says (F := Ideal) _ _ _ _ _ _ _ _ _ _ _ _ (hp c) i))

/-- The tokens of a memory the value claim speaks of name rows. -/
theorem decodes_named (m) (hp : Cert.Pre_DecoderIdeal_decodes (hPre_decodes := Cert.Pre_decodes.Gen.facts) m) : Cert.DecoderIdeal.Launched.Named (F := Ideal) m :=
  Cert.DecoderIdeal.Launched.named_of m fun c => (Cert.DecoderIdeal.Equation.decodes_says _ _ _ _ _ _ _ _ _ _ _ _ (hp c)).1

theorem frame_decoderIdeal_decodes : Cert.quiescent_DecoderIdeal_pre_decodes (hDecoderIdeal := Cert.DecoderIdeal.Gen.facts) (hPre_decodes := Cert.Pre_decodes.Gen.facts) := fun m ρ hp =>
  (θ_run Cert.DecoderIdeal.defs _ _).mono (fun _ h => ⟨fun c => (h.1 c).2, h.2⟩)
    (Cert.DecoderIdeal.Launched.run_args m ρ (decodes_named m hp))

/-- The decoder's reference runs. -/
theorem frame_decoderReference : Cert.quiescent_DecoderReferenceIdeal (hDecoderReferenceIdeal := Cert.DecoderReferenceIdeal.Gen.facts) := fun m ρ _ =>
  (θ_run Cert.DecoderReferenceIdeal.defs _ _).mono (fun _ h => ⟨fun c => (h.1 c).2, h.2⟩) (Cert.DecoderReferenceIdeal.Start.run_args (F := Ideal) m ρ)

theorem frame_decoderReference_decodes : Cert.quiescent_DecoderReferenceIdeal_pre_decodes (hDecoderReferenceIdeal := Cert.DecoderReferenceIdeal.Gen.facts) (hPre_decodes := Cert.Pre_decodes.Gen.facts) := fun m ρ _ =>
  (θ_run Cert.DecoderReferenceIdeal.defs _ _).mono (fun _ h => ⟨fun c => (h.1 c).2, h.2⟩) (Cert.DecoderReferenceIdeal.Start.run_args (F := Ideal) m ρ)

/-- The decoder call's hidden states are the reference's. -/
theorem algebraic_decoder : Cert.algebraic_DecoderIdeal_DecoderReferenceIdeal_pre_decodes (hDecoderIdeal := Cert.DecoderIdeal.Gen.facts)
    (hDecoderReferenceIdeal := Cert.DecoderReferenceIdeal.Gen.facts) (hPre_decodes := Cert.Pre_decodes.Gen.facts) := by
  intro m ρ m' ρ' hp hagree
  have hw := decodes_named m hp
  refine ⟨_, (θ_run Cert.DecoderIdeal.defs _ _).mono (fun _ h => h.1) (Cert.DecoderIdeal.Launched.run_args m ρ hw), ?_⟩
  refine (θ_run Cert.DecoderReferenceIdeal.defs _ _).mono (fun _ h c => ⟨(h.1 c).1.trans ?_, (h.1 c).2⟩)
    (Cert.DecoderReferenceIdeal.Start.run_args (F := Ideal) m' ρ')
  obtain ⟨h0, h2, h3, h11⟩ := Cert.DecoderIdeal.Equation.decodes_says _ _ _ _ _ _ _ _ _ _ _ _ (hp c)
  obtain ⟨e0, e1, e2, e3, e4, e5, e6, e7, e8, e9, e10, e11⟩ := hagree c
  funext i
  obtain ⟨a, b, d, rfl⟩ : ∃ (a : Fin 63) (b : Fin 32) (d : Fin 512), i = ix3 a b d := ⟨i 0, i 1, i 2, eq_ix3 i⟩
  refine (Cert.DecoderReferenceIdeal.Values.fin_out (F := Ideal) m' c a b d).trans ?_
  refine Eq.trans ?_ (Cert.DecoderIdeal.Equation.result_eq m c hw h0 h2 h3 h11 a b d).symm
  rw [Cert.DecoderReferenceIdeal.Start.par_ent, Cert.DecoderReferenceIdeal.Start.sts_ent]
  unfold Cert.DecoderReferenceIdeal.Start.parArgs Cert.DecoderReferenceIdeal.Start.stsArgs
  rw [e0, e1, e2, e3, e4, e5, e6, e7, e8, e9, e10, e11]

/-- The encoder call runs, as printed. -/
theorem frame_encoder : Cert.quiescent_Encoder (hEncoder := Cert.Encoder.Gen.facts) (hPre_source_in_vocabulary := Cert.Pre_source_in_vocabulary.Gen.facts) := fun m ρ hp =>
  Cert.Encoder.Transfer.run_args (F := Bits) m ρ (Cert.EncoderIdeal.Launched.named_of m fun c i =>
    Cert.EncoderIdeal.Equation.source_says (F := Bits) _ _ _ _ _ _ _ _ (hp c) i)

/-- The tokens of a memory the encoder's claims speak of name rows. -/
theorem source_named (m) (hp : Cert.Pre_EncoderIdeal (hPre_source_in_vocabulary := Cert.Pre_source_in_vocabulary.Gen.facts) m) : Cert.EncoderIdeal.Launched.Named (F := Ideal) m :=
  Cert.EncoderIdeal.Launched.named_of m fun c i => Cert.EncoderIdeal.Equation.source_says (F := Ideal) _ _ _ _ _ _ _ _ (hp c) i

/-- It runs, idealized. -/
theorem frame_encoderIdeal : Cert.quiescent_EncoderIdeal (hEncoderIdeal := Cert.EncoderIdeal.Gen.facts) (hPre_source_in_vocabulary := Cert.Pre_source_in_vocabulary.Gen.facts) := fun m ρ hp =>
  (θ_run Cert.EncoderIdeal.defs _ _).mono (fun _ h => ⟨fun c => (h.1 c).2.2.2, h.2⟩)
    (Cert.EncoderIdeal.Launched.run_args m ρ (source_named m hp))

/-- The encoder's reference runs. -/
theorem frame_encoderReference : Cert.quiescent_EncoderReferenceIdeal (hEncoderReferenceIdeal := Cert.EncoderReferenceIdeal.Gen.facts) := fun m ρ _ =>
  (θ_run Cert.EncoderReferenceIdeal.defs _ _).mono (fun _ h => ⟨fun c => (h.1 c).2.2.2, h.2⟩) (Cert.EncoderReferenceIdeal.Start.run_args (F := Ideal) m ρ)

theorem frame_encoderReference_source : Cert.quiescent_EncoderReferenceIdeal_pre_source_in_vocabulary (hEncoderReferenceIdeal := Cert.EncoderReferenceIdeal.Gen.facts) (hPre_source_in_vocabulary := Cert.Pre_source_in_vocabulary.Gen.facts) := fun m ρ _ =>
  (θ_run Cert.EncoderReferenceIdeal.defs _ _).mono (fun _ h => ⟨fun c => (h.1 c).2.2.2, h.2⟩) (Cert.EncoderReferenceIdeal.Start.run_args (F := Ideal) m ρ)

/-- The encoder call's sequence and final states are the reference's. -/
theorem algebraic_encoder : Cert.algebraic_EncoderIdeal_EncoderReferenceIdeal (hEncoderIdeal := Cert.EncoderIdeal.Gen.facts)
    (hEncoderReferenceIdeal := Cert.EncoderReferenceIdeal.Gen.facts) (hPre_source_in_vocabulary := Cert.Pre_source_in_vocabulary.Gen.facts) := by
  intro m ρ m' ρ' hp hagree
  have hw := source_named m hp
  refine ⟨_, _, _, (θ_run Cert.EncoderIdeal.defs _ _).mono (fun _ h => h.1) (Cert.EncoderIdeal.Launched.run_args m ρ hw), ?_⟩
  refine (θ_run Cert.EncoderReferenceIdeal.defs _ _).mono (fun _ h c => ?_) (Cert.EncoderReferenceIdeal.Start.run_args (F := Ideal) m' ρ')
  have hv : ∀ i, (Cert.EncoderIdeal.Launched.A0 (F := Ideal) m c i).toNat < 32000 := fun i =>
    Cert.EncoderIdeal.Equation.source_says (F := Ideal) _ _ _ _ _ _ _ _ (hp c) i
  obtain ⟨e0, e1, e2, e3, e4, e5, e6, e7⟩ := hagree c
  have r0 : Cert.EncoderReferenceIdeal.Start.R0 (F := Ideal) m' c = Cert.EncoderIdeal.Equation.ref0 m c := by
    unfold Cert.EncoderReferenceIdeal.Start.R0
    rw [e0, e1, e2, e3, e4]; rfl
  have r1 : Cert.EncoderReferenceIdeal.Start.R1 (F := Ideal) m' c = Cert.EncoderIdeal.Equation.ref1 m c := by
    unfold Cert.EncoderReferenceIdeal.Start.R1
    rw [r0, e5, e6, e7]; rfl
  have r2 : Cert.EncoderReferenceIdeal.Start.R2 (F := Ideal) m' c = Cert.EncoderIdeal.Equation.ref2 m c := by
    unfold Cert.EncoderReferenceIdeal.Start.R2
    rw [r1, e5, e6, e7]; rfl
  obtain ⟨a, b, d, k⟩ := h.1 c
  rw [r2] at a
  rw [r0, r1, r2] at b d
  exact ⟨a.trans (Cert.EncoderIdeal.Equation.outputs_eq m c hw hv _).symm, b.trans (Cert.EncoderIdeal.Equation.hidden_eq m c hw hv).symm,
    d.trans (Cert.EncoderIdeal.Equation.cell_eq m c hw hv).symm, k⟩

theorem claim : Cert.Claim := ⟨Cert.Kernel.Gen.facts, Cert.KernelIdeal.Gen.facts, Cert.ReferenceIdeal.Gen.facts,
  Cert.Decoder.Gen.facts, Cert.DecoderIdeal.Gen.facts, Cert.DecoderReferenceIdeal.Gen.facts,
  Cert.Encoder.Gen.facts, Cert.EncoderIdeal.Gen.facts, Cert.EncoderReferenceIdeal.Gen.facts,
  Cert.Pre_tokens_in_vocabulary.Gen.facts, Cert.Pre_decodes.Gen.facts, Cert.Pre_source_in_vocabulary.Gen.facts,
  fun m ρ _ => Cert.Kernel.Gen.frame m ρ, fun m ρ _ => Cert.KernelIdeal.Gen.frame m ρ, frame_reference,
  frame_decoder, frame_decoderIdeal, frame_decoderIdeal_decodes, frame_decoderReference, frame_decoderReference_decodes,
  frame_encoder, frame_encoderIdeal, frame_encoderReference, frame_encoderReference_source,
  trivial, algebraic, trivial, algebraic_decoder, trivial, algebraic_encoder⟩

end Cert.Proof

end
